-- ==== Defs.lean ====
def Pre_KernelAtt (m : (ℓ : Loc Cert.KernelAtt.nD Cert.KernelAtt.τ Cert.KernelAtt.sig) → Buf (Elt Bits) ℓ) : Prop :=
  True

def Pre_KernelAttIdeal (m : (ℓ : Loc Cert.KernelAttIdeal.nD Cert.KernelAttIdeal.τ Cert.KernelAttIdeal.sig) → Buf (Elt Ideal) ℓ) : Prop :=
  True

def Pre_KernelAttIdeal_finite_att [hPre_finite_att : Cert.Pre_finite_att.Facts] (m : (ℓ : Loc Cert.KernelAttIdeal.nD Cert.KernelAttIdeal.τ Cert.KernelAttIdeal.sig) → Buf (Elt Ideal) ℓ) : Prop :=
  ∀ c : Dev Cert.KernelAttIdeal.nD,
    (Cert.Pre_finite_att.fn (F := Ideal) (m ((c.tc : Thread Cert.KernelAttIdeal.nD Cert.KernelAttIdeal.τ).loc Cert.KernelAttIdeal.main_arg0)) (m ((c.tc : Thread Cert.KernelAttIdeal.nD Cert.KernelAttIdeal.τ).loc Cert.KernelAttIdeal.main_arg1)) (m ((c.tc : Thread Cert.KernelAttIdeal.nD Cert.KernelAttIdeal.τ).loc Cert.KernelAttIdeal.main_arg2)) (m ((c.tc : Thread Cert.KernelAttIdeal.nD Cert.KernelAttIdeal.τ).loc Cert.KernelAttIdeal.main_arg3)) (m ((c.tc : Thread Cert.KernelAttIdeal.nD Cert.KernelAttIdeal.τ).loc Cert.KernelAttIdeal.main_arg4))).1 = (fun _ => 1#1)
    ∧ (Cert.Pre_finite_att.fn (F := Ideal) (m ((c.tc : Thread Cert.KernelAttIdeal.nD Cert.KernelAttIdeal.τ).loc Cert.KernelAttIdeal.main_arg0)) (m ((c.tc : Thread Cert.KernelAttIdeal.nD Cert.KernelAttIdeal.τ).loc Cert.KernelAttIdeal.main_arg1)) (m ((c.tc : Thread Cert.KernelAttIdeal.nD Cert.KernelAttIdeal.τ).loc Cert.KernelAttIdeal.main_arg2)) (m ((c.tc : Thread Cert.KernelAttIdeal.nD Cert.KernelAttIdeal.τ).loc Cert.KernelAttIdeal.main_arg3)) (m ((c.tc : Thread Cert.KernelAttIdeal.nD Cert.KernelAttIdeal.τ).loc Cert.KernelAttIdeal.main_arg4))).2.1 = (fun _ => 1#1)
    ∧ (Cert.Pre_finite_att.fn (F := Ideal) (m ((c.tc : Thread Cert.KernelAttIdeal.nD Cert.KernelAttIdeal.τ).loc Cert.KernelAttIdeal.main_arg0)) (m ((c.tc : Thread Cert.KernelAttIdeal.nD Cert.KernelAttIdeal.τ).loc Cert.KernelAttIdeal.main_arg1)) (m ((c.tc : Thread Cert.KernelAttIdeal.nD Cert.KernelAttIdeal.τ).loc Cert.KernelAttIdeal.main_arg2)) (m ((c.tc : Thread Cert.KernelAttIdeal.nD Cert.KernelAttIdeal.τ).loc Cert.KernelAttIdeal.main_arg3)) (m ((c.tc : Thread Cert.KernelAttIdeal.nD Cert.KernelAttIdeal.τ).loc Cert.KernelAttIdeal.main_arg4))).2.2.1 = (fun _ => 1#1)
    ∧ (Cert.Pre_finite_att.fn (F := Ideal) (m ((c.tc : Thread Cert.KernelAttIdeal.nD Cert.KernelAttIdeal.τ).loc Cert.KernelAttIdeal.main_arg0)) (m ((c.tc : Thread Cert.KernelAttIdeal.nD Cert.KernelAttIdeal.τ).loc Cert.KernelAttIdeal.main_arg1)) (m ((c.tc : Thread Cert.KernelAttIdeal.nD Cert.KernelAttIdeal.τ).loc Cert.KernelAttIdeal.main_arg2)) (m ((c.tc : Thread Cert.KernelAttIdeal.nD Cert.KernelAttIdeal.τ).loc Cert.KernelAttIdeal.main_arg3)) (m ((c.tc : Thread Cert.KernelAttIdeal.nD Cert.KernelAttIdeal.τ).loc Cert.KernelAttIdeal.main_arg4))).2.2.2.1 = (fun _ => 1#1)
    ∧ (Cert.Pre_finite_att.fn (F := Ideal) (m ((c.tc : Thread Cert.KernelAttIdeal.nD Cert.KernelAttIdeal.τ).loc Cert.KernelAttIdeal.main_arg0)) (m ((c.tc : Thread Cert.KernelAttIdeal.nD Cert.KernelAttIdeal.τ).loc Cert.KernelAttIdeal.main_arg1)) (m ((c.tc : Thread Cert.KernelAttIdeal.nD Cert.KernelAttIdeal.τ).loc Cert.KernelAttIdeal.main_arg2)) (m ((c.tc : Thread Cert.KernelAttIdeal.nD Cert.KernelAttIdeal.τ).loc Cert.KernelAttIdeal.main_arg3)) (m ((c.tc : Thread Cert.KernelAttIdeal.nD Cert.KernelAttIdeal.τ).loc Cert.KernelAttIdeal.main_arg4))).2.2.2.2 = (fun _ => 1#1)

def Pre_ReferenceAttIdeal (m : (ℓ : Loc Cert.ReferenceAttIdeal.nD Cert.ReferenceAttIdeal.τ Cert.ReferenceAttIdeal.sig) → Buf (Elt Ideal) ℓ) : Prop :=
  True

def Pre_ReferenceAttIdeal_finite_att [hPre_finite_att : Cert.Pre_finite_att.Facts] (m : (ℓ : Loc Cert.ReferenceAttIdeal.nD Cert.ReferenceAttIdeal.τ Cert.ReferenceAttIdeal.sig) → Buf (Elt Ideal) ℓ) : Prop :=
  ∀ c : Dev Cert.ReferenceAttIdeal.nD,
    (Cert.Pre_finite_att.fn (F := Ideal) (m ((c.tc : Thread Cert.ReferenceAttIdeal.nD Cert.ReferenceAttIdeal.τ).loc Cert.ReferenceAttIdeal.main_arg0)) (m ((c.tc : Thread Cert.ReferenceAttIdeal.nD Cert.ReferenceAttIdeal.τ).loc Cert.ReferenceAttIdeal.main_arg1)) (m ((c.tc : Thread Cert.ReferenceAttIdeal.nD Cert.ReferenceAttIdeal.τ).loc Cert.ReferenceAttIdeal.main_arg2)) (m ((c.tc : Thread Cert.ReferenceAttIdeal.nD Cert.ReferenceAttIdeal.τ).loc Cert.ReferenceAttIdeal.main_arg3)) (m ((c.tc : Thread Cert.ReferenceAttIdeal.nD Cert.ReferenceAttIdeal.τ).loc Cert.ReferenceAttIdeal.main_arg4))).1 = (fun _ => 1#1)
    ∧ (Cert.Pre_finite_att.fn (F := Ideal) (m ((c.tc : Thread Cert.ReferenceAttIdeal.nD Cert.ReferenceAttIdeal.τ).loc Cert.ReferenceAttIdeal.main_arg0)) (m ((c.tc : Thread Cert.ReferenceAttIdeal.nD Cert.ReferenceAttIdeal.τ).loc Cert.ReferenceAttIdeal.main_arg1)) (m ((c.tc : Thread Cert.ReferenceAttIdeal.nD Cert.ReferenceAttIdeal.τ).loc Cert.ReferenceAttIdeal.main_arg2)) (m ((c.tc : Thread Cert.ReferenceAttIdeal.nD Cert.ReferenceAttIdeal.τ).loc Cert.ReferenceAttIdeal.main_arg3)) (m ((c.tc : Thread Cert.ReferenceAttIdeal.nD Cert.ReferenceAttIdeal.τ).loc Cert.ReferenceAttIdeal.main_arg4))).2.1 = (fun _ => 1#1)
    ∧ (Cert.Pre_finite_att.fn (F := Ideal) (m ((c.tc : Thread Cert.ReferenceAttIdeal.nD Cert.ReferenceAttIdeal.τ).loc Cert.ReferenceAttIdeal.main_arg0)) (m ((c.tc : Thread Cert.ReferenceAttIdeal.nD Cert.ReferenceAttIdeal.τ).loc Cert.ReferenceAttIdeal.main_arg1)) (m ((c.tc : Thread Cert.ReferenceAttIdeal.nD Cert.ReferenceAttIdeal.τ).loc Cert.ReferenceAttIdeal.main_arg2)) (m ((c.tc : Thread Cert.ReferenceAttIdeal.nD Cert.ReferenceAttIdeal.τ).loc Cert.ReferenceAttIdeal.main_arg3)) (m ((c.tc : Thread Cert.ReferenceAttIdeal.nD Cert.ReferenceAttIdeal.τ).loc Cert.ReferenceAttIdeal.main_arg4))).2.2.1 = (fun _ => 1#1)
    ∧ (Cert.Pre_finite_att.fn (F := Ideal) (m ((c.tc : Thread Cert.ReferenceAttIdeal.nD Cert.ReferenceAttIdeal.τ).loc Cert.ReferenceAttIdeal.main_arg0)) (m ((c.tc : Thread Cert.ReferenceAttIdeal.nD Cert.ReferenceAttIdeal.τ).loc Cert.ReferenceAttIdeal.main_arg1)) (m ((c.tc : Thread Cert.ReferenceAttIdeal.nD Cert.ReferenceAttIdeal.τ).loc Cert.ReferenceAttIdeal.main_arg2)) (m ((c.tc : Thread Cert.ReferenceAttIdeal.nD Cert.ReferenceAttIdeal.τ).loc Cert.ReferenceAttIdeal.main_arg3)) (m ((c.tc : Thread Cert.ReferenceAttIdeal.nD Cert.ReferenceAttIdeal.τ).loc Cert.ReferenceAttIdeal.main_arg4))).2.2.2.1 = (fun _ => 1#1)
    ∧ (Cert.Pre_finite_att.fn (F := Ideal) (m ((c.tc : Thread Cert.ReferenceAttIdeal.nD Cert.ReferenceAttIdeal.τ).loc Cert.ReferenceAttIdeal.main_arg0)) (m ((c.tc : Thread Cert.ReferenceAttIdeal.nD Cert.ReferenceAttIdeal.τ).loc Cert.ReferenceAttIdeal.main_arg1)) (m ((c.tc : Thread Cert.ReferenceAttIdeal.nD Cert.ReferenceAttIdeal.τ).loc Cert.ReferenceAttIdeal.main_arg2)) (m ((c.tc : Thread Cert.ReferenceAttIdeal.nD Cert.ReferenceAttIdeal.τ).loc Cert.ReferenceAttIdeal.main_arg3)) (m ((c.tc : Thread Cert.ReferenceAttIdeal.nD Cert.ReferenceAttIdeal.τ).loc Cert.ReferenceAttIdeal.main_arg4))).2.2.2.2 = (fun _ => 1#1)

def Pre_KernelIn (m : (ℓ : Loc Cert.KernelIn.nD Cert.KernelIn.τ Cert.KernelIn.sig) → Buf (Elt Bits) ℓ) : Prop :=
  True

def Pre_KernelInIdeal (m : (ℓ : Loc Cert.KernelInIdeal.nD Cert.KernelInIdeal.τ Cert.KernelInIdeal.sig) → Buf (Elt Ideal) ℓ) : Prop :=
  True

def Pre_ReferenceInIdeal (m : (ℓ : Loc Cert.ReferenceInIdeal.nD Cert.ReferenceInIdeal.τ Cert.ReferenceInIdeal.sig) → Buf (Elt Ideal) ℓ) : Prop :=
  True

def Pre_KernelMix (m : (ℓ : Loc Cert.KernelMix.nD Cert.KernelMix.τ Cert.KernelMix.sig) → Buf (Elt Bits) ℓ) : Prop :=
  True

def Pre_KernelMixIdeal (m : (ℓ : Loc Cert.KernelMixIdeal.nD Cert.KernelMixIdeal.τ Cert.KernelMixIdeal.sig) → Buf (Elt Ideal) ℓ) : Prop :=
  True

def Pre_KernelMixIdeal_finite_mix [hPre_finite_mix : Cert.Pre_finite_mix.Facts] (m : (ℓ : Loc Cert.KernelMixIdeal.nD Cert.KernelMixIdeal.τ Cert.KernelMixIdeal.sig) → Buf (Elt Ideal) ℓ) : Prop :=
  ∀ c : Dev Cert.KernelMixIdeal.nD,
    (Cert.Pre_finite_mix.fn (F := Ideal) (m ((c.tc : Thread Cert.KernelMixIdeal.nD Cert.KernelMixIdeal.τ).loc Cert.KernelMixIdeal.main_arg0)) (m ((c.tc : Thread Cert.KernelMixIdeal.nD Cert.KernelMixIdeal.τ).loc Cert.KernelMixIdeal.main_arg1)) (m ((c.tc : Thread Cert.KernelMixIdeal.nD Cert.KernelMixIdeal.τ).loc Cert.KernelMixIdeal.main_arg2)) (m ((c.tc : Thread Cert.KernelMixIdeal.nD Cert.KernelMixIdeal.τ).loc Cert.KernelMixIdeal.main_arg3)) (m ((c.tc : Thread Cert.KernelMixIdeal.nD Cert.KernelMixIdeal.τ).loc Cert.KernelMixIdeal.main_arg4)) (m ((c.tc : Thread Cert.KernelMixIdeal.nD Cert.KernelMixIdeal.τ).loc Cert.KernelMixIdeal.main_arg5))).1 = (fun _ => 1#1)
    ∧ (Cert.Pre_finite_mix.fn (F := Ideal) (m ((c.tc : Thread Cert.KernelMixIdeal.nD Cert.KernelMixIdeal.τ).loc Cert.KernelMixIdeal.main_arg0)) (m ((c.tc : Thread Cert.KernelMixIdeal.nD Cert.KernelMixIdeal.τ).loc Cert.KernelMixIdeal.main_arg1)) (m ((c.tc : Thread Cert.KernelMixIdeal.nD Cert.KernelMixIdeal.τ).loc Cert.KernelMixIdeal.main_arg2)) (m ((c.tc : Thread Cert.KernelMixIdeal.nD Cert.KernelMixIdeal.τ).loc Cert.KernelMixIdeal.main_arg3)) (m ((c.tc : Thread Cert.KernelMixIdeal.nD Cert.KernelMixIdeal.τ).loc Cert.KernelMixIdeal.main_arg4)) (m ((c.tc : Thread Cert.KernelMixIdeal.nD Cert.KernelMixIdeal.τ).loc Cert.KernelMixIdeal.main_arg5))).2 = (fun _ => 1#1)

def Pre_ReferenceMixIdeal (m : (ℓ : Loc Cert.ReferenceMixIdeal.nD Cert.ReferenceMixIdeal.τ Cert.ReferenceMixIdeal.sig) → Buf (Elt Ideal) ℓ) : Prop :=
  True

def Pre_ReferenceMixIdeal_finite_mix [hPre_finite_mix : Cert.Pre_finite_mix.Facts] (m : (ℓ : Loc Cert.ReferenceMixIdeal.nD Cert.ReferenceMixIdeal.τ Cert.ReferenceMixIdeal.sig) → Buf (Elt Ideal) ℓ) : Prop :=
  ∀ c : Dev Cert.ReferenceMixIdeal.nD,
    (Cert.Pre_finite_mix.fn (F := Ideal) (m ((c.tc : Thread Cert.ReferenceMixIdeal.nD Cert.ReferenceMixIdeal.τ).loc Cert.ReferenceMixIdeal.main_arg0)) (m ((c.tc : Thread Cert.ReferenceMixIdeal.nD Cert.ReferenceMixIdeal.τ).loc Cert.ReferenceMixIdeal.main_arg1)) (m ((c.tc : Thread Cert.ReferenceMixIdeal.nD Cert.ReferenceMixIdeal.τ).loc Cert.ReferenceMixIdeal.main_arg2)) (m ((c.tc : Thread Cert.ReferenceMixIdeal.nD Cert.ReferenceMixIdeal.τ).loc Cert.ReferenceMixIdeal.main_arg3)) (m ((c.tc : Thread Cert.ReferenceMixIdeal.nD Cert.ReferenceMixIdeal.τ).loc Cert.ReferenceMixIdeal.main_arg4)) (m ((c.tc : Thread Cert.ReferenceMixIdeal.nD Cert.ReferenceMixIdeal.τ).loc Cert.ReferenceMixIdeal.main_arg5))).1 = (fun _ => 1#1)
    ∧ (Cert.Pre_finite_mix.fn (F := Ideal) (m ((c.tc : Thread Cert.ReferenceMixIdeal.nD Cert.ReferenceMixIdeal.τ).loc Cert.ReferenceMixIdeal.main_arg0)) (m ((c.tc : Thread Cert.ReferenceMixIdeal.nD Cert.ReferenceMixIdeal.τ).loc Cert.ReferenceMixIdeal.main_arg1)) (m ((c.tc : Thread Cert.ReferenceMixIdeal.nD Cert.ReferenceMixIdeal.τ).loc Cert.ReferenceMixIdeal.main_arg2)) (m ((c.tc : Thread Cert.ReferenceMixIdeal.nD Cert.ReferenceMixIdeal.τ).loc Cert.ReferenceMixIdeal.main_arg3)) (m ((c.tc : Thread Cert.ReferenceMixIdeal.nD Cert.ReferenceMixIdeal.τ).loc Cert.ReferenceMixIdeal.main_arg4)) (m ((c.tc : Thread Cert.ReferenceMixIdeal.nD Cert.ReferenceMixIdeal.τ).loc Cert.ReferenceMixIdeal.main_arg5))).2 = (fun _ => 1#1)

def Pre_KernelLn1 (m : (ℓ : Loc Cert.KernelLn1.nD Cert.KernelLn1.τ Cert.KernelLn1.sig) → Buf (Elt Bits) ℓ) : Prop :=
  True

def Pre_KernelLn1Ideal (m : (ℓ : Loc Cert.KernelLn1Ideal.nD Cert.KernelLn1Ideal.τ Cert.KernelLn1Ideal.sig) → Buf (Elt Ideal) ℓ) : Prop :=
  True

def Pre_KernelLn1Ideal_finite_ln1 [hPre_finite_ln1 : Cert.Pre_finite_ln1.Facts] (m : (ℓ : Loc Cert.KernelLn1Ideal.nD Cert.KernelLn1Ideal.τ Cert.KernelLn1Ideal.sig) → Buf (Elt Ideal) ℓ) : Prop :=
  ∀ c : Dev Cert.KernelLn1Ideal.nD,
    (Cert.Pre_finite_ln1.fn (F := Ideal) (m ((c.tc : Thread Cert.KernelLn1Ideal.nD Cert.KernelLn1Ideal.τ).loc Cert.KernelLn1Ideal.main_arg0)) (m ((c.tc : Thread Cert.KernelLn1Ideal.nD Cert.KernelLn1Ideal.τ).loc Cert.KernelLn1Ideal.main_arg1)) (m ((c.tc : Thread Cert.KernelLn1Ideal.nD Cert.KernelLn1Ideal.τ).loc Cert.KernelLn1Ideal.main_arg2)) (m ((c.tc : Thread Cert.KernelLn1Ideal.nD Cert.KernelLn1Ideal.τ).loc Cert.KernelLn1Ideal.main_arg3)) (m ((c.tc : Thread Cert.KernelLn1Ideal.nD Cert.KernelLn1Ideal.τ).loc Cert.KernelLn1Ideal.main_arg4)) (m ((c.tc : Thread Cert.KernelLn1Ideal.nD Cert.KernelLn1Ideal.τ).loc Cert.KernelLn1Ideal.main_arg5)) (m ((c.tc : Thread Cert.KernelLn1Ideal.nD Cert.KernelLn1Ideal.τ).loc Cert.KernelLn1Ideal.main_arg6)) (m ((c.tc : Thread Cert.KernelLn1Ideal.nD Cert.KernelLn1Ideal.τ).loc Cert.KernelLn1Ideal.main_arg7)) (m ((c.tc : Thread Cert.KernelLn1Ideal.nD Cert.KernelLn1Ideal.τ).loc Cert.KernelLn1Ideal.main_arg8))).1 = (fun _ => 1#1)
    ∧ (Cert.Pre_finite_ln1.fn (F := Ideal) (m ((c.tc : Thread Cert.KernelLn1Ideal.nD Cert.KernelLn1Ideal.τ).loc Cert.KernelLn1Ideal.main_arg0)) (m ((c.tc : Thread Cert.KernelLn1Ideal.nD Cert.KernelLn1Ideal.τ).loc Cert.KernelLn1Ideal.main_arg1)) (m ((c.tc : Thread Cert.KernelLn1Ideal.nD Cert.KernelLn1Ideal.τ).loc Cert.KernelLn1Ideal.main_arg2)) (m ((c.tc : Thread Cert.KernelLn1Ideal.nD Cert.KernelLn1Ideal.τ).loc Cert.KernelLn1Ideal.main_arg3)) (m ((c.tc : Thread Cert.KernelLn1Ideal.nD Cert.KernelLn1Ideal.τ).loc Cert.KernelLn1Ideal.main_arg4)) (m ((c.tc : Thread Cert.KernelLn1Ideal.nD Cert.KernelLn1Ideal.τ).loc Cert.KernelLn1Ideal.main_arg5)) (m ((c.tc : Thread Cert.KernelLn1Ideal.nD Cert.KernelLn1Ideal.τ).loc Cert.KernelLn1Ideal.main_arg6)) (m ((c.tc : Thread Cert.KernelLn1Ideal.nD Cert.KernelLn1Ideal.τ).loc Cert.KernelLn1Ideal.main_arg7)) (m ((c.tc : Thread Cert.KernelLn1Ideal.nD Cert.KernelLn1Ideal.τ).loc Cert.KernelLn1Ideal.main_arg8))).2.1 = (fun _ => 1#1)
    ∧ (Cert.Pre_finite_ln1.fn (F := Ideal) (m ((c.tc : Thread Cert.KernelLn1Ideal.nD Cert.KernelLn1Ideal.τ).loc Cert.KernelLn1Ideal.main_arg0)) (m ((c.tc : Thread Cert.KernelLn1Ideal.nD Cert.KernelLn1Ideal.τ).loc Cert.KernelLn1Ideal.main_arg1)) (m ((c.tc : Thread Cert.KernelLn1Ideal.nD Cert.KernelLn1Ideal.τ).loc Cert.KernelLn1Ideal.main_arg2)) (m ((c.tc : Thread Cert.KernelLn1Ideal.nD Cert.KernelLn1Ideal.τ).loc Cert.KernelLn1Ideal.main_arg3)) (m ((c.tc : Thread Cert.KernelLn1Ideal.nD Cert.KernelLn1Ideal.τ).loc Cert.KernelLn1Ideal.main_arg4)) (m ((c.tc : Thread Cert.KernelLn1Ideal.nD Cert.KernelLn1Ideal.τ).loc Cert.KernelLn1Ideal.main_arg5)) (m ((c.tc : Thread Cert.KernelLn1Ideal.nD Cert.KernelLn1Ideal.τ).loc Cert.KernelLn1Ideal.main_arg6)) (m ((c.tc : Thread Cert.KernelLn1Ideal.nD Cert.KernelLn1Ideal.τ).loc Cert.KernelLn1Ideal.main_arg7)) (m ((c.tc : Thread Cert.KernelLn1Ideal.nD Cert.KernelLn1Ideal.τ).loc Cert.KernelLn1Ideal.main_arg8))).2.2.1 = (fun _ => 1#1)
    ∧ (Cert.Pre_finite_ln1.fn (F := Ideal) (m ((c.tc : Thread Cert.KernelLn1Ideal.nD Cert.KernelLn1Ideal.τ).loc Cert.KernelLn1Ideal.main_arg0)) (m ((c.tc : Thread Cert.KernelLn1Ideal.nD Cert.KernelLn1Ideal.τ).loc Cert.KernelLn1Ideal.main_arg1)) (m ((c.tc : Thread Cert.KernelLn1Ideal.nD Cert.KernelLn1Ideal.τ).loc Cert.KernelLn1Ideal.main_arg2)) (m ((c.tc : Thread Cert.KernelLn1Ideal.nD Cert.KernelLn1Ideal.τ).loc Cert.KernelLn1Ideal.main_arg3)) (m ((c.tc : Thread Cert.KernelLn1Ideal.nD Cert.KernelLn1Ideal.τ).loc Cert.KernelLn1Ideal.main_arg4)) (m ((c.tc : Thread Cert.KernelLn1Ideal.nD Cert.KernelLn1Ideal.τ).loc Cert.KernelLn1Ideal.main_arg5)) (m ((c.tc : Thread Cert.KernelLn1Ideal.nD Cert.KernelLn1Ideal.τ).loc Cert.KernelLn1Ideal.main_arg6)) (m ((c.tc : Thread Cert.KernelLn1Ideal.nD Cert.KernelLn1Ideal.τ).loc Cert.KernelLn1Ideal.main_arg7)) (m ((c.tc : Thread Cert.KernelLn1Ideal.nD Cert.KernelLn1Ideal.τ).loc Cert.KernelLn1Ideal.main_arg8))).2.2.2.1 = (fun _ => 1#1)
    ∧ (Cert.Pre_finite_ln1.fn (F := Ideal) (m ((c.tc : Thread Cert.KernelLn1Ideal.nD Cert.KernelLn1Ideal.τ).loc Cert.KernelLn1Ideal.main_arg0)) (m ((c.tc : Thread Cert.KernelLn1Ideal.nD Cert.KernelLn1Ideal.τ).loc Cert.KernelLn1Ideal.main_arg1)) (m ((c.tc : Thread Cert.KernelLn1Ideal.nD Cert.KernelLn1Ideal.τ).loc Cert.KernelLn1Ideal.main_arg2)) (m ((c.tc : Thread Cert.KernelLn1Ideal.nD Cert.KernelLn1Ideal.τ).loc Cert.KernelLn1Ideal.main_arg3)) (m ((c.tc : Thread Cert.KernelLn1Ideal.nD Cert.KernelLn1Ideal.τ).loc Cert.KernelLn1Ideal.main_arg4)) (m ((c.tc : Thread Cert.KernelLn1Ideal.nD Cert.KernelLn1Ideal.τ).loc Cert.KernelLn1Ideal.main_arg5)) (m ((c.tc : Thread Cert.KernelLn1Ideal.nD Cert.KernelLn1Ideal.τ).loc Cert.KernelLn1Ideal.main_arg6)) (m ((c.tc : Thread Cert.KernelLn1Ideal.nD Cert.KernelLn1Ideal.τ).loc Cert.KernelLn1Ideal.main_arg7)) (m ((c.tc : Thread Cert.KernelLn1Ideal.nD Cert.KernelLn1Ideal.τ).loc Cert.KernelLn1Ideal.main_arg8))).2.2.2.2.1 = (fun _ => 1#1)
    ∧ (Cert.Pre_finite_ln1.fn (F := Ideal) (m ((c.tc : Thread Cert.KernelLn1Ideal.nD Cert.KernelLn1Ideal.τ).loc Cert.KernelLn1Ideal.main_arg0)) (m ((c.tc : Thread Cert.KernelLn1Ideal.nD Cert.KernelLn1Ideal.τ).loc Cert.KernelLn1Ideal.main_arg1)) (m ((c.tc : Thread Cert.KernelLn1Ideal.nD Cert.KernelLn1Ideal.τ).loc Cert.KernelLn1Ideal.main_arg2)) (m ((c.tc : Thread Cert.KernelLn1Ideal.nD Cert.KernelLn1Ideal.τ).loc Cert.KernelLn1Ideal.main_arg3)) (m ((c.tc : Thread Cert.KernelLn1Ideal.nD Cert.KernelLn1Ideal.τ).loc Cert.KernelLn1Ideal.main_arg4)) (m ((c.tc : Thread Cert.KernelLn1Ideal.nD Cert.KernelLn1Ideal.τ).loc Cert.KernelLn1Ideal.main_arg5)) (m ((c.tc : Thread Cert.KernelLn1Ideal.nD Cert.KernelLn1Ideal.τ).loc Cert.KernelLn1Ideal.main_arg6)) (m ((c.tc : Thread Cert.KernelLn1Ideal.nD Cert.KernelLn1Ideal.τ).loc Cert.KernelLn1Ideal.main_arg7)) (m ((c.tc : Thread Cert.KernelLn1Ideal.nD Cert.KernelLn1Ideal.τ).loc Cert.KernelLn1Ideal.main_arg8))).2.2.2.2.2.1 = (fun _ => 1#1)
    ∧ (Cert.Pre_finite_ln1.fn (F := Ideal) (m ((c.tc : Thread Cert.KernelLn1Ideal.nD Cert.KernelLn1Ideal.τ).loc Cert.KernelLn1Ideal.main_arg0)) (m ((c.tc : Thread Cert.KernelLn1Ideal.nD Cert.KernelLn1Ideal.τ).loc Cert.KernelLn1Ideal.main_arg1)) (m ((c.tc : Thread Cert.KernelLn1Ideal.nD Cert.KernelLn1Ideal.τ).loc Cert.KernelLn1Ideal.main_arg2)) (m ((c.tc : Thread Cert.KernelLn1Ideal.nD Cert.KernelLn1Ideal.τ).loc Cert.KernelLn1Ideal.main_arg3)) (m ((c.tc : Thread Cert.KernelLn1Ideal.nD Cert.KernelLn1Ideal.τ).loc Cert.KernelLn1Ideal.main_arg4)) (m ((c.tc : Thread Cert.KernelLn1Ideal.nD Cert.KernelLn1Ideal.τ).loc Cert.KernelLn1Ideal.main_arg5)) (m ((c.tc : Thread Cert.KernelLn1Ideal.nD Cert.KernelLn1Ideal.τ).loc Cert.KernelLn1Ideal.main_arg6)) (m ((c.tc : Thread Cert.KernelLn1Ideal.nD Cert.KernelLn1Ideal.τ).loc Cert.KernelLn1Ideal.main_arg7)) (m ((c.tc : Thread Cert.KernelLn1Ideal.nD Cert.KernelLn1Ideal.τ).loc Cert.KernelLn1Ideal.main_arg8))).2.2.2.2.2.2 = (fun _ => 1#1)

def Pre_ReferenceLn1Ideal (m : (ℓ : Loc Cert.ReferenceLn1Ideal.nD Cert.ReferenceLn1Ideal.τ Cert.ReferenceLn1Ideal.sig) → Buf (Elt Ideal) ℓ) : Prop :=
  True

def Pre_ReferenceLn1Ideal_finite_ln1 [hPre_finite_ln1 : Cert.Pre_finite_ln1.Facts] (m : (ℓ : Loc Cert.ReferenceLn1Ideal.nD Cert.ReferenceLn1Ideal.τ Cert.ReferenceLn1Ideal.sig) → Buf (Elt Ideal) ℓ) : Prop :=
  ∀ c : Dev Cert.ReferenceLn1Ideal.nD,
    (Cert.Pre_finite_ln1.fn (F := Ideal) (m ((c.tc : Thread Cert.ReferenceLn1Ideal.nD Cert.ReferenceLn1Ideal.τ).loc Cert.ReferenceLn1Ideal.main_arg0)) (m ((c.tc : Thread Cert.ReferenceLn1Ideal.nD Cert.ReferenceLn1Ideal.τ).loc Cert.ReferenceLn1Ideal.main_arg1)) (m ((c.tc : Thread Cert.ReferenceLn1Ideal.nD Cert.ReferenceLn1Ideal.τ).loc Cert.ReferenceLn1Ideal.main_arg2)) (m ((c.tc : Thread Cert.ReferenceLn1Ideal.nD Cert.ReferenceLn1Ideal.τ).loc Cert.ReferenceLn1Ideal.main_arg3)) (m ((c.tc : Thread Cert.ReferenceLn1Ideal.nD Cert.ReferenceLn1Ideal.τ).loc Cert.ReferenceLn1Ideal.main_arg4)) (m ((c.tc : Thread Cert.ReferenceLn1Ideal.nD Cert.ReferenceLn1Ideal.τ).loc Cert.ReferenceLn1Ideal.main_arg5)) (m ((c.tc : Thread Cert.ReferenceLn1Ideal.nD Cert.ReferenceLn1Ideal.τ).loc Cert.ReferenceLn1Ideal.main_arg6)) (m ((c.tc : Thread Cert.ReferenceLn1Ideal.nD Cert.ReferenceLn1Ideal.τ).loc Cert.ReferenceLn1Ideal.main_arg7)) (m ((c.tc : Thread Cert.ReferenceLn1Ideal.nD Cert.ReferenceLn1Ideal.τ).loc Cert.ReferenceLn1Ideal.main_arg8))).1 = (fun _ => 1#1)
    ∧ (Cert.Pre_finite_ln1.fn (F := Ideal) (m ((c.tc : Thread Cert.ReferenceLn1Ideal.nD Cert.ReferenceLn1Ideal.τ).loc Cert.ReferenceLn1Ideal.main_arg0)) (m ((c.tc : Thread Cert.ReferenceLn1Ideal.nD Cert.ReferenceLn1Ideal.τ).loc Cert.ReferenceLn1Ideal.main_arg1)) (m ((c.tc : Thread Cert.ReferenceLn1Ideal.nD Cert.ReferenceLn1Ideal.τ).loc Cert.ReferenceLn1Ideal.main_arg2)) (m ((c.tc : Thread Cert.ReferenceLn1Ideal.nD Cert.ReferenceLn1Ideal.τ).loc Cert.ReferenceLn1Ideal.main_arg3)) (m ((c.tc : Thread Cert.ReferenceLn1Ideal.nD Cert.ReferenceLn1Ideal.τ).loc Cert.ReferenceLn1Ideal.main_arg4)) (m ((c.tc : Thread Cert.ReferenceLn1Ideal.nD Cert.ReferenceLn1Ideal.τ).loc Cert.ReferenceLn1Ideal.main_arg5)) (m ((c.tc : Thread Cert.ReferenceLn1Ideal.nD Cert.ReferenceLn1Ideal.τ).loc Cert.ReferenceLn1Ideal.main_arg6)) (m ((c.tc : Thread Cert.ReferenceLn1Ideal.nD Cert.ReferenceLn1Ideal.τ).loc Cert.ReferenceLn1Ideal.main_arg7)) (m ((c.tc : Thread Cert.ReferenceLn1Ideal.nD Cert.ReferenceLn1Ideal.τ).loc Cert.ReferenceLn1Ideal.main_arg8))).2.1 = (fun _ => 1#1)
    ∧ (Cert.Pre_finite_ln1.fn (F := Ideal) (m ((c.tc : Thread Cert.ReferenceLn1Ideal.nD Cert.ReferenceLn1Ideal.τ).loc Cert.ReferenceLn1Ideal.main_arg0)) (m ((c.tc : Thread Cert.ReferenceLn1Ideal.nD Cert.ReferenceLn1Ideal.τ).loc Cert.ReferenceLn1Ideal.main_arg1)) (m ((c.tc : Thread Cert.ReferenceLn1Ideal.nD Cert.ReferenceLn1Ideal.τ).loc Cert.ReferenceLn1Ideal.main_arg2)) (m ((c.tc : Thread Cert.ReferenceLn1Ideal.nD Cert.ReferenceLn1Ideal.τ).loc Cert.ReferenceLn1Ideal.main_arg3)) (m ((c.tc : Thread Cert.ReferenceLn1Ideal.nD Cert.ReferenceLn1Ideal.τ).loc Cert.ReferenceLn1Ideal.main_arg4)) (m ((c.tc : Thread Cert.ReferenceLn1Ideal.nD Cert.ReferenceLn1Ideal.τ).loc Cert.ReferenceLn1Ideal.main_arg5)) (m ((c.tc : Thread Cert.ReferenceLn1Ideal.nD Cert.ReferenceLn1Ideal.τ).loc Cert.ReferenceLn1Ideal.main_arg6)) (m ((c.tc : Thread Cert.ReferenceLn1Ideal.nD Cert.ReferenceLn1Ideal.τ).loc Cert.ReferenceLn1Ideal.main_arg7)) (m ((c.tc : Thread Cert.ReferenceLn1Ideal.nD Cert.ReferenceLn1Ideal.τ).loc Cert.ReferenceLn1Ideal.main_arg8))).2.2.1 = (fun _ => 1#1)
    ∧ (Cert.Pre_finite_ln1.fn (F := Ideal) (m ((c.tc : Thread Cert.ReferenceLn1Ideal.nD Cert.ReferenceLn1Ideal.τ).loc Cert.ReferenceLn1Ideal.main_arg0)) (m ((c.tc : Thread Cert.ReferenceLn1Ideal.nD Cert.ReferenceLn1Ideal.τ).loc Cert.ReferenceLn1Ideal.main_arg1)) (m ((c.tc : Thread Cert.ReferenceLn1Ideal.nD Cert.ReferenceLn1Ideal.τ).loc Cert.ReferenceLn1Ideal.main_arg2)) (m ((c.tc : Thread Cert.ReferenceLn1Ideal.nD Cert.ReferenceLn1Ideal.τ).loc Cert.ReferenceLn1Ideal.main_arg3)) (m ((c.tc : Thread Cert.ReferenceLn1Ideal.nD Cert.ReferenceLn1Ideal.τ).loc Cert.ReferenceLn1Ideal.main_arg4)) (m ((c.tc : Thread Cert.ReferenceLn1Ideal.nD Cert.ReferenceLn1Ideal.τ).loc Cert.ReferenceLn1Ideal.main_arg5)) (m ((c.tc : Thread Cert.ReferenceLn1Ideal.nD Cert.ReferenceLn1Ideal.τ).loc Cert.ReferenceLn1Ideal.main_arg6)) (m ((c.tc : Thread Cert.ReferenceLn1Ideal.nD Cert.ReferenceLn1Ideal.τ).loc Cert.ReferenceLn1Ideal.main_arg7)) (m ((c.tc : Thread Cert.ReferenceLn1Ideal.nD Cert.ReferenceLn1Ideal.τ).loc Cert.ReferenceLn1Ideal.main_arg8))).2.2.2.1 = (fun _ => 1#1)
    ∧ (Cert.Pre_finite_ln1.fn (F := Ideal) (m ((c.tc : Thread Cert.ReferenceLn1Ideal.nD Cert.ReferenceLn1Ideal.τ).loc Cert.ReferenceLn1Ideal.main_arg0)) (m ((c.tc : Thread Cert.ReferenceLn1Ideal.nD Cert.ReferenceLn1Ideal.τ).loc Cert.ReferenceLn1Ideal.main_arg1)) (m ((c.tc : Thread Cert.ReferenceLn1Ideal.nD Cert.ReferenceLn1Ideal.τ).loc Cert.ReferenceLn1Ideal.main_arg2)) (m ((c.tc : Thread Cert.ReferenceLn1Ideal.nD Cert.ReferenceLn1Ideal.τ).loc Cert.ReferenceLn1Ideal.main_arg3)) (m ((c.tc : Thread Cert.ReferenceLn1Ideal.nD Cert.ReferenceLn1Ideal.τ).loc Cert.ReferenceLn1Ideal.main_arg4)) (m ((c.tc : Thread Cert.ReferenceLn1Ideal.nD Cert.ReferenceLn1Ideal.τ).loc Cert.ReferenceLn1Ideal.main_arg5)) (m ((c.tc : Thread Cert.ReferenceLn1Ideal.nD Cert.ReferenceLn1Ideal.τ).loc Cert.ReferenceLn1Ideal.main_arg6)) (m ((c.tc : Thread Cert.ReferenceLn1Ideal.nD Cert.ReferenceLn1Ideal.τ).loc Cert.ReferenceLn1Ideal.main_arg7)) (m ((c.tc : Thread Cert.ReferenceLn1Ideal.nD Cert.ReferenceLn1Ideal.τ).loc Cert.ReferenceLn1Ideal.main_arg8))).2.2.2.2.1 = (fun _ => 1#1)
    ∧ (Cert.Pre_finite_ln1.fn (F := Ideal) (m ((c.tc : Thread Cert.ReferenceLn1Ideal.nD Cert.ReferenceLn1Ideal.τ).loc Cert.ReferenceLn1Ideal.main_arg0)) (m ((c.tc : Thread Cert.ReferenceLn1Ideal.nD Cert.ReferenceLn1Ideal.τ).loc Cert.ReferenceLn1Ideal.main_arg1)) (m ((c.tc : Thread Cert.ReferenceLn1Ideal.nD Cert.ReferenceLn1Ideal.τ).loc Cert.ReferenceLn1Ideal.main_arg2)) (m ((c.tc : Thread Cert.ReferenceLn1Ideal.nD Cert.ReferenceLn1Ideal.τ).loc Cert.ReferenceLn1Ideal.main_arg3)) (m ((c.tc : Thread Cert.ReferenceLn1Ideal.nD Cert.ReferenceLn1Ideal.τ).loc Cert.ReferenceLn1Ideal.main_arg4)) (m ((c.tc : Thread Cert.ReferenceLn1Ideal.nD Cert.ReferenceLn1Ideal.τ).loc Cert.ReferenceLn1Ideal.main_arg5)) (m ((c.tc : Thread Cert.ReferenceLn1Ideal.nD Cert.ReferenceLn1Ideal.τ).loc Cert.ReferenceLn1Ideal.main_arg6)) (m ((c.tc : Thread Cert.ReferenceLn1Ideal.nD Cert.ReferenceLn1Ideal.τ).loc Cert.ReferenceLn1Ideal.main_arg7)) (m ((c.tc : Thread Cert.ReferenceLn1Ideal.nD Cert.ReferenceLn1Ideal.τ).loc Cert.ReferenceLn1Ideal.main_arg8))).2.2.2.2.2.1 = (fun _ => 1#1)
    ∧ (Cert.Pre_finite_ln1.fn (F := Ideal) (m ((c.tc : Thread Cert.ReferenceLn1Ideal.nD Cert.ReferenceLn1Ideal.τ).loc Cert.ReferenceLn1Ideal.main_arg0)) (m ((c.tc : Thread Cert.ReferenceLn1Ideal.nD Cert.ReferenceLn1Ideal.τ).loc Cert.ReferenceLn1Ideal.main_arg1)) (m ((c.tc : Thread Cert.ReferenceLn1Ideal.nD Cert.ReferenceLn1Ideal.τ).loc Cert.ReferenceLn1Ideal.main_arg2)) (m ((c.tc : Thread Cert.ReferenceLn1Ideal.nD Cert.ReferenceLn1Ideal.τ).loc Cert.ReferenceLn1Ideal.main_arg3)) (m ((c.tc : Thread Cert.ReferenceLn1Ideal.nD Cert.ReferenceLn1Ideal.τ).loc Cert.ReferenceLn1Ideal.main_arg4)) (m ((c.tc : Thread Cert.ReferenceLn1Ideal.nD Cert.ReferenceLn1Ideal.τ).loc Cert.ReferenceLn1Ideal.main_arg5)) (m ((c.tc : Thread Cert.ReferenceLn1Ideal.nD Cert.ReferenceLn1Ideal.τ).loc Cert.ReferenceLn1Ideal.main_arg6)) (m ((c.tc : Thread Cert.ReferenceLn1Ideal.nD Cert.ReferenceLn1Ideal.τ).loc Cert.ReferenceLn1Ideal.main_arg7)) (m ((c.tc : Thread Cert.ReferenceLn1Ideal.nD Cert.ReferenceLn1Ideal.τ).loc Cert.ReferenceLn1Ideal.main_arg8))).2.2.2.2.2.2 = (fun _ => 1#1)

def Pre_KernelLn2 (m : (ℓ : Loc Cert.KernelLn2.nD Cert.KernelLn2.τ Cert.KernelLn2.sig) → Buf (Elt Bits) ℓ) : Prop :=
  True

def Pre_KernelLn2Ideal (m : (ℓ : Loc Cert.KernelLn2Ideal.nD Cert.KernelLn2Ideal.τ Cert.KernelLn2Ideal.sig) → Buf (Elt Ideal) ℓ) : Prop :=
  True

def Pre_KernelLn2Ideal_finite_ln2 [hPre_finite_ln2 : Cert.Pre_finite_ln2.Facts] (m : (ℓ : Loc Cert.KernelLn2Ideal.nD Cert.KernelLn2Ideal.τ Cert.KernelLn2Ideal.sig) → Buf (Elt Ideal) ℓ) : Prop :=
  ∀ c : Dev Cert.KernelLn2Ideal.nD,
    (Cert.Pre_finite_ln2.fn (F := Ideal) (m ((c.tc : Thread Cert.KernelLn2Ideal.nD Cert.KernelLn2Ideal.τ).loc Cert.KernelLn2Ideal.main_arg0)) (m ((c.tc : Thread Cert.KernelLn2Ideal.nD Cert.KernelLn2Ideal.τ).loc Cert.KernelLn2Ideal.main_arg1)) (m ((c.tc : Thread Cert.KernelLn2Ideal.nD Cert.KernelLn2Ideal.τ).loc Cert.KernelLn2Ideal.main_arg2)) (m ((c.tc : Thread Cert.KernelLn2Ideal.nD Cert.KernelLn2Ideal.τ).loc Cert.KernelLn2Ideal.main_arg3)) (m ((c.tc : Thread Cert.KernelLn2Ideal.nD Cert.KernelLn2Ideal.τ).loc Cert.KernelLn2Ideal.main_arg4)) (m ((c.tc : Thread Cert.KernelLn2Ideal.nD Cert.KernelLn2Ideal.τ).loc Cert.KernelLn2Ideal.main_arg5))).1 = (fun _ => 1#1)
    ∧ (Cert.Pre_finite_ln2.fn (F := Ideal) (m ((c.tc : Thread Cert.KernelLn2Ideal.nD Cert.KernelLn2Ideal.τ).loc Cert.KernelLn2Ideal.main_arg0)) (m ((c.tc : Thread Cert.KernelLn2Ideal.nD Cert.KernelLn2Ideal.τ).loc Cert.KernelLn2Ideal.main_arg1)) (m ((c.tc : Thread Cert.KernelLn2Ideal.nD Cert.KernelLn2Ideal.τ).loc Cert.KernelLn2Ideal.main_arg2)) (m ((c.tc : Thread Cert.KernelLn2Ideal.nD Cert.KernelLn2Ideal.τ).loc Cert.KernelLn2Ideal.main_arg3)) (m ((c.tc : Thread Cert.KernelLn2Ideal.nD Cert.KernelLn2Ideal.τ).loc Cert.KernelLn2Ideal.main_arg4)) (m ((c.tc : Thread Cert.KernelLn2Ideal.nD Cert.KernelLn2Ideal.τ).loc Cert.KernelLn2Ideal.main_arg5))).2.1 = (fun _ => 1#1)
    ∧ (Cert.Pre_finite_ln2.fn (F := Ideal) (m ((c.tc : Thread Cert.KernelLn2Ideal.nD Cert.KernelLn2Ideal.τ).loc Cert.KernelLn2Ideal.main_arg0)) (m ((c.tc : Thread Cert.KernelLn2Ideal.nD Cert.KernelLn2Ideal.τ).loc Cert.KernelLn2Ideal.main_arg1)) (m ((c.tc : Thread Cert.KernelLn2Ideal.nD Cert.KernelLn2Ideal.τ).loc Cert.KernelLn2Ideal.main_arg2)) (m ((c.tc : Thread Cert.KernelLn2Ideal.nD Cert.KernelLn2Ideal.τ).loc Cert.KernelLn2Ideal.main_arg3)) (m ((c.tc : Thread Cert.KernelLn2Ideal.nD Cert.KernelLn2Ideal.τ).loc Cert.KernelLn2Ideal.main_arg4)) (m ((c.tc : Thread Cert.KernelLn2Ideal.nD Cert.KernelLn2Ideal.τ).loc Cert.KernelLn2Ideal.main_arg5))).2.2.1 = (fun _ => 1#1)
    ∧ (Cert.Pre_finite_ln2.fn (F := Ideal) (m ((c.tc : Thread Cert.KernelLn2Ideal.nD Cert.KernelLn2Ideal.τ).loc Cert.KernelLn2Ideal.main_arg0)) (m ((c.tc : Thread Cert.KernelLn2Ideal.nD Cert.KernelLn2Ideal.τ).loc Cert.KernelLn2Ideal.main_arg1)) (m ((c.tc : Thread Cert.KernelLn2Ideal.nD Cert.KernelLn2Ideal.τ).loc Cert.KernelLn2Ideal.main_arg2)) (m ((c.tc : Thread Cert.KernelLn2Ideal.nD Cert.KernelLn2Ideal.τ).loc Cert.KernelLn2Ideal.main_arg3)) (m ((c.tc : Thread Cert.KernelLn2Ideal.nD Cert.KernelLn2Ideal.τ).loc Cert.KernelLn2Ideal.main_arg4)) (m ((c.tc : Thread Cert.KernelLn2Ideal.nD Cert.KernelLn2Ideal.τ).loc Cert.KernelLn2Ideal.main_arg5))).2.2.2.1 = (fun _ => 1#1)
    ∧ (Cert.Pre_finite_ln2.fn (F := Ideal) (m ((c.tc : Thread Cert.KernelLn2Ideal.nD Cert.KernelLn2Ideal.τ).loc Cert.KernelLn2Ideal.main_arg0)) (m ((c.tc : Thread Cert.KernelLn2Ideal.nD Cert.KernelLn2Ideal.τ).loc Cert.KernelLn2Ideal.main_arg1)) (m ((c.tc : Thread Cert.KernelLn2Ideal.nD Cert.KernelLn2Ideal.τ).loc Cert.KernelLn2Ideal.main_arg2)) (m ((c.tc : Thread Cert.KernelLn2Ideal.nD Cert.KernelLn2Ideal.τ).loc Cert.KernelLn2Ideal.main_arg3)) (m ((c.tc : Thread Cert.KernelLn2Ideal.nD Cert.KernelLn2Ideal.τ).loc Cert.KernelLn2Ideal.main_arg4)) (m ((c.tc : Thread Cert.KernelLn2Ideal.nD Cert.KernelLn2Ideal.τ).loc Cert.KernelLn2Ideal.main_arg5))).2.2.2.2.1 = (fun _ => 1#1)
    ∧ (Cert.Pre_finite_ln2.fn (F := Ideal) (m ((c.tc : Thread Cert.KernelLn2Ideal.nD Cert.KernelLn2Ideal.τ).loc Cert.KernelLn2Ideal.main_arg0)) (m ((c.tc : Thread Cert.KernelLn2Ideal.nD Cert.KernelLn2Ideal.τ).loc Cert.KernelLn2Ideal.main_arg1)) (m ((c.tc : Thread Cert.KernelLn2Ideal.nD Cert.KernelLn2Ideal.τ).loc Cert.KernelLn2Ideal.main_arg2)) (m ((c.tc : Thread Cert.KernelLn2Ideal.nD Cert.KernelLn2Ideal.τ).loc Cert.KernelLn2Ideal.main_arg3)) (m ((c.tc : Thread Cert.KernelLn2Ideal.nD Cert.KernelLn2Ideal.τ).loc Cert.KernelLn2Ideal.main_arg4)) (m ((c.tc : Thread Cert.KernelLn2Ideal.nD Cert.KernelLn2Ideal.τ).loc Cert.KernelLn2Ideal.main_arg5))).2.2.2.2.2 = (fun _ => 1#1)

def Pre_ReferenceLn2Ideal (m : (ℓ : Loc Cert.ReferenceLn2Ideal.nD Cert.ReferenceLn2Ideal.τ Cert.ReferenceLn2Ideal.sig) → Buf (Elt Ideal) ℓ) : Prop :=
  True

def Pre_ReferenceLn2Ideal_finite_ln2 [hPre_finite_ln2 : Cert.Pre_finite_ln2.Facts] (m : (ℓ : Loc Cert.ReferenceLn2Ideal.nD Cert.ReferenceLn2Ideal.τ Cert.ReferenceLn2Ideal.sig) → Buf (Elt Ideal) ℓ) : Prop :=
  ∀ c : Dev Cert.ReferenceLn2Ideal.nD,
    (Cert.Pre_finite_ln2.fn (F := Ideal) (m ((c.tc : Thread Cert.ReferenceLn2Ideal.nD Cert.ReferenceLn2Ideal.τ).loc Cert.ReferenceLn2Ideal.main_arg0)) (m ((c.tc : Thread Cert.ReferenceLn2Ideal.nD Cert.ReferenceLn2Ideal.τ).loc Cert.ReferenceLn2Ideal.main_arg1)) (m ((c.tc : Thread Cert.ReferenceLn2Ideal.nD Cert.ReferenceLn2Ideal.τ).loc Cert.ReferenceLn2Ideal.main_arg2)) (m ((c.tc : Thread Cert.ReferenceLn2Ideal.nD Cert.ReferenceLn2Ideal.τ).loc Cert.ReferenceLn2Ideal.main_arg3)) (m ((c.tc : Thread Cert.ReferenceLn2Ideal.nD Cert.ReferenceLn2Ideal.τ).loc Cert.ReferenceLn2Ideal.main_arg4)) (m ((c.tc : Thread Cert.ReferenceLn2Ideal.nD Cert.ReferenceLn2Ideal.τ).loc Cert.ReferenceLn2Ideal.main_arg5))).1 = (fun _ => 1#1)
    ∧ (Cert.Pre_finite_ln2.fn (F := Ideal) (m ((c.tc : Thread Cert.ReferenceLn2Ideal.nD Cert.ReferenceLn2Ideal.τ).loc Cert.ReferenceLn2Ideal.main_arg0)) (m ((c.tc : Thread Cert.ReferenceLn2Ideal.nD Cert.ReferenceLn2Ideal.τ).loc Cert.ReferenceLn2Ideal.main_arg1)) (m ((c.tc : Thread Cert.ReferenceLn2Ideal.nD Cert.ReferenceLn2Ideal.τ).loc Cert.ReferenceLn2Ideal.main_arg2)) (m ((c.tc : Thread Cert.ReferenceLn2Ideal.nD Cert.ReferenceLn2Ideal.τ).loc Cert.ReferenceLn2Ideal.main_arg3)) (m ((c.tc : Thread Cert.ReferenceLn2Ideal.nD Cert.ReferenceLn2Ideal.τ).loc Cert.ReferenceLn2Ideal.main_arg4)) (m ((c.tc : Thread Cert.ReferenceLn2Ideal.nD Cert.ReferenceLn2Ideal.τ).loc Cert.ReferenceLn2Ideal.main_arg5))).2.1 = (fun _ => 1#1)
    ∧ (Cert.Pre_finite_ln2.fn (F := Ideal) (m ((c.tc : Thread Cert.ReferenceLn2Ideal.nD Cert.ReferenceLn2Ideal.τ).loc Cert.ReferenceLn2Ideal.main_arg0)) (m ((c.tc : Thread Cert.ReferenceLn2Ideal.nD Cert.ReferenceLn2Ideal.τ).loc Cert.ReferenceLn2Ideal.main_arg1)) (m ((c.tc : Thread Cert.ReferenceLn2Ideal.nD Cert.ReferenceLn2Ideal.τ).loc Cert.ReferenceLn2Ideal.main_arg2)) (m ((c.tc : Thread Cert.ReferenceLn2Ideal.nD Cert.ReferenceLn2Ideal.τ).loc Cert.ReferenceLn2Ideal.main_arg3)) (m ((c.tc : Thread Cert.ReferenceLn2Ideal.nD Cert.ReferenceLn2Ideal.τ).loc Cert.ReferenceLn2Ideal.main_arg4)) (m ((c.tc : Thread Cert.ReferenceLn2Ideal.nD Cert.ReferenceLn2Ideal.τ).loc Cert.ReferenceLn2Ideal.main_arg5))).2.2.1 = (fun _ => 1#1)
    ∧ (Cert.Pre_finite_ln2.fn (F := Ideal) (m ((c.tc : Thread Cert.ReferenceLn2Ideal.nD Cert.ReferenceLn2Ideal.τ).loc Cert.ReferenceLn2Ideal.main_arg0)) (m ((c.tc : Thread Cert.ReferenceLn2Ideal.nD Cert.ReferenceLn2Ideal.τ).loc Cert.ReferenceLn2Ideal.main_arg1)) (m ((c.tc : Thread Cert.ReferenceLn2Ideal.nD Cert.ReferenceLn2Ideal.τ).loc Cert.ReferenceLn2Ideal.main_arg2)) (m ((c.tc : Thread Cert.ReferenceLn2Ideal.nD Cert.ReferenceLn2Ideal.τ).loc Cert.ReferenceLn2Ideal.main_arg3)) (m ((c.tc : Thread Cert.ReferenceLn2Ideal.nD Cert.ReferenceLn2Ideal.τ).loc Cert.ReferenceLn2Ideal.main_arg4)) (m ((c.tc : Thread Cert.ReferenceLn2Ideal.nD Cert.ReferenceLn2Ideal.τ).loc Cert.ReferenceLn2Ideal.main_arg5))).2.2.2.1 = (fun _ => 1#1)
    ∧ (Cert.Pre_finite_ln2.fn (F := Ideal) (m ((c.tc : Thread Cert.ReferenceLn2Ideal.nD Cert.ReferenceLn2Ideal.τ).loc Cert.ReferenceLn2Ideal.main_arg0)) (m ((c.tc : Thread Cert.ReferenceLn2Ideal.nD Cert.ReferenceLn2Ideal.τ).loc Cert.ReferenceLn2Ideal.main_arg1)) (m ((c.tc : Thread Cert.ReferenceLn2Ideal.nD Cert.ReferenceLn2Ideal.τ).loc Cert.ReferenceLn2Ideal.main_arg2)) (m ((c.tc : Thread Cert.ReferenceLn2Ideal.nD Cert.ReferenceLn2Ideal.τ).loc Cert.ReferenceLn2Ideal.main_arg3)) (m ((c.tc : Thread Cert.ReferenceLn2Ideal.nD Cert.ReferenceLn2Ideal.τ).loc Cert.ReferenceLn2Ideal.main_arg4)) (m ((c.tc : Thread Cert.ReferenceLn2Ideal.nD Cert.ReferenceLn2Ideal.τ).loc Cert.ReferenceLn2Ideal.main_arg5))).2.2.2.2.1 = (fun _ => 1#1)
    ∧ (Cert.Pre_finite_ln2.fn (F := Ideal) (m ((c.tc : Thread Cert.ReferenceLn2Ideal.nD Cert.ReferenceLn2Ideal.τ).loc Cert.ReferenceLn2Ideal.main_arg0)) (m ((c.tc : Thread Cert.ReferenceLn2Ideal.nD Cert.ReferenceLn2Ideal.τ).loc Cert.ReferenceLn2Ideal.main_arg1)) (m ((c.tc : Thread Cert.ReferenceLn2Ideal.nD Cert.ReferenceLn2Ideal.τ).loc Cert.ReferenceLn2Ideal.main_arg2)) (m ((c.tc : Thread Cert.ReferenceLn2Ideal.nD Cert.ReferenceLn2Ideal.τ).loc Cert.ReferenceLn2Ideal.main_arg3)) (m ((c.tc : Thread Cert.ReferenceLn2Ideal.nD Cert.ReferenceLn2Ideal.τ).loc Cert.ReferenceLn2Ideal.main_arg4)) (m ((c.tc : Thread Cert.ReferenceLn2Ideal.nD Cert.ReferenceLn2Ideal.τ).loc Cert.ReferenceLn2Ideal.main_arg5))).2.2.2.2.2 = (fun _ => 1#1)

def Pre_KernelGate (m : (ℓ : Loc Cert.KernelGate.nD Cert.KernelGate.τ Cert.KernelGate.sig) → Buf (Elt Bits) ℓ) : Prop :=
  True

def Pre_KernelGateIdeal (m : (ℓ : Loc Cert.KernelGateIdeal.nD Cert.KernelGateIdeal.τ Cert.KernelGateIdeal.sig) → Buf (Elt Ideal) ℓ) : Prop :=
  True

def Pre_ReferenceGateIdeal (m : (ℓ : Loc Cert.ReferenceGateIdeal.nD Cert.ReferenceGateIdeal.τ Cert.ReferenceGateIdeal.sig) → Buf (Elt Ideal) ℓ) : Prop :=
  True

def Pre_KernelCum (m : (ℓ : Loc Cert.KernelCum.nD Cert.KernelCum.τ Cert.KernelCum.sig) → Buf (Elt Bits) ℓ) : Prop :=
  True

def Pre_KernelCumIdeal (m : (ℓ : Loc Cert.KernelCumIdeal.nD Cert.KernelCumIdeal.τ Cert.KernelCumIdeal.sig) → Buf (Elt Ideal) ℓ) : Prop :=
  True

def Pre_KernelCumIdeal_finite_cum [hPre_finite_cum : Cert.Pre_finite_cum.Facts] (m : (ℓ : Loc Cert.KernelCumIdeal.nD Cert.KernelCumIdeal.τ Cert.KernelCumIdeal.sig) → Buf (Elt Ideal) ℓ) : Prop :=
  ∀ c : Dev Cert.KernelCumIdeal.nD,
    (Cert.Pre_finite_cum.fn (F := Ideal) (m ((c.tc : Thread Cert.KernelCumIdeal.nD Cert.KernelCumIdeal.τ).loc Cert.KernelCumIdeal.main_arg0)) (m ((c.tc : Thread Cert.KernelCumIdeal.nD Cert.KernelCumIdeal.τ).loc Cert.KernelCumIdeal.main_arg1)) (m ((c.tc : Thread Cert.KernelCumIdeal.nD Cert.KernelCumIdeal.τ).loc Cert.KernelCumIdeal.main_arg2)) (m ((c.tc : Thread Cert.KernelCumIdeal.nD Cert.KernelCumIdeal.τ).loc Cert.KernelCumIdeal.main_arg3))).1 = (fun _ => 1#1)
    ∧ (Cert.Pre_finite_cum.fn (F := Ideal) (m ((c.tc : Thread Cert.KernelCumIdeal.nD Cert.KernelCumIdeal.τ).loc Cert.KernelCumIdeal.main_arg0)) (m ((c.tc : Thread Cert.KernelCumIdeal.nD Cert.KernelCumIdeal.τ).loc Cert.KernelCumIdeal.main_arg1)) (m ((c.tc : Thread Cert.KernelCumIdeal.nD Cert.KernelCumIdeal.τ).loc Cert.KernelCumIdeal.main_arg2)) (m ((c.tc : Thread Cert.KernelCumIdeal.nD Cert.KernelCumIdeal.τ).loc Cert.KernelCumIdeal.main_arg3))).2.1 = (fun _ => 1#1)
    ∧ (Cert.Pre_finite_cum.fn (F := Ideal) (m ((c.tc : Thread Cert.KernelCumIdeal.nD Cert.KernelCumIdeal.τ).loc Cert.KernelCumIdeal.main_arg0)) (m ((c.tc : Thread Cert.KernelCumIdeal.nD Cert.KernelCumIdeal.τ).loc Cert.KernelCumIdeal.main_arg1)) (m ((c.tc : Thread Cert.KernelCumIdeal.nD Cert.KernelCumIdeal.τ).loc Cert.KernelCumIdeal.main_arg2)) (m ((c.tc : Thread Cert.KernelCumIdeal.nD Cert.KernelCumIdeal.τ).loc Cert.KernelCumIdeal.main_arg3))).2.2 = (fun _ => 1#1)

def Pre_ReferenceCumIdeal (m : (ℓ : Loc Cert.ReferenceCumIdeal.nD Cert.ReferenceCumIdeal.τ Cert.ReferenceCumIdeal.sig) → Buf (Elt Ideal) ℓ) : Prop :=
  True

def Pre_ReferenceCumIdeal_finite_cum [hPre_finite_cum : Cert.Pre_finite_cum.Facts] (m : (ℓ : Loc Cert.ReferenceCumIdeal.nD Cert.ReferenceCumIdeal.τ Cert.ReferenceCumIdeal.sig) → Buf (Elt Ideal) ℓ) : Prop :=
  ∀ c : Dev Cert.ReferenceCumIdeal.nD,
    (Cert.Pre_finite_cum.fn (F := Ideal) (m ((c.tc : Thread Cert.ReferenceCumIdeal.nD Cert.ReferenceCumIdeal.τ).loc Cert.ReferenceCumIdeal.main_arg0)) (m ((c.tc : Thread Cert.ReferenceCumIdeal.nD Cert.ReferenceCumIdeal.τ).loc Cert.ReferenceCumIdeal.main_arg1)) (m ((c.tc : Thread Cert.ReferenceCumIdeal.nD Cert.ReferenceCumIdeal.τ).loc Cert.ReferenceCumIdeal.main_arg2)) (m ((c.tc : Thread Cert.ReferenceCumIdeal.nD Cert.ReferenceCumIdeal.τ).loc Cert.ReferenceCumIdeal.main_arg3))).1 = (fun _ => 1#1)
    ∧ (Cert.Pre_finite_cum.fn (F := Ideal) (m ((c.tc : Thread Cert.ReferenceCumIdeal.nD Cert.ReferenceCumIdeal.τ).loc Cert.ReferenceCumIdeal.main_arg0)) (m ((c.tc : Thread Cert.ReferenceCumIdeal.nD Cert.ReferenceCumIdeal.τ).loc Cert.ReferenceCumIdeal.main_arg1)) (m ((c.tc : Thread Cert.ReferenceCumIdeal.nD Cert.ReferenceCumIdeal.τ).loc Cert.ReferenceCumIdeal.main_arg2)) (m ((c.tc : Thread Cert.ReferenceCumIdeal.nD Cert.ReferenceCumIdeal.τ).loc Cert.ReferenceCumIdeal.main_arg3))).2.1 = (fun _ => 1#1)
    ∧ (Cert.Pre_finite_cum.fn (F := Ideal) (m ((c.tc : Thread Cert.ReferenceCumIdeal.nD Cert.ReferenceCumIdeal.τ).loc Cert.ReferenceCumIdeal.main_arg0)) (m ((c.tc : Thread Cert.ReferenceCumIdeal.nD Cert.ReferenceCumIdeal.τ).loc Cert.ReferenceCumIdeal.main_arg1)) (m ((c.tc : Thread Cert.ReferenceCumIdeal.nD Cert.ReferenceCumIdeal.τ).loc Cert.ReferenceCumIdeal.main_arg2)) (m ((c.tc : Thread Cert.ReferenceCumIdeal.nD Cert.ReferenceCumIdeal.τ).loc Cert.ReferenceCumIdeal.main_arg3))).2.2 = (fun _ => 1#1)

def Pre_KernelAda (m : (ℓ : Loc Cert.KernelAda.nD Cert.KernelAda.τ Cert.KernelAda.sig) → Buf (Elt Bits) ℓ) : Prop :=
  True

def Pre_KernelAdaIdeal (m : (ℓ : Loc Cert.KernelAdaIdeal.nD Cert.KernelAdaIdeal.τ Cert.KernelAdaIdeal.sig) → Buf (Elt Ideal) ℓ) : Prop :=
  True

def Pre_KernelAdaIdeal_finite_ada [hPre_finite_ada : Cert.Pre_finite_ada.Facts] (m : (ℓ : Loc Cert.KernelAdaIdeal.nD Cert.KernelAdaIdeal.τ Cert.KernelAdaIdeal.sig) → Buf (Elt Ideal) ℓ) : Prop :=
  ∀ c : Dev Cert.KernelAdaIdeal.nD,
    (Cert.Pre_finite_ada.fn (F := Ideal) (m ((c.tc : Thread Cert.KernelAdaIdeal.nD Cert.KernelAdaIdeal.τ).loc Cert.KernelAdaIdeal.main_arg0)) (m ((c.tc : Thread Cert.KernelAdaIdeal.nD Cert.KernelAdaIdeal.τ).loc Cert.KernelAdaIdeal.main_arg1)) (m ((c.tc : Thread Cert.KernelAdaIdeal.nD Cert.KernelAdaIdeal.τ).loc Cert.KernelAdaIdeal.main_arg2))).1 = (fun _ => 1#1)
    ∧ (Cert.Pre_finite_ada.fn (F := Ideal) (m ((c.tc : Thread Cert.KernelAdaIdeal.nD Cert.KernelAdaIdeal.τ).loc Cert.KernelAdaIdeal.main_arg0)) (m ((c.tc : Thread Cert.KernelAdaIdeal.nD Cert.KernelAdaIdeal.τ).loc Cert.KernelAdaIdeal.main_arg1)) (m ((c.tc : Thread Cert.KernelAdaIdeal.nD Cert.KernelAdaIdeal.τ).loc Cert.KernelAdaIdeal.main_arg2))).2 = (fun _ => 1#1)

def Pre_ReferenceAdaIdeal (m : (ℓ : Loc Cert.ReferenceAdaIdeal.nD Cert.ReferenceAdaIdeal.τ Cert.ReferenceAdaIdeal.sig) → Buf (Elt Ideal) ℓ) : Prop :=
  True

def Pre_ReferenceAdaIdeal_finite_ada [hPre_finite_ada : Cert.Pre_finite_ada.Facts] (m : (ℓ : Loc Cert.ReferenceAdaIdeal.nD Cert.ReferenceAdaIdeal.τ Cert.ReferenceAdaIdeal.sig) → Buf (Elt Ideal) ℓ) : Prop :=
  ∀ c : Dev Cert.ReferenceAdaIdeal.nD,
    (Cert.Pre_finite_ada.fn (F := Ideal) (m ((c.tc : Thread Cert.ReferenceAdaIdeal.nD Cert.ReferenceAdaIdeal.τ).loc Cert.ReferenceAdaIdeal.main_arg0)) (m ((c.tc : Thread Cert.ReferenceAdaIdeal.nD Cert.ReferenceAdaIdeal.τ).loc Cert.ReferenceAdaIdeal.main_arg1)) (m ((c.tc : Thread Cert.ReferenceAdaIdeal.nD Cert.ReferenceAdaIdeal.τ).loc Cert.ReferenceAdaIdeal.main_arg2))).1 = (fun _ => 1#1)
    ∧ (Cert.Pre_finite_ada.fn (F := Ideal) (m ((c.tc : Thread Cert.ReferenceAdaIdeal.nD Cert.ReferenceAdaIdeal.τ).loc Cert.ReferenceAdaIdeal.main_arg0)) (m ((c.tc : Thread Cert.ReferenceAdaIdeal.nD Cert.ReferenceAdaIdeal.τ).loc Cert.ReferenceAdaIdeal.main_arg1)) (m ((c.tc : Thread Cert.ReferenceAdaIdeal.nD Cert.ReferenceAdaIdeal.τ).loc Cert.ReferenceAdaIdeal.main_arg2))).2 = (fun _ => 1#1)

def Pre_KernelMod (m : (ℓ : Loc Cert.KernelMod.nD Cert.KernelMod.τ Cert.KernelMod.sig) → Buf (Elt Bits) ℓ) : Prop :=
  True

def Pre_KernelModIdeal (m : (ℓ : Loc Cert.KernelModIdeal.nD Cert.KernelModIdeal.τ Cert.KernelModIdeal.sig) → Buf (Elt Ideal) ℓ) : Prop :=
  True

def Pre_KernelModIdeal_finite_mod [hPre_finite_mod : Cert.Pre_finite_mod.Facts] (m : (ℓ : Loc Cert.KernelModIdeal.nD Cert.KernelModIdeal.τ Cert.KernelModIdeal.sig) → Buf (Elt Ideal) ℓ) : Prop :=
  ∀ c : Dev Cert.KernelModIdeal.nD,
    (Cert.Pre_finite_mod.fn (F := Ideal) (m ((c.tc : Thread Cert.KernelModIdeal.nD Cert.KernelModIdeal.τ).loc Cert.KernelModIdeal.main_arg0)) (m ((c.tc : Thread Cert.KernelModIdeal.nD Cert.KernelModIdeal.τ).loc Cert.KernelModIdeal.main_arg1)) (m ((c.tc : Thread Cert.KernelModIdeal.nD Cert.KernelModIdeal.τ).loc Cert.KernelModIdeal.main_arg2))).1 = (fun _ => 1#1)
    ∧ (Cert.Pre_finite_mod.fn (F := Ideal) (m ((c.tc : Thread Cert.KernelModIdeal.nD Cert.KernelModIdeal.τ).loc Cert.KernelModIdeal.main_arg0)) (m ((c.tc : Thread Cert.KernelModIdeal.nD Cert.KernelModIdeal.τ).loc Cert.KernelModIdeal.main_arg1)) (m ((c.tc : Thread Cert.KernelModIdeal.nD Cert.KernelModIdeal.τ).loc Cert.KernelModIdeal.main_arg2))).2 = (fun _ => 1#1)

def Pre_ReferenceModIdeal (m : (ℓ : Loc Cert.ReferenceModIdeal.nD Cert.ReferenceModIdeal.τ Cert.ReferenceModIdeal.sig) → Buf (Elt Ideal) ℓ) : Prop :=
  True

def Pre_ReferenceModIdeal_finite_mod [hPre_finite_mod : Cert.Pre_finite_mod.Facts] (m : (ℓ : Loc Cert.ReferenceModIdeal.nD Cert.ReferenceModIdeal.τ Cert.ReferenceModIdeal.sig) → Buf (Elt Ideal) ℓ) : Prop :=
  ∀ c : Dev Cert.ReferenceModIdeal.nD,
    (Cert.Pre_finite_mod.fn (F := Ideal) (m ((c.tc : Thread Cert.ReferenceModIdeal.nD Cert.ReferenceModIdeal.τ).loc Cert.ReferenceModIdeal.main_arg0)) (m ((c.tc : Thread Cert.ReferenceModIdeal.nD Cert.ReferenceModIdeal.τ).loc Cert.ReferenceModIdeal.main_arg1)) (m ((c.tc : Thread Cert.ReferenceModIdeal.nD Cert.ReferenceModIdeal.τ).loc Cert.ReferenceModIdeal.main_arg2))).1 = (fun _ => 1#1)
    ∧ (Cert.Pre_finite_mod.fn (F := Ideal) (m ((c.tc : Thread Cert.ReferenceModIdeal.nD Cert.ReferenceModIdeal.τ).loc Cert.ReferenceModIdeal.main_arg0)) (m ((c.tc : Thread Cert.ReferenceModIdeal.nD Cert.ReferenceModIdeal.τ).loc Cert.ReferenceModIdeal.main_arg1)) (m ((c.tc : Thread Cert.ReferenceModIdeal.nD Cert.ReferenceModIdeal.τ).loc Cert.ReferenceModIdeal.main_arg2))).2 = (fun _ => 1#1)

def Pre_KernelRms (m : (ℓ : Loc Cert.KernelRms.nD Cert.KernelRms.τ Cert.KernelRms.sig) → Buf (Elt Bits) ℓ) : Prop :=
  True

def Pre_KernelRmsIdeal (m : (ℓ : Loc Cert.KernelRmsIdeal.nD Cert.KernelRmsIdeal.τ Cert.KernelRmsIdeal.sig) → Buf (Elt Ideal) ℓ) : Prop :=
  True

def Pre_ReferenceRmsIdeal (m : (ℓ : Loc Cert.ReferenceRmsIdeal.nD Cert.ReferenceRmsIdeal.τ Cert.ReferenceRmsIdeal.sig) → Buf (Elt Ideal) ℓ) : Prop :=
  True

def Pre_KernelNorm (m : (ℓ : Loc Cert.KernelNorm.nD Cert.KernelNorm.τ Cert.KernelNorm.sig) → Buf (Elt Bits) ℓ) : Prop :=
  True

def Pre_KernelNormIdeal (m : (ℓ : Loc Cert.KernelNormIdeal.nD Cert.KernelNormIdeal.τ Cert.KernelNormIdeal.sig) → Buf (Elt Ideal) ℓ) : Prop :=
  True

def Pre_ReferenceNormIdeal (m : (ℓ : Loc Cert.ReferenceNormIdeal.nD Cert.ReferenceNormIdeal.τ Cert.ReferenceNormIdeal.sig) → Buf (Elt Ideal) ℓ) : Prop :=
  True

def Pre_KernelAct (m : (ℓ : Loc Cert.KernelAct.nD Cert.KernelAct.τ Cert.KernelAct.sig) → Buf (Elt Bits) ℓ) : Prop :=
  True

def Pre_KernelActIdeal (m : (ℓ : Loc Cert.KernelActIdeal.nD Cert.KernelActIdeal.τ Cert.KernelActIdeal.sig) → Buf (Elt Ideal) ℓ) : Prop :=
  True

def Pre_ReferenceActIdeal (m : (ℓ : Loc Cert.ReferenceActIdeal.nD Cert.ReferenceActIdeal.τ Cert.ReferenceActIdeal.sig) → Buf (Elt Ideal) ℓ) : Prop :=
  True

def Pre_KernelSums (m : (ℓ : Loc Cert.KernelSums.nD Cert.KernelSums.τ Cert.KernelSums.sig) → Buf (Elt Bits) ℓ) : Prop :=
  True

def Pre_KernelSumsIdeal (m : (ℓ : Loc Cert.KernelSumsIdeal.nD Cert.KernelSumsIdeal.τ Cert.KernelSumsIdeal.sig) → Buf (Elt Ideal) ℓ) : Prop :=
  True

def Pre_KernelSumsIdeal_finite_sums [hPre_finite_sums : Cert.Pre_finite_sums.Facts] (m : (ℓ : Loc Cert.KernelSumsIdeal.nD Cert.KernelSumsIdeal.τ Cert.KernelSumsIdeal.sig) → Buf (Elt Ideal) ℓ) : Prop :=
  ∀ c : Dev Cert.KernelSumsIdeal.nD,
    (Cert.Pre_finite_sums.fn (F := Ideal) (m ((c.tc : Thread Cert.KernelSumsIdeal.nD Cert.KernelSumsIdeal.τ).loc Cert.KernelSumsIdeal.main_arg0)) (m ((c.tc : Thread Cert.KernelSumsIdeal.nD Cert.KernelSumsIdeal.τ).loc Cert.KernelSumsIdeal.main_arg1))).1 = (fun _ => 1#1)
    ∧ (Cert.Pre_finite_sums.fn (F := Ideal) (m ((c.tc : Thread Cert.KernelSumsIdeal.nD Cert.KernelSumsIdeal.τ).loc Cert.KernelSumsIdeal.main_arg0)) (m ((c.tc : Thread Cert.KernelSumsIdeal.nD Cert.KernelSumsIdeal.τ).loc Cert.KernelSumsIdeal.main_arg1))).2 = (fun _ => 1#1)

def Pre_ReferenceSumsIdeal (m : (ℓ : Loc Cert.ReferenceSumsIdeal.nD Cert.ReferenceSumsIdeal.τ Cert.ReferenceSumsIdeal.sig) → Buf (Elt Ideal) ℓ) : Prop :=
  True

def Pre_ReferenceSumsIdeal_finite_sums [hPre_finite_sums : Cert.Pre_finite_sums.Facts] (m : (ℓ : Loc Cert.ReferenceSumsIdeal.nD Cert.ReferenceSumsIdeal.τ Cert.ReferenceSumsIdeal.sig) → Buf (Elt Ideal) ℓ) : Prop :=
  ∀ c : Dev Cert.ReferenceSumsIdeal.nD,
    (Cert.Pre_finite_sums.fn (F := Ideal) (m ((c.tc : Thread Cert.ReferenceSumsIdeal.nD Cert.ReferenceSumsIdeal.τ).loc Cert.ReferenceSumsIdeal.main_arg0)) (m ((c.tc : Thread Cert.ReferenceSumsIdeal.nD Cert.ReferenceSumsIdeal.τ).loc Cert.ReferenceSumsIdeal.main_arg1))).1 = (fun _ => 1#1)
    ∧ (Cert.Pre_finite_sums.fn (F := Ideal) (m ((c.tc : Thread Cert.ReferenceSumsIdeal.nD Cert.ReferenceSumsIdeal.τ).loc Cert.ReferenceSumsIdeal.main_arg0)) (m ((c.tc : Thread Cert.ReferenceSumsIdeal.nD Cert.ReferenceSumsIdeal.τ).loc Cert.ReferenceSumsIdeal.main_arg1))).2 = (fun _ => 1#1)

def Pre_KernelProj (m : (ℓ : Loc Cert.KernelProj.nD Cert.KernelProj.τ Cert.KernelProj.sig) → Buf (Elt Bits) ℓ) : Prop :=
  True

def Pre_KernelProjIdeal (m : (ℓ : Loc Cert.KernelProjIdeal.nD Cert.KernelProjIdeal.τ Cert.KernelProjIdeal.sig) → Buf (Elt Ideal) ℓ) : Prop :=
  True

def Pre_ReferenceProjIdeal (m : (ℓ : Loc Cert.ReferenceProjIdeal.nD Cert.ReferenceProjIdeal.τ Cert.ReferenceProjIdeal.sig) → Buf (Elt Ideal) ℓ) : Prop :=
  True

def Pre_KernelOut (m : (ℓ : Loc Cert.KernelOut.nD Cert.KernelOut.τ Cert.KernelOut.sig) → Buf (Elt Bits) ℓ) : Prop :=
  True

def Pre_KernelOutIdeal (m : (ℓ : Loc Cert.KernelOutIdeal.nD Cert.KernelOutIdeal.τ Cert.KernelOutIdeal.sig) → Buf (Elt Ideal) ℓ) : Prop :=
  True

def Pre_ReferenceOutIdeal (m : (ℓ : Loc Cert.ReferenceOutIdeal.nD Cert.ReferenceOutIdeal.τ Cert.ReferenceOutIdeal.sig) → Buf (Elt Ideal) ℓ) : Prop :=
  True

def Pre_KernelDmix (m : (ℓ : Loc Cert.KernelDmix.nD Cert.KernelDmix.τ Cert.KernelDmix.sig) → Buf (Elt Bits) ℓ) : Prop :=
  True

def Pre_KernelDmixIdeal (m : (ℓ : Loc Cert.KernelDmixIdeal.nD Cert.KernelDmixIdeal.τ Cert.KernelDmixIdeal.sig) → Buf (Elt Ideal) ℓ) : Prop :=
  True

def Pre_ReferenceDmixIdeal (m : (ℓ : Loc Cert.ReferenceDmixIdeal.nD Cert.ReferenceDmixIdeal.τ Cert.ReferenceDmixIdeal.sig) → Buf (Elt Ideal) ℓ) : Prop :=
  True

def Pre_KernelWout (m : (ℓ : Loc Cert.KernelWout.nD Cert.KernelWout.τ Cert.KernelWout.sig) → Buf (Elt Bits) ℓ) : Prop :=
  True

def Pre_KernelWoutIdeal (m : (ℓ : Loc Cert.KernelWoutIdeal.nD Cert.KernelWoutIdeal.τ Cert.KernelWoutIdeal.sig) → Buf (Elt Ideal) ℓ) : Prop :=
  True

def Pre_ReferenceWoutIdeal (m : (ℓ : Loc Cert.ReferenceWoutIdeal.nD Cert.ReferenceWoutIdeal.τ Cert.ReferenceWoutIdeal.sig) → Buf (Elt Ideal) ℓ) : Prop :=
  True

def Pre_KernelFf (m : (ℓ : Loc Cert.KernelFf.nD Cert.KernelFf.τ Cert.KernelFf.sig) → Buf (Elt Bits) ℓ) : Prop :=
  True

def Pre_KernelFfIdeal (m : (ℓ : Loc Cert.KernelFfIdeal.nD Cert.KernelFfIdeal.τ Cert.KernelFfIdeal.sig) → Buf (Elt Ideal) ℓ) : Prop :=
  True

def Pre_ReferenceFfIdeal (m : (ℓ : Loc Cert.ReferenceFfIdeal.nD Cert.ReferenceFfIdeal.τ Cert.ReferenceFfIdeal.sig) → Buf (Elt Ideal) ℓ) : Prop :=
  True

def Pre_KernelWff (m : (ℓ : Loc Cert.KernelWff.nD Cert.KernelWff.τ Cert.KernelWff.sig) → Buf (Elt Bits) ℓ) : Prop :=
  True

def Pre_KernelWffIdeal (m : (ℓ : Loc Cert.KernelWffIdeal.nD Cert.KernelWffIdeal.τ Cert.KernelWffIdeal.sig) → Buf (Elt Ideal) ℓ) : Prop :=
  True

def Pre_ReferenceWffIdeal (m : (ℓ : Loc Cert.ReferenceWffIdeal.nD Cert.ReferenceWffIdeal.τ Cert.ReferenceWffIdeal.sig) → Buf (Elt Ideal) ℓ) : Prop :=
  True

def Pre_KernelWin (m : (ℓ : Loc Cert.KernelWin.nD Cert.KernelWin.τ Cert.KernelWin.sig) → Buf (Elt Bits) ℓ) : Prop :=
  True

def Pre_KernelWinIdeal (m : (ℓ : Loc Cert.KernelWinIdeal.nD Cert.KernelWinIdeal.τ Cert.KernelWinIdeal.sig) → Buf (Elt Ideal) ℓ) : Prop :=
  True

def Pre_ReferenceWinIdeal (m : (ℓ : Loc Cert.ReferenceWinIdeal.nD Cert.ReferenceWinIdeal.τ Cert.ReferenceWinIdeal.sig) → Buf (Elt Ideal) ℓ) : Prop :=
  True

def Pre_KernelWinb (m : (ℓ : Loc Cert.KernelWinb.nD Cert.KernelWinb.τ Cert.KernelWinb.sig) → Buf (Elt Bits) ℓ) : Prop :=
  True

def Pre_KernelWinbIdeal (m : (ℓ : Loc Cert.KernelWinbIdeal.nD Cert.KernelWinbIdeal.τ Cert.KernelWinbIdeal.sig) → Buf (Elt Ideal) ℓ) : Prop :=
  True

def Pre_ReferenceWinbIdeal (m : (ℓ : Loc Cert.ReferenceWinbIdeal.nD Cert.ReferenceWinbIdeal.τ Cert.ReferenceWinbIdeal.sig) → Buf (Elt Ideal) ℓ) : Prop :=
  True

def Pre_KernelWind (m : (ℓ : Loc Cert.KernelWind.nD Cert.KernelWind.τ Cert.KernelWind.sig) → Buf (Elt Bits) ℓ) : Prop :=
  True

def Pre_KernelWindIdeal (m : (ℓ : Loc Cert.KernelWindIdeal.nD Cert.KernelWindIdeal.τ Cert.KernelWindIdeal.sig) → Buf (Elt Ideal) ℓ) : Prop :=
  True

def Pre_ReferenceWindIdeal (m : (ℓ : Loc Cert.ReferenceWindIdeal.nD Cert.ReferenceWindIdeal.τ Cert.ReferenceWindIdeal.sig) → Buf (Elt Ideal) ℓ) : Prop :=
  True

def Pre_KernelFin (m : (ℓ : Loc Cert.KernelFin.nD Cert.KernelFin.τ Cert.KernelFin.sig) → Buf (Elt Bits) ℓ) : Prop :=
  True

def Pre_KernelFinIdeal (m : (ℓ : Loc Cert.KernelFinIdeal.nD Cert.KernelFinIdeal.τ Cert.KernelFinIdeal.sig) → Buf (Elt Ideal) ℓ) : Prop :=
  True

def Pre_ReferenceFinIdeal (m : (ℓ : Loc Cert.ReferenceFinIdeal.nD Cert.ReferenceFinIdeal.τ Cert.ReferenceFinIdeal.sig) → Buf (Elt Ideal) ℓ) : Prop :=
  True

def Pre_KernelWfin (m : (ℓ : Loc Cert.KernelWfin.nD Cert.KernelWfin.τ Cert.KernelWfin.sig) → Buf (Elt Bits) ℓ) : Prop :=
  True

def Pre_KernelWfinIdeal (m : (ℓ : Loc Cert.KernelWfinIdeal.nD Cert.KernelWfinIdeal.τ Cert.KernelWfinIdeal.sig) → Buf (Elt Ideal) ℓ) : Prop :=
  True

def Pre_ReferenceWfinIdeal (m : (ℓ : Loc Cert.ReferenceWfinIdeal.nD Cert.ReferenceWfinIdeal.τ Cert.ReferenceWfinIdeal.sig) → Buf (Elt Ideal) ℓ) : Prop :=
  True

def Pre_KernelDfin (m : (ℓ : Loc Cert.KernelDfin.nD Cert.KernelDfin.τ Cert.KernelDfin.sig) → Buf (Elt Bits) ℓ) : Prop :=
  True

def Pre_KernelDfinIdeal (m : (ℓ : Loc Cert.KernelDfinIdeal.nD Cert.KernelDfinIdeal.τ Cert.KernelDfinIdeal.sig) → Buf (Elt Ideal) ℓ) : Prop :=
  True

def Pre_ReferenceDfinIdeal (m : (ℓ : Loc Cert.ReferenceDfinIdeal.nD Cert.ReferenceDfinIdeal.τ Cert.ReferenceDfinIdeal.sig) → Buf (Elt Ideal) ℓ) : Prop :=
  True

def Pre_KernelDh (m : (ℓ : Loc Cert.KernelDh.nD Cert.KernelDh.τ Cert.KernelDh.sig) → Buf (Elt Bits) ℓ) : Prop :=
  True

def Pre_KernelDhIdeal (m : (ℓ : Loc Cert.KernelDhIdeal.nD Cert.KernelDhIdeal.τ Cert.KernelDhIdeal.sig) → Buf (Elt Ideal) ℓ) : Prop :=
  True

def Pre_ReferenceDhIdeal (m : (ℓ : Loc Cert.ReferenceDhIdeal.nD Cert.ReferenceDhIdeal.τ Cert.ReferenceDhIdeal.sig) → Buf (Elt Ideal) ℓ) : Prop :=
  True

def quiescent_KernelAtt [hKernelAtt : Cert.KernelAtt.Facts] : Prop :=
  ∀ (m : (ℓ : Loc Cert.KernelAtt.nD Cert.KernelAtt.τ Cert.KernelAtt.sig) → Buf (Elt Bits) ℓ) (g : Dev Cert.KernelAtt.nD → PrngReg), Pre_KernelAtt m →
    θ_run (Cert.KernelAtt.defs (F := Bits)) (onTc (τ := Cert.KernelAtt.τ) (Cert.KernelAtt.main (F := Bits))) ⟨m, fun _ => 0, g⟩ (fun r => (∀ c : Dev Cert.KernelAtt.nD,
      r.2.mem ((c.tc : Thread Cert.KernelAtt.nD Cert.KernelAtt.τ).loc Cert.KernelAtt.main_arg0) = m ((c.tc : Thread Cert.KernelAtt.nD Cert.KernelAtt.τ).loc Cert.KernelAtt.main_arg0)
      ∧ r.2.mem ((c.tc : Thread Cert.KernelAtt.nD Cert.KernelAtt.τ).loc Cert.KernelAtt.main_arg1) = m ((c.tc : Thread Cert.KernelAtt.nD Cert.KernelAtt.τ).loc Cert.KernelAtt.main_arg1)
      ∧ r.2.mem ((c.tc : Thread Cert.KernelAtt.nD Cert.KernelAtt.τ).loc Cert.KernelAtt.main_arg2) = m ((c.tc : Thread Cert.KernelAtt.nD Cert.KernelAtt.τ).loc Cert.KernelAtt.main_arg2)
      ∧ r.2.mem ((c.tc : Thread Cert.KernelAtt.nD Cert.KernelAtt.τ).loc Cert.KernelAtt.main_arg3) = m ((c.tc : Thread Cert.KernelAtt.nD Cert.KernelAtt.τ).loc Cert.KernelAtt.main_arg3)
      ∧ r.2.mem ((c.tc : Thread Cert.KernelAtt.nD Cert.KernelAtt.τ).loc Cert.KernelAtt.main_arg4) = m ((c.tc : Thread Cert.KernelAtt.nD Cert.KernelAtt.τ).loc Cert.KernelAtt.main_arg4))
      ∧ r.2.sem = fun _ => 0)

def quiescent_KernelAttIdeal [hKernelAttIdeal : Cert.KernelAttIdeal.Facts] : Prop :=
  ∀ (m : (ℓ : Loc Cert.KernelAttIdeal.nD Cert.KernelAttIdeal.τ Cert.KernelAttIdeal.sig) → Buf (Elt Ideal) ℓ) (g : Dev Cert.KernelAttIdeal.nD → PrngReg), Pre_KernelAttIdeal m →
    θ_run (Cert.KernelAttIdeal.defs (F := Ideal)) (onTc (τ := Cert.KernelAttIdeal.τ) (Cert.KernelAttIdeal.main (F := Ideal))) ⟨m, fun _ => 0, g⟩ (fun r => (∀ c : Dev Cert.KernelAttIdeal.nD,
      r.2.mem ((c.tc : Thread Cert.KernelAttIdeal.nD Cert.KernelAttIdeal.τ).loc Cert.KernelAttIdeal.main_arg0) = m ((c.tc : Thread Cert.KernelAttIdeal.nD Cert.KernelAttIdeal.τ).loc Cert.KernelAttIdeal.main_arg0)
      ∧ r.2.mem ((c.tc : Thread Cert.KernelAttIdeal.nD Cert.KernelAttIdeal.τ).loc Cert.KernelAttIdeal.main_arg1) = m ((c.tc : Thread Cert.KernelAttIdeal.nD Cert.KernelAttIdeal.τ).loc Cert.KernelAttIdeal.main_arg1)
      ∧ r.2.mem ((c.tc : Thread Cert.KernelAttIdeal.nD Cert.KernelAttIdeal.τ).loc Cert.KernelAttIdeal.main_arg2) = m ((c.tc : Thread Cert.KernelAttIdeal.nD Cert.KernelAttIdeal.τ).loc Cert.KernelAttIdeal.main_arg2)
      ∧ r.2.mem ((c.tc : Thread Cert.KernelAttIdeal.nD Cert.KernelAttIdeal.τ).loc Cert.KernelAttIdeal.main_arg3) = m ((c.tc : Thread Cert.KernelAttIdeal.nD Cert.KernelAttIdeal.τ).loc Cert.KernelAttIdeal.main_arg3)
      ∧ r.2.mem ((c.tc : Thread Cert.KernelAttIdeal.nD Cert.KernelAttIdeal.τ).loc Cert.KernelAttIdeal.main_arg4) = m ((c.tc : Thread Cert.KernelAttIdeal.nD Cert.KernelAttIdeal.τ).loc Cert.KernelAttIdeal.main_arg4))
      ∧ r.2.sem = fun _ => 0)

def quiescent_KernelAttIdeal_pre_finite_att [hKernelAttIdeal : Cert.KernelAttIdeal.Facts] [hPre_finite_att : Cert.Pre_finite_att.Facts] : Prop :=
  ∀ (m : (ℓ : Loc Cert.KernelAttIdeal.nD Cert.KernelAttIdeal.τ Cert.KernelAttIdeal.sig) → Buf (Elt Ideal) ℓ) (g : Dev Cert.KernelAttIdeal.nD → PrngReg), Pre_KernelAttIdeal_finite_att m →
    θ_run (Cert.KernelAttIdeal.defs (F := Ideal)) (onTc (τ := Cert.KernelAttIdeal.τ) (Cert.KernelAttIdeal.main (F := Ideal))) ⟨m, fun _ => 0, g⟩ (fun r => (∀ c : Dev Cert.KernelAttIdeal.nD,
      r.2.mem ((c.tc : Thread Cert.KernelAttIdeal.nD Cert.KernelAttIdeal.τ).loc Cert.KernelAttIdeal.main_arg0) = m ((c.tc : Thread Cert.KernelAttIdeal.nD Cert.KernelAttIdeal.τ).loc Cert.KernelAttIdeal.main_arg0)
      ∧ r.2.mem ((c.tc : Thread Cert.KernelAttIdeal.nD Cert.KernelAttIdeal.τ).loc Cert.KernelAttIdeal.main_arg1) = m ((c.tc : Thread Cert.KernelAttIdeal.nD Cert.KernelAttIdeal.τ).loc Cert.KernelAttIdeal.main_arg1)
      ∧ r.2.mem ((c.tc : Thread Cert.KernelAttIdeal.nD Cert.KernelAttIdeal.τ).loc Cert.KernelAttIdeal.main_arg2) = m ((c.tc : Thread Cert.KernelAttIdeal.nD Cert.KernelAttIdeal.τ).loc Cert.KernelAttIdeal.main_arg2)
      ∧ r.2.mem ((c.tc : Thread Cert.KernelAttIdeal.nD Cert.KernelAttIdeal.τ).loc Cert.KernelAttIdeal.main_arg3) = m ((c.tc : Thread Cert.KernelAttIdeal.nD Cert.KernelAttIdeal.τ).loc Cert.KernelAttIdeal.main_arg3)
      ∧ r.2.mem ((c.tc : Thread Cert.KernelAttIdeal.nD Cert.KernelAttIdeal.τ).loc Cert.KernelAttIdeal.main_arg4) = m ((c.tc : Thread Cert.KernelAttIdeal.nD Cert.KernelAttIdeal.τ).loc Cert.KernelAttIdeal.main_arg4))
      ∧ r.2.sem = fun _ => 0)

def quiescent_ReferenceAttIdeal [hReferenceAttIdeal : Cert.ReferenceAttIdeal.Facts] : Prop :=
  ∀ (m : (ℓ : Loc Cert.ReferenceAttIdeal.nD Cert.ReferenceAttIdeal.τ Cert.ReferenceAttIdeal.sig) → Buf (Elt Ideal) ℓ) (g : Dev Cert.ReferenceAttIdeal.nD → PrngReg), Pre_ReferenceAttIdeal m →
    θ_run (Cert.ReferenceAttIdeal.defs (F := Ideal)) (onTc (τ := Cert.ReferenceAttIdeal.τ) (Cert.ReferenceAttIdeal.main (F := Ideal))) ⟨m, fun _ => 0, g⟩ (fun r => (∀ c : Dev Cert.ReferenceAttIdeal.nD,
      r.2.mem ((c.tc : Thread Cert.ReferenceAttIdeal.nD Cert.ReferenceAttIdeal.τ).loc Cert.ReferenceAttIdeal.main_arg0) = m ((c.tc : Thread Cert.ReferenceAttIdeal.nD Cert.ReferenceAttIdeal.τ).loc Cert.ReferenceAttIdeal.main_arg0)
      ∧ r.2.mem ((c.tc : Thread Cert.ReferenceAttIdeal.nD Cert.ReferenceAttIdeal.τ).loc Cert.ReferenceAttIdeal.main_arg1) = m ((c.tc : Thread Cert.ReferenceAttIdeal.nD Cert.ReferenceAttIdeal.τ).loc Cert.ReferenceAttIdeal.main_arg1)
      ∧ r.2.mem ((c.tc : Thread Cert.ReferenceAttIdeal.nD Cert.ReferenceAttIdeal.τ).loc Cert.ReferenceAttIdeal.main_arg2) = m ((c.tc : Thread Cert.ReferenceAttIdeal.nD Cert.ReferenceAttIdeal.τ).loc Cert.ReferenceAttIdeal.main_arg2)
      ∧ r.2.mem ((c.tc : Thread Cert.ReferenceAttIdeal.nD Cert.ReferenceAttIdeal.τ).loc Cert.ReferenceAttIdeal.main_arg3) = m ((c.tc : Thread Cert.ReferenceAttIdeal.nD Cert.ReferenceAttIdeal.τ).loc Cert.ReferenceAttIdeal.main_arg3)
      ∧ r.2.mem ((c.tc : Thread Cert.ReferenceAttIdeal.nD Cert.ReferenceAttIdeal.τ).loc Cert.ReferenceAttIdeal.main_arg4) = m ((c.tc : Thread Cert.ReferenceAttIdeal.nD Cert.ReferenceAttIdeal.τ).loc Cert.ReferenceAttIdeal.main_arg4))
      ∧ r.2.sem = fun _ => 0)

def quiescent_ReferenceAttIdeal_pre_finite_att [hReferenceAttIdeal : Cert.ReferenceAttIdeal.Facts] [hPre_finite_att : Cert.Pre_finite_att.Facts] : Prop :=
  ∀ (m : (ℓ : Loc Cert.ReferenceAttIdeal.nD Cert.ReferenceAttIdeal.τ Cert.ReferenceAttIdeal.sig) → Buf (Elt Ideal) ℓ) (g : Dev Cert.ReferenceAttIdeal.nD → PrngReg), Pre_ReferenceAttIdeal_finite_att m →
    θ_run (Cert.ReferenceAttIdeal.defs (F := Ideal)) (onTc (τ := Cert.ReferenceAttIdeal.τ) (Cert.ReferenceAttIdeal.main (F := Ideal))) ⟨m, fun _ => 0, g⟩ (fun r => (∀ c : Dev Cert.ReferenceAttIdeal.nD,
      r.2.mem ((c.tc : Thread Cert.ReferenceAttIdeal.nD Cert.ReferenceAttIdeal.τ).loc Cert.ReferenceAttIdeal.main_arg0) = m ((c.tc : Thread Cert.ReferenceAttIdeal.nD Cert.ReferenceAttIdeal.τ).loc Cert.ReferenceAttIdeal.main_arg0)
      ∧ r.2.mem ((c.tc : Thread Cert.ReferenceAttIdeal.nD Cert.ReferenceAttIdeal.τ).loc Cert.ReferenceAttIdeal.main_arg1) = m ((c.tc : Thread Cert.ReferenceAttIdeal.nD Cert.ReferenceAttIdeal.τ).loc Cert.ReferenceAttIdeal.main_arg1)
      ∧ r.2.mem ((c.tc : Thread Cert.ReferenceAttIdeal.nD Cert.ReferenceAttIdeal.τ).loc Cert.ReferenceAttIdeal.main_arg2) = m ((c.tc : Thread Cert.ReferenceAttIdeal.nD Cert.ReferenceAttIdeal.τ).loc Cert.ReferenceAttIdeal.main_arg2)
      ∧ r.2.mem ((c.tc : Thread Cert.ReferenceAttIdeal.nD Cert.ReferenceAttIdeal.τ).loc Cert.ReferenceAttIdeal.main_arg3) = m ((c.tc : Thread Cert.ReferenceAttIdeal.nD Cert.ReferenceAttIdeal.τ).loc Cert.ReferenceAttIdeal.main_arg3)
      ∧ r.2.mem ((c.tc : Thread Cert.ReferenceAttIdeal.nD Cert.ReferenceAttIdeal.τ).loc Cert.ReferenceAttIdeal.main_arg4) = m ((c.tc : Thread Cert.ReferenceAttIdeal.nD Cert.ReferenceAttIdeal.τ).loc Cert.ReferenceAttIdeal.main_arg4))
      ∧ r.2.sem = fun _ => 0)

def quiescent_KernelIn [hKernelIn : Cert.KernelIn.Facts] : Prop :=
  ∀ (m : (ℓ : Loc Cert.KernelIn.nD Cert.KernelIn.τ Cert.KernelIn.sig) → Buf (Elt Bits) ℓ) (g : Dev Cert.KernelIn.nD → PrngReg), Pre_KernelIn m →
    θ_run (Cert.KernelIn.defs (F := Bits)) (onTc (τ := Cert.KernelIn.τ) (Cert.KernelIn.main (F := Bits))) ⟨m, fun _ => 0, g⟩ (fun r => (∀ c : Dev Cert.KernelIn.nD,
      r.2.mem ((c.tc : Thread Cert.KernelIn.nD Cert.KernelIn.τ).loc Cert.KernelIn.main_arg0) = m ((c.tc : Thread Cert.KernelIn.nD Cert.KernelIn.τ).loc Cert.KernelIn.main_arg0)
      ∧ r.2.mem ((c.tc : Thread Cert.KernelIn.nD Cert.KernelIn.τ).loc Cert.KernelIn.main_arg1) = m ((c.tc : Thread Cert.KernelIn.nD Cert.KernelIn.τ).loc Cert.KernelIn.main_arg1)
      ∧ r.2.mem ((c.tc : Thread Cert.KernelIn.nD Cert.KernelIn.τ).loc Cert.KernelIn.main_arg2) = m ((c.tc : Thread Cert.KernelIn.nD Cert.KernelIn.τ).loc Cert.KernelIn.main_arg2)
      ∧ r.2.mem ((c.tc : Thread Cert.KernelIn.nD Cert.KernelIn.τ).loc Cert.KernelIn.main_arg3) = m ((c.tc : Thread Cert.KernelIn.nD Cert.KernelIn.τ).loc Cert.KernelIn.main_arg3)
      ∧ r.2.mem ((c.tc : Thread Cert.KernelIn.nD Cert.KernelIn.τ).loc Cert.KernelIn.main_arg4) = m ((c.tc : Thread Cert.KernelIn.nD Cert.KernelIn.τ).loc Cert.KernelIn.main_arg4))
      ∧ r.2.sem = fun _ => 0)

def quiescent_KernelInIdeal [hKernelInIdeal : Cert.KernelInIdeal.Facts] : Prop :=
  ∀ (m : (ℓ : Loc Cert.KernelInIdeal.nD Cert.KernelInIdeal.τ Cert.KernelInIdeal.sig) → Buf (Elt Ideal) ℓ) (g : Dev Cert.KernelInIdeal.nD → PrngReg), Pre_KernelInIdeal m →
    θ_run (Cert.KernelInIdeal.defs (F := Ideal)) (onTc (τ := Cert.KernelInIdeal.τ) (Cert.KernelInIdeal.main (F := Ideal))) ⟨m, fun _ => 0, g⟩ (fun r => (∀ c : Dev Cert.KernelInIdeal.nD,
      r.2.mem ((c.tc : Thread Cert.KernelInIdeal.nD Cert.KernelInIdeal.τ).loc Cert.KernelInIdeal.main_arg0) = m ((c.tc : Thread Cert.KernelInIdeal.nD Cert.KernelInIdeal.τ).loc Cert.KernelInIdeal.main_arg0)
      ∧ r.2.mem ((c.tc : Thread Cert.KernelInIdeal.nD Cert.KernelInIdeal.τ).loc Cert.KernelInIdeal.main_arg1) = m ((c.tc : Thread Cert.KernelInIdeal.nD Cert.KernelInIdeal.τ).loc Cert.KernelInIdeal.main_arg1)
      ∧ r.2.mem ((c.tc : Thread Cert.KernelInIdeal.nD Cert.KernelInIdeal.τ).loc Cert.KernelInIdeal.main_arg2) = m ((c.tc : Thread Cert.KernelInIdeal.nD Cert.KernelInIdeal.τ).loc Cert.KernelInIdeal.main_arg2)
      ∧ r.2.mem ((c.tc : Thread Cert.KernelInIdeal.nD Cert.KernelInIdeal.τ).loc Cert.KernelInIdeal.main_arg3) = m ((c.tc : Thread Cert.KernelInIdeal.nD Cert.KernelInIdeal.τ).loc Cert.KernelInIdeal.main_arg3)
      ∧ r.2.mem ((c.tc : Thread Cert.KernelInIdeal.nD Cert.KernelInIdeal.τ).loc Cert.KernelInIdeal.main_arg4) = m ((c.tc : Thread Cert.KernelInIdeal.nD Cert.KernelInIdeal.τ).loc Cert.KernelInIdeal.main_arg4))
      ∧ r.2.sem = fun _ => 0)

def quiescent_ReferenceInIdeal [hReferenceInIdeal : Cert.ReferenceInIdeal.Facts] : Prop :=
  ∀ (m : (ℓ : Loc Cert.ReferenceInIdeal.nD Cert.ReferenceInIdeal.τ Cert.ReferenceInIdeal.sig) → Buf (Elt Ideal) ℓ) (g : Dev Cert.ReferenceInIdeal.nD → PrngReg), Pre_ReferenceInIdeal m →
    θ_run (Cert.ReferenceInIdeal.defs (F := Ideal)) (onTc (τ := Cert.ReferenceInIdeal.τ) (Cert.ReferenceInIdeal.main (F := Ideal))) ⟨m, fun _ => 0, g⟩ (fun r => (∀ c : Dev Cert.ReferenceInIdeal.nD,
      r.2.mem ((c.tc : Thread Cert.ReferenceInIdeal.nD Cert.ReferenceInIdeal.τ).loc Cert.ReferenceInIdeal.main_arg0) = m ((c.tc : Thread Cert.ReferenceInIdeal.nD Cert.ReferenceInIdeal.τ).loc Cert.ReferenceInIdeal.main_arg0)
      ∧ r.2.mem ((c.tc : Thread Cert.ReferenceInIdeal.nD Cert.ReferenceInIdeal.τ).loc Cert.ReferenceInIdeal.main_arg1) = m ((c.tc : Thread Cert.ReferenceInIdeal.nD Cert.ReferenceInIdeal.τ).loc Cert.ReferenceInIdeal.main_arg1)
      ∧ r.2.mem ((c.tc : Thread Cert.ReferenceInIdeal.nD Cert.ReferenceInIdeal.τ).loc Cert.ReferenceInIdeal.main_arg2) = m ((c.tc : Thread Cert.ReferenceInIdeal.nD Cert.ReferenceInIdeal.τ).loc Cert.ReferenceInIdeal.main_arg2)
      ∧ r.2.mem ((c.tc : Thread Cert.ReferenceInIdeal.nD Cert.ReferenceInIdeal.τ).loc Cert.ReferenceInIdeal.main_arg3) = m ((c.tc : Thread Cert.ReferenceInIdeal.nD Cert.ReferenceInIdeal.τ).loc Cert.ReferenceInIdeal.main_arg3)
      ∧ r.2.mem ((c.tc : Thread Cert.ReferenceInIdeal.nD Cert.ReferenceInIdeal.τ).loc Cert.ReferenceInIdeal.main_arg4) = m ((c.tc : Thread Cert.ReferenceInIdeal.nD Cert.ReferenceInIdeal.τ).loc Cert.ReferenceInIdeal.main_arg4))
      ∧ r.2.sem = fun _ => 0)

def quiescent_KernelMix [hKernelMix : Cert.KernelMix.Facts] : Prop :=
  ∀ (m : (ℓ : Loc Cert.KernelMix.nD Cert.KernelMix.τ Cert.KernelMix.sig) → Buf (Elt Bits) ℓ) (g : Dev Cert.KernelMix.nD → PrngReg), Pre_KernelMix m →
    θ_run (Cert.KernelMix.defs (F := Bits)) (onTc (τ := Cert.KernelMix.τ) (Cert.KernelMix.main (F := Bits))) ⟨m, fun _ => 0, g⟩ (fun r => (∀ c : Dev Cert.KernelMix.nD,
      r.2.mem ((c.tc : Thread Cert.KernelMix.nD Cert.KernelMix.τ).loc Cert.KernelMix.main_arg0) = m ((c.tc : Thread Cert.KernelMix.nD Cert.KernelMix.τ).loc Cert.KernelMix.main_arg0)
      ∧ r.2.mem ((c.tc : Thread Cert.KernelMix.nD Cert.KernelMix.τ).loc Cert.KernelMix.main_arg1) = m ((c.tc : Thread Cert.KernelMix.nD Cert.KernelMix.τ).loc Cert.KernelMix.main_arg1)
      ∧ r.2.mem ((c.tc : Thread Cert.KernelMix.nD Cert.KernelMix.τ).loc Cert.KernelMix.main_arg2) = m ((c.tc : Thread Cert.KernelMix.nD Cert.KernelMix.τ).loc Cert.KernelMix.main_arg2)
      ∧ r.2.mem ((c.tc : Thread Cert.KernelMix.nD Cert.KernelMix.τ).loc Cert.KernelMix.main_arg3) = m ((c.tc : Thread Cert.KernelMix.nD Cert.KernelMix.τ).loc Cert.KernelMix.main_arg3)
      ∧ r.2.mem ((c.tc : Thread Cert.KernelMix.nD Cert.KernelMix.τ).loc Cert.KernelMix.main_arg4) = m ((c.tc : Thread Cert.KernelMix.nD Cert.KernelMix.τ).loc Cert.KernelMix.main_arg4)
      ∧ r.2.mem ((c.tc : Thread Cert.KernelMix.nD Cert.KernelMix.τ).loc Cert.KernelMix.main_arg5) = m ((c.tc : Thread Cert.KernelMix.nD Cert.KernelMix.τ).loc Cert.KernelMix.main_arg5))
      ∧ r.2.sem = fun _ => 0)

def quiescent_KernelMixIdeal [hKernelMixIdeal : Cert.KernelMixIdeal.Facts] : Prop :=
  ∀ (m : (ℓ : Loc Cert.KernelMixIdeal.nD Cert.KernelMixIdeal.τ Cert.KernelMixIdeal.sig) → Buf (Elt Ideal) ℓ) (g : Dev Cert.KernelMixIdeal.nD → PrngReg), Pre_KernelMixIdeal m →
    θ_run (Cert.KernelMixIdeal.defs (F := Ideal)) (onTc (τ := Cert.KernelMixIdeal.τ) (Cert.KernelMixIdeal.main (F := Ideal))) ⟨m, fun _ => 0, g⟩ (fun r => (∀ c : Dev Cert.KernelMixIdeal.nD,
      r.2.mem ((c.tc : Thread Cert.KernelMixIdeal.nD Cert.KernelMixIdeal.τ).loc Cert.KernelMixIdeal.main_arg0) = m ((c.tc : Thread Cert.KernelMixIdeal.nD Cert.KernelMixIdeal.τ).loc Cert.KernelMixIdeal.main_arg0)
      ∧ r.2.mem ((c.tc : Thread Cert.KernelMixIdeal.nD Cert.KernelMixIdeal.τ).loc Cert.KernelMixIdeal.main_arg1) = m ((c.tc : Thread Cert.KernelMixIdeal.nD Cert.KernelMixIdeal.τ).loc Cert.KernelMixIdeal.main_arg1)
      ∧ r.2.mem ((c.tc : Thread Cert.KernelMixIdeal.nD Cert.KernelMixIdeal.τ).loc Cert.KernelMixIdeal.main_arg2) = m ((c.tc : Thread Cert.KernelMixIdeal.nD Cert.KernelMixIdeal.τ).loc Cert.KernelMixIdeal.main_arg2)
      ∧ r.2.mem ((c.tc : Thread Cert.KernelMixIdeal.nD Cert.KernelMixIdeal.τ).loc Cert.KernelMixIdeal.main_arg3) = m ((c.tc : Thread Cert.KernelMixIdeal.nD Cert.KernelMixIdeal.τ).loc Cert.KernelMixIdeal.main_arg3)
      ∧ r.2.mem ((c.tc : Thread Cert.KernelMixIdeal.nD Cert.KernelMixIdeal.τ).loc Cert.KernelMixIdeal.main_arg4) = m ((c.tc : Thread Cert.KernelMixIdeal.nD Cert.KernelMixIdeal.τ).loc Cert.KernelMixIdeal.main_arg4)
      ∧ r.2.mem ((c.tc : Thread Cert.KernelMixIdeal.nD Cert.KernelMixIdeal.τ).loc Cert.KernelMixIdeal.main_arg5) = m ((c.tc : Thread Cert.KernelMixIdeal.nD Cert.KernelMixIdeal.τ).loc Cert.KernelMixIdeal.main_arg5))
      ∧ r.2.sem = fun _ => 0)

def quiescent_KernelMixIdeal_pre_finite_mix [hKernelMixIdeal : Cert.KernelMixIdeal.Facts] [hPre_finite_mix : Cert.Pre_finite_mix.Facts] : Prop :=
  ∀ (m : (ℓ : Loc Cert.KernelMixIdeal.nD Cert.KernelMixIdeal.τ Cert.KernelMixIdeal.sig) → Buf (Elt Ideal) ℓ) (g : Dev Cert.KernelMixIdeal.nD → PrngReg), Pre_KernelMixIdeal_finite_mix m →
    θ_run (Cert.KernelMixIdeal.defs (F := Ideal)) (onTc (τ := Cert.KernelMixIdeal.τ) (Cert.KernelMixIdeal.main (F := Ideal))) ⟨m, fun _ => 0, g⟩ (fun r => (∀ c : Dev Cert.KernelMixIdeal.nD,
      r.2.mem ((c.tc : Thread Cert.KernelMixIdeal.nD Cert.KernelMixIdeal.τ).loc Cert.KernelMixIdeal.main_arg0) = m ((c.tc : Thread Cert.KernelMixIdeal.nD Cert.KernelMixIdeal.τ).loc Cert.KernelMixIdeal.main_arg0)
      ∧ r.2.mem ((c.tc : Thread Cert.KernelMixIdeal.nD Cert.KernelMixIdeal.τ).loc Cert.KernelMixIdeal.main_arg1) = m ((c.tc : Thread Cert.KernelMixIdeal.nD Cert.KernelMixIdeal.τ).loc Cert.KernelMixIdeal.main_arg1)
      ∧ r.2.mem ((c.tc : Thread Cert.KernelMixIdeal.nD Cert.KernelMixIdeal.τ).loc Cert.KernelMixIdeal.main_arg2) = m ((c.tc : Thread Cert.KernelMixIdeal.nD Cert.KernelMixIdeal.τ).loc Cert.KernelMixIdeal.main_arg2)
      ∧ r.2.mem ((c.tc : Thread Cert.KernelMixIdeal.nD Cert.KernelMixIdeal.τ).loc Cert.KernelMixIdeal.main_arg3) = m ((c.tc : Thread Cert.KernelMixIdeal.nD Cert.KernelMixIdeal.τ).loc Cert.KernelMixIdeal.main_arg3)
      ∧ r.2.mem ((c.tc : Thread Cert.KernelMixIdeal.nD Cert.KernelMixIdeal.τ).loc Cert.KernelMixIdeal.main_arg4) = m ((c.tc : Thread Cert.KernelMixIdeal.nD Cert.KernelMixIdeal.τ).loc Cert.KernelMixIdeal.main_arg4)
      ∧ r.2.mem ((c.tc : Thread Cert.KernelMixIdeal.nD Cert.KernelMixIdeal.τ).loc Cert.KernelMixIdeal.main_arg5) = m ((c.tc : Thread Cert.KernelMixIdeal.nD Cert.KernelMixIdeal.τ).loc Cert.KernelMixIdeal.main_arg5))
      ∧ r.2.sem = fun _ => 0)

def quiescent_ReferenceMixIdeal [hReferenceMixIdeal : Cert.ReferenceMixIdeal.Facts] : Prop :=
  ∀ (m : (ℓ : Loc Cert.ReferenceMixIdeal.nD Cert.ReferenceMixIdeal.τ Cert.ReferenceMixIdeal.sig) → Buf (Elt Ideal) ℓ) (g : Dev Cert.ReferenceMixIdeal.nD → PrngReg), Pre_ReferenceMixIdeal m →
    θ_run (Cert.ReferenceMixIdeal.defs (F := Ideal)) (onTc (τ := Cert.ReferenceMixIdeal.τ) (Cert.ReferenceMixIdeal.main (F := Ideal))) ⟨m, fun _ => 0, g⟩ (fun r => (∀ c : Dev Cert.ReferenceMixIdeal.nD,
      r.2.mem ((c.tc : Thread Cert.ReferenceMixIdeal.nD Cert.ReferenceMixIdeal.τ).loc Cert.ReferenceMixIdeal.main_arg0) = m ((c.tc : Thread Cert.ReferenceMixIdeal.nD Cert.ReferenceMixIdeal.τ).loc Cert.ReferenceMixIdeal.main_arg0)
      ∧ r.2.mem ((c.tc : Thread Cert.ReferenceMixIdeal.nD Cert.ReferenceMixIdeal.τ).loc Cert.ReferenceMixIdeal.main_arg1) = m ((c.tc : Thread Cert.ReferenceMixIdeal.nD Cert.ReferenceMixIdeal.τ).loc Cert.ReferenceMixIdeal.main_arg1)
      ∧ r.2.mem ((c.tc : Thread Cert.ReferenceMixIdeal.nD Cert.ReferenceMixIdeal.τ).loc Cert.ReferenceMixIdeal.main_arg2) = m ((c.tc : Thread Cert.ReferenceMixIdeal.nD Cert.ReferenceMixIdeal.τ).loc Cert.ReferenceMixIdeal.main_arg2)
      ∧ r.2.mem ((c.tc : Thread Cert.ReferenceMixIdeal.nD Cert.ReferenceMixIdeal.τ).loc Cert.ReferenceMixIdeal.main_arg3) = m ((c.tc : Thread Cert.ReferenceMixIdeal.nD Cert.ReferenceMixIdeal.τ).loc Cert.ReferenceMixIdeal.main_arg3)
      ∧ r.2.mem ((c.tc : Thread Cert.ReferenceMixIdeal.nD Cert.ReferenceMixIdeal.τ).loc Cert.ReferenceMixIdeal.main_arg4) = m ((c.tc : Thread Cert.ReferenceMixIdeal.nD Cert.ReferenceMixIdeal.τ).loc Cert.ReferenceMixIdeal.main_arg4)
      ∧ r.2.mem ((c.tc : Thread Cert.ReferenceMixIdeal.nD Cert.ReferenceMixIdeal.τ).loc Cert.ReferenceMixIdeal.main_arg5) = m ((c.tc : Thread Cert.ReferenceMixIdeal.nD Cert.ReferenceMixIdeal.τ).loc Cert.ReferenceMixIdeal.main_arg5))
      ∧ r.2.sem = fun _ => 0)

def quiescent_ReferenceMixIdeal_pre_finite_mix [hReferenceMixIdeal : Cert.ReferenceMixIdeal.Facts] [hPre_finite_mix : Cert.Pre_finite_mix.Facts] : Prop :=
  ∀ (m : (ℓ : Loc Cert.ReferenceMixIdeal.nD Cert.ReferenceMixIdeal.τ Cert.ReferenceMixIdeal.sig) → Buf (Elt Ideal) ℓ) (g : Dev Cert.ReferenceMixIdeal.nD → PrngReg), Pre_ReferenceMixIdeal_finite_mix m →
    θ_run (Cert.ReferenceMixIdeal.defs (F := Ideal)) (onTc (τ := Cert.ReferenceMixIdeal.τ) (Cert.ReferenceMixIdeal.main (F := Ideal))) ⟨m, fun _ => 0, g⟩ (fun r => (∀ c : Dev Cert.ReferenceMixIdeal.nD,
      r.2.mem ((c.tc : Thread Cert.ReferenceMixIdeal.nD Cert.ReferenceMixIdeal.τ).loc Cert.ReferenceMixIdeal.main_arg0) = m ((c.tc : Thread Cert.ReferenceMixIdeal.nD Cert.ReferenceMixIdeal.τ).loc Cert.ReferenceMixIdeal.main_arg0)
      ∧ r.2.mem ((c.tc : Thread Cert.ReferenceMixIdeal.nD Cert.ReferenceMixIdeal.τ).loc Cert.ReferenceMixIdeal.main_arg1) = m ((c.tc : Thread Cert.ReferenceMixIdeal.nD Cert.ReferenceMixIdeal.τ).loc Cert.ReferenceMixIdeal.main_arg1)
      ∧ r.2.mem ((c.tc : Thread Cert.ReferenceMixIdeal.nD Cert.ReferenceMixIdeal.τ).loc Cert.ReferenceMixIdeal.main_arg2) = m ((c.tc : Thread Cert.ReferenceMixIdeal.nD Cert.ReferenceMixIdeal.τ).loc Cert.ReferenceMixIdeal.main_arg2)
      ∧ r.2.mem ((c.tc : Thread Cert.ReferenceMixIdeal.nD Cert.ReferenceMixIdeal.τ).loc Cert.ReferenceMixIdeal.main_arg3) = m ((c.tc : Thread Cert.ReferenceMixIdeal.nD Cert.ReferenceMixIdeal.τ).loc Cert.ReferenceMixIdeal.main_arg3)
      ∧ r.2.mem ((c.tc : Thread Cert.ReferenceMixIdeal.nD Cert.ReferenceMixIdeal.τ).loc Cert.ReferenceMixIdeal.main_arg4) = m ((c.tc : Thread Cert.ReferenceMixIdeal.nD Cert.ReferenceMixIdeal.τ).loc Cert.ReferenceMixIdeal.main_arg4)
      ∧ r.2.mem ((c.tc : Thread Cert.ReferenceMixIdeal.nD Cert.ReferenceMixIdeal.τ).loc Cert.ReferenceMixIdeal.main_arg5) = m ((c.tc : Thread Cert.ReferenceMixIdeal.nD Cert.ReferenceMixIdeal.τ).loc Cert.ReferenceMixIdeal.main_arg5))
      ∧ r.2.sem = fun _ => 0)

def quiescent_KernelLn1 [hKernelLn1 : Cert.KernelLn1.Facts] : Prop :=
  ∀ (m : (ℓ : Loc Cert.KernelLn1.nD Cert.KernelLn1.τ Cert.KernelLn1.sig) → Buf (Elt Bits) ℓ) (g : Dev Cert.KernelLn1.nD → PrngReg), Pre_KernelLn1 m →
    θ_run (Cert.KernelLn1.defs (F := Bits)) (onTc (τ := Cert.KernelLn1.τ) (Cert.KernelLn1.main (F := Bits))) ⟨m, fun _ => 0, g⟩ (fun r => (∀ c : Dev Cert.KernelLn1.nD,
      r.2.mem ((c.tc : Thread Cert.KernelLn1.nD Cert.KernelLn1.τ).loc Cert.KernelLn1.main_arg0) = m ((c.tc : Thread Cert.KernelLn1.nD Cert.KernelLn1.τ).loc Cert.KernelLn1.main_arg0)
      ∧ r.2.mem ((c.tc : Thread Cert.KernelLn1.nD Cert.KernelLn1.τ).loc Cert.KernelLn1.main_arg1) = m ((c.tc : Thread Cert.KernelLn1.nD Cert.KernelLn1.τ).loc Cert.KernelLn1.main_arg1)
      ∧ r.2.mem ((c.tc : Thread Cert.KernelLn1.nD Cert.KernelLn1.τ).loc Cert.KernelLn1.main_arg2) = m ((c.tc : Thread Cert.KernelLn1.nD Cert.KernelLn1.τ).loc Cert.KernelLn1.main_arg2)
      ∧ r.2.mem ((c.tc : Thread Cert.KernelLn1.nD Cert.KernelLn1.τ).loc Cert.KernelLn1.main_arg3) = m ((c.tc : Thread Cert.KernelLn1.nD Cert.KernelLn1.τ).loc Cert.KernelLn1.main_arg3)
      ∧ r.2.mem ((c.tc : Thread Cert.KernelLn1.nD Cert.KernelLn1.τ).loc Cert.KernelLn1.main_arg4) = m ((c.tc : Thread Cert.KernelLn1.nD Cert.KernelLn1.τ).loc Cert.KernelLn1.main_arg4)
      ∧ r.2.mem ((c.tc : Thread Cert.KernelLn1.nD Cert.KernelLn1.τ).loc Cert.KernelLn1.main_arg5) = m ((c.tc : Thread Cert.KernelLn1.nD Cert.KernelLn1.τ).loc Cert.KernelLn1.main_arg5)
      ∧ r.2.mem ((c.tc : Thread Cert.KernelLn1.nD Cert.KernelLn1.τ).loc Cert.KernelLn1.main_arg6) = m ((c.tc : Thread Cert.KernelLn1.nD Cert.KernelLn1.τ).loc Cert.KernelLn1.main_arg6)
      ∧ r.2.mem ((c.tc : Thread Cert.KernelLn1.nD Cert.KernelLn1.τ).loc Cert.KernelLn1.main_arg7) = m ((c.tc : Thread Cert.KernelLn1.nD Cert.KernelLn1.τ).loc Cert.KernelLn1.main_arg7)
      ∧ r.2.mem ((c.tc : Thread Cert.KernelLn1.nD Cert.KernelLn1.τ).loc Cert.KernelLn1.main_arg8) = m ((c.tc : Thread Cert.KernelLn1.nD Cert.KernelLn1.τ).loc Cert.KernelLn1.main_arg8))
      ∧ r.2.sem = fun _ => 0)

def quiescent_KernelLn1Ideal [hKernelLn1Ideal : Cert.KernelLn1Ideal.Facts] : Prop :=
  ∀ (m : (ℓ : Loc Cert.KernelLn1Ideal.nD Cert.KernelLn1Ideal.τ Cert.KernelLn1Ideal.sig) → Buf (Elt Ideal) ℓ) (g : Dev Cert.KernelLn1Ideal.nD → PrngReg), Pre_KernelLn1Ideal m →
    θ_run (Cert.KernelLn1Ideal.defs (F := Ideal)) (onTc (τ := Cert.KernelLn1Ideal.τ) (Cert.KernelLn1Ideal.main (F := Ideal))) ⟨m, fun _ => 0, g⟩ (fun r => (∀ c : Dev Cert.KernelLn1Ideal.nD,
      r.2.mem ((c.tc : Thread Cert.KernelLn1Ideal.nD Cert.KernelLn1Ideal.τ).loc Cert.KernelLn1Ideal.main_arg0) = m ((c.tc : Thread Cert.KernelLn1Ideal.nD Cert.KernelLn1Ideal.τ).loc Cert.KernelLn1Ideal.main_arg0)
      ∧ r.2.mem ((c.tc : Thread Cert.KernelLn1Ideal.nD Cert.KernelLn1Ideal.τ).loc Cert.KernelLn1Ideal.main_arg1) = m ((c.tc : Thread Cert.KernelLn1Ideal.nD Cert.KernelLn1Ideal.τ).loc Cert.KernelLn1Ideal.main_arg1)
      ∧ r.2.mem ((c.tc : Thread Cert.KernelLn1Ideal.nD Cert.KernelLn1Ideal.τ).loc Cert.KernelLn1Ideal.main_arg2) = m ((c.tc : Thread Cert.KernelLn1Ideal.nD Cert.KernelLn1Ideal.τ).loc Cert.KernelLn1Ideal.main_arg2)
      ∧ r.2.mem ((c.tc : Thread Cert.KernelLn1Ideal.nD Cert.KernelLn1Ideal.τ).loc Cert.KernelLn1Ideal.main_arg3) = m ((c.tc : Thread Cert.KernelLn1Ideal.nD Cert.KernelLn1Ideal.τ).loc Cert.KernelLn1Ideal.main_arg3)
      ∧ r.2.mem ((c.tc : Thread Cert.KernelLn1Ideal.nD Cert.KernelLn1Ideal.τ).loc Cert.KernelLn1Ideal.main_arg4) = m ((c.tc : Thread Cert.KernelLn1Ideal.nD Cert.KernelLn1Ideal.τ).loc Cert.KernelLn1Ideal.main_arg4)
      ∧ r.2.mem ((c.tc : Thread Cert.KernelLn1Ideal.nD Cert.KernelLn1Ideal.τ).loc Cert.KernelLn1Ideal.main_arg5) = m ((c.tc : Thread Cert.KernelLn1Ideal.nD Cert.KernelLn1Ideal.τ).loc Cert.KernelLn1Ideal.main_arg5)
      ∧ r.2.mem ((c.tc : Thread Cert.KernelLn1Ideal.nD Cert.KernelLn1Ideal.τ).loc Cert.KernelLn1Ideal.main_arg6) = m ((c.tc : Thread Cert.KernelLn1Ideal.nD Cert.KernelLn1Ideal.τ).loc Cert.KernelLn1Ideal.main_arg6)
      ∧ r.2.mem ((c.tc : Thread Cert.KernelLn1Ideal.nD Cert.KernelLn1Ideal.τ).loc Cert.KernelLn1Ideal.main_arg7) = m ((c.tc : Thread Cert.KernelLn1Ideal.nD Cert.KernelLn1Ideal.τ).loc Cert.KernelLn1Ideal.main_arg7)
      ∧ r.2.mem ((c.tc : Thread Cert.KernelLn1Ideal.nD Cert.KernelLn1Ideal.τ).loc Cert.KernelLn1Ideal.main_arg8) = m ((c.tc : Thread Cert.KernelLn1Ideal.nD Cert.KernelLn1Ideal.τ).loc Cert.KernelLn1Ideal.main_arg8))
      ∧ r.2.sem = fun _ => 0)

def quiescent_KernelLn1Ideal_pre_finite_ln1 [hKernelLn1Ideal : Cert.KernelLn1Ideal.Facts] [hPre_finite_ln1 : Cert.Pre_finite_ln1.Facts] : Prop :=
  ∀ (m : (ℓ : Loc Cert.KernelLn1Ideal.nD Cert.KernelLn1Ideal.τ Cert.KernelLn1Ideal.sig) → Buf (Elt Ideal) ℓ) (g : Dev Cert.KernelLn1Ideal.nD → PrngReg), Pre_KernelLn1Ideal_finite_ln1 m →
    θ_run (Cert.KernelLn1Ideal.defs (F := Ideal)) (onTc (τ := Cert.KernelLn1Ideal.τ) (Cert.KernelLn1Ideal.main (F := Ideal))) ⟨m, fun _ => 0, g⟩ (fun r => (∀ c : Dev Cert.KernelLn1Ideal.nD,
      r.2.mem ((c.tc : Thread Cert.KernelLn1Ideal.nD Cert.KernelLn1Ideal.τ).loc Cert.KernelLn1Ideal.main_arg0) = m ((c.tc : Thread Cert.KernelLn1Ideal.nD Cert.KernelLn1Ideal.τ).loc Cert.KernelLn1Ideal.main_arg0)
      ∧ r.2.mem ((c.tc : Thread Cert.KernelLn1Ideal.nD Cert.KernelLn1Ideal.τ).loc Cert.KernelLn1Ideal.main_arg1) = m ((c.tc : Thread Cert.KernelLn1Ideal.nD Cert.KernelLn1Ideal.τ).loc Cert.KernelLn1Ideal.main_arg1)
      ∧ r.2.mem ((c.tc : Thread Cert.KernelLn1Ideal.nD Cert.KernelLn1Ideal.τ).loc Cert.KernelLn1Ideal.main_arg2) = m ((c.tc : Thread Cert.KernelLn1Ideal.nD Cert.KernelLn1Ideal.τ).loc Cert.KernelLn1Ideal.main_arg2)
      ∧ r.2.mem ((c.tc : Thread Cert.KernelLn1Ideal.nD Cert.KernelLn1Ideal.τ).loc Cert.KernelLn1Ideal.main_arg3) = m ((c.tc : Thread Cert.KernelLn1Ideal.nD Cert.KernelLn1Ideal.τ).loc Cert.KernelLn1Ideal.main_arg3)
      ∧ r.2.mem ((c.tc : Thread Cert.KernelLn1Ideal.nD Cert.KernelLn1Ideal.τ).loc Cert.KernelLn1Ideal.main_arg4) = m ((c.tc : Thread Cert.KernelLn1Ideal.nD Cert.KernelLn1Ideal.τ).loc Cert.KernelLn1Ideal.main_arg4)
      ∧ r.2.mem ((c.tc : Thread Cert.KernelLn1Ideal.nD Cert.KernelLn1Ideal.τ).loc Cert.KernelLn1Ideal.main_arg5) = m ((c.tc : Thread Cert.KernelLn1Ideal.nD Cert.KernelLn1Ideal.τ).loc Cert.KernelLn1Ideal.main_arg5)
      ∧ r.2.mem ((c.tc : Thread Cert.KernelLn1Ideal.nD Cert.KernelLn1Ideal.τ).loc Cert.KernelLn1Ideal.main_arg6) = m ((c.tc : Thread Cert.KernelLn1Ideal.nD Cert.KernelLn1Ideal.τ).loc Cert.KernelLn1Ideal.main_arg6)
      ∧ r.2.mem ((c.tc : Thread Cert.KernelLn1Ideal.nD Cert.KernelLn1Ideal.τ).loc Cert.KernelLn1Ideal.main_arg7) = m ((c.tc : Thread Cert.KernelLn1Ideal.nD Cert.KernelLn1Ideal.τ).loc Cert.KernelLn1Ideal.main_arg7)
      ∧ r.2.mem ((c.tc : Thread Cert.KernelLn1Ideal.nD Cert.KernelLn1Ideal.τ).loc Cert.KernelLn1Ideal.main_arg8) = m ((c.tc : Thread Cert.KernelLn1Ideal.nD Cert.KernelLn1Ideal.τ).loc Cert.KernelLn1Ideal.main_arg8))
      ∧ r.2.sem = fun _ => 0)

def quiescent_ReferenceLn1Ideal [hReferenceLn1Ideal : Cert.ReferenceLn1Ideal.Facts] : Prop :=
  ∀ (m : (ℓ : Loc Cert.ReferenceLn1Ideal.nD Cert.ReferenceLn1Ideal.τ Cert.ReferenceLn1Ideal.sig) → Buf (Elt Ideal) ℓ) (g : Dev Cert.ReferenceLn1Ideal.nD → PrngReg), Pre_ReferenceLn1Ideal m →
    θ_run (Cert.ReferenceLn1Ideal.defs (F := Ideal)) (onTc (τ := Cert.ReferenceLn1Ideal.τ) (Cert.ReferenceLn1Ideal.main (F := Ideal))) ⟨m, fun _ => 0, g⟩ (fun r => (∀ c : Dev Cert.ReferenceLn1Ideal.nD,
      r.2.mem ((c.tc : Thread Cert.ReferenceLn1Ideal.nD Cert.ReferenceLn1Ideal.τ).loc Cert.ReferenceLn1Ideal.main_arg0) = m ((c.tc : Thread Cert.ReferenceLn1Ideal.nD Cert.ReferenceLn1Ideal.τ).loc Cert.ReferenceLn1Ideal.main_arg0)
      ∧ r.2.mem ((c.tc : Thread Cert.ReferenceLn1Ideal.nD Cert.ReferenceLn1Ideal.τ).loc Cert.ReferenceLn1Ideal.main_arg1) = m ((c.tc : Thread Cert.ReferenceLn1Ideal.nD Cert.ReferenceLn1Ideal.τ).loc Cert.ReferenceLn1Ideal.main_arg1)
      ∧ r.2.mem ((c.tc : Thread Cert.ReferenceLn1Ideal.nD Cert.ReferenceLn1Ideal.τ).loc Cert.ReferenceLn1Ideal.main_arg2) = m ((c.tc : Thread Cert.ReferenceLn1Ideal.nD Cert.ReferenceLn1Ideal.τ).loc Cert.ReferenceLn1Ideal.main_arg2)
      ∧ r.2.mem ((c.tc : Thread Cert.ReferenceLn1Ideal.nD Cert.ReferenceLn1Ideal.τ).loc Cert.ReferenceLn1Ideal.main_arg3) = m ((c.tc : Thread Cert.ReferenceLn1Ideal.nD Cert.ReferenceLn1Ideal.τ).loc Cert.ReferenceLn1Ideal.main_arg3)
      ∧ r.2.mem ((c.tc : Thread Cert.ReferenceLn1Ideal.nD Cert.ReferenceLn1Ideal.τ).loc Cert.ReferenceLn1Ideal.main_arg4) = m ((c.tc : Thread Cert.ReferenceLn1Ideal.nD Cert.ReferenceLn1Ideal.τ).loc Cert.ReferenceLn1Ideal.main_arg4)
      ∧ r.2.mem ((c.tc : Thread Cert.ReferenceLn1Ideal.nD Cert.ReferenceLn1Ideal.τ).loc Cert.ReferenceLn1Ideal.main_arg5) = m ((c.tc : Thread Cert.ReferenceLn1Ideal.nD Cert.ReferenceLn1Ideal.τ).loc Cert.ReferenceLn1Ideal.main_arg5)
      ∧ r.2.mem ((c.tc : Thread Cert.ReferenceLn1Ideal.nD Cert.ReferenceLn1Ideal.τ).loc Cert.ReferenceLn1Ideal.main_arg6) = m ((c.tc : Thread Cert.ReferenceLn1Ideal.nD Cert.ReferenceLn1Ideal.τ).loc Cert.ReferenceLn1Ideal.main_arg6)
      ∧ r.2.mem ((c.tc : Thread Cert.ReferenceLn1Ideal.nD Cert.ReferenceLn1Ideal.τ).loc Cert.ReferenceLn1Ideal.main_arg7) = m ((c.tc : Thread Cert.ReferenceLn1Ideal.nD Cert.ReferenceLn1Ideal.τ).loc Cert.ReferenceLn1Ideal.main_arg7)
      ∧ r.2.mem ((c.tc : Thread Cert.ReferenceLn1Ideal.nD Cert.ReferenceLn1Ideal.τ).loc Cert.ReferenceLn1Ideal.main_arg8) = m ((c.tc : Thread Cert.ReferenceLn1Ideal.nD Cert.ReferenceLn1Ideal.τ).loc Cert.ReferenceLn1Ideal.main_arg8))
      ∧ r.2.sem = fun _ => 0)

def quiescent_ReferenceLn1Ideal_pre_finite_ln1 [hReferenceLn1Ideal : Cert.ReferenceLn1Ideal.Facts] [hPre_finite_ln1 : Cert.Pre_finite_ln1.Facts] : Prop :=
  ∀ (m : (ℓ : Loc Cert.ReferenceLn1Ideal.nD Cert.ReferenceLn1Ideal.τ Cert.ReferenceLn1Ideal.sig) → Buf (Elt Ideal) ℓ) (g : Dev Cert.ReferenceLn1Ideal.nD → PrngReg), Pre_ReferenceLn1Ideal_finite_ln1 m →
    θ_run (Cert.ReferenceLn1Ideal.defs (F := Ideal)) (onTc (τ := Cert.ReferenceLn1Ideal.τ) (Cert.ReferenceLn1Ideal.main (F := Ideal))) ⟨m, fun _ => 0, g⟩ (fun r => (∀ c : Dev Cert.ReferenceLn1Ideal.nD,
      r.2.mem ((c.tc : Thread Cert.ReferenceLn1Ideal.nD Cert.ReferenceLn1Ideal.τ).loc Cert.ReferenceLn1Ideal.main_arg0) = m ((c.tc : Thread Cert.ReferenceLn1Ideal.nD Cert.ReferenceLn1Ideal.τ).loc Cert.ReferenceLn1Ideal.main_arg0)
      ∧ r.2.mem ((c.tc : Thread Cert.ReferenceLn1Ideal.nD Cert.ReferenceLn1Ideal.τ).loc Cert.ReferenceLn1Ideal.main_arg1) = m ((c.tc : Thread Cert.ReferenceLn1Ideal.nD Cert.ReferenceLn1Ideal.τ).loc Cert.ReferenceLn1Ideal.main_arg1)
      ∧ r.2.mem ((c.tc : Thread Cert.ReferenceLn1Ideal.nD Cert.ReferenceLn1Ideal.τ).loc Cert.ReferenceLn1Ideal.main_arg2) = m ((c.tc : Thread Cert.ReferenceLn1Ideal.nD Cert.ReferenceLn1Ideal.τ).loc Cert.ReferenceLn1Ideal.main_arg2)
      ∧ r.2.mem ((c.tc : Thread Cert.ReferenceLn1Ideal.nD Cert.ReferenceLn1Ideal.τ).loc Cert.ReferenceLn1Ideal.main_arg3) = m ((c.tc : Thread Cert.ReferenceLn1Ideal.nD Cert.ReferenceLn1Ideal.τ).loc Cert.ReferenceLn1Ideal.main_arg3)
      ∧ r.2.mem ((c.tc : Thread Cert.ReferenceLn1Ideal.nD Cert.ReferenceLn1Ideal.τ).loc Cert.ReferenceLn1Ideal.main_arg4) = m ((c.tc : Thread Cert.ReferenceLn1Ideal.nD Cert.ReferenceLn1Ideal.τ).loc Cert.ReferenceLn1Ideal.main_arg4)
      ∧ r.2.mem ((c.tc : Thread Cert.ReferenceLn1Ideal.nD Cert.ReferenceLn1Ideal.τ).loc Cert.ReferenceLn1Ideal.main_arg5) = m ((c.tc : Thread Cert.ReferenceLn1Ideal.nD Cert.ReferenceLn1Ideal.τ).loc Cert.ReferenceLn1Ideal.main_arg5)
      ∧ r.2.mem ((c.tc : Thread Cert.ReferenceLn1Ideal.nD Cert.ReferenceLn1Ideal.τ).loc Cert.ReferenceLn1Ideal.main_arg6) = m ((c.tc : Thread Cert.ReferenceLn1Ideal.nD Cert.ReferenceLn1Ideal.τ).loc Cert.ReferenceLn1Ideal.main_arg6)
      ∧ r.2.mem ((c.tc : Thread Cert.ReferenceLn1Ideal.nD Cert.ReferenceLn1Ideal.τ).loc Cert.ReferenceLn1Ideal.main_arg7) = m ((c.tc : Thread Cert.ReferenceLn1Ideal.nD Cert.ReferenceLn1Ideal.τ).loc Cert.ReferenceLn1Ideal.main_arg7)
      ∧ r.2.mem ((c.tc : Thread Cert.ReferenceLn1Ideal.nD Cert.ReferenceLn1Ideal.τ).loc Cert.ReferenceLn1Ideal.main_arg8) = m ((c.tc : Thread Cert.ReferenceLn1Ideal.nD Cert.ReferenceLn1Ideal.τ).loc Cert.ReferenceLn1Ideal.main_arg8))
      ∧ r.2.sem = fun _ => 0)

def quiescent_KernelLn2 [hKernelLn2 : Cert.KernelLn2.Facts] : Prop :=
  ∀ (m : (ℓ : Loc Cert.KernelLn2.nD Cert.KernelLn2.τ Cert.KernelLn2.sig) → Buf (Elt Bits) ℓ) (g : Dev Cert.KernelLn2.nD → PrngReg), Pre_KernelLn2 m →
    θ_run (Cert.KernelLn2.defs (F := Bits)) (onTc (τ := Cert.KernelLn2.τ) (Cert.KernelLn2.main (F := Bits))) ⟨m, fun _ => 0, g⟩ (fun r => (∀ c : Dev Cert.KernelLn2.nD,
      r.2.mem ((c.tc : Thread Cert.KernelLn2.nD Cert.KernelLn2.τ).loc Cert.KernelLn2.main_arg0) = m ((c.tc : Thread Cert.KernelLn2.nD Cert.KernelLn2.τ).loc Cert.KernelLn2.main_arg0)
      ∧ r.2.mem ((c.tc : Thread Cert.KernelLn2.nD Cert.KernelLn2.τ).loc Cert.KernelLn2.main_arg1) = m ((c.tc : Thread Cert.KernelLn2.nD Cert.KernelLn2.τ).loc Cert.KernelLn2.main_arg1)
      ∧ r.2.mem ((c.tc : Thread Cert.KernelLn2.nD Cert.KernelLn2.τ).loc Cert.KernelLn2.main_arg2) = m ((c.tc : Thread Cert.KernelLn2.nD Cert.KernelLn2.τ).loc Cert.KernelLn2.main_arg2)
      ∧ r.2.mem ((c.tc : Thread Cert.KernelLn2.nD Cert.KernelLn2.τ).loc Cert.KernelLn2.main_arg3) = m ((c.tc : Thread Cert.KernelLn2.nD Cert.KernelLn2.τ).loc Cert.KernelLn2.main_arg3)
      ∧ r.2.mem ((c.tc : Thread Cert.KernelLn2.nD Cert.KernelLn2.τ).loc Cert.KernelLn2.main_arg4) = m ((c.tc : Thread Cert.KernelLn2.nD Cert.KernelLn2.τ).loc Cert.KernelLn2.main_arg4)
      ∧ r.2.mem ((c.tc : Thread Cert.KernelLn2.nD Cert.KernelLn2.τ).loc Cert.KernelLn2.main_arg5) = m ((c.tc : Thread Cert.KernelLn2.nD Cert.KernelLn2.τ).loc Cert.KernelLn2.main_arg5))
      ∧ r.2.sem = fun _ => 0)

def quiescent_KernelLn2Ideal [hKernelLn2Ideal : Cert.KernelLn2Ideal.Facts] : Prop :=
  ∀ (m : (ℓ : Loc Cert.KernelLn2Ideal.nD Cert.KernelLn2Ideal.τ Cert.KernelLn2Ideal.sig) → Buf (Elt Ideal) ℓ) (g : Dev Cert.KernelLn2Ideal.nD → PrngReg), Pre_KernelLn2Ideal m →
    θ_run (Cert.KernelLn2Ideal.defs (F := Ideal)) (onTc (τ := Cert.KernelLn2Ideal.τ) (Cert.KernelLn2Ideal.main (F := Ideal))) ⟨m, fun _ => 0, g⟩ (fun r => (∀ c : Dev Cert.KernelLn2Ideal.nD,
      r.2.mem ((c.tc : Thread Cert.KernelLn2Ideal.nD Cert.KernelLn2Ideal.τ).loc Cert.KernelLn2Ideal.main_arg0) = m ((c.tc : Thread Cert.KernelLn2Ideal.nD Cert.KernelLn2Ideal.τ).loc Cert.KernelLn2Ideal.main_arg0)
      ∧ r.2.mem ((c.tc : Thread Cert.KernelLn2Ideal.nD Cert.KernelLn2Ideal.τ).loc Cert.KernelLn2Ideal.main_arg1) = m ((c.tc : Thread Cert.KernelLn2Ideal.nD Cert.KernelLn2Ideal.τ).loc Cert.KernelLn2Ideal.main_arg1)
      ∧ r.2.mem ((c.tc : Thread Cert.KernelLn2Ideal.nD Cert.KernelLn2Ideal.τ).loc Cert.KernelLn2Ideal.main_arg2) = m ((c.tc : Thread Cert.KernelLn2Ideal.nD Cert.KernelLn2Ideal.τ).loc Cert.KernelLn2Ideal.main_arg2)
      ∧ r.2.mem ((c.tc : Thread Cert.KernelLn2Ideal.nD Cert.KernelLn2Ideal.τ).loc Cert.KernelLn2Ideal.main_arg3) = m ((c.tc : Thread Cert.KernelLn2Ideal.nD Cert.KernelLn2Ideal.τ).loc Cert.KernelLn2Ideal.main_arg3)
      ∧ r.2.mem ((c.tc : Thread Cert.KernelLn2Ideal.nD Cert.KernelLn2Ideal.τ).loc Cert.KernelLn2Ideal.main_arg4) = m ((c.tc : Thread Cert.KernelLn2Ideal.nD Cert.KernelLn2Ideal.τ).loc Cert.KernelLn2Ideal.main_arg4)
      ∧ r.2.mem ((c.tc : Thread Cert.KernelLn2Ideal.nD Cert.KernelLn2Ideal.τ).loc Cert.KernelLn2Ideal.main_arg5) = m ((c.tc : Thread Cert.KernelLn2Ideal.nD Cert.KernelLn2Ideal.τ).loc Cert.KernelLn2Ideal.main_arg5))
      ∧ r.2.sem = fun _ => 0)

def quiescent_KernelLn2Ideal_pre_finite_ln2 [hKernelLn2Ideal : Cert.KernelLn2Ideal.Facts] [hPre_finite_ln2 : Cert.Pre_finite_ln2.Facts] : Prop :=
  ∀ (m : (ℓ : Loc Cert.KernelLn2Ideal.nD Cert.KernelLn2Ideal.τ Cert.KernelLn2Ideal.sig) → Buf (Elt Ideal) ℓ) (g : Dev Cert.KernelLn2Ideal.nD → PrngReg), Pre_KernelLn2Ideal_finite_ln2 m →
    θ_run (Cert.KernelLn2Ideal.defs (F := Ideal)) (onTc (τ := Cert.KernelLn2Ideal.τ) (Cert.KernelLn2Ideal.main (F := Ideal))) ⟨m, fun _ => 0, g⟩ (fun r => (∀ c : Dev Cert.KernelLn2Ideal.nD,
      r.2.mem ((c.tc : Thread Cert.KernelLn2Ideal.nD Cert.KernelLn2Ideal.τ).loc Cert.KernelLn2Ideal.main_arg0) = m ((c.tc : Thread Cert.KernelLn2Ideal.nD Cert.KernelLn2Ideal.τ).loc Cert.KernelLn2Ideal.main_arg0)
      ∧ r.2.mem ((c.tc : Thread Cert.KernelLn2Ideal.nD Cert.KernelLn2Ideal.τ).loc Cert.KernelLn2Ideal.main_arg1) = m ((c.tc : Thread Cert.KernelLn2Ideal.nD Cert.KernelLn2Ideal.τ).loc Cert.KernelLn2Ideal.main_arg1)
      ∧ r.2.mem ((c.tc : Thread Cert.KernelLn2Ideal.nD Cert.KernelLn2Ideal.τ).loc Cert.KernelLn2Ideal.main_arg2) = m ((c.tc : Thread Cert.KernelLn2Ideal.nD Cert.KernelLn2Ideal.τ).loc Cert.KernelLn2Ideal.main_arg2)
      ∧ r.2.mem ((c.tc : Thread Cert.KernelLn2Ideal.nD Cert.KernelLn2Ideal.τ).loc Cert.KernelLn2Ideal.main_arg3) = m ((c.tc : Thread Cert.KernelLn2Ideal.nD Cert.KernelLn2Ideal.τ).loc Cert.KernelLn2Ideal.main_arg3)
      ∧ r.2.mem ((c.tc : Thread Cert.KernelLn2Ideal.nD Cert.KernelLn2Ideal.τ).loc Cert.KernelLn2Ideal.main_arg4) = m ((c.tc : Thread Cert.KernelLn2Ideal.nD Cert.KernelLn2Ideal.τ).loc Cert.KernelLn2Ideal.main_arg4)
      ∧ r.2.mem ((c.tc : Thread Cert.KernelLn2Ideal.nD Cert.KernelLn2Ideal.τ).loc Cert.KernelLn2Ideal.main_arg5) = m ((c.tc : Thread Cert.KernelLn2Ideal.nD Cert.KernelLn2Ideal.τ).loc Cert.KernelLn2Ideal.main_arg5))
      ∧ r.2.sem = fun _ => 0)

def quiescent_ReferenceLn2Ideal [hReferenceLn2Ideal : Cert.ReferenceLn2Ideal.Facts] : Prop :=
  ∀ (m : (ℓ : Loc Cert.ReferenceLn2Ideal.nD Cert.ReferenceLn2Ideal.τ Cert.ReferenceLn2Ideal.sig) → Buf (Elt Ideal) ℓ) (g : Dev Cert.ReferenceLn2Ideal.nD → PrngReg), Pre_ReferenceLn2Ideal m →
    θ_run (Cert.ReferenceLn2Ideal.defs (F := Ideal)) (onTc (τ := Cert.ReferenceLn2Ideal.τ) (Cert.ReferenceLn2Ideal.main (F := Ideal))) ⟨m, fun _ => 0, g⟩ (fun r => (∀ c : Dev Cert.ReferenceLn2Ideal.nD,
      r.2.mem ((c.tc : Thread Cert.ReferenceLn2Ideal.nD Cert.ReferenceLn2Ideal.τ).loc Cert.ReferenceLn2Ideal.main_arg0) = m ((c.tc : Thread Cert.ReferenceLn2Ideal.nD Cert.ReferenceLn2Ideal.τ).loc Cert.ReferenceLn2Ideal.main_arg0)
      ∧ r.2.mem ((c.tc : Thread Cert.ReferenceLn2Ideal.nD Cert.ReferenceLn2Ideal.τ).loc Cert.ReferenceLn2Ideal.main_arg1) = m ((c.tc : Thread Cert.ReferenceLn2Ideal.nD Cert.ReferenceLn2Ideal.τ).loc Cert.ReferenceLn2Ideal.main_arg1)
      ∧ r.2.mem ((c.tc : Thread Cert.ReferenceLn2Ideal.nD Cert.ReferenceLn2Ideal.τ).loc Cert.ReferenceLn2Ideal.main_arg2) = m ((c.tc : Thread Cert.ReferenceLn2Ideal.nD Cert.ReferenceLn2Ideal.τ).loc Cert.ReferenceLn2Ideal.main_arg2)
      ∧ r.2.mem ((c.tc : Thread Cert.ReferenceLn2Ideal.nD Cert.ReferenceLn2Ideal.τ).loc Cert.ReferenceLn2Ideal.main_arg3) = m ((c.tc : Thread Cert.ReferenceLn2Ideal.nD Cert.ReferenceLn2Ideal.τ).loc Cert.ReferenceLn2Ideal.main_arg3)
      ∧ r.2.mem ((c.tc : Thread Cert.ReferenceLn2Ideal.nD Cert.ReferenceLn2Ideal.τ).loc Cert.ReferenceLn2Ideal.main_arg4) = m ((c.tc : Thread Cert.ReferenceLn2Ideal.nD Cert.ReferenceLn2Ideal.τ).loc Cert.ReferenceLn2Ideal.main_arg4)
      ∧ r.2.mem ((c.tc : Thread Cert.ReferenceLn2Ideal.nD Cert.ReferenceLn2Ideal.τ).loc Cert.ReferenceLn2Ideal.main_arg5) = m ((c.tc : Thread Cert.ReferenceLn2Ideal.nD Cert.ReferenceLn2Ideal.τ).loc Cert.ReferenceLn2Ideal.main_arg5))
      ∧ r.2.sem = fun _ => 0)

def quiescent_ReferenceLn2Ideal_pre_finite_ln2 [hReferenceLn2Ideal : Cert.ReferenceLn2Ideal.Facts] [hPre_finite_ln2 : Cert.Pre_finite_ln2.Facts] : Prop :=
  ∀ (m : (ℓ : Loc Cert.ReferenceLn2Ideal.nD Cert.ReferenceLn2Ideal.τ Cert.ReferenceLn2Ideal.sig) → Buf (Elt Ideal) ℓ) (g : Dev Cert.ReferenceLn2Ideal.nD → PrngReg), Pre_ReferenceLn2Ideal_finite_ln2 m →
    θ_run (Cert.ReferenceLn2Ideal.defs (F := Ideal)) (onTc (τ := Cert.ReferenceLn2Ideal.τ) (Cert.ReferenceLn2Ideal.main (F := Ideal))) ⟨m, fun _ => 0, g⟩ (fun r => (∀ c : Dev Cert.ReferenceLn2Ideal.nD,
      r.2.mem ((c.tc : Thread Cert.ReferenceLn2Ideal.nD Cert.ReferenceLn2Ideal.τ).loc Cert.ReferenceLn2Ideal.main_arg0) = m ((c.tc : Thread Cert.ReferenceLn2Ideal.nD Cert.ReferenceLn2Ideal.τ).loc Cert.ReferenceLn2Ideal.main_arg0)
      ∧ r.2.mem ((c.tc : Thread Cert.ReferenceLn2Ideal.nD Cert.ReferenceLn2Ideal.τ).loc Cert.ReferenceLn2Ideal.main_arg1) = m ((c.tc : Thread Cert.ReferenceLn2Ideal.nD Cert.ReferenceLn2Ideal.τ).loc Cert.ReferenceLn2Ideal.main_arg1)
      ∧ r.2.mem ((c.tc : Thread Cert.ReferenceLn2Ideal.nD Cert.ReferenceLn2Ideal.τ).loc Cert.ReferenceLn2Ideal.main_arg2) = m ((c.tc : Thread Cert.ReferenceLn2Ideal.nD Cert.ReferenceLn2Ideal.τ).loc Cert.ReferenceLn2Ideal.main_arg2)
      ∧ r.2.mem ((c.tc : Thread Cert.ReferenceLn2Ideal.nD Cert.ReferenceLn2Ideal.τ).loc Cert.ReferenceLn2Ideal.main_arg3) = m ((c.tc : Thread Cert.ReferenceLn2Ideal.nD Cert.ReferenceLn2Ideal.τ).loc Cert.ReferenceLn2Ideal.main_arg3)
      ∧ r.2.mem ((c.tc : Thread Cert.ReferenceLn2Ideal.nD Cert.ReferenceLn2Ideal.τ).loc Cert.ReferenceLn2Ideal.main_arg4) = m ((c.tc : Thread Cert.ReferenceLn2Ideal.nD Cert.ReferenceLn2Ideal.τ).loc Cert.ReferenceLn2Ideal.main_arg4)
      ∧ r.2.mem ((c.tc : Thread Cert.ReferenceLn2Ideal.nD Cert.ReferenceLn2Ideal.τ).loc Cert.ReferenceLn2Ideal.main_arg5) = m ((c.tc : Thread Cert.ReferenceLn2Ideal.nD Cert.ReferenceLn2Ideal.τ).loc Cert.ReferenceLn2Ideal.main_arg5))
      ∧ r.2.sem = fun _ => 0)

def quiescent_KernelGate [hKernelGate : Cert.KernelGate.Facts] : Prop :=
  ∀ (m : (ℓ : Loc Cert.KernelGate.nD Cert.KernelGate.τ Cert.KernelGate.sig) → Buf (Elt Bits) ℓ) (g : Dev Cert.KernelGate.nD → PrngReg), Pre_KernelGate m →
    θ_run (Cert.KernelGate.defs (F := Bits)) (onTc (τ := Cert.KernelGate.τ) (Cert.KernelGate.main (F := Bits))) ⟨m, fun _ => 0, g⟩ (fun r => (∀ c : Dev Cert.KernelGate.nD,
      r.2.mem ((c.tc : Thread Cert.KernelGate.nD Cert.KernelGate.τ).loc Cert.KernelGate.main_arg0) = m ((c.tc : Thread Cert.KernelGate.nD Cert.KernelGate.τ).loc Cert.KernelGate.main_arg0)
      ∧ r.2.mem ((c.tc : Thread Cert.KernelGate.nD Cert.KernelGate.τ).loc Cert.KernelGate.main_arg1) = m ((c.tc : Thread Cert.KernelGate.nD Cert.KernelGate.τ).loc Cert.KernelGate.main_arg1)
      ∧ r.2.mem ((c.tc : Thread Cert.KernelGate.nD Cert.KernelGate.τ).loc Cert.KernelGate.main_arg2) = m ((c.tc : Thread Cert.KernelGate.nD Cert.KernelGate.τ).loc Cert.KernelGate.main_arg2))
      ∧ r.2.sem = fun _ => 0)

def quiescent_KernelGateIdeal [hKernelGateIdeal : Cert.KernelGateIdeal.Facts] : Prop :=
  ∀ (m : (ℓ : Loc Cert.KernelGateIdeal.nD Cert.KernelGateIdeal.τ Cert.KernelGateIdeal.sig) → Buf (Elt Ideal) ℓ) (g : Dev Cert.KernelGateIdeal.nD → PrngReg), Pre_KernelGateIdeal m →
    θ_run (Cert.KernelGateIdeal.defs (F := Ideal)) (onTc (τ := Cert.KernelGateIdeal.τ) (Cert.KernelGateIdeal.main (F := Ideal))) ⟨m, fun _ => 0, g⟩ (fun r => (∀ c : Dev Cert.KernelGateIdeal.nD,
      r.2.mem ((c.tc : Thread Cert.KernelGateIdeal.nD Cert.KernelGateIdeal.τ).loc Cert.KernelGateIdeal.main_arg0) = m ((c.tc : Thread Cert.KernelGateIdeal.nD Cert.KernelGateIdeal.τ).loc Cert.KernelGateIdeal.main_arg0)
      ∧ r.2.mem ((c.tc : Thread Cert.KernelGateIdeal.nD Cert.KernelGateIdeal.τ).loc Cert.KernelGateIdeal.main_arg1) = m ((c.tc : Thread Cert.KernelGateIdeal.nD Cert.KernelGateIdeal.τ).loc Cert.KernelGateIdeal.main_arg1)
      ∧ r.2.mem ((c.tc : Thread Cert.KernelGateIdeal.nD Cert.KernelGateIdeal.τ).loc Cert.KernelGateIdeal.main_arg2) = m ((c.tc : Thread Cert.KernelGateIdeal.nD Cert.KernelGateIdeal.τ).loc Cert.KernelGateIdeal.main_arg2))
      ∧ r.2.sem = fun _ => 0)

def quiescent_ReferenceGateIdeal [hReferenceGateIdeal : Cert.ReferenceGateIdeal.Facts] : Prop :=
  ∀ (m : (ℓ : Loc Cert.ReferenceGateIdeal.nD Cert.ReferenceGateIdeal.τ Cert.ReferenceGateIdeal.sig) → Buf (Elt Ideal) ℓ) (g : Dev Cert.ReferenceGateIdeal.nD → PrngReg), Pre_ReferenceGateIdeal m →
    θ_run (Cert.ReferenceGateIdeal.defs (F := Ideal)) (onTc (τ := Cert.ReferenceGateIdeal.τ) (Cert.ReferenceGateIdeal.main (F := Ideal))) ⟨m, fun _ => 0, g⟩ (fun r => (∀ c : Dev Cert.ReferenceGateIdeal.nD,
      r.2.mem ((c.tc : Thread Cert.ReferenceGateIdeal.nD Cert.ReferenceGateIdeal.τ).loc Cert.ReferenceGateIdeal.main_arg0) = m ((c.tc : Thread Cert.ReferenceGateIdeal.nD Cert.ReferenceGateIdeal.τ).loc Cert.ReferenceGateIdeal.main_arg0)
      ∧ r.2.mem ((c.tc : Thread Cert.ReferenceGateIdeal.nD Cert.ReferenceGateIdeal.τ).loc Cert.ReferenceGateIdeal.main_arg1) = m ((c.tc : Thread Cert.ReferenceGateIdeal.nD Cert.ReferenceGateIdeal.τ).loc Cert.ReferenceGateIdeal.main_arg1)
      ∧ r.2.mem ((c.tc : Thread Cert.ReferenceGateIdeal.nD Cert.ReferenceGateIdeal.τ).loc Cert.ReferenceGateIdeal.main_arg2) = m ((c.tc : Thread Cert.ReferenceGateIdeal.nD Cert.ReferenceGateIdeal.τ).loc Cert.ReferenceGateIdeal.main_arg2))
      ∧ r.2.sem = fun _ => 0)

def quiescent_KernelCum [hKernelCum : Cert.KernelCum.Facts] : Prop :=
  ∀ (m : (ℓ : Loc Cert.KernelCum.nD Cert.KernelCum.τ Cert.KernelCum.sig) → Buf (Elt Bits) ℓ) (g : Dev Cert.KernelCum.nD → PrngReg), Pre_KernelCum m →
    θ_run (Cert.KernelCum.defs (F := Bits)) (onTc (τ := Cert.KernelCum.τ) (Cert.KernelCum.main (F := Bits))) ⟨m, fun _ => 0, g⟩ (fun r => (∀ c : Dev Cert.KernelCum.nD,
      r.2.mem ((c.tc : Thread Cert.KernelCum.nD Cert.KernelCum.τ).loc Cert.KernelCum.main_arg0) = m ((c.tc : Thread Cert.KernelCum.nD Cert.KernelCum.τ).loc Cert.KernelCum.main_arg0)
      ∧ r.2.mem ((c.tc : Thread Cert.KernelCum.nD Cert.KernelCum.τ).loc Cert.KernelCum.main_arg1) = m ((c.tc : Thread Cert.KernelCum.nD Cert.KernelCum.τ).loc Cert.KernelCum.main_arg1)
      ∧ r.2.mem ((c.tc : Thread Cert.KernelCum.nD Cert.KernelCum.τ).loc Cert.KernelCum.main_arg2) = m ((c.tc : Thread Cert.KernelCum.nD Cert.KernelCum.τ).loc Cert.KernelCum.main_arg2)
      ∧ r.2.mem ((c.tc : Thread Cert.KernelCum.nD Cert.KernelCum.τ).loc Cert.KernelCum.main_arg3) = m ((c.tc : Thread Cert.KernelCum.nD Cert.KernelCum.τ).loc Cert.KernelCum.main_arg3))
      ∧ r.2.sem = fun _ => 0)

def quiescent_KernelCumIdeal [hKernelCumIdeal : Cert.KernelCumIdeal.Facts] : Prop :=
  ∀ (m : (ℓ : Loc Cert.KernelCumIdeal.nD Cert.KernelCumIdeal.τ Cert.KernelCumIdeal.sig) → Buf (Elt Ideal) ℓ) (g : Dev Cert.KernelCumIdeal.nD → PrngReg), Pre_KernelCumIdeal m →
    θ_run (Cert.KernelCumIdeal.defs (F := Ideal)) (onTc (τ := Cert.KernelCumIdeal.τ) (Cert.KernelCumIdeal.main (F := Ideal))) ⟨m, fun _ => 0, g⟩ (fun r => (∀ c : Dev Cert.KernelCumIdeal.nD,
      r.2.mem ((c.tc : Thread Cert.KernelCumIdeal.nD Cert.KernelCumIdeal.τ).loc Cert.KernelCumIdeal.main_arg0) = m ((c.tc : Thread Cert.KernelCumIdeal.nD Cert.KernelCumIdeal.τ).loc Cert.KernelCumIdeal.main_arg0)
      ∧ r.2.mem ((c.tc : Thread Cert.KernelCumIdeal.nD Cert.KernelCumIdeal.τ).loc Cert.KernelCumIdeal.main_arg1) = m ((c.tc : Thread Cert.KernelCumIdeal.nD Cert.KernelCumIdeal.τ).loc Cert.KernelCumIdeal.main_arg1)
      ∧ r.2.mem ((c.tc : Thread Cert.KernelCumIdeal.nD Cert.KernelCumIdeal.τ).loc Cert.KernelCumIdeal.main_arg2) = m ((c.tc : Thread Cert.KernelCumIdeal.nD Cert.KernelCumIdeal.τ).loc Cert.KernelCumIdeal.main_arg2)
      ∧ r.2.mem ((c.tc : Thread Cert.KernelCumIdeal.nD Cert.KernelCumIdeal.τ).loc Cert.KernelCumIdeal.main_arg3) = m ((c.tc : Thread Cert.KernelCumIdeal.nD Cert.KernelCumIdeal.τ).loc Cert.KernelCumIdeal.main_arg3))
      ∧ r.2.sem = fun _ => 0)

def quiescent_KernelCumIdeal_pre_finite_cum [hKernelCumIdeal : Cert.KernelCumIdeal.Facts] [hPre_finite_cum : Cert.Pre_finite_cum.Facts] : Prop :=
  ∀ (m : (ℓ : Loc Cert.KernelCumIdeal.nD Cert.KernelCumIdeal.τ Cert.KernelCumIdeal.sig) → Buf (Elt Ideal) ℓ) (g : Dev Cert.KernelCumIdeal.nD → PrngReg), Pre_KernelCumIdeal_finite_cum m →
    θ_run (Cert.KernelCumIdeal.defs (F := Ideal)) (onTc (τ := Cert.KernelCumIdeal.τ) (Cert.KernelCumIdeal.main (F := Ideal))) ⟨m, fun _ => 0, g⟩ (fun r => (∀ c : Dev Cert.KernelCumIdeal.nD,
      r.2.mem ((c.tc : Thread Cert.KernelCumIdeal.nD Cert.KernelCumIdeal.τ).loc Cert.KernelCumIdeal.main_arg0) = m ((c.tc : Thread Cert.KernelCumIdeal.nD Cert.KernelCumIdeal.τ).loc Cert.KernelCumIdeal.main_arg0)
      ∧ r.2.mem ((c.tc : Thread Cert.KernelCumIdeal.nD Cert.KernelCumIdeal.τ).loc Cert.KernelCumIdeal.main_arg1) = m ((c.tc : Thread Cert.KernelCumIdeal.nD Cert.KernelCumIdeal.τ).loc Cert.KernelCumIdeal.main_arg1)
      ∧ r.2.mem ((c.tc : Thread Cert.KernelCumIdeal.nD Cert.KernelCumIdeal.τ).loc Cert.KernelCumIdeal.main_arg2) = m ((c.tc : Thread Cert.KernelCumIdeal.nD Cert.KernelCumIdeal.τ).loc Cert.KernelCumIdeal.main_arg2)
      ∧ r.2.mem ((c.tc : Thread Cert.KernelCumIdeal.nD Cert.KernelCumIdeal.τ).loc Cert.KernelCumIdeal.main_arg3) = m ((c.tc : Thread Cert.KernelCumIdeal.nD Cert.KernelCumIdeal.τ).loc Cert.KernelCumIdeal.main_arg3))
      ∧ r.2.sem = fun _ => 0)

def quiescent_ReferenceCumIdeal [hReferenceCumIdeal : Cert.ReferenceCumIdeal.Facts] : Prop :=
  ∀ (m : (ℓ : Loc Cert.ReferenceCumIdeal.nD Cert.ReferenceCumIdeal.τ Cert.ReferenceCumIdeal.sig) → Buf (Elt Ideal) ℓ) (g : Dev Cert.ReferenceCumIdeal.nD → PrngReg), Pre_ReferenceCumIdeal m →
    θ_run (Cert.ReferenceCumIdeal.defs (F := Ideal)) (onTc (τ := Cert.ReferenceCumIdeal.τ) (Cert.ReferenceCumIdeal.main (F := Ideal))) ⟨m, fun _ => 0, g⟩ (fun r => (∀ c : Dev Cert.ReferenceCumIdeal.nD,
      r.2.mem ((c.tc : Thread Cert.ReferenceCumIdeal.nD Cert.ReferenceCumIdeal.τ).loc Cert.ReferenceCumIdeal.main_arg0) = m ((c.tc : Thread Cert.ReferenceCumIdeal.nD Cert.ReferenceCumIdeal.τ).loc Cert.ReferenceCumIdeal.main_arg0)
      ∧ r.2.mem ((c.tc : Thread Cert.ReferenceCumIdeal.nD Cert.ReferenceCumIdeal.τ).loc Cert.ReferenceCumIdeal.main_arg1) = m ((c.tc : Thread Cert.ReferenceCumIdeal.nD Cert.ReferenceCumIdeal.τ).loc Cert.ReferenceCumIdeal.main_arg1)
      ∧ r.2.mem ((c.tc : Thread Cert.ReferenceCumIdeal.nD Cert.ReferenceCumIdeal.τ).loc Cert.ReferenceCumIdeal.main_arg2) = m ((c.tc : Thread Cert.ReferenceCumIdeal.nD Cert.ReferenceCumIdeal.τ).loc Cert.ReferenceCumIdeal.main_arg2)
      ∧ r.2.mem ((c.tc : Thread Cert.ReferenceCumIdeal.nD Cert.ReferenceCumIdeal.τ).loc Cert.ReferenceCumIdeal.main_arg3) = m ((c.tc : Thread Cert.ReferenceCumIdeal.nD Cert.ReferenceCumIdeal.τ).loc Cert.ReferenceCumIdeal.main_arg3))
      ∧ r.2.sem = fun _ => 0)

def quiescent_ReferenceCumIdeal_pre_finite_cum [hReferenceCumIdeal : Cert.ReferenceCumIdeal.Facts] [hPre_finite_cum : Cert.Pre_finite_cum.Facts] : Prop :=
  ∀ (m : (ℓ : Loc Cert.ReferenceCumIdeal.nD Cert.ReferenceCumIdeal.τ Cert.ReferenceCumIdeal.sig) → Buf (Elt Ideal) ℓ) (g : Dev Cert.ReferenceCumIdeal.nD → PrngReg), Pre_ReferenceCumIdeal_finite_cum m →
    θ_run (Cert.ReferenceCumIdeal.defs (F := Ideal)) (onTc (τ := Cert.ReferenceCumIdeal.τ) (Cert.ReferenceCumIdeal.main (F := Ideal))) ⟨m, fun _ => 0, g⟩ (fun r => (∀ c : Dev Cert.ReferenceCumIdeal.nD,
      r.2.mem ((c.tc : Thread Cert.ReferenceCumIdeal.nD Cert.ReferenceCumIdeal.τ).loc Cert.ReferenceCumIdeal.main_arg0) = m ((c.tc : Thread Cert.ReferenceCumIdeal.nD Cert.ReferenceCumIdeal.τ).loc Cert.ReferenceCumIdeal.main_arg0)
      ∧ r.2.mem ((c.tc : Thread Cert.ReferenceCumIdeal.nD Cert.ReferenceCumIdeal.τ).loc Cert.ReferenceCumIdeal.main_arg1) = m ((c.tc : Thread Cert.ReferenceCumIdeal.nD Cert.ReferenceCumIdeal.τ).loc Cert.ReferenceCumIdeal.main_arg1)
      ∧ r.2.mem ((c.tc : Thread Cert.ReferenceCumIdeal.nD Cert.ReferenceCumIdeal.τ).loc Cert.ReferenceCumIdeal.main_arg2) = m ((c.tc : Thread Cert.ReferenceCumIdeal.nD Cert.ReferenceCumIdeal.τ).loc Cert.ReferenceCumIdeal.main_arg2)
      ∧ r.2.mem ((c.tc : Thread Cert.ReferenceCumIdeal.nD Cert.ReferenceCumIdeal.τ).loc Cert.ReferenceCumIdeal.main_arg3) = m ((c.tc : Thread Cert.ReferenceCumIdeal.nD Cert.ReferenceCumIdeal.τ).loc Cert.ReferenceCumIdeal.main_arg3))
      ∧ r.2.sem = fun _ => 0)

def quiescent_KernelAda [hKernelAda : Cert.KernelAda.Facts] : Prop :=
  ∀ (m : (ℓ : Loc Cert.KernelAda.nD Cert.KernelAda.τ Cert.KernelAda.sig) → Buf (Elt Bits) ℓ) (g : Dev Cert.KernelAda.nD → PrngReg), Pre_KernelAda m →
    θ_run (Cert.KernelAda.defs (F := Bits)) (onTc (τ := Cert.KernelAda.τ) (Cert.KernelAda.main (F := Bits))) ⟨m, fun _ => 0, g⟩ (fun r => (∀ c : Dev Cert.KernelAda.nD,
      r.2.mem ((c.tc : Thread Cert.KernelAda.nD Cert.KernelAda.τ).loc Cert.KernelAda.main_arg0) = m ((c.tc : Thread Cert.KernelAda.nD Cert.KernelAda.τ).loc Cert.KernelAda.main_arg0)
      ∧ r.2.mem ((c.tc : Thread Cert.KernelAda.nD Cert.KernelAda.τ).loc Cert.KernelAda.main_arg1) = m ((c.tc : Thread Cert.KernelAda.nD Cert.KernelAda.τ).loc Cert.KernelAda.main_arg1)
      ∧ r.2.mem ((c.tc : Thread Cert.KernelAda.nD Cert.KernelAda.τ).loc Cert.KernelAda.main_arg2) = m ((c.tc : Thread Cert.KernelAda.nD Cert.KernelAda.τ).loc Cert.KernelAda.main_arg2))
      ∧ r.2.sem = fun _ => 0)

def quiescent_KernelAdaIdeal [hKernelAdaIdeal : Cert.KernelAdaIdeal.Facts] : Prop :=
  ∀ (m : (ℓ : Loc Cert.KernelAdaIdeal.nD Cert.KernelAdaIdeal.τ Cert.KernelAdaIdeal.sig) → Buf (Elt Ideal) ℓ) (g : Dev Cert.KernelAdaIdeal.nD → PrngReg), Pre_KernelAdaIdeal m →
    θ_run (Cert.KernelAdaIdeal.defs (F := Ideal)) (onTc (τ := Cert.KernelAdaIdeal.τ) (Cert.KernelAdaIdeal.main (F := Ideal))) ⟨m, fun _ => 0, g⟩ (fun r => (∀ c : Dev Cert.KernelAdaIdeal.nD,
      r.2.mem ((c.tc : Thread Cert.KernelAdaIdeal.nD Cert.KernelAdaIdeal.τ).loc Cert.KernelAdaIdeal.main_arg0) = m ((c.tc : Thread Cert.KernelAdaIdeal.nD Cert.KernelAdaIdeal.τ).loc Cert.KernelAdaIdeal.main_arg0)
      ∧ r.2.mem ((c.tc : Thread Cert.KernelAdaIdeal.nD Cert.KernelAdaIdeal.τ).loc Cert.KernelAdaIdeal.main_arg1) = m ((c.tc : Thread Cert.KernelAdaIdeal.nD Cert.KernelAdaIdeal.τ).loc Cert.KernelAdaIdeal.main_arg1)
      ∧ r.2.mem ((c.tc : Thread Cert.KernelAdaIdeal.nD Cert.KernelAdaIdeal.τ).loc Cert.KernelAdaIdeal.main_arg2) = m ((c.tc : Thread Cert.KernelAdaIdeal.nD Cert.KernelAdaIdeal.τ).loc Cert.KernelAdaIdeal.main_arg2))
      ∧ r.2.sem = fun _ => 0)

def quiescent_KernelAdaIdeal_pre_finite_ada [hKernelAdaIdeal : Cert.KernelAdaIdeal.Facts] [hPre_finite_ada : Cert.Pre_finite_ada.Facts] : Prop :=
  ∀ (m : (ℓ : Loc Cert.KernelAdaIdeal.nD Cert.KernelAdaIdeal.τ Cert.KernelAdaIdeal.sig) → Buf (Elt Ideal) ℓ) (g : Dev Cert.KernelAdaIdeal.nD → PrngReg), Pre_KernelAdaIdeal_finite_ada m →
    θ_run (Cert.KernelAdaIdeal.defs (F := Ideal)) (onTc (τ := Cert.KernelAdaIdeal.τ) (Cert.KernelAdaIdeal.main (F := Ideal))) ⟨m, fun _ => 0, g⟩ (fun r => (∀ c : Dev Cert.KernelAdaIdeal.nD,
      r.2.mem ((c.tc : Thread Cert.KernelAdaIdeal.nD Cert.KernelAdaIdeal.τ).loc Cert.KernelAdaIdeal.main_arg0) = m ((c.tc : Thread Cert.KernelAdaIdeal.nD Cert.KernelAdaIdeal.τ).loc Cert.KernelAdaIdeal.main_arg0)
      ∧ r.2.mem ((c.tc : Thread Cert.KernelAdaIdeal.nD Cert.KernelAdaIdeal.τ).loc Cert.KernelAdaIdeal.main_arg1) = m ((c.tc : Thread Cert.KernelAdaIdeal.nD Cert.KernelAdaIdeal.τ).loc Cert.KernelAdaIdeal.main_arg1)
      ∧ r.2.mem ((c.tc : Thread Cert.KernelAdaIdeal.nD Cert.KernelAdaIdeal.τ).loc Cert.KernelAdaIdeal.main_arg2) = m ((c.tc : Thread Cert.KernelAdaIdeal.nD Cert.KernelAdaIdeal.τ).loc Cert.KernelAdaIdeal.main_arg2))
      ∧ r.2.sem = fun _ => 0)

def quiescent_ReferenceAdaIdeal [hReferenceAdaIdeal : Cert.ReferenceAdaIdeal.Facts] : Prop :=
  ∀ (m : (ℓ : Loc Cert.ReferenceAdaIdeal.nD Cert.ReferenceAdaIdeal.τ Cert.ReferenceAdaIdeal.sig) → Buf (Elt Ideal) ℓ) (g : Dev Cert.ReferenceAdaIdeal.nD → PrngReg), Pre_ReferenceAdaIdeal m →
    θ_run (Cert.ReferenceAdaIdeal.defs (F := Ideal)) (onTc (τ := Cert.ReferenceAdaIdeal.τ) (Cert.ReferenceAdaIdeal.main (F := Ideal))) ⟨m, fun _ => 0, g⟩ (fun r => (∀ c : Dev Cert.ReferenceAdaIdeal.nD,
      r.2.mem ((c.tc : Thread Cert.ReferenceAdaIdeal.nD Cert.ReferenceAdaIdeal.τ).loc Cert.ReferenceAdaIdeal.main_arg0) = m ((c.tc : Thread Cert.ReferenceAdaIdeal.nD Cert.ReferenceAdaIdeal.τ).loc Cert.ReferenceAdaIdeal.main_arg0)
      ∧ r.2.mem ((c.tc : Thread Cert.ReferenceAdaIdeal.nD Cert.ReferenceAdaIdeal.τ).loc Cert.ReferenceAdaIdeal.main_arg1) = m ((c.tc : Thread Cert.ReferenceAdaIdeal.nD Cert.ReferenceAdaIdeal.τ).loc Cert.ReferenceAdaIdeal.main_arg1)
      ∧ r.2.mem ((c.tc : Thread Cert.ReferenceAdaIdeal.nD Cert.ReferenceAdaIdeal.τ).loc Cert.ReferenceAdaIdeal.main_arg2) = m ((c.tc : Thread Cert.ReferenceAdaIdeal.nD Cert.ReferenceAdaIdeal.τ).loc Cert.ReferenceAdaIdeal.main_arg2))
      ∧ r.2.sem = fun _ => 0)

def quiescent_ReferenceAdaIdeal_pre_finite_ada [hReferenceAdaIdeal : Cert.ReferenceAdaIdeal.Facts] [hPre_finite_ada : Cert.Pre_finite_ada.Facts] : Prop :=
  ∀ (m : (ℓ : Loc Cert.ReferenceAdaIdeal.nD Cert.ReferenceAdaIdeal.τ Cert.ReferenceAdaIdeal.sig) → Buf (Elt Ideal) ℓ) (g : Dev Cert.ReferenceAdaIdeal.nD → PrngReg), Pre_ReferenceAdaIdeal_finite_ada m →
    θ_run (Cert.ReferenceAdaIdeal.defs (F := Ideal)) (onTc (τ := Cert.ReferenceAdaIdeal.τ) (Cert.ReferenceAdaIdeal.main (F := Ideal))) ⟨m, fun _ => 0, g⟩ (fun r => (∀ c : Dev Cert.ReferenceAdaIdeal.nD,
      r.2.mem ((c.tc : Thread Cert.ReferenceAdaIdeal.nD Cert.ReferenceAdaIdeal.τ).loc Cert.ReferenceAdaIdeal.main_arg0) = m ((c.tc : Thread Cert.ReferenceAdaIdeal.nD Cert.ReferenceAdaIdeal.τ).loc Cert.ReferenceAdaIdeal.main_arg0)
      ∧ r.2.mem ((c.tc : Thread Cert.ReferenceAdaIdeal.nD Cert.ReferenceAdaIdeal.τ).loc Cert.ReferenceAdaIdeal.main_arg1) = m ((c.tc : Thread Cert.ReferenceAdaIdeal.nD Cert.ReferenceAdaIdeal.τ).loc Cert.ReferenceAdaIdeal.main_arg1)
      ∧ r.2.mem ((c.tc : Thread Cert.ReferenceAdaIdeal.nD Cert.ReferenceAdaIdeal.τ).loc Cert.ReferenceAdaIdeal.main_arg2) = m ((c.tc : Thread Cert.ReferenceAdaIdeal.nD Cert.ReferenceAdaIdeal.τ).loc Cert.ReferenceAdaIdeal.main_arg2))
      ∧ r.2.sem = fun _ => 0)

def quiescent_KernelMod [hKernelMod : Cert.KernelMod.Facts] : Prop :=
  ∀ (m : (ℓ : Loc Cert.KernelMod.nD Cert.KernelMod.τ Cert.KernelMod.sig) → Buf (Elt Bits) ℓ) (g : Dev Cert.KernelMod.nD → PrngReg), Pre_KernelMod m →
    θ_run (Cert.KernelMod.defs (F := Bits)) (onTc (τ := Cert.KernelMod.τ) (Cert.KernelMod.main (F := Bits))) ⟨m, fun _ => 0, g⟩ (fun r => (∀ c : Dev Cert.KernelMod.nD,
      r.2.mem ((c.tc : Thread Cert.KernelMod.nD Cert.KernelMod.τ).loc Cert.KernelMod.main_arg0) = m ((c.tc : Thread Cert.KernelMod.nD Cert.KernelMod.τ).loc Cert.KernelMod.main_arg0)
      ∧ r.2.mem ((c.tc : Thread Cert.KernelMod.nD Cert.KernelMod.τ).loc Cert.KernelMod.main_arg1) = m ((c.tc : Thread Cert.KernelMod.nD Cert.KernelMod.τ).loc Cert.KernelMod.main_arg1)
      ∧ r.2.mem ((c.tc : Thread Cert.KernelMod.nD Cert.KernelMod.τ).loc Cert.KernelMod.main_arg2) = m ((c.tc : Thread Cert.KernelMod.nD Cert.KernelMod.τ).loc Cert.KernelMod.main_arg2))
      ∧ r.2.sem = fun _ => 0)

def quiescent_KernelModIdeal [hKernelModIdeal : Cert.KernelModIdeal.Facts] : Prop :=
  ∀ (m : (ℓ : Loc Cert.KernelModIdeal.nD Cert.KernelModIdeal.τ Cert.KernelModIdeal.sig) → Buf (Elt Ideal) ℓ) (g : Dev Cert.KernelModIdeal.nD → PrngReg), Pre_KernelModIdeal m →
    θ_run (Cert.KernelModIdeal.defs (F := Ideal)) (onTc (τ := Cert.KernelModIdeal.τ) (Cert.KernelModIdeal.main (F := Ideal))) ⟨m, fun _ => 0, g⟩ (fun r => (∀ c : Dev Cert.KernelModIdeal.nD,
      r.2.mem ((c.tc : Thread Cert.KernelModIdeal.nD Cert.KernelModIdeal.τ).loc Cert.KernelModIdeal.main_arg0) = m ((c.tc : Thread Cert.KernelModIdeal.nD Cert.KernelModIdeal.τ).loc Cert.KernelModIdeal.main_arg0)
      ∧ r.2.mem ((c.tc : Thread Cert.KernelModIdeal.nD Cert.KernelModIdeal.τ).loc Cert.KernelModIdeal.main_arg1) = m ((c.tc : Thread Cert.KernelModIdeal.nD Cert.KernelModIdeal.τ).loc Cert.KernelModIdeal.main_arg1)
      ∧ r.2.mem ((c.tc : Thread Cert.KernelModIdeal.nD Cert.KernelModIdeal.τ).loc Cert.KernelModIdeal.main_arg2) = m ((c.tc : Thread Cert.KernelModIdeal.nD Cert.KernelModIdeal.τ).loc Cert.KernelModIdeal.main_arg2))
      ∧ r.2.sem = fun _ => 0)

def quiescent_KernelModIdeal_pre_finite_mod [hKernelModIdeal : Cert.KernelModIdeal.Facts] [hPre_finite_mod : Cert.Pre_finite_mod.Facts] : Prop :=
  ∀ (m : (ℓ : Loc Cert.KernelModIdeal.nD Cert.KernelModIdeal.τ Cert.KernelModIdeal.sig) → Buf (Elt Ideal) ℓ) (g : Dev Cert.KernelModIdeal.nD → PrngReg), Pre_KernelModIdeal_finite_mod m →
    θ_run (Cert.KernelModIdeal.defs (F := Ideal)) (onTc (τ := Cert.KernelModIdeal.τ) (Cert.KernelModIdeal.main (F := Ideal))) ⟨m, fun _ => 0, g⟩ (fun r => (∀ c : Dev Cert.KernelModIdeal.nD,
      r.2.mem ((c.tc : Thread Cert.KernelModIdeal.nD Cert.KernelModIdeal.τ).loc Cert.KernelModIdeal.main_arg0) = m ((c.tc : Thread Cert.KernelModIdeal.nD Cert.KernelModIdeal.τ).loc Cert.KernelModIdeal.main_arg0)
      ∧ r.2.mem ((c.tc : Thread Cert.KernelModIdeal.nD Cert.KernelModIdeal.τ).loc Cert.KernelModIdeal.main_arg1) = m ((c.tc : Thread Cert.KernelModIdeal.nD Cert.KernelModIdeal.τ).loc Cert.KernelModIdeal.main_arg1)
      ∧ r.2.mem ((c.tc : Thread Cert.KernelModIdeal.nD Cert.KernelModIdeal.τ).loc Cert.KernelModIdeal.main_arg2) = m ((c.tc : Thread Cert.KernelModIdeal.nD Cert.KernelModIdeal.τ).loc Cert.KernelModIdeal.main_arg2))
      ∧ r.2.sem = fun _ => 0)

def quiescent_ReferenceModIdeal [hReferenceModIdeal : Cert.ReferenceModIdeal.Facts] : Prop :=
  ∀ (m : (ℓ : Loc Cert.ReferenceModIdeal.nD Cert.ReferenceModIdeal.τ Cert.ReferenceModIdeal.sig) → Buf (Elt Ideal) ℓ) (g : Dev Cert.ReferenceModIdeal.nD → PrngReg), Pre_ReferenceModIdeal m →
    θ_run (Cert.ReferenceModIdeal.defs (F := Ideal)) (onTc (τ := Cert.ReferenceModIdeal.τ) (Cert.ReferenceModIdeal.main (F := Ideal))) ⟨m, fun _ => 0, g⟩ (fun r => (∀ c : Dev Cert.ReferenceModIdeal.nD,
      r.2.mem ((c.tc : Thread Cert.ReferenceModIdeal.nD Cert.ReferenceModIdeal.τ).loc Cert.ReferenceModIdeal.main_arg0) = m ((c.tc : Thread Cert.ReferenceModIdeal.nD Cert.ReferenceModIdeal.τ).loc Cert.ReferenceModIdeal.main_arg0)
      ∧ r.2.mem ((c.tc : Thread Cert.ReferenceModIdeal.nD Cert.ReferenceModIdeal.τ).loc Cert.ReferenceModIdeal.main_arg1) = m ((c.tc : Thread Cert.ReferenceModIdeal.nD Cert.ReferenceModIdeal.τ).loc Cert.ReferenceModIdeal.main_arg1)
      ∧ r.2.mem ((c.tc : Thread Cert.ReferenceModIdeal.nD Cert.ReferenceModIdeal.τ).loc Cert.ReferenceModIdeal.main_arg2) = m ((c.tc : Thread Cert.ReferenceModIdeal.nD Cert.ReferenceModIdeal.τ).loc Cert.ReferenceModIdeal.main_arg2))
      ∧ r.2.sem = fun _ => 0)

def quiescent_ReferenceModIdeal_pre_finite_mod [hReferenceModIdeal : Cert.ReferenceModIdeal.Facts] [hPre_finite_mod : Cert.Pre_finite_mod.Facts] : Prop :=
  ∀ (m : (ℓ : Loc Cert.ReferenceModIdeal.nD Cert.ReferenceModIdeal.τ Cert.ReferenceModIdeal.sig) → Buf (Elt Ideal) ℓ) (g : Dev Cert.ReferenceModIdeal.nD → PrngReg), Pre_ReferenceModIdeal_finite_mod m →
    θ_run (Cert.ReferenceModIdeal.defs (F := Ideal)) (onTc (τ := Cert.ReferenceModIdeal.τ) (Cert.ReferenceModIdeal.main (F := Ideal))) ⟨m, fun _ => 0, g⟩ (fun r => (∀ c : Dev Cert.ReferenceModIdeal.nD,
      r.2.mem ((c.tc : Thread Cert.ReferenceModIdeal.nD Cert.ReferenceModIdeal.τ).loc Cert.ReferenceModIdeal.main_arg0) = m ((c.tc : Thread Cert.ReferenceModIdeal.nD Cert.ReferenceModIdeal.τ).loc Cert.ReferenceModIdeal.main_arg0)
      ∧ r.2.mem ((c.tc : Thread Cert.ReferenceModIdeal.nD Cert.ReferenceModIdeal.τ).loc Cert.ReferenceModIdeal.main_arg1) = m ((c.tc : Thread Cert.ReferenceModIdeal.nD Cert.ReferenceModIdeal.τ).loc Cert.ReferenceModIdeal.main_arg1)
      ∧ r.2.mem ((c.tc : Thread Cert.ReferenceModIdeal.nD Cert.ReferenceModIdeal.τ).loc Cert.ReferenceModIdeal.main_arg2) = m ((c.tc : Thread Cert.ReferenceModIdeal.nD Cert.ReferenceModIdeal.τ).loc Cert.ReferenceModIdeal.main_arg2))
      ∧ r.2.sem = fun _ => 0)

def quiescent_KernelRms [hKernelRms : Cert.KernelRms.Facts] : Prop :=
  ∀ (m : (ℓ : Loc Cert.KernelRms.nD Cert.KernelRms.τ Cert.KernelRms.sig) → Buf (Elt Bits) ℓ) (g : Dev Cert.KernelRms.nD → PrngReg), Pre_KernelRms m →
    θ_run (Cert.KernelRms.defs (F := Bits)) (onTc (τ := Cert.KernelRms.τ) (Cert.KernelRms.main (F := Bits))) ⟨m, fun _ => 0, g⟩ (fun r => (∀ c : Dev Cert.KernelRms.nD,
      r.2.mem ((c.tc : Thread Cert.KernelRms.nD Cert.KernelRms.τ).loc Cert.KernelRms.main_arg0) = m ((c.tc : Thread Cert.KernelRms.nD Cert.KernelRms.τ).loc Cert.KernelRms.main_arg0)
      ∧ r.2.mem ((c.tc : Thread Cert.KernelRms.nD Cert.KernelRms.τ).loc Cert.KernelRms.main_arg1) = m ((c.tc : Thread Cert.KernelRms.nD Cert.KernelRms.τ).loc Cert.KernelRms.main_arg1)
      ∧ r.2.mem ((c.tc : Thread Cert.KernelRms.nD Cert.KernelRms.τ).loc Cert.KernelRms.main_arg2) = m ((c.tc : Thread Cert.KernelRms.nD Cert.KernelRms.τ).loc Cert.KernelRms.main_arg2)
      ∧ r.2.mem ((c.tc : Thread Cert.KernelRms.nD Cert.KernelRms.τ).loc Cert.KernelRms.main_arg3) = m ((c.tc : Thread Cert.KernelRms.nD Cert.KernelRms.τ).loc Cert.KernelRms.main_arg3)
      ∧ r.2.mem ((c.tc : Thread Cert.KernelRms.nD Cert.KernelRms.τ).loc Cert.KernelRms.main_arg4) = m ((c.tc : Thread Cert.KernelRms.nD Cert.KernelRms.τ).loc Cert.KernelRms.main_arg4))
      ∧ r.2.sem = fun _ => 0)

def quiescent_KernelRmsIdeal [hKernelRmsIdeal : Cert.KernelRmsIdeal.Facts] : Prop :=
  ∀ (m : (ℓ : Loc Cert.KernelRmsIdeal.nD Cert.KernelRmsIdeal.τ Cert.KernelRmsIdeal.sig) → Buf (Elt Ideal) ℓ) (g : Dev Cert.KernelRmsIdeal.nD → PrngReg), Pre_KernelRmsIdeal m →
    θ_run (Cert.KernelRmsIdeal.defs (F := Ideal)) (onTc (τ := Cert.KernelRmsIdeal.τ) (Cert.KernelRmsIdeal.main (F := Ideal))) ⟨m, fun _ => 0, g⟩ (fun r => (∀ c : Dev Cert.KernelRmsIdeal.nD,
      r.2.mem ((c.tc : Thread Cert.KernelRmsIdeal.nD Cert.KernelRmsIdeal.τ).loc Cert.KernelRmsIdeal.main_arg0) = m ((c.tc : Thread Cert.KernelRmsIdeal.nD Cert.KernelRmsIdeal.τ).loc Cert.KernelRmsIdeal.main_arg0)
      ∧ r.2.mem ((c.tc : Thread Cert.KernelRmsIdeal.nD Cert.KernelRmsIdeal.τ).loc Cert.KernelRmsIdeal.main_arg1) = m ((c.tc : Thread Cert.KernelRmsIdeal.nD Cert.KernelRmsIdeal.τ).loc Cert.KernelRmsIdeal.main_arg1)
      ∧ r.2.mem ((c.tc : Thread Cert.KernelRmsIdeal.nD Cert.KernelRmsIdeal.τ).loc Cert.KernelRmsIdeal.main_arg2) = m ((c.tc : Thread Cert.KernelRmsIdeal.nD Cert.KernelRmsIdeal.τ).loc Cert.KernelRmsIdeal.main_arg2)
      ∧ r.2.mem ((c.tc : Thread Cert.KernelRmsIdeal.nD Cert.KernelRmsIdeal.τ).loc Cert.KernelRmsIdeal.main_arg3) = m ((c.tc : Thread Cert.KernelRmsIdeal.nD Cert.KernelRmsIdeal.τ).loc Cert.KernelRmsIdeal.main_arg3)
      ∧ r.2.mem ((c.tc : Thread Cert.KernelRmsIdeal.nD Cert.KernelRmsIdeal.τ).loc Cert.KernelRmsIdeal.main_arg4) = m ((c.tc : Thread Cert.KernelRmsIdeal.nD Cert.KernelRmsIdeal.τ).loc Cert.KernelRmsIdeal.main_arg4))
      ∧ r.2.sem = fun _ => 0)

def quiescent_ReferenceRmsIdeal [hReferenceRmsIdeal : Cert.ReferenceRmsIdeal.Facts] : Prop :=
  ∀ (m : (ℓ : Loc Cert.ReferenceRmsIdeal.nD Cert.ReferenceRmsIdeal.τ Cert.ReferenceRmsIdeal.sig) → Buf (Elt Ideal) ℓ) (g : Dev Cert.ReferenceRmsIdeal.nD → PrngReg), Pre_ReferenceRmsIdeal m →
    θ_run (Cert.ReferenceRmsIdeal.defs (F := Ideal)) (onTc (τ := Cert.ReferenceRmsIdeal.τ) (Cert.ReferenceRmsIdeal.main (F := Ideal))) ⟨m, fun _ => 0, g⟩ (fun r => (∀ c : Dev Cert.ReferenceRmsIdeal.nD,
      r.2.mem ((c.tc : Thread Cert.ReferenceRmsIdeal.nD Cert.ReferenceRmsIdeal.τ).loc Cert.ReferenceRmsIdeal.main_arg0) = m ((c.tc : Thread Cert.ReferenceRmsIdeal.nD Cert.ReferenceRmsIdeal.τ).loc Cert.ReferenceRmsIdeal.main_arg0)
      ∧ r.2.mem ((c.tc : Thread Cert.ReferenceRmsIdeal.nD Cert.ReferenceRmsIdeal.τ).loc Cert.ReferenceRmsIdeal.main_arg1) = m ((c.tc : Thread Cert.ReferenceRmsIdeal.nD Cert.ReferenceRmsIdeal.τ).loc Cert.ReferenceRmsIdeal.main_arg1)
      ∧ r.2.mem ((c.tc : Thread Cert.ReferenceRmsIdeal.nD Cert.ReferenceRmsIdeal.τ).loc Cert.ReferenceRmsIdeal.main_arg2) = m ((c.tc : Thread Cert.ReferenceRmsIdeal.nD Cert.ReferenceRmsIdeal.τ).loc Cert.ReferenceRmsIdeal.main_arg2)
      ∧ r.2.mem ((c.tc : Thread Cert.ReferenceRmsIdeal.nD Cert.ReferenceRmsIdeal.τ).loc Cert.ReferenceRmsIdeal.main_arg3) = m ((c.tc : Thread Cert.ReferenceRmsIdeal.nD Cert.ReferenceRmsIdeal.τ).loc Cert.ReferenceRmsIdeal.main_arg3)
      ∧ r.2.mem ((c.tc : Thread Cert.ReferenceRmsIdeal.nD Cert.ReferenceRmsIdeal.τ).loc Cert.ReferenceRmsIdeal.main_arg4) = m ((c.tc : Thread Cert.ReferenceRmsIdeal.nD Cert.ReferenceRmsIdeal.τ).loc Cert.ReferenceRmsIdeal.main_arg4))
      ∧ r.2.sem = fun _ => 0)

def quiescent_KernelNorm [hKernelNorm : Cert.KernelNorm.Facts] : Prop :=
  ∀ (m : (ℓ : Loc Cert.KernelNorm.nD Cert.KernelNorm.τ Cert.KernelNorm.sig) → Buf (Elt Bits) ℓ) (g : Dev Cert.KernelNorm.nD → PrngReg), Pre_KernelNorm m →
    θ_run (Cert.KernelNorm.defs (F := Bits)) (onTc (τ := Cert.KernelNorm.τ) (Cert.KernelNorm.main (F := Bits))) ⟨m, fun _ => 0, g⟩ (fun r => (∀ c : Dev Cert.KernelNorm.nD,
      r.2.mem ((c.tc : Thread Cert.KernelNorm.nD Cert.KernelNorm.τ).loc Cert.KernelNorm.main_arg0) = m ((c.tc : Thread Cert.KernelNorm.nD Cert.KernelNorm.τ).loc Cert.KernelNorm.main_arg0)
      ∧ r.2.mem ((c.tc : Thread Cert.KernelNorm.nD Cert.KernelNorm.τ).loc Cert.KernelNorm.main_arg1) = m ((c.tc : Thread Cert.KernelNorm.nD Cert.KernelNorm.τ).loc Cert.KernelNorm.main_arg1)
      ∧ r.2.mem ((c.tc : Thread Cert.KernelNorm.nD Cert.KernelNorm.τ).loc Cert.KernelNorm.main_arg2) = m ((c.tc : Thread Cert.KernelNorm.nD Cert.KernelNorm.τ).loc Cert.KernelNorm.main_arg2)
      ∧ r.2.mem ((c.tc : Thread Cert.KernelNorm.nD Cert.KernelNorm.τ).loc Cert.KernelNorm.main_arg3) = m ((c.tc : Thread Cert.KernelNorm.nD Cert.KernelNorm.τ).loc Cert.KernelNorm.main_arg3)
      ∧ r.2.mem ((c.tc : Thread Cert.KernelNorm.nD Cert.KernelNorm.τ).loc Cert.KernelNorm.main_arg4) = m ((c.tc : Thread Cert.KernelNorm.nD Cert.KernelNorm.τ).loc Cert.KernelNorm.main_arg4)
      ∧ r.2.mem ((c.tc : Thread Cert.KernelNorm.nD Cert.KernelNorm.τ).loc Cert.KernelNorm.main_arg5) = m ((c.tc : Thread Cert.KernelNorm.nD Cert.KernelNorm.τ).loc Cert.KernelNorm.main_arg5)
      ∧ r.2.mem ((c.tc : Thread Cert.KernelNorm.nD Cert.KernelNorm.τ).loc Cert.KernelNorm.main_arg6) = m ((c.tc : Thread Cert.KernelNorm.nD Cert.KernelNorm.τ).loc Cert.KernelNorm.main_arg6))
      ∧ r.2.sem = fun _ => 0)

def quiescent_KernelNormIdeal [hKernelNormIdeal : Cert.KernelNormIdeal.Facts] : Prop :=
  ∀ (m : (ℓ : Loc Cert.KernelNormIdeal.nD Cert.KernelNormIdeal.τ Cert.KernelNormIdeal.sig) → Buf (Elt Ideal) ℓ) (g : Dev Cert.KernelNormIdeal.nD → PrngReg), Pre_KernelNormIdeal m →
    θ_run (Cert.KernelNormIdeal.defs (F := Ideal)) (onTc (τ := Cert.KernelNormIdeal.τ) (Cert.KernelNormIdeal.main (F := Ideal))) ⟨m, fun _ => 0, g⟩ (fun r => (∀ c : Dev Cert.KernelNormIdeal.nD,
      r.2.mem ((c.tc : Thread Cert.KernelNormIdeal.nD Cert.KernelNormIdeal.τ).loc Cert.KernelNormIdeal.main_arg0) = m ((c.tc : Thread Cert.KernelNormIdeal.nD Cert.KernelNormIdeal.τ).loc Cert.KernelNormIdeal.main_arg0)
      ∧ r.2.mem ((c.tc : Thread Cert.KernelNormIdeal.nD Cert.KernelNormIdeal.τ).loc Cert.KernelNormIdeal.main_arg1) = m ((c.tc : Thread Cert.KernelNormIdeal.nD Cert.KernelNormIdeal.τ).loc Cert.KernelNormIdeal.main_arg1)
      ∧ r.2.mem ((c.tc : Thread Cert.KernelNormIdeal.nD Cert.KernelNormIdeal.τ).loc Cert.KernelNormIdeal.main_arg2) = m ((c.tc : Thread Cert.KernelNormIdeal.nD Cert.KernelNormIdeal.τ).loc Cert.KernelNormIdeal.main_arg2)
      ∧ r.2.mem ((c.tc : Thread Cert.KernelNormIdeal.nD Cert.KernelNormIdeal.τ).loc Cert.KernelNormIdeal.main_arg3) = m ((c.tc : Thread Cert.KernelNormIdeal.nD Cert.KernelNormIdeal.τ).loc Cert.KernelNormIdeal.main_arg3)
      ∧ r.2.mem ((c.tc : Thread Cert.KernelNormIdeal.nD Cert.KernelNormIdeal.τ).loc Cert.KernelNormIdeal.main_arg4) = m ((c.tc : Thread Cert.KernelNormIdeal.nD Cert.KernelNormIdeal.τ).loc Cert.KernelNormIdeal.main_arg4)
      ∧ r.2.mem ((c.tc : Thread Cert.KernelNormIdeal.nD Cert.KernelNormIdeal.τ).loc Cert.KernelNormIdeal.main_arg5) = m ((c.tc : Thread Cert.KernelNormIdeal.nD Cert.KernelNormIdeal.τ).loc Cert.KernelNormIdeal.main_arg5)
      ∧ r.2.mem ((c.tc : Thread Cert.KernelNormIdeal.nD Cert.KernelNormIdeal.τ).loc Cert.KernelNormIdeal.main_arg6) = m ((c.tc : Thread Cert.KernelNormIdeal.nD Cert.KernelNormIdeal.τ).loc Cert.KernelNormIdeal.main_arg6))
      ∧ r.2.sem = fun _ => 0)

def quiescent_ReferenceNormIdeal [hReferenceNormIdeal : Cert.ReferenceNormIdeal.Facts] : Prop :=
  ∀ (m : (ℓ : Loc Cert.ReferenceNormIdeal.nD Cert.ReferenceNormIdeal.τ Cert.ReferenceNormIdeal.sig) → Buf (Elt Ideal) ℓ) (g : Dev Cert.ReferenceNormIdeal.nD → PrngReg), Pre_ReferenceNormIdeal m →
    θ_run (Cert.ReferenceNormIdeal.defs (F := Ideal)) (onTc (τ := Cert.ReferenceNormIdeal.τ) (Cert.ReferenceNormIdeal.main (F := Ideal))) ⟨m, fun _ => 0, g⟩ (fun r => (∀ c : Dev Cert.ReferenceNormIdeal.nD,
      r.2.mem ((c.tc : Thread Cert.ReferenceNormIdeal.nD Cert.ReferenceNormIdeal.τ).loc Cert.ReferenceNormIdeal.main_arg0) = m ((c.tc : Thread Cert.ReferenceNormIdeal.nD Cert.ReferenceNormIdeal.τ).loc Cert.ReferenceNormIdeal.main_arg0)
      ∧ r.2.mem ((c.tc : Thread Cert.ReferenceNormIdeal.nD Cert.ReferenceNormIdeal.τ).loc Cert.ReferenceNormIdeal.main_arg1) = m ((c.tc : Thread Cert.ReferenceNormIdeal.nD Cert.ReferenceNormIdeal.τ).loc Cert.ReferenceNormIdeal.main_arg1)
      ∧ r.2.mem ((c.tc : Thread Cert.ReferenceNormIdeal.nD Cert.ReferenceNormIdeal.τ).loc Cert.ReferenceNormIdeal.main_arg2) = m ((c.tc : Thread Cert.ReferenceNormIdeal.nD Cert.ReferenceNormIdeal.τ).loc Cert.ReferenceNormIdeal.main_arg2)
      ∧ r.2.mem ((c.tc : Thread Cert.ReferenceNormIdeal.nD Cert.ReferenceNormIdeal.τ).loc Cert.ReferenceNormIdeal.main_arg3) = m ((c.tc : Thread Cert.ReferenceNormIdeal.nD Cert.ReferenceNormIdeal.τ).loc Cert.ReferenceNormIdeal.main_arg3)
      ∧ r.2.mem ((c.tc : Thread Cert.ReferenceNormIdeal.nD Cert.ReferenceNormIdeal.τ).loc Cert.ReferenceNormIdeal.main_arg4) = m ((c.tc : Thread Cert.ReferenceNormIdeal.nD Cert.ReferenceNormIdeal.τ).loc Cert.ReferenceNormIdeal.main_arg4)
      ∧ r.2.mem ((c.tc : Thread Cert.ReferenceNormIdeal.nD Cert.ReferenceNormIdeal.τ).loc Cert.ReferenceNormIdeal.main_arg5) = m ((c.tc : Thread Cert.ReferenceNormIdeal.nD Cert.ReferenceNormIdeal.τ).loc Cert.ReferenceNormIdeal.main_arg5)
      ∧ r.2.mem ((c.tc : Thread Cert.ReferenceNormIdeal.nD Cert.ReferenceNormIdeal.τ).loc Cert.ReferenceNormIdeal.main_arg6) = m ((c.tc : Thread Cert.ReferenceNormIdeal.nD Cert.ReferenceNormIdeal.τ).loc Cert.ReferenceNormIdeal.main_arg6))
      ∧ r.2.sem = fun _ => 0)

def quiescent_KernelAct [hKernelAct : Cert.KernelAct.Facts] : Prop :=
  ∀ (m : (ℓ : Loc Cert.KernelAct.nD Cert.KernelAct.τ Cert.KernelAct.sig) → Buf (Elt Bits) ℓ) (g : Dev Cert.KernelAct.nD → PrngReg), Pre_KernelAct m →
    θ_run (Cert.KernelAct.defs (F := Bits)) (onTc (τ := Cert.KernelAct.τ) (Cert.KernelAct.main (F := Bits))) ⟨m, fun _ => 0, g⟩ (fun r => (∀ c : Dev Cert.KernelAct.nD,
      r.2.mem ((c.tc : Thread Cert.KernelAct.nD Cert.KernelAct.τ).loc Cert.KernelAct.main_arg0) = m ((c.tc : Thread Cert.KernelAct.nD Cert.KernelAct.τ).loc Cert.KernelAct.main_arg0)
      ∧ r.2.mem ((c.tc : Thread Cert.KernelAct.nD Cert.KernelAct.τ).loc Cert.KernelAct.main_arg1) = m ((c.tc : Thread Cert.KernelAct.nD Cert.KernelAct.τ).loc Cert.KernelAct.main_arg1)
      ∧ r.2.mem ((c.tc : Thread Cert.KernelAct.nD Cert.KernelAct.τ).loc Cert.KernelAct.main_arg2) = m ((c.tc : Thread Cert.KernelAct.nD Cert.KernelAct.τ).loc Cert.KernelAct.main_arg2))
      ∧ r.2.sem = fun _ => 0)

def quiescent_KernelActIdeal [hKernelActIdeal : Cert.KernelActIdeal.Facts] : Prop :=
  ∀ (m : (ℓ : Loc Cert.KernelActIdeal.nD Cert.KernelActIdeal.τ Cert.KernelActIdeal.sig) → Buf (Elt Ideal) ℓ) (g : Dev Cert.KernelActIdeal.nD → PrngReg), Pre_KernelActIdeal m →
    θ_run (Cert.KernelActIdeal.defs (F := Ideal)) (onTc (τ := Cert.KernelActIdeal.τ) (Cert.KernelActIdeal.main (F := Ideal))) ⟨m, fun _ => 0, g⟩ (fun r => (∀ c : Dev Cert.KernelActIdeal.nD,
      r.2.mem ((c.tc : Thread Cert.KernelActIdeal.nD Cert.KernelActIdeal.τ).loc Cert.KernelActIdeal.main_arg0) = m ((c.tc : Thread Cert.KernelActIdeal.nD Cert.KernelActIdeal.τ).loc Cert.KernelActIdeal.main_arg0)
      ∧ r.2.mem ((c.tc : Thread Cert.KernelActIdeal.nD Cert.KernelActIdeal.τ).loc Cert.KernelActIdeal.main_arg1) = m ((c.tc : Thread Cert.KernelActIdeal.nD Cert.KernelActIdeal.τ).loc Cert.KernelActIdeal.main_arg1)
      ∧ r.2.mem ((c.tc : Thread Cert.KernelActIdeal.nD Cert.KernelActIdeal.τ).loc Cert.KernelActIdeal.main_arg2) = m ((c.tc : Thread Cert.KernelActIdeal.nD Cert.KernelActIdeal.τ).loc Cert.KernelActIdeal.main_arg2))
      ∧ r.2.sem = fun _ => 0)

def quiescent_ReferenceActIdeal [hReferenceActIdeal : Cert.ReferenceActIdeal.Facts] : Prop :=
  ∀ (m : (ℓ : Loc Cert.ReferenceActIdeal.nD Cert.ReferenceActIdeal.τ Cert.ReferenceActIdeal.sig) → Buf (Elt Ideal) ℓ) (g : Dev Cert.ReferenceActIdeal.nD → PrngReg), Pre_ReferenceActIdeal m →
    θ_run (Cert.ReferenceActIdeal.defs (F := Ideal)) (onTc (τ := Cert.ReferenceActIdeal.τ) (Cert.ReferenceActIdeal.main (F := Ideal))) ⟨m, fun _ => 0, g⟩ (fun r => (∀ c : Dev Cert.ReferenceActIdeal.nD,
      r.2.mem ((c.tc : Thread Cert.ReferenceActIdeal.nD Cert.ReferenceActIdeal.τ).loc Cert.ReferenceActIdeal.main_arg0) = m ((c.tc : Thread Cert.ReferenceActIdeal.nD Cert.ReferenceActIdeal.τ).loc Cert.ReferenceActIdeal.main_arg0)
      ∧ r.2.mem ((c.tc : Thread Cert.ReferenceActIdeal.nD Cert.ReferenceActIdeal.τ).loc Cert.ReferenceActIdeal.main_arg1) = m ((c.tc : Thread Cert.ReferenceActIdeal.nD Cert.ReferenceActIdeal.τ).loc Cert.ReferenceActIdeal.main_arg1)
      ∧ r.2.mem ((c.tc : Thread Cert.ReferenceActIdeal.nD Cert.ReferenceActIdeal.τ).loc Cert.ReferenceActIdeal.main_arg2) = m ((c.tc : Thread Cert.ReferenceActIdeal.nD Cert.ReferenceActIdeal.τ).loc Cert.ReferenceActIdeal.main_arg2))
      ∧ r.2.sem = fun _ => 0)

def quiescent_KernelSums [hKernelSums : Cert.KernelSums.Facts] : Prop :=
  ∀ (m : (ℓ : Loc Cert.KernelSums.nD Cert.KernelSums.τ Cert.KernelSums.sig) → Buf (Elt Bits) ℓ) (g : Dev Cert.KernelSums.nD → PrngReg), Pre_KernelSums m →
    θ_run (Cert.KernelSums.defs (F := Bits)) (onTc (τ := Cert.KernelSums.τ) (Cert.KernelSums.main (F := Bits))) ⟨m, fun _ => 0, g⟩ (fun r => (∀ c : Dev Cert.KernelSums.nD,
      r.2.mem ((c.tc : Thread Cert.KernelSums.nD Cert.KernelSums.τ).loc Cert.KernelSums.main_arg0) = m ((c.tc : Thread Cert.KernelSums.nD Cert.KernelSums.τ).loc Cert.KernelSums.main_arg0)
      ∧ r.2.mem ((c.tc : Thread Cert.KernelSums.nD Cert.KernelSums.τ).loc Cert.KernelSums.main_arg1) = m ((c.tc : Thread Cert.KernelSums.nD Cert.KernelSums.τ).loc Cert.KernelSums.main_arg1))
      ∧ r.2.sem = fun _ => 0)

def quiescent_KernelSumsIdeal [hKernelSumsIdeal : Cert.KernelSumsIdeal.Facts] : Prop :=
  ∀ (m : (ℓ : Loc Cert.KernelSumsIdeal.nD Cert.KernelSumsIdeal.τ Cert.KernelSumsIdeal.sig) → Buf (Elt Ideal) ℓ) (g : Dev Cert.KernelSumsIdeal.nD → PrngReg), Pre_KernelSumsIdeal m →
    θ_run (Cert.KernelSumsIdeal.defs (F := Ideal)) (onTc (τ := Cert.KernelSumsIdeal.τ) (Cert.KernelSumsIdeal.main (F := Ideal))) ⟨m, fun _ => 0, g⟩ (fun r => (∀ c : Dev Cert.KernelSumsIdeal.nD,
      r.2.mem ((c.tc : Thread Cert.KernelSumsIdeal.nD Cert.KernelSumsIdeal.τ).loc Cert.KernelSumsIdeal.main_arg0) = m ((c.tc : Thread Cert.KernelSumsIdeal.nD Cert.KernelSumsIdeal.τ).loc Cert.KernelSumsIdeal.main_arg0)
      ∧ r.2.mem ((c.tc : Thread Cert.KernelSumsIdeal.nD Cert.KernelSumsIdeal.τ).loc Cert.KernelSumsIdeal.main_arg1) = m ((c.tc : Thread Cert.KernelSumsIdeal.nD Cert.KernelSumsIdeal.τ).loc Cert.KernelSumsIdeal.main_arg1))
      ∧ r.2.sem = fun _ => 0)

def quiescent_KernelSumsIdeal_pre_finite_sums [hKernelSumsIdeal : Cert.KernelSumsIdeal.Facts] [hPre_finite_sums : Cert.Pre_finite_sums.Facts] : Prop :=
  ∀ (m : (ℓ : Loc Cert.KernelSumsIdeal.nD Cert.KernelSumsIdeal.τ Cert.KernelSumsIdeal.sig) → Buf (Elt Ideal) ℓ) (g : Dev Cert.KernelSumsIdeal.nD → PrngReg), Pre_KernelSumsIdeal_finite_sums m →
    θ_run (Cert.KernelSumsIdeal.defs (F := Ideal)) (onTc (τ := Cert.KernelSumsIdeal.τ) (Cert.KernelSumsIdeal.main (F := Ideal))) ⟨m, fun _ => 0, g⟩ (fun r => (∀ c : Dev Cert.KernelSumsIdeal.nD,
      r.2.mem ((c.tc : Thread Cert.KernelSumsIdeal.nD Cert.KernelSumsIdeal.τ).loc Cert.KernelSumsIdeal.main_arg0) = m ((c.tc : Thread Cert.KernelSumsIdeal.nD Cert.KernelSumsIdeal.τ).loc Cert.KernelSumsIdeal.main_arg0)
      ∧ r.2.mem ((c.tc : Thread Cert.KernelSumsIdeal.nD Cert.KernelSumsIdeal.τ).loc Cert.KernelSumsIdeal.main_arg1) = m ((c.tc : Thread Cert.KernelSumsIdeal.nD Cert.KernelSumsIdeal.τ).loc Cert.KernelSumsIdeal.main_arg1))
      ∧ r.2.sem = fun _ => 0)

def quiescent_ReferenceSumsIdeal [hReferenceSumsIdeal : Cert.ReferenceSumsIdeal.Facts] : Prop :=
  ∀ (m : (ℓ : Loc Cert.ReferenceSumsIdeal.nD Cert.ReferenceSumsIdeal.τ Cert.ReferenceSumsIdeal.sig) → Buf (Elt Ideal) ℓ) (g : Dev Cert.ReferenceSumsIdeal.nD → PrngReg), Pre_ReferenceSumsIdeal m →
    θ_run (Cert.ReferenceSumsIdeal.defs (F := Ideal)) (onTc (τ := Cert.ReferenceSumsIdeal.τ) (Cert.ReferenceSumsIdeal.main (F := Ideal))) ⟨m, fun _ => 0, g⟩ (fun r => (∀ c : Dev Cert.ReferenceSumsIdeal.nD,
      r.2.mem ((c.tc : Thread Cert.ReferenceSumsIdeal.nD Cert.ReferenceSumsIdeal.τ).loc Cert.ReferenceSumsIdeal.main_arg0) = m ((c.tc : Thread Cert.ReferenceSumsIdeal.nD Cert.ReferenceSumsIdeal.τ).loc Cert.ReferenceSumsIdeal.main_arg0)
      ∧ r.2.mem ((c.tc : Thread Cert.ReferenceSumsIdeal.nD Cert.ReferenceSumsIdeal.τ).loc Cert.ReferenceSumsIdeal.main_arg1) = m ((c.tc : Thread Cert.ReferenceSumsIdeal.nD Cert.ReferenceSumsIdeal.τ).loc Cert.ReferenceSumsIdeal.main_arg1))
      ∧ r.2.sem = fun _ => 0)

def quiescent_ReferenceSumsIdeal_pre_finite_sums [hReferenceSumsIdeal : Cert.ReferenceSumsIdeal.Facts] [hPre_finite_sums : Cert.Pre_finite_sums.Facts] : Prop :=
  ∀ (m : (ℓ : Loc Cert.ReferenceSumsIdeal.nD Cert.ReferenceSumsIdeal.τ Cert.ReferenceSumsIdeal.sig) → Buf (Elt Ideal) ℓ) (g : Dev Cert.ReferenceSumsIdeal.nD → PrngReg), Pre_ReferenceSumsIdeal_finite_sums m →
    θ_run (Cert.ReferenceSumsIdeal.defs (F := Ideal)) (onTc (τ := Cert.ReferenceSumsIdeal.τ) (Cert.ReferenceSumsIdeal.main (F := Ideal))) ⟨m, fun _ => 0, g⟩ (fun r => (∀ c : Dev Cert.ReferenceSumsIdeal.nD,
      r.2.mem ((c.tc : Thread Cert.ReferenceSumsIdeal.nD Cert.ReferenceSumsIdeal.τ).loc Cert.ReferenceSumsIdeal.main_arg0) = m ((c.tc : Thread Cert.ReferenceSumsIdeal.nD Cert.ReferenceSumsIdeal.τ).loc Cert.ReferenceSumsIdeal.main_arg0)
      ∧ r.2.mem ((c.tc : Thread Cert.ReferenceSumsIdeal.nD Cert.ReferenceSumsIdeal.τ).loc Cert.ReferenceSumsIdeal.main_arg1) = m ((c.tc : Thread Cert.ReferenceSumsIdeal.nD Cert.ReferenceSumsIdeal.τ).loc Cert.ReferenceSumsIdeal.main_arg1))
      ∧ r.2.sem = fun _ => 0)

def quiescent_KernelProj [hKernelProj : Cert.KernelProj.Facts] : Prop :=
  ∀ (m : (ℓ : Loc Cert.KernelProj.nD Cert.KernelProj.τ Cert.KernelProj.sig) → Buf (Elt Bits) ℓ) (g : Dev Cert.KernelProj.nD → PrngReg), Pre_KernelProj m →
    θ_run (Cert.KernelProj.defs (F := Bits)) (onTc (τ := Cert.KernelProj.τ) (Cert.KernelProj.main (F := Bits))) ⟨m, fun _ => 0, g⟩ (fun r => (∀ c : Dev Cert.KernelProj.nD,
      r.2.mem ((c.tc : Thread Cert.KernelProj.nD Cert.KernelProj.τ).loc Cert.KernelProj.main_arg0) = m ((c.tc : Thread Cert.KernelProj.nD Cert.KernelProj.τ).loc Cert.KernelProj.main_arg0)
      ∧ r.2.mem ((c.tc : Thread Cert.KernelProj.nD Cert.KernelProj.τ).loc Cert.KernelProj.main_arg1) = m ((c.tc : Thread Cert.KernelProj.nD Cert.KernelProj.τ).loc Cert.KernelProj.main_arg1)
      ∧ r.2.mem ((c.tc : Thread Cert.KernelProj.nD Cert.KernelProj.τ).loc Cert.KernelProj.main_arg2) = m ((c.tc : Thread Cert.KernelProj.nD Cert.KernelProj.τ).loc Cert.KernelProj.main_arg2)
      ∧ r.2.mem ((c.tc : Thread Cert.KernelProj.nD Cert.KernelProj.τ).loc Cert.KernelProj.main_arg3) = m ((c.tc : Thread Cert.KernelProj.nD Cert.KernelProj.τ).loc Cert.KernelProj.main_arg3))
      ∧ r.2.sem = fun _ => 0)

def quiescent_KernelProjIdeal [hKernelProjIdeal : Cert.KernelProjIdeal.Facts] : Prop :=
  ∀ (m : (ℓ : Loc Cert.KernelProjIdeal.nD Cert.KernelProjIdeal.τ Cert.KernelProjIdeal.sig) → Buf (Elt Ideal) ℓ) (g : Dev Cert.KernelProjIdeal.nD → PrngReg), Pre_KernelProjIdeal m →
    θ_run (Cert.KernelProjIdeal.defs (F := Ideal)) (onTc (τ := Cert.KernelProjIdeal.τ) (Cert.KernelProjIdeal.main (F := Ideal))) ⟨m, fun _ => 0, g⟩ (fun r => (∀ c : Dev Cert.KernelProjIdeal.nD,
      r.2.mem ((c.tc : Thread Cert.KernelProjIdeal.nD Cert.KernelProjIdeal.τ).loc Cert.KernelProjIdeal.main_arg0) = m ((c.tc : Thread Cert.KernelProjIdeal.nD Cert.KernelProjIdeal.τ).loc Cert.KernelProjIdeal.main_arg0)
      ∧ r.2.mem ((c.tc : Thread Cert.KernelProjIdeal.nD Cert.KernelProjIdeal.τ).loc Cert.KernelProjIdeal.main_arg1) = m ((c.tc : Thread Cert.KernelProjIdeal.nD Cert.KernelProjIdeal.τ).loc Cert.KernelProjIdeal.main_arg1)
      ∧ r.2.mem ((c.tc : Thread Cert.KernelProjIdeal.nD Cert.KernelProjIdeal.τ).loc Cert.KernelProjIdeal.main_arg2) = m ((c.tc : Thread Cert.KernelProjIdeal.nD Cert.KernelProjIdeal.τ).loc Cert.KernelProjIdeal.main_arg2)
      ∧ r.2.mem ((c.tc : Thread Cert.KernelProjIdeal.nD Cert.KernelProjIdeal.τ).loc Cert.KernelProjIdeal.main_arg3) = m ((c.tc : Thread Cert.KernelProjIdeal.nD Cert.KernelProjIdeal.τ).loc Cert.KernelProjIdeal.main_arg3))
      ∧ r.2.sem = fun _ => 0)

def quiescent_ReferenceProjIdeal [hReferenceProjIdeal : Cert.ReferenceProjIdeal.Facts] : Prop :=
  ∀ (m : (ℓ : Loc Cert.ReferenceProjIdeal.nD Cert.ReferenceProjIdeal.τ Cert.ReferenceProjIdeal.sig) → Buf (Elt Ideal) ℓ) (g : Dev Cert.ReferenceProjIdeal.nD → PrngReg), Pre_ReferenceProjIdeal m →
    θ_run (Cert.ReferenceProjIdeal.defs (F := Ideal)) (onTc (τ := Cert.ReferenceProjIdeal.τ) (Cert.ReferenceProjIdeal.main (F := Ideal))) ⟨m, fun _ => 0, g⟩ (fun r => (∀ c : Dev Cert.ReferenceProjIdeal.nD,
      r.2.mem ((c.tc : Thread Cert.ReferenceProjIdeal.nD Cert.ReferenceProjIdeal.τ).loc Cert.ReferenceProjIdeal.main_arg0) = m ((c.tc : Thread Cert.ReferenceProjIdeal.nD Cert.ReferenceProjIdeal.τ).loc Cert.ReferenceProjIdeal.main_arg0)
      ∧ r.2.mem ((c.tc : Thread Cert.ReferenceProjIdeal.nD Cert.ReferenceProjIdeal.τ).loc Cert.ReferenceProjIdeal.main_arg1) = m ((c.tc : Thread Cert.ReferenceProjIdeal.nD Cert.ReferenceProjIdeal.τ).loc Cert.ReferenceProjIdeal.main_arg1)
      ∧ r.2.mem ((c.tc : Thread Cert.ReferenceProjIdeal.nD Cert.ReferenceProjIdeal.τ).loc Cert.ReferenceProjIdeal.main_arg2) = m ((c.tc : Thread Cert.ReferenceProjIdeal.nD Cert.ReferenceProjIdeal.τ).loc Cert.ReferenceProjIdeal.main_arg2)
      ∧ r.2.mem ((c.tc : Thread Cert.ReferenceProjIdeal.nD Cert.ReferenceProjIdeal.τ).loc Cert.ReferenceProjIdeal.main_arg3) = m ((c.tc : Thread Cert.ReferenceProjIdeal.nD Cert.ReferenceProjIdeal.τ).loc Cert.ReferenceProjIdeal.main_arg3))
      ∧ r.2.sem = fun _ => 0)

def quiescent_KernelOut [hKernelOut : Cert.KernelOut.Facts] : Prop :=
  ∀ (m : (ℓ : Loc Cert.KernelOut.nD Cert.KernelOut.τ Cert.KernelOut.sig) → Buf (Elt Bits) ℓ) (g : Dev Cert.KernelOut.nD → PrngReg), Pre_KernelOut m →
    θ_run (Cert.KernelOut.defs (F := Bits)) (onTc (τ := Cert.KernelOut.τ) (Cert.KernelOut.main (F := Bits))) ⟨m, fun _ => 0, g⟩ (fun r => (∀ c : Dev Cert.KernelOut.nD,
      r.2.mem ((c.tc : Thread Cert.KernelOut.nD Cert.KernelOut.τ).loc Cert.KernelOut.main_arg0) = m ((c.tc : Thread Cert.KernelOut.nD Cert.KernelOut.τ).loc Cert.KernelOut.main_arg0)
      ∧ r.2.mem ((c.tc : Thread Cert.KernelOut.nD Cert.KernelOut.τ).loc Cert.KernelOut.main_arg1) = m ((c.tc : Thread Cert.KernelOut.nD Cert.KernelOut.τ).loc Cert.KernelOut.main_arg1))
      ∧ r.2.sem = fun _ => 0)

def quiescent_KernelOutIdeal [hKernelOutIdeal : Cert.KernelOutIdeal.Facts] : Prop :=
  ∀ (m : (ℓ : Loc Cert.KernelOutIdeal.nD Cert.KernelOutIdeal.τ Cert.KernelOutIdeal.sig) → Buf (Elt Ideal) ℓ) (g : Dev Cert.KernelOutIdeal.nD → PrngReg), Pre_KernelOutIdeal m →
    θ_run (Cert.KernelOutIdeal.defs (F := Ideal)) (onTc (τ := Cert.KernelOutIdeal.τ) (Cert.KernelOutIdeal.main (F := Ideal))) ⟨m, fun _ => 0, g⟩ (fun r => (∀ c : Dev Cert.KernelOutIdeal.nD,
      r.2.mem ((c.tc : Thread Cert.KernelOutIdeal.nD Cert.KernelOutIdeal.τ).loc Cert.KernelOutIdeal.main_arg0) = m ((c.tc : Thread Cert.KernelOutIdeal.nD Cert.KernelOutIdeal.τ).loc Cert.KernelOutIdeal.main_arg0)
      ∧ r.2.mem ((c.tc : Thread Cert.KernelOutIdeal.nD Cert.KernelOutIdeal.τ).loc Cert.KernelOutIdeal.main_arg1) = m ((c.tc : Thread Cert.KernelOutIdeal.nD Cert.KernelOutIdeal.τ).loc Cert.KernelOutIdeal.main_arg1))
      ∧ r.2.sem = fun _ => 0)

def quiescent_ReferenceOutIdeal [hReferenceOutIdeal : Cert.ReferenceOutIdeal.Facts] : Prop :=
  ∀ (m : (ℓ : Loc Cert.ReferenceOutIdeal.nD Cert.ReferenceOutIdeal.τ Cert.ReferenceOutIdeal.sig) → Buf (Elt Ideal) ℓ) (g : Dev Cert.ReferenceOutIdeal.nD → PrngReg), Pre_ReferenceOutIdeal m →
    θ_run (Cert.ReferenceOutIdeal.defs (F := Ideal)) (onTc (τ := Cert.ReferenceOutIdeal.τ) (Cert.ReferenceOutIdeal.main (F := Ideal))) ⟨m, fun _ => 0, g⟩ (fun r => (∀ c : Dev Cert.ReferenceOutIdeal.nD,
      r.2.mem ((c.tc : Thread Cert.ReferenceOutIdeal.nD Cert.ReferenceOutIdeal.τ).loc Cert.ReferenceOutIdeal.main_arg0) = m ((c.tc : Thread Cert.ReferenceOutIdeal.nD Cert.ReferenceOutIdeal.τ).loc Cert.ReferenceOutIdeal.main_arg0)
      ∧ r.2.mem ((c.tc : Thread Cert.ReferenceOutIdeal.nD Cert.ReferenceOutIdeal.τ).loc Cert.ReferenceOutIdeal.main_arg1) = m ((c.tc : Thread Cert.ReferenceOutIdeal.nD Cert.ReferenceOutIdeal.τ).loc Cert.ReferenceOutIdeal.main_arg1))
      ∧ r.2.sem = fun _ => 0)

def quiescent_KernelDmix [hKernelDmix : Cert.KernelDmix.Facts] : Prop :=
  ∀ (m : (ℓ : Loc Cert.KernelDmix.nD Cert.KernelDmix.τ Cert.KernelDmix.sig) → Buf (Elt Bits) ℓ) (g : Dev Cert.KernelDmix.nD → PrngReg), Pre_KernelDmix m →
    θ_run (Cert.KernelDmix.defs (F := Bits)) (onTc (τ := Cert.KernelDmix.τ) (Cert.KernelDmix.main (F := Bits))) ⟨m, fun _ => 0, g⟩ (fun r => (∀ c : Dev Cert.KernelDmix.nD,
      r.2.mem ((c.tc : Thread Cert.KernelDmix.nD Cert.KernelDmix.τ).loc Cert.KernelDmix.main_arg0) = m ((c.tc : Thread Cert.KernelDmix.nD Cert.KernelDmix.τ).loc Cert.KernelDmix.main_arg0)
      ∧ r.2.mem ((c.tc : Thread Cert.KernelDmix.nD Cert.KernelDmix.τ).loc Cert.KernelDmix.main_arg1) = m ((c.tc : Thread Cert.KernelDmix.nD Cert.KernelDmix.τ).loc Cert.KernelDmix.main_arg1)
      ∧ r.2.mem ((c.tc : Thread Cert.KernelDmix.nD Cert.KernelDmix.τ).loc Cert.KernelDmix.main_arg2) = m ((c.tc : Thread Cert.KernelDmix.nD Cert.KernelDmix.τ).loc Cert.KernelDmix.main_arg2))
      ∧ r.2.sem = fun _ => 0)

def quiescent_KernelDmixIdeal [hKernelDmixIdeal : Cert.KernelDmixIdeal.Facts] : Prop :=
  ∀ (m : (ℓ : Loc Cert.KernelDmixIdeal.nD Cert.KernelDmixIdeal.τ Cert.KernelDmixIdeal.sig) → Buf (Elt Ideal) ℓ) (g : Dev Cert.KernelDmixIdeal.nD → PrngReg), Pre_KernelDmixIdeal m →
    θ_run (Cert.KernelDmixIdeal.defs (F := Ideal)) (onTc (τ := Cert.KernelDmixIdeal.τ) (Cert.KernelDmixIdeal.main (F := Ideal))) ⟨m, fun _ => 0, g⟩ (fun r => (∀ c : Dev Cert.KernelDmixIdeal.nD,
      r.2.mem ((c.tc : Thread Cert.KernelDmixIdeal.nD Cert.KernelDmixIdeal.τ).loc Cert.KernelDmixIdeal.main_arg0) = m ((c.tc : Thread Cert.KernelDmixIdeal.nD Cert.KernelDmixIdeal.τ).loc Cert.KernelDmixIdeal.main_arg0)
      ∧ r.2.mem ((c.tc : Thread Cert.KernelDmixIdeal.nD Cert.KernelDmixIdeal.τ).loc Cert.KernelDmixIdeal.main_arg1) = m ((c.tc : Thread Cert.KernelDmixIdeal.nD Cert.KernelDmixIdeal.τ).loc Cert.KernelDmixIdeal.main_arg1)
      ∧ r.2.mem ((c.tc : Thread Cert.KernelDmixIdeal.nD Cert.KernelDmixIdeal.τ).loc Cert.KernelDmixIdeal.main_arg2) = m ((c.tc : Thread Cert.KernelDmixIdeal.nD Cert.KernelDmixIdeal.τ).loc Cert.KernelDmixIdeal.main_arg2))
      ∧ r.2.sem = fun _ => 0)

def quiescent_ReferenceDmixIdeal [hReferenceDmixIdeal : Cert.ReferenceDmixIdeal.Facts] : Prop :=
  ∀ (m : (ℓ : Loc Cert.ReferenceDmixIdeal.nD Cert.ReferenceDmixIdeal.τ Cert.ReferenceDmixIdeal.sig) → Buf (Elt Ideal) ℓ) (g : Dev Cert.ReferenceDmixIdeal.nD → PrngReg), Pre_ReferenceDmixIdeal m →
    θ_run (Cert.ReferenceDmixIdeal.defs (F := Ideal)) (onTc (τ := Cert.ReferenceDmixIdeal.τ) (Cert.ReferenceDmixIdeal.main (F := Ideal))) ⟨m, fun _ => 0, g⟩ (fun r => (∀ c : Dev Cert.ReferenceDmixIdeal.nD,
      r.2.mem ((c.tc : Thread Cert.ReferenceDmixIdeal.nD Cert.ReferenceDmixIdeal.τ).loc Cert.ReferenceDmixIdeal.main_arg0) = m ((c.tc : Thread Cert.ReferenceDmixIdeal.nD Cert.ReferenceDmixIdeal.τ).loc Cert.ReferenceDmixIdeal.main_arg0)
      ∧ r.2.mem ((c.tc : Thread Cert.ReferenceDmixIdeal.nD Cert.ReferenceDmixIdeal.τ).loc Cert.ReferenceDmixIdeal.main_arg1) = m ((c.tc : Thread Cert.ReferenceDmixIdeal.nD Cert.ReferenceDmixIdeal.τ).loc Cert.ReferenceDmixIdeal.main_arg1)
      ∧ r.2.mem ((c.tc : Thread Cert.ReferenceDmixIdeal.nD Cert.ReferenceDmixIdeal.τ).loc Cert.ReferenceDmixIdeal.main_arg2) = m ((c.tc : Thread Cert.ReferenceDmixIdeal.nD Cert.ReferenceDmixIdeal.τ).loc Cert.ReferenceDmixIdeal.main_arg2))
      ∧ r.2.sem = fun _ => 0)

def quiescent_KernelWout [hKernelWout : Cert.KernelWout.Facts] : Prop :=
  ∀ (m : (ℓ : Loc Cert.KernelWout.nD Cert.KernelWout.τ Cert.KernelWout.sig) → Buf (Elt Bits) ℓ) (g : Dev Cert.KernelWout.nD → PrngReg), Pre_KernelWout m →
    θ_run (Cert.KernelWout.defs (F := Bits)) (onTc (τ := Cert.KernelWout.τ) (Cert.KernelWout.main (F := Bits))) ⟨m, fun _ => 0, g⟩ (fun r => (∀ c : Dev Cert.KernelWout.nD,
      r.2.mem ((c.tc : Thread Cert.KernelWout.nD Cert.KernelWout.τ).loc Cert.KernelWout.main_arg0) = m ((c.tc : Thread Cert.KernelWout.nD Cert.KernelWout.τ).loc Cert.KernelWout.main_arg0)
      ∧ r.2.mem ((c.tc : Thread Cert.KernelWout.nD Cert.KernelWout.τ).loc Cert.KernelWout.main_arg1) = m ((c.tc : Thread Cert.KernelWout.nD Cert.KernelWout.τ).loc Cert.KernelWout.main_arg1)
      ∧ r.2.mem ((c.tc : Thread Cert.KernelWout.nD Cert.KernelWout.τ).loc Cert.KernelWout.main_arg2) = m ((c.tc : Thread Cert.KernelWout.nD Cert.KernelWout.τ).loc Cert.KernelWout.main_arg2))
      ∧ r.2.sem = fun _ => 0)

def quiescent_KernelWoutIdeal [hKernelWoutIdeal : Cert.KernelWoutIdeal.Facts] : Prop :=
  ∀ (m : (ℓ : Loc Cert.KernelWoutIdeal.nD Cert.KernelWoutIdeal.τ Cert.KernelWoutIdeal.sig) → Buf (Elt Ideal) ℓ) (g : Dev Cert.KernelWoutIdeal.nD → PrngReg), Pre_KernelWoutIdeal m →
    θ_run (Cert.KernelWoutIdeal.defs (F := Ideal)) (onTc (τ := Cert.KernelWoutIdeal.τ) (Cert.KernelWoutIdeal.main (F := Ideal))) ⟨m, fun _ => 0, g⟩ (fun r => (∀ c : Dev Cert.KernelWoutIdeal.nD,
      r.2.mem ((c.tc : Thread Cert.KernelWoutIdeal.nD Cert.KernelWoutIdeal.τ).loc Cert.KernelWoutIdeal.main_arg0) = m ((c.tc : Thread Cert.KernelWoutIdeal.nD Cert.KernelWoutIdeal.τ).loc Cert.KernelWoutIdeal.main_arg0)
      ∧ r.2.mem ((c.tc : Thread Cert.KernelWoutIdeal.nD Cert.KernelWoutIdeal.τ).loc Cert.KernelWoutIdeal.main_arg1) = m ((c.tc : Thread Cert.KernelWoutIdeal.nD Cert.KernelWoutIdeal.τ).loc Cert.KernelWoutIdeal.main_arg1)
      ∧ r.2.mem ((c.tc : Thread Cert.KernelWoutIdeal.nD Cert.KernelWoutIdeal.τ).loc Cert.KernelWoutIdeal.main_arg2) = m ((c.tc : Thread Cert.KernelWoutIdeal.nD Cert.KernelWoutIdeal.τ).loc Cert.KernelWoutIdeal.main_arg2))
      ∧ r.2.sem = fun _ => 0)

def quiescent_ReferenceWoutIdeal [hReferenceWoutIdeal : Cert.ReferenceWoutIdeal.Facts] : Prop :=
  ∀ (m : (ℓ : Loc Cert.ReferenceWoutIdeal.nD Cert.ReferenceWoutIdeal.τ Cert.ReferenceWoutIdeal.sig) → Buf (Elt Ideal) ℓ) (g : Dev Cert.ReferenceWoutIdeal.nD → PrngReg), Pre_ReferenceWoutIdeal m →
    θ_run (Cert.ReferenceWoutIdeal.defs (F := Ideal)) (onTc (τ := Cert.ReferenceWoutIdeal.τ) (Cert.ReferenceWoutIdeal.main (F := Ideal))) ⟨m, fun _ => 0, g⟩ (fun r => (∀ c : Dev Cert.ReferenceWoutIdeal.nD,
      r.2.mem ((c.tc : Thread Cert.ReferenceWoutIdeal.nD Cert.ReferenceWoutIdeal.τ).loc Cert.ReferenceWoutIdeal.main_arg0) = m ((c.tc : Thread Cert.ReferenceWoutIdeal.nD Cert.ReferenceWoutIdeal.τ).loc Cert.ReferenceWoutIdeal.main_arg0)
      ∧ r.2.mem ((c.tc : Thread Cert.ReferenceWoutIdeal.nD Cert.ReferenceWoutIdeal.τ).loc Cert.ReferenceWoutIdeal.main_arg1) = m ((c.tc : Thread Cert.ReferenceWoutIdeal.nD Cert.ReferenceWoutIdeal.τ).loc Cert.ReferenceWoutIdeal.main_arg1)
      ∧ r.2.mem ((c.tc : Thread Cert.ReferenceWoutIdeal.nD Cert.ReferenceWoutIdeal.τ).loc Cert.ReferenceWoutIdeal.main_arg2) = m ((c.tc : Thread Cert.ReferenceWoutIdeal.nD Cert.ReferenceWoutIdeal.τ).loc Cert.ReferenceWoutIdeal.main_arg2))
      ∧ r.2.sem = fun _ => 0)

def quiescent_KernelFf [hKernelFf : Cert.KernelFf.Facts] : Prop :=
  ∀ (m : (ℓ : Loc Cert.KernelFf.nD Cert.KernelFf.τ Cert.KernelFf.sig) → Buf (Elt Bits) ℓ) (g : Dev Cert.KernelFf.nD → PrngReg), Pre_KernelFf m →
    θ_run (Cert.KernelFf.defs (F := Bits)) (onTc (τ := Cert.KernelFf.τ) (Cert.KernelFf.main (F := Bits))) ⟨m, fun _ => 0, g⟩ (fun r => (∀ c : Dev Cert.KernelFf.nD,
      r.2.mem ((c.tc : Thread Cert.KernelFf.nD Cert.KernelFf.τ).loc Cert.KernelFf.main_arg0) = m ((c.tc : Thread Cert.KernelFf.nD Cert.KernelFf.τ).loc Cert.KernelFf.main_arg0)
      ∧ r.2.mem ((c.tc : Thread Cert.KernelFf.nD Cert.KernelFf.τ).loc Cert.KernelFf.main_arg1) = m ((c.tc : Thread Cert.KernelFf.nD Cert.KernelFf.τ).loc Cert.KernelFf.main_arg1))
      ∧ r.2.sem = fun _ => 0)

def quiescent_KernelFfIdeal [hKernelFfIdeal : Cert.KernelFfIdeal.Facts] : Prop :=
  ∀ (m : (ℓ : Loc Cert.KernelFfIdeal.nD Cert.KernelFfIdeal.τ Cert.KernelFfIdeal.sig) → Buf (Elt Ideal) ℓ) (g : Dev Cert.KernelFfIdeal.nD → PrngReg), Pre_KernelFfIdeal m →
    θ_run (Cert.KernelFfIdeal.defs (F := Ideal)) (onTc (τ := Cert.KernelFfIdeal.τ) (Cert.KernelFfIdeal.main (F := Ideal))) ⟨m, fun _ => 0, g⟩ (fun r => (∀ c : Dev Cert.KernelFfIdeal.nD,
      r.2.mem ((c.tc : Thread Cert.KernelFfIdeal.nD Cert.KernelFfIdeal.τ).loc Cert.KernelFfIdeal.main_arg0) = m ((c.tc : Thread Cert.KernelFfIdeal.nD Cert.KernelFfIdeal.τ).loc Cert.KernelFfIdeal.main_arg0)
      ∧ r.2.mem ((c.tc : Thread Cert.KernelFfIdeal.nD Cert.KernelFfIdeal.τ).loc Cert.KernelFfIdeal.main_arg1) = m ((c.tc : Thread Cert.KernelFfIdeal.nD Cert.KernelFfIdeal.τ).loc Cert.KernelFfIdeal.main_arg1))
      ∧ r.2.sem = fun _ => 0)

def quiescent_ReferenceFfIdeal [hReferenceFfIdeal : Cert.ReferenceFfIdeal.Facts] : Prop :=
  ∀ (m : (ℓ : Loc Cert.ReferenceFfIdeal.nD Cert.ReferenceFfIdeal.τ Cert.ReferenceFfIdeal.sig) → Buf (Elt Ideal) ℓ) (g : Dev Cert.ReferenceFfIdeal.nD → PrngReg), Pre_ReferenceFfIdeal m →
    θ_run (Cert.ReferenceFfIdeal.defs (F := Ideal)) (onTc (τ := Cert.ReferenceFfIdeal.τ) (Cert.ReferenceFfIdeal.main (F := Ideal))) ⟨m, fun _ => 0, g⟩ (fun r => (∀ c : Dev Cert.ReferenceFfIdeal.nD,
      r.2.mem ((c.tc : Thread Cert.ReferenceFfIdeal.nD Cert.ReferenceFfIdeal.τ).loc Cert.ReferenceFfIdeal.main_arg0) = m ((c.tc : Thread Cert.ReferenceFfIdeal.nD Cert.ReferenceFfIdeal.τ).loc Cert.ReferenceFfIdeal.main_arg0)
      ∧ r.2.mem ((c.tc : Thread Cert.ReferenceFfIdeal.nD Cert.ReferenceFfIdeal.τ).loc Cert.ReferenceFfIdeal.main_arg1) = m ((c.tc : Thread Cert.ReferenceFfIdeal.nD Cert.ReferenceFfIdeal.τ).loc Cert.ReferenceFfIdeal.main_arg1))
      ∧ r.2.sem = fun _ => 0)

def quiescent_KernelWff [hKernelWff : Cert.KernelWff.Facts] : Prop :=
  ∀ (m : (ℓ : Loc Cert.KernelWff.nD Cert.KernelWff.τ Cert.KernelWff.sig) → Buf (Elt Bits) ℓ) (g : Dev Cert.KernelWff.nD → PrngReg), Pre_KernelWff m →
    θ_run (Cert.KernelWff.defs (F := Bits)) (onTc (τ := Cert.KernelWff.τ) (Cert.KernelWff.main (F := Bits))) ⟨m, fun _ => 0, g⟩ (fun r => (∀ c : Dev Cert.KernelWff.nD,
      r.2.mem ((c.tc : Thread Cert.KernelWff.nD Cert.KernelWff.τ).loc Cert.KernelWff.main_arg0) = m ((c.tc : Thread Cert.KernelWff.nD Cert.KernelWff.τ).loc Cert.KernelWff.main_arg0)
      ∧ r.2.mem ((c.tc : Thread Cert.KernelWff.nD Cert.KernelWff.τ).loc Cert.KernelWff.main_arg1) = m ((c.tc : Thread Cert.KernelWff.nD Cert.KernelWff.τ).loc Cert.KernelWff.main_arg1)
      ∧ r.2.mem ((c.tc : Thread Cert.KernelWff.nD Cert.KernelWff.τ).loc Cert.KernelWff.main_arg2) = m ((c.tc : Thread Cert.KernelWff.nD Cert.KernelWff.τ).loc Cert.KernelWff.main_arg2))
      ∧ r.2.sem = fun _ => 0)

def quiescent_KernelWffIdeal [hKernelWffIdeal : Cert.KernelWffIdeal.Facts] : Prop :=
  ∀ (m : (ℓ : Loc Cert.KernelWffIdeal.nD Cert.KernelWffIdeal.τ Cert.KernelWffIdeal.sig) → Buf (Elt Ideal) ℓ) (g : Dev Cert.KernelWffIdeal.nD → PrngReg), Pre_KernelWffIdeal m →
    θ_run (Cert.KernelWffIdeal.defs (F := Ideal)) (onTc (τ := Cert.KernelWffIdeal.τ) (Cert.KernelWffIdeal.main (F := Ideal))) ⟨m, fun _ => 0, g⟩ (fun r => (∀ c : Dev Cert.KernelWffIdeal.nD,
      r.2.mem ((c.tc : Thread Cert.KernelWffIdeal.nD Cert.KernelWffIdeal.τ).loc Cert.KernelWffIdeal.main_arg0) = m ((c.tc : Thread Cert.KernelWffIdeal.nD Cert.KernelWffIdeal.τ).loc Cert.KernelWffIdeal.main_arg0)
      ∧ r.2.mem ((c.tc : Thread Cert.KernelWffIdeal.nD Cert.KernelWffIdeal.τ).loc Cert.KernelWffIdeal.main_arg1) = m ((c.tc : Thread Cert.KernelWffIdeal.nD Cert.KernelWffIdeal.τ).loc Cert.KernelWffIdeal.main_arg1)
      ∧ r.2.mem ((c.tc : Thread Cert.KernelWffIdeal.nD Cert.KernelWffIdeal.τ).loc Cert.KernelWffIdeal.main_arg2) = m ((c.tc : Thread Cert.KernelWffIdeal.nD Cert.KernelWffIdeal.τ).loc Cert.KernelWffIdeal.main_arg2))
      ∧ r.2.sem = fun _ => 0)

def quiescent_ReferenceWffIdeal [hReferenceWffIdeal : Cert.ReferenceWffIdeal.Facts] : Prop :=
  ∀ (m : (ℓ : Loc Cert.ReferenceWffIdeal.nD Cert.ReferenceWffIdeal.τ Cert.ReferenceWffIdeal.sig) → Buf (Elt Ideal) ℓ) (g : Dev Cert.ReferenceWffIdeal.nD → PrngReg), Pre_ReferenceWffIdeal m →
    θ_run (Cert.ReferenceWffIdeal.defs (F := Ideal)) (onTc (τ := Cert.ReferenceWffIdeal.τ) (Cert.ReferenceWffIdeal.main (F := Ideal))) ⟨m, fun _ => 0, g⟩ (fun r => (∀ c : Dev Cert.ReferenceWffIdeal.nD,
      r.2.mem ((c.tc : Thread Cert.ReferenceWffIdeal.nD Cert.ReferenceWffIdeal.τ).loc Cert.ReferenceWffIdeal.main_arg0) = m ((c.tc : Thread Cert.ReferenceWffIdeal.nD Cert.ReferenceWffIdeal.τ).loc Cert.ReferenceWffIdeal.main_arg0)
      ∧ r.2.mem ((c.tc : Thread Cert.ReferenceWffIdeal.nD Cert.ReferenceWffIdeal.τ).loc Cert.ReferenceWffIdeal.main_arg1) = m ((c.tc : Thread Cert.ReferenceWffIdeal.nD Cert.ReferenceWffIdeal.τ).loc Cert.ReferenceWffIdeal.main_arg1)
      ∧ r.2.mem ((c.tc : Thread Cert.ReferenceWffIdeal.nD Cert.ReferenceWffIdeal.τ).loc Cert.ReferenceWffIdeal.main_arg2) = m ((c.tc : Thread Cert.ReferenceWffIdeal.nD Cert.ReferenceWffIdeal.τ).loc Cert.ReferenceWffIdeal.main_arg2))
      ∧ r.2.sem = fun _ => 0)

def quiescent_KernelWin [hKernelWin : Cert.KernelWin.Facts] : Prop :=
  ∀ (m : (ℓ : Loc Cert.KernelWin.nD Cert.KernelWin.τ Cert.KernelWin.sig) → Buf (Elt Bits) ℓ) (g : Dev Cert.KernelWin.nD → PrngReg), Pre_KernelWin m →
    θ_run (Cert.KernelWin.defs (F := Bits)) (onTc (τ := Cert.KernelWin.τ) (Cert.KernelWin.main (F := Bits))) ⟨m, fun _ => 0, g⟩ (fun r => (∀ c : Dev Cert.KernelWin.nD,
      r.2.mem ((c.tc : Thread Cert.KernelWin.nD Cert.KernelWin.τ).loc Cert.KernelWin.main_arg0) = m ((c.tc : Thread Cert.KernelWin.nD Cert.KernelWin.τ).loc Cert.KernelWin.main_arg0)
      ∧ r.2.mem ((c.tc : Thread Cert.KernelWin.nD Cert.KernelWin.τ).loc Cert.KernelWin.main_arg1) = m ((c.tc : Thread Cert.KernelWin.nD Cert.KernelWin.τ).loc Cert.KernelWin.main_arg1)
      ∧ r.2.mem ((c.tc : Thread Cert.KernelWin.nD Cert.KernelWin.τ).loc Cert.KernelWin.main_arg2) = m ((c.tc : Thread Cert.KernelWin.nD Cert.KernelWin.τ).loc Cert.KernelWin.main_arg2)
      ∧ r.2.mem ((c.tc : Thread Cert.KernelWin.nD Cert.KernelWin.τ).loc Cert.KernelWin.main_arg3) = m ((c.tc : Thread Cert.KernelWin.nD Cert.KernelWin.τ).loc Cert.KernelWin.main_arg3)
      ∧ r.2.mem ((c.tc : Thread Cert.KernelWin.nD Cert.KernelWin.τ).loc Cert.KernelWin.main_arg4) = m ((c.tc : Thread Cert.KernelWin.nD Cert.KernelWin.τ).loc Cert.KernelWin.main_arg4))
      ∧ r.2.sem = fun _ => 0)

def quiescent_KernelWinIdeal [hKernelWinIdeal : Cert.KernelWinIdeal.Facts] : Prop :=
  ∀ (m : (ℓ : Loc Cert.KernelWinIdeal.nD Cert.KernelWinIdeal.τ Cert.KernelWinIdeal.sig) → Buf (Elt Ideal) ℓ) (g : Dev Cert.KernelWinIdeal.nD → PrngReg), Pre_KernelWinIdeal m →
    θ_run (Cert.KernelWinIdeal.defs (F := Ideal)) (onTc (τ := Cert.KernelWinIdeal.τ) (Cert.KernelWinIdeal.main (F := Ideal))) ⟨m, fun _ => 0, g⟩ (fun r => (∀ c : Dev Cert.KernelWinIdeal.nD,
      r.2.mem ((c.tc : Thread Cert.KernelWinIdeal.nD Cert.KernelWinIdeal.τ).loc Cert.KernelWinIdeal.main_arg0) = m ((c.tc : Thread Cert.KernelWinIdeal.nD Cert.KernelWinIdeal.τ).loc Cert.KernelWinIdeal.main_arg0)
      ∧ r.2.mem ((c.tc : Thread Cert.KernelWinIdeal.nD Cert.KernelWinIdeal.τ).loc Cert.KernelWinIdeal.main_arg1) = m ((c.tc : Thread Cert.KernelWinIdeal.nD Cert.KernelWinIdeal.τ).loc Cert.KernelWinIdeal.main_arg1)
      ∧ r.2.mem ((c.tc : Thread Cert.KernelWinIdeal.nD Cert.KernelWinIdeal.τ).loc Cert.KernelWinIdeal.main_arg2) = m ((c.tc : Thread Cert.KernelWinIdeal.nD Cert.KernelWinIdeal.τ).loc Cert.KernelWinIdeal.main_arg2)
      ∧ r.2.mem ((c.tc : Thread Cert.KernelWinIdeal.nD Cert.KernelWinIdeal.τ).loc Cert.KernelWinIdeal.main_arg3) = m ((c.tc : Thread Cert.KernelWinIdeal.nD Cert.KernelWinIdeal.τ).loc Cert.KernelWinIdeal.main_arg3)
      ∧ r.2.mem ((c.tc : Thread Cert.KernelWinIdeal.nD Cert.KernelWinIdeal.τ).loc Cert.KernelWinIdeal.main_arg4) = m ((c.tc : Thread Cert.KernelWinIdeal.nD Cert.KernelWinIdeal.τ).loc Cert.KernelWinIdeal.main_arg4))
      ∧ r.2.sem = fun _ => 0)

def quiescent_ReferenceWinIdeal [hReferenceWinIdeal : Cert.ReferenceWinIdeal.Facts] : Prop :=
  ∀ (m : (ℓ : Loc Cert.ReferenceWinIdeal.nD Cert.ReferenceWinIdeal.τ Cert.ReferenceWinIdeal.sig) → Buf (Elt Ideal) ℓ) (g : Dev Cert.ReferenceWinIdeal.nD → PrngReg), Pre_ReferenceWinIdeal m →
    θ_run (Cert.ReferenceWinIdeal.defs (F := Ideal)) (onTc (τ := Cert.ReferenceWinIdeal.τ) (Cert.ReferenceWinIdeal.main (F := Ideal))) ⟨m, fun _ => 0, g⟩ (fun r => (∀ c : Dev Cert.ReferenceWinIdeal.nD,
      r.2.mem ((c.tc : Thread Cert.ReferenceWinIdeal.nD Cert.ReferenceWinIdeal.τ).loc Cert.ReferenceWinIdeal.main_arg0) = m ((c.tc : Thread Cert.ReferenceWinIdeal.nD Cert.ReferenceWinIdeal.τ).loc Cert.ReferenceWinIdeal.main_arg0)
      ∧ r.2.mem ((c.tc : Thread Cert.ReferenceWinIdeal.nD Cert.ReferenceWinIdeal.τ).loc Cert.ReferenceWinIdeal.main_arg1) = m ((c.tc : Thread Cert.ReferenceWinIdeal.nD Cert.ReferenceWinIdeal.τ).loc Cert.ReferenceWinIdeal.main_arg1)
      ∧ r.2.mem ((c.tc : Thread Cert.ReferenceWinIdeal.nD Cert.ReferenceWinIdeal.τ).loc Cert.ReferenceWinIdeal.main_arg2) = m ((c.tc : Thread Cert.ReferenceWinIdeal.nD Cert.ReferenceWinIdeal.τ).loc Cert.ReferenceWinIdeal.main_arg2)
      ∧ r.2.mem ((c.tc : Thread Cert.ReferenceWinIdeal.nD Cert.ReferenceWinIdeal.τ).loc Cert.ReferenceWinIdeal.main_arg3) = m ((c.tc : Thread Cert.ReferenceWinIdeal.nD Cert.ReferenceWinIdeal.τ).loc Cert.ReferenceWinIdeal.main_arg3)
      ∧ r.2.mem ((c.tc : Thread Cert.ReferenceWinIdeal.nD Cert.ReferenceWinIdeal.τ).loc Cert.ReferenceWinIdeal.main_arg4) = m ((c.tc : Thread Cert.ReferenceWinIdeal.nD Cert.ReferenceWinIdeal.τ).loc Cert.ReferenceWinIdeal.main_arg4))
      ∧ r.2.sem = fun _ => 0)

def quiescent_KernelWinb [hKernelWinb : Cert.KernelWinb.Facts] : Prop :=
  ∀ (m : (ℓ : Loc Cert.KernelWinb.nD Cert.KernelWinb.τ Cert.KernelWinb.sig) → Buf (Elt Bits) ℓ) (g : Dev Cert.KernelWinb.nD → PrngReg), Pre_KernelWinb m →
    θ_run (Cert.KernelWinb.defs (F := Bits)) (onTc (τ := Cert.KernelWinb.τ) (Cert.KernelWinb.main (F := Bits))) ⟨m, fun _ => 0, g⟩ (fun r => (∀ c : Dev Cert.KernelWinb.nD,
      r.2.mem ((c.tc : Thread Cert.KernelWinb.nD Cert.KernelWinb.τ).loc Cert.KernelWinb.main_arg0) = m ((c.tc : Thread Cert.KernelWinb.nD Cert.KernelWinb.τ).loc Cert.KernelWinb.main_arg0)
      ∧ r.2.mem ((c.tc : Thread Cert.KernelWinb.nD Cert.KernelWinb.τ).loc Cert.KernelWinb.main_arg1) = m ((c.tc : Thread Cert.KernelWinb.nD Cert.KernelWinb.τ).loc Cert.KernelWinb.main_arg1)
      ∧ r.2.mem ((c.tc : Thread Cert.KernelWinb.nD Cert.KernelWinb.τ).loc Cert.KernelWinb.main_arg2) = m ((c.tc : Thread Cert.KernelWinb.nD Cert.KernelWinb.τ).loc Cert.KernelWinb.main_arg2)
      ∧ r.2.mem ((c.tc : Thread Cert.KernelWinb.nD Cert.KernelWinb.τ).loc Cert.KernelWinb.main_arg3) = m ((c.tc : Thread Cert.KernelWinb.nD Cert.KernelWinb.τ).loc Cert.KernelWinb.main_arg3)
      ∧ r.2.mem ((c.tc : Thread Cert.KernelWinb.nD Cert.KernelWinb.τ).loc Cert.KernelWinb.main_arg4) = m ((c.tc : Thread Cert.KernelWinb.nD Cert.KernelWinb.τ).loc Cert.KernelWinb.main_arg4))
      ∧ r.2.sem = fun _ => 0)

def quiescent_KernelWinbIdeal [hKernelWinbIdeal : Cert.KernelWinbIdeal.Facts] : Prop :=
  ∀ (m : (ℓ : Loc Cert.KernelWinbIdeal.nD Cert.KernelWinbIdeal.τ Cert.KernelWinbIdeal.sig) → Buf (Elt Ideal) ℓ) (g : Dev Cert.KernelWinbIdeal.nD → PrngReg), Pre_KernelWinbIdeal m →
    θ_run (Cert.KernelWinbIdeal.defs (F := Ideal)) (onTc (τ := Cert.KernelWinbIdeal.τ) (Cert.KernelWinbIdeal.main (F := Ideal))) ⟨m, fun _ => 0, g⟩ (fun r => (∀ c : Dev Cert.KernelWinbIdeal.nD,
      r.2.mem ((c.tc : Thread Cert.KernelWinbIdeal.nD Cert.KernelWinbIdeal.τ).loc Cert.KernelWinbIdeal.main_arg0) = m ((c.tc : Thread Cert.KernelWinbIdeal.nD Cert.KernelWinbIdeal.τ).loc Cert.KernelWinbIdeal.main_arg0)
      ∧ r.2.mem ((c.tc : Thread Cert.KernelWinbIdeal.nD Cert.KernelWinbIdeal.τ).loc Cert.KernelWinbIdeal.main_arg1) = m ((c.tc : Thread Cert.KernelWinbIdeal.nD Cert.KernelWinbIdeal.τ).loc Cert.KernelWinbIdeal.main_arg1)
      ∧ r.2.mem ((c.tc : Thread Cert.KernelWinbIdeal.nD Cert.KernelWinbIdeal.τ).loc Cert.KernelWinbIdeal.main_arg2) = m ((c.tc : Thread Cert.KernelWinbIdeal.nD Cert.KernelWinbIdeal.τ).loc Cert.KernelWinbIdeal.main_arg2)
      ∧ r.2.mem ((c.tc : Thread Cert.KernelWinbIdeal.nD Cert.KernelWinbIdeal.τ).loc Cert.KernelWinbIdeal.main_arg3) = m ((c.tc : Thread Cert.KernelWinbIdeal.nD Cert.KernelWinbIdeal.τ).loc Cert.KernelWinbIdeal.main_arg3)
      ∧ r.2.mem ((c.tc : Thread Cert.KernelWinbIdeal.nD Cert.KernelWinbIdeal.τ).loc Cert.KernelWinbIdeal.main_arg4) = m ((c.tc : Thread Cert.KernelWinbIdeal.nD Cert.KernelWinbIdeal.τ).loc Cert.KernelWinbIdeal.main_arg4))
      ∧ r.2.sem = fun _ => 0)

def quiescent_ReferenceWinbIdeal [hReferenceWinbIdeal : Cert.ReferenceWinbIdeal.Facts] : Prop :=
  ∀ (m : (ℓ : Loc Cert.ReferenceWinbIdeal.nD Cert.ReferenceWinbIdeal.τ Cert.ReferenceWinbIdeal.sig) → Buf (Elt Ideal) ℓ) (g : Dev Cert.ReferenceWinbIdeal.nD → PrngReg), Pre_ReferenceWinbIdeal m →
    θ_run (Cert.ReferenceWinbIdeal.defs (F := Ideal)) (onTc (τ := Cert.ReferenceWinbIdeal.τ) (Cert.ReferenceWinbIdeal.main (F := Ideal))) ⟨m, fun _ => 0, g⟩ (fun r => (∀ c : Dev Cert.ReferenceWinbIdeal.nD,
      r.2.mem ((c.tc : Thread Cert.ReferenceWinbIdeal.nD Cert.ReferenceWinbIdeal.τ).loc Cert.ReferenceWinbIdeal.main_arg0) = m ((c.tc : Thread Cert.ReferenceWinbIdeal.nD Cert.ReferenceWinbIdeal.τ).loc Cert.ReferenceWinbIdeal.main_arg0)
      ∧ r.2.mem ((c.tc : Thread Cert.ReferenceWinbIdeal.nD Cert.ReferenceWinbIdeal.τ).loc Cert.ReferenceWinbIdeal.main_arg1) = m ((c.tc : Thread Cert.ReferenceWinbIdeal.nD Cert.ReferenceWinbIdeal.τ).loc Cert.ReferenceWinbIdeal.main_arg1)
      ∧ r.2.mem ((c.tc : Thread Cert.ReferenceWinbIdeal.nD Cert.ReferenceWinbIdeal.τ).loc Cert.ReferenceWinbIdeal.main_arg2) = m ((c.tc : Thread Cert.ReferenceWinbIdeal.nD Cert.ReferenceWinbIdeal.τ).loc Cert.ReferenceWinbIdeal.main_arg2)
      ∧ r.2.mem ((c.tc : Thread Cert.ReferenceWinbIdeal.nD Cert.ReferenceWinbIdeal.τ).loc Cert.ReferenceWinbIdeal.main_arg3) = m ((c.tc : Thread Cert.ReferenceWinbIdeal.nD Cert.ReferenceWinbIdeal.τ).loc Cert.ReferenceWinbIdeal.main_arg3)
      ∧ r.2.mem ((c.tc : Thread Cert.ReferenceWinbIdeal.nD Cert.ReferenceWinbIdeal.τ).loc Cert.ReferenceWinbIdeal.main_arg4) = m ((c.tc : Thread Cert.ReferenceWinbIdeal.nD Cert.ReferenceWinbIdeal.τ).loc Cert.ReferenceWinbIdeal.main_arg4))
      ∧ r.2.sem = fun _ => 0)

def quiescent_KernelWind [hKernelWind : Cert.KernelWind.Facts] : Prop :=
  ∀ (m : (ℓ : Loc Cert.KernelWind.nD Cert.KernelWind.τ Cert.KernelWind.sig) → Buf (Elt Bits) ℓ) (g : Dev Cert.KernelWind.nD → PrngReg), Pre_KernelWind m →
    θ_run (Cert.KernelWind.defs (F := Bits)) (onTc (τ := Cert.KernelWind.τ) (Cert.KernelWind.main (F := Bits))) ⟨m, fun _ => 0, g⟩ (fun r => (∀ c : Dev Cert.KernelWind.nD,
      r.2.mem ((c.tc : Thread Cert.KernelWind.nD Cert.KernelWind.τ).loc Cert.KernelWind.main_arg0) = m ((c.tc : Thread Cert.KernelWind.nD Cert.KernelWind.τ).loc Cert.KernelWind.main_arg0)
      ∧ r.2.mem ((c.tc : Thread Cert.KernelWind.nD Cert.KernelWind.τ).loc Cert.KernelWind.main_arg1) = m ((c.tc : Thread Cert.KernelWind.nD Cert.KernelWind.τ).loc Cert.KernelWind.main_arg1)
      ∧ r.2.mem ((c.tc : Thread Cert.KernelWind.nD Cert.KernelWind.τ).loc Cert.KernelWind.main_arg2) = m ((c.tc : Thread Cert.KernelWind.nD Cert.KernelWind.τ).loc Cert.KernelWind.main_arg2)
      ∧ r.2.mem ((c.tc : Thread Cert.KernelWind.nD Cert.KernelWind.τ).loc Cert.KernelWind.main_arg3) = m ((c.tc : Thread Cert.KernelWind.nD Cert.KernelWind.τ).loc Cert.KernelWind.main_arg3)
      ∧ r.2.mem ((c.tc : Thread Cert.KernelWind.nD Cert.KernelWind.τ).loc Cert.KernelWind.main_arg4) = m ((c.tc : Thread Cert.KernelWind.nD Cert.KernelWind.τ).loc Cert.KernelWind.main_arg4))
      ∧ r.2.sem = fun _ => 0)

def quiescent_KernelWindIdeal [hKernelWindIdeal : Cert.KernelWindIdeal.Facts] : Prop :=
  ∀ (m : (ℓ : Loc Cert.KernelWindIdeal.nD Cert.KernelWindIdeal.τ Cert.KernelWindIdeal.sig) → Buf (Elt Ideal) ℓ) (g : Dev Cert.KernelWindIdeal.nD → PrngReg), Pre_KernelWindIdeal m →
    θ_run (Cert.KernelWindIdeal.defs (F := Ideal)) (onTc (τ := Cert.KernelWindIdeal.τ) (Cert.KernelWindIdeal.main (F := Ideal))) ⟨m, fun _ => 0, g⟩ (fun r => (∀ c : Dev Cert.KernelWindIdeal.nD,
      r.2.mem ((c.tc : Thread Cert.KernelWindIdeal.nD Cert.KernelWindIdeal.τ).loc Cert.KernelWindIdeal.main_arg0) = m ((c.tc : Thread Cert.KernelWindIdeal.nD Cert.KernelWindIdeal.τ).loc Cert.KernelWindIdeal.main_arg0)
      ∧ r.2.mem ((c.tc : Thread Cert.KernelWindIdeal.nD Cert.KernelWindIdeal.τ).loc Cert.KernelWindIdeal.main_arg1) = m ((c.tc : Thread Cert.KernelWindIdeal.nD Cert.KernelWindIdeal.τ).loc Cert.KernelWindIdeal.main_arg1)
      ∧ r.2.mem ((c.tc : Thread Cert.KernelWindIdeal.nD Cert.KernelWindIdeal.τ).loc Cert.KernelWindIdeal.main_arg2) = m ((c.tc : Thread Cert.KernelWindIdeal.nD Cert.KernelWindIdeal.τ).loc Cert.KernelWindIdeal.main_arg2)
      ∧ r.2.mem ((c.tc : Thread Cert.KernelWindIdeal.nD Cert.KernelWindIdeal.τ).loc Cert.KernelWindIdeal.main_arg3) = m ((c.tc : Thread Cert.KernelWindIdeal.nD Cert.KernelWindIdeal.τ).loc Cert.KernelWindIdeal.main_arg3)
      ∧ r.2.mem ((c.tc : Thread Cert.KernelWindIdeal.nD Cert.KernelWindIdeal.τ).loc Cert.KernelWindIdeal.main_arg4) = m ((c.tc : Thread Cert.KernelWindIdeal.nD Cert.KernelWindIdeal.τ).loc Cert.KernelWindIdeal.main_arg4))
      ∧ r.2.sem = fun _ => 0)

def quiescent_ReferenceWindIdeal [hReferenceWindIdeal : Cert.ReferenceWindIdeal.Facts] : Prop :=
  ∀ (m : (ℓ : Loc Cert.ReferenceWindIdeal.nD Cert.ReferenceWindIdeal.τ Cert.ReferenceWindIdeal.sig) → Buf (Elt Ideal) ℓ) (g : Dev Cert.ReferenceWindIdeal.nD → PrngReg), Pre_ReferenceWindIdeal m →
    θ_run (Cert.ReferenceWindIdeal.defs (F := Ideal)) (onTc (τ := Cert.ReferenceWindIdeal.τ) (Cert.ReferenceWindIdeal.main (F := Ideal))) ⟨m, fun _ => 0, g⟩ (fun r => (∀ c : Dev Cert.ReferenceWindIdeal.nD,
      r.2.mem ((c.tc : Thread Cert.ReferenceWindIdeal.nD Cert.ReferenceWindIdeal.τ).loc Cert.ReferenceWindIdeal.main_arg0) = m ((c.tc : Thread Cert.ReferenceWindIdeal.nD Cert.ReferenceWindIdeal.τ).loc Cert.ReferenceWindIdeal.main_arg0)
      ∧ r.2.mem ((c.tc : Thread Cert.ReferenceWindIdeal.nD Cert.ReferenceWindIdeal.τ).loc Cert.ReferenceWindIdeal.main_arg1) = m ((c.tc : Thread Cert.ReferenceWindIdeal.nD Cert.ReferenceWindIdeal.τ).loc Cert.ReferenceWindIdeal.main_arg1)
      ∧ r.2.mem ((c.tc : Thread Cert.ReferenceWindIdeal.nD Cert.ReferenceWindIdeal.τ).loc Cert.ReferenceWindIdeal.main_arg2) = m ((c.tc : Thread Cert.ReferenceWindIdeal.nD Cert.ReferenceWindIdeal.τ).loc Cert.ReferenceWindIdeal.main_arg2)
      ∧ r.2.mem ((c.tc : Thread Cert.ReferenceWindIdeal.nD Cert.ReferenceWindIdeal.τ).loc Cert.ReferenceWindIdeal.main_arg3) = m ((c.tc : Thread Cert.ReferenceWindIdeal.nD Cert.ReferenceWindIdeal.τ).loc Cert.ReferenceWindIdeal.main_arg3)
      ∧ r.2.mem ((c.tc : Thread Cert.ReferenceWindIdeal.nD Cert.ReferenceWindIdeal.τ).loc Cert.ReferenceWindIdeal.main_arg4) = m ((c.tc : Thread Cert.ReferenceWindIdeal.nD Cert.ReferenceWindIdeal.τ).loc Cert.ReferenceWindIdeal.main_arg4))
      ∧ r.2.sem = fun _ => 0)

def quiescent_KernelFin [hKernelFin : Cert.KernelFin.Facts] : Prop :=
  ∀ (m : (ℓ : Loc Cert.KernelFin.nD Cert.KernelFin.τ Cert.KernelFin.sig) → Buf (Elt Bits) ℓ) (g : Dev Cert.KernelFin.nD → PrngReg), Pre_KernelFin m →
    θ_run (Cert.KernelFin.defs (F := Bits)) (onTc (τ := Cert.KernelFin.τ) (Cert.KernelFin.main (F := Bits))) ⟨m, fun _ => 0, g⟩ (fun r => (∀ c : Dev Cert.KernelFin.nD,
      r.2.mem ((c.tc : Thread Cert.KernelFin.nD Cert.KernelFin.τ).loc Cert.KernelFin.main_arg0) = m ((c.tc : Thread Cert.KernelFin.nD Cert.KernelFin.τ).loc Cert.KernelFin.main_arg0)
      ∧ r.2.mem ((c.tc : Thread Cert.KernelFin.nD Cert.KernelFin.τ).loc Cert.KernelFin.main_arg1) = m ((c.tc : Thread Cert.KernelFin.nD Cert.KernelFin.τ).loc Cert.KernelFin.main_arg1))
      ∧ r.2.sem = fun _ => 0)

def quiescent_KernelFinIdeal [hKernelFinIdeal : Cert.KernelFinIdeal.Facts] : Prop :=
  ∀ (m : (ℓ : Loc Cert.KernelFinIdeal.nD Cert.KernelFinIdeal.τ Cert.KernelFinIdeal.sig) → Buf (Elt Ideal) ℓ) (g : Dev Cert.KernelFinIdeal.nD → PrngReg), Pre_KernelFinIdeal m →
    θ_run (Cert.KernelFinIdeal.defs (F := Ideal)) (onTc (τ := Cert.KernelFinIdeal.τ) (Cert.KernelFinIdeal.main (F := Ideal))) ⟨m, fun _ => 0, g⟩ (fun r => (∀ c : Dev Cert.KernelFinIdeal.nD,
      r.2.mem ((c.tc : Thread Cert.KernelFinIdeal.nD Cert.KernelFinIdeal.τ).loc Cert.KernelFinIdeal.main_arg0) = m ((c.tc : Thread Cert.KernelFinIdeal.nD Cert.KernelFinIdeal.τ).loc Cert.KernelFinIdeal.main_arg0)
      ∧ r.2.mem ((c.tc : Thread Cert.KernelFinIdeal.nD Cert.KernelFinIdeal.τ).loc Cert.KernelFinIdeal.main_arg1) = m ((c.tc : Thread Cert.KernelFinIdeal.nD Cert.KernelFinIdeal.τ).loc Cert.KernelFinIdeal.main_arg1))
      ∧ r.2.sem = fun _ => 0)

def quiescent_ReferenceFinIdeal [hReferenceFinIdeal : Cert.ReferenceFinIdeal.Facts] : Prop :=
  ∀ (m : (ℓ : Loc Cert.ReferenceFinIdeal.nD Cert.ReferenceFinIdeal.τ Cert.ReferenceFinIdeal.sig) → Buf (Elt Ideal) ℓ) (g : Dev Cert.ReferenceFinIdeal.nD → PrngReg), Pre_ReferenceFinIdeal m →
    θ_run (Cert.ReferenceFinIdeal.defs (F := Ideal)) (onTc (τ := Cert.ReferenceFinIdeal.τ) (Cert.ReferenceFinIdeal.main (F := Ideal))) ⟨m, fun _ => 0, g⟩ (fun r => (∀ c : Dev Cert.ReferenceFinIdeal.nD,
      r.2.mem ((c.tc : Thread Cert.ReferenceFinIdeal.nD Cert.ReferenceFinIdeal.τ).loc Cert.ReferenceFinIdeal.main_arg0) = m ((c.tc : Thread Cert.ReferenceFinIdeal.nD Cert.ReferenceFinIdeal.τ).loc Cert.ReferenceFinIdeal.main_arg0)
      ∧ r.2.mem ((c.tc : Thread Cert.ReferenceFinIdeal.nD Cert.ReferenceFinIdeal.τ).loc Cert.ReferenceFinIdeal.main_arg1) = m ((c.tc : Thread Cert.ReferenceFinIdeal.nD Cert.ReferenceFinIdeal.τ).loc Cert.ReferenceFinIdeal.main_arg1))
      ∧ r.2.sem = fun _ => 0)

def quiescent_KernelWfin [hKernelWfin : Cert.KernelWfin.Facts] : Prop :=
  ∀ (m : (ℓ : Loc Cert.KernelWfin.nD Cert.KernelWfin.τ Cert.KernelWfin.sig) → Buf (Elt Bits) ℓ) (g : Dev Cert.KernelWfin.nD → PrngReg), Pre_KernelWfin m →
    θ_run (Cert.KernelWfin.defs (F := Bits)) (onTc (τ := Cert.KernelWfin.τ) (Cert.KernelWfin.main (F := Bits))) ⟨m, fun _ => 0, g⟩ (fun r => (∀ c : Dev Cert.KernelWfin.nD,
      r.2.mem ((c.tc : Thread Cert.KernelWfin.nD Cert.KernelWfin.τ).loc Cert.KernelWfin.main_arg0) = m ((c.tc : Thread Cert.KernelWfin.nD Cert.KernelWfin.τ).loc Cert.KernelWfin.main_arg0)
      ∧ r.2.mem ((c.tc : Thread Cert.KernelWfin.nD Cert.KernelWfin.τ).loc Cert.KernelWfin.main_arg1) = m ((c.tc : Thread Cert.KernelWfin.nD Cert.KernelWfin.τ).loc Cert.KernelWfin.main_arg1)
      ∧ r.2.mem ((c.tc : Thread Cert.KernelWfin.nD Cert.KernelWfin.τ).loc Cert.KernelWfin.main_arg2) = m ((c.tc : Thread Cert.KernelWfin.nD Cert.KernelWfin.τ).loc Cert.KernelWfin.main_arg2))
      ∧ r.2.sem = fun _ => 0)

def quiescent_KernelWfinIdeal [hKernelWfinIdeal : Cert.KernelWfinIdeal.Facts] : Prop :=
  ∀ (m : (ℓ : Loc Cert.KernelWfinIdeal.nD Cert.KernelWfinIdeal.τ Cert.KernelWfinIdeal.sig) → Buf (Elt Ideal) ℓ) (g : Dev Cert.KernelWfinIdeal.nD → PrngReg), Pre_KernelWfinIdeal m →
    θ_run (Cert.KernelWfinIdeal.defs (F := Ideal)) (onTc (τ := Cert.KernelWfinIdeal.τ) (Cert.KernelWfinIdeal.main (F := Ideal))) ⟨m, fun _ => 0, g⟩ (fun r => (∀ c : Dev Cert.KernelWfinIdeal.nD,
      r.2.mem ((c.tc : Thread Cert.KernelWfinIdeal.nD Cert.KernelWfinIdeal.τ).loc Cert.KernelWfinIdeal.main_arg0) = m ((c.tc : Thread Cert.KernelWfinIdeal.nD Cert.KernelWfinIdeal.τ).loc Cert.KernelWfinIdeal.main_arg0)
      ∧ r.2.mem ((c.tc : Thread Cert.KernelWfinIdeal.nD Cert.KernelWfinIdeal.τ).loc Cert.KernelWfinIdeal.main_arg1) = m ((c.tc : Thread Cert.KernelWfinIdeal.nD Cert.KernelWfinIdeal.τ).loc Cert.KernelWfinIdeal.main_arg1)
      ∧ r.2.mem ((c.tc : Thread Cert.KernelWfinIdeal.nD Cert.KernelWfinIdeal.τ).loc Cert.KernelWfinIdeal.main_arg2) = m ((c.tc : Thread Cert.KernelWfinIdeal.nD Cert.KernelWfinIdeal.τ).loc Cert.KernelWfinIdeal.main_arg2))
      ∧ r.2.sem = fun _ => 0)

def quiescent_ReferenceWfinIdeal [hReferenceWfinIdeal : Cert.ReferenceWfinIdeal.Facts] : Prop :=
  ∀ (m : (ℓ : Loc Cert.ReferenceWfinIdeal.nD Cert.ReferenceWfinIdeal.τ Cert.ReferenceWfinIdeal.sig) → Buf (Elt Ideal) ℓ) (g : Dev Cert.ReferenceWfinIdeal.nD → PrngReg), Pre_ReferenceWfinIdeal m →
    θ_run (Cert.ReferenceWfinIdeal.defs (F := Ideal)) (onTc (τ := Cert.ReferenceWfinIdeal.τ) (Cert.ReferenceWfinIdeal.main (F := Ideal))) ⟨m, fun _ => 0, g⟩ (fun r => (∀ c : Dev Cert.ReferenceWfinIdeal.nD,
      r.2.mem ((c.tc : Thread Cert.ReferenceWfinIdeal.nD Cert.ReferenceWfinIdeal.τ).loc Cert.ReferenceWfinIdeal.main_arg0) = m ((c.tc : Thread Cert.ReferenceWfinIdeal.nD Cert.ReferenceWfinIdeal.τ).loc Cert.ReferenceWfinIdeal.main_arg0)
      ∧ r.2.mem ((c.tc : Thread Cert.ReferenceWfinIdeal.nD Cert.ReferenceWfinIdeal.τ).loc Cert.ReferenceWfinIdeal.main_arg1) = m ((c.tc : Thread Cert.ReferenceWfinIdeal.nD Cert.ReferenceWfinIdeal.τ).loc Cert.ReferenceWfinIdeal.main_arg1)
      ∧ r.2.mem ((c.tc : Thread Cert.ReferenceWfinIdeal.nD Cert.ReferenceWfinIdeal.τ).loc Cert.ReferenceWfinIdeal.main_arg2) = m ((c.tc : Thread Cert.ReferenceWfinIdeal.nD Cert.ReferenceWfinIdeal.τ).loc Cert.ReferenceWfinIdeal.main_arg2))
      ∧ r.2.sem = fun _ => 0)

def quiescent_KernelDfin [hKernelDfin : Cert.KernelDfin.Facts] : Prop :=
  ∀ (m : (ℓ : Loc Cert.KernelDfin.nD Cert.KernelDfin.τ Cert.KernelDfin.sig) → Buf (Elt Bits) ℓ) (g : Dev Cert.KernelDfin.nD → PrngReg), Pre_KernelDfin m →
    θ_run (Cert.KernelDfin.defs (F := Bits)) (onTc (τ := Cert.KernelDfin.τ) (Cert.KernelDfin.main (F := Bits))) ⟨m, fun _ => 0, g⟩ (fun r => (∀ c : Dev Cert.KernelDfin.nD,
      r.2.mem ((c.tc : Thread Cert.KernelDfin.nD Cert.KernelDfin.τ).loc Cert.KernelDfin.main_arg0) = m ((c.tc : Thread Cert.KernelDfin.nD Cert.KernelDfin.τ).loc Cert.KernelDfin.main_arg0)
      ∧ r.2.mem ((c.tc : Thread Cert.KernelDfin.nD Cert.KernelDfin.τ).loc Cert.KernelDfin.main_arg1) = m ((c.tc : Thread Cert.KernelDfin.nD Cert.KernelDfin.τ).loc Cert.KernelDfin.main_arg1)
      ∧ r.2.mem ((c.tc : Thread Cert.KernelDfin.nD Cert.KernelDfin.τ).loc Cert.KernelDfin.main_arg2) = m ((c.tc : Thread Cert.KernelDfin.nD Cert.KernelDfin.τ).loc Cert.KernelDfin.main_arg2))
      ∧ r.2.sem = fun _ => 0)

def quiescent_KernelDfinIdeal [hKernelDfinIdeal : Cert.KernelDfinIdeal.Facts] : Prop :=
  ∀ (m : (ℓ : Loc Cert.KernelDfinIdeal.nD Cert.KernelDfinIdeal.τ Cert.KernelDfinIdeal.sig) → Buf (Elt Ideal) ℓ) (g : Dev Cert.KernelDfinIdeal.nD → PrngReg), Pre_KernelDfinIdeal m →
    θ_run (Cert.KernelDfinIdeal.defs (F := Ideal)) (onTc (τ := Cert.KernelDfinIdeal.τ) (Cert.KernelDfinIdeal.main (F := Ideal))) ⟨m, fun _ => 0, g⟩ (fun r => (∀ c : Dev Cert.KernelDfinIdeal.nD,
      r.2.mem ((c.tc : Thread Cert.KernelDfinIdeal.nD Cert.KernelDfinIdeal.τ).loc Cert.KernelDfinIdeal.main_arg0) = m ((c.tc : Thread Cert.KernelDfinIdeal.nD Cert.KernelDfinIdeal.τ).loc Cert.KernelDfinIdeal.main_arg0)
      ∧ r.2.mem ((c.tc : Thread Cert.KernelDfinIdeal.nD Cert.KernelDfinIdeal.τ).loc Cert.KernelDfinIdeal.main_arg1) = m ((c.tc : Thread Cert.KernelDfinIdeal.nD Cert.KernelDfinIdeal.τ).loc Cert.KernelDfinIdeal.main_arg1)
      ∧ r.2.mem ((c.tc : Thread Cert.KernelDfinIdeal.nD Cert.KernelDfinIdeal.τ).loc Cert.KernelDfinIdeal.main_arg2) = m ((c.tc : Thread Cert.KernelDfinIdeal.nD Cert.KernelDfinIdeal.τ).loc Cert.KernelDfinIdeal.main_arg2))
      ∧ r.2.sem = fun _ => 0)

def quiescent_ReferenceDfinIdeal [hReferenceDfinIdeal : Cert.ReferenceDfinIdeal.Facts] : Prop :=
  ∀ (m : (ℓ : Loc Cert.ReferenceDfinIdeal.nD Cert.ReferenceDfinIdeal.τ Cert.ReferenceDfinIdeal.sig) → Buf (Elt Ideal) ℓ) (g : Dev Cert.ReferenceDfinIdeal.nD → PrngReg), Pre_ReferenceDfinIdeal m →
    θ_run (Cert.ReferenceDfinIdeal.defs (F := Ideal)) (onTc (τ := Cert.ReferenceDfinIdeal.τ) (Cert.ReferenceDfinIdeal.main (F := Ideal))) ⟨m, fun _ => 0, g⟩ (fun r => (∀ c : Dev Cert.ReferenceDfinIdeal.nD,
      r.2.mem ((c.tc : Thread Cert.ReferenceDfinIdeal.nD Cert.ReferenceDfinIdeal.τ).loc Cert.ReferenceDfinIdeal.main_arg0) = m ((c.tc : Thread Cert.ReferenceDfinIdeal.nD Cert.ReferenceDfinIdeal.τ).loc Cert.ReferenceDfinIdeal.main_arg0)
      ∧ r.2.mem ((c.tc : Thread Cert.ReferenceDfinIdeal.nD Cert.ReferenceDfinIdeal.τ).loc Cert.ReferenceDfinIdeal.main_arg1) = m ((c.tc : Thread Cert.ReferenceDfinIdeal.nD Cert.ReferenceDfinIdeal.τ).loc Cert.ReferenceDfinIdeal.main_arg1)
      ∧ r.2.mem ((c.tc : Thread Cert.ReferenceDfinIdeal.nD Cert.ReferenceDfinIdeal.τ).loc Cert.ReferenceDfinIdeal.main_arg2) = m ((c.tc : Thread Cert.ReferenceDfinIdeal.nD Cert.ReferenceDfinIdeal.τ).loc Cert.ReferenceDfinIdeal.main_arg2))
      ∧ r.2.sem = fun _ => 0)

def quiescent_KernelDh [hKernelDh : Cert.KernelDh.Facts] : Prop :=
  ∀ (m : (ℓ : Loc Cert.KernelDh.nD Cert.KernelDh.τ Cert.KernelDh.sig) → Buf (Elt Bits) ℓ) (g : Dev Cert.KernelDh.nD → PrngReg), Pre_KernelDh m →
    θ_run (Cert.KernelDh.defs (F := Bits)) (onTc (τ := Cert.KernelDh.τ) (Cert.KernelDh.main (F := Bits))) ⟨m, fun _ => 0, g⟩ (fun r => (∀ c : Dev Cert.KernelDh.nD,
      r.2.mem ((c.tc : Thread Cert.KernelDh.nD Cert.KernelDh.τ).loc Cert.KernelDh.main_arg0) = m ((c.tc : Thread Cert.KernelDh.nD Cert.KernelDh.τ).loc Cert.KernelDh.main_arg0)
      ∧ r.2.mem ((c.tc : Thread Cert.KernelDh.nD Cert.KernelDh.τ).loc Cert.KernelDh.main_arg1) = m ((c.tc : Thread Cert.KernelDh.nD Cert.KernelDh.τ).loc Cert.KernelDh.main_arg1)
      ∧ r.2.mem ((c.tc : Thread Cert.KernelDh.nD Cert.KernelDh.τ).loc Cert.KernelDh.main_arg2) = m ((c.tc : Thread Cert.KernelDh.nD Cert.KernelDh.τ).loc Cert.KernelDh.main_arg2))
      ∧ r.2.sem = fun _ => 0)

def quiescent_KernelDhIdeal [hKernelDhIdeal : Cert.KernelDhIdeal.Facts] : Prop :=
  ∀ (m : (ℓ : Loc Cert.KernelDhIdeal.nD Cert.KernelDhIdeal.τ Cert.KernelDhIdeal.sig) → Buf (Elt Ideal) ℓ) (g : Dev Cert.KernelDhIdeal.nD → PrngReg), Pre_KernelDhIdeal m →
    θ_run (Cert.KernelDhIdeal.defs (F := Ideal)) (onTc (τ := Cert.KernelDhIdeal.τ) (Cert.KernelDhIdeal.main (F := Ideal))) ⟨m, fun _ => 0, g⟩ (fun r => (∀ c : Dev Cert.KernelDhIdeal.nD,
      r.2.mem ((c.tc : Thread Cert.KernelDhIdeal.nD Cert.KernelDhIdeal.τ).loc Cert.KernelDhIdeal.main_arg0) = m ((c.tc : Thread Cert.KernelDhIdeal.nD Cert.KernelDhIdeal.τ).loc Cert.KernelDhIdeal.main_arg0)
      ∧ r.2.mem ((c.tc : Thread Cert.KernelDhIdeal.nD Cert.KernelDhIdeal.τ).loc Cert.KernelDhIdeal.main_arg1) = m ((c.tc : Thread Cert.KernelDhIdeal.nD Cert.KernelDhIdeal.τ).loc Cert.KernelDhIdeal.main_arg1)
      ∧ r.2.mem ((c.tc : Thread Cert.KernelDhIdeal.nD Cert.KernelDhIdeal.τ).loc Cert.KernelDhIdeal.main_arg2) = m ((c.tc : Thread Cert.KernelDhIdeal.nD Cert.KernelDhIdeal.τ).loc Cert.KernelDhIdeal.main_arg2))
      ∧ r.2.sem = fun _ => 0)

def quiescent_ReferenceDhIdeal [hReferenceDhIdeal : Cert.ReferenceDhIdeal.Facts] : Prop :=
  ∀ (m : (ℓ : Loc Cert.ReferenceDhIdeal.nD Cert.ReferenceDhIdeal.τ Cert.ReferenceDhIdeal.sig) → Buf (Elt Ideal) ℓ) (g : Dev Cert.ReferenceDhIdeal.nD → PrngReg), Pre_ReferenceDhIdeal m →
    θ_run (Cert.ReferenceDhIdeal.defs (F := Ideal)) (onTc (τ := Cert.ReferenceDhIdeal.τ) (Cert.ReferenceDhIdeal.main (F := Ideal))) ⟨m, fun _ => 0, g⟩ (fun r => (∀ c : Dev Cert.ReferenceDhIdeal.nD,
      r.2.mem ((c.tc : Thread Cert.ReferenceDhIdeal.nD Cert.ReferenceDhIdeal.τ).loc Cert.ReferenceDhIdeal.main_arg0) = m ((c.tc : Thread Cert.ReferenceDhIdeal.nD Cert.ReferenceDhIdeal.τ).loc Cert.ReferenceDhIdeal.main_arg0)
      ∧ r.2.mem ((c.tc : Thread Cert.ReferenceDhIdeal.nD Cert.ReferenceDhIdeal.τ).loc Cert.ReferenceDhIdeal.main_arg1) = m ((c.tc : Thread Cert.ReferenceDhIdeal.nD Cert.ReferenceDhIdeal.τ).loc Cert.ReferenceDhIdeal.main_arg1)
      ∧ r.2.mem ((c.tc : Thread Cert.ReferenceDhIdeal.nD Cert.ReferenceDhIdeal.τ).loc Cert.ReferenceDhIdeal.main_arg2) = m ((c.tc : Thread Cert.ReferenceDhIdeal.nD Cert.ReferenceDhIdeal.τ).loc Cert.ReferenceDhIdeal.main_arg2))
      ∧ r.2.sem = fun _ => 0)

def preserves_KernelAtt_KernelAttIdeal : Prop :=
  IdealRules.named_const.Statement Cert.KernelAttIdeal.κ "mask" .f32 0xF149F2CA#32 ⊥

def algebraic_KernelAttIdeal_ReferenceAttIdeal_pre_finite_att [hKernelAttIdeal : Cert.KernelAttIdeal.Facts] [hReferenceAttIdeal : Cert.ReferenceAttIdeal.Facts] [hPre_finite_att : Cert.Pre_finite_att.Facts] : Prop :=
  ∀ (m : (ℓ : Loc Cert.KernelAttIdeal.nD Cert.KernelAttIdeal.τ Cert.KernelAttIdeal.sig) → Buf (Elt Ideal) ℓ) (g : Dev Cert.KernelAttIdeal.nD → PrngReg)
    (m' : (ℓ : Loc Cert.ReferenceAttIdeal.nD Cert.ReferenceAttIdeal.τ Cert.ReferenceAttIdeal.sig) → Buf (Elt Ideal) ℓ) (g' : Dev Cert.ReferenceAttIdeal.nD → PrngReg), Pre_KernelAttIdeal_finite_att m →
    (∀ c : Dev Cert.KernelAttIdeal.nD,
      m' ((c.tc : Thread Cert.ReferenceAttIdeal.nD Cert.ReferenceAttIdeal.τ).loc Cert.ReferenceAttIdeal.main_arg0) = m ((c.tc : Thread Cert.KernelAttIdeal.nD Cert.KernelAttIdeal.τ).loc Cert.KernelAttIdeal.main_arg0)
      ∧ m' ((c.tc : Thread Cert.ReferenceAttIdeal.nD Cert.ReferenceAttIdeal.τ).loc Cert.ReferenceAttIdeal.main_arg1) = m ((c.tc : Thread Cert.KernelAttIdeal.nD Cert.KernelAttIdeal.τ).loc Cert.KernelAttIdeal.main_arg1)
      ∧ m' ((c.tc : Thread Cert.ReferenceAttIdeal.nD Cert.ReferenceAttIdeal.τ).loc Cert.ReferenceAttIdeal.main_arg2) = m ((c.tc : Thread Cert.KernelAttIdeal.nD Cert.KernelAttIdeal.τ).loc Cert.KernelAttIdeal.main_arg2)
      ∧ m' ((c.tc : Thread Cert.ReferenceAttIdeal.nD Cert.ReferenceAttIdeal.τ).loc Cert.ReferenceAttIdeal.main_arg3) = m ((c.tc : Thread Cert.KernelAttIdeal.nD Cert.KernelAttIdeal.τ).loc Cert.KernelAttIdeal.main_arg3)
      ∧ m' ((c.tc : Thread Cert.ReferenceAttIdeal.nD Cert.ReferenceAttIdeal.τ).loc Cert.ReferenceAttIdeal.main_arg4) = m ((c.tc : Thread Cert.KernelAttIdeal.nD Cert.KernelAttIdeal.τ).loc Cert.KernelAttIdeal.main_arg4)) →
    ∃ (v0 : (c : Dev Cert.KernelAttIdeal.nD) → Buf (Elt Ideal) ((c.tc : Thread Cert.KernelAttIdeal.nD Cert.KernelAttIdeal.τ).loc Cert.KernelAttIdeal.main_v38_0)) (v1 : (c : Dev Cert.KernelAttIdeal.nD) → Buf (Elt Ideal) ((c.tc : Thread Cert.KernelAttIdeal.nD Cert.KernelAttIdeal.τ).loc Cert.KernelAttIdeal.main_v38_1)) (v2 : (c : Dev Cert.KernelAttIdeal.nD) → Buf (Elt Ideal) ((c.tc : Thread Cert.KernelAttIdeal.nD Cert.KernelAttIdeal.τ).loc Cert.KernelAttIdeal.main_v38_2)) (v3 : (c : Dev Cert.KernelAttIdeal.nD) → Buf (Elt Ideal) ((c.tc : Thread Cert.KernelAttIdeal.nD Cert.KernelAttIdeal.τ).loc Cert.KernelAttIdeal.main_v38_3)) (v4 : (c : Dev Cert.KernelAttIdeal.nD) → Buf (Elt Ideal) ((c.tc : Thread Cert.KernelAttIdeal.nD Cert.KernelAttIdeal.τ).loc Cert.KernelAttIdeal.main_v38_4)),
      θ_run (Cert.KernelAttIdeal.defs (F := Ideal)) (onTc (τ := Cert.KernelAttIdeal.τ) (Cert.KernelAttIdeal.main (F := Ideal))) ⟨m, fun _ => 0, g⟩ (fun r => ∀ c : Dev Cert.KernelAttIdeal.nD,
          r.2.mem ((c.tc : Thread Cert.KernelAttIdeal.nD Cert.KernelAttIdeal.τ).loc Cert.KernelAttIdeal.main_v38_0) = v0 c
          ∧ r.2.mem ((c.tc : Thread Cert.KernelAttIdeal.nD Cert.KernelAttIdeal.τ).loc Cert.KernelAttIdeal.main_v38_1) = v1 c
          ∧ r.2.mem ((c.tc : Thread Cert.KernelAttIdeal.nD Cert.KernelAttIdeal.τ).loc Cert.KernelAttIdeal.main_v38_2) = v2 c
          ∧ r.2.mem ((c.tc : Thread Cert.KernelAttIdeal.nD Cert.KernelAttIdeal.τ).loc Cert.KernelAttIdeal.main_v38_3) = v3 c
          ∧ r.2.mem ((c.tc : Thread Cert.KernelAttIdeal.nD Cert.KernelAttIdeal.τ).loc Cert.KernelAttIdeal.main_v38_4) = v4 c
          ∧ r.2.mem ((c.tc : Thread Cert.KernelAttIdeal.nD Cert.KernelAttIdeal.τ).loc Cert.KernelAttIdeal.main_arg0) = m ((c.tc : Thread Cert.KernelAttIdeal.nD Cert.KernelAttIdeal.τ).loc Cert.KernelAttIdeal.main_arg0)
          ∧ r.2.mem ((c.tc : Thread Cert.KernelAttIdeal.nD Cert.KernelAttIdeal.τ).loc Cert.KernelAttIdeal.main_arg1) = m ((c.tc : Thread Cert.KernelAttIdeal.nD Cert.KernelAttIdeal.τ).loc Cert.KernelAttIdeal.main_arg1)
          ∧ r.2.mem ((c.tc : Thread Cert.KernelAttIdeal.nD Cert.KernelAttIdeal.τ).loc Cert.KernelAttIdeal.main_arg2) = m ((c.tc : Thread Cert.KernelAttIdeal.nD Cert.KernelAttIdeal.τ).loc Cert.KernelAttIdeal.main_arg2)
          ∧ r.2.mem ((c.tc : Thread Cert.KernelAttIdeal.nD Cert.KernelAttIdeal.τ).loc Cert.KernelAttIdeal.main_arg3) = m ((c.tc : Thread Cert.KernelAttIdeal.nD Cert.KernelAttIdeal.τ).loc Cert.KernelAttIdeal.main_arg3)
          ∧ r.2.mem ((c.tc : Thread Cert.KernelAttIdeal.nD Cert.KernelAttIdeal.τ).loc Cert.KernelAttIdeal.main_arg4) = m ((c.tc : Thread Cert.KernelAttIdeal.nD Cert.KernelAttIdeal.τ).loc Cert.KernelAttIdeal.main_arg4))
      ∧ θ_run (Cert.ReferenceAttIdeal.defs (F := Ideal)) (onTc (τ := Cert.ReferenceAttIdeal.τ) (Cert.ReferenceAttIdeal.main (F := Ideal))) ⟨m', fun _ => 0, g'⟩ (fun r => ∀ c : Dev Cert.ReferenceAttIdeal.nD,
          r.2.mem ((c.tc : Thread Cert.ReferenceAttIdeal.nD Cert.ReferenceAttIdeal.τ).loc Cert.ReferenceAttIdeal.main_v85) = v0 c
          ∧ r.2.mem ((c.tc : Thread Cert.ReferenceAttIdeal.nD Cert.ReferenceAttIdeal.τ).loc Cert.ReferenceAttIdeal.main_v89) = v1 c
          ∧ r.2.mem ((c.tc : Thread Cert.ReferenceAttIdeal.nD Cert.ReferenceAttIdeal.τ).loc Cert.ReferenceAttIdeal.main_v90) = v2 c
          ∧ r.2.mem ((c.tc : Thread Cert.ReferenceAttIdeal.nD Cert.ReferenceAttIdeal.τ).loc Cert.ReferenceAttIdeal.main_v88) = v3 c
          ∧ r.2.mem ((c.tc : Thread Cert.ReferenceAttIdeal.nD Cert.ReferenceAttIdeal.τ).loc Cert.ReferenceAttIdeal.main_v93) = v4 c
          ∧ r.2.mem ((c.tc : Thread Cert.ReferenceAttIdeal.nD Cert.ReferenceAttIdeal.τ).loc Cert.ReferenceAttIdeal.main_arg0) = m' ((c.tc : Thread Cert.ReferenceAttIdeal.nD Cert.ReferenceAttIdeal.τ).loc Cert.ReferenceAttIdeal.main_arg0)
          ∧ r.2.mem ((c.tc : Thread Cert.ReferenceAttIdeal.nD Cert.ReferenceAttIdeal.τ).loc Cert.ReferenceAttIdeal.main_arg1) = m' ((c.tc : Thread Cert.ReferenceAttIdeal.nD Cert.ReferenceAttIdeal.τ).loc Cert.ReferenceAttIdeal.main_arg1)
          ∧ r.2.mem ((c.tc : Thread Cert.ReferenceAttIdeal.nD Cert.ReferenceAttIdeal.τ).loc Cert.ReferenceAttIdeal.main_arg2) = m' ((c.tc : Thread Cert.ReferenceAttIdeal.nD Cert.ReferenceAttIdeal.τ).loc Cert.ReferenceAttIdeal.main_arg2)
          ∧ r.2.mem ((c.tc : Thread Cert.ReferenceAttIdeal.nD Cert.ReferenceAttIdeal.τ).loc Cert.ReferenceAttIdeal.main_arg3) = m' ((c.tc : Thread Cert.ReferenceAttIdeal.nD Cert.ReferenceAttIdeal.τ).loc Cert.ReferenceAttIdeal.main_arg3)
          ∧ r.2.mem ((c.tc : Thread Cert.ReferenceAttIdeal.nD Cert.ReferenceAttIdeal.τ).loc Cert.ReferenceAttIdeal.main_arg4) = m' ((c.tc : Thread Cert.ReferenceAttIdeal.nD Cert.ReferenceAttIdeal.τ).loc Cert.ReferenceAttIdeal.main_arg4))

def preserves_KernelIn_KernelInIdeal : Prop :=
  True

def algebraic_KernelInIdeal_ReferenceInIdeal [hKernelInIdeal : Cert.KernelInIdeal.Facts] [hReferenceInIdeal : Cert.ReferenceInIdeal.Facts] : Prop :=
  ∀ (m : (ℓ : Loc Cert.KernelInIdeal.nD Cert.KernelInIdeal.τ Cert.KernelInIdeal.sig) → Buf (Elt Ideal) ℓ) (g : Dev Cert.KernelInIdeal.nD → PrngReg)
    (m' : (ℓ : Loc Cert.ReferenceInIdeal.nD Cert.ReferenceInIdeal.τ Cert.ReferenceInIdeal.sig) → Buf (Elt Ideal) ℓ) (g' : Dev Cert.ReferenceInIdeal.nD → PrngReg), Pre_KernelInIdeal m →
    (∀ c : Dev Cert.KernelInIdeal.nD,
      m' ((c.tc : Thread Cert.ReferenceInIdeal.nD Cert.ReferenceInIdeal.τ).loc Cert.ReferenceInIdeal.main_arg0) = m ((c.tc : Thread Cert.KernelInIdeal.nD Cert.KernelInIdeal.τ).loc Cert.KernelInIdeal.main_arg0)
      ∧ m' ((c.tc : Thread Cert.ReferenceInIdeal.nD Cert.ReferenceInIdeal.τ).loc Cert.ReferenceInIdeal.main_arg1) = m ((c.tc : Thread Cert.KernelInIdeal.nD Cert.KernelInIdeal.τ).loc Cert.KernelInIdeal.main_arg1)
      ∧ m' ((c.tc : Thread Cert.ReferenceInIdeal.nD Cert.ReferenceInIdeal.τ).loc Cert.ReferenceInIdeal.main_arg2) = m ((c.tc : Thread Cert.KernelInIdeal.nD Cert.KernelInIdeal.τ).loc Cert.KernelInIdeal.main_arg2)
      ∧ m' ((c.tc : Thread Cert.ReferenceInIdeal.nD Cert.ReferenceInIdeal.τ).loc Cert.ReferenceInIdeal.main_arg3) = m ((c.tc : Thread Cert.KernelInIdeal.nD Cert.KernelInIdeal.τ).loc Cert.KernelInIdeal.main_arg3)
      ∧ m' ((c.tc : Thread Cert.ReferenceInIdeal.nD Cert.ReferenceInIdeal.τ).loc Cert.ReferenceInIdeal.main_arg4) = m ((c.tc : Thread Cert.KernelInIdeal.nD Cert.KernelInIdeal.τ).loc Cert.KernelInIdeal.main_arg4)) →
    ∃ (v0 : (c : Dev Cert.KernelInIdeal.nD) → Buf (Elt Ideal) ((c.tc : Thread Cert.KernelInIdeal.nD Cert.KernelInIdeal.τ).loc Cert.KernelInIdeal.main_v0_0)) (v1 : (c : Dev Cert.KernelInIdeal.nD) → Buf (Elt Ideal) ((c.tc : Thread Cert.KernelInIdeal.nD Cert.KernelInIdeal.τ).loc Cert.KernelInIdeal.main_v0_1)) (v2 : (c : Dev Cert.KernelInIdeal.nD) → Buf (Elt Ideal) ((c.tc : Thread Cert.KernelInIdeal.nD Cert.KernelInIdeal.τ).loc Cert.KernelInIdeal.main_v0_2)),
      θ_run (Cert.KernelInIdeal.defs (F := Ideal)) (onTc (τ := Cert.KernelInIdeal.τ) (Cert.KernelInIdeal.main (F := Ideal))) ⟨m, fun _ => 0, g⟩ (fun r => ∀ c : Dev Cert.KernelInIdeal.nD,
          r.2.mem ((c.tc : Thread Cert.KernelInIdeal.nD Cert.KernelInIdeal.τ).loc Cert.KernelInIdeal.main_v0_0) = v0 c
          ∧ r.2.mem ((c.tc : Thread Cert.KernelInIdeal.nD Cert.KernelInIdeal.τ).loc Cert.KernelInIdeal.main_v0_1) = v1 c
          ∧ r.2.mem ((c.tc : Thread Cert.KernelInIdeal.nD Cert.KernelInIdeal.τ).loc Cert.KernelInIdeal.main_v0_2) = v2 c
          ∧ r.2.mem ((c.tc : Thread Cert.KernelInIdeal.nD Cert.KernelInIdeal.τ).loc Cert.KernelInIdeal.main_arg0) = m ((c.tc : Thread Cert.KernelInIdeal.nD Cert.KernelInIdeal.τ).loc Cert.KernelInIdeal.main_arg0)
          ∧ r.2.mem ((c.tc : Thread Cert.KernelInIdeal.nD Cert.KernelInIdeal.τ).loc Cert.KernelInIdeal.main_arg1) = m ((c.tc : Thread Cert.KernelInIdeal.nD Cert.KernelInIdeal.τ).loc Cert.KernelInIdeal.main_arg1)
          ∧ r.2.mem ((c.tc : Thread Cert.KernelInIdeal.nD Cert.KernelInIdeal.τ).loc Cert.KernelInIdeal.main_arg2) = m ((c.tc : Thread Cert.KernelInIdeal.nD Cert.KernelInIdeal.τ).loc Cert.KernelInIdeal.main_arg2)
          ∧ r.2.mem ((c.tc : Thread Cert.KernelInIdeal.nD Cert.KernelInIdeal.τ).loc Cert.KernelInIdeal.main_arg3) = m ((c.tc : Thread Cert.KernelInIdeal.nD Cert.KernelInIdeal.τ).loc Cert.KernelInIdeal.main_arg3)
          ∧ r.2.mem ((c.tc : Thread Cert.KernelInIdeal.nD Cert.KernelInIdeal.τ).loc Cert.KernelInIdeal.main_arg4) = m ((c.tc : Thread Cert.KernelInIdeal.nD Cert.KernelInIdeal.τ).loc Cert.KernelInIdeal.main_arg4))
      ∧ θ_run (Cert.ReferenceInIdeal.defs (F := Ideal)) (onTc (τ := Cert.ReferenceInIdeal.τ) (Cert.ReferenceInIdeal.main (F := Ideal))) ⟨m', fun _ => 0, g'⟩ (fun r => ∀ c : Dev Cert.ReferenceInIdeal.nD,
          r.2.mem ((c.tc : Thread Cert.ReferenceInIdeal.nD Cert.ReferenceInIdeal.τ).loc Cert.ReferenceInIdeal.main_v18) = v0 c
          ∧ r.2.mem ((c.tc : Thread Cert.ReferenceInIdeal.nD Cert.ReferenceInIdeal.τ).loc Cert.ReferenceInIdeal.main_v13) = v1 c
          ∧ r.2.mem ((c.tc : Thread Cert.ReferenceInIdeal.nD Cert.ReferenceInIdeal.τ).loc Cert.ReferenceInIdeal.main_v10) = v2 c
          ∧ r.2.mem ((c.tc : Thread Cert.ReferenceInIdeal.nD Cert.ReferenceInIdeal.τ).loc Cert.ReferenceInIdeal.main_arg0) = m' ((c.tc : Thread Cert.ReferenceInIdeal.nD Cert.ReferenceInIdeal.τ).loc Cert.ReferenceInIdeal.main_arg0)
          ∧ r.2.mem ((c.tc : Thread Cert.ReferenceInIdeal.nD Cert.ReferenceInIdeal.τ).loc Cert.ReferenceInIdeal.main_arg1) = m' ((c.tc : Thread Cert.ReferenceInIdeal.nD Cert.ReferenceInIdeal.τ).loc Cert.ReferenceInIdeal.main_arg1)
          ∧ r.2.mem ((c.tc : Thread Cert.ReferenceInIdeal.nD Cert.ReferenceInIdeal.τ).loc Cert.ReferenceInIdeal.main_arg2) = m' ((c.tc : Thread Cert.ReferenceInIdeal.nD Cert.ReferenceInIdeal.τ).loc Cert.ReferenceInIdeal.main_arg2)
          ∧ r.2.mem ((c.tc : Thread Cert.ReferenceInIdeal.nD Cert.ReferenceInIdeal.τ).loc Cert.ReferenceInIdeal.main_arg3) = m' ((c.tc : Thread Cert.ReferenceInIdeal.nD Cert.ReferenceInIdeal.τ).loc Cert.ReferenceInIdeal.main_arg3)
          ∧ r.2.mem ((c.tc : Thread Cert.ReferenceInIdeal.nD Cert.ReferenceInIdeal.τ).loc Cert.ReferenceInIdeal.main_arg4) = m' ((c.tc : Thread Cert.ReferenceInIdeal.nD Cert.ReferenceInIdeal.τ).loc Cert.ReferenceInIdeal.main_arg4))

def preserves_KernelMix_KernelMixIdeal : Prop :=
  True

def algebraic_KernelMixIdeal_ReferenceMixIdeal_pre_finite_mix [hKernelMixIdeal : Cert.KernelMixIdeal.Facts] [hReferenceMixIdeal : Cert.ReferenceMixIdeal.Facts] [hPre_finite_mix : Cert.Pre_finite_mix.Facts] : Prop :=
  ∀ (m : (ℓ : Loc Cert.KernelMixIdeal.nD Cert.KernelMixIdeal.τ Cert.KernelMixIdeal.sig) → Buf (Elt Ideal) ℓ) (g : Dev Cert.KernelMixIdeal.nD → PrngReg)
    (m' : (ℓ : Loc Cert.ReferenceMixIdeal.nD Cert.ReferenceMixIdeal.τ Cert.ReferenceMixIdeal.sig) → Buf (Elt Ideal) ℓ) (g' : Dev Cert.ReferenceMixIdeal.nD → PrngReg), Pre_KernelMixIdeal_finite_mix m →
    (∀ c : Dev Cert.KernelMixIdeal.nD,
      m' ((c.tc : Thread Cert.ReferenceMixIdeal.nD Cert.ReferenceMixIdeal.τ).loc Cert.ReferenceMixIdeal.main_arg0) = m ((c.tc : Thread Cert.KernelMixIdeal.nD Cert.KernelMixIdeal.τ).loc Cert.KernelMixIdeal.main_arg0)
      ∧ m' ((c.tc : Thread Cert.ReferenceMixIdeal.nD Cert.ReferenceMixIdeal.τ).loc Cert.ReferenceMixIdeal.main_arg1) = m ((c.tc : Thread Cert.KernelMixIdeal.nD Cert.KernelMixIdeal.τ).loc Cert.KernelMixIdeal.main_arg1)
      ∧ m' ((c.tc : Thread Cert.ReferenceMixIdeal.nD Cert.ReferenceMixIdeal.τ).loc Cert.ReferenceMixIdeal.main_arg2) = m ((c.tc : Thread Cert.KernelMixIdeal.nD Cert.KernelMixIdeal.τ).loc Cert.KernelMixIdeal.main_arg2)
      ∧ m' ((c.tc : Thread Cert.ReferenceMixIdeal.nD Cert.ReferenceMixIdeal.τ).loc Cert.ReferenceMixIdeal.main_arg3) = m ((c.tc : Thread Cert.KernelMixIdeal.nD Cert.KernelMixIdeal.τ).loc Cert.KernelMixIdeal.main_arg3)
      ∧ m' ((c.tc : Thread Cert.ReferenceMixIdeal.nD Cert.ReferenceMixIdeal.τ).loc Cert.ReferenceMixIdeal.main_arg4) = m ((c.tc : Thread Cert.KernelMixIdeal.nD Cert.KernelMixIdeal.τ).loc Cert.KernelMixIdeal.main_arg4)
      ∧ m' ((c.tc : Thread Cert.ReferenceMixIdeal.nD Cert.ReferenceMixIdeal.τ).loc Cert.ReferenceMixIdeal.main_arg5) = m ((c.tc : Thread Cert.KernelMixIdeal.nD Cert.KernelMixIdeal.τ).loc Cert.KernelMixIdeal.main_arg5)) →
    ∃ (v0 : (c : Dev Cert.KernelMixIdeal.nD) → Buf (Elt Ideal) ((c.tc : Thread Cert.KernelMixIdeal.nD Cert.KernelMixIdeal.τ).loc Cert.KernelMixIdeal.main_v1_0)) (v1 : (c : Dev Cert.KernelMixIdeal.nD) → Buf (Elt Ideal) ((c.tc : Thread Cert.KernelMixIdeal.nD Cert.KernelMixIdeal.τ).loc Cert.KernelMixIdeal.main_v1_1)) (v2 : (c : Dev Cert.KernelMixIdeal.nD) → Buf (Elt Ideal) ((c.tc : Thread Cert.KernelMixIdeal.nD Cert.KernelMixIdeal.τ).loc Cert.KernelMixIdeal.main_v1_2)) (v3 : (c : Dev Cert.KernelMixIdeal.nD) → Buf (Elt Ideal) ((c.tc : Thread Cert.KernelMixIdeal.nD Cert.KernelMixIdeal.τ).loc Cert.KernelMixIdeal.main_v1_3)) (v4 : (c : Dev Cert.KernelMixIdeal.nD) → Buf (Elt Ideal) ((c.tc : Thread Cert.KernelMixIdeal.nD Cert.KernelMixIdeal.τ).loc Cert.KernelMixIdeal.main_v1_4)),
      θ_run (Cert.KernelMixIdeal.defs (F := Ideal)) (onTc (τ := Cert.KernelMixIdeal.τ) (Cert.KernelMixIdeal.main (F := Ideal))) ⟨m, fun _ => 0, g⟩ (fun r => ∀ c : Dev Cert.KernelMixIdeal.nD,
          r.2.mem ((c.tc : Thread Cert.KernelMixIdeal.nD Cert.KernelMixIdeal.τ).loc Cert.KernelMixIdeal.main_v1_0) = v0 c
          ∧ r.2.mem ((c.tc : Thread Cert.KernelMixIdeal.nD Cert.KernelMixIdeal.τ).loc Cert.KernelMixIdeal.main_v1_1) = v1 c
          ∧ r.2.mem ((c.tc : Thread Cert.KernelMixIdeal.nD Cert.KernelMixIdeal.τ).loc Cert.KernelMixIdeal.main_v1_2) = v2 c
          ∧ r.2.mem ((c.tc : Thread Cert.KernelMixIdeal.nD Cert.KernelMixIdeal.τ).loc Cert.KernelMixIdeal.main_v1_3) = v3 c
          ∧ r.2.mem ((c.tc : Thread Cert.KernelMixIdeal.nD Cert.KernelMixIdeal.τ).loc Cert.KernelMixIdeal.main_v1_4) = v4 c
          ∧ r.2.mem ((c.tc : Thread Cert.KernelMixIdeal.nD Cert.KernelMixIdeal.τ).loc Cert.KernelMixIdeal.main_arg0) = m ((c.tc : Thread Cert.KernelMixIdeal.nD Cert.KernelMixIdeal.τ).loc Cert.KernelMixIdeal.main_arg0)
          ∧ r.2.mem ((c.tc : Thread Cert.KernelMixIdeal.nD Cert.KernelMixIdeal.τ).loc Cert.KernelMixIdeal.main_arg1) = m ((c.tc : Thread Cert.KernelMixIdeal.nD Cert.KernelMixIdeal.τ).loc Cert.KernelMixIdeal.main_arg1)
          ∧ r.2.mem ((c.tc : Thread Cert.KernelMixIdeal.nD Cert.KernelMixIdeal.τ).loc Cert.KernelMixIdeal.main_arg2) = m ((c.tc : Thread Cert.KernelMixIdeal.nD Cert.KernelMixIdeal.τ).loc Cert.KernelMixIdeal.main_arg2)
          ∧ r.2.mem ((c.tc : Thread Cert.KernelMixIdeal.nD Cert.KernelMixIdeal.τ).loc Cert.KernelMixIdeal.main_arg3) = m ((c.tc : Thread Cert.KernelMixIdeal.nD Cert.KernelMixIdeal.τ).loc Cert.KernelMixIdeal.main_arg3)
          ∧ r.2.mem ((c.tc : Thread Cert.KernelMixIdeal.nD Cert.KernelMixIdeal.τ).loc Cert.KernelMixIdeal.main_arg4) = m ((c.tc : Thread Cert.KernelMixIdeal.nD Cert.KernelMixIdeal.τ).loc Cert.KernelMixIdeal.main_arg4)
          ∧ r.2.mem ((c.tc : Thread Cert.KernelMixIdeal.nD Cert.KernelMixIdeal.τ).loc Cert.KernelMixIdeal.main_arg5) = m ((c.tc : Thread Cert.KernelMixIdeal.nD Cert.KernelMixIdeal.τ).loc Cert.KernelMixIdeal.main_arg5))
      ∧ θ_run (Cert.ReferenceMixIdeal.defs (F := Ideal)) (onTc (τ := Cert.ReferenceMixIdeal.τ) (Cert.ReferenceMixIdeal.main (F := Ideal))) ⟨m', fun _ => 0, g'⟩ (fun r => ∀ c : Dev Cert.ReferenceMixIdeal.nD,
          r.2.mem ((c.tc : Thread Cert.ReferenceMixIdeal.nD Cert.ReferenceMixIdeal.τ).loc Cert.ReferenceMixIdeal.main_v74) = v0 c
          ∧ r.2.mem ((c.tc : Thread Cert.ReferenceMixIdeal.nD Cert.ReferenceMixIdeal.τ).loc Cert.ReferenceMixIdeal.main_v76) = v1 c
          ∧ r.2.mem ((c.tc : Thread Cert.ReferenceMixIdeal.nD Cert.ReferenceMixIdeal.τ).loc Cert.ReferenceMixIdeal.main_v53) = v2 c
          ∧ r.2.mem ((c.tc : Thread Cert.ReferenceMixIdeal.nD Cert.ReferenceMixIdeal.τ).loc Cert.ReferenceMixIdeal.main_v56) = v3 c
          ∧ r.2.mem ((c.tc : Thread Cert.ReferenceMixIdeal.nD Cert.ReferenceMixIdeal.τ).loc Cert.ReferenceMixIdeal.main_v37) = v4 c
          ∧ r.2.mem ((c.tc : Thread Cert.ReferenceMixIdeal.nD Cert.ReferenceMixIdeal.τ).loc Cert.ReferenceMixIdeal.main_arg0) = m' ((c.tc : Thread Cert.ReferenceMixIdeal.nD Cert.ReferenceMixIdeal.τ).loc Cert.ReferenceMixIdeal.main_arg0)
          ∧ r.2.mem ((c.tc : Thread Cert.ReferenceMixIdeal.nD Cert.ReferenceMixIdeal.τ).loc Cert.ReferenceMixIdeal.main_arg1) = m' ((c.tc : Thread Cert.ReferenceMixIdeal.nD Cert.ReferenceMixIdeal.τ).loc Cert.ReferenceMixIdeal.main_arg1)
          ∧ r.2.mem ((c.tc : Thread Cert.ReferenceMixIdeal.nD Cert.ReferenceMixIdeal.τ).loc Cert.ReferenceMixIdeal.main_arg2) = m' ((c.tc : Thread Cert.ReferenceMixIdeal.nD Cert.ReferenceMixIdeal.τ).loc Cert.ReferenceMixIdeal.main_arg2)
          ∧ r.2.mem ((c.tc : Thread Cert.ReferenceMixIdeal.nD Cert.ReferenceMixIdeal.τ).loc Cert.ReferenceMixIdeal.main_arg3) = m' ((c.tc : Thread Cert.ReferenceMixIdeal.nD Cert.ReferenceMixIdeal.τ).loc Cert.ReferenceMixIdeal.main_arg3)
          ∧ r.2.mem ((c.tc : Thread Cert.ReferenceMixIdeal.nD Cert.ReferenceMixIdeal.τ).loc Cert.ReferenceMixIdeal.main_arg4) = m' ((c.tc : Thread Cert.ReferenceMixIdeal.nD Cert.ReferenceMixIdeal.τ).loc Cert.ReferenceMixIdeal.main_arg4)
          ∧ r.2.mem ((c.tc : Thread Cert.ReferenceMixIdeal.nD Cert.ReferenceMixIdeal.τ).loc Cert.ReferenceMixIdeal.main_arg5) = m' ((c.tc : Thread Cert.ReferenceMixIdeal.nD Cert.ReferenceMixIdeal.τ).loc Cert.ReferenceMixIdeal.main_arg5))

def preserves_KernelLn1_KernelLn1Ideal : Prop :=
  True

def algebraic_KernelLn1Ideal_ReferenceLn1Ideal_pre_finite_ln1 [hKernelLn1Ideal : Cert.KernelLn1Ideal.Facts] [hReferenceLn1Ideal : Cert.ReferenceLn1Ideal.Facts] [hPre_finite_ln1 : Cert.Pre_finite_ln1.Facts] : Prop :=
  ∀ (m : (ℓ : Loc Cert.KernelLn1Ideal.nD Cert.KernelLn1Ideal.τ Cert.KernelLn1Ideal.sig) → Buf (Elt Ideal) ℓ) (g : Dev Cert.KernelLn1Ideal.nD → PrngReg)
    (m' : (ℓ : Loc Cert.ReferenceLn1Ideal.nD Cert.ReferenceLn1Ideal.τ Cert.ReferenceLn1Ideal.sig) → Buf (Elt Ideal) ℓ) (g' : Dev Cert.ReferenceLn1Ideal.nD → PrngReg), Pre_KernelLn1Ideal_finite_ln1 m →
    (∀ c : Dev Cert.KernelLn1Ideal.nD,
      m' ((c.tc : Thread Cert.ReferenceLn1Ideal.nD Cert.ReferenceLn1Ideal.τ).loc Cert.ReferenceLn1Ideal.main_arg0) = m ((c.tc : Thread Cert.KernelLn1Ideal.nD Cert.KernelLn1Ideal.τ).loc Cert.KernelLn1Ideal.main_arg0)
      ∧ m' ((c.tc : Thread Cert.ReferenceLn1Ideal.nD Cert.ReferenceLn1Ideal.τ).loc Cert.ReferenceLn1Ideal.main_arg1) = m ((c.tc : Thread Cert.KernelLn1Ideal.nD Cert.KernelLn1Ideal.τ).loc Cert.KernelLn1Ideal.main_arg1)
      ∧ m' ((c.tc : Thread Cert.ReferenceLn1Ideal.nD Cert.ReferenceLn1Ideal.τ).loc Cert.ReferenceLn1Ideal.main_arg2) = m ((c.tc : Thread Cert.KernelLn1Ideal.nD Cert.KernelLn1Ideal.τ).loc Cert.KernelLn1Ideal.main_arg2)
      ∧ m' ((c.tc : Thread Cert.ReferenceLn1Ideal.nD Cert.ReferenceLn1Ideal.τ).loc Cert.ReferenceLn1Ideal.main_arg3) = m ((c.tc : Thread Cert.KernelLn1Ideal.nD Cert.KernelLn1Ideal.τ).loc Cert.KernelLn1Ideal.main_arg3)
      ∧ m' ((c.tc : Thread Cert.ReferenceLn1Ideal.nD Cert.ReferenceLn1Ideal.τ).loc Cert.ReferenceLn1Ideal.main_arg4) = m ((c.tc : Thread Cert.KernelLn1Ideal.nD Cert.KernelLn1Ideal.τ).loc Cert.KernelLn1Ideal.main_arg4)
      ∧ m' ((c.tc : Thread Cert.ReferenceLn1Ideal.nD Cert.ReferenceLn1Ideal.τ).loc Cert.ReferenceLn1Ideal.main_arg5) = m ((c.tc : Thread Cert.KernelLn1Ideal.nD Cert.KernelLn1Ideal.τ).loc Cert.KernelLn1Ideal.main_arg5)
      ∧ m' ((c.tc : Thread Cert.ReferenceLn1Ideal.nD Cert.ReferenceLn1Ideal.τ).loc Cert.ReferenceLn1Ideal.main_arg6) = m ((c.tc : Thread Cert.KernelLn1Ideal.nD Cert.KernelLn1Ideal.τ).loc Cert.KernelLn1Ideal.main_arg6)
      ∧ m' ((c.tc : Thread Cert.ReferenceLn1Ideal.nD Cert.ReferenceLn1Ideal.τ).loc Cert.ReferenceLn1Ideal.main_arg7) = m ((c.tc : Thread Cert.KernelLn1Ideal.nD Cert.KernelLn1Ideal.τ).loc Cert.KernelLn1Ideal.main_arg7)
      ∧ m' ((c.tc : Thread Cert.ReferenceLn1Ideal.nD Cert.ReferenceLn1Ideal.τ).loc Cert.ReferenceLn1Ideal.main_arg8) = m ((c.tc : Thread Cert.KernelLn1Ideal.nD Cert.KernelLn1Ideal.τ).loc Cert.KernelLn1Ideal.main_arg8)) →
    ∃ (v0 : (c : Dev Cert.KernelLn1Ideal.nD) → Buf (Elt Ideal) ((c.tc : Thread Cert.KernelLn1Ideal.nD Cert.KernelLn1Ideal.τ).loc Cert.KernelLn1Ideal.main_v0_0)) (v1 : (c : Dev Cert.KernelLn1Ideal.nD) → Buf (Elt Ideal) ((c.tc : Thread Cert.KernelLn1Ideal.nD Cert.KernelLn1Ideal.τ).loc Cert.KernelLn1Ideal.main_v0_1)) (v2 : (c : Dev Cert.KernelLn1Ideal.nD) → Buf (Elt Ideal) ((c.tc : Thread Cert.KernelLn1Ideal.nD Cert.KernelLn1Ideal.τ).loc Cert.KernelLn1Ideal.main_v0_2)) (v3 : (c : Dev Cert.KernelLn1Ideal.nD) → Buf (Elt Ideal) ((c.tc : Thread Cert.KernelLn1Ideal.nD Cert.KernelLn1Ideal.τ).loc Cert.KernelLn1Ideal.main_v0_3)) (v4 : (c : Dev Cert.KernelLn1Ideal.nD) → Buf (Elt Ideal) ((c.tc : Thread Cert.KernelLn1Ideal.nD Cert.KernelLn1Ideal.τ).loc Cert.KernelLn1Ideal.main_v0_4)) (v5 : (c : Dev Cert.KernelLn1Ideal.nD) → Buf (Elt Ideal) ((c.tc : Thread Cert.KernelLn1Ideal.nD Cert.KernelLn1Ideal.τ).loc Cert.KernelLn1Ideal.main_v0_5)) (v6 : (c : Dev Cert.KernelLn1Ideal.nD) → Buf (Elt Ideal) ((c.tc : Thread Cert.KernelLn1Ideal.nD Cert.KernelLn1Ideal.τ).loc Cert.KernelLn1Ideal.main_v0_6)),
      θ_run (Cert.KernelLn1Ideal.defs (F := Ideal)) (onTc (τ := Cert.KernelLn1Ideal.τ) (Cert.KernelLn1Ideal.main (F := Ideal))) ⟨m, fun _ => 0, g⟩ (fun r => ∀ c : Dev Cert.KernelLn1Ideal.nD,
          r.2.mem ((c.tc : Thread Cert.KernelLn1Ideal.nD Cert.KernelLn1Ideal.τ).loc Cert.KernelLn1Ideal.main_v0_0) = v0 c
          ∧ r.2.mem ((c.tc : Thread Cert.KernelLn1Ideal.nD Cert.KernelLn1Ideal.τ).loc Cert.KernelLn1Ideal.main_v0_1) = v1 c
          ∧ r.2.mem ((c.tc : Thread Cert.KernelLn1Ideal.nD Cert.KernelLn1Ideal.τ).loc Cert.KernelLn1Ideal.main_v0_2) = v2 c
          ∧ r.2.mem ((c.tc : Thread Cert.KernelLn1Ideal.nD Cert.KernelLn1Ideal.τ).loc Cert.KernelLn1Ideal.main_v0_3) = v3 c
          ∧ r.2.mem ((c.tc : Thread Cert.KernelLn1Ideal.nD Cert.KernelLn1Ideal.τ).loc Cert.KernelLn1Ideal.main_v0_4) = v4 c
          ∧ r.2.mem ((c.tc : Thread Cert.KernelLn1Ideal.nD Cert.KernelLn1Ideal.τ).loc Cert.KernelLn1Ideal.main_v0_5) = v5 c
          ∧ r.2.mem ((c.tc : Thread Cert.KernelLn1Ideal.nD Cert.KernelLn1Ideal.τ).loc Cert.KernelLn1Ideal.main_v0_6) = v6 c
          ∧ r.2.mem ((c.tc : Thread Cert.KernelLn1Ideal.nD Cert.KernelLn1Ideal.τ).loc Cert.KernelLn1Ideal.main_arg0) = m ((c.tc : Thread Cert.KernelLn1Ideal.nD Cert.KernelLn1Ideal.τ).loc Cert.KernelLn1Ideal.main_arg0)
          ∧ r.2.mem ((c.tc : Thread Cert.KernelLn1Ideal.nD Cert.KernelLn1Ideal.τ).loc Cert.KernelLn1Ideal.main_arg1) = m ((c.tc : Thread Cert.KernelLn1Ideal.nD Cert.KernelLn1Ideal.τ).loc Cert.KernelLn1Ideal.main_arg1)
          ∧ r.2.mem ((c.tc : Thread Cert.KernelLn1Ideal.nD Cert.KernelLn1Ideal.τ).loc Cert.KernelLn1Ideal.main_arg2) = m ((c.tc : Thread Cert.KernelLn1Ideal.nD Cert.KernelLn1Ideal.τ).loc Cert.KernelLn1Ideal.main_arg2)
          ∧ r.2.mem ((c.tc : Thread Cert.KernelLn1Ideal.nD Cert.KernelLn1Ideal.τ).loc Cert.KernelLn1Ideal.main_arg3) = m ((c.tc : Thread Cert.KernelLn1Ideal.nD Cert.KernelLn1Ideal.τ).loc Cert.KernelLn1Ideal.main_arg3)
          ∧ r.2.mem ((c.tc : Thread Cert.KernelLn1Ideal.nD Cert.KernelLn1Ideal.τ).loc Cert.KernelLn1Ideal.main_arg4) = m ((c.tc : Thread Cert.KernelLn1Ideal.nD Cert.KernelLn1Ideal.τ).loc Cert.KernelLn1Ideal.main_arg4)
          ∧ r.2.mem ((c.tc : Thread Cert.KernelLn1Ideal.nD Cert.KernelLn1Ideal.τ).loc Cert.KernelLn1Ideal.main_arg5) = m ((c.tc : Thread Cert.KernelLn1Ideal.nD Cert.KernelLn1Ideal.τ).loc Cert.KernelLn1Ideal.main_arg5)
          ∧ r.2.mem ((c.tc : Thread Cert.KernelLn1Ideal.nD Cert.KernelLn1Ideal.τ).loc Cert.KernelLn1Ideal.main_arg6) = m ((c.tc : Thread Cert.KernelLn1Ideal.nD Cert.KernelLn1Ideal.τ).loc Cert.KernelLn1Ideal.main_arg6)
          ∧ r.2.mem ((c.tc : Thread Cert.KernelLn1Ideal.nD Cert.KernelLn1Ideal.τ).loc Cert.KernelLn1Ideal.main_arg7) = m ((c.tc : Thread Cert.KernelLn1Ideal.nD Cert.KernelLn1Ideal.τ).loc Cert.KernelLn1Ideal.main_arg7)
          ∧ r.2.mem ((c.tc : Thread Cert.KernelLn1Ideal.nD Cert.KernelLn1Ideal.τ).loc Cert.KernelLn1Ideal.main_arg8) = m ((c.tc : Thread Cert.KernelLn1Ideal.nD Cert.KernelLn1Ideal.τ).loc Cert.KernelLn1Ideal.main_arg8))
      ∧ θ_run (Cert.ReferenceLn1Ideal.defs (F := Ideal)) (onTc (τ := Cert.ReferenceLn1Ideal.τ) (Cert.ReferenceLn1Ideal.main (F := Ideal))) ⟨m', fun _ => 0, g'⟩ (fun r => ∀ c : Dev Cert.ReferenceLn1Ideal.nD,
          r.2.mem ((c.tc : Thread Cert.ReferenceLn1Ideal.nD Cert.ReferenceLn1Ideal.τ).loc Cert.ReferenceLn1Ideal.main_v83) = v0 c
          ∧ r.2.mem ((c.tc : Thread Cert.ReferenceLn1Ideal.nD Cert.ReferenceLn1Ideal.τ).loc Cert.ReferenceLn1Ideal.main_v89) = v1 c
          ∧ r.2.mem ((c.tc : Thread Cert.ReferenceLn1Ideal.nD Cert.ReferenceLn1Ideal.τ).loc Cert.ReferenceLn1Ideal.main_v49) = v2 c
          ∧ r.2.mem ((c.tc : Thread Cert.ReferenceLn1Ideal.nD Cert.ReferenceLn1Ideal.τ).loc Cert.ReferenceLn1Ideal.main_v46) = v3 c
          ∧ r.2.mem ((c.tc : Thread Cert.ReferenceLn1Ideal.nD Cert.ReferenceLn1Ideal.τ).loc Cert.ReferenceLn1Ideal.main_v57) = v4 c
          ∧ r.2.mem ((c.tc : Thread Cert.ReferenceLn1Ideal.nD Cert.ReferenceLn1Ideal.τ).loc Cert.ReferenceLn1Ideal.main_v54) = v5 c
          ∧ r.2.mem ((c.tc : Thread Cert.ReferenceLn1Ideal.nD Cert.ReferenceLn1Ideal.τ).loc Cert.ReferenceLn1Ideal.main_v88) = v6 c
          ∧ r.2.mem ((c.tc : Thread Cert.ReferenceLn1Ideal.nD Cert.ReferenceLn1Ideal.τ).loc Cert.ReferenceLn1Ideal.main_arg0) = m' ((c.tc : Thread Cert.ReferenceLn1Ideal.nD Cert.ReferenceLn1Ideal.τ).loc Cert.ReferenceLn1Ideal.main_arg0)
          ∧ r.2.mem ((c.tc : Thread Cert.ReferenceLn1Ideal.nD Cert.ReferenceLn1Ideal.τ).loc Cert.ReferenceLn1Ideal.main_arg1) = m' ((c.tc : Thread Cert.ReferenceLn1Ideal.nD Cert.ReferenceLn1Ideal.τ).loc Cert.ReferenceLn1Ideal.main_arg1)
          ∧ r.2.mem ((c.tc : Thread Cert.ReferenceLn1Ideal.nD Cert.ReferenceLn1Ideal.τ).loc Cert.ReferenceLn1Ideal.main_arg2) = m' ((c.tc : Thread Cert.ReferenceLn1Ideal.nD Cert.ReferenceLn1Ideal.τ).loc Cert.ReferenceLn1Ideal.main_arg2)
          ∧ r.2.mem ((c.tc : Thread Cert.ReferenceLn1Ideal.nD Cert.ReferenceLn1Ideal.τ).loc Cert.ReferenceLn1Ideal.main_arg3) = m' ((c.tc : Thread Cert.ReferenceLn1Ideal.nD Cert.ReferenceLn1Ideal.τ).loc Cert.ReferenceLn1Ideal.main_arg3)
          ∧ r.2.mem ((c.tc : Thread Cert.ReferenceLn1Ideal.nD Cert.ReferenceLn1Ideal.τ).loc Cert.ReferenceLn1Ideal.main_arg4) = m' ((c.tc : Thread Cert.ReferenceLn1Ideal.nD Cert.ReferenceLn1Ideal.τ).loc Cert.ReferenceLn1Ideal.main_arg4)
          ∧ r.2.mem ((c.tc : Thread Cert.ReferenceLn1Ideal.nD Cert.ReferenceLn1Ideal.τ).loc Cert.ReferenceLn1Ideal.main_arg5) = m' ((c.tc : Thread Cert.ReferenceLn1Ideal.nD Cert.ReferenceLn1Ideal.τ).loc Cert.ReferenceLn1Ideal.main_arg5)
          ∧ r.2.mem ((c.tc : Thread Cert.ReferenceLn1Ideal.nD Cert.ReferenceLn1Ideal.τ).loc Cert.ReferenceLn1Ideal.main_arg6) = m' ((c.tc : Thread Cert.ReferenceLn1Ideal.nD Cert.ReferenceLn1Ideal.τ).loc Cert.ReferenceLn1Ideal.main_arg6)
          ∧ r.2.mem ((c.tc : Thread Cert.ReferenceLn1Ideal.nD Cert.ReferenceLn1Ideal.τ).loc Cert.ReferenceLn1Ideal.main_arg7) = m' ((c.tc : Thread Cert.ReferenceLn1Ideal.nD Cert.ReferenceLn1Ideal.τ).loc Cert.ReferenceLn1Ideal.main_arg7)
          ∧ r.2.mem ((c.tc : Thread Cert.ReferenceLn1Ideal.nD Cert.ReferenceLn1Ideal.τ).loc Cert.ReferenceLn1Ideal.main_arg8) = m' ((c.tc : Thread Cert.ReferenceLn1Ideal.nD Cert.ReferenceLn1Ideal.τ).loc Cert.ReferenceLn1Ideal.main_arg8))

def preserves_KernelLn2_KernelLn2Ideal : Prop :=
  True

def algebraic_KernelLn2Ideal_ReferenceLn2Ideal_pre_finite_ln2 [hKernelLn2Ideal : Cert.KernelLn2Ideal.Facts] [hReferenceLn2Ideal : Cert.ReferenceLn2Ideal.Facts] [hPre_finite_ln2 : Cert.Pre_finite_ln2.Facts] : Prop :=
  ∀ (m : (ℓ : Loc Cert.KernelLn2Ideal.nD Cert.KernelLn2Ideal.τ Cert.KernelLn2Ideal.sig) → Buf (Elt Ideal) ℓ) (g : Dev Cert.KernelLn2Ideal.nD → PrngReg)
    (m' : (ℓ : Loc Cert.ReferenceLn2Ideal.nD Cert.ReferenceLn2Ideal.τ Cert.ReferenceLn2Ideal.sig) → Buf (Elt Ideal) ℓ) (g' : Dev Cert.ReferenceLn2Ideal.nD → PrngReg), Pre_KernelLn2Ideal_finite_ln2 m →
    (∀ c : Dev Cert.KernelLn2Ideal.nD,
      m' ((c.tc : Thread Cert.ReferenceLn2Ideal.nD Cert.ReferenceLn2Ideal.τ).loc Cert.ReferenceLn2Ideal.main_arg0) = m ((c.tc : Thread Cert.KernelLn2Ideal.nD Cert.KernelLn2Ideal.τ).loc Cert.KernelLn2Ideal.main_arg0)
      ∧ m' ((c.tc : Thread Cert.ReferenceLn2Ideal.nD Cert.ReferenceLn2Ideal.τ).loc Cert.ReferenceLn2Ideal.main_arg1) = m ((c.tc : Thread Cert.KernelLn2Ideal.nD Cert.KernelLn2Ideal.τ).loc Cert.KernelLn2Ideal.main_arg1)
      ∧ m' ((c.tc : Thread Cert.ReferenceLn2Ideal.nD Cert.ReferenceLn2Ideal.τ).loc Cert.ReferenceLn2Ideal.main_arg2) = m ((c.tc : Thread Cert.KernelLn2Ideal.nD Cert.KernelLn2Ideal.τ).loc Cert.KernelLn2Ideal.main_arg2)
      ∧ m' ((c.tc : Thread Cert.ReferenceLn2Ideal.nD Cert.ReferenceLn2Ideal.τ).loc Cert.ReferenceLn2Ideal.main_arg3) = m ((c.tc : Thread Cert.KernelLn2Ideal.nD Cert.KernelLn2Ideal.τ).loc Cert.KernelLn2Ideal.main_arg3)
      ∧ m' ((c.tc : Thread Cert.ReferenceLn2Ideal.nD Cert.ReferenceLn2Ideal.τ).loc Cert.ReferenceLn2Ideal.main_arg4) = m ((c.tc : Thread Cert.KernelLn2Ideal.nD Cert.KernelLn2Ideal.τ).loc Cert.KernelLn2Ideal.main_arg4)
      ∧ m' ((c.tc : Thread Cert.ReferenceLn2Ideal.nD Cert.ReferenceLn2Ideal.τ).loc Cert.ReferenceLn2Ideal.main_arg5) = m ((c.tc : Thread Cert.KernelLn2Ideal.nD Cert.KernelLn2Ideal.τ).loc Cert.KernelLn2Ideal.main_arg5)) →
    ∃ (v0 : (c : Dev Cert.KernelLn2Ideal.nD) → Buf (Elt Ideal) ((c.tc : Thread Cert.KernelLn2Ideal.nD Cert.KernelLn2Ideal.τ).loc Cert.KernelLn2Ideal.main_v0_0)) (v1 : (c : Dev Cert.KernelLn2Ideal.nD) → Buf (Elt Ideal) ((c.tc : Thread Cert.KernelLn2Ideal.nD Cert.KernelLn2Ideal.τ).loc Cert.KernelLn2Ideal.main_v0_1)) (v2 : (c : Dev Cert.KernelLn2Ideal.nD) → Buf (Elt Ideal) ((c.tc : Thread Cert.KernelLn2Ideal.nD Cert.KernelLn2Ideal.τ).loc Cert.KernelLn2Ideal.main_v0_2)) (v3 : (c : Dev Cert.KernelLn2Ideal.nD) → Buf (Elt Ideal) ((c.tc : Thread Cert.KernelLn2Ideal.nD Cert.KernelLn2Ideal.τ).loc Cert.KernelLn2Ideal.main_v0_3)) (v4 : (c : Dev Cert.KernelLn2Ideal.nD) → Buf (Elt Ideal) ((c.tc : Thread Cert.KernelLn2Ideal.nD Cert.KernelLn2Ideal.τ).loc Cert.KernelLn2Ideal.main_v0_4)) (v5 : (c : Dev Cert.KernelLn2Ideal.nD) → Buf (Elt Ideal) ((c.tc : Thread Cert.KernelLn2Ideal.nD Cert.KernelLn2Ideal.τ).loc Cert.KernelLn2Ideal.main_v0_5)),
      θ_run (Cert.KernelLn2Ideal.defs (F := Ideal)) (onTc (τ := Cert.KernelLn2Ideal.τ) (Cert.KernelLn2Ideal.main (F := Ideal))) ⟨m, fun _ => 0, g⟩ (fun r => ∀ c : Dev Cert.KernelLn2Ideal.nD,
          r.2.mem ((c.tc : Thread Cert.KernelLn2Ideal.nD Cert.KernelLn2Ideal.τ).loc Cert.KernelLn2Ideal.main_v0_0) = v0 c
          ∧ r.2.mem ((c.tc : Thread Cert.KernelLn2Ideal.nD Cert.KernelLn2Ideal.τ).loc Cert.KernelLn2Ideal.main_v0_1) = v1 c
          ∧ r.2.mem ((c.tc : Thread Cert.KernelLn2Ideal.nD Cert.KernelLn2Ideal.τ).loc Cert.KernelLn2Ideal.main_v0_2) = v2 c
          ∧ r.2.mem ((c.tc : Thread Cert.KernelLn2Ideal.nD Cert.KernelLn2Ideal.τ).loc Cert.KernelLn2Ideal.main_v0_3) = v3 c
          ∧ r.2.mem ((c.tc : Thread Cert.KernelLn2Ideal.nD Cert.KernelLn2Ideal.τ).loc Cert.KernelLn2Ideal.main_v0_4) = v4 c
          ∧ r.2.mem ((c.tc : Thread Cert.KernelLn2Ideal.nD Cert.KernelLn2Ideal.τ).loc Cert.KernelLn2Ideal.main_v0_5) = v5 c
          ∧ r.2.mem ((c.tc : Thread Cert.KernelLn2Ideal.nD Cert.KernelLn2Ideal.τ).loc Cert.KernelLn2Ideal.main_arg0) = m ((c.tc : Thread Cert.KernelLn2Ideal.nD Cert.KernelLn2Ideal.τ).loc Cert.KernelLn2Ideal.main_arg0)
          ∧ r.2.mem ((c.tc : Thread Cert.KernelLn2Ideal.nD Cert.KernelLn2Ideal.τ).loc Cert.KernelLn2Ideal.main_arg1) = m ((c.tc : Thread Cert.KernelLn2Ideal.nD Cert.KernelLn2Ideal.τ).loc Cert.KernelLn2Ideal.main_arg1)
          ∧ r.2.mem ((c.tc : Thread Cert.KernelLn2Ideal.nD Cert.KernelLn2Ideal.τ).loc Cert.KernelLn2Ideal.main_arg2) = m ((c.tc : Thread Cert.KernelLn2Ideal.nD Cert.KernelLn2Ideal.τ).loc Cert.KernelLn2Ideal.main_arg2)
          ∧ r.2.mem ((c.tc : Thread Cert.KernelLn2Ideal.nD Cert.KernelLn2Ideal.τ).loc Cert.KernelLn2Ideal.main_arg3) = m ((c.tc : Thread Cert.KernelLn2Ideal.nD Cert.KernelLn2Ideal.τ).loc Cert.KernelLn2Ideal.main_arg3)
          ∧ r.2.mem ((c.tc : Thread Cert.KernelLn2Ideal.nD Cert.KernelLn2Ideal.τ).loc Cert.KernelLn2Ideal.main_arg4) = m ((c.tc : Thread Cert.KernelLn2Ideal.nD Cert.KernelLn2Ideal.τ).loc Cert.KernelLn2Ideal.main_arg4)
          ∧ r.2.mem ((c.tc : Thread Cert.KernelLn2Ideal.nD Cert.KernelLn2Ideal.τ).loc Cert.KernelLn2Ideal.main_arg5) = m ((c.tc : Thread Cert.KernelLn2Ideal.nD Cert.KernelLn2Ideal.τ).loc Cert.KernelLn2Ideal.main_arg5))
      ∧ θ_run (Cert.ReferenceLn2Ideal.defs (F := Ideal)) (onTc (τ := Cert.ReferenceLn2Ideal.τ) (Cert.ReferenceLn2Ideal.main (F := Ideal))) ⟨m', fun _ => 0, g'⟩ (fun r => ∀ c : Dev Cert.ReferenceLn2Ideal.nD,
          r.2.mem ((c.tc : Thread Cert.ReferenceLn2Ideal.nD Cert.ReferenceLn2Ideal.τ).loc Cert.ReferenceLn2Ideal.main_v79) = v0 c
          ∧ r.2.mem ((c.tc : Thread Cert.ReferenceLn2Ideal.nD Cert.ReferenceLn2Ideal.τ).loc Cert.ReferenceLn2Ideal.main_v111) = v1 c
          ∧ r.2.mem ((c.tc : Thread Cert.ReferenceLn2Ideal.nD Cert.ReferenceLn2Ideal.τ).loc Cert.ReferenceLn2Ideal.main_v110) = v2 c
          ∧ r.2.mem ((c.tc : Thread Cert.ReferenceLn2Ideal.nD Cert.ReferenceLn2Ideal.τ).loc Cert.ReferenceLn2Ideal.main_v53) = v3 c
          ∧ r.2.mem ((c.tc : Thread Cert.ReferenceLn2Ideal.nD Cert.ReferenceLn2Ideal.τ).loc Cert.ReferenceLn2Ideal.main_v50) = v4 c
          ∧ r.2.mem ((c.tc : Thread Cert.ReferenceLn2Ideal.nD Cert.ReferenceLn2Ideal.τ).loc Cert.ReferenceLn2Ideal.main_v84) = v5 c
          ∧ r.2.mem ((c.tc : Thread Cert.ReferenceLn2Ideal.nD Cert.ReferenceLn2Ideal.τ).loc Cert.ReferenceLn2Ideal.main_arg0) = m' ((c.tc : Thread Cert.ReferenceLn2Ideal.nD Cert.ReferenceLn2Ideal.τ).loc Cert.ReferenceLn2Ideal.main_arg0)
          ∧ r.2.mem ((c.tc : Thread Cert.ReferenceLn2Ideal.nD Cert.ReferenceLn2Ideal.τ).loc Cert.ReferenceLn2Ideal.main_arg1) = m' ((c.tc : Thread Cert.ReferenceLn2Ideal.nD Cert.ReferenceLn2Ideal.τ).loc Cert.ReferenceLn2Ideal.main_arg1)
          ∧ r.2.mem ((c.tc : Thread Cert.ReferenceLn2Ideal.nD Cert.ReferenceLn2Ideal.τ).loc Cert.ReferenceLn2Ideal.main_arg2) = m' ((c.tc : Thread Cert.ReferenceLn2Ideal.nD Cert.ReferenceLn2Ideal.τ).loc Cert.ReferenceLn2Ideal.main_arg2)
          ∧ r.2.mem ((c.tc : Thread Cert.ReferenceLn2Ideal.nD Cert.ReferenceLn2Ideal.τ).loc Cert.ReferenceLn2Ideal.main_arg3) = m' ((c.tc : Thread Cert.ReferenceLn2Ideal.nD Cert.ReferenceLn2Ideal.τ).loc Cert.ReferenceLn2Ideal.main_arg3)
          ∧ r.2.mem ((c.tc : Thread Cert.ReferenceLn2Ideal.nD Cert.ReferenceLn2Ideal.τ).loc Cert.ReferenceLn2Ideal.main_arg4) = m' ((c.tc : Thread Cert.ReferenceLn2Ideal.nD Cert.ReferenceLn2Ideal.τ).loc Cert.ReferenceLn2Ideal.main_arg4)
          ∧ r.2.mem ((c.tc : Thread Cert.ReferenceLn2Ideal.nD Cert.ReferenceLn2Ideal.τ).loc Cert.ReferenceLn2Ideal.main_arg5) = m' ((c.tc : Thread Cert.ReferenceLn2Ideal.nD Cert.ReferenceLn2Ideal.τ).loc Cert.ReferenceLn2Ideal.main_arg5))

def preserves_KernelGate_KernelGateIdeal : Prop :=
  True

def algebraic_KernelGateIdeal_ReferenceGateIdeal [hKernelGateIdeal : Cert.KernelGateIdeal.Facts] [hReferenceGateIdeal : Cert.ReferenceGateIdeal.Facts] : Prop :=
  ∀ (m : (ℓ : Loc Cert.KernelGateIdeal.nD Cert.KernelGateIdeal.τ Cert.KernelGateIdeal.sig) → Buf (Elt Ideal) ℓ) (g : Dev Cert.KernelGateIdeal.nD → PrngReg)
    (m' : (ℓ : Loc Cert.ReferenceGateIdeal.nD Cert.ReferenceGateIdeal.τ Cert.ReferenceGateIdeal.sig) → Buf (Elt Ideal) ℓ) (g' : Dev Cert.ReferenceGateIdeal.nD → PrngReg), Pre_KernelGateIdeal m →
    (∀ c : Dev Cert.KernelGateIdeal.nD,
      m' ((c.tc : Thread Cert.ReferenceGateIdeal.nD Cert.ReferenceGateIdeal.τ).loc Cert.ReferenceGateIdeal.main_arg0) = m ((c.tc : Thread Cert.KernelGateIdeal.nD Cert.KernelGateIdeal.τ).loc Cert.KernelGateIdeal.main_arg0)
      ∧ m' ((c.tc : Thread Cert.ReferenceGateIdeal.nD Cert.ReferenceGateIdeal.τ).loc Cert.ReferenceGateIdeal.main_arg1) = m ((c.tc : Thread Cert.KernelGateIdeal.nD Cert.KernelGateIdeal.τ).loc Cert.KernelGateIdeal.main_arg1)
      ∧ m' ((c.tc : Thread Cert.ReferenceGateIdeal.nD Cert.ReferenceGateIdeal.τ).loc Cert.ReferenceGateIdeal.main_arg2) = m ((c.tc : Thread Cert.KernelGateIdeal.nD Cert.KernelGateIdeal.τ).loc Cert.KernelGateIdeal.main_arg2)) →
    ∃ (v0 : (c : Dev Cert.KernelGateIdeal.nD) → Buf (Elt Ideal) ((c.tc : Thread Cert.KernelGateIdeal.nD Cert.KernelGateIdeal.τ).loc Cert.KernelGateIdeal.main_v0)),
      θ_run (Cert.KernelGateIdeal.defs (F := Ideal)) (onTc (τ := Cert.KernelGateIdeal.τ) (Cert.KernelGateIdeal.main (F := Ideal))) ⟨m, fun _ => 0, g⟩ (fun r => ∀ c : Dev Cert.KernelGateIdeal.nD,
          r.2.mem ((c.tc : Thread Cert.KernelGateIdeal.nD Cert.KernelGateIdeal.τ).loc Cert.KernelGateIdeal.main_v0) = v0 c
          ∧ r.2.mem ((c.tc : Thread Cert.KernelGateIdeal.nD Cert.KernelGateIdeal.τ).loc Cert.KernelGateIdeal.main_arg0) = m ((c.tc : Thread Cert.KernelGateIdeal.nD Cert.KernelGateIdeal.τ).loc Cert.KernelGateIdeal.main_arg0)
          ∧ r.2.mem ((c.tc : Thread Cert.KernelGateIdeal.nD Cert.KernelGateIdeal.τ).loc Cert.KernelGateIdeal.main_arg1) = m ((c.tc : Thread Cert.KernelGateIdeal.nD Cert.KernelGateIdeal.τ).loc Cert.KernelGateIdeal.main_arg1)
          ∧ r.2.mem ((c.tc : Thread Cert.KernelGateIdeal.nD Cert.KernelGateIdeal.τ).loc Cert.KernelGateIdeal.main_arg2) = m ((c.tc : Thread Cert.KernelGateIdeal.nD Cert.KernelGateIdeal.τ).loc Cert.KernelGateIdeal.main_arg2))
      ∧ θ_run (Cert.ReferenceGateIdeal.defs (F := Ideal)) (onTc (τ := Cert.ReferenceGateIdeal.τ) (Cert.ReferenceGateIdeal.main (F := Ideal))) ⟨m', fun _ => 0, g'⟩ (fun r => ∀ c : Dev Cert.ReferenceGateIdeal.nD,
          r.2.mem ((c.tc : Thread Cert.ReferenceGateIdeal.nD Cert.ReferenceGateIdeal.τ).loc Cert.ReferenceGateIdeal.main_v14) = v0 c
          ∧ r.2.mem ((c.tc : Thread Cert.ReferenceGateIdeal.nD Cert.ReferenceGateIdeal.τ).loc Cert.ReferenceGateIdeal.main_arg0) = m' ((c.tc : Thread Cert.ReferenceGateIdeal.nD Cert.ReferenceGateIdeal.τ).loc Cert.ReferenceGateIdeal.main_arg0)
          ∧ r.2.mem ((c.tc : Thread Cert.ReferenceGateIdeal.nD Cert.ReferenceGateIdeal.τ).loc Cert.ReferenceGateIdeal.main_arg1) = m' ((c.tc : Thread Cert.ReferenceGateIdeal.nD Cert.ReferenceGateIdeal.τ).loc Cert.ReferenceGateIdeal.main_arg1)
          ∧ r.2.mem ((c.tc : Thread Cert.ReferenceGateIdeal.nD Cert.ReferenceGateIdeal.τ).loc Cert.ReferenceGateIdeal.main_arg2) = m' ((c.tc : Thread Cert.ReferenceGateIdeal.nD Cert.ReferenceGateIdeal.τ).loc Cert.ReferenceGateIdeal.main_arg2))

def preserves_KernelCum_KernelCumIdeal : Prop :=
  True

def algebraic_KernelCumIdeal_ReferenceCumIdeal_pre_finite_cum [hKernelCumIdeal : Cert.KernelCumIdeal.Facts] [hReferenceCumIdeal : Cert.ReferenceCumIdeal.Facts] [hPre_finite_cum : Cert.Pre_finite_cum.Facts] : Prop :=
  ∀ (m : (ℓ : Loc Cert.KernelCumIdeal.nD Cert.KernelCumIdeal.τ Cert.KernelCumIdeal.sig) → Buf (Elt Ideal) ℓ) (g : Dev Cert.KernelCumIdeal.nD → PrngReg)
    (m' : (ℓ : Loc Cert.ReferenceCumIdeal.nD Cert.ReferenceCumIdeal.τ Cert.ReferenceCumIdeal.sig) → Buf (Elt Ideal) ℓ) (g' : Dev Cert.ReferenceCumIdeal.nD → PrngReg), Pre_KernelCumIdeal_finite_cum m →
    (∀ c : Dev Cert.KernelCumIdeal.nD,
      m' ((c.tc : Thread Cert.ReferenceCumIdeal.nD Cert.ReferenceCumIdeal.τ).loc Cert.ReferenceCumIdeal.main_arg0) = m ((c.tc : Thread Cert.KernelCumIdeal.nD Cert.KernelCumIdeal.τ).loc Cert.KernelCumIdeal.main_arg0)
      ∧ m' ((c.tc : Thread Cert.ReferenceCumIdeal.nD Cert.ReferenceCumIdeal.τ).loc Cert.ReferenceCumIdeal.main_arg1) = m ((c.tc : Thread Cert.KernelCumIdeal.nD Cert.KernelCumIdeal.τ).loc Cert.KernelCumIdeal.main_arg1)
      ∧ m' ((c.tc : Thread Cert.ReferenceCumIdeal.nD Cert.ReferenceCumIdeal.τ).loc Cert.ReferenceCumIdeal.main_arg2) = m ((c.tc : Thread Cert.KernelCumIdeal.nD Cert.KernelCumIdeal.τ).loc Cert.KernelCumIdeal.main_arg2)
      ∧ m' ((c.tc : Thread Cert.ReferenceCumIdeal.nD Cert.ReferenceCumIdeal.τ).loc Cert.ReferenceCumIdeal.main_arg3) = m ((c.tc : Thread Cert.KernelCumIdeal.nD Cert.KernelCumIdeal.τ).loc Cert.KernelCumIdeal.main_arg3)) →
    ∃ (v0 : (c : Dev Cert.KernelCumIdeal.nD) → Buf (Elt Ideal) ((c.tc : Thread Cert.KernelCumIdeal.nD Cert.KernelCumIdeal.τ).loc Cert.KernelCumIdeal.main_v4_0)) (v1 : (c : Dev Cert.KernelCumIdeal.nD) → Buf (Elt Ideal) ((c.tc : Thread Cert.KernelCumIdeal.nD Cert.KernelCumIdeal.τ).loc Cert.KernelCumIdeal.main_v4_2)),
      θ_run (Cert.KernelCumIdeal.defs (F := Ideal)) (onTc (τ := Cert.KernelCumIdeal.τ) (Cert.KernelCumIdeal.main (F := Ideal))) ⟨m, fun _ => 0, g⟩ (fun r => ∀ c : Dev Cert.KernelCumIdeal.nD,
          r.2.mem ((c.tc : Thread Cert.KernelCumIdeal.nD Cert.KernelCumIdeal.τ).loc Cert.KernelCumIdeal.main_v4_0) = v0 c
          ∧ r.2.mem ((c.tc : Thread Cert.KernelCumIdeal.nD Cert.KernelCumIdeal.τ).loc Cert.KernelCumIdeal.main_v4_2) = v1 c
          ∧ r.2.mem ((c.tc : Thread Cert.KernelCumIdeal.nD Cert.KernelCumIdeal.τ).loc Cert.KernelCumIdeal.main_arg0) = m ((c.tc : Thread Cert.KernelCumIdeal.nD Cert.KernelCumIdeal.τ).loc Cert.KernelCumIdeal.main_arg0)
          ∧ r.2.mem ((c.tc : Thread Cert.KernelCumIdeal.nD Cert.KernelCumIdeal.τ).loc Cert.KernelCumIdeal.main_arg1) = m ((c.tc : Thread Cert.KernelCumIdeal.nD Cert.KernelCumIdeal.τ).loc Cert.KernelCumIdeal.main_arg1)
          ∧ r.2.mem ((c.tc : Thread Cert.KernelCumIdeal.nD Cert.KernelCumIdeal.τ).loc Cert.KernelCumIdeal.main_arg2) = m ((c.tc : Thread Cert.KernelCumIdeal.nD Cert.KernelCumIdeal.τ).loc Cert.KernelCumIdeal.main_arg2)
          ∧ r.2.mem ((c.tc : Thread Cert.KernelCumIdeal.nD Cert.KernelCumIdeal.τ).loc Cert.KernelCumIdeal.main_arg3) = m ((c.tc : Thread Cert.KernelCumIdeal.nD Cert.KernelCumIdeal.τ).loc Cert.KernelCumIdeal.main_arg3))
      ∧ θ_run (Cert.ReferenceCumIdeal.defs (F := Ideal)) (onTc (τ := Cert.ReferenceCumIdeal.τ) (Cert.ReferenceCumIdeal.main (F := Ideal))) ⟨m', fun _ => 0, g'⟩ (fun r => ∀ c : Dev Cert.ReferenceCumIdeal.nD,
          r.2.mem ((c.tc : Thread Cert.ReferenceCumIdeal.nD Cert.ReferenceCumIdeal.τ).loc Cert.ReferenceCumIdeal.main_v14) = v0 c
          ∧ r.2.mem ((c.tc : Thread Cert.ReferenceCumIdeal.nD Cert.ReferenceCumIdeal.τ).loc Cert.ReferenceCumIdeal.main_v13) = v1 c
          ∧ r.2.mem ((c.tc : Thread Cert.ReferenceCumIdeal.nD Cert.ReferenceCumIdeal.τ).loc Cert.ReferenceCumIdeal.main_arg0) = m' ((c.tc : Thread Cert.ReferenceCumIdeal.nD Cert.ReferenceCumIdeal.τ).loc Cert.ReferenceCumIdeal.main_arg0)
          ∧ r.2.mem ((c.tc : Thread Cert.ReferenceCumIdeal.nD Cert.ReferenceCumIdeal.τ).loc Cert.ReferenceCumIdeal.main_arg1) = m' ((c.tc : Thread Cert.ReferenceCumIdeal.nD Cert.ReferenceCumIdeal.τ).loc Cert.ReferenceCumIdeal.main_arg1)
          ∧ r.2.mem ((c.tc : Thread Cert.ReferenceCumIdeal.nD Cert.ReferenceCumIdeal.τ).loc Cert.ReferenceCumIdeal.main_arg2) = m' ((c.tc : Thread Cert.ReferenceCumIdeal.nD Cert.ReferenceCumIdeal.τ).loc Cert.ReferenceCumIdeal.main_arg2)
          ∧ r.2.mem ((c.tc : Thread Cert.ReferenceCumIdeal.nD Cert.ReferenceCumIdeal.τ).loc Cert.ReferenceCumIdeal.main_arg3) = m' ((c.tc : Thread Cert.ReferenceCumIdeal.nD Cert.ReferenceCumIdeal.τ).loc Cert.ReferenceCumIdeal.main_arg3))

def preserves_KernelAda_KernelAdaIdeal : Prop :=
  True

def algebraic_KernelAdaIdeal_ReferenceAdaIdeal_pre_finite_ada [hKernelAdaIdeal : Cert.KernelAdaIdeal.Facts] [hReferenceAdaIdeal : Cert.ReferenceAdaIdeal.Facts] [hPre_finite_ada : Cert.Pre_finite_ada.Facts] : Prop :=
  ∀ (m : (ℓ : Loc Cert.KernelAdaIdeal.nD Cert.KernelAdaIdeal.τ Cert.KernelAdaIdeal.sig) → Buf (Elt Ideal) ℓ) (g : Dev Cert.KernelAdaIdeal.nD → PrngReg)
    (m' : (ℓ : Loc Cert.ReferenceAdaIdeal.nD Cert.ReferenceAdaIdeal.τ Cert.ReferenceAdaIdeal.sig) → Buf (Elt Ideal) ℓ) (g' : Dev Cert.ReferenceAdaIdeal.nD → PrngReg), Pre_KernelAdaIdeal_finite_ada m →
    (∀ c : Dev Cert.KernelAdaIdeal.nD,
      m' ((c.tc : Thread Cert.ReferenceAdaIdeal.nD Cert.ReferenceAdaIdeal.τ).loc Cert.ReferenceAdaIdeal.main_arg0) = m ((c.tc : Thread Cert.KernelAdaIdeal.nD Cert.KernelAdaIdeal.τ).loc Cert.KernelAdaIdeal.main_arg0)
      ∧ m' ((c.tc : Thread Cert.ReferenceAdaIdeal.nD Cert.ReferenceAdaIdeal.τ).loc Cert.ReferenceAdaIdeal.main_arg1) = m ((c.tc : Thread Cert.KernelAdaIdeal.nD Cert.KernelAdaIdeal.τ).loc Cert.KernelAdaIdeal.main_arg1)
      ∧ m' ((c.tc : Thread Cert.ReferenceAdaIdeal.nD Cert.ReferenceAdaIdeal.τ).loc Cert.ReferenceAdaIdeal.main_arg2) = m ((c.tc : Thread Cert.KernelAdaIdeal.nD Cert.KernelAdaIdeal.τ).loc Cert.KernelAdaIdeal.main_arg2)) →
    ∃ (v0 : (c : Dev Cert.KernelAdaIdeal.nD) → Buf (Elt Ideal) ((c.tc : Thread Cert.KernelAdaIdeal.nD Cert.KernelAdaIdeal.τ).loc Cert.KernelAdaIdeal.main_v0_0)) (v1 : (c : Dev Cert.KernelAdaIdeal.nD) → Buf (Elt Ideal) ((c.tc : Thread Cert.KernelAdaIdeal.nD Cert.KernelAdaIdeal.τ).loc Cert.KernelAdaIdeal.main_v0_1)),
      θ_run (Cert.KernelAdaIdeal.defs (F := Ideal)) (onTc (τ := Cert.KernelAdaIdeal.τ) (Cert.KernelAdaIdeal.main (F := Ideal))) ⟨m, fun _ => 0, g⟩ (fun r => ∀ c : Dev Cert.KernelAdaIdeal.nD,
          r.2.mem ((c.tc : Thread Cert.KernelAdaIdeal.nD Cert.KernelAdaIdeal.τ).loc Cert.KernelAdaIdeal.main_v0_0) = v0 c
          ∧ r.2.mem ((c.tc : Thread Cert.KernelAdaIdeal.nD Cert.KernelAdaIdeal.τ).loc Cert.KernelAdaIdeal.main_v0_1) = v1 c
          ∧ r.2.mem ((c.tc : Thread Cert.KernelAdaIdeal.nD Cert.KernelAdaIdeal.τ).loc Cert.KernelAdaIdeal.main_arg0) = m ((c.tc : Thread Cert.KernelAdaIdeal.nD Cert.KernelAdaIdeal.τ).loc Cert.KernelAdaIdeal.main_arg0)
          ∧ r.2.mem ((c.tc : Thread Cert.KernelAdaIdeal.nD Cert.KernelAdaIdeal.τ).loc Cert.KernelAdaIdeal.main_arg1) = m ((c.tc : Thread Cert.KernelAdaIdeal.nD Cert.KernelAdaIdeal.τ).loc Cert.KernelAdaIdeal.main_arg1)
          ∧ r.2.mem ((c.tc : Thread Cert.KernelAdaIdeal.nD Cert.KernelAdaIdeal.τ).loc Cert.KernelAdaIdeal.main_arg2) = m ((c.tc : Thread Cert.KernelAdaIdeal.nD Cert.KernelAdaIdeal.τ).loc Cert.KernelAdaIdeal.main_arg2))
      ∧ θ_run (Cert.ReferenceAdaIdeal.defs (F := Ideal)) (onTc (τ := Cert.ReferenceAdaIdeal.τ) (Cert.ReferenceAdaIdeal.main (F := Ideal))) ⟨m', fun _ => 0, g'⟩ (fun r => ∀ c : Dev Cert.ReferenceAdaIdeal.nD,
          r.2.mem ((c.tc : Thread Cert.ReferenceAdaIdeal.nD Cert.ReferenceAdaIdeal.τ).loc Cert.ReferenceAdaIdeal.main_v10) = v0 c
          ∧ r.2.mem ((c.tc : Thread Cert.ReferenceAdaIdeal.nD Cert.ReferenceAdaIdeal.τ).loc Cert.ReferenceAdaIdeal.main_v8) = v1 c
          ∧ r.2.mem ((c.tc : Thread Cert.ReferenceAdaIdeal.nD Cert.ReferenceAdaIdeal.τ).loc Cert.ReferenceAdaIdeal.main_arg0) = m' ((c.tc : Thread Cert.ReferenceAdaIdeal.nD Cert.ReferenceAdaIdeal.τ).loc Cert.ReferenceAdaIdeal.main_arg0)
          ∧ r.2.mem ((c.tc : Thread Cert.ReferenceAdaIdeal.nD Cert.ReferenceAdaIdeal.τ).loc Cert.ReferenceAdaIdeal.main_arg1) = m' ((c.tc : Thread Cert.ReferenceAdaIdeal.nD Cert.ReferenceAdaIdeal.τ).loc Cert.ReferenceAdaIdeal.main_arg1)
          ∧ r.2.mem ((c.tc : Thread Cert.ReferenceAdaIdeal.nD Cert.ReferenceAdaIdeal.τ).loc Cert.ReferenceAdaIdeal.main_arg2) = m' ((c.tc : Thread Cert.ReferenceAdaIdeal.nD Cert.ReferenceAdaIdeal.τ).loc Cert.ReferenceAdaIdeal.main_arg2))

def preserves_KernelMod_KernelModIdeal : Prop :=
  True

def algebraic_KernelModIdeal_ReferenceModIdeal_pre_finite_mod [hKernelModIdeal : Cert.KernelModIdeal.Facts] [hReferenceModIdeal : Cert.ReferenceModIdeal.Facts] [hPre_finite_mod : Cert.Pre_finite_mod.Facts] : Prop :=
  ∀ (m : (ℓ : Loc Cert.KernelModIdeal.nD Cert.KernelModIdeal.τ Cert.KernelModIdeal.sig) → Buf (Elt Ideal) ℓ) (g : Dev Cert.KernelModIdeal.nD → PrngReg)
    (m' : (ℓ : Loc Cert.ReferenceModIdeal.nD Cert.ReferenceModIdeal.τ Cert.ReferenceModIdeal.sig) → Buf (Elt Ideal) ℓ) (g' : Dev Cert.ReferenceModIdeal.nD → PrngReg), Pre_KernelModIdeal_finite_mod m →
    (∀ c : Dev Cert.KernelModIdeal.nD,
      m' ((c.tc : Thread Cert.ReferenceModIdeal.nD Cert.ReferenceModIdeal.τ).loc Cert.ReferenceModIdeal.main_arg0) = m ((c.tc : Thread Cert.KernelModIdeal.nD Cert.KernelModIdeal.τ).loc Cert.KernelModIdeal.main_arg0)
      ∧ m' ((c.tc : Thread Cert.ReferenceModIdeal.nD Cert.ReferenceModIdeal.τ).loc Cert.ReferenceModIdeal.main_arg1) = m ((c.tc : Thread Cert.KernelModIdeal.nD Cert.KernelModIdeal.τ).loc Cert.KernelModIdeal.main_arg1)
      ∧ m' ((c.tc : Thread Cert.ReferenceModIdeal.nD Cert.ReferenceModIdeal.τ).loc Cert.ReferenceModIdeal.main_arg2) = m ((c.tc : Thread Cert.KernelModIdeal.nD Cert.KernelModIdeal.τ).loc Cert.KernelModIdeal.main_arg2)) →
    ∃ (v0 : (c : Dev Cert.KernelModIdeal.nD) → Buf (Elt Ideal) ((c.tc : Thread Cert.KernelModIdeal.nD Cert.KernelModIdeal.τ).loc Cert.KernelModIdeal.main_v0)),
      θ_run (Cert.KernelModIdeal.defs (F := Ideal)) (onTc (τ := Cert.KernelModIdeal.τ) (Cert.KernelModIdeal.main (F := Ideal))) ⟨m, fun _ => 0, g⟩ (fun r => ∀ c : Dev Cert.KernelModIdeal.nD,
          r.2.mem ((c.tc : Thread Cert.KernelModIdeal.nD Cert.KernelModIdeal.τ).loc Cert.KernelModIdeal.main_v0) = v0 c
          ∧ r.2.mem ((c.tc : Thread Cert.KernelModIdeal.nD Cert.KernelModIdeal.τ).loc Cert.KernelModIdeal.main_arg0) = m ((c.tc : Thread Cert.KernelModIdeal.nD Cert.KernelModIdeal.τ).loc Cert.KernelModIdeal.main_arg0)
          ∧ r.2.mem ((c.tc : Thread Cert.KernelModIdeal.nD Cert.KernelModIdeal.τ).loc Cert.KernelModIdeal.main_arg1) = m ((c.tc : Thread Cert.KernelModIdeal.nD Cert.KernelModIdeal.τ).loc Cert.KernelModIdeal.main_arg1)
          ∧ r.2.mem ((c.tc : Thread Cert.KernelModIdeal.nD Cert.KernelModIdeal.τ).loc Cert.KernelModIdeal.main_arg2) = m ((c.tc : Thread Cert.KernelModIdeal.nD Cert.KernelModIdeal.τ).loc Cert.KernelModIdeal.main_arg2))
      ∧ θ_run (Cert.ReferenceModIdeal.defs (F := Ideal)) (onTc (τ := Cert.ReferenceModIdeal.τ) (Cert.ReferenceModIdeal.main (F := Ideal))) ⟨m', fun _ => 0, g'⟩ (fun r => ∀ c : Dev Cert.ReferenceModIdeal.nD,
          r.2.mem ((c.tc : Thread Cert.ReferenceModIdeal.nD Cert.ReferenceModIdeal.τ).loc Cert.ReferenceModIdeal.main_v3) = v0 c
          ∧ r.2.mem ((c.tc : Thread Cert.ReferenceModIdeal.nD Cert.ReferenceModIdeal.τ).loc Cert.ReferenceModIdeal.main_arg0) = m' ((c.tc : Thread Cert.ReferenceModIdeal.nD Cert.ReferenceModIdeal.τ).loc Cert.ReferenceModIdeal.main_arg0)
          ∧ r.2.mem ((c.tc : Thread Cert.ReferenceModIdeal.nD Cert.ReferenceModIdeal.τ).loc Cert.ReferenceModIdeal.main_arg1) = m' ((c.tc : Thread Cert.ReferenceModIdeal.nD Cert.ReferenceModIdeal.τ).loc Cert.ReferenceModIdeal.main_arg1)
          ∧ r.2.mem ((c.tc : Thread Cert.ReferenceModIdeal.nD Cert.ReferenceModIdeal.τ).loc Cert.ReferenceModIdeal.main_arg2) = m' ((c.tc : Thread Cert.ReferenceModIdeal.nD Cert.ReferenceModIdeal.τ).loc Cert.ReferenceModIdeal.main_arg2))

def preserves_KernelRms_KernelRmsIdeal : Prop :=
  True

def algebraic_KernelRmsIdeal_ReferenceRmsIdeal [hKernelRmsIdeal : Cert.KernelRmsIdeal.Facts] [hReferenceRmsIdeal : Cert.ReferenceRmsIdeal.Facts] : Prop :=
  ∀ (m : (ℓ : Loc Cert.KernelRmsIdeal.nD Cert.KernelRmsIdeal.τ Cert.KernelRmsIdeal.sig) → Buf (Elt Ideal) ℓ) (g : Dev Cert.KernelRmsIdeal.nD → PrngReg)
    (m' : (ℓ : Loc Cert.ReferenceRmsIdeal.nD Cert.ReferenceRmsIdeal.τ Cert.ReferenceRmsIdeal.sig) → Buf (Elt Ideal) ℓ) (g' : Dev Cert.ReferenceRmsIdeal.nD → PrngReg), Pre_KernelRmsIdeal m →
    (∀ c : Dev Cert.KernelRmsIdeal.nD,
      m' ((c.tc : Thread Cert.ReferenceRmsIdeal.nD Cert.ReferenceRmsIdeal.τ).loc Cert.ReferenceRmsIdeal.main_arg0) = m ((c.tc : Thread Cert.KernelRmsIdeal.nD Cert.KernelRmsIdeal.τ).loc Cert.KernelRmsIdeal.main_arg0)
      ∧ m' ((c.tc : Thread Cert.ReferenceRmsIdeal.nD Cert.ReferenceRmsIdeal.τ).loc Cert.ReferenceRmsIdeal.main_arg1) = m ((c.tc : Thread Cert.KernelRmsIdeal.nD Cert.KernelRmsIdeal.τ).loc Cert.KernelRmsIdeal.main_arg1)
      ∧ m' ((c.tc : Thread Cert.ReferenceRmsIdeal.nD Cert.ReferenceRmsIdeal.τ).loc Cert.ReferenceRmsIdeal.main_arg2) = m ((c.tc : Thread Cert.KernelRmsIdeal.nD Cert.KernelRmsIdeal.τ).loc Cert.KernelRmsIdeal.main_arg2)
      ∧ m' ((c.tc : Thread Cert.ReferenceRmsIdeal.nD Cert.ReferenceRmsIdeal.τ).loc Cert.ReferenceRmsIdeal.main_arg3) = m ((c.tc : Thread Cert.KernelRmsIdeal.nD Cert.KernelRmsIdeal.τ).loc Cert.KernelRmsIdeal.main_arg3)
      ∧ m' ((c.tc : Thread Cert.ReferenceRmsIdeal.nD Cert.ReferenceRmsIdeal.τ).loc Cert.ReferenceRmsIdeal.main_arg4) = m ((c.tc : Thread Cert.KernelRmsIdeal.nD Cert.KernelRmsIdeal.τ).loc Cert.KernelRmsIdeal.main_arg4)) →
    ∃ (v0 : (c : Dev Cert.KernelRmsIdeal.nD) → Buf (Elt Ideal) ((c.tc : Thread Cert.KernelRmsIdeal.nD Cert.KernelRmsIdeal.τ).loc Cert.KernelRmsIdeal.main_v1)),
      θ_run (Cert.KernelRmsIdeal.defs (F := Ideal)) (onTc (τ := Cert.KernelRmsIdeal.τ) (Cert.KernelRmsIdeal.main (F := Ideal))) ⟨m, fun _ => 0, g⟩ (fun r => ∀ c : Dev Cert.KernelRmsIdeal.nD,
          r.2.mem ((c.tc : Thread Cert.KernelRmsIdeal.nD Cert.KernelRmsIdeal.τ).loc Cert.KernelRmsIdeal.main_v1) = v0 c
          ∧ r.2.mem ((c.tc : Thread Cert.KernelRmsIdeal.nD Cert.KernelRmsIdeal.τ).loc Cert.KernelRmsIdeal.main_arg0) = m ((c.tc : Thread Cert.KernelRmsIdeal.nD Cert.KernelRmsIdeal.τ).loc Cert.KernelRmsIdeal.main_arg0)
          ∧ r.2.mem ((c.tc : Thread Cert.KernelRmsIdeal.nD Cert.KernelRmsIdeal.τ).loc Cert.KernelRmsIdeal.main_arg1) = m ((c.tc : Thread Cert.KernelRmsIdeal.nD Cert.KernelRmsIdeal.τ).loc Cert.KernelRmsIdeal.main_arg1)
          ∧ r.2.mem ((c.tc : Thread Cert.KernelRmsIdeal.nD Cert.KernelRmsIdeal.τ).loc Cert.KernelRmsIdeal.main_arg2) = m ((c.tc : Thread Cert.KernelRmsIdeal.nD Cert.KernelRmsIdeal.τ).loc Cert.KernelRmsIdeal.main_arg2)
          ∧ r.2.mem ((c.tc : Thread Cert.KernelRmsIdeal.nD Cert.KernelRmsIdeal.τ).loc Cert.KernelRmsIdeal.main_arg3) = m ((c.tc : Thread Cert.KernelRmsIdeal.nD Cert.KernelRmsIdeal.τ).loc Cert.KernelRmsIdeal.main_arg3)
          ∧ r.2.mem ((c.tc : Thread Cert.KernelRmsIdeal.nD Cert.KernelRmsIdeal.τ).loc Cert.KernelRmsIdeal.main_arg4) = m ((c.tc : Thread Cert.KernelRmsIdeal.nD Cert.KernelRmsIdeal.τ).loc Cert.KernelRmsIdeal.main_arg4))
      ∧ θ_run (Cert.ReferenceRmsIdeal.defs (F := Ideal)) (onTc (τ := Cert.ReferenceRmsIdeal.τ) (Cert.ReferenceRmsIdeal.main (F := Ideal))) ⟨m', fun _ => 0, g'⟩ (fun r => ∀ c : Dev Cert.ReferenceRmsIdeal.nD,
          r.2.mem ((c.tc : Thread Cert.ReferenceRmsIdeal.nD Cert.ReferenceRmsIdeal.τ).loc Cert.ReferenceRmsIdeal.main_v27) = v0 c
          ∧ r.2.mem ((c.tc : Thread Cert.ReferenceRmsIdeal.nD Cert.ReferenceRmsIdeal.τ).loc Cert.ReferenceRmsIdeal.main_arg0) = m' ((c.tc : Thread Cert.ReferenceRmsIdeal.nD Cert.ReferenceRmsIdeal.τ).loc Cert.ReferenceRmsIdeal.main_arg0)
          ∧ r.2.mem ((c.tc : Thread Cert.ReferenceRmsIdeal.nD Cert.ReferenceRmsIdeal.τ).loc Cert.ReferenceRmsIdeal.main_arg1) = m' ((c.tc : Thread Cert.ReferenceRmsIdeal.nD Cert.ReferenceRmsIdeal.τ).loc Cert.ReferenceRmsIdeal.main_arg1)
          ∧ r.2.mem ((c.tc : Thread Cert.ReferenceRmsIdeal.nD Cert.ReferenceRmsIdeal.τ).loc Cert.ReferenceRmsIdeal.main_arg2) = m' ((c.tc : Thread Cert.ReferenceRmsIdeal.nD Cert.ReferenceRmsIdeal.τ).loc Cert.ReferenceRmsIdeal.main_arg2)
          ∧ r.2.mem ((c.tc : Thread Cert.ReferenceRmsIdeal.nD Cert.ReferenceRmsIdeal.τ).loc Cert.ReferenceRmsIdeal.main_arg3) = m' ((c.tc : Thread Cert.ReferenceRmsIdeal.nD Cert.ReferenceRmsIdeal.τ).loc Cert.ReferenceRmsIdeal.main_arg3)
          ∧ r.2.mem ((c.tc : Thread Cert.ReferenceRmsIdeal.nD Cert.ReferenceRmsIdeal.τ).loc Cert.ReferenceRmsIdeal.main_arg4) = m' ((c.tc : Thread Cert.ReferenceRmsIdeal.nD Cert.ReferenceRmsIdeal.τ).loc Cert.ReferenceRmsIdeal.main_arg4))

def preserves_KernelNorm_KernelNormIdeal : Prop :=
  True

def algebraic_KernelNormIdeal_ReferenceNormIdeal [hKernelNormIdeal : Cert.KernelNormIdeal.Facts] [hReferenceNormIdeal : Cert.ReferenceNormIdeal.Facts] : Prop :=
  ∀ (m : (ℓ : Loc Cert.KernelNormIdeal.nD Cert.KernelNormIdeal.τ Cert.KernelNormIdeal.sig) → Buf (Elt Ideal) ℓ) (g : Dev Cert.KernelNormIdeal.nD → PrngReg)
    (m' : (ℓ : Loc Cert.ReferenceNormIdeal.nD Cert.ReferenceNormIdeal.τ Cert.ReferenceNormIdeal.sig) → Buf (Elt Ideal) ℓ) (g' : Dev Cert.ReferenceNormIdeal.nD → PrngReg), Pre_KernelNormIdeal m →
    (∀ c : Dev Cert.KernelNormIdeal.nD,
      m' ((c.tc : Thread Cert.ReferenceNormIdeal.nD Cert.ReferenceNormIdeal.τ).loc Cert.ReferenceNormIdeal.main_arg0) = m ((c.tc : Thread Cert.KernelNormIdeal.nD Cert.KernelNormIdeal.τ).loc Cert.KernelNormIdeal.main_arg0)
      ∧ m' ((c.tc : Thread Cert.ReferenceNormIdeal.nD Cert.ReferenceNormIdeal.τ).loc Cert.ReferenceNormIdeal.main_arg1) = m ((c.tc : Thread Cert.KernelNormIdeal.nD Cert.KernelNormIdeal.τ).loc Cert.KernelNormIdeal.main_arg1)
      ∧ m' ((c.tc : Thread Cert.ReferenceNormIdeal.nD Cert.ReferenceNormIdeal.τ).loc Cert.ReferenceNormIdeal.main_arg2) = m ((c.tc : Thread Cert.KernelNormIdeal.nD Cert.KernelNormIdeal.τ).loc Cert.KernelNormIdeal.main_arg2)
      ∧ m' ((c.tc : Thread Cert.ReferenceNormIdeal.nD Cert.ReferenceNormIdeal.τ).loc Cert.ReferenceNormIdeal.main_arg3) = m ((c.tc : Thread Cert.KernelNormIdeal.nD Cert.KernelNormIdeal.τ).loc Cert.KernelNormIdeal.main_arg3)
      ∧ m' ((c.tc : Thread Cert.ReferenceNormIdeal.nD Cert.ReferenceNormIdeal.τ).loc Cert.ReferenceNormIdeal.main_arg4) = m ((c.tc : Thread Cert.KernelNormIdeal.nD Cert.KernelNormIdeal.τ).loc Cert.KernelNormIdeal.main_arg4)
      ∧ m' ((c.tc : Thread Cert.ReferenceNormIdeal.nD Cert.ReferenceNormIdeal.τ).loc Cert.ReferenceNormIdeal.main_arg5) = m ((c.tc : Thread Cert.KernelNormIdeal.nD Cert.KernelNormIdeal.τ).loc Cert.KernelNormIdeal.main_arg5)
      ∧ m' ((c.tc : Thread Cert.ReferenceNormIdeal.nD Cert.ReferenceNormIdeal.τ).loc Cert.ReferenceNormIdeal.main_arg6) = m ((c.tc : Thread Cert.KernelNormIdeal.nD Cert.KernelNormIdeal.τ).loc Cert.KernelNormIdeal.main_arg6)) →
    ∃ (v0 : (c : Dev Cert.KernelNormIdeal.nD) → Buf (Elt Ideal) ((c.tc : Thread Cert.KernelNormIdeal.nD Cert.KernelNormIdeal.τ).loc Cert.KernelNormIdeal.main_v0_0)) (v1 : (c : Dev Cert.KernelNormIdeal.nD) → Buf (Elt Ideal) ((c.tc : Thread Cert.KernelNormIdeal.nD Cert.KernelNormIdeal.τ).loc Cert.KernelNormIdeal.main_v0_1)),
      θ_run (Cert.KernelNormIdeal.defs (F := Ideal)) (onTc (τ := Cert.KernelNormIdeal.τ) (Cert.KernelNormIdeal.main (F := Ideal))) ⟨m, fun _ => 0, g⟩ (fun r => ∀ c : Dev Cert.KernelNormIdeal.nD,
          r.2.mem ((c.tc : Thread Cert.KernelNormIdeal.nD Cert.KernelNormIdeal.τ).loc Cert.KernelNormIdeal.main_v0_0) = v0 c
          ∧ r.2.mem ((c.tc : Thread Cert.KernelNormIdeal.nD Cert.KernelNormIdeal.τ).loc Cert.KernelNormIdeal.main_v0_1) = v1 c
          ∧ r.2.mem ((c.tc : Thread Cert.KernelNormIdeal.nD Cert.KernelNormIdeal.τ).loc Cert.KernelNormIdeal.main_arg0) = m ((c.tc : Thread Cert.KernelNormIdeal.nD Cert.KernelNormIdeal.τ).loc Cert.KernelNormIdeal.main_arg0)
          ∧ r.2.mem ((c.tc : Thread Cert.KernelNormIdeal.nD Cert.KernelNormIdeal.τ).loc Cert.KernelNormIdeal.main_arg1) = m ((c.tc : Thread Cert.KernelNormIdeal.nD Cert.KernelNormIdeal.τ).loc Cert.KernelNormIdeal.main_arg1)
          ∧ r.2.mem ((c.tc : Thread Cert.KernelNormIdeal.nD Cert.KernelNormIdeal.τ).loc Cert.KernelNormIdeal.main_arg2) = m ((c.tc : Thread Cert.KernelNormIdeal.nD Cert.KernelNormIdeal.τ).loc Cert.KernelNormIdeal.main_arg2)
          ∧ r.2.mem ((c.tc : Thread Cert.KernelNormIdeal.nD Cert.KernelNormIdeal.τ).loc Cert.KernelNormIdeal.main_arg3) = m ((c.tc : Thread Cert.KernelNormIdeal.nD Cert.KernelNormIdeal.τ).loc Cert.KernelNormIdeal.main_arg3)
          ∧ r.2.mem ((c.tc : Thread Cert.KernelNormIdeal.nD Cert.KernelNormIdeal.τ).loc Cert.KernelNormIdeal.main_arg4) = m ((c.tc : Thread Cert.KernelNormIdeal.nD Cert.KernelNormIdeal.τ).loc Cert.KernelNormIdeal.main_arg4)
          ∧ r.2.mem ((c.tc : Thread Cert.KernelNormIdeal.nD Cert.KernelNormIdeal.τ).loc Cert.KernelNormIdeal.main_arg5) = m ((c.tc : Thread Cert.KernelNormIdeal.nD Cert.KernelNormIdeal.τ).loc Cert.KernelNormIdeal.main_arg5)
          ∧ r.2.mem ((c.tc : Thread Cert.KernelNormIdeal.nD Cert.KernelNormIdeal.τ).loc Cert.KernelNormIdeal.main_arg6) = m ((c.tc : Thread Cert.KernelNormIdeal.nD Cert.KernelNormIdeal.τ).loc Cert.KernelNormIdeal.main_arg6))
      ∧ θ_run (Cert.ReferenceNormIdeal.defs (F := Ideal)) (onTc (τ := Cert.ReferenceNormIdeal.τ) (Cert.ReferenceNormIdeal.main (F := Ideal))) ⟨m', fun _ => 0, g'⟩ (fun r => ∀ c : Dev Cert.ReferenceNormIdeal.nD,
          r.2.mem ((c.tc : Thread Cert.ReferenceNormIdeal.nD Cert.ReferenceNormIdeal.τ).loc Cert.ReferenceNormIdeal.main_v28) = v0 c
          ∧ r.2.mem ((c.tc : Thread Cert.ReferenceNormIdeal.nD Cert.ReferenceNormIdeal.τ).loc Cert.ReferenceNormIdeal.main_v35) = v1 c
          ∧ r.2.mem ((c.tc : Thread Cert.ReferenceNormIdeal.nD Cert.ReferenceNormIdeal.τ).loc Cert.ReferenceNormIdeal.main_arg0) = m' ((c.tc : Thread Cert.ReferenceNormIdeal.nD Cert.ReferenceNormIdeal.τ).loc Cert.ReferenceNormIdeal.main_arg0)
          ∧ r.2.mem ((c.tc : Thread Cert.ReferenceNormIdeal.nD Cert.ReferenceNormIdeal.τ).loc Cert.ReferenceNormIdeal.main_arg1) = m' ((c.tc : Thread Cert.ReferenceNormIdeal.nD Cert.ReferenceNormIdeal.τ).loc Cert.ReferenceNormIdeal.main_arg1)
          ∧ r.2.mem ((c.tc : Thread Cert.ReferenceNormIdeal.nD Cert.ReferenceNormIdeal.τ).loc Cert.ReferenceNormIdeal.main_arg2) = m' ((c.tc : Thread Cert.ReferenceNormIdeal.nD Cert.ReferenceNormIdeal.τ).loc Cert.ReferenceNormIdeal.main_arg2)
          ∧ r.2.mem ((c.tc : Thread Cert.ReferenceNormIdeal.nD Cert.ReferenceNormIdeal.τ).loc Cert.ReferenceNormIdeal.main_arg3) = m' ((c.tc : Thread Cert.ReferenceNormIdeal.nD Cert.ReferenceNormIdeal.τ).loc Cert.ReferenceNormIdeal.main_arg3)
          ∧ r.2.mem ((c.tc : Thread Cert.ReferenceNormIdeal.nD Cert.ReferenceNormIdeal.τ).loc Cert.ReferenceNormIdeal.main_arg4) = m' ((c.tc : Thread Cert.ReferenceNormIdeal.nD Cert.ReferenceNormIdeal.τ).loc Cert.ReferenceNormIdeal.main_arg4)
          ∧ r.2.mem ((c.tc : Thread Cert.ReferenceNormIdeal.nD Cert.ReferenceNormIdeal.τ).loc Cert.ReferenceNormIdeal.main_arg5) = m' ((c.tc : Thread Cert.ReferenceNormIdeal.nD Cert.ReferenceNormIdeal.τ).loc Cert.ReferenceNormIdeal.main_arg5)
          ∧ r.2.mem ((c.tc : Thread Cert.ReferenceNormIdeal.nD Cert.ReferenceNormIdeal.τ).loc Cert.ReferenceNormIdeal.main_arg6) = m' ((c.tc : Thread Cert.ReferenceNormIdeal.nD Cert.ReferenceNormIdeal.τ).loc Cert.ReferenceNormIdeal.main_arg6))

def preserves_KernelAct_KernelActIdeal : Prop :=
  True

def algebraic_KernelActIdeal_ReferenceActIdeal [hKernelActIdeal : Cert.KernelActIdeal.Facts] [hReferenceActIdeal : Cert.ReferenceActIdeal.Facts] : Prop :=
  ∀ (m : (ℓ : Loc Cert.KernelActIdeal.nD Cert.KernelActIdeal.τ Cert.KernelActIdeal.sig) → Buf (Elt Ideal) ℓ) (g : Dev Cert.KernelActIdeal.nD → PrngReg)
    (m' : (ℓ : Loc Cert.ReferenceActIdeal.nD Cert.ReferenceActIdeal.τ Cert.ReferenceActIdeal.sig) → Buf (Elt Ideal) ℓ) (g' : Dev Cert.ReferenceActIdeal.nD → PrngReg), Pre_KernelActIdeal m →
    (∀ c : Dev Cert.KernelActIdeal.nD,
      m' ((c.tc : Thread Cert.ReferenceActIdeal.nD Cert.ReferenceActIdeal.τ).loc Cert.ReferenceActIdeal.main_arg0) = m ((c.tc : Thread Cert.KernelActIdeal.nD Cert.KernelActIdeal.τ).loc Cert.KernelActIdeal.main_arg0)
      ∧ m' ((c.tc : Thread Cert.ReferenceActIdeal.nD Cert.ReferenceActIdeal.τ).loc Cert.ReferenceActIdeal.main_arg1) = m ((c.tc : Thread Cert.KernelActIdeal.nD Cert.KernelActIdeal.τ).loc Cert.KernelActIdeal.main_arg1)
      ∧ m' ((c.tc : Thread Cert.ReferenceActIdeal.nD Cert.ReferenceActIdeal.τ).loc Cert.ReferenceActIdeal.main_arg2) = m ((c.tc : Thread Cert.KernelActIdeal.nD Cert.KernelActIdeal.τ).loc Cert.KernelActIdeal.main_arg2)) →
    ∃ (v0 : (c : Dev Cert.KernelActIdeal.nD) → Buf (Elt Ideal) ((c.tc : Thread Cert.KernelActIdeal.nD Cert.KernelActIdeal.τ).loc Cert.KernelActIdeal.main_v4_0)) (v1 : (c : Dev Cert.KernelActIdeal.nD) → Buf (Elt Ideal) ((c.tc : Thread Cert.KernelActIdeal.nD Cert.KernelActIdeal.τ).loc Cert.KernelActIdeal.main_v4_1)),
      θ_run (Cert.KernelActIdeal.defs (F := Ideal)) (onTc (τ := Cert.KernelActIdeal.τ) (Cert.KernelActIdeal.main (F := Ideal))) ⟨m, fun _ => 0, g⟩ (fun r => ∀ c : Dev Cert.KernelActIdeal.nD,
          r.2.mem ((c.tc : Thread Cert.KernelActIdeal.nD Cert.KernelActIdeal.τ).loc Cert.KernelActIdeal.main_v4_0) = v0 c
          ∧ r.2.mem ((c.tc : Thread Cert.KernelActIdeal.nD Cert.KernelActIdeal.τ).loc Cert.KernelActIdeal.main_v4_1) = v1 c
          ∧ r.2.mem ((c.tc : Thread Cert.KernelActIdeal.nD Cert.KernelActIdeal.τ).loc Cert.KernelActIdeal.main_arg0) = m ((c.tc : Thread Cert.KernelActIdeal.nD Cert.KernelActIdeal.τ).loc Cert.KernelActIdeal.main_arg0)
          ∧ r.2.mem ((c.tc : Thread Cert.KernelActIdeal.nD Cert.KernelActIdeal.τ).loc Cert.KernelActIdeal.main_arg1) = m ((c.tc : Thread Cert.KernelActIdeal.nD Cert.KernelActIdeal.τ).loc Cert.KernelActIdeal.main_arg1)
          ∧ r.2.mem ((c.tc : Thread Cert.KernelActIdeal.nD Cert.KernelActIdeal.τ).loc Cert.KernelActIdeal.main_arg2) = m ((c.tc : Thread Cert.KernelActIdeal.nD Cert.KernelActIdeal.τ).loc Cert.KernelActIdeal.main_arg2))
      ∧ θ_run (Cert.ReferenceActIdeal.defs (F := Ideal)) (onTc (τ := Cert.ReferenceActIdeal.τ) (Cert.ReferenceActIdeal.main (F := Ideal))) ⟨m', fun _ => 0, g'⟩ (fun r => ∀ c : Dev Cert.ReferenceActIdeal.nD,
          r.2.mem ((c.tc : Thread Cert.ReferenceActIdeal.nD Cert.ReferenceActIdeal.τ).loc Cert.ReferenceActIdeal.main_v28) = v0 c
          ∧ r.2.mem ((c.tc : Thread Cert.ReferenceActIdeal.nD Cert.ReferenceActIdeal.τ).loc Cert.ReferenceActIdeal.main_v29) = v1 c
          ∧ r.2.mem ((c.tc : Thread Cert.ReferenceActIdeal.nD Cert.ReferenceActIdeal.τ).loc Cert.ReferenceActIdeal.main_arg0) = m' ((c.tc : Thread Cert.ReferenceActIdeal.nD Cert.ReferenceActIdeal.τ).loc Cert.ReferenceActIdeal.main_arg0)
          ∧ r.2.mem ((c.tc : Thread Cert.ReferenceActIdeal.nD Cert.ReferenceActIdeal.τ).loc Cert.ReferenceActIdeal.main_arg1) = m' ((c.tc : Thread Cert.ReferenceActIdeal.nD Cert.ReferenceActIdeal.τ).loc Cert.ReferenceActIdeal.main_arg1)
          ∧ r.2.mem ((c.tc : Thread Cert.ReferenceActIdeal.nD Cert.ReferenceActIdeal.τ).loc Cert.ReferenceActIdeal.main_arg2) = m' ((c.tc : Thread Cert.ReferenceActIdeal.nD Cert.ReferenceActIdeal.τ).loc Cert.ReferenceActIdeal.main_arg2))

def preserves_KernelSums_KernelSumsIdeal : Prop :=
  True

def algebraic_KernelSumsIdeal_ReferenceSumsIdeal_pre_finite_sums [hKernelSumsIdeal : Cert.KernelSumsIdeal.Facts] [hReferenceSumsIdeal : Cert.ReferenceSumsIdeal.Facts] [hPre_finite_sums : Cert.Pre_finite_sums.Facts] : Prop :=
  ∀ (m : (ℓ : Loc Cert.KernelSumsIdeal.nD Cert.KernelSumsIdeal.τ Cert.KernelSumsIdeal.sig) → Buf (Elt Ideal) ℓ) (g : Dev Cert.KernelSumsIdeal.nD → PrngReg)
    (m' : (ℓ : Loc Cert.ReferenceSumsIdeal.nD Cert.ReferenceSumsIdeal.τ Cert.ReferenceSumsIdeal.sig) → Buf (Elt Ideal) ℓ) (g' : Dev Cert.ReferenceSumsIdeal.nD → PrngReg), Pre_KernelSumsIdeal_finite_sums m →
    (∀ c : Dev Cert.KernelSumsIdeal.nD,
      m' ((c.tc : Thread Cert.ReferenceSumsIdeal.nD Cert.ReferenceSumsIdeal.τ).loc Cert.ReferenceSumsIdeal.main_arg0) = m ((c.tc : Thread Cert.KernelSumsIdeal.nD Cert.KernelSumsIdeal.τ).loc Cert.KernelSumsIdeal.main_arg0)
      ∧ m' ((c.tc : Thread Cert.ReferenceSumsIdeal.nD Cert.ReferenceSumsIdeal.τ).loc Cert.ReferenceSumsIdeal.main_arg1) = m ((c.tc : Thread Cert.KernelSumsIdeal.nD Cert.KernelSumsIdeal.τ).loc Cert.KernelSumsIdeal.main_arg1)) →
    ∃ (v0 : (c : Dev Cert.KernelSumsIdeal.nD) → Buf (Elt Ideal) ((c.tc : Thread Cert.KernelSumsIdeal.nD Cert.KernelSumsIdeal.τ).loc Cert.KernelSumsIdeal.main_v2)),
      θ_run (Cert.KernelSumsIdeal.defs (F := Ideal)) (onTc (τ := Cert.KernelSumsIdeal.τ) (Cert.KernelSumsIdeal.main (F := Ideal))) ⟨m, fun _ => 0, g⟩ (fun r => ∀ c : Dev Cert.KernelSumsIdeal.nD,
          r.2.mem ((c.tc : Thread Cert.KernelSumsIdeal.nD Cert.KernelSumsIdeal.τ).loc Cert.KernelSumsIdeal.main_v2) = v0 c
          ∧ r.2.mem ((c.tc : Thread Cert.KernelSumsIdeal.nD Cert.KernelSumsIdeal.τ).loc Cert.KernelSumsIdeal.main_arg0) = m ((c.tc : Thread Cert.KernelSumsIdeal.nD Cert.KernelSumsIdeal.τ).loc Cert.KernelSumsIdeal.main_arg0)
          ∧ r.2.mem ((c.tc : Thread Cert.KernelSumsIdeal.nD Cert.KernelSumsIdeal.τ).loc Cert.KernelSumsIdeal.main_arg1) = m ((c.tc : Thread Cert.KernelSumsIdeal.nD Cert.KernelSumsIdeal.τ).loc Cert.KernelSumsIdeal.main_arg1))
      ∧ θ_run (Cert.ReferenceSumsIdeal.defs (F := Ideal)) (onTc (τ := Cert.ReferenceSumsIdeal.τ) (Cert.ReferenceSumsIdeal.main (F := Ideal))) ⟨m', fun _ => 0, g'⟩ (fun r => ∀ c : Dev Cert.ReferenceSumsIdeal.nD,
          r.2.mem ((c.tc : Thread Cert.ReferenceSumsIdeal.nD Cert.ReferenceSumsIdeal.τ).loc Cert.ReferenceSumsIdeal.main_v4) = v0 c
          ∧ r.2.mem ((c.tc : Thread Cert.ReferenceSumsIdeal.nD Cert.ReferenceSumsIdeal.τ).loc Cert.ReferenceSumsIdeal.main_arg0) = m' ((c.tc : Thread Cert.ReferenceSumsIdeal.nD Cert.ReferenceSumsIdeal.τ).loc Cert.ReferenceSumsIdeal.main_arg0)
          ∧ r.2.mem ((c.tc : Thread Cert.ReferenceSumsIdeal.nD Cert.ReferenceSumsIdeal.τ).loc Cert.ReferenceSumsIdeal.main_arg1) = m' ((c.tc : Thread Cert.ReferenceSumsIdeal.nD Cert.ReferenceSumsIdeal.τ).loc Cert.ReferenceSumsIdeal.main_arg1))

def preserves_KernelProj_KernelProjIdeal : Prop :=
  True

def algebraic_KernelProjIdeal_ReferenceProjIdeal [hKernelProjIdeal : Cert.KernelProjIdeal.Facts] [hReferenceProjIdeal : Cert.ReferenceProjIdeal.Facts] : Prop :=
  ∀ (m : (ℓ : Loc Cert.KernelProjIdeal.nD Cert.KernelProjIdeal.τ Cert.KernelProjIdeal.sig) → Buf (Elt Ideal) ℓ) (g : Dev Cert.KernelProjIdeal.nD → PrngReg)
    (m' : (ℓ : Loc Cert.ReferenceProjIdeal.nD Cert.ReferenceProjIdeal.τ Cert.ReferenceProjIdeal.sig) → Buf (Elt Ideal) ℓ) (g' : Dev Cert.ReferenceProjIdeal.nD → PrngReg), Pre_KernelProjIdeal m →
    (∀ c : Dev Cert.KernelProjIdeal.nD,
      m' ((c.tc : Thread Cert.ReferenceProjIdeal.nD Cert.ReferenceProjIdeal.τ).loc Cert.ReferenceProjIdeal.main_arg0) = m ((c.tc : Thread Cert.KernelProjIdeal.nD Cert.KernelProjIdeal.τ).loc Cert.KernelProjIdeal.main_arg0)
      ∧ m' ((c.tc : Thread Cert.ReferenceProjIdeal.nD Cert.ReferenceProjIdeal.τ).loc Cert.ReferenceProjIdeal.main_arg1) = m ((c.tc : Thread Cert.KernelProjIdeal.nD Cert.KernelProjIdeal.τ).loc Cert.KernelProjIdeal.main_arg1)
      ∧ m' ((c.tc : Thread Cert.ReferenceProjIdeal.nD Cert.ReferenceProjIdeal.τ).loc Cert.ReferenceProjIdeal.main_arg2) = m ((c.tc : Thread Cert.KernelProjIdeal.nD Cert.KernelProjIdeal.τ).loc Cert.KernelProjIdeal.main_arg2)
      ∧ m' ((c.tc : Thread Cert.ReferenceProjIdeal.nD Cert.ReferenceProjIdeal.τ).loc Cert.ReferenceProjIdeal.main_arg3) = m ((c.tc : Thread Cert.KernelProjIdeal.nD Cert.KernelProjIdeal.τ).loc Cert.KernelProjIdeal.main_arg3)) →
    ∃ (v0 : (c : Dev Cert.KernelProjIdeal.nD) → Buf (Elt Ideal) ((c.tc : Thread Cert.KernelProjIdeal.nD Cert.KernelProjIdeal.τ).loc Cert.KernelProjIdeal.main_v0)),
      θ_run (Cert.KernelProjIdeal.defs (F := Ideal)) (onTc (τ := Cert.KernelProjIdeal.τ) (Cert.KernelProjIdeal.main (F := Ideal))) ⟨m, fun _ => 0, g⟩ (fun r => ∀ c : Dev Cert.KernelProjIdeal.nD,
          r.2.mem ((c.tc : Thread Cert.KernelProjIdeal.nD Cert.KernelProjIdeal.τ).loc Cert.KernelProjIdeal.main_v0) = v0 c
          ∧ r.2.mem ((c.tc : Thread Cert.KernelProjIdeal.nD Cert.KernelProjIdeal.τ).loc Cert.KernelProjIdeal.main_arg0) = m ((c.tc : Thread Cert.KernelProjIdeal.nD Cert.KernelProjIdeal.τ).loc Cert.KernelProjIdeal.main_arg0)
          ∧ r.2.mem ((c.tc : Thread Cert.KernelProjIdeal.nD Cert.KernelProjIdeal.τ).loc Cert.KernelProjIdeal.main_arg1) = m ((c.tc : Thread Cert.KernelProjIdeal.nD Cert.KernelProjIdeal.τ).loc Cert.KernelProjIdeal.main_arg1)
          ∧ r.2.mem ((c.tc : Thread Cert.KernelProjIdeal.nD Cert.KernelProjIdeal.τ).loc Cert.KernelProjIdeal.main_arg2) = m ((c.tc : Thread Cert.KernelProjIdeal.nD Cert.KernelProjIdeal.τ).loc Cert.KernelProjIdeal.main_arg2)
          ∧ r.2.mem ((c.tc : Thread Cert.KernelProjIdeal.nD Cert.KernelProjIdeal.τ).loc Cert.KernelProjIdeal.main_arg3) = m ((c.tc : Thread Cert.KernelProjIdeal.nD Cert.KernelProjIdeal.τ).loc Cert.KernelProjIdeal.main_arg3))
      ∧ θ_run (Cert.ReferenceProjIdeal.defs (F := Ideal)) (onTc (τ := Cert.ReferenceProjIdeal.τ) (Cert.ReferenceProjIdeal.main (F := Ideal))) ⟨m', fun _ => 0, g'⟩ (fun r => ∀ c : Dev Cert.ReferenceProjIdeal.nD,
          r.2.mem ((c.tc : Thread Cert.ReferenceProjIdeal.nD Cert.ReferenceProjIdeal.τ).loc Cert.ReferenceProjIdeal.main_v7) = v0 c
          ∧ r.2.mem ((c.tc : Thread Cert.ReferenceProjIdeal.nD Cert.ReferenceProjIdeal.τ).loc Cert.ReferenceProjIdeal.main_arg0) = m' ((c.tc : Thread Cert.ReferenceProjIdeal.nD Cert.ReferenceProjIdeal.τ).loc Cert.ReferenceProjIdeal.main_arg0)
          ∧ r.2.mem ((c.tc : Thread Cert.ReferenceProjIdeal.nD Cert.ReferenceProjIdeal.τ).loc Cert.ReferenceProjIdeal.main_arg1) = m' ((c.tc : Thread Cert.ReferenceProjIdeal.nD Cert.ReferenceProjIdeal.τ).loc Cert.ReferenceProjIdeal.main_arg1)
          ∧ r.2.mem ((c.tc : Thread Cert.ReferenceProjIdeal.nD Cert.ReferenceProjIdeal.τ).loc Cert.ReferenceProjIdeal.main_arg2) = m' ((c.tc : Thread Cert.ReferenceProjIdeal.nD Cert.ReferenceProjIdeal.τ).loc Cert.ReferenceProjIdeal.main_arg2)
          ∧ r.2.mem ((c.tc : Thread Cert.ReferenceProjIdeal.nD Cert.ReferenceProjIdeal.τ).loc Cert.ReferenceProjIdeal.main_arg3) = m' ((c.tc : Thread Cert.ReferenceProjIdeal.nD Cert.ReferenceProjIdeal.τ).loc Cert.ReferenceProjIdeal.main_arg3))

def preserves_KernelOut_KernelOutIdeal : Prop :=
  True

def algebraic_KernelOutIdeal_ReferenceOutIdeal [hKernelOutIdeal : Cert.KernelOutIdeal.Facts] [hReferenceOutIdeal : Cert.ReferenceOutIdeal.Facts] : Prop :=
  ∀ (m : (ℓ : Loc Cert.KernelOutIdeal.nD Cert.KernelOutIdeal.τ Cert.KernelOutIdeal.sig) → Buf (Elt Ideal) ℓ) (g : Dev Cert.KernelOutIdeal.nD → PrngReg)
    (m' : (ℓ : Loc Cert.ReferenceOutIdeal.nD Cert.ReferenceOutIdeal.τ Cert.ReferenceOutIdeal.sig) → Buf (Elt Ideal) ℓ) (g' : Dev Cert.ReferenceOutIdeal.nD → PrngReg), Pre_KernelOutIdeal m →
    (∀ c : Dev Cert.KernelOutIdeal.nD,
      m' ((c.tc : Thread Cert.ReferenceOutIdeal.nD Cert.ReferenceOutIdeal.τ).loc Cert.ReferenceOutIdeal.main_arg0) = m ((c.tc : Thread Cert.KernelOutIdeal.nD Cert.KernelOutIdeal.τ).loc Cert.KernelOutIdeal.main_arg0)
      ∧ m' ((c.tc : Thread Cert.ReferenceOutIdeal.nD Cert.ReferenceOutIdeal.τ).loc Cert.ReferenceOutIdeal.main_arg1) = m ((c.tc : Thread Cert.KernelOutIdeal.nD Cert.KernelOutIdeal.τ).loc Cert.KernelOutIdeal.main_arg1)) →
    ∃ (v0 : (c : Dev Cert.KernelOutIdeal.nD) → Buf (Elt Ideal) ((c.tc : Thread Cert.KernelOutIdeal.nD Cert.KernelOutIdeal.τ).loc Cert.KernelOutIdeal.main_v0)),
      θ_run (Cert.KernelOutIdeal.defs (F := Ideal)) (onTc (τ := Cert.KernelOutIdeal.τ) (Cert.KernelOutIdeal.main (F := Ideal))) ⟨m, fun _ => 0, g⟩ (fun r => ∀ c : Dev Cert.KernelOutIdeal.nD,
          r.2.mem ((c.tc : Thread Cert.KernelOutIdeal.nD Cert.KernelOutIdeal.τ).loc Cert.KernelOutIdeal.main_v0) = v0 c
          ∧ r.2.mem ((c.tc : Thread Cert.KernelOutIdeal.nD Cert.KernelOutIdeal.τ).loc Cert.KernelOutIdeal.main_arg0) = m ((c.tc : Thread Cert.KernelOutIdeal.nD Cert.KernelOutIdeal.τ).loc Cert.KernelOutIdeal.main_arg0)
          ∧ r.2.mem ((c.tc : Thread Cert.KernelOutIdeal.nD Cert.KernelOutIdeal.τ).loc Cert.KernelOutIdeal.main_arg1) = m ((c.tc : Thread Cert.KernelOutIdeal.nD Cert.KernelOutIdeal.τ).loc Cert.KernelOutIdeal.main_arg1))
      ∧ θ_run (Cert.ReferenceOutIdeal.defs (F := Ideal)) (onTc (τ := Cert.ReferenceOutIdeal.τ) (Cert.ReferenceOutIdeal.main (F := Ideal))) ⟨m', fun _ => 0, g'⟩ (fun r => ∀ c : Dev Cert.ReferenceOutIdeal.nD,
          r.2.mem ((c.tc : Thread Cert.ReferenceOutIdeal.nD Cert.ReferenceOutIdeal.τ).loc Cert.ReferenceOutIdeal.main_v2) = v0 c
          ∧ r.2.mem ((c.tc : Thread Cert.ReferenceOutIdeal.nD Cert.ReferenceOutIdeal.τ).loc Cert.ReferenceOutIdeal.main_arg0) = m' ((c.tc : Thread Cert.ReferenceOutIdeal.nD Cert.ReferenceOutIdeal.τ).loc Cert.ReferenceOutIdeal.main_arg0)
          ∧ r.2.mem ((c.tc : Thread Cert.ReferenceOutIdeal.nD Cert.ReferenceOutIdeal.τ).loc Cert.ReferenceOutIdeal.main_arg1) = m' ((c.tc : Thread Cert.ReferenceOutIdeal.nD Cert.ReferenceOutIdeal.τ).loc Cert.ReferenceOutIdeal.main_arg1))

def preserves_KernelDmix_KernelDmixIdeal : Prop :=
  True

def algebraic_KernelDmixIdeal_ReferenceDmixIdeal [hKernelDmixIdeal : Cert.KernelDmixIdeal.Facts] [hReferenceDmixIdeal : Cert.ReferenceDmixIdeal.Facts] : Prop :=
  ∀ (m : (ℓ : Loc Cert.KernelDmixIdeal.nD Cert.KernelDmixIdeal.τ Cert.KernelDmixIdeal.sig) → Buf (Elt Ideal) ℓ) (g : Dev Cert.KernelDmixIdeal.nD → PrngReg)
    (m' : (ℓ : Loc Cert.ReferenceDmixIdeal.nD Cert.ReferenceDmixIdeal.τ Cert.ReferenceDmixIdeal.sig) → Buf (Elt Ideal) ℓ) (g' : Dev Cert.ReferenceDmixIdeal.nD → PrngReg), Pre_KernelDmixIdeal m →
    (∀ c : Dev Cert.KernelDmixIdeal.nD,
      m' ((c.tc : Thread Cert.ReferenceDmixIdeal.nD Cert.ReferenceDmixIdeal.τ).loc Cert.ReferenceDmixIdeal.main_arg0) = m ((c.tc : Thread Cert.KernelDmixIdeal.nD Cert.KernelDmixIdeal.τ).loc Cert.KernelDmixIdeal.main_arg0)
      ∧ m' ((c.tc : Thread Cert.ReferenceDmixIdeal.nD Cert.ReferenceDmixIdeal.τ).loc Cert.ReferenceDmixIdeal.main_arg1) = m ((c.tc : Thread Cert.KernelDmixIdeal.nD Cert.KernelDmixIdeal.τ).loc Cert.KernelDmixIdeal.main_arg1)
      ∧ m' ((c.tc : Thread Cert.ReferenceDmixIdeal.nD Cert.ReferenceDmixIdeal.τ).loc Cert.ReferenceDmixIdeal.main_arg2) = m ((c.tc : Thread Cert.KernelDmixIdeal.nD Cert.KernelDmixIdeal.τ).loc Cert.KernelDmixIdeal.main_arg2)) →
    ∃ (v0 : (c : Dev Cert.KernelDmixIdeal.nD) → Buf (Elt Ideal) ((c.tc : Thread Cert.KernelDmixIdeal.nD Cert.KernelDmixIdeal.τ).loc Cert.KernelDmixIdeal.main_v0)),
      θ_run (Cert.KernelDmixIdeal.defs (F := Ideal)) (onTc (τ := Cert.KernelDmixIdeal.τ) (Cert.KernelDmixIdeal.main (F := Ideal))) ⟨m, fun _ => 0, g⟩ (fun r => ∀ c : Dev Cert.KernelDmixIdeal.nD,
          r.2.mem ((c.tc : Thread Cert.KernelDmixIdeal.nD Cert.KernelDmixIdeal.τ).loc Cert.KernelDmixIdeal.main_v0) = v0 c
          ∧ r.2.mem ((c.tc : Thread Cert.KernelDmixIdeal.nD Cert.KernelDmixIdeal.τ).loc Cert.KernelDmixIdeal.main_arg0) = m ((c.tc : Thread Cert.KernelDmixIdeal.nD Cert.KernelDmixIdeal.τ).loc Cert.KernelDmixIdeal.main_arg0)
          ∧ r.2.mem ((c.tc : Thread Cert.KernelDmixIdeal.nD Cert.KernelDmixIdeal.τ).loc Cert.KernelDmixIdeal.main_arg1) = m ((c.tc : Thread Cert.KernelDmixIdeal.nD Cert.KernelDmixIdeal.τ).loc Cert.KernelDmixIdeal.main_arg1)
          ∧ r.2.mem ((c.tc : Thread Cert.KernelDmixIdeal.nD Cert.KernelDmixIdeal.τ).loc Cert.KernelDmixIdeal.main_arg2) = m ((c.tc : Thread Cert.KernelDmixIdeal.nD Cert.KernelDmixIdeal.τ).loc Cert.KernelDmixIdeal.main_arg2))
      ∧ θ_run (Cert.ReferenceDmixIdeal.defs (F := Ideal)) (onTc (τ := Cert.ReferenceDmixIdeal.τ) (Cert.ReferenceDmixIdeal.main (F := Ideal))) ⟨m', fun _ => 0, g'⟩ (fun r => ∀ c : Dev Cert.ReferenceDmixIdeal.nD,
          r.2.mem ((c.tc : Thread Cert.ReferenceDmixIdeal.nD Cert.ReferenceDmixIdeal.τ).loc Cert.ReferenceDmixIdeal.main_v4) = v0 c
          ∧ r.2.mem ((c.tc : Thread Cert.ReferenceDmixIdeal.nD Cert.ReferenceDmixIdeal.τ).loc Cert.ReferenceDmixIdeal.main_arg0) = m' ((c.tc : Thread Cert.ReferenceDmixIdeal.nD Cert.ReferenceDmixIdeal.τ).loc Cert.ReferenceDmixIdeal.main_arg0)
          ∧ r.2.mem ((c.tc : Thread Cert.ReferenceDmixIdeal.nD Cert.ReferenceDmixIdeal.τ).loc Cert.ReferenceDmixIdeal.main_arg1) = m' ((c.tc : Thread Cert.ReferenceDmixIdeal.nD Cert.ReferenceDmixIdeal.τ).loc Cert.ReferenceDmixIdeal.main_arg1)
          ∧ r.2.mem ((c.tc : Thread Cert.ReferenceDmixIdeal.nD Cert.ReferenceDmixIdeal.τ).loc Cert.ReferenceDmixIdeal.main_arg2) = m' ((c.tc : Thread Cert.ReferenceDmixIdeal.nD Cert.ReferenceDmixIdeal.τ).loc Cert.ReferenceDmixIdeal.main_arg2))

def preserves_KernelWout_KernelWoutIdeal : Prop :=
  True

def algebraic_KernelWoutIdeal_ReferenceWoutIdeal [hKernelWoutIdeal : Cert.KernelWoutIdeal.Facts] [hReferenceWoutIdeal : Cert.ReferenceWoutIdeal.Facts] : Prop :=
  ∀ (m : (ℓ : Loc Cert.KernelWoutIdeal.nD Cert.KernelWoutIdeal.τ Cert.KernelWoutIdeal.sig) → Buf (Elt Ideal) ℓ) (g : Dev Cert.KernelWoutIdeal.nD → PrngReg)
    (m' : (ℓ : Loc Cert.ReferenceWoutIdeal.nD Cert.ReferenceWoutIdeal.τ Cert.ReferenceWoutIdeal.sig) → Buf (Elt Ideal) ℓ) (g' : Dev Cert.ReferenceWoutIdeal.nD → PrngReg), Pre_KernelWoutIdeal m →
    (∀ c : Dev Cert.KernelWoutIdeal.nD,
      m' ((c.tc : Thread Cert.ReferenceWoutIdeal.nD Cert.ReferenceWoutIdeal.τ).loc Cert.ReferenceWoutIdeal.main_arg0) = m ((c.tc : Thread Cert.KernelWoutIdeal.nD Cert.KernelWoutIdeal.τ).loc Cert.KernelWoutIdeal.main_arg0)
      ∧ m' ((c.tc : Thread Cert.ReferenceWoutIdeal.nD Cert.ReferenceWoutIdeal.τ).loc Cert.ReferenceWoutIdeal.main_arg1) = m ((c.tc : Thread Cert.KernelWoutIdeal.nD Cert.KernelWoutIdeal.τ).loc Cert.KernelWoutIdeal.main_arg1)
      ∧ m' ((c.tc : Thread Cert.ReferenceWoutIdeal.nD Cert.ReferenceWoutIdeal.τ).loc Cert.ReferenceWoutIdeal.main_arg2) = m ((c.tc : Thread Cert.KernelWoutIdeal.nD Cert.KernelWoutIdeal.τ).loc Cert.KernelWoutIdeal.main_arg2)) →
    ∃ (v0 : (c : Dev Cert.KernelWoutIdeal.nD) → Buf (Elt Ideal) ((c.tc : Thread Cert.KernelWoutIdeal.nD Cert.KernelWoutIdeal.τ).loc Cert.KernelWoutIdeal.main_v0)),
      θ_run (Cert.KernelWoutIdeal.defs (F := Ideal)) (onTc (τ := Cert.KernelWoutIdeal.τ) (Cert.KernelWoutIdeal.main (F := Ideal))) ⟨m, fun _ => 0, g⟩ (fun r => ∀ c : Dev Cert.KernelWoutIdeal.nD,
          r.2.mem ((c.tc : Thread Cert.KernelWoutIdeal.nD Cert.KernelWoutIdeal.τ).loc Cert.KernelWoutIdeal.main_v0) = v0 c
          ∧ r.2.mem ((c.tc : Thread Cert.KernelWoutIdeal.nD Cert.KernelWoutIdeal.τ).loc Cert.KernelWoutIdeal.main_arg0) = m ((c.tc : Thread Cert.KernelWoutIdeal.nD Cert.KernelWoutIdeal.τ).loc Cert.KernelWoutIdeal.main_arg0)
          ∧ r.2.mem ((c.tc : Thread Cert.KernelWoutIdeal.nD Cert.KernelWoutIdeal.τ).loc Cert.KernelWoutIdeal.main_arg1) = m ((c.tc : Thread Cert.KernelWoutIdeal.nD Cert.KernelWoutIdeal.τ).loc Cert.KernelWoutIdeal.main_arg1)
          ∧ r.2.mem ((c.tc : Thread Cert.KernelWoutIdeal.nD Cert.KernelWoutIdeal.τ).loc Cert.KernelWoutIdeal.main_arg2) = m ((c.tc : Thread Cert.KernelWoutIdeal.nD Cert.KernelWoutIdeal.τ).loc Cert.KernelWoutIdeal.main_arg2))
      ∧ θ_run (Cert.ReferenceWoutIdeal.defs (F := Ideal)) (onTc (τ := Cert.ReferenceWoutIdeal.τ) (Cert.ReferenceWoutIdeal.main (F := Ideal))) ⟨m', fun _ => 0, g'⟩ (fun r => ∀ c : Dev Cert.ReferenceWoutIdeal.nD,
          r.2.mem ((c.tc : Thread Cert.ReferenceWoutIdeal.nD Cert.ReferenceWoutIdeal.τ).loc Cert.ReferenceWoutIdeal.main_v6) = v0 c
          ∧ r.2.mem ((c.tc : Thread Cert.ReferenceWoutIdeal.nD Cert.ReferenceWoutIdeal.τ).loc Cert.ReferenceWoutIdeal.main_arg0) = m' ((c.tc : Thread Cert.ReferenceWoutIdeal.nD Cert.ReferenceWoutIdeal.τ).loc Cert.ReferenceWoutIdeal.main_arg0)
          ∧ r.2.mem ((c.tc : Thread Cert.ReferenceWoutIdeal.nD Cert.ReferenceWoutIdeal.τ).loc Cert.ReferenceWoutIdeal.main_arg1) = m' ((c.tc : Thread Cert.ReferenceWoutIdeal.nD Cert.ReferenceWoutIdeal.τ).loc Cert.ReferenceWoutIdeal.main_arg1)
          ∧ r.2.mem ((c.tc : Thread Cert.ReferenceWoutIdeal.nD Cert.ReferenceWoutIdeal.τ).loc Cert.ReferenceWoutIdeal.main_arg2) = m' ((c.tc : Thread Cert.ReferenceWoutIdeal.nD Cert.ReferenceWoutIdeal.τ).loc Cert.ReferenceWoutIdeal.main_arg2))

def preserves_KernelFf_KernelFfIdeal : Prop :=
  True

def algebraic_KernelFfIdeal_ReferenceFfIdeal [hKernelFfIdeal : Cert.KernelFfIdeal.Facts] [hReferenceFfIdeal : Cert.ReferenceFfIdeal.Facts] : Prop :=
  ∀ (m : (ℓ : Loc Cert.KernelFfIdeal.nD Cert.KernelFfIdeal.τ Cert.KernelFfIdeal.sig) → Buf (Elt Ideal) ℓ) (g : Dev Cert.KernelFfIdeal.nD → PrngReg)
    (m' : (ℓ : Loc Cert.ReferenceFfIdeal.nD Cert.ReferenceFfIdeal.τ Cert.ReferenceFfIdeal.sig) → Buf (Elt Ideal) ℓ) (g' : Dev Cert.ReferenceFfIdeal.nD → PrngReg), Pre_KernelFfIdeal m →
    (∀ c : Dev Cert.KernelFfIdeal.nD,
      m' ((c.tc : Thread Cert.ReferenceFfIdeal.nD Cert.ReferenceFfIdeal.τ).loc Cert.ReferenceFfIdeal.main_arg0) = m ((c.tc : Thread Cert.KernelFfIdeal.nD Cert.KernelFfIdeal.τ).loc Cert.KernelFfIdeal.main_arg0)
      ∧ m' ((c.tc : Thread Cert.ReferenceFfIdeal.nD Cert.ReferenceFfIdeal.τ).loc Cert.ReferenceFfIdeal.main_arg1) = m ((c.tc : Thread Cert.KernelFfIdeal.nD Cert.KernelFfIdeal.τ).loc Cert.KernelFfIdeal.main_arg1)) →
    ∃ (v0 : (c : Dev Cert.KernelFfIdeal.nD) → Buf (Elt Ideal) ((c.tc : Thread Cert.KernelFfIdeal.nD Cert.KernelFfIdeal.τ).loc Cert.KernelFfIdeal.main_v0)),
      θ_run (Cert.KernelFfIdeal.defs (F := Ideal)) (onTc (τ := Cert.KernelFfIdeal.τ) (Cert.KernelFfIdeal.main (F := Ideal))) ⟨m, fun _ => 0, g⟩ (fun r => ∀ c : Dev Cert.KernelFfIdeal.nD,
          r.2.mem ((c.tc : Thread Cert.KernelFfIdeal.nD Cert.KernelFfIdeal.τ).loc Cert.KernelFfIdeal.main_v0) = v0 c
          ∧ r.2.mem ((c.tc : Thread Cert.KernelFfIdeal.nD Cert.KernelFfIdeal.τ).loc Cert.KernelFfIdeal.main_arg0) = m ((c.tc : Thread Cert.KernelFfIdeal.nD Cert.KernelFfIdeal.τ).loc Cert.KernelFfIdeal.main_arg0)
          ∧ r.2.mem ((c.tc : Thread Cert.KernelFfIdeal.nD Cert.KernelFfIdeal.τ).loc Cert.KernelFfIdeal.main_arg1) = m ((c.tc : Thread Cert.KernelFfIdeal.nD Cert.KernelFfIdeal.τ).loc Cert.KernelFfIdeal.main_arg1))
      ∧ θ_run (Cert.ReferenceFfIdeal.defs (F := Ideal)) (onTc (τ := Cert.ReferenceFfIdeal.τ) (Cert.ReferenceFfIdeal.main (F := Ideal))) ⟨m', fun _ => 0, g'⟩ (fun r => ∀ c : Dev Cert.ReferenceFfIdeal.nD,
          r.2.mem ((c.tc : Thread Cert.ReferenceFfIdeal.nD Cert.ReferenceFfIdeal.τ).loc Cert.ReferenceFfIdeal.main_v3) = v0 c
          ∧ r.2.mem ((c.tc : Thread Cert.ReferenceFfIdeal.nD Cert.ReferenceFfIdeal.τ).loc Cert.ReferenceFfIdeal.main_arg0) = m' ((c.tc : Thread Cert.ReferenceFfIdeal.nD Cert.ReferenceFfIdeal.τ).loc Cert.ReferenceFfIdeal.main_arg0)
          ∧ r.2.mem ((c.tc : Thread Cert.ReferenceFfIdeal.nD Cert.ReferenceFfIdeal.τ).loc Cert.ReferenceFfIdeal.main_arg1) = m' ((c.tc : Thread Cert.ReferenceFfIdeal.nD Cert.ReferenceFfIdeal.τ).loc Cert.ReferenceFfIdeal.main_arg1))

def preserves_KernelWff_KernelWffIdeal : Prop :=
  True

def algebraic_KernelWffIdeal_ReferenceWffIdeal [hKernelWffIdeal : Cert.KernelWffIdeal.Facts] [hReferenceWffIdeal : Cert.ReferenceWffIdeal.Facts] : Prop :=
  ∀ (m : (ℓ : Loc Cert.KernelWffIdeal.nD Cert.KernelWffIdeal.τ Cert.KernelWffIdeal.sig) → Buf (Elt Ideal) ℓ) (g : Dev Cert.KernelWffIdeal.nD → PrngReg)
    (m' : (ℓ : Loc Cert.ReferenceWffIdeal.nD Cert.ReferenceWffIdeal.τ Cert.ReferenceWffIdeal.sig) → Buf (Elt Ideal) ℓ) (g' : Dev Cert.ReferenceWffIdeal.nD → PrngReg), Pre_KernelWffIdeal m →
    (∀ c : Dev Cert.KernelWffIdeal.nD,
      m' ((c.tc : Thread Cert.ReferenceWffIdeal.nD Cert.ReferenceWffIdeal.τ).loc Cert.ReferenceWffIdeal.main_arg0) = m ((c.tc : Thread Cert.KernelWffIdeal.nD Cert.KernelWffIdeal.τ).loc Cert.KernelWffIdeal.main_arg0)
      ∧ m' ((c.tc : Thread Cert.ReferenceWffIdeal.nD Cert.ReferenceWffIdeal.τ).loc Cert.ReferenceWffIdeal.main_arg1) = m ((c.tc : Thread Cert.KernelWffIdeal.nD Cert.KernelWffIdeal.τ).loc Cert.KernelWffIdeal.main_arg1)
      ∧ m' ((c.tc : Thread Cert.ReferenceWffIdeal.nD Cert.ReferenceWffIdeal.τ).loc Cert.ReferenceWffIdeal.main_arg2) = m ((c.tc : Thread Cert.KernelWffIdeal.nD Cert.KernelWffIdeal.τ).loc Cert.KernelWffIdeal.main_arg2)) →
    ∃ (v0 : (c : Dev Cert.KernelWffIdeal.nD) → Buf (Elt Ideal) ((c.tc : Thread Cert.KernelWffIdeal.nD Cert.KernelWffIdeal.τ).loc Cert.KernelWffIdeal.main_v0)),
      θ_run (Cert.KernelWffIdeal.defs (F := Ideal)) (onTc (τ := Cert.KernelWffIdeal.τ) (Cert.KernelWffIdeal.main (F := Ideal))) ⟨m, fun _ => 0, g⟩ (fun r => ∀ c : Dev Cert.KernelWffIdeal.nD,
          r.2.mem ((c.tc : Thread Cert.KernelWffIdeal.nD Cert.KernelWffIdeal.τ).loc Cert.KernelWffIdeal.main_v0) = v0 c
          ∧ r.2.mem ((c.tc : Thread Cert.KernelWffIdeal.nD Cert.KernelWffIdeal.τ).loc Cert.KernelWffIdeal.main_arg0) = m ((c.tc : Thread Cert.KernelWffIdeal.nD Cert.KernelWffIdeal.τ).loc Cert.KernelWffIdeal.main_arg0)
          ∧ r.2.mem ((c.tc : Thread Cert.KernelWffIdeal.nD Cert.KernelWffIdeal.τ).loc Cert.KernelWffIdeal.main_arg1) = m ((c.tc : Thread Cert.KernelWffIdeal.nD Cert.KernelWffIdeal.τ).loc Cert.KernelWffIdeal.main_arg1)
          ∧ r.2.mem ((c.tc : Thread Cert.KernelWffIdeal.nD Cert.KernelWffIdeal.τ).loc Cert.KernelWffIdeal.main_arg2) = m ((c.tc : Thread Cert.KernelWffIdeal.nD Cert.KernelWffIdeal.τ).loc Cert.KernelWffIdeal.main_arg2))
      ∧ θ_run (Cert.ReferenceWffIdeal.defs (F := Ideal)) (onTc (τ := Cert.ReferenceWffIdeal.τ) (Cert.ReferenceWffIdeal.main (F := Ideal))) ⟨m', fun _ => 0, g'⟩ (fun r => ∀ c : Dev Cert.ReferenceWffIdeal.nD,
          r.2.mem ((c.tc : Thread Cert.ReferenceWffIdeal.nD Cert.ReferenceWffIdeal.τ).loc Cert.ReferenceWffIdeal.main_v7) = v0 c
          ∧ r.2.mem ((c.tc : Thread Cert.ReferenceWffIdeal.nD Cert.ReferenceWffIdeal.τ).loc Cert.ReferenceWffIdeal.main_arg0) = m' ((c.tc : Thread Cert.ReferenceWffIdeal.nD Cert.ReferenceWffIdeal.τ).loc Cert.ReferenceWffIdeal.main_arg0)
          ∧ r.2.mem ((c.tc : Thread Cert.ReferenceWffIdeal.nD Cert.ReferenceWffIdeal.τ).loc Cert.ReferenceWffIdeal.main_arg1) = m' ((c.tc : Thread Cert.ReferenceWffIdeal.nD Cert.ReferenceWffIdeal.τ).loc Cert.ReferenceWffIdeal.main_arg1)
          ∧ r.2.mem ((c.tc : Thread Cert.ReferenceWffIdeal.nD Cert.ReferenceWffIdeal.τ).loc Cert.ReferenceWffIdeal.main_arg2) = m' ((c.tc : Thread Cert.ReferenceWffIdeal.nD Cert.ReferenceWffIdeal.τ).loc Cert.ReferenceWffIdeal.main_arg2))

def preserves_KernelWin_KernelWinIdeal : Prop :=
  True

def algebraic_KernelWinIdeal_ReferenceWinIdeal [hKernelWinIdeal : Cert.KernelWinIdeal.Facts] [hReferenceWinIdeal : Cert.ReferenceWinIdeal.Facts] : Prop :=
  ∀ (m : (ℓ : Loc Cert.KernelWinIdeal.nD Cert.KernelWinIdeal.τ Cert.KernelWinIdeal.sig) → Buf (Elt Ideal) ℓ) (g : Dev Cert.KernelWinIdeal.nD → PrngReg)
    (m' : (ℓ : Loc Cert.ReferenceWinIdeal.nD Cert.ReferenceWinIdeal.τ Cert.ReferenceWinIdeal.sig) → Buf (Elt Ideal) ℓ) (g' : Dev Cert.ReferenceWinIdeal.nD → PrngReg), Pre_KernelWinIdeal m →
    (∀ c : Dev Cert.KernelWinIdeal.nD,
      m' ((c.tc : Thread Cert.ReferenceWinIdeal.nD Cert.ReferenceWinIdeal.τ).loc Cert.ReferenceWinIdeal.main_arg0) = m ((c.tc : Thread Cert.KernelWinIdeal.nD Cert.KernelWinIdeal.τ).loc Cert.KernelWinIdeal.main_arg0)
      ∧ m' ((c.tc : Thread Cert.ReferenceWinIdeal.nD Cert.ReferenceWinIdeal.τ).loc Cert.ReferenceWinIdeal.main_arg1) = m ((c.tc : Thread Cert.KernelWinIdeal.nD Cert.KernelWinIdeal.τ).loc Cert.KernelWinIdeal.main_arg1)
      ∧ m' ((c.tc : Thread Cert.ReferenceWinIdeal.nD Cert.ReferenceWinIdeal.τ).loc Cert.ReferenceWinIdeal.main_arg2) = m ((c.tc : Thread Cert.KernelWinIdeal.nD Cert.KernelWinIdeal.τ).loc Cert.KernelWinIdeal.main_arg2)
      ∧ m' ((c.tc : Thread Cert.ReferenceWinIdeal.nD Cert.ReferenceWinIdeal.τ).loc Cert.ReferenceWinIdeal.main_arg3) = m ((c.tc : Thread Cert.KernelWinIdeal.nD Cert.KernelWinIdeal.τ).loc Cert.KernelWinIdeal.main_arg3)
      ∧ m' ((c.tc : Thread Cert.ReferenceWinIdeal.nD Cert.ReferenceWinIdeal.τ).loc Cert.ReferenceWinIdeal.main_arg4) = m ((c.tc : Thread Cert.KernelWinIdeal.nD Cert.KernelWinIdeal.τ).loc Cert.KernelWinIdeal.main_arg4)) →
    ∃ (v0 : (c : Dev Cert.KernelWinIdeal.nD) → Buf (Elt Ideal) ((c.tc : Thread Cert.KernelWinIdeal.nD Cert.KernelWinIdeal.τ).loc Cert.KernelWinIdeal.main_v0)),
      θ_run (Cert.KernelWinIdeal.defs (F := Ideal)) (onTc (τ := Cert.KernelWinIdeal.τ) (Cert.KernelWinIdeal.main (F := Ideal))) ⟨m, fun _ => 0, g⟩ (fun r => ∀ c : Dev Cert.KernelWinIdeal.nD,
          r.2.mem ((c.tc : Thread Cert.KernelWinIdeal.nD Cert.KernelWinIdeal.τ).loc Cert.KernelWinIdeal.main_v0) = v0 c
          ∧ r.2.mem ((c.tc : Thread Cert.KernelWinIdeal.nD Cert.KernelWinIdeal.τ).loc Cert.KernelWinIdeal.main_arg0) = m ((c.tc : Thread Cert.KernelWinIdeal.nD Cert.KernelWinIdeal.τ).loc Cert.KernelWinIdeal.main_arg0)
          ∧ r.2.mem ((c.tc : Thread Cert.KernelWinIdeal.nD Cert.KernelWinIdeal.τ).loc Cert.KernelWinIdeal.main_arg1) = m ((c.tc : Thread Cert.KernelWinIdeal.nD Cert.KernelWinIdeal.τ).loc Cert.KernelWinIdeal.main_arg1)
          ∧ r.2.mem ((c.tc : Thread Cert.KernelWinIdeal.nD Cert.KernelWinIdeal.τ).loc Cert.KernelWinIdeal.main_arg2) = m ((c.tc : Thread Cert.KernelWinIdeal.nD Cert.KernelWinIdeal.τ).loc Cert.KernelWinIdeal.main_arg2)
          ∧ r.2.mem ((c.tc : Thread Cert.KernelWinIdeal.nD Cert.KernelWinIdeal.τ).loc Cert.KernelWinIdeal.main_arg3) = m ((c.tc : Thread Cert.KernelWinIdeal.nD Cert.KernelWinIdeal.τ).loc Cert.KernelWinIdeal.main_arg3)
          ∧ r.2.mem ((c.tc : Thread Cert.KernelWinIdeal.nD Cert.KernelWinIdeal.τ).loc Cert.KernelWinIdeal.main_arg4) = m ((c.tc : Thread Cert.KernelWinIdeal.nD Cert.KernelWinIdeal.τ).loc Cert.KernelWinIdeal.main_arg4))
      ∧ θ_run (Cert.ReferenceWinIdeal.defs (F := Ideal)) (onTc (τ := Cert.ReferenceWinIdeal.τ) (Cert.ReferenceWinIdeal.main (F := Ideal))) ⟨m', fun _ => 0, g'⟩ (fun r => ∀ c : Dev Cert.ReferenceWinIdeal.nD,
          r.2.mem ((c.tc : Thread Cert.ReferenceWinIdeal.nD Cert.ReferenceWinIdeal.τ).loc Cert.ReferenceWinIdeal.main_v11) = v0 c
          ∧ r.2.mem ((c.tc : Thread Cert.ReferenceWinIdeal.nD Cert.ReferenceWinIdeal.τ).loc Cert.ReferenceWinIdeal.main_arg0) = m' ((c.tc : Thread Cert.ReferenceWinIdeal.nD Cert.ReferenceWinIdeal.τ).loc Cert.ReferenceWinIdeal.main_arg0)
          ∧ r.2.mem ((c.tc : Thread Cert.ReferenceWinIdeal.nD Cert.ReferenceWinIdeal.τ).loc Cert.ReferenceWinIdeal.main_arg1) = m' ((c.tc : Thread Cert.ReferenceWinIdeal.nD Cert.ReferenceWinIdeal.τ).loc Cert.ReferenceWinIdeal.main_arg1)
          ∧ r.2.mem ((c.tc : Thread Cert.ReferenceWinIdeal.nD Cert.ReferenceWinIdeal.τ).loc Cert.ReferenceWinIdeal.main_arg2) = m' ((c.tc : Thread Cert.ReferenceWinIdeal.nD Cert.ReferenceWinIdeal.τ).loc Cert.ReferenceWinIdeal.main_arg2)
          ∧ r.2.mem ((c.tc : Thread Cert.ReferenceWinIdeal.nD Cert.ReferenceWinIdeal.τ).loc Cert.ReferenceWinIdeal.main_arg3) = m' ((c.tc : Thread Cert.ReferenceWinIdeal.nD Cert.ReferenceWinIdeal.τ).loc Cert.ReferenceWinIdeal.main_arg3)
          ∧ r.2.mem ((c.tc : Thread Cert.ReferenceWinIdeal.nD Cert.ReferenceWinIdeal.τ).loc Cert.ReferenceWinIdeal.main_arg4) = m' ((c.tc : Thread Cert.ReferenceWinIdeal.nD Cert.ReferenceWinIdeal.τ).loc Cert.ReferenceWinIdeal.main_arg4))

def preserves_KernelWinb_KernelWinbIdeal : Prop :=
  True

def algebraic_KernelWinbIdeal_ReferenceWinbIdeal [hKernelWinbIdeal : Cert.KernelWinbIdeal.Facts] [hReferenceWinbIdeal : Cert.ReferenceWinbIdeal.Facts] : Prop :=
  ∀ (m : (ℓ : Loc Cert.KernelWinbIdeal.nD Cert.KernelWinbIdeal.τ Cert.KernelWinbIdeal.sig) → Buf (Elt Ideal) ℓ) (g : Dev Cert.KernelWinbIdeal.nD → PrngReg)
    (m' : (ℓ : Loc Cert.ReferenceWinbIdeal.nD Cert.ReferenceWinbIdeal.τ Cert.ReferenceWinbIdeal.sig) → Buf (Elt Ideal) ℓ) (g' : Dev Cert.ReferenceWinbIdeal.nD → PrngReg), Pre_KernelWinbIdeal m →
    (∀ c : Dev Cert.KernelWinbIdeal.nD,
      m' ((c.tc : Thread Cert.ReferenceWinbIdeal.nD Cert.ReferenceWinbIdeal.τ).loc Cert.ReferenceWinbIdeal.main_arg0) = m ((c.tc : Thread Cert.KernelWinbIdeal.nD Cert.KernelWinbIdeal.τ).loc Cert.KernelWinbIdeal.main_arg0)
      ∧ m' ((c.tc : Thread Cert.ReferenceWinbIdeal.nD Cert.ReferenceWinbIdeal.τ).loc Cert.ReferenceWinbIdeal.main_arg1) = m ((c.tc : Thread Cert.KernelWinbIdeal.nD Cert.KernelWinbIdeal.τ).loc Cert.KernelWinbIdeal.main_arg1)
      ∧ m' ((c.tc : Thread Cert.ReferenceWinbIdeal.nD Cert.ReferenceWinbIdeal.τ).loc Cert.ReferenceWinbIdeal.main_arg2) = m ((c.tc : Thread Cert.KernelWinbIdeal.nD Cert.KernelWinbIdeal.τ).loc Cert.KernelWinbIdeal.main_arg2)
      ∧ m' ((c.tc : Thread Cert.ReferenceWinbIdeal.nD Cert.ReferenceWinbIdeal.τ).loc Cert.ReferenceWinbIdeal.main_arg3) = m ((c.tc : Thread Cert.KernelWinbIdeal.nD Cert.KernelWinbIdeal.τ).loc Cert.KernelWinbIdeal.main_arg3)
      ∧ m' ((c.tc : Thread Cert.ReferenceWinbIdeal.nD Cert.ReferenceWinbIdeal.τ).loc Cert.ReferenceWinbIdeal.main_arg4) = m ((c.tc : Thread Cert.KernelWinbIdeal.nD Cert.KernelWinbIdeal.τ).loc Cert.KernelWinbIdeal.main_arg4)) →
    ∃ (v0 : (c : Dev Cert.KernelWinbIdeal.nD) → Buf (Elt Ideal) ((c.tc : Thread Cert.KernelWinbIdeal.nD Cert.KernelWinbIdeal.τ).loc Cert.KernelWinbIdeal.main_v0)),
      θ_run (Cert.KernelWinbIdeal.defs (F := Ideal)) (onTc (τ := Cert.KernelWinbIdeal.τ) (Cert.KernelWinbIdeal.main (F := Ideal))) ⟨m, fun _ => 0, g⟩ (fun r => ∀ c : Dev Cert.KernelWinbIdeal.nD,
          r.2.mem ((c.tc : Thread Cert.KernelWinbIdeal.nD Cert.KernelWinbIdeal.τ).loc Cert.KernelWinbIdeal.main_v0) = v0 c
          ∧ r.2.mem ((c.tc : Thread Cert.KernelWinbIdeal.nD Cert.KernelWinbIdeal.τ).loc Cert.KernelWinbIdeal.main_arg0) = m ((c.tc : Thread Cert.KernelWinbIdeal.nD Cert.KernelWinbIdeal.τ).loc Cert.KernelWinbIdeal.main_arg0)
          ∧ r.2.mem ((c.tc : Thread Cert.KernelWinbIdeal.nD Cert.KernelWinbIdeal.τ).loc Cert.KernelWinbIdeal.main_arg1) = m ((c.tc : Thread Cert.KernelWinbIdeal.nD Cert.KernelWinbIdeal.τ).loc Cert.KernelWinbIdeal.main_arg1)
          ∧ r.2.mem ((c.tc : Thread Cert.KernelWinbIdeal.nD Cert.KernelWinbIdeal.τ).loc Cert.KernelWinbIdeal.main_arg2) = m ((c.tc : Thread Cert.KernelWinbIdeal.nD Cert.KernelWinbIdeal.τ).loc Cert.KernelWinbIdeal.main_arg2)
          ∧ r.2.mem ((c.tc : Thread Cert.KernelWinbIdeal.nD Cert.KernelWinbIdeal.τ).loc Cert.KernelWinbIdeal.main_arg3) = m ((c.tc : Thread Cert.KernelWinbIdeal.nD Cert.KernelWinbIdeal.τ).loc Cert.KernelWinbIdeal.main_arg3)
          ∧ r.2.mem ((c.tc : Thread Cert.KernelWinbIdeal.nD Cert.KernelWinbIdeal.τ).loc Cert.KernelWinbIdeal.main_arg4) = m ((c.tc : Thread Cert.KernelWinbIdeal.nD Cert.KernelWinbIdeal.τ).loc Cert.KernelWinbIdeal.main_arg4))
      ∧ θ_run (Cert.ReferenceWinbIdeal.defs (F := Ideal)) (onTc (τ := Cert.ReferenceWinbIdeal.τ) (Cert.ReferenceWinbIdeal.main (F := Ideal))) ⟨m', fun _ => 0, g'⟩ (fun r => ∀ c : Dev Cert.ReferenceWinbIdeal.nD,
          r.2.mem ((c.tc : Thread Cert.ReferenceWinbIdeal.nD Cert.ReferenceWinbIdeal.τ).loc Cert.ReferenceWinbIdeal.main_v11) = v0 c
          ∧ r.2.mem ((c.tc : Thread Cert.ReferenceWinbIdeal.nD Cert.ReferenceWinbIdeal.τ).loc Cert.ReferenceWinbIdeal.main_arg0) = m' ((c.tc : Thread Cert.ReferenceWinbIdeal.nD Cert.ReferenceWinbIdeal.τ).loc Cert.ReferenceWinbIdeal.main_arg0)
          ∧ r.2.mem ((c.tc : Thread Cert.ReferenceWinbIdeal.nD Cert.ReferenceWinbIdeal.τ).loc Cert.ReferenceWinbIdeal.main_arg1) = m' ((c.tc : Thread Cert.ReferenceWinbIdeal.nD Cert.ReferenceWinbIdeal.τ).loc Cert.ReferenceWinbIdeal.main_arg1)
          ∧ r.2.mem ((c.tc : Thread Cert.ReferenceWinbIdeal.nD Cert.ReferenceWinbIdeal.τ).loc Cert.ReferenceWinbIdeal.main_arg2) = m' ((c.tc : Thread Cert.ReferenceWinbIdeal.nD Cert.ReferenceWinbIdeal.τ).loc Cert.ReferenceWinbIdeal.main_arg2)
          ∧ r.2.mem ((c.tc : Thread Cert.ReferenceWinbIdeal.nD Cert.ReferenceWinbIdeal.τ).loc Cert.ReferenceWinbIdeal.main_arg3) = m' ((c.tc : Thread Cert.ReferenceWinbIdeal.nD Cert.ReferenceWinbIdeal.τ).loc Cert.ReferenceWinbIdeal.main_arg3)
          ∧ r.2.mem ((c.tc : Thread Cert.ReferenceWinbIdeal.nD Cert.ReferenceWinbIdeal.τ).loc Cert.ReferenceWinbIdeal.main_arg4) = m' ((c.tc : Thread Cert.ReferenceWinbIdeal.nD Cert.ReferenceWinbIdeal.τ).loc Cert.ReferenceWinbIdeal.main_arg4))

def preserves_KernelWind_KernelWindIdeal : Prop :=
  True

def algebraic_KernelWindIdeal_ReferenceWindIdeal [hKernelWindIdeal : Cert.KernelWindIdeal.Facts] [hReferenceWindIdeal : Cert.ReferenceWindIdeal.Facts] : Prop :=
  ∀ (m : (ℓ : Loc Cert.KernelWindIdeal.nD Cert.KernelWindIdeal.τ Cert.KernelWindIdeal.sig) → Buf (Elt Ideal) ℓ) (g : Dev Cert.KernelWindIdeal.nD → PrngReg)
    (m' : (ℓ : Loc Cert.ReferenceWindIdeal.nD Cert.ReferenceWindIdeal.τ Cert.ReferenceWindIdeal.sig) → Buf (Elt Ideal) ℓ) (g' : Dev Cert.ReferenceWindIdeal.nD → PrngReg), Pre_KernelWindIdeal m →
    (∀ c : Dev Cert.KernelWindIdeal.nD,
      m' ((c.tc : Thread Cert.ReferenceWindIdeal.nD Cert.ReferenceWindIdeal.τ).loc Cert.ReferenceWindIdeal.main_arg0) = m ((c.tc : Thread Cert.KernelWindIdeal.nD Cert.KernelWindIdeal.τ).loc Cert.KernelWindIdeal.main_arg0)
      ∧ m' ((c.tc : Thread Cert.ReferenceWindIdeal.nD Cert.ReferenceWindIdeal.τ).loc Cert.ReferenceWindIdeal.main_arg1) = m ((c.tc : Thread Cert.KernelWindIdeal.nD Cert.KernelWindIdeal.τ).loc Cert.KernelWindIdeal.main_arg1)
      ∧ m' ((c.tc : Thread Cert.ReferenceWindIdeal.nD Cert.ReferenceWindIdeal.τ).loc Cert.ReferenceWindIdeal.main_arg2) = m ((c.tc : Thread Cert.KernelWindIdeal.nD Cert.KernelWindIdeal.τ).loc Cert.KernelWindIdeal.main_arg2)
      ∧ m' ((c.tc : Thread Cert.ReferenceWindIdeal.nD Cert.ReferenceWindIdeal.τ).loc Cert.ReferenceWindIdeal.main_arg3) = m ((c.tc : Thread Cert.KernelWindIdeal.nD Cert.KernelWindIdeal.τ).loc Cert.KernelWindIdeal.main_arg3)
      ∧ m' ((c.tc : Thread Cert.ReferenceWindIdeal.nD Cert.ReferenceWindIdeal.τ).loc Cert.ReferenceWindIdeal.main_arg4) = m ((c.tc : Thread Cert.KernelWindIdeal.nD Cert.KernelWindIdeal.τ).loc Cert.KernelWindIdeal.main_arg4)) →
    ∃ (v0 : (c : Dev Cert.KernelWindIdeal.nD) → Buf (Elt Ideal) ((c.tc : Thread Cert.KernelWindIdeal.nD Cert.KernelWindIdeal.τ).loc Cert.KernelWindIdeal.main_v0)),
      θ_run (Cert.KernelWindIdeal.defs (F := Ideal)) (onTc (τ := Cert.KernelWindIdeal.τ) (Cert.KernelWindIdeal.main (F := Ideal))) ⟨m, fun _ => 0, g⟩ (fun r => ∀ c : Dev Cert.KernelWindIdeal.nD,
          r.2.mem ((c.tc : Thread Cert.KernelWindIdeal.nD Cert.KernelWindIdeal.τ).loc Cert.KernelWindIdeal.main_v0) = v0 c
          ∧ r.2.mem ((c.tc : Thread Cert.KernelWindIdeal.nD Cert.KernelWindIdeal.τ).loc Cert.KernelWindIdeal.main_arg0) = m ((c.tc : Thread Cert.KernelWindIdeal.nD Cert.KernelWindIdeal.τ).loc Cert.KernelWindIdeal.main_arg0)
          ∧ r.2.mem ((c.tc : Thread Cert.KernelWindIdeal.nD Cert.KernelWindIdeal.τ).loc Cert.KernelWindIdeal.main_arg1) = m ((c.tc : Thread Cert.KernelWindIdeal.nD Cert.KernelWindIdeal.τ).loc Cert.KernelWindIdeal.main_arg1)
          ∧ r.2.mem ((c.tc : Thread Cert.KernelWindIdeal.nD Cert.KernelWindIdeal.τ).loc Cert.KernelWindIdeal.main_arg2) = m ((c.tc : Thread Cert.KernelWindIdeal.nD Cert.KernelWindIdeal.τ).loc Cert.KernelWindIdeal.main_arg2)
          ∧ r.2.mem ((c.tc : Thread Cert.KernelWindIdeal.nD Cert.KernelWindIdeal.τ).loc Cert.KernelWindIdeal.main_arg3) = m ((c.tc : Thread Cert.KernelWindIdeal.nD Cert.KernelWindIdeal.τ).loc Cert.KernelWindIdeal.main_arg3)
          ∧ r.2.mem ((c.tc : Thread Cert.KernelWindIdeal.nD Cert.KernelWindIdeal.τ).loc Cert.KernelWindIdeal.main_arg4) = m ((c.tc : Thread Cert.KernelWindIdeal.nD Cert.KernelWindIdeal.τ).loc Cert.KernelWindIdeal.main_arg4))
      ∧ θ_run (Cert.ReferenceWindIdeal.defs (F := Ideal)) (onTc (τ := Cert.ReferenceWindIdeal.τ) (Cert.ReferenceWindIdeal.main (F := Ideal))) ⟨m', fun _ => 0, g'⟩ (fun r => ∀ c : Dev Cert.ReferenceWindIdeal.nD,
          r.2.mem ((c.tc : Thread Cert.ReferenceWindIdeal.nD Cert.ReferenceWindIdeal.τ).loc Cert.ReferenceWindIdeal.main_v11) = v0 c
          ∧ r.2.mem ((c.tc : Thread Cert.ReferenceWindIdeal.nD Cert.ReferenceWindIdeal.τ).loc Cert.ReferenceWindIdeal.main_arg0) = m' ((c.tc : Thread Cert.ReferenceWindIdeal.nD Cert.ReferenceWindIdeal.τ).loc Cert.ReferenceWindIdeal.main_arg0)
          ∧ r.2.mem ((c.tc : Thread Cert.ReferenceWindIdeal.nD Cert.ReferenceWindIdeal.τ).loc Cert.ReferenceWindIdeal.main_arg1) = m' ((c.tc : Thread Cert.ReferenceWindIdeal.nD Cert.ReferenceWindIdeal.τ).loc Cert.ReferenceWindIdeal.main_arg1)
          ∧ r.2.mem ((c.tc : Thread Cert.ReferenceWindIdeal.nD Cert.ReferenceWindIdeal.τ).loc Cert.ReferenceWindIdeal.main_arg2) = m' ((c.tc : Thread Cert.ReferenceWindIdeal.nD Cert.ReferenceWindIdeal.τ).loc Cert.ReferenceWindIdeal.main_arg2)
          ∧ r.2.mem ((c.tc : Thread Cert.ReferenceWindIdeal.nD Cert.ReferenceWindIdeal.τ).loc Cert.ReferenceWindIdeal.main_arg3) = m' ((c.tc : Thread Cert.ReferenceWindIdeal.nD Cert.ReferenceWindIdeal.τ).loc Cert.ReferenceWindIdeal.main_arg3)
          ∧ r.2.mem ((c.tc : Thread Cert.ReferenceWindIdeal.nD Cert.ReferenceWindIdeal.τ).loc Cert.ReferenceWindIdeal.main_arg4) = m' ((c.tc : Thread Cert.ReferenceWindIdeal.nD Cert.ReferenceWindIdeal.τ).loc Cert.ReferenceWindIdeal.main_arg4))

def preserves_KernelFin_KernelFinIdeal : Prop :=
  True

def algebraic_KernelFinIdeal_ReferenceFinIdeal [hKernelFinIdeal : Cert.KernelFinIdeal.Facts] [hReferenceFinIdeal : Cert.ReferenceFinIdeal.Facts] : Prop :=
  ∀ (m : (ℓ : Loc Cert.KernelFinIdeal.nD Cert.KernelFinIdeal.τ Cert.KernelFinIdeal.sig) → Buf (Elt Ideal) ℓ) (g : Dev Cert.KernelFinIdeal.nD → PrngReg)
    (m' : (ℓ : Loc Cert.ReferenceFinIdeal.nD Cert.ReferenceFinIdeal.τ Cert.ReferenceFinIdeal.sig) → Buf (Elt Ideal) ℓ) (g' : Dev Cert.ReferenceFinIdeal.nD → PrngReg), Pre_KernelFinIdeal m →
    (∀ c : Dev Cert.KernelFinIdeal.nD,
      m' ((c.tc : Thread Cert.ReferenceFinIdeal.nD Cert.ReferenceFinIdeal.τ).loc Cert.ReferenceFinIdeal.main_arg0) = m ((c.tc : Thread Cert.KernelFinIdeal.nD Cert.KernelFinIdeal.τ).loc Cert.KernelFinIdeal.main_arg0)
      ∧ m' ((c.tc : Thread Cert.ReferenceFinIdeal.nD Cert.ReferenceFinIdeal.τ).loc Cert.ReferenceFinIdeal.main_arg1) = m ((c.tc : Thread Cert.KernelFinIdeal.nD Cert.KernelFinIdeal.τ).loc Cert.KernelFinIdeal.main_arg1)) →
    ∃ (v0 : (c : Dev Cert.KernelFinIdeal.nD) → Buf (Elt Ideal) ((c.tc : Thread Cert.KernelFinIdeal.nD Cert.KernelFinIdeal.τ).loc Cert.KernelFinIdeal.main_v0)),
      θ_run (Cert.KernelFinIdeal.defs (F := Ideal)) (onTc (τ := Cert.KernelFinIdeal.τ) (Cert.KernelFinIdeal.main (F := Ideal))) ⟨m, fun _ => 0, g⟩ (fun r => ∀ c : Dev Cert.KernelFinIdeal.nD,
          r.2.mem ((c.tc : Thread Cert.KernelFinIdeal.nD Cert.KernelFinIdeal.τ).loc Cert.KernelFinIdeal.main_v0) = v0 c
          ∧ r.2.mem ((c.tc : Thread Cert.KernelFinIdeal.nD Cert.KernelFinIdeal.τ).loc Cert.KernelFinIdeal.main_arg0) = m ((c.tc : Thread Cert.KernelFinIdeal.nD Cert.KernelFinIdeal.τ).loc Cert.KernelFinIdeal.main_arg0)
          ∧ r.2.mem ((c.tc : Thread Cert.KernelFinIdeal.nD Cert.KernelFinIdeal.τ).loc Cert.KernelFinIdeal.main_arg1) = m ((c.tc : Thread Cert.KernelFinIdeal.nD Cert.KernelFinIdeal.τ).loc Cert.KernelFinIdeal.main_arg1))
      ∧ θ_run (Cert.ReferenceFinIdeal.defs (F := Ideal)) (onTc (τ := Cert.ReferenceFinIdeal.τ) (Cert.ReferenceFinIdeal.main (F := Ideal))) ⟨m', fun _ => 0, g'⟩ (fun r => ∀ c : Dev Cert.ReferenceFinIdeal.nD,
          r.2.mem ((c.tc : Thread Cert.ReferenceFinIdeal.nD Cert.ReferenceFinIdeal.τ).loc Cert.ReferenceFinIdeal.main_v4) = v0 c
          ∧ r.2.mem ((c.tc : Thread Cert.ReferenceFinIdeal.nD Cert.ReferenceFinIdeal.τ).loc Cert.ReferenceFinIdeal.main_arg0) = m' ((c.tc : Thread Cert.ReferenceFinIdeal.nD Cert.ReferenceFinIdeal.τ).loc Cert.ReferenceFinIdeal.main_arg0)
          ∧ r.2.mem ((c.tc : Thread Cert.ReferenceFinIdeal.nD Cert.ReferenceFinIdeal.τ).loc Cert.ReferenceFinIdeal.main_arg1) = m' ((c.tc : Thread Cert.ReferenceFinIdeal.nD Cert.ReferenceFinIdeal.τ).loc Cert.ReferenceFinIdeal.main_arg1))

def preserves_KernelWfin_KernelWfinIdeal : Prop :=
  True

def algebraic_KernelWfinIdeal_ReferenceWfinIdeal [hKernelWfinIdeal : Cert.KernelWfinIdeal.Facts] [hReferenceWfinIdeal : Cert.ReferenceWfinIdeal.Facts] : Prop :=
  ∀ (m : (ℓ : Loc Cert.KernelWfinIdeal.nD Cert.KernelWfinIdeal.τ Cert.KernelWfinIdeal.sig) → Buf (Elt Ideal) ℓ) (g : Dev Cert.KernelWfinIdeal.nD → PrngReg)
    (m' : (ℓ : Loc Cert.ReferenceWfinIdeal.nD Cert.ReferenceWfinIdeal.τ Cert.ReferenceWfinIdeal.sig) → Buf (Elt Ideal) ℓ) (g' : Dev Cert.ReferenceWfinIdeal.nD → PrngReg), Pre_KernelWfinIdeal m →
    (∀ c : Dev Cert.KernelWfinIdeal.nD,
      m' ((c.tc : Thread Cert.ReferenceWfinIdeal.nD Cert.ReferenceWfinIdeal.τ).loc Cert.ReferenceWfinIdeal.main_arg0) = m ((c.tc : Thread Cert.KernelWfinIdeal.nD Cert.KernelWfinIdeal.τ).loc Cert.KernelWfinIdeal.main_arg0)
      ∧ m' ((c.tc : Thread Cert.ReferenceWfinIdeal.nD Cert.ReferenceWfinIdeal.τ).loc Cert.ReferenceWfinIdeal.main_arg1) = m ((c.tc : Thread Cert.KernelWfinIdeal.nD Cert.KernelWfinIdeal.τ).loc Cert.KernelWfinIdeal.main_arg1)
      ∧ m' ((c.tc : Thread Cert.ReferenceWfinIdeal.nD Cert.ReferenceWfinIdeal.τ).loc Cert.ReferenceWfinIdeal.main_arg2) = m ((c.tc : Thread Cert.KernelWfinIdeal.nD Cert.KernelWfinIdeal.τ).loc Cert.KernelWfinIdeal.main_arg2)) →
    ∃ (v0 : (c : Dev Cert.KernelWfinIdeal.nD) → Buf (Elt Ideal) ((c.tc : Thread Cert.KernelWfinIdeal.nD Cert.KernelWfinIdeal.τ).loc Cert.KernelWfinIdeal.main_v0)),
      θ_run (Cert.KernelWfinIdeal.defs (F := Ideal)) (onTc (τ := Cert.KernelWfinIdeal.τ) (Cert.KernelWfinIdeal.main (F := Ideal))) ⟨m, fun _ => 0, g⟩ (fun r => ∀ c : Dev Cert.KernelWfinIdeal.nD,
          r.2.mem ((c.tc : Thread Cert.KernelWfinIdeal.nD Cert.KernelWfinIdeal.τ).loc Cert.KernelWfinIdeal.main_v0) = v0 c
          ∧ r.2.mem ((c.tc : Thread Cert.KernelWfinIdeal.nD Cert.KernelWfinIdeal.τ).loc Cert.KernelWfinIdeal.main_arg0) = m ((c.tc : Thread Cert.KernelWfinIdeal.nD Cert.KernelWfinIdeal.τ).loc Cert.KernelWfinIdeal.main_arg0)
          ∧ r.2.mem ((c.tc : Thread Cert.KernelWfinIdeal.nD Cert.KernelWfinIdeal.τ).loc Cert.KernelWfinIdeal.main_arg1) = m ((c.tc : Thread Cert.KernelWfinIdeal.nD Cert.KernelWfinIdeal.τ).loc Cert.KernelWfinIdeal.main_arg1)
          ∧ r.2.mem ((c.tc : Thread Cert.KernelWfinIdeal.nD Cert.KernelWfinIdeal.τ).loc Cert.KernelWfinIdeal.main_arg2) = m ((c.tc : Thread Cert.KernelWfinIdeal.nD Cert.KernelWfinIdeal.τ).loc Cert.KernelWfinIdeal.main_arg2))
      ∧ θ_run (Cert.ReferenceWfinIdeal.defs (F := Ideal)) (onTc (τ := Cert.ReferenceWfinIdeal.τ) (Cert.ReferenceWfinIdeal.main (F := Ideal))) ⟨m', fun _ => 0, g'⟩ (fun r => ∀ c : Dev Cert.ReferenceWfinIdeal.nD,
          r.2.mem ((c.tc : Thread Cert.ReferenceWfinIdeal.nD Cert.ReferenceWfinIdeal.τ).loc Cert.ReferenceWfinIdeal.main_v10) = v0 c
          ∧ r.2.mem ((c.tc : Thread Cert.ReferenceWfinIdeal.nD Cert.ReferenceWfinIdeal.τ).loc Cert.ReferenceWfinIdeal.main_arg0) = m' ((c.tc : Thread Cert.ReferenceWfinIdeal.nD Cert.ReferenceWfinIdeal.τ).loc Cert.ReferenceWfinIdeal.main_arg0)
          ∧ r.2.mem ((c.tc : Thread Cert.ReferenceWfinIdeal.nD Cert.ReferenceWfinIdeal.τ).loc Cert.ReferenceWfinIdeal.main_arg1) = m' ((c.tc : Thread Cert.ReferenceWfinIdeal.nD Cert.ReferenceWfinIdeal.τ).loc Cert.ReferenceWfinIdeal.main_arg1)
          ∧ r.2.mem ((c.tc : Thread Cert.ReferenceWfinIdeal.nD Cert.ReferenceWfinIdeal.τ).loc Cert.ReferenceWfinIdeal.main_arg2) = m' ((c.tc : Thread Cert.ReferenceWfinIdeal.nD Cert.ReferenceWfinIdeal.τ).loc Cert.ReferenceWfinIdeal.main_arg2))

def preserves_KernelDfin_KernelDfinIdeal : Prop :=
  True

def algebraic_KernelDfinIdeal_ReferenceDfinIdeal [hKernelDfinIdeal : Cert.KernelDfinIdeal.Facts] [hReferenceDfinIdeal : Cert.ReferenceDfinIdeal.Facts] : Prop :=
  ∀ (m : (ℓ : Loc Cert.KernelDfinIdeal.nD Cert.KernelDfinIdeal.τ Cert.KernelDfinIdeal.sig) → Buf (Elt Ideal) ℓ) (g : Dev Cert.KernelDfinIdeal.nD → PrngReg)
    (m' : (ℓ : Loc Cert.ReferenceDfinIdeal.nD Cert.ReferenceDfinIdeal.τ Cert.ReferenceDfinIdeal.sig) → Buf (Elt Ideal) ℓ) (g' : Dev Cert.ReferenceDfinIdeal.nD → PrngReg), Pre_KernelDfinIdeal m →
    (∀ c : Dev Cert.KernelDfinIdeal.nD,
      m' ((c.tc : Thread Cert.ReferenceDfinIdeal.nD Cert.ReferenceDfinIdeal.τ).loc Cert.ReferenceDfinIdeal.main_arg0) = m ((c.tc : Thread Cert.KernelDfinIdeal.nD Cert.KernelDfinIdeal.τ).loc Cert.KernelDfinIdeal.main_arg0)
      ∧ m' ((c.tc : Thread Cert.ReferenceDfinIdeal.nD Cert.ReferenceDfinIdeal.τ).loc Cert.ReferenceDfinIdeal.main_arg1) = m ((c.tc : Thread Cert.KernelDfinIdeal.nD Cert.KernelDfinIdeal.τ).loc Cert.KernelDfinIdeal.main_arg1)
      ∧ m' ((c.tc : Thread Cert.ReferenceDfinIdeal.nD Cert.ReferenceDfinIdeal.τ).loc Cert.ReferenceDfinIdeal.main_arg2) = m ((c.tc : Thread Cert.KernelDfinIdeal.nD Cert.KernelDfinIdeal.τ).loc Cert.KernelDfinIdeal.main_arg2)) →
    ∃ (v0 : (c : Dev Cert.KernelDfinIdeal.nD) → Buf (Elt Ideal) ((c.tc : Thread Cert.KernelDfinIdeal.nD Cert.KernelDfinIdeal.τ).loc Cert.KernelDfinIdeal.main_v0)),
      θ_run (Cert.KernelDfinIdeal.defs (F := Ideal)) (onTc (τ := Cert.KernelDfinIdeal.τ) (Cert.KernelDfinIdeal.main (F := Ideal))) ⟨m, fun _ => 0, g⟩ (fun r => ∀ c : Dev Cert.KernelDfinIdeal.nD,
          r.2.mem ((c.tc : Thread Cert.KernelDfinIdeal.nD Cert.KernelDfinIdeal.τ).loc Cert.KernelDfinIdeal.main_v0) = v0 c
          ∧ r.2.mem ((c.tc : Thread Cert.KernelDfinIdeal.nD Cert.KernelDfinIdeal.τ).loc Cert.KernelDfinIdeal.main_arg0) = m ((c.tc : Thread Cert.KernelDfinIdeal.nD Cert.KernelDfinIdeal.τ).loc Cert.KernelDfinIdeal.main_arg0)
          ∧ r.2.mem ((c.tc : Thread Cert.KernelDfinIdeal.nD Cert.KernelDfinIdeal.τ).loc Cert.KernelDfinIdeal.main_arg1) = m ((c.tc : Thread Cert.KernelDfinIdeal.nD Cert.KernelDfinIdeal.τ).loc Cert.KernelDfinIdeal.main_arg1)
          ∧ r.2.mem ((c.tc : Thread Cert.KernelDfinIdeal.nD Cert.KernelDfinIdeal.τ).loc Cert.KernelDfinIdeal.main_arg2) = m ((c.tc : Thread Cert.KernelDfinIdeal.nD Cert.KernelDfinIdeal.τ).loc Cert.KernelDfinIdeal.main_arg2))
      ∧ θ_run (Cert.ReferenceDfinIdeal.defs (F := Ideal)) (onTc (τ := Cert.ReferenceDfinIdeal.τ) (Cert.ReferenceDfinIdeal.main (F := Ideal))) ⟨m', fun _ => 0, g'⟩ (fun r => ∀ c : Dev Cert.ReferenceDfinIdeal.nD,
          r.2.mem ((c.tc : Thread Cert.ReferenceDfinIdeal.nD Cert.ReferenceDfinIdeal.τ).loc Cert.ReferenceDfinIdeal.main_v6) = v0 c
          ∧ r.2.mem ((c.tc : Thread Cert.ReferenceDfinIdeal.nD Cert.ReferenceDfinIdeal.τ).loc Cert.ReferenceDfinIdeal.main_arg0) = m' ((c.tc : Thread Cert.ReferenceDfinIdeal.nD Cert.ReferenceDfinIdeal.τ).loc Cert.ReferenceDfinIdeal.main_arg0)
          ∧ r.2.mem ((c.tc : Thread Cert.ReferenceDfinIdeal.nD Cert.ReferenceDfinIdeal.τ).loc Cert.ReferenceDfinIdeal.main_arg1) = m' ((c.tc : Thread Cert.ReferenceDfinIdeal.nD Cert.ReferenceDfinIdeal.τ).loc Cert.ReferenceDfinIdeal.main_arg1)
          ∧ r.2.mem ((c.tc : Thread Cert.ReferenceDfinIdeal.nD Cert.ReferenceDfinIdeal.τ).loc Cert.ReferenceDfinIdeal.main_arg2) = m' ((c.tc : Thread Cert.ReferenceDfinIdeal.nD Cert.ReferenceDfinIdeal.τ).loc Cert.ReferenceDfinIdeal.main_arg2))

def preserves_KernelDh_KernelDhIdeal : Prop :=
  True

def algebraic_KernelDhIdeal_ReferenceDhIdeal [hKernelDhIdeal : Cert.KernelDhIdeal.Facts] [hReferenceDhIdeal : Cert.ReferenceDhIdeal.Facts] : Prop :=
  ∀ (m : (ℓ : Loc Cert.KernelDhIdeal.nD Cert.KernelDhIdeal.τ Cert.KernelDhIdeal.sig) → Buf (Elt Ideal) ℓ) (g : Dev Cert.KernelDhIdeal.nD → PrngReg)
    (m' : (ℓ : Loc Cert.ReferenceDhIdeal.nD Cert.ReferenceDhIdeal.τ Cert.ReferenceDhIdeal.sig) → Buf (Elt Ideal) ℓ) (g' : Dev Cert.ReferenceDhIdeal.nD → PrngReg), Pre_KernelDhIdeal m →
    (∀ c : Dev Cert.KernelDhIdeal.nD,
      m' ((c.tc : Thread Cert.ReferenceDhIdeal.nD Cert.ReferenceDhIdeal.τ).loc Cert.ReferenceDhIdeal.main_arg0) = m ((c.tc : Thread Cert.KernelDhIdeal.nD Cert.KernelDhIdeal.τ).loc Cert.KernelDhIdeal.main_arg0)
      ∧ m' ((c.tc : Thread Cert.ReferenceDhIdeal.nD Cert.ReferenceDhIdeal.τ).loc Cert.ReferenceDhIdeal.main_arg1) = m ((c.tc : Thread Cert.KernelDhIdeal.nD Cert.KernelDhIdeal.τ).loc Cert.KernelDhIdeal.main_arg1)
      ∧ m' ((c.tc : Thread Cert.ReferenceDhIdeal.nD Cert.ReferenceDhIdeal.τ).loc Cert.ReferenceDhIdeal.main_arg2) = m ((c.tc : Thread Cert.KernelDhIdeal.nD Cert.KernelDhIdeal.τ).loc Cert.KernelDhIdeal.main_arg2)) →
    ∃ (v0 : (c : Dev Cert.KernelDhIdeal.nD) → Buf (Elt Ideal) ((c.tc : Thread Cert.KernelDhIdeal.nD Cert.KernelDhIdeal.τ).loc Cert.KernelDhIdeal.main_v7)),
      θ_run (Cert.KernelDhIdeal.defs (F := Ideal)) (onTc (τ := Cert.KernelDhIdeal.τ) (Cert.KernelDhIdeal.main (F := Ideal))) ⟨m, fun _ => 0, g⟩ (fun r => ∀ c : Dev Cert.KernelDhIdeal.nD,
          r.2.mem ((c.tc : Thread Cert.KernelDhIdeal.nD Cert.KernelDhIdeal.τ).loc Cert.KernelDhIdeal.main_v7) = v0 c
          ∧ r.2.mem ((c.tc : Thread Cert.KernelDhIdeal.nD Cert.KernelDhIdeal.τ).loc Cert.KernelDhIdeal.main_arg0) = m ((c.tc : Thread Cert.KernelDhIdeal.nD Cert.KernelDhIdeal.τ).loc Cert.KernelDhIdeal.main_arg0)
          ∧ r.2.mem ((c.tc : Thread Cert.KernelDhIdeal.nD Cert.KernelDhIdeal.τ).loc Cert.KernelDhIdeal.main_arg1) = m ((c.tc : Thread Cert.KernelDhIdeal.nD Cert.KernelDhIdeal.τ).loc Cert.KernelDhIdeal.main_arg1)
          ∧ r.2.mem ((c.tc : Thread Cert.KernelDhIdeal.nD Cert.KernelDhIdeal.τ).loc Cert.KernelDhIdeal.main_arg2) = m ((c.tc : Thread Cert.KernelDhIdeal.nD Cert.KernelDhIdeal.τ).loc Cert.KernelDhIdeal.main_arg2))
      ∧ θ_run (Cert.ReferenceDhIdeal.defs (F := Ideal)) (onTc (τ := Cert.ReferenceDhIdeal.τ) (Cert.ReferenceDhIdeal.main (F := Ideal))) ⟨m', fun _ => 0, g'⟩ (fun r => ∀ c : Dev Cert.ReferenceDhIdeal.nD,
          r.2.mem ((c.tc : Thread Cert.ReferenceDhIdeal.nD Cert.ReferenceDhIdeal.τ).loc Cert.ReferenceDhIdeal.main_v3) = v0 c
          ∧ r.2.mem ((c.tc : Thread Cert.ReferenceDhIdeal.nD Cert.ReferenceDhIdeal.τ).loc Cert.ReferenceDhIdeal.main_arg0) = m' ((c.tc : Thread Cert.ReferenceDhIdeal.nD Cert.ReferenceDhIdeal.τ).loc Cert.ReferenceDhIdeal.main_arg0)
          ∧ r.2.mem ((c.tc : Thread Cert.ReferenceDhIdeal.nD Cert.ReferenceDhIdeal.τ).loc Cert.ReferenceDhIdeal.main_arg1) = m' ((c.tc : Thread Cert.ReferenceDhIdeal.nD Cert.ReferenceDhIdeal.τ).loc Cert.ReferenceDhIdeal.main_arg1)
          ∧ r.2.mem ((c.tc : Thread Cert.ReferenceDhIdeal.nD Cert.ReferenceDhIdeal.τ).loc Cert.ReferenceDhIdeal.main_arg2) = m' ((c.tc : Thread Cert.ReferenceDhIdeal.nD Cert.ReferenceDhIdeal.τ).loc Cert.ReferenceDhIdeal.main_arg2))

def Claim : Prop :=
  ∃ (hKernelAtt : Cert.KernelAtt.Facts) (hKernelAttIdeal : Cert.KernelAttIdeal.Facts) (hReferenceAttIdeal : Cert.ReferenceAttIdeal.Facts) (hKernelIn : Cert.KernelIn.Facts) (hKernelInIdeal : Cert.KernelInIdeal.Facts) (hReferenceInIdeal : Cert.ReferenceInIdeal.Facts) (hKernelMix : Cert.KernelMix.Facts) (hKernelMixIdeal : Cert.KernelMixIdeal.Facts) (hReferenceMixIdeal : Cert.ReferenceMixIdeal.Facts) (hKernelLn1 : Cert.KernelLn1.Facts) (hKernelLn1Ideal : Cert.KernelLn1Ideal.Facts) (hReferenceLn1Ideal : Cert.ReferenceLn1Ideal.Facts) (hKernelLn2 : Cert.KernelLn2.Facts) (hKernelLn2Ideal : Cert.KernelLn2Ideal.Facts) (hReferenceLn2Ideal : Cert.ReferenceLn2Ideal.Facts) (hKernelGate : Cert.KernelGate.Facts) (hKernelGateIdeal : Cert.KernelGateIdeal.Facts) (hReferenceGateIdeal : Cert.ReferenceGateIdeal.Facts) (hKernelCum : Cert.KernelCum.Facts) (hKernelCumIdeal : Cert.KernelCumIdeal.Facts) (hReferenceCumIdeal : Cert.ReferenceCumIdeal.Facts) (hKernelAda : Cert.KernelAda.Facts) (hKernelAdaIdeal : Cert.KernelAdaIdeal.Facts) (hReferenceAdaIdeal : Cert.ReferenceAdaIdeal.Facts) (hKernelMod : Cert.KernelMod.Facts) (hKernelModIdeal : Cert.KernelModIdeal.Facts) (hReferenceModIdeal : Cert.ReferenceModIdeal.Facts) (hKernelRms : Cert.KernelRms.Facts) (hKernelRmsIdeal : Cert.KernelRmsIdeal.Facts) (hReferenceRmsIdeal : Cert.ReferenceRmsIdeal.Facts) (hKernelNorm : Cert.KernelNorm.Facts) (hKernelNormIdeal : Cert.KernelNormIdeal.Facts) (hReferenceNormIdeal : Cert.ReferenceNormIdeal.Facts) (hKernelAct : Cert.KernelAct.Facts) (hKernelActIdeal : Cert.KernelActIdeal.Facts) (hReferenceActIdeal : Cert.ReferenceActIdeal.Facts) (hKernelSums : Cert.KernelSums.Facts) (hKernelSumsIdeal : Cert.KernelSumsIdeal.Facts) (hReferenceSumsIdeal : Cert.ReferenceSumsIdeal.Facts) (hKernelProj : Cert.KernelProj.Facts) (hKernelProjIdeal : Cert.KernelProjIdeal.Facts) (hReferenceProjIdeal : Cert.ReferenceProjIdeal.Facts) (hKernelOut : Cert.KernelOut.Facts) (hKernelOutIdeal : Cert.KernelOutIdeal.Facts) (hReferenceOutIdeal : Cert.ReferenceOutIdeal.Facts) (hKernelDmix : Cert.KernelDmix.Facts) (hKernelDmixIdeal : Cert.KernelDmixIdeal.Facts) (hReferenceDmixIdeal : Cert.ReferenceDmixIdeal.Facts) (hKernelWout : Cert.KernelWout.Facts) (hKernelWoutIdeal : Cert.KernelWoutIdeal.Facts) (hReferenceWoutIdeal : Cert.ReferenceWoutIdeal.Facts) (hKernelFf : Cert.KernelFf.Facts) (hKernelFfIdeal : Cert.KernelFfIdeal.Facts) (hReferenceFfIdeal : Cert.ReferenceFfIdeal.Facts) (hKernelWff : Cert.KernelWff.Facts) (hKernelWffIdeal : Cert.KernelWffIdeal.Facts) (hReferenceWffIdeal : Cert.ReferenceWffIdeal.Facts) (hKernelWin : Cert.KernelWin.Facts) (hKernelWinIdeal : Cert.KernelWinIdeal.Facts) (hReferenceWinIdeal : Cert.ReferenceWinIdeal.Facts) (hKernelWinb : Cert.KernelWinb.Facts) (hKernelWinbIdeal : Cert.KernelWinbIdeal.Facts) (hReferenceWinbIdeal : Cert.ReferenceWinbIdeal.Facts) (hKernelWind : Cert.KernelWind.Facts) (hKernelWindIdeal : Cert.KernelWindIdeal.Facts) (hReferenceWindIdeal : Cert.ReferenceWindIdeal.Facts) (hKernelFin : Cert.KernelFin.Facts) (hKernelFinIdeal : Cert.KernelFinIdeal.Facts) (hReferenceFinIdeal : Cert.ReferenceFinIdeal.Facts) (hKernelWfin : Cert.KernelWfin.Facts) (hKernelWfinIdeal : Cert.KernelWfinIdeal.Facts) (hReferenceWfinIdeal : Cert.ReferenceWfinIdeal.Facts) (hKernelDfin : Cert.KernelDfin.Facts) (hKernelDfinIdeal : Cert.KernelDfinIdeal.Facts) (hReferenceDfinIdeal : Cert.ReferenceDfinIdeal.Facts) (hKernelDh : Cert.KernelDh.Facts) (hKernelDhIdeal : Cert.KernelDhIdeal.Facts) (hReferenceDhIdeal : Cert.ReferenceDhIdeal.Facts) (hPre_finite_att : Cert.Pre_finite_att.Facts) (hPre_finite_mix : Cert.Pre_finite_mix.Facts) (hPre_finite_ln1 : Cert.Pre_finite_ln1.Facts) (hPre_finite_ln2 : Cert.Pre_finite_ln2.Facts) (hPre_finite_cum : Cert.Pre_finite_cum.Facts) (hPre_finite_ada : Cert.Pre_finite_ada.Facts) (hPre_finite_mod : Cert.Pre_finite_mod.Facts) (hPre_finite_sums : Cert.Pre_finite_sums.Facts),
    quiescent_KernelAtt (hKernelAtt := hKernelAtt)
    ∧ quiescent_KernelAttIdeal (hKernelAttIdeal := hKernelAttIdeal)
    ∧ quiescent_KernelAttIdeal_pre_finite_att (hKernelAttIdeal := hKernelAttIdeal) (hPre_finite_att := hPre_finite_att)
    ∧ quiescent_ReferenceAttIdeal (hReferenceAttIdeal := hReferenceAttIdeal)
    ∧ quiescent_ReferenceAttIdeal_pre_finite_att (hReferenceAttIdeal := hReferenceAttIdeal) (hPre_finite_att := hPre_finite_att)
    ∧ quiescent_KernelIn (hKernelIn := hKernelIn)
    ∧ quiescent_KernelInIdeal (hKernelInIdeal := hKernelInIdeal)
    ∧ quiescent_ReferenceInIdeal (hReferenceInIdeal := hReferenceInIdeal)
    ∧ quiescent_KernelMix (hKernelMix := hKernelMix)
    ∧ quiescent_KernelMixIdeal (hKernelMixIdeal := hKernelMixIdeal)
    ∧ quiescent_KernelMixIdeal_pre_finite_mix (hKernelMixIdeal := hKernelMixIdeal) (hPre_finite_mix := hPre_finite_mix)
    ∧ quiescent_ReferenceMixIdeal (hReferenceMixIdeal := hReferenceMixIdeal)
    ∧ quiescent_ReferenceMixIdeal_pre_finite_mix (hReferenceMixIdeal := hReferenceMixIdeal) (hPre_finite_mix := hPre_finite_mix)
    ∧ quiescent_KernelLn1 (hKernelLn1 := hKernelLn1)
    ∧ quiescent_KernelLn1Ideal (hKernelLn1Ideal := hKernelLn1Ideal)
    ∧ quiescent_KernelLn1Ideal_pre_finite_ln1 (hKernelLn1Ideal := hKernelLn1Ideal) (hPre_finite_ln1 := hPre_finite_ln1)
    ∧ quiescent_ReferenceLn1Ideal (hReferenceLn1Ideal := hReferenceLn1Ideal)
    ∧ quiescent_ReferenceLn1Ideal_pre_finite_ln1 (hReferenceLn1Ideal := hReferenceLn1Ideal) (hPre_finite_ln1 := hPre_finite_ln1)
    ∧ quiescent_KernelLn2 (hKernelLn2 := hKernelLn2)
    ∧ quiescent_KernelLn2Ideal (hKernelLn2Ideal := hKernelLn2Ideal)
    ∧ quiescent_KernelLn2Ideal_pre_finite_ln2 (hKernelLn2Ideal := hKernelLn2Ideal) (hPre_finite_ln2 := hPre_finite_ln2)
    ∧ quiescent_ReferenceLn2Ideal (hReferenceLn2Ideal := hReferenceLn2Ideal)
    ∧ quiescent_ReferenceLn2Ideal_pre_finite_ln2 (hReferenceLn2Ideal := hReferenceLn2Ideal) (hPre_finite_ln2 := hPre_finite_ln2)
    ∧ quiescent_KernelGate (hKernelGate := hKernelGate)
    ∧ quiescent_KernelGateIdeal (hKernelGateIdeal := hKernelGateIdeal)
    ∧ quiescent_ReferenceGateIdeal (hReferenceGateIdeal := hReferenceGateIdeal)
    ∧ quiescent_KernelCum (hKernelCum := hKernelCum)
    ∧ quiescent_KernelCumIdeal (hKernelCumIdeal := hKernelCumIdeal)
    ∧ quiescent_KernelCumIdeal_pre_finite_cum (hKernelCumIdeal := hKernelCumIdeal) (hPre_finite_cum := hPre_finite_cum)
    ∧ quiescent_ReferenceCumIdeal (hReferenceCumIdeal := hReferenceCumIdeal)
    ∧ quiescent_ReferenceCumIdeal_pre_finite_cum (hReferenceCumIdeal := hReferenceCumIdeal) (hPre_finite_cum := hPre_finite_cum)
    ∧ quiescent_KernelAda (hKernelAda := hKernelAda)
    ∧ quiescent_KernelAdaIdeal (hKernelAdaIdeal := hKernelAdaIdeal)
    ∧ quiescent_KernelAdaIdeal_pre_finite_ada (hKernelAdaIdeal := hKernelAdaIdeal) (hPre_finite_ada := hPre_finite_ada)
    ∧ quiescent_ReferenceAdaIdeal (hReferenceAdaIdeal := hReferenceAdaIdeal)
    ∧ quiescent_ReferenceAdaIdeal_pre_finite_ada (hReferenceAdaIdeal := hReferenceAdaIdeal) (hPre_finite_ada := hPre_finite_ada)
    ∧ quiescent_KernelMod (hKernelMod := hKernelMod)
    ∧ quiescent_KernelModIdeal (hKernelModIdeal := hKernelModIdeal)
    ∧ quiescent_KernelModIdeal_pre_finite_mod (hKernelModIdeal := hKernelModIdeal) (hPre_finite_mod := hPre_finite_mod)
    ∧ quiescent_ReferenceModIdeal (hReferenceModIdeal := hReferenceModIdeal)
    ∧ quiescent_ReferenceModIdeal_pre_finite_mod (hReferenceModIdeal := hReferenceModIdeal) (hPre_finite_mod := hPre_finite_mod)
    ∧ quiescent_KernelRms (hKernelRms := hKernelRms)
    ∧ quiescent_KernelRmsIdeal (hKernelRmsIdeal := hKernelRmsIdeal)
    ∧ quiescent_ReferenceRmsIdeal (hReferenceRmsIdeal := hReferenceRmsIdeal)
    ∧ quiescent_KernelNorm (hKernelNorm := hKernelNorm)
    ∧ quiescent_KernelNormIdeal (hKernelNormIdeal := hKernelNormIdeal)
    ∧ quiescent_ReferenceNormIdeal (hReferenceNormIdeal := hReferenceNormIdeal)
    ∧ quiescent_KernelAct (hKernelAct := hKernelAct)
    ∧ quiescent_KernelActIdeal (hKernelActIdeal := hKernelActIdeal)
    ∧ quiescent_ReferenceActIdeal (hReferenceActIdeal := hReferenceActIdeal)
    ∧ quiescent_KernelSums (hKernelSums := hKernelSums)
    ∧ quiescent_KernelSumsIdeal (hKernelSumsIdeal := hKernelSumsIdeal)
    ∧ quiescent_KernelSumsIdeal_pre_finite_sums (hKernelSumsIdeal := hKernelSumsIdeal) (hPre_finite_sums := hPre_finite_sums)
    ∧ quiescent_ReferenceSumsIdeal (hReferenceSumsIdeal := hReferenceSumsIdeal)
    ∧ quiescent_ReferenceSumsIdeal_pre_finite_sums (hReferenceSumsIdeal := hReferenceSumsIdeal) (hPre_finite_sums := hPre_finite_sums)
    ∧ quiescent_KernelProj (hKernelProj := hKernelProj)
    ∧ quiescent_KernelProjIdeal (hKernelProjIdeal := hKernelProjIdeal)
    ∧ quiescent_ReferenceProjIdeal (hReferenceProjIdeal := hReferenceProjIdeal)
    ∧ quiescent_KernelOut (hKernelOut := hKernelOut)
    ∧ quiescent_KernelOutIdeal (hKernelOutIdeal := hKernelOutIdeal)
    ∧ quiescent_ReferenceOutIdeal (hReferenceOutIdeal := hReferenceOutIdeal)
    ∧ quiescent_KernelDmix (hKernelDmix := hKernelDmix)
    ∧ quiescent_KernelDmixIdeal (hKernelDmixIdeal := hKernelDmixIdeal)
    ∧ quiescent_ReferenceDmixIdeal (hReferenceDmixIdeal := hReferenceDmixIdeal)
    ∧ quiescent_KernelWout (hKernelWout := hKernelWout)
    ∧ quiescent_KernelWoutIdeal (hKernelWoutIdeal := hKernelWoutIdeal)
    ∧ quiescent_ReferenceWoutIdeal (hReferenceWoutIdeal := hReferenceWoutIdeal)
    ∧ quiescent_KernelFf (hKernelFf := hKernelFf)
    ∧ quiescent_KernelFfIdeal (hKernelFfIdeal := hKernelFfIdeal)
    ∧ quiescent_ReferenceFfIdeal (hReferenceFfIdeal := hReferenceFfIdeal)
    ∧ quiescent_KernelWff (hKernelWff := hKernelWff)
    ∧ quiescent_KernelWffIdeal (hKernelWffIdeal := hKernelWffIdeal)
    ∧ quiescent_ReferenceWffIdeal (hReferenceWffIdeal := hReferenceWffIdeal)
    ∧ quiescent_KernelWin (hKernelWin := hKernelWin)
    ∧ quiescent_KernelWinIdeal (hKernelWinIdeal := hKernelWinIdeal)
    ∧ quiescent_ReferenceWinIdeal (hReferenceWinIdeal := hReferenceWinIdeal)
    ∧ quiescent_KernelWinb (hKernelWinb := hKernelWinb)
    ∧ quiescent_KernelWinbIdeal (hKernelWinbIdeal := hKernelWinbIdeal)
    ∧ quiescent_ReferenceWinbIdeal (hReferenceWinbIdeal := hReferenceWinbIdeal)
    ∧ quiescent_KernelWind (hKernelWind := hKernelWind)
    ∧ quiescent_KernelWindIdeal (hKernelWindIdeal := hKernelWindIdeal)
    ∧ quiescent_ReferenceWindIdeal (hReferenceWindIdeal := hReferenceWindIdeal)
    ∧ quiescent_KernelFin (hKernelFin := hKernelFin)
    ∧ quiescent_KernelFinIdeal (hKernelFinIdeal := hKernelFinIdeal)
    ∧ quiescent_ReferenceFinIdeal (hReferenceFinIdeal := hReferenceFinIdeal)
    ∧ quiescent_KernelWfin (hKernelWfin := hKernelWfin)
    ∧ quiescent_KernelWfinIdeal (hKernelWfinIdeal := hKernelWfinIdeal)
    ∧ quiescent_ReferenceWfinIdeal (hReferenceWfinIdeal := hReferenceWfinIdeal)
    ∧ quiescent_KernelDfin (hKernelDfin := hKernelDfin)
    ∧ quiescent_KernelDfinIdeal (hKernelDfinIdeal := hKernelDfinIdeal)
    ∧ quiescent_ReferenceDfinIdeal (hReferenceDfinIdeal := hReferenceDfinIdeal)
    ∧ quiescent_KernelDh (hKernelDh := hKernelDh)
    ∧ quiescent_KernelDhIdeal (hKernelDhIdeal := hKernelDhIdeal)
    ∧ quiescent_ReferenceDhIdeal (hReferenceDhIdeal := hReferenceDhIdeal)
    ∧ preserves_KernelAtt_KernelAttIdeal
    ∧ algebraic_KernelAttIdeal_ReferenceAttIdeal_pre_finite_att (hKernelAttIdeal := hKernelAttIdeal) (hReferenceAttIdeal := hReferenceAttIdeal) (hPre_finite_att := hPre_finite_att)
    ∧ preserves_KernelIn_KernelInIdeal
    ∧ algebraic_KernelInIdeal_ReferenceInIdeal (hKernelInIdeal := hKernelInIdeal) (hReferenceInIdeal := hReferenceInIdeal)
    ∧ preserves_KernelMix_KernelMixIdeal
    ∧ algebraic_KernelMixIdeal_ReferenceMixIdeal_pre_finite_mix (hKernelMixIdeal := hKernelMixIdeal) (hReferenceMixIdeal := hReferenceMixIdeal) (hPre_finite_mix := hPre_finite_mix)
    ∧ preserves_KernelLn1_KernelLn1Ideal
    ∧ algebraic_KernelLn1Ideal_ReferenceLn1Ideal_pre_finite_ln1 (hKernelLn1Ideal := hKernelLn1Ideal) (hReferenceLn1Ideal := hReferenceLn1Ideal) (hPre_finite_ln1 := hPre_finite_ln1)
    ∧ preserves_KernelLn2_KernelLn2Ideal
    ∧ algebraic_KernelLn2Ideal_ReferenceLn2Ideal_pre_finite_ln2 (hKernelLn2Ideal := hKernelLn2Ideal) (hReferenceLn2Ideal := hReferenceLn2Ideal) (hPre_finite_ln2 := hPre_finite_ln2)
    ∧ preserves_KernelGate_KernelGateIdeal
    ∧ algebraic_KernelGateIdeal_ReferenceGateIdeal (hKernelGateIdeal := hKernelGateIdeal) (hReferenceGateIdeal := hReferenceGateIdeal)
    ∧ preserves_KernelCum_KernelCumIdeal
    ∧ algebraic_KernelCumIdeal_ReferenceCumIdeal_pre_finite_cum (hKernelCumIdeal := hKernelCumIdeal) (hReferenceCumIdeal := hReferenceCumIdeal) (hPre_finite_cum := hPre_finite_cum)
    ∧ preserves_KernelAda_KernelAdaIdeal
    ∧ algebraic_KernelAdaIdeal_ReferenceAdaIdeal_pre_finite_ada (hKernelAdaIdeal := hKernelAdaIdeal) (hReferenceAdaIdeal := hReferenceAdaIdeal) (hPre_finite_ada := hPre_finite_ada)
    ∧ preserves_KernelMod_KernelModIdeal
    ∧ algebraic_KernelModIdeal_ReferenceModIdeal_pre_finite_mod (hKernelModIdeal := hKernelModIdeal) (hReferenceModIdeal := hReferenceModIdeal) (hPre_finite_mod := hPre_finite_mod)
    ∧ preserves_KernelRms_KernelRmsIdeal
    ∧ algebraic_KernelRmsIdeal_ReferenceRmsIdeal (hKernelRmsIdeal := hKernelRmsIdeal) (hReferenceRmsIdeal := hReferenceRmsIdeal)
    ∧ preserves_KernelNorm_KernelNormIdeal
    ∧ algebraic_KernelNormIdeal_ReferenceNormIdeal (hKernelNormIdeal := hKernelNormIdeal) (hReferenceNormIdeal := hReferenceNormIdeal)
    ∧ preserves_KernelAct_KernelActIdeal
    ∧ algebraic_KernelActIdeal_ReferenceActIdeal (hKernelActIdeal := hKernelActIdeal) (hReferenceActIdeal := hReferenceActIdeal)
    ∧ preserves_KernelSums_KernelSumsIdeal
    ∧ algebraic_KernelSumsIdeal_ReferenceSumsIdeal_pre_finite_sums (hKernelSumsIdeal := hKernelSumsIdeal) (hReferenceSumsIdeal := hReferenceSumsIdeal) (hPre_finite_sums := hPre_finite_sums)
    ∧ preserves_KernelProj_KernelProjIdeal
    ∧ algebraic_KernelProjIdeal_ReferenceProjIdeal (hKernelProjIdeal := hKernelProjIdeal) (hReferenceProjIdeal := hReferenceProjIdeal)
    ∧ preserves_KernelOut_KernelOutIdeal
    ∧ algebraic_KernelOutIdeal_ReferenceOutIdeal (hKernelOutIdeal := hKernelOutIdeal) (hReferenceOutIdeal := hReferenceOutIdeal)
    ∧ preserves_KernelDmix_KernelDmixIdeal
    ∧ algebraic_KernelDmixIdeal_ReferenceDmixIdeal (hKernelDmixIdeal := hKernelDmixIdeal) (hReferenceDmixIdeal := hReferenceDmixIdeal)
    ∧ preserves_KernelWout_KernelWoutIdeal
    ∧ algebraic_KernelWoutIdeal_ReferenceWoutIdeal (hKernelWoutIdeal := hKernelWoutIdeal) (hReferenceWoutIdeal := hReferenceWoutIdeal)
    ∧ preserves_KernelFf_KernelFfIdeal
    ∧ algebraic_KernelFfIdeal_ReferenceFfIdeal (hKernelFfIdeal := hKernelFfIdeal) (hReferenceFfIdeal := hReferenceFfIdeal)
    ∧ preserves_KernelWff_KernelWffIdeal
    ∧ algebraic_KernelWffIdeal_ReferenceWffIdeal (hKernelWffIdeal := hKernelWffIdeal) (hReferenceWffIdeal := hReferenceWffIdeal)
    ∧ preserves_KernelWin_KernelWinIdeal
    ∧ algebraic_KernelWinIdeal_ReferenceWinIdeal (hKernelWinIdeal := hKernelWinIdeal) (hReferenceWinIdeal := hReferenceWinIdeal)
    ∧ preserves_KernelWinb_KernelWinbIdeal
    ∧ algebraic_KernelWinbIdeal_ReferenceWinbIdeal (hKernelWinbIdeal := hKernelWinbIdeal) (hReferenceWinbIdeal := hReferenceWinbIdeal)
    ∧ preserves_KernelWind_KernelWindIdeal
    ∧ algebraic_KernelWindIdeal_ReferenceWindIdeal (hKernelWindIdeal := hKernelWindIdeal) (hReferenceWindIdeal := hReferenceWindIdeal)
    ∧ preserves_KernelFin_KernelFinIdeal
    ∧ algebraic_KernelFinIdeal_ReferenceFinIdeal (hKernelFinIdeal := hKernelFinIdeal) (hReferenceFinIdeal := hReferenceFinIdeal)
    ∧ preserves_KernelWfin_KernelWfinIdeal
    ∧ algebraic_KernelWfinIdeal_ReferenceWfinIdeal (hKernelWfinIdeal := hKernelWfinIdeal) (hReferenceWfinIdeal := hReferenceWfinIdeal)
    ∧ preserves_KernelDfin_KernelDfinIdeal
    ∧ algebraic_KernelDfinIdeal_ReferenceDfinIdeal (hKernelDfinIdeal := hKernelDfinIdeal) (hReferenceDfinIdeal := hReferenceDfinIdeal)
    ∧ preserves_KernelDh_KernelDhIdeal
    ∧ algebraic_KernelDhIdeal_ReferenceDhIdeal (hKernelDhIdeal := hKernelDhIdeal) (hReferenceDhIdeal := hReferenceDhIdeal)
-- ==== Pre_finite_ada.lean ====
abbrev S8x1024 : Shape := ⟨2, ![8, 1024]⟩
abbrev S8x768 : Shape := ⟨2, ![8, 768]⟩
abbrev S8x6144 : Shape := ⟨2, ![8, 6144]⟩
abbrev S_ : Shape := ⟨0, ![]⟩

class Facts : Prop where
  bcast_S_S8x1024 : S_.BroadcastsInDim S8x1024 (![] : Fin 0 → Fin S8x1024.rank)
  bcast_S_S8x768 : S_.BroadcastsInDim S8x768 (![] : Fin 0 → Fin S8x768.rank)

variable [Facts]

def fn {F : FTy → Type} [FloatOps F] (main_arg0 : FVec F S8x1024 .f32) (main_arg1 : FVec F S8x768 .f32) (main_arg2 : FVec F S8x6144 .f32) : IVec S8x1024 1 × IVec S8x768 1 :=
  let main_v0 : FVec F S8x1024 .f32 := Host.absf main_arg0
  let main_cst : FVec F S_ .f32 := constant S_ .f32 0x7F800000#32
  let main_v1 : FVec F S8x1024 .f32 := broadcastInDim S8x1024 ![] bcast_S_S8x1024 main_cst
  let main_v2 : IVec S8x1024 1 := cmpf .olt main_v0 main_v1
  let main_v3 : FVec F S8x768 .f32 := Host.absf main_arg1
  let main_cst_0 : FVec F S_ .f32 := constant S_ .f32 0x7F800000#32
  let main_v4 : FVec F S8x768 .f32 := broadcastInDim S8x768 ![] bcast_S_S8x768 main_cst_0
  let main_v5 : IVec S8x768 1 := cmpf .olt main_v3 main_v4
  (main_v2, main_v5)
-- ==== Pre_finite_att.lean ====
abbrev S4096x1024 : Shape := ⟨2, ![4096, 1024]⟩
abbrev S16x4096 : Shape := ⟨2, ![16, 4096]⟩
abbrev S_ : Shape := ⟨0, ![]⟩

class Facts : Prop where
  bcast_S_S4096x1024 : S_.BroadcastsInDim S4096x1024 (![] : Fin 0 → Fin S4096x1024.rank)
  bcast_S_S16x4096 : S_.BroadcastsInDim S16x4096 (![] : Fin 0 → Fin S16x4096.rank)

variable [Facts]

def fn {F : FTy → Type} [FloatOps F] (main_arg0 : FVec F S4096x1024 .f32) (main_arg1 : FVec F S4096x1024 .f32) (main_arg2 : FVec F S4096x1024 .f32) (main_arg3 : FVec F S16x4096 .f32) (main_arg4 : FVec F S4096x1024 .f32) : IVec S4096x1024 1 × IVec S4096x1024 1 × IVec S4096x1024 1 × IVec S16x4096 1 × IVec S4096x1024 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_v3 : FVec F S4096x1024 .f32 := Host.absf main_arg1
  let main_cst_0 : FVec F S_ .f32 := constant S_ .f32 0x7F800000#32
  let main_v4 : FVec F S4096x1024 .f32 := broadcastInDim S4096x1024 ![] bcast_S_S4096x1024 main_cst_0
  let main_v5 : IVec S4096x1024 1 := cmpf .olt main_v3 main_v4
  let main_v6 : FVec F S4096x1024 .f32 := Host.absf main_arg2
  let main_cst_1 : FVec F S_ .f32 := constant S_ .f32 0x7F800000#32
  let main_v7 : FVec F S4096x1024 .f32 := broadcastInDim S4096x1024 ![] bcast_S_S4096x1024 main_cst_1
  let main_v8 : IVec S4096x1024 1 := cmpf .olt main_v6 main_v7
  let main_v9 : FVec F S16x4096 .f32 := Host.absf main_arg3
  let main_cst_2 : FVec F S_ .f32 := constant S_ .f32 0x7F800000#32
  let main_v10 : FVec F S16x4096 .f32 := broadcastInDim S16x4096 ![] bcast_S_S16x4096 main_cst_2
  let main_v11 : IVec S16x4096 1 := cmpf .olt main_v9 main_v10
  let main_v12 : FVec F S4096x1024 .f32 := Host.absf main_arg4
  let main_cst_3 : FVec F S_ .f32 := constant S_ .f32 0x7F800000#32
  let main_v13 : FVec F S4096x1024 .f32 := broadcastInDim S4096x1024 ![] bcast_S_S4096x1024 main_cst_3
  let main_v14 : IVec S4096x1024 1 := cmpf .olt main_v12 main_v13
  (main_v2, main_v5, main_v8, main_v11, main_v14)
-- ==== Pre_finite_cum.lean ====
abbrev S4096x16 : Shape := ⟨2, ![4096, 16]⟩
abbrev S1x16 : Shape := ⟨2, ![1, 16]⟩
abbrev S_ : Shape := ⟨0, ![]⟩

class Facts : Prop where
  bcast_S_S4096x16 : S_.BroadcastsInDim S4096x16 (![] : Fin 0 → Fin S4096x16.rank)
  bcast_S_S1x16 : S_.BroadcastsInDim S1x16 (![] : Fin 0 → Fin S1x16.rank)

variable [Facts]

def fn {F : FTy → Type} [FloatOps F] (main_arg0 : FVec F S4096x16 .f32) (main_arg1 : FVec F S1x16 .f32) (main_arg2 : FVec F S4096x16 .f32) (main_arg3 : FVec F S4096x16 .f32) : IVec S4096x16 1 × IVec S1x16 1 × IVec S4096x16 1 :=
  let main_v0 : FVec F S4096x16 .f32 := Host.absf main_arg0
  let main_cst : FVec F S_ .f32 := constant S_ .f32 0x7F800000#32
  let main_v1 : FVec F S4096x16 .f32 := broadcastInDim S4096x16 ![] bcast_S_S4096x16 main_cst
  let main_v2 : IVec S4096x16 1 := cmpf .olt main_v0 main_v1
  let main_v3 : FVec F S1x16 .f32 := Host.absf main_arg1
  let main_cst_0 : FVec F S_ .f32 := constant S_ .f32 0x7F800000#32
  let main_v4 : FVec F S1x16 .f32 := broadcastInDim S1x16 ![] bcast_S_S1x16 main_cst_0
  let main_v5 : IVec S1x16 1 := cmpf .olt main_v3 main_v4
  let main_v6 : FVec F S4096x16 .f32 := Host.absf main_arg2
  let main_cst_1 : FVec F S_ .f32 := constant S_ .f32 0x7F800000#32
  let main_v7 : FVec F S4096x16 .f32 := broadcastInDim S4096x16 ![] bcast_S_S4096x16 main_cst_1
  let main_v8 : IVec S4096x16 1 := cmpf .olt main_v6 main_v7
  (main_v2, main_v5, main_v8)
-- ==== Pre_finite_ln1.lean ====
abbrev S4096x1024 : Shape := ⟨2, ![4096, 1024]⟩
abbrev S1x1024 : Shape := ⟨2, ![1, 1024]⟩
abbrev S_ : Shape := ⟨0, ![]⟩

class Facts : Prop where
  bcast_S_S4096x1024 : S_.BroadcastsInDim S4096x1024 (![] : Fin 0 → Fin S4096x1024.rank)
  bcast_S_S1x1024 : S_.BroadcastsInDim S1x1024 (![] : Fin 0 → Fin S1x1024.rank)

variable [Facts]

def fn_part1 {F : FTy → Type} [FloatOps F] (main_arg8 : FVec F S4096x1024 .f32) (main_v2 : IVec S4096x1024 1) (main_v5 : IVec S4096x1024 1) (main_v8 : IVec S1x1024 1) (main_v11 : IVec S1x1024 1) (main_v14 : IVec S1x1024 1) (main_v17 : IVec S4096x1024 1) : IVec S4096x1024 1 × IVec S4096x1024 1 × IVec S1x1024 1 × IVec S1x1024 1 × IVec S1x1024 1 × IVec S4096x1024 1 × IVec S4096x1024 1 :=
  let main_v18 : FVec F S4096x1024 .f32 := Host.absf main_arg8
  let main_cst_5 : FVec F S_ .f32 := constant S_ .f32 0x7F800000#32
  let main_v19 : FVec F S4096x1024 .f32 := broadcastInDim S4096x1024 ![] bcast_S_S4096x1024 main_cst_5
  let main_v20 : IVec S4096x1024 1 := cmpf .olt main_v18 main_v19
  (main_v2, main_v5, main_v8, main_v11, main_v14, main_v17, main_v20)

def fn {F : FTy → Type} [FloatOps F] (main_arg0 : FVec F S4096x1024 .f32) (main_arg1 : FVec F S4096x1024 .f32) (main_arg2 : FVec F S1x1024 .f32) (main_arg3 : FVec F S1x1024 .f32) (main_arg4 : FVec F S1x1024 .f32) (main_arg5 : FVec F S1x1024 .f32) (main_arg6 : FVec F S1x1024 .f32) (main_arg7 : FVec F S4096x1024 .f32) (main_arg8 : FVec F S4096x1024 .f32) : IVec S4096x1024 1 × IVec S4096x1024 1 × IVec S1x1024 1 × IVec S1x1024 1 × IVec S1x1024 1 × IVec S4096x1024 1 × IVec S4096x1024 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_v3 : FVec F S4096x1024 .f32 := Host.absf main_arg1
  let main_cst_0 : FVec F S_ .f32 := constant S_ .f32 0x7F800000#32
  let main_v4 : FVec F S4096x1024 .f32 := broadcastInDim S4096x1024 ![] bcast_S_S4096x1024 main_cst_0
  let main_v5 : IVec S4096x1024 1 := cmpf .olt main_v3 main_v4
  let main_v6 : FVec F S1x1024 .f32 := Host.absf main_arg2
  let main_cst_1 : FVec F S_ .f32 := constant S_ .f32 0x7F800000#32
  let main_v7 : FVec F S1x1024 .f32 := broadcastInDim S1x1024 ![] bcast_S_S1x1024 main_cst_1
  let main_v8 : IVec S1x1024 1 := cmpf .olt main_v6 main_v7
  let main_v9 : FVec F S1x1024 .f32 := Host.absf main_arg3
  let main_cst_2 : FVec F S_ .f32 := constant S_ .f32 0x7F800000#32
  let main_v10 : FVec F S1x1024 .f32 := broadcastInDim S1x1024 ![] bcast_S_S1x1024 main_cst_2
  let main_v11 : IVec S1x1024 1 := cmpf .olt main_v9 main_v10
  let main_v12 : FVec F S1x1024 .f32 := Host.absf main_arg5
  let main_cst_3 : FVec F S_ .f32 := constant S_ .f32 0x7F800000#32
  let main_v13 : FVec F S1x1024 .f32 := broadcastInDim S1x1024 ![] bcast_S_S1x1024 main_cst_3
  let main_v14 : IVec S1x1024 1 := cmpf .olt main_v12 main_v13
  let main_v15 : FVec F S4096x1024 .f32 := Host.absf main_arg7
  let main_cst_4 : FVec F S_ .f32 := constant S_ .f32 0x7F800000#32
  let main_v16 : FVec F S4096x1024 .f32 := broadcastInDim S4096x1024 ![] bcast_S_S4096x1024 main_cst_4
  let main_v17 : IVec S4096x1024 1 := cmpf .olt main_v15 main_v16
  fn_part1 (F := F) main_arg8 main_v2 main_v5 main_v8 main_v11 main_v14 main_v17
-- ==== Pre_finite_ln2.lean ====
abbrev S4096x1024 : Shape := ⟨2, ![4096, 1024]⟩
abbrev S1x1024 : Shape := ⟨2, ![1, 1024]⟩
abbrev S_ : Shape := ⟨0, ![]⟩

class Facts : Prop where
  bcast_S_S4096x1024 : S_.BroadcastsInDim S4096x1024 (![] : Fin 0 → Fin S4096x1024.rank)
  bcast_S_S1x1024 : S_.BroadcastsInDim S1x1024 (![] : Fin 0 → Fin S1x1024.rank)

variable [Facts]

def fn {F : FTy → Type} [FloatOps F] (main_arg0 : FVec F S4096x1024 .f32) (main_arg1 : FVec F S4096x1024 .f32) (main_arg2 : FVec F S4096x1024 .f32) (main_arg3 : FVec F S1x1024 .f32) (main_arg4 : FVec F S1x1024 .f32) (main_arg5 : FVec F S1x1024 .f32) : IVec S4096x1024 1 × IVec S4096x1024 1 × IVec S4096x1024 1 × IVec S1x1024 1 × IVec S1x1024 1 × IVec S1x1024 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_v3 : FVec F S4096x1024 .f32 := Host.absf main_arg1
  let main_cst_0 : FVec F S_ .f32 := constant S_ .f32 0x7F800000#32
  let main_v4 : FVec F S4096x1024 .f32 := broadcastInDim S4096x1024 ![] bcast_S_S4096x1024 main_cst_0
  let main_v5 : IVec S4096x1024 1 := cmpf .olt main_v3 main_v4
  let main_v6 : FVec F S4096x1024 .f32 := Host.absf main_arg2
  let main_cst_1 : FVec F S_ .f32 := constant S_ .f32 0x7F800000#32
  let main_v7 : FVec F S4096x1024 .f32 := broadcastInDim S4096x1024 ![] bcast_S_S4096x1024 main_cst_1
  let main_v8 : IVec S4096x1024 1 := cmpf .olt main_v6 main_v7
  let main_v9 : FVec F S1x1024 .f32 := Host.absf main_arg3
  let main_cst_2 : FVec F S_ .f32 := constant S_ .f32 0x7F800000#32
  let main_v10 : FVec F S1x1024 .f32 := broadcastInDim S1x1024 ![] bcast_S_S1x1024 main_cst_2
  let main_v11 : IVec S1x1024 1 := cmpf .olt main_v9 main_v10
  let main_v12 : FVec F S1x1024 .f32 := Host.absf main_arg4
  let main_cst_3 : FVec F S_ .f32 := constant S_ .f32 0x7F800000#32
  let main_v13 : FVec F S1x1024 .f32 := broadcastInDim S1x1024 ![] bcast_S_S1x1024 main_cst_3
  let main_v14 : IVec S1x1024 1 := cmpf .olt main_v12 main_v13
  let main_v15 : FVec F S1x1024 .f32 := Host.absf main_arg5
  let main_cst_4 : FVec F S_ .f32 := constant S_ .f32 0x7F800000#32
  let main_v16 : FVec F S1x1024 .f32 := broadcastInDim S1x1024 ![] bcast_S_S1x1024 main_cst_4
  let main_v17 : IVec S1x1024 1 := cmpf .olt main_v15 main_v16
  (main_v2, main_v5, main_v8, main_v11, main_v14, main_v17)
-- ==== Pre_finite_mix.lean ====
abbrev S4096x1024 : Shape := ⟨2, ![4096, 1024]⟩
abbrev S1x1024 : Shape := ⟨2, ![1, 1024]⟩
abbrev S4096x2048 : Shape := ⟨2, ![4096, 2048]⟩
abbrev S_ : Shape := ⟨0, ![]⟩

class Facts : Prop where
  bcast_S_S1x1024 : S_.BroadcastsInDim S1x1024 (![] : Fin 0 → Fin S1x1024.rank)
  bcast_S_S4096x2048 : S_.BroadcastsInDim S4096x2048 (![] : Fin 0 → Fin S4096x2048.rank)

variable [Facts]

def fn {F : FTy → Type} [FloatOps F] (main_arg0 : FVec F S4096x1024 .f32) (main_arg1 : FVec F S4096x1024 .f32) (main_arg2 : FVec F S4096x1024 .f32) (main_arg3 : FVec F S1x1024 .f32) (main_arg4 : FVec F S1x1024 .f32) (main_arg5 : FVec F S4096x2048 .f32) : IVec S1x1024 1 × IVec S4096x2048 1 :=
  let main_v0 : FVec F S1x1024 .f32 := Host.absf main_arg3
  let main_cst : FVec F S_ .f32 := constant S_ .f32 0x7F800000#32
  let main_v1 : FVec F S1x1024 .f32 := broadcastInDim S1x1024 ![] bcast_S_S1x1024 main_cst
  let main_v2 : IVec S1x1024 1 := cmpf .olt main_v0 main_v1
  let main_v3 : FVec F S4096x2048 .f32 := Host.absf main_arg5
  let main_cst_0 : FVec F S_ .f32 := constant S_ .f32 0x7F800000#32
  let main_v4 : FVec F S4096x2048 .f32 := broadcastInDim S4096x2048 ![] bcast_S_S4096x2048 main_cst_0
  let main_v5 : IVec S4096x2048 1 := cmpf .olt main_v3 main_v4
  (main_v2, main_v5)
-- ==== Pre_finite_mod.lean ====
abbrev S8x1024 : Shape := ⟨2, ![8, 1024]⟩
abbrev S1024x768 : Shape := ⟨2, ![1024, 768]⟩
abbrev S1x768 : Shape := ⟨2, ![1, 768]⟩
abbrev S_ : Shape := ⟨0, ![]⟩

class Facts : Prop where
  bcast_S_S8x1024 : S_.BroadcastsInDim S8x1024 (![] : Fin 0 → Fin S8x1024.rank)
  bcast_S_S1024x768 : S_.BroadcastsInDim S1024x768 (![] : Fin 0 → Fin S1024x768.rank)

variable [Facts]

def fn {F : FTy → Type} [FloatOps F] (main_arg0 : FVec F S8x1024 .f32) (main_arg1 : FVec F S1024x768 .f32) (main_arg2 : FVec F S1x768 .f32) : IVec S8x1024 1 × IVec S1024x768 1 :=
  let main_v0 : FVec F S8x1024 .f32 := Host.absf main_arg0
  let main_cst : FVec F S_ .f32 := constant S_ .f32 0x7F800000#32
  let main_v1 : FVec F S8x1024 .f32 := broadcastInDim S8x1024 ![] bcast_S_S8x1024 main_cst
  let main_v2 : IVec S8x1024 1 := cmpf .olt main_v0 main_v1
  let main_v3 : FVec F S1024x768 .f32 := Host.absf main_arg1
  let main_cst_0 : FVec F S_ .f32 := constant S_ .f32 0x7F800000#32
  let main_v4 : FVec F S1024x768 .f32 := broadcastInDim S1024x768 ![] bcast_S_S1024x768 main_cst_0
  let main_v5 : IVec S1024x768 1 := cmpf .olt main_v3 main_v4
  (main_v2, main_v5)
-- ==== Pre_finite_sums.lean ====
abbrev S4096x16 : Shape := ⟨2, ![4096, 16]⟩
abbrev S1x16 : Shape := ⟨2, ![1, 16]⟩
abbrev S_ : Shape := ⟨0, ![]⟩

class Facts : Prop where
  bcast_S_S4096x16 : S_.BroadcastsInDim S4096x16 (![] : Fin 0 → Fin S4096x16.rank)
  bcast_S_S1x16 : S_.BroadcastsInDim S1x16 (![] : Fin 0 → Fin S1x16.rank)

variable [Facts]

def fn {F : FTy → Type} [FloatOps F] (main_arg0 : FVec F S4096x16 .f32) (main_arg1 : FVec F S1x16 .f32) : IVec S4096x16 1 × IVec S1x16 1 :=
  let main_v0 : FVec F S4096x16 .f32 := Host.absf main_arg0
  let main_cst : FVec F S_ .f32 := constant S_ .f32 0x7F800000#32
  let main_v1 : FVec F S4096x16 .f32 := broadcastInDim S4096x16 ![] bcast_S_S4096x16 main_cst
  let main_v2 : IVec S4096x16 1 := cmpf .olt main_v0 main_v1
  let main_v3 : FVec F S1x16 .f32 := Host.absf main_arg1
  let main_cst_0 : FVec F S_ .f32 := constant S_ .f32 0x7F800000#32
  let main_v4 : FVec F S1x16 .f32 := broadcastInDim S1x16 ![] bcast_S_S1x16 main_cst_0
  let main_v5 : IVec S1x16 1 := cmpf .olt main_v3 main_v4
  (main_v2, main_v5)
-- ==== KernelAtt.lean ====
abbrev S4096x1024 : Shape := ⟨2, ![4096, 1024]⟩
abbrev S16x4096 : Shape := ⟨2, ![16, 4096]⟩
abbrev S4096x16x64 : Shape := ⟨3, ![4096, 16, 64]⟩
abbrev S16x4096x4096 : Shape := ⟨3, ![16, 4096, 4096]⟩
abbrev S_ : Shape := ⟨0, ![]⟩
abbrev S16x1x4096 : Shape := ⟨3, ![16, 1, 4096]⟩
abbrev S4096 : Shape := ⟨1, ![4096]⟩
abbrev S4096x1 : Shape := ⟨2, ![4096, 1]⟩
abbrev S1x4096 : Shape := ⟨2, ![1, 4096]⟩
abbrev S4096x4096 : Shape := ⟨2, ![4096, 4096]⟩
abbrev S1x4096x4096 : Shape := ⟨3, ![1, 4096, 4096]⟩
abbrev S16x4096x1 : Shape := ⟨3, ![16, 4096, 1]⟩
abbrev S16x64x4096 : Shape := ⟨3, ![16, 64, 4096]⟩
abbrev S4096x16 : Shape := ⟨2, ![4096, 16]⟩
abbrev S4096x3072 : Shape := ⟨2, ![4096, 3072]⟩
abbrev S4096x5760 : Shape := ⟨2, ![4096, 5760]⟩
abbrev S8x8x4096 : Shape := ⟨3, ![8, 8, 4096]⟩
abbrev S512x128 : Shape := ⟨2, ![512, 128]⟩
abbrev S16x512 : Shape := ⟨2, ![16, 512]⟩
abbrev S4096x128 : Shape := ⟨2, ![4096, 128]⟩
abbrev S1x8x512 : Shape := ⟨3, ![1, 8, 512]⟩
abbrev S8x512 : Shape := ⟨2, ![8, 512]⟩
abbrev S1x512 : Shape := ⟨2, ![1, 512]⟩
abbrev S512x64 : Shape := ⟨2, ![512, 64]⟩
abbrev S512x512 : Shape := ⟨2, ![512, 512]⟩
abbrev S512x1 : Shape := ⟨2, ![512, 1]⟩
abbrev S512 : Shape := ⟨1, ![512]⟩

abbrev nBuf : Space → Nat
  | .hbm => 57
  | .vmem => 27
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S16x4096, .f32⟩
  | .hbm, ⟨4, _⟩ => ⟨S4096x1024, .f32⟩
  | .hbm, ⟨5, _⟩ => ⟨S4096x16x64, .f32⟩
  | .hbm, ⟨6, _⟩ => ⟨S4096x16x64, .f32⟩
  | .hbm, ⟨7, _⟩ => ⟨S16x4096x4096, .f32⟩
  | .hbm, ⟨8, _⟩ => ⟨S_, .f32⟩
  | .hbm, ⟨9, _⟩ => ⟨S16x4096x4096, .f32⟩
  | .hbm, ⟨10, _⟩ => ⟨S16x4096x4096, .f32⟩
  | .hbm, ⟨11, _⟩ => ⟨S16x1x4096, .f32⟩
  | .hbm, ⟨12, _⟩ => ⟨S16x4096x4096, .f32⟩
  | .hbm, ⟨13, _⟩ => ⟨S16x4096x4096, .f32⟩
  | .hbm, ⟨14, _⟩ => ⟨S4096, .i32⟩
  | .hbm, ⟨15, _⟩ => ⟨S4096x1, .i32⟩
  | .hbm, ⟨16, _⟩ => ⟨S4096, .i32⟩
  | .hbm, ⟨17, _⟩ => ⟨S1x4096, .i32⟩
  | .hbm, ⟨18, _⟩ => ⟨S4096x4096, .i32⟩
  | .hbm, ⟨19, _⟩ => ⟨S4096x4096, .i32⟩
  | .hbm, ⟨20, _⟩ => ⟨S4096x4096, .i1⟩
  | .hbm, ⟨21, _⟩ => ⟨S1x4096x4096, .i1⟩
  | .hbm, ⟨22, _⟩ => ⟨S_, .f32⟩
  | .hbm, ⟨23, _⟩ => ⟨S_, .f32⟩
  | .hbm, ⟨24, _⟩ => ⟨S16x4096x4096, .i1⟩
  | .hbm, ⟨25, _⟩ => ⟨S16x4096x4096, .f32⟩
  | .hbm, ⟨26, _⟩ => ⟨S16x4096x4096, .f32⟩
  | .hbm, ⟨27, _⟩ => ⟨S_, .f32⟩
  | .hbm, ⟨28, _⟩ => ⟨S16x4096, .f32⟩
  | .hbm, ⟨29, _⟩ => ⟨S16x4096x1, .f32⟩
  | .hbm, ⟨30, _⟩ => ⟨S16x4096x4096, .f32⟩
  | .hbm, ⟨31, _⟩ => ⟨S16x4096x4096, .f32⟩
  | .hbm, ⟨32, _⟩ => ⟨S16x4096x4096, .f32⟩
  | .hbm, ⟨33, _⟩ => ⟨S_, .f32⟩
  | .hbm, ⟨34, _⟩ => ⟨S16x4096, .f32⟩
  | .hbm, ⟨35, _⟩ => ⟨S16x4096x1, .f32⟩
  | .hbm, ⟨36, _⟩ => ⟨S16x4096x4096, .f32⟩
  | .hbm, ⟨37, _⟩ => ⟨S16x4096x4096, .f32⟩
  | .hbm, ⟨38, _⟩ => ⟨S4096x16x64, .f32⟩
  | .hbm, ⟨39, _⟩ => ⟨S16x64x4096, .f32⟩
  | .hbm, ⟨40, _⟩ => ⟨S4096x16x64, .f32⟩
  | .hbm, ⟨41, _⟩ => ⟨S4096x1024, .f32⟩
  | .hbm, ⟨42, _⟩ => ⟨S16x4096x1, .f32⟩
  | .hbm, ⟨43, _⟩ => ⟨S16x4096x1, .f32⟩
  | .hbm, ⟨44, _⟩ => ⟨S16x4096, .f32⟩
  | .hbm, ⟨45, _⟩ => ⟨S4096x16, .f32⟩
  | .hbm, ⟨46, _⟩ => ⟨S4096x16x64, .f32⟩
  | .hbm, ⟨47, _⟩ => ⟨S4096x1024, .f32⟩
  | .hbm, ⟨48, _⟩ => ⟨S4096x3072, .f32⟩
  | .hbm, ⟨49, _⟩ => ⟨S_, .i32⟩
  | .hbm, ⟨50, _⟩ => ⟨S_, .f32⟩
  | .hbm, ⟨51, _⟩ => ⟨S4096x5760, .f32⟩
  | .hbm, ⟨52, _⟩ => ⟨S4096x1024, .f32⟩
  | .hbm, ⟨53, _⟩ => ⟨S4096x1024, .bf16⟩
  | .hbm, ⟨54, _⟩ => ⟨S4096x1024, .bf16⟩
  | .hbm, ⟨55, _⟩ => ⟨S8x8x4096, .f32⟩
  | .hbm, ⟨56, _⟩ => ⟨S4096x1024, .f32⟩
  | .local _ .vmem, ⟨0, _⟩ => ⟨S512x128, .f32⟩
  | .local _ .vmem, ⟨1, _⟩ => ⟨S512x128, .f32⟩
  | .local _ .vmem, ⟨2, _⟩ => ⟨S512x128, .f32⟩
  | .local _ .vmem, ⟨3, _⟩ => ⟨S512x128, .f32⟩
  | .local _ .vmem, ⟨4, _⟩ => ⟨S512x128, .f32⟩
  | .local _ .vmem, ⟨5, _⟩ => ⟨S512x128, .f32⟩
  | .local _ .vmem, ⟨6, _⟩ => ⟨S16x512, .f32⟩
  | .local _ .vmem, ⟨7, _⟩ => ⟨S16x512, .f32⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S512x128, .f32⟩
  | .local _ .vmem, ⟨13, _⟩ => ⟨S512x128, .f32⟩
  | .local _ .vmem, ⟨14, _⟩ => ⟨S4096x128, .f32⟩
  | .local _ .vmem, ⟨15, _⟩ => ⟨S4096x128, .f32⟩
  | .local _ .vmem, ⟨16, _⟩ => ⟨S512x128, .bf16⟩
  | .local _ .vmem, ⟨17, _⟩ => ⟨S512x128, .bf16⟩
  | .local _ .vmem, ⟨18, _⟩ => ⟨S512x128, .bf16⟩
  | .local _ .vmem, ⟨19, _⟩ => ⟨S512x128, .bf16⟩
  | .local _ .vmem, ⟨20, _⟩ => ⟨S1x8x512, .f32⟩
  | .local _ .vmem, ⟨21, _⟩ => ⟨S1x8x512, .f32⟩
  | .local _ .vmem, ⟨22, _⟩ => ⟨S4096x128, .f32⟩
  | .local _ .vmem, ⟨23, _⟩ => ⟨S4096x128, .f32⟩
  | .local _ .vmem, ⟨24, _⟩ => ⟨S512x128, .f32⟩
  | .local _ .vmem, ⟨25, _⟩ => ⟨S512x128, .f32⟩
  | .local _ .vmem, ⟨26, _⟩ => ⟨S8x512, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_0 : Ref sig .tc := ⟨.hbm, 22, rfl⟩
abbrev main_call0_v0 : Ref sig .tc := ⟨.hbm, 23, rfl⟩
abbrev main_call0_v1 : Ref sig .tc := ⟨.hbm, 24, rfl⟩
abbrev main_call0_v2 : Ref sig .tc := ⟨.hbm, 25, rfl⟩
abbrev main_v16 : Ref sig .tc := ⟨.hbm, 26, rfl⟩
abbrev main_cst_1 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_2 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_c : Ref sig .tc := ⟨.hbm, 49, rfl⟩
abbrev main_call1_v0 : Ref sig .tc := ⟨.hbm, 50, rfl⟩
abbrev main_v37 : Ref sig .tc := ⟨.hbm, 51, rfl⟩
abbrev main_v38_0 : Ref sig .tc := ⟨.hbm, 52, rfl⟩
abbrev main_v38_1 : Ref sig .tc := ⟨.hbm, 53, rfl⟩
abbrev main_v38_2 : Ref sig .tc := ⟨.hbm, 54, rfl⟩
abbrev main_v38_3 : Ref sig .tc := ⟨.hbm, 55, rfl⟩
abbrev main_v38_4 : Ref sig .tc := ⟨.hbm, 56, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_scratch0 : Ref sig .tc := ⟨.vmem, 24, rfl⟩
abbrev cc0_scratch1 : Ref sig .tc := ⟨.vmem, 25, rfl⟩
abbrev cc0_scratch2 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23

abbrev nD : Nat := 1
abbrev τ : Topo := Topo.v7x

variable {F : FTy → Type} [FloatOps F]

abbrev grid0 : Pipeline.Grid := ⟨3, ![8, 8, 8], ![false, false, false]⟩

def k0_cond2 (i : grid0.Coords) : BitVec 1 :=
  let arg2 : BitVec 32 := BitVec.ofNat 32 (i 2).val
  let arg1 : BitVec 32 := BitVec.ofNat 32 (i 1).val
  let v3 : BitVec 1 := Scalar.cmpi .sge arg2 arg1
  let v4 : BitVec 32 := Scalar.extui v3
  let c0_i32_0 : BitVec 32 := 0#32
  let v5 : BitVec 1 := Scalar.cmpi .ne v4 c0_i32_0
  v5

def k0_mult1 (i : grid0.Coords) : BitVec 32 :=
  let arg2 : BitVec 32 := BitVec.ofNat 32 (i 2).val
  let c512_i32 : BitVec 32 := 512#32
  let v25 : BitVec 32 := Scalar.muli arg2 c512_i32
  v25
def k0_off1 (i : grid0.Coords) (c0_i32_13 : BitVec 32) : Fin 2 → Nat :=
  let c2_i32 : BitVec 32 := 2#32
  let arg0 : BitVec 32 := BitVec.ofNat 32 (i 0).val
  let v27 : BitVec 32 := Scalar.muli c2_i32 arg0
  let v28 : BitVec 32 := Scalar.addi v27 c0_i32_13
  let v29 : Index := Scalar.indexCast v28
  let c0_14 : Index := 0#32
  ![v29.toNat, 0]
def k0_cond3 (i : grid0.Coords) : BitVec 1 :=
  let arg1 : BitVec 32 := BitVec.ofNat 32 (i 1).val
  let c0_i32_39 : BitVec 32 := 0#32
  let v92 : BitVec 1 := Scalar.cmpi .eq arg1 c0_i32_39
  let v93 : BitVec 32 := Scalar.extui v92
  let c0_i32_40 : BitVec 32 := 0#32
  let v94 : BitVec 1 := Scalar.cmpi .ne v93 c0_i32_40
  v94

def k0_off2 (i : grid0.Coords) : Fin 2 → Nat :=
  let arg2 : BitVec 32 := BitVec.ofNat 32 (i 2).val
  let c512_i32 : BitVec 32 := 512#32
  let v25 : BitVec 32 := Scalar.muli arg2 c512_i32
  let v26 : BitVec 32 := v25
  let v169 : Index := Scalar.indexCast v26
  let c0_71 : Index := 0#32
  ![v169.toNat, 0]
def k0_cond4 (i : grid0.Coords) : BitVec 1 :=
  let arg1 : BitVec 32 := BitVec.ofNat 32 (i 1).val
  let c0_i32_41 : BitVec 32 := 0#32
  let v95 : BitVec 1 := Scalar.cmpi .sgt arg1 c0_i32_41
  let v96 : BitVec 32 := Scalar.extui v95
  let c0_i32_42 : BitVec 32 := 0#32
  let v97 : BitVec 1 := Scalar.cmpi .ne v96 c0_i32_42
  v97

def k0_off3 (i : grid0.Coords) : Fin 2 → Nat :=
  let arg2 : BitVec 32 := BitVec.ofNat 32 (i 2).val
  let c512_i32 : BitVec 32 := 512#32
  let v25 : BitVec 32 := Scalar.muli arg2 c512_i32
  let v26 : BitVec 32 := v25
  let v169 : Index := Scalar.indexCast v26
  let c0_71 : Index := 0#32
  ![v169.toNat, 0]
def k0_cond5 (i : grid0.Coords) : BitVec 1 :=
  let arg1 : BitVec 32 := BitVec.ofNat 32 (i 1).val
  let c0_i32_67 : BitVec 32 := 0#32
  let v163 : BitVec 1 := Scalar.cmpi .eq arg1 c0_i32_67
  let v164 : BitVec 32 := Scalar.extui v163
  let c0_i32_68 : BitVec 32 := 0#32
  let v165 : BitVec 1 := Scalar.cmpi .ne v164 c0_i32_68
  v165

def k0_off4 (i : grid0.Coords) : Fin 2 → Nat :=
  let arg2 : BitVec 32 := BitVec.ofNat 32 (i 2).val
  let c512_i32 : BitVec 32 := 512#32
  let v25 : BitVec 32 := Scalar.muli arg2 c512_i32
  let v26 : BitVec 32 := v25
  let v169 : Index := Scalar.indexCast v26
  let c64_71 : Index := 64#32
  ![v169.toNat, 64]
def k0_cond6 (i : grid0.Coords) : BitVec 1 :=
  let arg1 : BitVec 32 := BitVec.ofNat 32 (i 1).val
  let c0_i32_69 : BitVec 32 := 0#32
  let v166 : BitVec 1 := Scalar.cmpi .sgt arg1 c0_i32_69
  let v167 : BitVec 32 := Scalar.extui v166
  let c0_i32_70 : BitVec 32 := 0#32
  let v168 : BitVec 1 := Scalar.cmpi .ne v167 c0_i32_70
  v168

def k0_off5 (i : grid0.Coords) : Fin 2 → Nat :=
  let arg2 : BitVec 32 := BitVec.ofNat 32 (i 2).val
  let c512_i32 : BitVec 32 := 512#32
  let v25 : BitVec 32 := Scalar.muli arg2 c512_i32
  let v26 : BitVec 32 := v25
  let v169 : Index := Scalar.indexCast v26
  let c64_71 : Index := 64#32
  ![v169.toNat, 64]
def k0_cond7 (i : grid0.Coords) : BitVec 1 :=
  let arg2 : BitVec 32 := BitVec.ofNat 32 (i 2).val
  let c7_i32 : BitVec 32 := 7#32
  let v6 : BitVec 1 := Scalar.cmpi .eq arg2 c7_i32
  let v7 : BitVec 32 := Scalar.extui v6
  let c0_i32_1 : BitVec 32 := 0#32
  let v8 : BitVec 1 := Scalar.cmpi .ne v7 c0_i32_1
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let v0 : BitVec 32 := Scalar.maxsi arg2 arg1
  let c16_i32 : BitVec 32 := 16#32
  let v1 : BitVec 32 := Scalar.addi c16_i32 arg0
  let c0_i32 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c24_i32 : BitVec 32 := 24#32
  let v0 : BitVec 32 := Scalar.addi c24_i32 arg0
  let c0_i32 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.addi c32_i32 arg0
  let c0_i32 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let v0 : BitVec 32 := Scalar.maxsi arg2 arg1
  let c0_i32 : BitVec 32 := 0#32
  let v1 : BitVec 32 := Scalar.addi c0_i32 arg0
  let c0_i32_0 : BitVec 32 := 0#32
  ![v0.toNat, v1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let v0 : BitVec 32 := Scalar.maxsi arg2 arg1
  let c0_i32 : BitVec 32 := 0#32
  let v1 : BitVec 32 := Scalar.addi c0_i32 arg0
  let c0_i32_0 : BitVec 32 := 0#32
  ![v0.toNat, v1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let v0 : BitVec 32 := Scalar.maxsi arg2 arg1
  let c0_i32 : BitVec 32 := 0#32
  let v1 : BitVec 32 := Scalar.addi c0_i32 arg0
  let c0_i32_0 : BitVec 32 := 0#32
  ![v0.toNat, v1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_10 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_11 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S16x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S4096x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false, false]

abbrev stage0_8 : Fin 2 → Memref sig .tc .vmem S512x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]

abbrev stage0_9 : Fin 2 → Memref sig .tc .vmem S512x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, false]

abbrev stage0_10 : Fin 2 → Memref sig .tc .vmem S1x8x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, false]

abbrev stage0_11 : Fin 2 → Memref sig .tc .vmem S4096x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false, false]
-- ==== KernelAttIdeal.lean ====
variable {F : FTy → Type} [FloatOps F] [Named F]
def κ : String → Option EReal := fun
  | "mask" => some ⊥
  | _ => none
-- ==== ReferenceAttIdeal.lean ====
abbrev S4096x1024 : Shape := ⟨2, ![4096, 1024]⟩
abbrev S16x4096 : Shape := ⟨2, ![16, 4096]⟩
abbrev S4096x16x64 : Shape := ⟨3, ![4096, 16, 64]⟩
abbrev S16x4096x4096 : Shape := ⟨3, ![16, 4096, 4096]⟩
abbrev S_ : Shape := ⟨0, ![]⟩
abbrev S16x4096x1 : Shape := ⟨3, ![16, 4096, 1]⟩
abbrev S16x1x4096 : Shape := ⟨3, ![16, 1, 4096]⟩
abbrev S4096 : Shape := ⟨1, ![4096]⟩
abbrev S4096x1 : Shape := ⟨2, ![4096, 1]⟩
abbrev S1x4096 : Shape := ⟨2, ![1, 4096]⟩
abbrev S4096x4096 : Shape := ⟨2, ![4096, 4096]⟩
abbrev S1x4096x4096 : Shape := ⟨3, ![1, 4096, 4096]⟩
abbrev S16x64x4096 : Shape := ⟨3, ![16, 64, 4096]⟩
abbrev S16x4096x64 : Shape := ⟨3, ![16, 4096, 64]⟩
abbrev S8x2x4096 : Shape := ⟨3, ![8, 2, 4096]⟩
abbrev S8x8x4096 : Shape := ⟨3, ![8, 8, 4096]⟩
abbrev S4096x16 : Shape := ⟨2, ![4096, 16]⟩

abbrev nBuf : Space → Nat
  | .hbm => 127
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S16x4096, .f32⟩
  | .hbm, ⟨4, _⟩ => ⟨S4096x1024, .f32⟩
  | .hbm, ⟨5, _⟩ => ⟨S4096x16x64, .f32⟩
  | .hbm, ⟨6, _⟩ => ⟨S4096x16x64, .f32⟩
  | .hbm, ⟨7, _⟩ => ⟨S16x4096x4096, .f32⟩
  | .hbm, ⟨8, _⟩ => ⟨S_, .f32⟩
  | .hbm, ⟨9, _⟩ => ⟨S16x4096x4096, .f32⟩
  | .hbm, ⟨10, _⟩ => ⟨S16x4096x4096, .f32⟩
  | .hbm, ⟨11, _⟩ => ⟨S16x4096x1, .f32⟩
  | .hbm, ⟨12, _⟩ => ⟨S16x1x4096, .f32⟩
  | .hbm, ⟨13, _⟩ => ⟨S16x4096x4096, .f32⟩
  | .hbm, ⟨14, _⟩ => ⟨S16x4096x4096, .f32⟩
  | .hbm, ⟨15, _⟩ => ⟨S16x4096x4096, .f32⟩
  | .hbm, ⟨16, _⟩ => ⟨S16x4096x4096, .f32⟩
  | .hbm, ⟨17, _⟩ => ⟨S4096, .i32⟩
  | .hbm, ⟨18, _⟩ => ⟨S4096x1, .i32⟩
  | .hbm, ⟨19, _⟩ => ⟨S4096, .i32⟩
  | .hbm, ⟨20, _⟩ => ⟨S1x4096, .i32⟩
  | .hbm, ⟨21, _⟩ => ⟨S4096x4096, .i32⟩
  | .hbm, ⟨22, _⟩ => ⟨S4096x4096, .i32⟩
  | .hbm, ⟨23, _⟩ => ⟨S4096x4096, .i1⟩
  | .hbm, ⟨24, _⟩ => ⟨S1x4096x4096, .i1⟩
  | .hbm, ⟨25, _⟩ => ⟨S_, .f32⟩
  | .hbm, ⟨26, _⟩ => ⟨S_, .f32⟩
  | .hbm, ⟨27, _⟩ => ⟨S16x4096x4096, .i1⟩
  | .hbm, ⟨28, _⟩ => ⟨S16x4096x4096, .f32⟩
  | .hbm, ⟨29, _⟩ => ⟨S16x4096x4096, .f32⟩
  | .hbm, ⟨30, _⟩ => ⟨S_, .f32⟩
  | .hbm, ⟨31, _⟩ => ⟨S16x4096x4096, .f32⟩
  | .hbm, ⟨32, _⟩ => ⟨S_, .f32⟩
  | .hbm, ⟨33, _⟩ => ⟨S16x4096, .f32⟩
  | .hbm, ⟨34, _⟩ => ⟨S16x4096x1, .f32⟩
  | .hbm, ⟨35, _⟩ => ⟨S16x4096x4096, .f32⟩
  | .hbm, ⟨36, _⟩ => ⟨S16x4096x4096, .i1⟩
  | .hbm, ⟨37, _⟩ => ⟨S16x4096x4096, .f32⟩
  | .hbm, ⟨38, _⟩ => ⟨S_, .f32⟩
  | .hbm, ⟨39, _⟩ => ⟨S16x4096, .f32⟩
  | .hbm, ⟨40, _⟩ => ⟨S_, .f32⟩
  | .hbm, ⟨41, _⟩ => ⟨S16x4096, .f32⟩
  | .hbm, ⟨42, _⟩ => ⟨S16x4096, .f32⟩
  | .hbm, ⟨43, _⟩ => ⟨S_, .f32⟩
  | .hbm, ⟨44, _⟩ => ⟨S16x4096, .f32⟩
  | .hbm, ⟨45, _⟩ => ⟨S16x4096, .i1⟩
  | .hbm, ⟨46, _⟩ => ⟨S_, .f32⟩
  | .hbm, ⟨47, _⟩ => ⟨S16x4096, .f32⟩
  | .hbm, ⟨48, _⟩ => ⟨S16x4096, .i1⟩
  | .hbm, ⟨49, _⟩ => ⟨S_, .f32⟩
  | .hbm, ⟨50, _⟩ => ⟨S16x4096, .f32⟩
  | .hbm, ⟨51, _⟩ => ⟨S_, .f32⟩
  | .hbm, ⟨52, _⟩ => ⟨S16x4096, .f32⟩
  | .hbm, ⟨53, _⟩ => ⟨S_, .f32⟩
  | .hbm, ⟨54, _⟩ => ⟨S16x4096, .f32⟩
  | .hbm, ⟨55, _⟩ => ⟨S16x4096, .f32⟩
  | .hbm, ⟨56, _⟩ => ⟨S16x4096, .f32⟩
  | .hbm, ⟨57, _⟩ => ⟨S16x4096x1, .f32⟩
  | .hbm, ⟨58, _⟩ => ⟨S16x4096x4096, .f32⟩
  | .hbm, ⟨59, _⟩ => ⟨S16x4096x4096, .f32⟩
  | .hbm, ⟨60, _⟩ => ⟨S16x4096x4096, .f32⟩
  | .hbm, ⟨61, _⟩ => ⟨S_, .f32⟩
  | .hbm, ⟨62, _⟩ => ⟨S16x4096, .f32⟩
  | .hbm, ⟨63, _⟩ => ⟨S16x4096x1, .f32⟩
  | .hbm, ⟨64, _⟩ => ⟨S16x4096x4096, .f32⟩
  | .hbm, ⟨65, _⟩ => ⟨S16x4096x4096, .f32⟩
  | .hbm, ⟨66, _⟩ => ⟨S16x4096x1, .f32⟩
  | .hbm, ⟨67, _⟩ => ⟨S_, .f32⟩
  | .hbm, ⟨68, _⟩ => ⟨S16x4096x1, .f32⟩
  | .hbm, ⟨69, _⟩ => ⟨S16x4096x1, .f32⟩
  | .hbm, ⟨70, _⟩ => ⟨S4096x16x64, .f32⟩
  | .hbm, ⟨71, _⟩ => ⟨S16x64x4096, .f32⟩
  | .hbm, ⟨72, _⟩ => ⟨S4096x16x64, .f32⟩
  | .hbm, ⟨73, _⟩ => ⟨S4096x1024, .f32⟩
  | .hbm, ⟨74, _⟩ => ⟨S4096x16x64, .f32⟩
  | .hbm, ⟨75, _⟩ => ⟨S16x64x4096, .f32⟩
  | .hbm, ⟨76, _⟩ => ⟨S16x4096x4096, .f32⟩
  | .hbm, ⟨77, _⟩ => ⟨S16x64x4096, .f32⟩
  | .hbm, ⟨78, _⟩ => ⟨S4096x16x64, .f32⟩
  | .hbm, ⟨79, _⟩ => ⟨S4096x1024, .f32⟩
  | .hbm, ⟨80, _⟩ => ⟨S16x4096x4096, .f32⟩
  | .hbm, ⟨81, _⟩ => ⟨S16x4096x4096, .f32⟩
  | .hbm, ⟨82, _⟩ => ⟨S16x4096x4096, .f32⟩
  | .hbm, ⟨83, _⟩ => ⟨S_, .f32⟩
  | .hbm, ⟨84, _⟩ => ⟨S16x4096, .f32⟩
  | .hbm, ⟨85, _⟩ => ⟨S16x4096x1, .f32⟩
  | .hbm, ⟨86, _⟩ => ⟨S16x4096x1, .f32⟩
  | .hbm, ⟨87, _⟩ => ⟨S16x4096x4096, .f32⟩
  | .hbm, ⟨88, _⟩ => ⟨S16x4096x4096, .f32⟩
  | .hbm, ⟨89, _⟩ => ⟨S_, .f32⟩
  | .hbm, ⟨90, _⟩ => ⟨S16x4096, .f32⟩
  | .hbm, ⟨91, _⟩ => ⟨S16x4096x4096, .f32⟩
  | .hbm, ⟨92, _⟩ => ⟨S16x4096x4096, .f32⟩
  | .hbm, ⟨93, _⟩ => ⟨S16x4096x4096, .f32⟩
  | .hbm, ⟨94, _⟩ => ⟨S_, .f32⟩
  | .hbm, ⟨95, _⟩ => ⟨S16x4096x4096, .f32⟩
  | .hbm, ⟨96, _⟩ => ⟨S16x4096x4096, .f32⟩
  | .hbm, ⟨97, _⟩ => ⟨S_, .f32⟩
  | .hbm, ⟨98, _⟩ => ⟨S16x4096, .f32⟩
  | .hbm, ⟨99, _⟩ => ⟨S16x4096x1, .f32⟩
  | .hbm, ⟨100, _⟩ => ⟨S16x4096x4096, .f32⟩
  | .hbm, ⟨101, _⟩ => ⟨S_, .f32⟩
  | .hbm, ⟨102, _⟩ => ⟨S16x4096, .f32⟩
  | .hbm, ⟨103, _⟩ => ⟨S16x1x4096, .f32⟩
  | .hbm, ⟨104, _⟩ => ⟨S_, .f32⟩
  | .hbm, ⟨105, _⟩ => ⟨S16x4096, .f32⟩
  | .hbm, ⟨106, _⟩ => ⟨S_, .f32⟩
  | .hbm, ⟨107, _⟩ => ⟨S16x4096, .f32⟩
  | .hbm, ⟨108, _⟩ => ⟨S_, .f32⟩
  | .hbm, ⟨109, _⟩ => ⟨S16x4096x4096, .f32⟩
  | .hbm, ⟨110, _⟩ => ⟨S16x4096x4096, .f32⟩
  | .hbm, ⟨111, _⟩ => ⟨S16x4096x64, .f32⟩
  | .hbm, ⟨112, _⟩ => ⟨S4096x16x64, .f32⟩
  | .hbm, ⟨113, _⟩ => ⟨S16x4096x64, .f32⟩
  | .hbm, ⟨114, _⟩ => ⟨S4096x16x64, .f32⟩
  | .hbm, ⟨115, _⟩ => ⟨S4096x1024, .f32⟩
  | .hbm, ⟨116, _⟩ => ⟨S4096x1024, .f32⟩
  | .hbm, ⟨117, _⟩ => ⟨S8x2x4096, .f32⟩
  | .hbm, ⟨118, _⟩ => ⟨S8x2x4096, .f32⟩
  | .hbm, ⟨119, _⟩ => ⟨S_, .i32⟩
  | .hbm, ⟨120, _⟩ => ⟨S_, .f32⟩
  | .hbm, ⟨121, _⟩ => ⟨S8x8x4096, .f32⟩
  | .hbm, ⟨122, _⟩ => ⟨S4096x1024, .bf16⟩
  | .hbm, ⟨123, _⟩ => ⟨S4096x1024, .bf16⟩
  | .hbm, ⟨124, _⟩ => ⟨S4096x16, .f32⟩
  | .hbm, ⟨125, _⟩ => ⟨S4096x16x64, .f32⟩
  | .hbm, ⟨126, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_0 : Ref sig .tc := ⟨.hbm, 25, rfl⟩
abbrev main_call0_v0 : Ref sig .tc := ⟨.hbm, 26, rfl⟩
abbrev main_v19_1 : Ref sig .tc := ⟨.hbm, 27, rfl⟩
abbrev main_call0_v2 : Ref sig .tc := ⟨.hbm, 28, rfl⟩
abbrev main_v19_0 : Ref sig .tc := ⟨.hbm, 29, rfl⟩
abbrev main_call0_cst : Ref sig .tc := ⟨.hbm, 30, rfl⟩
abbrev main_v19_2 : Ref sig .tc := ⟨.hbm, 31, rfl⟩
abbrev main_cst_1 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_2 : Ref sig .tc := ⟨.hbm, 38, rfl⟩
abbrev main_v25 : Ref sig .tc := ⟨.hbm, 39, rfl⟩
abbrev main_cst_3 : Ref sig .tc := ⟨.hbm, 40, rfl⟩
abbrev main_v26 : Ref sig .tc := ⟨.hbm, 41, rfl⟩
abbrev main_v27 : Ref sig .tc := ⟨.hbm, 42, rfl⟩
abbrev main_cst_4 : Ref sig .tc := ⟨.hbm, 43, rfl⟩
abbrev main_v28 : Ref sig .tc := ⟨.hbm, 44, rfl⟩
abbrev main_v29 : Ref sig .tc := ⟨.hbm, 45, rfl⟩
abbrev main_cst_5 : Ref sig .tc := ⟨.hbm, 46, rfl⟩
abbrev main_v30 : Ref sig .tc := ⟨.hbm, 47, rfl⟩
abbrev main_v31 : Ref sig .tc := ⟨.hbm, 48, rfl⟩
abbrev main_cst_6 : Ref sig .tc := ⟨.hbm, 49, rfl⟩
abbrev main_v32 : Ref sig .tc := ⟨.hbm, 50, rfl⟩
abbrev main_cst_7 : Ref sig .tc := ⟨.hbm, 51, rfl⟩
abbrev main_v33 : Ref sig .tc := ⟨.hbm, 52, rfl⟩
abbrev main_cst_8 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_9 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_cst_10 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_cst_11 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_cst_12 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_call1_cst : Ref sig .tc := ⟨.hbm, 94, rfl⟩
abbrev main_call1_v0 : Ref sig .tc := ⟨.hbm, 95, rfl⟩
abbrev main_v70 : Ref sig .tc := ⟨.hbm, 96, rfl⟩
abbrev main_cst_13 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_cst_14 : Ref sig .tc := ⟨.hbm, 101, rfl⟩
abbrev main_v74 : Ref sig .tc := ⟨.hbm, 102, rfl⟩
abbrev main_v75 : Ref sig .tc := ⟨.hbm, 103, rfl⟩
abbrev main_cst_15 : Ref sig .tc := ⟨.hbm, 104, rfl⟩
abbrev main_v76 : Ref sig .tc := ⟨.hbm, 105, rfl⟩
abbrev main_cst_16 : Ref sig .tc := ⟨.hbm, 106, rfl⟩
abbrev main_v77 : Ref sig .tc := ⟨.hbm, 107, rfl⟩
abbrev main_cst_17 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_c : Ref sig .tc := ⟨.hbm, 119, rfl⟩
abbrev main_call2_v0 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩

abbrev nD : Nat := 1
abbrev τ : Topo := Topo.v7x

variable {F : FTy → Type} [FloatOps F]
-- ==== KernelIn.lean ====
abbrev S4096x1024 : Shape := ⟨2, ![4096, 1024]⟩
abbrev S1x1024 : Shape := ⟨2, ![1, 1024]⟩
abbrev S256x1024 : Shape := ⟨2, ![256, 1024]⟩
abbrev S1024 : Shape := ⟨1, ![1024]⟩

abbrev nBuf : Space → Nat
  | .hbm => 8
  | .vmem => 11
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1x1024, .f32⟩
  | .hbm, ⟨3, _⟩ => ⟨S4096x1024, .f32⟩
  | .hbm, ⟨4, _⟩ => ⟨S4096x1024, .f32⟩
  | .hbm, ⟨5, _⟩ => ⟨S4096x1024, .f32⟩
  | .hbm, ⟨6, _⟩ => ⟨S1x1024, .f32⟩
  | .hbm, ⟨7, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S1x1024, .f32⟩
  | .local _ .vmem, ⟨7, _⟩ => ⟨S256x1024, .f32⟩
  | .local _ .vmem, ⟨8, _⟩ => ⟨S256x1024, .f32⟩
  | .local _ .vmem, ⟨9, _⟩ => ⟨S1x1024, .f32⟩
  | .local _ .vmem, ⟨10, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem6_0 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c15_i32 : BitVec 32 := 15#32
  let v1 : BitVec 32 := Scalar.maxsi c0_i32_0 v0
  let v2 : BitVec 32 := Scalar.minsi c15_i32 v1
  let c0_i32_1 : BitVec 32 := 0#32
  let c0_i32_2 : BitVec 32 := 0#32
  ![v2.toNat, c0_i32_1.toNat]

def cc0_transform_1 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c15_i32 : BitVec 32 := 15#32
  let v1 : BitVec 32 := Scalar.maxsi c0_i32_0 v0
  let v2 : BitVec 32 := Scalar.minsi c15_i32 v1
  let c0_i32_1 : BitVec 32 := 0#32
  let c0_i32_2 : BitVec 32 := 0#32
  ![v2.toNat, c0_i32_1.toNat]

def cc0_transform_2 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c15_i32 : BitVec 32 := 15#32
  let v1 : BitVec 32 := Scalar.maxsi c0_i32_0 v0
  let v2 : BitVec 32 := Scalar.minsi c15_i32 v1
  let c0_i32_1 : BitVec 32 := 0#32
  let c0_i32_2 : BitVec 32 := 0#32
  ![v2.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== ReferenceInIdeal.lean ====
abbrev S4096x1024 : Shape := ⟨2, ![4096, 1024]⟩
abbrev S1x1024 : Shape := ⟨2, ![1, 1024]⟩
abbrev S_ : Shape := ⟨0, ![]⟩
abbrev S1024 : Shape := ⟨1, ![1024]⟩

abbrev nBuf : Space → Nat
  | .hbm => 29
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1x1024, .f32⟩
  | .hbm, ⟨3, _⟩ => ⟨S4096x1024, .f32⟩
  | .hbm, ⟨4, _⟩ => ⟨S4096x1024, .f32⟩
  | .hbm, ⟨5, _⟩ => ⟨S_, .f32⟩
  | .hbm, ⟨6, _⟩ => ⟨S4096x1024, .f32⟩
  | .hbm, ⟨7, _⟩ => ⟨S4096x1024, .f32⟩
  | .hbm, ⟨8, _⟩ => ⟨S_, .f32⟩
  | .hbm, ⟨9, _⟩ => ⟨S1x1024, .f32⟩
  | .hbm, ⟨10, _⟩ => ⟨S1x1024, .f32⟩
  | .hbm, ⟨11, _⟩ => ⟨S4096x1024, .f32⟩
  | .hbm, ⟨12, _⟩ => ⟨S4096x1024, .f32⟩
  | .hbm, ⟨13, _⟩ => ⟨S4096x1024, .f32⟩
  | .hbm, ⟨14, _⟩ => ⟨S4096x1024, .f32⟩
  | .hbm, ⟨15, _⟩ => ⟨S4096x1024, .f32⟩
  | .hbm, ⟨16, _⟩ => ⟨S_, .f32⟩
  | .hbm, ⟨17, _⟩ => ⟨S1024, .f32⟩
  | .hbm, ⟨18, _⟩ => ⟨S1x1024, .f32⟩
  | .hbm, ⟨19, _⟩ => ⟨S4096x1024, .f32⟩
  | .hbm, ⟨20, _⟩ => ⟨S_, .f32⟩
  | .hbm, ⟨21, _⟩ => ⟨S1024, .f32⟩
  | .hbm, ⟨22, _⟩ => ⟨S1x1024, .f32⟩
  | .hbm, ⟨23, _⟩ => ⟨S4096x1024, .f32⟩
  | .hbm, ⟨24, _⟩ => ⟨S4096x1024, .f32⟩
  | .hbm, ⟨25, _⟩ => ⟨S_, .f32⟩
  | .hbm, ⟨26, _⟩ => ⟨S4096x1024, .f32⟩
  | .hbm, ⟨27, _⟩ => ⟨S4096x1024, .f32⟩
  | .hbm, ⟨28, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_3 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩

abbrev nD : Nat := 1
abbrev τ : Topo := Topo.v7x

variable {F : FTy → Type} [FloatOps F]
-- ==== KernelMix.lean ====
abbrev S4096x1024 : Shape := ⟨2, ![4096, 1024]⟩
abbrev S1x1024 : Shape := ⟨2, ![1, 1024]⟩
abbrev S4096x2048 : Shape := ⟨2, ![4096, 2048]⟩
abbrev S_ : Shape := ⟨0, ![]⟩
abbrev S4096x5760 : Shape := ⟨2, ![4096, 5760]⟩
abbrev S256x2048 : Shape := ⟨2, ![256, 2048]⟩
abbrev S256x1024 : Shape := ⟨2, ![256, 1024]⟩
abbrev S256 : Shape := ⟨1, ![256]⟩
abbrev S256x1 : Shape := ⟨2, ![256, 1]⟩
abbrev S1024 : Shape := ⟨1, ![1024]⟩

abbrev nBuf : Space → Nat
  | .hbm => 14
  | .vmem => 18
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S1x1024, .f32⟩
  | .hbm, ⟨4, _⟩ => ⟨S1x1024, .f32⟩
  | .hbm, ⟨5, _⟩ => ⟨S4096x2048, .f32⟩
  | .hbm, ⟨6, _⟩ => ⟨S_, .i32⟩
  | .hbm, ⟨7, _⟩ => ⟨S_, .f32⟩
  | .hbm, ⟨8, _⟩ => ⟨S4096x5760, .f32⟩
  | .hbm, ⟨9, _⟩ => ⟨S4096x1024, .f32⟩
  | .hbm, ⟨10, _⟩ => ⟨S4096x1024, .bf16⟩
  | .hbm, ⟨11, _⟩ => ⟨S4096x1024, .f32⟩
  | .hbm, ⟨12, _⟩ => ⟨S1x1024, .f32⟩
  | .hbm, ⟨13, _⟩ => ⟨S1x1024, .f32⟩
  | .local _ .vmem, ⟨0, _⟩ => ⟨S256x2048, .f32⟩
  | .local _ .vmem, ⟨1, _⟩ => ⟨S256x2048, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S1x1024, .f32⟩
  | .local _ .vmem, ⟨9, _⟩ => ⟨S1x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .bf16⟩
  | .local _ .vmem, ⟨13, _⟩ => ⟨S256x1024, .bf16⟩
  | .local _ .vmem, ⟨14, _⟩ => ⟨S256x1024, .f32⟩
  | .local _ .vmem, ⟨15, _⟩ => ⟨S256x1024, .f32⟩
  | .local _ .vmem, ⟨16, _⟩ => ⟨S1x1024, .f32⟩
  | .local _ .vmem, ⟨17, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_call0_v0 : Ref sig .tc := ⟨.hbm, 7, rfl⟩
abbrev main_v0 : Ref sig .tc := ⟨.hbm, 8, rfl⟩
abbrev main_v1_0 : Ref sig .tc := ⟨.hbm, 9, rfl⟩
abbrev main_v1_1 : Ref sig .tc := ⟨.hbm, 10, rfl⟩
abbrev main_v1_2 : Ref sig .tc := ⟨.hbm, 11, rfl⟩
abbrev main_v1_3 : Ref sig .tc := ⟨.hbm, 12, rfl⟩
abbrev main_v1_4 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg10_0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem10_0 : DmaSem sig := 17

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c15_i32 : BitVec 32 := 15#32
  let v1 : BitVec 32 := Scalar.maxsi c0_i32_0 v0
  let v2 : BitVec 32 := Scalar.minsi c15_i32 v1
  let c0_i32_1 : BitVec 32 := 0#32
  let c0_i32_2 : BitVec 32 := 0#32
  ![v2.toNat, c0_i32_1.toNat]

def cc0_transform_1 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c15_i32 : BitVec 32 := 15#32
  let v1 : BitVec 32 := Scalar.maxsi c0_i32_0 v0
  let v2 : BitVec 32 := Scalar.minsi c15_i32 v1
  let c0_i32_1 : BitVec 32 := 0#32
  let c0_i32_2 : BitVec 32 := 0#32
  ![v2.toNat, c0_i32_1.toNat]

def cc0_transform_2 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c15_i32 : BitVec 32 := 15#32
  let v1 : BitVec 32 := Scalar.maxsi c0_i32_0 v0
  let v2 : BitVec 32 := Scalar.minsi c15_i32 v1
  let c0_i32_1 : BitVec 32 := 0#32
  let c0_i32_2 : BitVec 32 := 0#32
  ![v2.toNat, c0_i32_1.toNat]

def cc0_transform_3 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c15_i32 : BitVec 32 := 15#32
  let v1 : BitVec 32 := Scalar.maxsi c0_i32_0 v0
  let v2 : BitVec 32 := Scalar.minsi c15_i32 v1
  let c0_i32_1 : BitVec 32 := 0#32
  let c0_i32_2 : BitVec 32 := 0#32
  ![v2.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== ReferenceMixIdeal.lean ====
abbrev S4096x1024 : Shape := ⟨2, ![4096, 1024]⟩
abbrev S1x1024 : Shape := ⟨2, ![1, 1024]⟩
abbrev S4096x2048 : Shape := ⟨2, ![4096, 2048]⟩
abbrev S_ : Shape := ⟨0, ![]⟩
abbrev S4096 : Shape := ⟨1, ![4096]⟩
abbrev S4096x1 : Shape := ⟨2, ![4096, 1]⟩
abbrev S1024 : Shape := ⟨1, ![1024]⟩

abbrev nBuf : Space → Nat
  | .hbm => 114
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S1x1024, .f32⟩
  | .hbm, ⟨4, _⟩ => ⟨S1x1024, .f32⟩
  | .hbm, ⟨5, _⟩ => ⟨S4096x2048, .f32⟩
  | .hbm, ⟨6, _⟩ => ⟨S4096x1024, .f32⟩
  | .hbm, ⟨7, _⟩ => ⟨S4096x1024, .f32⟩
  | .hbm, ⟨8, _⟩ => ⟨S_, .f32⟩
  | .hbm, ⟨9, _⟩ => ⟨S4096x1024, .f32⟩
  | .hbm, ⟨10, _⟩ => ⟨S4096x1024, .f32⟩
  | .hbm, ⟨11, _⟩ => ⟨S_, .f32⟩
  | .hbm, ⟨12, _⟩ => ⟨S4096x1024, .f32⟩
  | .hbm, ⟨13, _⟩ => ⟨S4096x1024, .f32⟩
  | .hbm, ⟨14, _⟩ => ⟨S_, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S_, .f32⟩
  | .hbm, ⟨22, _⟩ => ⟨S4096, .f32⟩
  | .hbm, ⟨23, _⟩ => ⟨S4096x1, .f32⟩
  | .hbm, ⟨24, _⟩ => ⟨S_, .f32⟩
  | .hbm, ⟨25, _⟩ => ⟨S4096x1, .f32⟩
  | .hbm, ⟨26, _⟩ => ⟨S4096x1, .f32⟩
  | .hbm, ⟨27, _⟩ => ⟨S_, .f32⟩
  | .hbm, ⟨28, _⟩ => ⟨S4096x1, .f32⟩
  | .hbm, ⟨29, _⟩ => ⟨S4096x1, .f32⟩
  | .hbm, ⟨30, _⟩ => ⟨S4096x1, .f32⟩
  | .hbm, ⟨31, _⟩ => ⟨S4096x1, .f32⟩
  | .hbm, ⟨32, _⟩ => ⟨S_, .f32⟩
  | .hbm, ⟨33, _⟩ => ⟨S4096x1, .f32⟩
  | .hbm, ⟨34, _⟩ => ⟨S4096x1, .f32⟩
  | .hbm, ⟨35, _⟩ => ⟨S4096x1024, .f32⟩
  | .hbm, ⟨36, _⟩ => ⟨S4096x1024, .f32⟩
  | .hbm, ⟨37, _⟩ => ⟨S4096x1024, .f32⟩
  | .hbm, ⟨38, _⟩ => ⟨S4096x1024, .f32⟩
  | .hbm, ⟨39, _⟩ => ⟨S4096x1024, .f32⟩
  | .hbm, ⟨40, _⟩ => ⟨S_, .f32⟩
  | .hbm, ⟨41, _⟩ => ⟨S4096, .f32⟩
  | .hbm, ⟨42, _⟩ => ⟨S4096x1, .f32⟩
  | .hbm, ⟨43, _⟩ => ⟨S_, .f32⟩
  | .hbm, ⟨44, _⟩ => ⟨S4096x1, .f32⟩
  | .hbm, ⟨45, _⟩ => ⟨S4096x1, .f32⟩
  | .hbm, ⟨46, _⟩ => ⟨S_, .f32⟩
  | .hbm, ⟨47, _⟩ => ⟨S4096x1, .f32⟩
  | .hbm, ⟨48, _⟩ => ⟨S4096x1, .f32⟩
  | .hbm, ⟨49, _⟩ => ⟨S4096x1, .f32⟩
  | .hbm, ⟨50, _⟩ => ⟨S4096x1, .f32⟩
  | .hbm, ⟨51, _⟩ => ⟨S_, .f32⟩
  | .hbm, ⟨52, _⟩ => ⟨S4096x1, .f32⟩
  | .hbm, ⟨53, _⟩ => ⟨S4096x1, .f32⟩
  | .hbm, ⟨54, _⟩ => ⟨S4096x1024, .f32⟩
  | .hbm, ⟨55, _⟩ => ⟨S4096x1024, .f32⟩
  | .hbm, ⟨56, _⟩ => ⟨S4096x1024, .f32⟩
  | .hbm, ⟨57, _⟩ => ⟨S4096x1024, .f32⟩
  | .hbm, ⟨58, _⟩ => ⟨S4096x2048, .f32⟩
  | .hbm, ⟨59, _⟩ => ⟨S4096x1024, .f32⟩
  | .hbm, ⟨60, _⟩ => ⟨S4096x1024, .f32⟩
  | .hbm, ⟨61, _⟩ => ⟨S4096x1024, .f32⟩
  | .hbm, ⟨62, _⟩ => ⟨S_, .f32⟩
  | .hbm, ⟨63, _⟩ => ⟨S1024, .f32⟩
  | .hbm, ⟨64, _⟩ => ⟨S1x1024, .f32⟩
  | .hbm, ⟨65, _⟩ => ⟨S4096x1024, .f32⟩
  | .hbm, ⟨66, _⟩ => ⟨S4096x1024, .f32⟩
  | .hbm, ⟨67, _⟩ => ⟨S4096x1024, .f32⟩
  | .hbm, ⟨68, _⟩ => ⟨S_, .f32⟩
  | .hbm, ⟨69, _⟩ => ⟨S4096, .f32⟩
  | .hbm, ⟨70, _⟩ => ⟨S4096x1, .f32⟩
  | .hbm, ⟨71, _⟩ => ⟨S4096x1024, .f32⟩
  | .hbm, ⟨72, _⟩ => ⟨S4096x1024, .f32⟩
  | .hbm, ⟨73, _⟩ => ⟨S4096x1, .f32⟩
  | .hbm, ⟨74, _⟩ => ⟨S_, .f32⟩
  | .hbm, ⟨75, _⟩ => ⟨S4096x1, .f32⟩
  | .hbm, ⟨76, _⟩ => ⟨S4096x1, .f32⟩
  | .hbm, ⟨77, _⟩ => ⟨S_, .f32⟩
  | .hbm, ⟨78, _⟩ => ⟨S4096, .f32⟩
  | .hbm, ⟨79, _⟩ => ⟨S4096x1024, .f32⟩
  | .hbm, ⟨80, _⟩ => ⟨S4096x1024, .f32⟩
  | .hbm, ⟨81, _⟩ => ⟨S4096x1024, .f32⟩
  | .hbm, ⟨82, _⟩ => ⟨S4096x1024, .f32⟩
  | .hbm, ⟨83, _⟩ => ⟨S4096x1024, .f32⟩
  | .hbm, ⟨84, _⟩ => ⟨S4096x1024, .f32⟩
  | .hbm, ⟨85, _⟩ => ⟨S_, .f32⟩
  | .hbm, ⟨86, _⟩ => ⟨S1024, .f32⟩
  | .hbm, ⟨87, _⟩ => ⟨S1x1024, .f32⟩
  | .hbm, ⟨88, _⟩ => ⟨S4096x1024, .f32⟩
  | .hbm, ⟨89, _⟩ => ⟨S4096x1024, .f32⟩
  | .hbm, ⟨90, _⟩ => ⟨S4096x1024, .f32⟩
  | .hbm, ⟨91, _⟩ => ⟨S_, .f32⟩
  | .hbm, ⟨92, _⟩ => ⟨S4096, .f32⟩
  | .hbm, ⟨93, _⟩ => ⟨S4096x1, .f32⟩
  | .hbm, ⟨94, _⟩ => ⟨S4096x1024, .f32⟩
  | .hbm, ⟨95, _⟩ => ⟨S4096x1024, .f32⟩
  | .hbm, ⟨96, _⟩ => ⟨S4096x1, .f32⟩
  | .hbm, ⟨97, _⟩ => ⟨S_, .f32⟩
  | .hbm, ⟨98, _⟩ => ⟨S4096x1, .f32⟩
  | .hbm, ⟨99, _⟩ => ⟨S4096x1, .f32⟩
  | .hbm, ⟨100, _⟩ => ⟨S_, .f32⟩
  | .hbm, ⟨101, _⟩ => ⟨S4096, .f32⟩
  | .hbm, ⟨102, _⟩ => ⟨S4096x1024, .f32⟩
  | .hbm, ⟨103, _⟩ => ⟨S4096x1024, .f32⟩
  | .hbm, ⟨104, _⟩ => ⟨S4096x1024, .f32⟩
  | .hbm, ⟨105, _⟩ => ⟨S4096x1024, .f32⟩
  | .hbm, ⟨106, _⟩ => ⟨S4096x1024, .f32⟩
  | .hbm, ⟨107, _⟩ => ⟨S4096x1024, .f32⟩
  | .hbm, ⟨108, _⟩ => ⟨S4096x1024, .f32⟩
  | .hbm, ⟨109, _⟩ => ⟨S4096x1024, .f32⟩
  | .hbm, ⟨110, _⟩ => ⟨S4096x1024, .f32⟩
  | .hbm, ⟨111, _⟩ => ⟨S4096x1024, .f32⟩
  | .hbm, ⟨112, _⟩ => ⟨S4096x1024, .f32⟩
  | .hbm, ⟨113, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_v0_2 : Ref sig .tc := ⟨.hbm, 13, rfl⟩
abbrev main_call0_cst_1 : Ref sig .tc := ⟨.hbm, 14, rfl⟩
abbrev main_call0_v6 : Ref sig .tc := ⟨.hbm, 15, rfl⟩
abbrev main_call0_v7 : Ref sig .tc := ⟨.hbm, 16, rfl⟩
abbrev main_v0_1 : Ref sig .tc := ⟨.hbm, 17, rfl⟩
abbrev main_v0_0 : Ref sig .tc := ⟨.hbm, 18, rfl⟩
abbrev main_v1 : Ref sig .tc := ⟨.hbm, 19, rfl⟩
abbrev main_v2 : Ref sig .tc := ⟨.hbm, 20, rfl⟩
abbrev main_cst : Ref sig .tc := ⟨.hbm, 21, rfl⟩
abbrev main_v3 : Ref sig .tc := ⟨.hbm, 22, rfl⟩
abbrev main_v4 : Ref sig .tc := ⟨.hbm, 23, rfl⟩
abbrev main_cst_0 : Ref sig .tc := ⟨.hbm, 24, rfl⟩
abbrev main_v5 : Ref sig .tc := ⟨.hbm, 25, rfl⟩
abbrev main_v6 : Ref sig .tc := ⟨.hbm, 26, rfl⟩
abbrev main_cst_1 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_cst_2 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_cst_3 : Ref sig .tc := ⟨.hbm, 40, rfl⟩
abbrev main_v18 : Ref sig .tc := ⟨.hbm, 41, rfl⟩
abbrev main_v19 : Ref sig .tc := ⟨.hbm, 42, rfl⟩
abbrev main_cst_4 : Ref sig .tc := ⟨.hbm, 43, rfl⟩
abbrev main_v20 : Ref sig .tc := ⟨.hbm, 44, rfl⟩
abbrev main_v21 : Ref sig .tc := ⟨.hbm, 45, rfl⟩
abbrev main_cst_5 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_cst_6 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_cst_7 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_cst_8 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_cst_9 : Ref sig .tc := ⟨.hbm, 74, rfl⟩
abbrev main_v46 : Ref sig .tc := ⟨.hbm, 75, rfl⟩
abbrev main_v47 : Ref sig .tc := ⟨.hbm, 76, rfl⟩
abbrev main_cst_10 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_cst_11 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_cst_12 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_cst_13 : Ref sig .tc := ⟨.hbm, 97, rfl⟩
abbrev main_v65 : Ref sig .tc := ⟨.hbm, 98, rfl⟩
abbrev main_v66 : Ref sig .tc := ⟨.hbm, 99, rfl⟩
abbrev main_cst_14 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_call1_v0 : Ref sig .tc := ⟨.hbm, 109, rfl⟩
abbrev main_call1_v1 : Ref sig .tc := ⟨.hbm, 110, rfl⟩
abbrev main_call1_v2 : Ref sig .tc := ⟨.hbm, 111, rfl⟩
abbrev main_v75 : Ref sig .tc := ⟨.hbm, 112, rfl⟩
abbrev main_v76 : Ref sig .tc := ⟨.hbm, 113, rfl⟩

abbrev nD : Nat := 1
abbrev τ : Topo := Topo.v7x

variable {F : FTy → Type} [FloatOps F]
-- ==== KernelLn1.lean ====
abbrev S4096x1024 : Shape := ⟨2, ![4096, 1024]⟩
abbrev S1x1024 : Shape := ⟨2, ![1, 1024]⟩
abbrev S256x1024 : Shape := ⟨2, ![256, 1024]⟩
abbrev S256 : Shape := ⟨1, ![256]⟩
abbrev S256x1 : Shape := ⟨2, ![256, 1]⟩
abbrev S1024 : Shape := ⟨1, ![1024]⟩

abbrev nBuf : Space → Nat
  | .hbm => 16
  | .vmem => 21
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S4096x1024, .f32⟩
  | .hbm, ⟨8, _⟩ => ⟨S4096x1024, .f32⟩
  | .hbm, ⟨9, _⟩ => ⟨S4096x1024, .f32⟩
  | .hbm, ⟨10, _⟩ => ⟨S4096x1024, .bf16⟩
  | .hbm, ⟨11, _⟩ => ⟨S1x1024, .f32⟩
  | .hbm, ⟨12, _⟩ => ⟨S1x1024, .f32⟩
  | .hbm, ⟨13, _⟩ => ⟨S1x1024, .f32⟩
  | .hbm, ⟨14, _⟩ => ⟨S1x1024, .f32⟩
  | .hbm, ⟨15, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S1x1024, .f32⟩
  | .local _ .vmem, ⟨9, _⟩ => ⟨S1x1024, .f32⟩
  | .local _ .vmem, ⟨10, _⟩ => ⟨S1x1024, .f32⟩
  | .local _ .vmem, ⟨11, _⟩ => ⟨S1x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .bf16⟩
  | .local _ .vmem, ⟨15, _⟩ => ⟨S256x1024, .bf16⟩
  | .local _ .vmem, ⟨16, _⟩ => ⟨S1x1024, .f32⟩
  | .local _ .vmem, ⟨17, _⟩ => ⟨S1x1024, .f32⟩
  | .local _ .vmem, ⟨18, _⟩ => ⟨S1x1024, .f32⟩
  | .local _ .vmem, ⟨19, _⟩ => ⟨S1x1024, .f32⟩
  | .local _ .vmem, ⟨20, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev main_v0_3 : Ref sig .tc := ⟨.hbm, 12, rfl⟩
abbrev main_v0_4 : Ref sig .tc := ⟨.hbm, 13, rfl⟩
abbrev main_v0_5 : Ref sig .tc := ⟨.hbm, 14, rfl⟩
abbrev main_v0_6 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg13_0 : Ref sig .tc := ⟨.vmem, 19, rfl⟩
abbrev cc0_stg14_0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem11_0 : DmaSem sig := 17
abbrev cc0_sem12_0 : DmaSem sig := 18
abbrev cc0_sem13_0 : DmaSem sig := 19
abbrev cc0_sem14_0 : DmaSem sig := 20

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c15_i32 : BitVec 32 := 15#32
  let v1 : BitVec 32 := Scalar.maxsi c0_i32_0 v0
  let v2 : BitVec 32 := Scalar.minsi c15_i32 v1
  let c0_i32_1 : BitVec 32 := 0#32
  let c0_i32_2 : BitVec 32 := 0#32
  ![v2.toNat, c0_i32_1.toNat]

def cc0_transform_1 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c15_i32 : BitVec 32 := 15#32
  let v1 : BitVec 32 := Scalar.maxsi c0_i32_0 v0
  let v2 : BitVec 32 := Scalar.minsi c15_i32 v1
  let c0_i32_1 : BitVec 32 := 0#32
  let c0_i32_2 : BitVec 32 := 0#32
  ![v2.toNat, c0_i32_1.toNat]

def cc0_transform_2 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c15_i32 : BitVec 32 := 15#32
  let v1 : BitVec 32 := Scalar.maxsi c0_i32_0 v0
  let v2 : BitVec 32 := Scalar.minsi c15_i32 v1
  let c0_i32_1 : BitVec 32 := 0#32
  let c0_i32_2 : BitVec 32 := 0#32
  ![v2.toNat, c0_i32_1.toNat]

def cc0_transform_3 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c15_i32 : BitVec 32 := 15#32
  let v1 : BitVec 32 := Scalar.maxsi c0_i32_0 v0
  let v2 : BitVec 32 := Scalar.minsi c15_i32 v1
  let c0_i32_1 : BitVec 32 := 0#32
  let c0_i32_2 : BitVec 32 := 0#32
  ![v2.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]
-- ==== ReferenceLn1Ideal.lean ====
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1024 : Shape := ⟨1, ![1024]⟩

abbrev nBuf : Space → Nat
  | .hbm => 123
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S4096x1024, .f32⟩
  | .hbm, ⟨8, _⟩ => ⟨S4096x1024, .f32⟩
  | .hbm, ⟨9, _⟩ => ⟨S_, .f32⟩
  | .hbm, ⟨10, _⟩ => ⟨S4096x1024, .f32⟩
  | .hbm, ⟨11, _⟩ => ⟨S4096x1024, .f32⟩
  | .hbm, ⟨12, _⟩ => ⟨S_, .f32⟩
  | .hbm, ⟨13, _⟩ => ⟨S1x1024, .f32⟩
  | .hbm, ⟨14, _⟩ => ⟨S1x1024, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S_, .f32⟩
  | .hbm, ⟨19, _⟩ => ⟨S4096, .f32⟩
  | .hbm, ⟨20, _⟩ => ⟨S4096x1, .f32⟩
  | .hbm, ⟨21, _⟩ => ⟨S_, .f32⟩
  | .hbm, ⟨22, _⟩ => ⟨S4096x1, .f32⟩
  | .hbm, ⟨23, _⟩ => ⟨S4096x1, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S_, .f32⟩
  | .hbm, ⟨28, _⟩ => ⟨S4096x1024, .f32⟩
  | .hbm, ⟨29, _⟩ => ⟨S4096x1024, .f32⟩
  | .hbm, ⟨30, _⟩ => ⟨S_, .f32⟩
  | .hbm, ⟨31, _⟩ => ⟨S4096, .f32⟩
  | .hbm, ⟨32, _⟩ => ⟨S4096x1, .f32⟩
  | .hbm, ⟨33, _⟩ => ⟨S_, .f32⟩
  | .hbm, ⟨34, _⟩ => ⟨S4096x1, .f32⟩
  | .hbm, ⟨35, _⟩ => ⟨S4096x1, .f32⟩
  | .hbm, ⟨36, _⟩ => ⟨S4096x1024, .f32⟩
  | .hbm, ⟨37, _⟩ => ⟨S4096x1024, .f32⟩
  | .hbm, ⟨38, _⟩ => ⟨S_, .f32⟩
  | .hbm, ⟨39, _⟩ => ⟨S4096x1, .f32⟩
  | .hbm, ⟨40, _⟩ => ⟨S4096x1, .f32⟩
  | .hbm, ⟨41, _⟩ => ⟨S4096x1, .f32⟩
  | .hbm, ⟨42, _⟩ => ⟨S4096x1, .f32⟩
  | .hbm, ⟨43, _⟩ => ⟨S_, .f32⟩
  | .hbm, ⟨44, _⟩ => ⟨S4096x1, .f32⟩
  | .hbm, ⟨45, _⟩ => ⟨S4096x1, .f32⟩
  | .hbm, ⟨46, _⟩ => ⟨S4096x1024, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S_, .f32⟩
  | .hbm, ⟨53, _⟩ => ⟨S1x1024, .f32⟩
  | .hbm, ⟨54, _⟩ => ⟨S1x1024, .f32⟩
  | .hbm, ⟨55, _⟩ => ⟨S4096x1024, .f32⟩
  | .hbm, ⟨56, _⟩ => ⟨S4096x1024, .f32⟩
  | .hbm, ⟨57, _⟩ => ⟨S4096x1024, .f32⟩
  | .hbm, ⟨58, _⟩ => ⟨S4096x1024, .f32⟩
  | .hbm, ⟨59, _⟩ => ⟨S_, .f32⟩
  | .hbm, ⟨60, _⟩ => ⟨S4096x1024, .f32⟩
  | .hbm, ⟨61, _⟩ => ⟨S4096x1024, .f32⟩
  | .hbm, ⟨62, _⟩ => ⟨S_, .f32⟩
  | .hbm, ⟨63, _⟩ => ⟨S4096x1024, .f32⟩
  | .hbm, ⟨64, _⟩ => ⟨S4096x1024, .f32⟩
  | .hbm, ⟨65, _⟩ => ⟨S4096x1024, .f32⟩
  | .hbm, ⟨66, _⟩ => ⟨S_, .f32⟩
  | .hbm, ⟨67, _⟩ => ⟨S1024, .f32⟩
  | .hbm, ⟨68, _⟩ => ⟨S1x1024, .f32⟩
  | .hbm, ⟨69, _⟩ => ⟨S4096x1024, .f32⟩
  | .hbm, ⟨70, _⟩ => ⟨S_, .f32⟩
  | .hbm, ⟨71, _⟩ => ⟨S1024, .f32⟩
  | .hbm, ⟨72, _⟩ => ⟨S1x1024, .f32⟩
  | .hbm, ⟨73, _⟩ => ⟨S4096x1024, .f32⟩
  | .hbm, ⟨74, _⟩ => ⟨S4096x1024, .f32⟩
  | .hbm, ⟨75, _⟩ => ⟨S4096x1024, .f32⟩
  | .hbm, ⟨76, _⟩ => ⟨S_, .f32⟩
  | .hbm, ⟨77, _⟩ => ⟨S1024, .f32⟩
  | .hbm, ⟨78, _⟩ => ⟨S1x1024, .f32⟩
  | .hbm, ⟨79, _⟩ => ⟨S4096x1024, .f32⟩
  | .hbm, ⟨80, _⟩ => ⟨S_, .f32⟩
  | .hbm, ⟨81, _⟩ => ⟨S1024, .f32⟩
  | .hbm, ⟨82, _⟩ => ⟨S1x1024, .f32⟩
  | .hbm, ⟨83, _⟩ => ⟨S4096x1024, .f32⟩
  | .hbm, ⟨84, _⟩ => ⟨S4096x1024, .f32⟩
  | .hbm, ⟨85, _⟩ => ⟨S4096x1024, .f32⟩
  | .hbm, ⟨86, _⟩ => ⟨S_, .f32⟩
  | .hbm, ⟨87, _⟩ => ⟨S4096, .f32⟩
  | .hbm, ⟨88, _⟩ => ⟨S4096x1, .f32⟩
  | .hbm, ⟨89, _⟩ => ⟨S4096x1024, .f32⟩
  | .hbm, ⟨90, _⟩ => ⟨S4096x1024, .f32⟩
  | .hbm, ⟨91, _⟩ => ⟨S4096x1, .f32⟩
  | .hbm, ⟨92, _⟩ => ⟨S4096x1024, .f32⟩
  | .hbm, ⟨93, _⟩ => ⟨S_, .f32⟩
  | .hbm, ⟨94, _⟩ => ⟨S4096, .f32⟩
  | .hbm, ⟨95, _⟩ => ⟨S4096x1, .f32⟩
  | .hbm, ⟨96, _⟩ => ⟨S_, .f32⟩
  | .hbm, ⟨97, _⟩ => ⟨S4096x1, .f32⟩
  | .hbm, ⟨98, _⟩ => ⟨S4096x1, .f32⟩
  | .hbm, ⟨99, _⟩ => ⟨S_, .f32⟩
  | .hbm, ⟨100, _⟩ => ⟨S4096, .f32⟩
  | .hbm, ⟨101, _⟩ => ⟨S4096x1024, .f32⟩
  | .hbm, ⟨102, _⟩ => ⟨S4096x1024, .f32⟩
  | .hbm, ⟨103, _⟩ => ⟨S4096x1024, .f32⟩
  | .hbm, ⟨104, _⟩ => ⟨S_, .f32⟩
  | .hbm, ⟨105, _⟩ => ⟨S4096, .f32⟩
  | .hbm, ⟨106, _⟩ => ⟨S4096x1, .f32⟩
  | .hbm, ⟨107, _⟩ => ⟨S4096x1024, .f32⟩
  | .hbm, ⟨108, _⟩ => ⟨S4096x1, .f32⟩
  | .hbm, ⟨109, _⟩ => ⟨S_, .f32⟩
  | .hbm, ⟨110, _⟩ => ⟨S4096x1, .f32⟩
  | .hbm, ⟨111, _⟩ => ⟨S4096x1, .f32⟩
  | .hbm, ⟨112, _⟩ => ⟨S_, .f32⟩
  | .hbm, ⟨113, _⟩ => ⟨S4096, .f32⟩
  | .hbm, ⟨114, _⟩ => ⟨S4096x1024, .f32⟩
  | .hbm, ⟨115, _⟩ => ⟨S4096x1024, .f32⟩
  | .hbm, ⟨116, _⟩ => ⟨S4096x1024, .f32⟩
  | .hbm, ⟨117, _⟩ => ⟨S4096x1024, .f32⟩
  | .hbm, ⟨118, _⟩ => ⟨S4096x1024, .f32⟩
  | .hbm, ⟨119, _⟩ => ⟨S_, .f32⟩
  | .hbm, ⟨120, _⟩ => ⟨S1024, .f32⟩
  | .hbm, ⟨121, _⟩ => ⟨S1x1024, .f32⟩
  | .hbm, ⟨122, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_v1 : Ref sig .tc := ⟨.hbm, 11, rfl⟩
abbrev main_cst_0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst_1 : Ref sig .tc := ⟨.hbm, 18, rfl⟩
abbrev main_v7 : Ref sig .tc := ⟨.hbm, 19, rfl⟩
abbrev main_v8 : Ref sig .tc := ⟨.hbm, 20, rfl⟩
abbrev main_cst_2 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_3 : Ref sig .tc := ⟨.hbm, 27, rfl⟩
abbrev main_v14 : Ref sig .tc := ⟨.hbm, 28, rfl⟩
abbrev main_v15 : Ref sig .tc := ⟨.hbm, 29, rfl⟩
abbrev main_cst_4 : Ref sig .tc := ⟨.hbm, 30, rfl⟩
abbrev main_v16 : Ref sig .tc := ⟨.hbm, 31, rfl⟩
abbrev main_v17 : Ref sig .tc := ⟨.hbm, 32, rfl⟩
abbrev main_cst_5 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_cst_6 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_cst_7 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_cst_8 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst_9 : Ref sig .tc := ⟨.hbm, 59, rfl⟩
abbrev main_v40 : Ref sig .tc := ⟨.hbm, 60, rfl⟩
abbrev main_v41 : Ref sig .tc := ⟨.hbm, 61, rfl⟩
abbrev main_cst_10 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_cst_11 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_cst_12 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_cst_13 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_cst_14 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_cst_15 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_cst_16 : Ref sig .tc := ⟨.hbm, 93, rfl⟩
abbrev main_v67 : Ref sig .tc := ⟨.hbm, 94, rfl⟩
abbrev main_v68 : Ref sig .tc := ⟨.hbm, 95, rfl⟩
abbrev main_cst_17 : Ref sig .tc := ⟨.hbm, 96, rfl⟩
abbrev main_v69 : Ref sig .tc := ⟨.hbm, 97, rfl⟩
abbrev main_v70 : Ref sig .tc := ⟨.hbm, 98, rfl⟩
abbrev main_cst_18 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_cst_19 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_cst_20 : Ref sig .tc := ⟨.hbm, 109, rfl⟩
abbrev main_v79 : Ref sig .tc := ⟨.hbm, 110, rfl⟩
abbrev main_v80 : Ref sig .tc := ⟨.hbm, 111, rfl⟩
abbrev main_cst_21 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_cst_22 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩

abbrev nD : Nat := 1
abbrev τ : Topo := Topo.v7x

variable {F : FTy → Type} [FloatOps F]
-- ==== KernelLn2.lean ====
abbrev S4096x1024 : Shape := ⟨2, ![4096, 1024]⟩
abbrev S1x1024 : Shape := ⟨2, ![1, 1024]⟩
abbrev S256x1024 : Shape := ⟨2, ![256, 1024]⟩
abbrev S256 : Shape := ⟨1, ![256]⟩
abbrev S256x1 : Shape := ⟨2, ![256, 1]⟩
abbrev S1024 : Shape := ⟨1, ![1024]⟩

abbrev nBuf : Space → Nat
  | .hbm => 12
  | .vmem => 17
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S4096x1024, .f32⟩
  | .hbm, ⟨7, _⟩ => ⟨S4096x1024, .bf16⟩
  | .hbm, ⟨8, _⟩ => ⟨S1x1024, .f32⟩
  | .hbm, ⟨9, _⟩ => ⟨S1x1024, .f32⟩
  | .hbm, ⟨10, _⟩ => ⟨S1x1024, .f32⟩
  | .hbm, ⟨11, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S1x1024, .f32⟩
  | .local _ .vmem, ⟨7, _⟩ => ⟨S1x1024, .f32⟩
  | .local _ .vmem, ⟨8, _⟩ => ⟨S1x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .bf16⟩
  | .local _ .vmem, ⟨12, _⟩ => ⟨S256x1024, .bf16⟩
  | .local _ .vmem, ⟨13, _⟩ => ⟨S1x1024, .f32⟩
  | .local _ .vmem, ⟨14, _⟩ => ⟨S1x1024, .f32⟩
  | .local _ .vmem, ⟨15, _⟩ => ⟨S1x1024, .f32⟩
  | .local _ .vmem, ⟨16, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev main_v0_4 : Ref sig .tc := ⟨.hbm, 10, rfl⟩
abbrev main_v0_5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem9_0 : DmaSem sig := 14
abbrev cc0_sem10_0 : DmaSem sig := 15
abbrev cc0_sem11_0 : DmaSem sig := 16

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c15_i32 : BitVec 32 := 15#32
  let v1 : BitVec 32 := Scalar.maxsi c0_i32_0 v0
  let v2 : BitVec 32 := Scalar.minsi c15_i32 v1
  let c0_i32_1 : BitVec 32 := 0#32
  let c0_i32_2 : BitVec 32 := 0#32
  ![v2.toNat, c0_i32_1.toNat]

def cc0_transform_1 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c15_i32 : BitVec 32 := 15#32
  let v1 : BitVec 32 := Scalar.maxsi c0_i32_0 v0
  let v2 : BitVec 32 := Scalar.minsi c15_i32 v1
  let c0_i32_1 : BitVec 32 := 0#32
  let c0_i32_2 : BitVec 32 := 0#32
  ![v2.toNat, c0_i32_1.toNat]

def cc0_transform_2 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c15_i32 : BitVec 32 := 15#32
  let v1 : BitVec 32 := Scalar.maxsi c0_i32_0 v0
  let v2 : BitVec 32 := Scalar.minsi c15_i32 v1
  let c0_i32_1 : BitVec 32 := 0#32
  let c0_i32_2 : BitVec 32 := 0#32
  ![v2.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== ReferenceLn2Ideal.lean ====
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1024 : Shape := ⟨1, ![1024]⟩

abbrev nBuf : Space → Nat
  | .hbm => 151
  | .vmem => 0
  | .smem => 0
  | _ => 0

abbrev hbmTy0_0 (i : Nat) : BufTy := match i % 128 with
  | 0 => ⟨S4096x1024, .f32⟩
  | 1 => ⟨S4096x1024, .f32⟩
  | 2 => ⟨S4096x1024, .f32⟩
  | 3 => ⟨S1x1024, .f32⟩
  | 4 => ⟨S1x1024, .f32⟩
  | 5 => ⟨S1x1024, .f32⟩
  | 6 => ⟨S_, .f32⟩
  | 7 => ⟨S4096x1024, .f32⟩
  | 8 => ⟨S4096x1024, .f32⟩
  | 9 => ⟨S_, .f32⟩
  | 10 => ⟨S1x1024, .f32⟩
  | 11 => ⟨S1x1024, .f32⟩
  | 12 => ⟨S4096x1024, .f32⟩
  | 13 => ⟨S4096x1024, .f32⟩
  | 14 => ⟨S4096x1024, .f32⟩
  | 15 => ⟨S_, .f32⟩
  | 16 => ⟨S4096, .f32⟩
  | 17 => ⟨S4096x1, .f32⟩
  | 18 => ⟨S_, .f32⟩
  | 19 => ⟨S4096x1, .f32⟩
  | 20 => ⟨S4096x1, .f32⟩
  | 21 => ⟨S4096x1024, .f32⟩
  | 22 => ⟨S4096x1024, .f32⟩
  | 23 => ⟨S4096x1024, .f32⟩
  | 24 => ⟨S_, .f32⟩
  | 25 => ⟨S4096x1024, .f32⟩
  | 26 => ⟨S4096x1024, .f32⟩
  | 27 => ⟨S_, .f32⟩
  | 28 => ⟨S4096, .f32⟩
  | 29 => ⟨S4096x1, .f32⟩
  | 30 => ⟨S_, .f32⟩
  | 31 => ⟨S4096x1, .f32⟩
  | 32 => ⟨S4096x1, .f32⟩
  | 33 => ⟨S4096x1024, .f32⟩
  | 34 => ⟨S4096x1024, .f32⟩
  | 35 => ⟨S_, .f32⟩
  | 36 => ⟨S4096x1, .f32⟩
  | 37 => ⟨S4096x1, .f32⟩
  | 38 => ⟨S4096x1, .f32⟩
  | 39 => ⟨S4096x1, .f32⟩
  | 40 => ⟨S_, .f32⟩
  | 41 => ⟨S4096x1, .f32⟩
  | 42 => ⟨S4096x1, .f32⟩
  | 43 => ⟨S4096x1024, .f32⟩
  | 44 => ⟨S4096x1024, .f32⟩
  | 45 => ⟨S4096x1024, .f32⟩
  | 46 => ⟨S4096x1024, .f32⟩
  | 47 => ⟨S4096x1024, .f32⟩
  | 48 => ⟨S4096x1024, .f32⟩
  | 49 => ⟨S4096x1024, .f32⟩
  | 50 => ⟨S4096x1024, .f32⟩
  | 51 => ⟨S_, .f32⟩
  | 52 => ⟨S4096x1024, .f32⟩
  | 53 => ⟨S4096x1024, .f32⟩
  | 54 => ⟨S_, .f32⟩
  | 55 => ⟨S4096, .f32⟩
  | 56 => ⟨S_, .f32⟩
  | 57 => ⟨S4096, .f32⟩
  | 58 => ⟨S4096, .f32⟩
  | 59 => ⟨S_, .f32⟩
  | 60 => ⟨S_, .f32⟩
  | 61 => ⟨S_, .f32⟩
  | 62 => ⟨S_, .f32⟩
  | 63 => ⟨S_, .f32⟩
  | 64 => ⟨S_, .f32⟩
  | 65 => ⟨S_, .f32⟩
  | 66 => ⟨S4096, .f32⟩
  | 67 => ⟨S_, .f32⟩
  | 68 => ⟨S4096, .f32⟩
  | 69 => ⟨S4096, .f32⟩
  | 70 => ⟨S4096x1024, .f32⟩
  | 71 => ⟨S4096x1024, .f32⟩
  | 72 => ⟨S_, .f32⟩
  | 73 => ⟨S1024, .f32⟩
  | 74 => ⟨S1x1024, .f32⟩
  | 75 => ⟨S4096x1024, .f32⟩
  | 76 => ⟨S_, .f32⟩
  | 77 => ⟨S1024, .f32⟩
  | 78 => ⟨S1x1024, .f32⟩
  | 79 => ⟨S4096x1024, .f32⟩
  | 80 => ⟨S4096x1024, .f32⟩
  | 81 => ⟨S4096x1024, .f32⟩
  | 82 => ⟨S_, .f32⟩
  | 83 => ⟨S4096, .f32⟩
  | 84 => ⟨S4096x1, .f32⟩
  | 85 => ⟨S4096x1024, .f32⟩
  | 86 => ⟨S4096x1024, .f32⟩
  | 87 => ⟨S4096x1, .f32⟩
  | 88 => ⟨S4096x1024, .f32⟩
  | 89 => ⟨S_, .f32⟩
  | 90 => ⟨S4096, .f32⟩
  | 91 => ⟨S4096x1, .f32⟩
  | 92 => ⟨S_, .f32⟩
  | 93 => ⟨S4096x1, .f32⟩
  | 94 => ⟨S4096x1, .f32⟩
  | 95 => ⟨S_, .f32⟩
  | 96 => ⟨S4096, .f32⟩
  | 97 => ⟨S4096x1024, .f32⟩
  | 98 => ⟨S4096x1024, .f32⟩
  | 99 => ⟨S4096x1024, .f32⟩
  | 100 => ⟨S_, .f32⟩
  | 101 => ⟨S4096, .f32⟩
  | 102 => ⟨S4096x1, .f32⟩
  | 103 => ⟨S4096x1024, .f32⟩
  | 104 => ⟨S4096x1, .f32⟩
  | 105 => ⟨S_, .f32⟩
  | 106 => ⟨S4096x1, .f32⟩
  | 107 => ⟨S4096x1, .f32⟩
  | 108 => ⟨S_, .f32⟩
  | 109 => ⟨S4096, .f32⟩
  | 110 => ⟨S4096x1024, .f32⟩
  | 111 => ⟨S4096x1024, .f32⟩
  | 112 => ⟨S4096x1024, .f32⟩
  | 113 => ⟨S4096x1024, .f32⟩
  | 114 => ⟨S4096x1024, .f32⟩
  | 115 => ⟨S_, .f32⟩
  | 116 => ⟨S1024, .f32⟩
  | 117 => ⟨S1x1024, .f32⟩
  | 118 => ⟨S_, .f32⟩
  | 119 => ⟨S4096, .f32⟩
  | 120 => ⟨S4096x1, .f32⟩
  | 121 => ⟨S_, .f32⟩
  | 122 => ⟨S4096x1, .f32⟩
  | 123 => ⟨S4096x1, .f32⟩
  | 124 => ⟨S4096x1024, .f32⟩
  | 125 => ⟨S4096x1024, .f32⟩
  | 126 => ⟨S4096x1024, .f32⟩
  | 127 => ⟨S_, .f32⟩
  | _ => ⟨S4096x1024, .f32⟩

abbrev hbmTy0_1 (i : Nat) : BufTy := match i % 128 with
  | 0 => ⟨S4096, .f32⟩
  | 1 => ⟨S4096x1, .f32⟩
  | 2 => ⟨S_, .f32⟩
  | 3 => ⟨S4096x1, .f32⟩
  | 4 => ⟨S4096x1, .f32⟩
  | 5 => ⟨S4096x1024, .f32⟩
  | 6 => ⟨S4096x1024, .f32⟩
  | 7 => ⟨S_, .f32⟩
  | 8 => ⟨S4096x1, .f32⟩
  | 9 => ⟨S4096x1, .f32⟩
  | 10 => ⟨S4096x1, .f32⟩
  | 11 => ⟨S4096x1024, .f32⟩
  | 12 => ⟨S4096x1024, .f32⟩
  | 13 => ⟨S4096x1024, .f32⟩
  | 14 => ⟨S4096x1024, .f32⟩
  | 15 => ⟨S4096x1024, .f32⟩
  | 16 => ⟨S4096x1024, .f32⟩
  | 17 => ⟨S4096x1024, .f32⟩
  | 18 => ⟨S4096x1024, .f32⟩
  | 19 => ⟨S_, .f32⟩
  | 20 => ⟨S1024, .f32⟩
  | 21 => ⟨S1x1024, .f32⟩
  | 22 => ⟨S4096x1024, .bf16⟩
  | _ => ⟨S4096x1024, .f32⟩

abbrev hbmTy (i : Nat) : BufTy := match i / 128 with
  | 0 => hbmTy0_0 i
  | 1 => hbmTy0_1 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_cst_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_3 : Ref sig .tc := ⟨.hbm, 24, rfl⟩
abbrev main_v14 : Ref sig .tc := ⟨.hbm, 25, rfl⟩
abbrev main_v15 : Ref sig .tc := ⟨.hbm, 26, rfl⟩
abbrev main_cst_4 : Ref sig .tc := ⟨.hbm, 27, rfl⟩
abbrev main_v16 : Ref sig .tc := ⟨.hbm, 28, rfl⟩
abbrev main_v17 : Ref sig .tc := ⟨.hbm, 29, rfl⟩
abbrev main_cst_5 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_6 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_7 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_cst_8 : Ref sig .tc := ⟨.hbm, 51, rfl⟩
abbrev main_v36 : Ref sig .tc := ⟨.hbm, 52, rfl⟩
abbrev main_v37 : Ref sig .tc := ⟨.hbm, 53, rfl⟩
abbrev main_cst_9 : Ref sig .tc := ⟨.hbm, 54, rfl⟩
abbrev main_v38 : Ref sig .tc := ⟨.hbm, 55, rfl⟩
abbrev main_cst_10 : Ref sig .tc := ⟨.hbm, 56, rfl⟩
abbrev main_v39 : Ref sig .tc := ⟨.hbm, 57, rfl⟩
abbrev main_v40 : Ref sig .tc := ⟨.hbm, 58, rfl⟩
abbrev main_cst_11 : Ref sig .tc := ⟨.hbm, 59, rfl⟩
abbrev main_v41 : Ref sig .tc := ⟨.hbm, 60, rfl⟩
abbrev main_cst_12 : Ref sig .tc := ⟨.hbm, 61, rfl⟩
abbrev main_v42 : Ref sig .tc := ⟨.hbm, 62, rfl⟩
abbrev main_cst_13 : Ref sig .tc := ⟨.hbm, 63, rfl⟩
abbrev main_cst_14 : Ref sig .tc := ⟨.hbm, 64, rfl⟩
abbrev main_v43 : Ref sig .tc := ⟨.hbm, 65, rfl⟩
abbrev main_v44 : Ref sig .tc := ⟨.hbm, 66, rfl⟩
abbrev main_cst_15 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_cst_16 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_cst_17 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_cst_18 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_cst_19 : Ref sig .tc := ⟨.hbm, 89, rfl⟩
abbrev main_v63 : Ref sig .tc := ⟨.hbm, 90, rfl⟩
abbrev main_v64 : Ref sig .tc := ⟨.hbm, 91, rfl⟩
abbrev main_cst_20 : Ref sig .tc := ⟨.hbm, 92, rfl⟩
abbrev main_v65 : Ref sig .tc := ⟨.hbm, 93, rfl⟩
abbrev main_v66 : Ref sig .tc := ⟨.hbm, 94, rfl⟩
abbrev main_cst_21 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_cst_22 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_cst_23 : Ref sig .tc := ⟨.hbm, 105, rfl⟩
abbrev main_v75 : Ref sig .tc := ⟨.hbm, 106, rfl⟩
abbrev main_v76 : Ref sig .tc := ⟨.hbm, 107, rfl⟩
abbrev main_cst_24 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_cst_25 : Ref sig .tc := ⟨.hbm, 115, rfl⟩
abbrev main_v83 : Ref sig .tc := ⟨.hbm, 116, rfl⟩
abbrev main_v84 : Ref sig .tc := ⟨.hbm, 117, rfl⟩
abbrev main_cst_26 : Ref sig .tc := ⟨.hbm, 118, rfl⟩
abbrev main_v85 : Ref sig .tc := ⟨.hbm, 119, rfl⟩
abbrev main_v86 : Ref sig .tc := ⟨.hbm, 120, rfl⟩
abbrev main_cst_27 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_cst_28 : Ref sig .tc := ⟨.hbm, 127, rfl⟩
abbrev main_v92 : Ref sig .tc := ⟨.hbm, 128, rfl⟩
abbrev main_v93 : Ref sig .tc := ⟨.hbm, 129, rfl⟩
abbrev main_cst_29 : Ref sig .tc := ⟨.hbm, 130, rfl⟩
abbrev main_v94 : Ref sig .tc := ⟨.hbm, 131, rfl⟩
abbrev main_v95 : Ref sig .tc := ⟨.hbm, 132, rfl⟩
abbrev main_v96 : Ref sig .tc := ⟨.hbm, 133, rfl⟩
abbrev main_v97 : Ref sig .tc := ⟨.hbm, 134, rfl⟩
abbrev main_cst_30 : Ref sig .tc := ⟨.hbm, 135, rfl⟩
abbrev main_v98 : Ref sig .tc := ⟨.hbm, 136, rfl⟩
abbrev main_v99 : Ref sig .tc := ⟨.hbm, 137, rfl⟩
abbrev main_v100 : Ref sig .tc := ⟨.hbm, 138, rfl⟩
abbrev main_v101 : Ref sig .tc := ⟨.hbm, 139, rfl⟩
abbrev main_v102 : Ref sig .tc := ⟨.hbm, 140, rfl⟩
abbrev main_v103 : Ref sig .tc := ⟨.hbm, 141, rfl⟩
abbrev main_v104 : Ref sig .tc := ⟨.hbm, 142, rfl⟩
abbrev main_v105 : Ref sig .tc := ⟨.hbm, 143, rfl⟩
abbrev main_v106 : Ref sig .tc := ⟨.hbm, 144, rfl⟩
abbrev main_v107 : Ref sig .tc := ⟨.hbm, 145, rfl⟩
abbrev main_v108 : Ref sig .tc := ⟨.hbm, 146, rfl⟩
abbrev main_cst_31 : Ref sig .tc := ⟨.hbm, 147, rfl⟩
abbrev main_v109 : Ref sig .tc := ⟨.hbm, 148, rfl⟩
abbrev main_v110 : Ref sig .tc := ⟨.hbm, 149, rfl⟩
abbrev main_v111 : Ref sig .tc := ⟨.hbm, 150, rfl⟩

abbrev nD : Nat := 1
abbrev τ : Topo := Topo.v7x

variable {F : FTy → Type} [FloatOps F]
-- ==== KernelGate.lean ====
abbrev S4096x4096 : Shape := ⟨2, ![4096, 4096]⟩
abbrev S4096x1024 : Shape := ⟨2, ![4096, 1024]⟩
abbrev S512x1024 : Shape := ⟨2, ![512, 1024]⟩
abbrev S512x512 : Shape := ⟨2, ![512, 512]⟩

abbrev nBuf : Space → Nat
  | .hbm => 4
  | .vmem => 8
  | .smem => 0
  | _ => 0

abbrev bufTy : (tb : Table) → Fin (tcTables nBuf tb) → BufTy
  | .hbm, ⟨0, _⟩ => ⟨S4096x4096, .f32⟩
  | .hbm, ⟨1, _⟩ => ⟨S4096x1024, .bf16⟩
  | .hbm, ⟨2, _⟩ => ⟨S4096x1024, .bf16⟩
  | .hbm, ⟨3, _⟩ => ⟨S4096x4096, .bf16⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x512, .f32⟩
  | .local _ .vmem, ⟨5, _⟩ => ⟨S512x512, .f32⟩
  | .local _ .vmem, ⟨6, _⟩ => ⟨S512x512, .bf16⟩
  | .local _ .vmem, ⟨7, _⟩ => ⟨S512x512, .bf16⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ReferenceGateIdeal.lean ====
abbrev S4096x4096 : Shape := ⟨2, ![4096, 4096]⟩
abbrev S4096x1024 : Shape := ⟨2, ![4096, 1024]⟩
abbrev S_ : Shape := ⟨0, ![]⟩

abbrev nBuf : Space → Nat
  | .hbm => 24
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x1024, .bf16⟩
  | .hbm, ⟨2, _⟩ => ⟨S4096x1024, .bf16⟩
  | .hbm, ⟨3, _⟩ => ⟨S_, .f32⟩
  | .hbm, ⟨4, _⟩ => ⟨S4096x4096, .f32⟩
  | .hbm, ⟨5, _⟩ => ⟨S4096x4096, .f32⟩
  | .hbm, ⟨6, _⟩ => ⟨S_, .f32⟩
  | .hbm, ⟨7, _⟩ => ⟨S4096x4096, .f32⟩
  | .hbm, ⟨8, _⟩ => ⟨S4096x4096, .i1⟩
  | .hbm, ⟨9, _⟩ => ⟨S_, .f32⟩
  | .hbm, ⟨10, _⟩ => ⟨S4096x4096, .f32⟩
  | .hbm, ⟨11, _⟩ => ⟨S4096x4096, .f32⟩
  | .hbm, ⟨12, _⟩ => ⟨S_, .f32⟩
  | .hbm, ⟨13, _⟩ => ⟨S4096x4096, .f32⟩
  | .hbm, ⟨14, _⟩ => ⟨S4096x4096, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S4096x4096, .f32⟩
  | .hbm, ⟨19, _⟩ => ⟨S4096x4096, .f32⟩
  | .hbm, ⟨20, _⟩ => ⟨S_, .f32⟩
  | .hbm, ⟨21, _⟩ => ⟨S4096x4096, .f32⟩
  | .hbm, ⟨22, _⟩ => ⟨S4096x4096, .f32⟩
  | .hbm, ⟨23, _⟩ => ⟨S4096x4096, .bf16⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩

abbrev nD : Nat := 1
abbrev τ : Topo := Topo.v7x

variable {F : FTy → Type} [FloatOps F]
-- ==== KernelCum.lean ====
abbrev S4096x16 : Shape := ⟨2, ![4096, 16]⟩
abbrev S1x16 : Shape := ⟨2, ![1, 16]⟩
abbrev S_ : Shape := ⟨0, ![]⟩
abbrev S4096x5760 : Shape := ⟨2, ![4096, 5760]⟩
abbrev S1x128 : Shape := ⟨2, ![1, 128]⟩
abbrev S4096x128 : Shape := ⟨2, ![4096, 128]⟩
abbrev S512x128 : Shape := ⟨2, ![512, 128]⟩
abbrev S512x512 : Shape := ⟨2, ![512, 512]⟩
abbrev S128 : Shape := ⟨1, ![128]⟩

abbrev nBuf : Space → Nat
  | .hbm => 19
  | .vmem => 11
  | .smem => 0
  | _ => 0

abbrev bufTy : (tb : Table) → Fin (tcTables nBuf tb) → BufTy
  | .hbm, ⟨0, _⟩ => ⟨S4096x16, .f32⟩
  | .hbm, ⟨1, _⟩ => ⟨S1x16, .f32⟩
  | .hbm, ⟨2, _⟩ => ⟨S4096x16, .f32⟩
  | .hbm, ⟨3, _⟩ => ⟨S4096x16, .f32⟩
  | .hbm, ⟨4, _⟩ => ⟨S_, .i32⟩
  | .hbm, ⟨5, _⟩ => ⟨S_, .f32⟩
  | .hbm, ⟨6, _⟩ => ⟨S4096x5760, .f32⟩
  | .hbm, ⟨7, _⟩ => ⟨S_, .i32⟩
  | .hbm, ⟨8, _⟩ => ⟨S_, .f32⟩
  | .hbm, ⟨9, _⟩ => ⟨S1x128, .f32⟩
  | .hbm, ⟨10, _⟩ => ⟨S_, .i32⟩
  | .hbm, ⟨11, _⟩ => ⟨S_, .f32⟩
  | .hbm, ⟨12, _⟩ => ⟨S4096x128, .f32⟩
  | .hbm, ⟨13, _⟩ => ⟨S_, .i32⟩
  | .hbm, ⟨14, _⟩ => ⟨S_, .f32⟩
  | .hbm, ⟨15, _⟩ => ⟨S4096x128, .f32⟩
  | .hbm, ⟨16, _⟩ => ⟨S4096x128, .bf16⟩
  | .hbm, ⟨17, _⟩ => ⟨S1x128, .f32⟩
  | .hbm, ⟨18, _⟩ => ⟨S1x128, .f32⟩
  | .local _ .vmem, ⟨0, _⟩ => ⟨S512x128, .f32⟩
  | .local _ .vmem, ⟨1, _⟩ => ⟨S512x128, .f32⟩
  | .local _ .vmem, ⟨2, _⟩ => ⟨S512x128, .f32⟩
  | .local _ .vmem, ⟨3, _⟩ => ⟨S512x128, .f32⟩
  | .local _ .vmem, ⟨4, _⟩ => ⟨S512x128, .f32⟩
  | .local _ .vmem, ⟨5, _⟩ => ⟨S512x128, .f32⟩
  | .local _ .vmem, ⟨6, _⟩ => ⟨S1x128, .f32⟩
  | .local _ .vmem, ⟨7, _⟩ => ⟨S512x128, .bf16⟩
  | .local _ .vmem, ⟨8, _⟩ => ⟨S512x128, .bf16⟩
  | .local _ .vmem, ⟨9, _⟩ => ⟨S1x128, .f32⟩
  | .local _ .vmem, ⟨10, _⟩ => ⟨S1x128, .f32⟩
  | _, _ => ⟨S4096x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_call0_v0 : Ref sig .tc := ⟨.hbm, 5, rfl⟩
abbrev main_v0 : Ref sig .tc := ⟨.hbm, 6, rfl⟩
abbrev main_c_0 : Ref sig .tc := ⟨.hbm, 7, rfl⟩
abbrev main_call1_v0 : Ref sig .tc := ⟨.hbm, 8, rfl⟩
abbrev main_v1 : Ref sig .tc := ⟨.hbm, 9, rfl⟩
abbrev main_c_1 : Ref sig .tc := ⟨.hbm, 10, rfl⟩
abbrev main_call2_v0 : Ref sig .tc := ⟨.hbm, 11, rfl⟩
abbrev main_v2 : Ref sig .tc := ⟨.hbm, 12, rfl⟩
abbrev main_c_2 : Ref sig .tc := ⟨.hbm, 13, rfl⟩
abbrev main_call3_v0 : Ref sig .tc := ⟨.hbm, 14, rfl⟩
abbrev main_v3 : Ref sig .tc := ⟨.hbm, 15, rfl⟩
abbrev main_v4_0 : Ref sig .tc := ⟨.hbm, 16, rfl⟩
abbrev main_v4_1 : Ref sig .tc := ⟨.hbm, 17, rfl⟩
abbrev main_v4_2 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem6_0 : DmaSem sig := 10

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let v1 : BitVec 32 := Scalar.addi v0 c0_i32
  let c0_i32_0 : BitVec 32 := 0#32
  let c7_i32_1 : BitVec 32 := 7#32
  let v2 : BitVec 32 := Scalar.maxsi c0_i32_0 v1
  let v3 : BitVec 32 := Scalar.minsi c7_i32_1 v2
  let c0_i32_2 : BitVec 32 := 0#32
  let c0_i32_3 : BitVec 32 := 0#32
  ![v3.toNat, c0_i32_2.toNat]

def cc0_transform_1 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let v1 : BitVec 32 := Scalar.addi v0 c0_i32
  let c0_i32_0 : BitVec 32 := 0#32
  let c7_i32_1 : BitVec 32 := 7#32
  let v2 : BitVec 32 := Scalar.maxsi c0_i32_0 v1
  let v3 : BitVec 32 := Scalar.minsi c7_i32_1 v2
  let c0_i32_2 : BitVec 32 := 0#32
  let c0_i32_3 : BitVec 32 := 0#32
  ![v3.toNat, c0_i32_2.toNat]

def cc0_transform_2 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let v1 : BitVec 32 := Scalar.addi v0 c0_i32
  let c0_i32_0 : BitVec 32 := 0#32
  let c7_i32_1 : BitVec 32 := 7#32
  let v2 : BitVec 32 := Scalar.maxsi c0_i32_0 v1
  let v3 : BitVec 32 := Scalar.minsi c7_i32_1 v2
  let c44_i32 : BitVec 32 := 44#32
  let c0_i32_2 : BitVec 32 := 0#32
  ![v3.toNat, c44_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== ReferenceCumIdeal.lean ====
abbrev S4096x16 : Shape := ⟨2, ![4096, 16]⟩
abbrev S1x16 : Shape := ⟨2, ![1, 16]⟩
abbrev S_ : Shape := ⟨0, ![]⟩
abbrev S16 : Shape := ⟨1, ![16]⟩
abbrev S4096x32 : Shape := ⟨2, ![4096, 32]⟩
abbrev S4096x128 : Shape := ⟨2, ![4096, 128]⟩
abbrev S1x32 : Shape := ⟨2, ![1, 32]⟩
abbrev S1x128 : Shape := ⟨2, ![1, 128]⟩

abbrev nBuf : Space → Nat
  | .hbm => 78
  | .vmem => 0
  | .smem => 0
  | _ => 0

abbrev bufTy : (tb : Table) → Fin (tcTables nBuf tb) → BufTy
  | .hbm, ⟨0, _⟩ => ⟨S4096x16, .f32⟩
  | .hbm, ⟨1, _⟩ => ⟨S1x16, .f32⟩
  | .hbm, ⟨2, _⟩ => ⟨S4096x16, .f32⟩
  | .hbm, ⟨3, _⟩ => ⟨S4096x16, .f32⟩
  | .hbm, ⟨4, _⟩ => ⟨S4096x16, .f32⟩
  | .hbm, ⟨5, _⟩ => ⟨S4096x16, .f32⟩
  | .hbm, ⟨6, _⟩ => ⟨S4096x16, .f32⟩
  | .hbm, ⟨7, _⟩ => ⟨S_, .f32⟩
  | .hbm, ⟨8, _⟩ => ⟨S4096x16, .f32⟩
  | .hbm, ⟨9, _⟩ => ⟨S4096x16, .f32⟩
  | .hbm, ⟨10, _⟩ => ⟨S4096x16, .f32⟩
  | .hbm, ⟨11, _⟩ => ⟨S4096x16, .f32⟩
  | .hbm, ⟨12, _⟩ => ⟨S4096x16, .i1⟩
  | .hbm, ⟨13, _⟩ => ⟨S4096x16, .f32⟩
  | .hbm, ⟨14, _⟩ => ⟨S4096x16, .f32⟩
  | .hbm, ⟨15, _⟩ => ⟨S4096x16, .f32⟩
  | .hbm, ⟨16, _⟩ => ⟨S4096x16, .f32⟩
  | .hbm, ⟨17, _⟩ => ⟨S4096x16, .f32⟩
  | .hbm, ⟨18, _⟩ => ⟨S4096x16, .f32⟩
  | .hbm, ⟨19, _⟩ => ⟨S4096x16, .f32⟩
  | .hbm, ⟨20, _⟩ => ⟨S4096x16, .f32⟩
  | .hbm, ⟨21, _⟩ => ⟨S_, .f32⟩
  | .hbm, ⟨22, _⟩ => ⟨S4096x16, .f32⟩
  | .hbm, ⟨23, _⟩ => ⟨S4096x16, .i1⟩
  | .hbm, ⟨24, _⟩ => ⟨S_, .f32⟩
  | .hbm, ⟨25, _⟩ => ⟨S4096x16, .f32⟩
  | .hbm, ⟨26, _⟩ => ⟨S4096x16, .f32⟩
  | .hbm, ⟨27, _⟩ => ⟨S_, .f32⟩
  | .hbm, ⟨28, _⟩ => ⟨S4096x16, .f32⟩
  | .hbm, ⟨29, _⟩ => ⟨S4096x16, .i1⟩
  | .hbm, ⟨30, _⟩ => ⟨S_, .f32⟩
  | .hbm, ⟨31, _⟩ => ⟨S4096x16, .f32⟩
  | .hbm, ⟨32, _⟩ => ⟨S4096x16, .f32⟩
  | .hbm, ⟨33, _⟩ => ⟨S4096x16, .f32⟩
  | .hbm, ⟨34, _⟩ => ⟨S4096x16, .f32⟩
  | .hbm, ⟨35, _⟩ => ⟨S_, .f32⟩
  | .hbm, ⟨36, _⟩ => ⟨S_, .f32⟩
  | .hbm, ⟨37, _⟩ => ⟨S_, .i1⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S4096x16, .f32⟩
  | .hbm, ⟨43, _⟩ => ⟨S4096x16, .i1⟩
  | .hbm, ⟨44, _⟩ => ⟨S_, .f32⟩
  | .hbm, ⟨45, _⟩ => ⟨S4096x16, .f32⟩
  | .hbm, ⟨46, _⟩ => ⟨S4096x16, .f32⟩
  | .hbm, ⟨47, _⟩ => ⟨S4096x16, .f32⟩
  | .hbm, ⟨48, _⟩ => ⟨S4096x16, .f32⟩
  | .hbm, ⟨49, _⟩ => ⟨S4096x16, .f32⟩
  | .hbm, ⟨50, _⟩ => ⟨S_, .f32⟩
  | .hbm, ⟨51, _⟩ => ⟨S4096x16, .f32⟩
  | .hbm, ⟨52, _⟩ => ⟨S4096x16, .f32⟩
  | .hbm, ⟨53, _⟩ => ⟨S4096x16, .f32⟩
  | .hbm, ⟨54, _⟩ => ⟨S_, .f32⟩
  | .hbm, ⟨55, _⟩ => ⟨S_, .f32⟩
  | .hbm, ⟨56, _⟩ => ⟨S4096x16, .f32⟩
  | .hbm, ⟨57, _⟩ => ⟨S_, .f32⟩
  | .hbm, ⟨58, _⟩ => ⟨S_, .f32⟩
  | .hbm, ⟨59, _⟩ => ⟨S4096x16, .f32⟩
  | .hbm, ⟨60, _⟩ => ⟨S4096x16, .f32⟩
  | .hbm, ⟨61, _⟩ => ⟨S4096x16, .f32⟩
  | .hbm, ⟨62, _⟩ => ⟨S4096x16, .f32⟩
  | .hbm, ⟨63, _⟩ => ⟨S_, .f32⟩
  | .hbm, ⟨64, _⟩ => ⟨S16, .f32⟩
  | .hbm, ⟨65, _⟩ => ⟨S1x16, .f32⟩
  | .hbm, ⟨66, _⟩ => ⟨S4096x32, .f32⟩
  | .hbm, ⟨67, _⟩ => ⟨S_, .i32⟩
  | .hbm, ⟨68, _⟩ => ⟨S_, .f32⟩
  | .hbm, ⟨69, _⟩ => ⟨S4096x128, .f32⟩
  | .hbm, ⟨70, _⟩ => ⟨S_, .f32⟩
  | .hbm, ⟨71, _⟩ => ⟨S16, .f32⟩
  | .hbm, ⟨72, _⟩ => ⟨S1x16, .f32⟩
  | .hbm, ⟨73, _⟩ => ⟨S1x32, .f32⟩
  | .hbm, ⟨74, _⟩ => ⟨S_, .i32⟩
  | .hbm, ⟨75, _⟩ => ⟨S_, .f32⟩
  | .hbm, ⟨76, _⟩ => ⟨S1x128, .f32⟩
  | .hbm, ⟨77, _⟩ => ⟨S4096x128, .bf16⟩
  | _, _ => ⟨S4096x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_call0_v0 : Ref sig .tc := ⟨.hbm, 6, rfl⟩
abbrev main_call0_call0_cst : Ref sig .tc := ⟨.hbm, 7, rfl⟩
abbrev main_call0_call0_v0 : Ref sig .tc := ⟨.hbm, 8, rfl⟩
abbrev main_call0_call0_v1 : Ref sig .tc := ⟨.hbm, 9, rfl⟩
abbrev main_call0_call0_v2 : Ref sig .tc := ⟨.hbm, 10, rfl⟩
abbrev main_call0_call0_v3 : Ref sig .tc := ⟨.hbm, 11, rfl⟩
abbrev main_call0_call0_v4 : Ref sig .tc := ⟨.hbm, 12, rfl⟩
abbrev main_call0_call0_v5 : Ref sig .tc := ⟨.hbm, 13, rfl⟩
abbrev main_call0_call0_v6 : Ref sig .tc := ⟨.hbm, 14, rfl⟩
abbrev main_call0_call0_v7 : Ref sig .tc := ⟨.hbm, 15, rfl⟩
abbrev main_call0_call0_v8 : Ref sig .tc := ⟨.hbm, 16, rfl⟩
abbrev main_call0_call0_v9 : Ref sig .tc := ⟨.hbm, 17, rfl⟩
abbrev main_call0_call0_v10 : Ref sig .tc := ⟨.hbm, 18, rfl⟩
abbrev main_call0_call0_v11 : Ref sig .tc := ⟨.hbm, 19, rfl⟩
abbrev main_call0_v1_0 : Ref sig .tc := ⟨.hbm, 20, rfl⟩
abbrev main_call0_call0_cst_0 : Ref sig .tc := ⟨.hbm, 21, rfl⟩
abbrev main_call0_call0_v13 : Ref sig .tc := ⟨.hbm, 22, rfl⟩
abbrev main_call0_call0_v14 : Ref sig .tc := ⟨.hbm, 23, rfl⟩
abbrev main_call0_call0_cst_1 : Ref sig .tc := ⟨.hbm, 24, rfl⟩
abbrev main_call0_call0_v15 : Ref sig .tc := ⟨.hbm, 25, rfl⟩
abbrev main_call0_call0_v16 : Ref sig .tc := ⟨.hbm, 26, rfl⟩
abbrev main_call0_call0_cst_2 : Ref sig .tc := ⟨.hbm, 27, rfl⟩
abbrev main_call0_call0_v17 : Ref sig .tc := ⟨.hbm, 28, rfl⟩
abbrev main_call0_call0_v18 : Ref sig .tc := ⟨.hbm, 29, rfl⟩
abbrev main_call0_call0_cst_3 : Ref sig .tc := ⟨.hbm, 30, rfl⟩
abbrev main_call0_call0_v19 : Ref sig .tc := ⟨.hbm, 31, rfl⟩
abbrev main_call0_call0_v20 : Ref sig .tc := ⟨.hbm, 32, rfl⟩
abbrev main_call0_call0_v21 : Ref sig .tc := ⟨.hbm, 33, rfl⟩
abbrev main_v2_1 : Ref sig .tc := ⟨.hbm, 34, rfl⟩
abbrev main_call0_call0_cst_4 : Ref sig .tc := ⟨.hbm, 35, rfl⟩
abbrev main_call0_call0_cst_5 : Ref sig .tc := ⟨.hbm, 36, rfl⟩
abbrev main_call0_call0_v23 : Ref sig .tc := ⟨.hbm, 37, rfl⟩
abbrev main_call0_call0_cst_6 : Ref sig .tc := ⟨.hbm, 38, rfl⟩
abbrev main_call0_call0_cst_7 : Ref sig .tc := ⟨.hbm, 39, rfl⟩
abbrev main_call0_call0_v24 : Ref sig .tc := ⟨.hbm, 40, rfl⟩
abbrev main_call0_call0_cst_8 : Ref sig .tc := ⟨.hbm, 41, rfl⟩
abbrev main_call0_call0_v25 : Ref sig .tc := ⟨.hbm, 42, rfl⟩
abbrev main_call0_call0_v26 : Ref sig .tc := ⟨.hbm, 43, rfl⟩
abbrev main_call0_call0_cst_9 : Ref sig .tc := ⟨.hbm, 44, rfl⟩
abbrev main_call0_call0_v27 : Ref sig .tc := ⟨.hbm, 45, rfl⟩
abbrev main_call0_call0_v28 : Ref sig .tc := ⟨.hbm, 46, rfl⟩
abbrev main_call0_call0_v29 : Ref sig .tc := ⟨.hbm, 47, rfl⟩
abbrev main_call0_call0_v30 : Ref sig .tc := ⟨.hbm, 48, rfl⟩
abbrev main_call0_call0_v31 : Ref sig .tc := ⟨.hbm, 49, rfl⟩
abbrev main_call0_call0_cst_10 : Ref sig .tc := ⟨.hbm, 50, rfl⟩
abbrev main_call0_call0_v32 : Ref sig .tc := ⟨.hbm, 51, rfl⟩
abbrev main_v2_2 : Ref sig .tc := ⟨.hbm, 52, rfl⟩
abbrev main_v2_0 : Ref sig .tc := ⟨.hbm, 53, rfl⟩
abbrev main_call1_call0_cst : Ref sig .tc := ⟨.hbm, 54, rfl⟩
abbrev main_call1_call0_v0 : Ref sig .tc := ⟨.hbm, 55, rfl⟩
abbrev main_v3 : Ref sig .tc := ⟨.hbm, 56, rfl⟩
abbrev main_call2_call0_cst : Ref sig .tc := ⟨.hbm, 57, rfl⟩
abbrev main_call2_call0_v0 : Ref sig .tc := ⟨.hbm, 58, rfl⟩
abbrev main_v4 : Ref sig .tc := ⟨.hbm, 59, rfl⟩
abbrev main_call3_v0 : Ref sig .tc := ⟨.hbm, 60, rfl⟩
abbrev main_call3_v1 : Ref sig .tc := ⟨.hbm, 61, rfl⟩
abbrev main_v5 : Ref sig .tc := ⟨.hbm, 62, rfl⟩
abbrev main_cst : Ref sig .tc := ⟨.hbm, 63, rfl⟩
abbrev main_v6 : Ref sig .tc := ⟨.hbm, 64, rfl⟩
abbrev main_v7 : Ref sig .tc := ⟨.hbm, 65, rfl⟩
abbrev main_v8 : Ref sig .tc := ⟨.hbm, 66, rfl⟩
abbrev main_c : Ref sig .tc := ⟨.hbm, 67, rfl⟩
abbrev main_call4_v0 : Ref sig .tc := ⟨.hbm, 68, rfl⟩
abbrev main_v9 : Ref sig .tc := ⟨.hbm, 69, rfl⟩
abbrev main_cst_0 : Ref sig .tc := ⟨.hbm, 70, rfl⟩
abbrev main_v10 : Ref sig .tc := ⟨.hbm, 71, rfl⟩
abbrev main_v11 : Ref sig .tc := ⟨.hbm, 72, rfl⟩
abbrev main_v12 : Ref sig .tc := ⟨.hbm, 73, rfl⟩
abbrev main_c_1 : Ref sig .tc := ⟨.hbm, 74, rfl⟩
abbrev main_call5_v0 : Ref sig .tc := ⟨.hbm, 75, rfl⟩
abbrev main_v13 : Ref sig .tc := ⟨.hbm, 76, rfl⟩
abbrev main_v14 : Ref sig .tc := ⟨.hbm, 77, rfl⟩

abbrev nD : Nat := 1
abbrev τ : Topo := Topo.v7x

variable {F : FTy → Type} [FloatOps F]
-- ==== KernelAda.lean ====
abbrev S8x1024 : Shape := ⟨2, ![8, 1024]⟩
abbrev S8x768 : Shape := ⟨2, ![8, 768]⟩
abbrev S8x6144 : Shape := ⟨2, ![8, 6144]⟩
abbrev S1024x768 : Shape := ⟨2, ![1024, 768]⟩
abbrev S1x6144 : Shape := ⟨2, ![1, 6144]⟩
abbrev S16x1024 : Shape := ⟨2, ![16, 1024]⟩
abbrev S16x768 : Shape := ⟨2, ![16, 768]⟩
abbrev S6144 : Shape := ⟨1, ![6144]⟩

abbrev nBuf : Space → Nat
  | .hbm => 5
  | .vmem => 5
  | .smem => 0
  | _ => 0

abbrev bufTy : (tb : Table) → Fin (tcTables nBuf tb) → BufTy
  | .hbm, ⟨0, _⟩ => ⟨S8x1024, .f32⟩
  | .hbm, ⟨1, _⟩ => ⟨S8x768, .f32⟩
  | .hbm, ⟨2, _⟩ => ⟨S8x6144, .f32⟩
  | .hbm, ⟨3, _⟩ => ⟨S1024x768, .f32⟩
  | .hbm, ⟨4, _⟩ => ⟨S1x6144, .f32⟩
  | .local _ .vmem, ⟨0, _⟩ => ⟨S8x1024, .f32⟩
  | .local _ .vmem, ⟨1, _⟩ => ⟨S8x768, .f32⟩
  | .local _ .vmem, ⟨2, _⟩ => ⟨S8x6144, .f32⟩
  | .local _ .vmem, ⟨3, _⟩ => ⟨S1024x768, .f32⟩
  | .local _ .vmem, ⟨4, _⟩ => ⟨S1x6144, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8x6144 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1024x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x6144 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== ReferenceAdaIdeal.lean ====
abbrev S8x1024 : Shape := ⟨2, ![8, 1024]⟩
abbrev S8x768 : Shape := ⟨2, ![8, 768]⟩
abbrev S8x6144 : Shape := ⟨2, ![8, 6144]⟩
abbrev S_ : Shape := ⟨0, ![]⟩
abbrev S1024x768 : Shape := ⟨2, ![1024, 768]⟩
abbrev S1x6144 : Shape := ⟨2, ![1, 6144]⟩
abbrev S6144 : Shape := ⟨1, ![6144]⟩
abbrev S768x1024 : Shape := ⟨2, ![768, 1024]⟩

abbrev nBuf : Space → Nat
  | .hbm => 26
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S8x768, .f32⟩
  | .hbm, ⟨2, _⟩ => ⟨S8x6144, .f32⟩
  | .hbm, ⟨3, _⟩ => ⟨S_, .f32⟩
  | .hbm, ⟨4, _⟩ => ⟨S1024x768, .f32⟩
  | .hbm, ⟨5, _⟩ => ⟨S_, .f32⟩
  | .hbm, ⟨6, _⟩ => ⟨S1x6144, .f32⟩
  | .hbm, ⟨7, _⟩ => ⟨S8x1024, .f32⟩
  | .hbm, ⟨8, _⟩ => ⟨S8x1024, .f32⟩
  | .hbm, ⟨9, _⟩ => ⟨S_, .f32⟩
  | .hbm, ⟨10, _⟩ => ⟨S8x1024, .f32⟩
  | .hbm, ⟨11, _⟩ => ⟨S8x1024, .f32⟩
  | .hbm, ⟨12, _⟩ => ⟨S_, .f32⟩
  | .hbm, ⟨13, _⟩ => ⟨S8x1024, .f32⟩
  | .hbm, ⟨14, _⟩ => ⟨S8x1024, .f32⟩
  | .hbm, ⟨15, _⟩ => ⟨S8x1024, .f32⟩
  | .hbm, ⟨16, _⟩ => ⟨S8x768, .f32⟩
  | .hbm, ⟨17, _⟩ => ⟨S_, .f32⟩
  | .hbm, ⟨18, _⟩ => ⟨S8x6144, .f32⟩
  | .hbm, ⟨19, _⟩ => ⟨S8x6144, .f32⟩
  | .hbm, ⟨20, _⟩ => ⟨S8x6144, .f32⟩
  | .hbm, ⟨21, _⟩ => ⟨S_, .f32⟩
  | .hbm, ⟨22, _⟩ => ⟨S6144, .f32⟩
  | .hbm, ⟨23, _⟩ => ⟨S1x6144, .f32⟩
  | .hbm, ⟨24, _⟩ => ⟨S768x1024, .f32⟩
  | .hbm, ⟨25, _⟩ => ⟨S1024x768, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_call0_v5 : Ref sig .tc := ⟨.hbm, 14, rfl⟩
abbrev main_v2 : Ref sig .tc := ⟨.hbm, 15, rfl⟩
abbrev main_v3 : Ref sig .tc := ⟨.hbm, 16, rfl⟩
abbrev main_cst_1 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_cst_2 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩

abbrev nD : Nat := 1
abbrev τ : Topo := Topo.v7x

variable {F : FTy → Type} [FloatOps F]
-- ==== KernelMod.lean ====
abbrev S8x1024 : Shape := ⟨2, ![8, 1024]⟩
abbrev S1024x768 : Shape := ⟨2, ![1024, 768]⟩
abbrev S1x768 : Shape := ⟨2, ![1, 768]⟩
abbrev S8x768 : Shape := ⟨2, ![8, 768]⟩
abbrev S16x1024 : Shape := ⟨2, ![16, 1024]⟩
abbrev S16x768 : Shape := ⟨2, ![16, 768]⟩

abbrev nBuf : Space → Nat
  | .hbm => 4
  | .vmem => 4
  | .smem => 0
  | _ => 0

abbrev bufTy : (tb : Table) → Fin (tcTables nBuf tb) → BufTy
  | .hbm, ⟨0, _⟩ => ⟨S8x1024, .f32⟩
  | .hbm, ⟨1, _⟩ => ⟨S1024x768, .f32⟩
  | .hbm, ⟨2, _⟩ => ⟨S1x768, .f32⟩
  | .hbm, ⟨3, _⟩ => ⟨S8x768, .f32⟩
  | .local _ .vmem, ⟨0, _⟩ => ⟨S8x1024, .f32⟩
  | .local _ .vmem, ⟨1, _⟩ => ⟨S1024x768, .f32⟩
  | .local _ .vmem, ⟨2, _⟩ => ⟨S1x768, .f32⟩
  | .local _ .vmem, ⟨3, _⟩ => ⟨S8x768, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceModIdeal.lean ====
abbrev S8x1024 : Shape := ⟨2, ![8, 1024]⟩
abbrev S1024x768 : Shape := ⟨2, ![1024, 768]⟩
abbrev S1x768 : Shape := ⟨2, ![1, 768]⟩
abbrev S_ : Shape := ⟨0, ![]⟩
abbrev S8x768 : Shape := ⟨2, ![8, 768]⟩

abbrev nBuf : Space → Nat
  | .hbm => 15
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S1024x768, .f32⟩
  | .hbm, ⟨2, _⟩ => ⟨S1x768, .f32⟩
  | .hbm, ⟨3, _⟩ => ⟨S8x1024, .f32⟩
  | .hbm, ⟨4, _⟩ => ⟨S8x1024, .f32⟩
  | .hbm, ⟨5, _⟩ => ⟨S_, .f32⟩
  | .hbm, ⟨6, _⟩ => ⟨S8x1024, .f32⟩
  | .hbm, ⟨7, _⟩ => ⟨S8x1024, .f32⟩
  | .hbm, ⟨8, _⟩ => ⟨S_, .f32⟩
  | .hbm, ⟨9, _⟩ => ⟨S8x1024, .f32⟩
  | .hbm, ⟨10, _⟩ => ⟨S8x1024, .f32⟩
  | .hbm, ⟨11, _⟩ => ⟨S8x1024, .f32⟩
  | .hbm, ⟨12, _⟩ => ⟨S8x768, .f32⟩
  | .hbm, ⟨13, _⟩ => ⟨S8x768, .f32⟩
  | .hbm, ⟨14, _⟩ => ⟨S8x768, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩

abbrev nD : Nat := 1
abbrev τ : Topo := Topo.v7x

variable {F : FTy → Type} [FloatOps F]
-- ==== KernelRms.lean ====
abbrev S4096x1024 : Shape := ⟨2, ![4096, 1024]⟩
abbrev S1x1024 : Shape := ⟨2, ![1, 1024]⟩
abbrev S_ : Shape := ⟨0, ![]⟩
abbrev S4096x5760 : Shape := ⟨2, ![4096, 5760]⟩
abbrev S4096x2048 : Shape := ⟨2, ![4096, 2048]⟩
abbrev S256x1024 : Shape := ⟨2, ![256, 1024]⟩
abbrev S256x2048 : Shape := ⟨2, ![256, 2048]⟩
abbrev S256 : Shape := ⟨1, ![256]⟩
abbrev S256x1 : Shape := ⟨2, ![256, 1]⟩

abbrev nBuf : Space → Nat
  | .hbm => 9
  | .vmem => 10
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S1x1024, .f32⟩
  | .hbm, ⟨4, _⟩ => ⟨S1x1024, .f32⟩
  | .hbm, ⟨5, _⟩ => ⟨S_, .i32⟩
  | .hbm, ⟨6, _⟩ => ⟨S_, .f32⟩
  | .hbm, ⟨7, _⟩ => ⟨S4096x5760, .f32⟩
  | .hbm, ⟨8, _⟩ => ⟨S4096x2048, .bf16⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S1x1024, .f32⟩
  | .local _ .vmem, ⟨7, _⟩ => ⟨S1x1024, .f32⟩
  | .local _ .vmem, ⟨8, _⟩ => ⟨S256x2048, .bf16⟩
  | .local _ .vmem, ⟨9, _⟩ => ⟨S256x2048, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_call0_v0 : Ref sig .tc := ⟨.hbm, 6, rfl⟩
abbrev main_v0 : Ref sig .tc := ⟨.hbm, 7, rfl⟩
abbrev main_v1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c15_i32 : BitVec 32 := 15#32
  let v1 : BitVec 32 := Scalar.maxsi c0_i32_0 v0
  let v2 : BitVec 32 := Scalar.minsi c15_i32 v1
  let c0_i32_1 : BitVec 32 := 0#32
  let c0_i32_2 : BitVec 32 := 0#32
  ![v2.toNat, c0_i32_1.toNat]

def cc0_transform_1 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c15_i32 : BitVec 32 := 15#32
  let v1 : BitVec 32 := Scalar.maxsi c0_i32_0 v0
  let v2 : BitVec 32 := Scalar.minsi c15_i32 v1
  let c0_i32_1 : BitVec 32 := 0#32
  let c0_i32_2 : BitVec 32 := 0#32
  ![v2.toNat, c0_i32_1.toNat]

def cc0_transform_2 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c15_i32 : BitVec 32 := 15#32
  let v1 : BitVec 32 := Scalar.maxsi c0_i32_0 v0
  let v2 : BitVec 32 := Scalar.minsi c15_i32 v1
  let c0_i32_1 : BitVec 32 := 0#32
  let c0_i32_2 : BitVec 32 := 0#32
  ![v2.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceRmsIdeal.lean ====
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S4096x2048 : Shape := ⟨2, ![4096, 2048]⟩

abbrev nBuf : Space → Nat
  | .hbm => 47
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S1x1024, .f32⟩
  | .hbm, ⟨4, _⟩ => ⟨S1x1024, .f32⟩
  | .hbm, ⟨5, _⟩ => ⟨S4096x1024, .f32⟩
  | .hbm, ⟨6, _⟩ => ⟨S4096x1024, .f32⟩
  | .hbm, ⟨7, _⟩ => ⟨S_, .f32⟩
  | .hbm, ⟨8, _⟩ => ⟨S4096x1024, .f32⟩
  | .hbm, ⟨9, _⟩ => ⟨S4096x1024, .f32⟩
  | .hbm, ⟨10, _⟩ => ⟨S_, .f32⟩
  | .hbm, ⟨11, _⟩ => ⟨S4096x1024, .f32⟩
  | .hbm, ⟨12, _⟩ => ⟨S4096x1024, .f32⟩
  | .hbm, ⟨13, _⟩ => ⟨S4096x1024, .f32⟩
  | .hbm, ⟨14, _⟩ => ⟨S4096x1024, .f32⟩
  | .hbm, ⟨15, _⟩ => ⟨S4096x1024, .f32⟩
  | .hbm, ⟨16, _⟩ => ⟨S_, .f32⟩
  | .hbm, ⟨17, _⟩ => ⟨S4096, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S_, .f32⟩
  | .hbm, ⟨23, _⟩ => ⟨S4096x1, .f32⟩
  | .hbm, ⟨24, _⟩ => ⟨S4096x1, .f32⟩
  | .hbm, ⟨25, _⟩ => ⟨S4096x1, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S4096x1024, .f32⟩
  | .hbm, ⟨31, _⟩ => ⟨S_, .f32⟩
  | .hbm, ⟨32, _⟩ => ⟨S4096, .f32⟩
  | .hbm, ⟨33, _⟩ => ⟨S4096x1, .f32⟩
  | .hbm, ⟨34, _⟩ => ⟨S_, .f32⟩
  | .hbm, ⟨35, _⟩ => ⟨S4096x1, .f32⟩
  | .hbm, ⟨36, _⟩ => ⟨S4096x1, .f32⟩
  | .hbm, ⟨37, _⟩ => ⟨S_, .f32⟩
  | .hbm, ⟨38, _⟩ => ⟨S4096x1, .f32⟩
  | .hbm, ⟨39, _⟩ => ⟨S4096x1, .f32⟩
  | .hbm, ⟨40, _⟩ => ⟨S4096x1, .f32⟩
  | .hbm, ⟨41, _⟩ => ⟨S4096x1024, .f32⟩
  | .hbm, ⟨42, _⟩ => ⟨S4096x1024, .f32⟩
  | .hbm, ⟨43, _⟩ => ⟨S4096x1024, .f32⟩
  | .hbm, ⟨44, _⟩ => ⟨S4096x1024, .f32⟩
  | .hbm, ⟨45, _⟩ => ⟨S4096x2048, .f32⟩
  | .hbm, ⟨46, _⟩ => ⟨S4096x2048, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_call0_v5 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_cst : Ref sig .tc := ⟨.hbm, 16, rfl⟩
abbrev main_v3 : Ref sig .tc := ⟨.hbm, 17, rfl⟩
abbrev main_v4 : Ref sig .tc := ⟨.hbm, 18, rfl⟩
abbrev main_cst_0 : Ref sig .tc := ⟨.hbm, 19, rfl⟩
abbrev main_v5 : Ref sig .tc := ⟨.hbm, 20, rfl⟩
abbrev main_v6 : Ref sig .tc := ⟨.hbm, 21, rfl⟩
abbrev main_cst_1 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_cst_2 : Ref sig .tc := ⟨.hbm, 31, rfl⟩
abbrev main_v15 : Ref sig .tc := ⟨.hbm, 32, rfl⟩
abbrev main_v16 : Ref sig .tc := ⟨.hbm, 33, rfl⟩
abbrev main_cst_3 : Ref sig .tc := ⟨.hbm, 34, rfl⟩
abbrev main_v17 : Ref sig .tc := ⟨.hbm, 35, rfl⟩
abbrev main_v18 : Ref sig .tc := ⟨.hbm, 36, rfl⟩
abbrev main_cst_4 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩

abbrev nD : Nat := 1
abbrev τ : Topo := Topo.v7x

variable {F : FTy → Type} [FloatOps F]
-- ==== KernelNorm.lean ====
abbrev S4096x1024 : Shape := ⟨2, ![4096, 1024]⟩
abbrev S1x1024 : Shape := ⟨2, ![1, 1024]⟩
abbrev S256x1024 : Shape := ⟨2, ![256, 1024]⟩
abbrev S256 : Shape := ⟨1, ![256]⟩
abbrev S256x1 : Shape := ⟨2, ![256, 1]⟩

abbrev nBuf : Space → Nat
  | .hbm => 9
  | .vmem => 13
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S4096x1024, .f32⟩
  | .hbm, ⟨8, _⟩ => ⟨S4096x1024, .bf16⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | .local _ .vmem, ⟨8, _⟩ => ⟨S1x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .bf16⟩
  | .local _ .vmem, ⟨12, _⟩ => ⟨S256x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c15_i32 : BitVec 32 := 15#32
  let v1 : BitVec 32 := Scalar.maxsi c0_i32_0 v0
  let v2 : BitVec 32 := Scalar.minsi c15_i32 v1
  let c0_i32_1 : BitVec 32 := 0#32
  let c0_i32_2 : BitVec 32 := 0#32
  ![v2.toNat, c0_i32_1.toNat]

def cc0_transform_1 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c15_i32 : BitVec 32 := 15#32
  let v1 : BitVec 32 := Scalar.maxsi c0_i32_0 v0
  let v2 : BitVec 32 := Scalar.minsi c15_i32 v1
  let c0_i32_1 : BitVec 32 := 0#32
  let c0_i32_2 : BitVec 32 := 0#32
  ![v2.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== ReferenceNormIdeal.lean ====
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩

abbrev nBuf : Space → Nat
  | .hbm => 51
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S_, .f32⟩
  | .hbm, ⟨8, _⟩ => ⟨S4096x1024, .f32⟩
  | .hbm, ⟨9, _⟩ => ⟨S4096x1024, .f32⟩
  | .hbm, ⟨10, _⟩ => ⟨S_, .f32⟩
  | .hbm, ⟨11, _⟩ => ⟨S1x1024, .f32⟩
  | .hbm, ⟨12, _⟩ => ⟨S1x1024, .f32⟩
  | .hbm, ⟨13, _⟩ => ⟨S4096x1024, .f32⟩
  | .hbm, ⟨14, _⟩ => ⟨S4096x1024, .f32⟩
  | .hbm, ⟨15, _⟩ => ⟨S4096x1024, .f32⟩
  | .hbm, ⟨16, _⟩ => ⟨S_, .f32⟩
  | .hbm, ⟨17, _⟩ => ⟨S4096, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S_, .f32⟩
  | .hbm, ⟨26, _⟩ => ⟨S4096, .f32⟩
  | .hbm, ⟨27, _⟩ => ⟨S4096x1, .f32⟩
  | .hbm, ⟨28, _⟩ => ⟨S_, .f32⟩
  | .hbm, ⟨29, _⟩ => ⟨S4096x1, .f32⟩
  | .hbm, ⟨30, _⟩ => ⟨S4096x1, .f32⟩
  | .hbm, ⟨31, _⟩ => ⟨S4096x1024, .f32⟩
  | .hbm, ⟨32, _⟩ => ⟨S4096x1024, .f32⟩
  | .hbm, ⟨33, _⟩ => ⟨S_, .f32⟩
  | .hbm, ⟨34, _⟩ => ⟨S4096x1, .f32⟩
  | .hbm, ⟨35, _⟩ => ⟨S4096x1, .f32⟩
  | .hbm, ⟨36, _⟩ => ⟨S4096x1, .f32⟩
  | .hbm, ⟨37, _⟩ => ⟨S4096x1024, .f32⟩
  | .hbm, ⟨38, _⟩ => ⟨S4096x1024, .f32⟩
  | .hbm, ⟨39, _⟩ => ⟨S4096x1024, .f32⟩
  | .hbm, ⟨40, _⟩ => ⟨S4096x1024, .f32⟩
  | .hbm, ⟨41, _⟩ => ⟨S4096x1024, .f32⟩
  | .hbm, ⟨42, _⟩ => ⟨S4096x1024, .f32⟩
  | .hbm, ⟨43, _⟩ => ⟨S_, .f32⟩
  | .hbm, ⟨44, _⟩ => ⟨S1x1024, .f32⟩
  | .hbm, ⟨45, _⟩ => ⟨S1x1024, .f32⟩
  | .hbm, ⟨46, _⟩ => ⟨S4096x1024, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_cst_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_3 : Ref sig .tc := ⟨.hbm, 25, rfl⟩
abbrev main_v14 : Ref sig .tc := ⟨.hbm, 26, rfl⟩
abbrev main_v15 : Ref sig .tc := ⟨.hbm, 27, rfl⟩
abbrev main_cst_4 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_5 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_cst_6 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩

abbrev nD : Nat := 1
abbrev τ : Topo := Topo.v7x

variable {F : FTy → Type} [FloatOps F]
-- ==== KernelAct.lean ====
abbrev S4096x5760 : Shape := ⟨2, ![4096, 5760]⟩
abbrev S4x1536 : Shape := ⟨2, ![4, 1536]⟩
abbrev S1x1536 : Shape := ⟨2, ![1, 1536]⟩
abbrev S4x1024 : Shape := ⟨2, ![4, 1024]⟩
abbrev S1x1024 : Shape := ⟨2, ![1, 1024]⟩
abbrev S4x512 : Shape := ⟨2, ![4, 512]⟩
abbrev S1x512 : Shape := ⟨2, ![1, 512]⟩
abbrev S4096x1024 : Shape := ⟨2, ![4096, 1024]⟩
abbrev S4096x512 : Shape := ⟨2, ![4096, 512]⟩
abbrev S256x1024 : Shape := ⟨2, ![256, 1024]⟩
abbrev S256x512 : Shape := ⟨2, ![256, 512]⟩

abbrev nBuf : Space → Nat
  | .hbm => 9
  | .vmem => 16
  | .smem => 0
  | _ => 0

abbrev bufTy : (tb : Table) → Fin (tcTables nBuf tb) → BufTy
  | .hbm, ⟨0, _⟩ => ⟨S4096x5760, .f32⟩
  | .hbm, ⟨1, _⟩ => ⟨S4x1536, .f32⟩
  | .hbm, ⟨2, _⟩ => ⟨S1x1536, .f32⟩
  | .hbm, ⟨3, _⟩ => ⟨S4x1024, .f32⟩
  | .hbm, ⟨4, _⟩ => ⟨S1x1024, .f32⟩
  | .hbm, ⟨5, _⟩ => ⟨S4x512, .f32⟩
  | .hbm, ⟨6, _⟩ => ⟨S1x512, .f32⟩
  | .hbm, ⟨7, _⟩ => ⟨S4096x1024, .f32⟩
  | .hbm, ⟨8, _⟩ => ⟨S4096x512, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x512, .f32⟩
  | .local _ .vmem, ⟨5, _⟩ => ⟨S256x512, .f32⟩
  | .local _ .vmem, ⟨6, _⟩ => ⟨S256x512, .f32⟩
  | .local _ .vmem, ⟨7, _⟩ => ⟨S256x512, .f32⟩
  | .local _ .vmem, ⟨8, _⟩ => ⟨S4x1024, .f32⟩
  | .local _ .vmem, ⟨9, _⟩ => ⟨S1x1024, .f32⟩
  | .local _ .vmem, ⟨10, _⟩ => ⟨S4x512, .f32⟩
  | .local _ .vmem, ⟨11, _⟩ => ⟨S1x512, .f32⟩
  | .local _ .vmem, ⟨12, _⟩ => ⟨S256x1024, .f32⟩
  | .local _ .vmem, ⟨13, _⟩ => ⟨S256x1024, .f32⟩
  | .local _ .vmem, ⟨14, _⟩ => ⟨S256x512, .f32⟩
  | .local _ .vmem, ⟨15, _⟩ => ⟨S256x512, .f32⟩
  | _, _ => ⟨S4096x5760, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4_0 : Ref sig .tc := ⟨.hbm, 7, rfl⟩
abbrev main_v4_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c15_i32 : BitVec 32 := 15#32
  let v1 : BitVec 32 := Scalar.maxsi c0_i32_0 v0
  let v2 : BitVec 32 := Scalar.minsi c15_i32 v1
  let c1_i32 : BitVec 32 := 1#32
  let c0_i32_1 : BitVec 32 := 0#32
  ![v2.toNat, c1_i32.toNat]

def cc0_transform_1 (i : grid0.Coords) : Fin 2 → Nat :=
  let arg0 : BitVec 32 := BitVec.ofNat 32 (i 0).val
  let c_m1_i32 : BitVec 32 := 4294967295#32
  let v0 : BitVec 32 := Scalar.addi arg0 c_m1_i32
  let c0_i32 : BitVec 32 := 0#32
  let c15_i32 : BitVec 32 := 15#32
  let v1 : BitVec 32 := Scalar.maxsi c0_i32 v0
  let v2 : BitVec 32 := Scalar.minsi c15_i32 v1
  let c1_i32 : BitVec 32 := 1#32
  let c0_i32_0 : BitVec 32 := 0#32
  ![v2.toNat, c1_i32.toNat]

def cc0_transform_2 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c15_i32 : BitVec 32 := 15#32
  let v1 : BitVec 32 := Scalar.maxsi c0_i32_0 v0
  let v2 : BitVec 32 := Scalar.minsi c15_i32 v1
  let c10_i32 : BitVec 32 := 10#32
  let c0_i32_1 : BitVec 32 := 0#32
  ![v2.toNat, c10_i32.toNat]

def cc0_transform_3 (i : grid0.Coords) : Fin 2 → Nat :=
  let arg0 : BitVec 32 := BitVec.ofNat 32 (i 0).val
  let c_m1_i32 : BitVec 32 := 4294967295#32
  let v0 : BitVec 32 := Scalar.addi arg0 c_m1_i32
  let c0_i32 : BitVec 32 := 0#32
  let c15_i32 : BitVec 32 := 15#32
  let v1 : BitVec 32 := Scalar.maxsi c0_i32 v0
  let v2 : BitVec 32 := Scalar.minsi c15_i32 v1
  let c10_i32 : BitVec 32 := 10#32
  let c0_i32_0 : BitVec 32 := 0#32
  ![v2.toNat, c10_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S4x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== ReferenceActIdeal.lean ====
abbrev S4096x5760 : Shape := ⟨2, ![4096, 5760]⟩
abbrev S4x1536 : Shape := ⟨2, ![4, 1536]⟩
abbrev S1x1536 : Shape := ⟨2, ![1, 1536]⟩
abbrev S4096x1024 : Shape := ⟨2, ![4096, 1024]⟩
abbrev S4096x512 : Shape := ⟨2, ![4096, 512]⟩
abbrev S4096x1536 : Shape := ⟨2, ![4096, 1536]⟩
abbrev S_ : Shape := ⟨0, ![]⟩
abbrev S4099x1536 : Shape := ⟨2, ![4099, 1536]⟩

abbrev nBuf : Space → Nat
  | .hbm => 44
  | .vmem => 0
  | .smem => 0
  | _ => 0

abbrev bufTy : (tb : Table) → Fin (tcTables nBuf tb) → BufTy
  | .hbm, ⟨0, _⟩ => ⟨S4096x5760, .f32⟩
  | .hbm, ⟨1, _⟩ => ⟨S4x1536, .f32⟩
  | .hbm, ⟨2, _⟩ => ⟨S1x1536, .f32⟩
  | .hbm, ⟨3, _⟩ => ⟨S4096x1024, .f32⟩
  | .hbm, ⟨4, _⟩ => ⟨S4096x512, .f32⟩
  | .hbm, ⟨5, _⟩ => ⟨S4096x1536, .f32⟩
  | .hbm, ⟨6, _⟩ => ⟨S_, .i32⟩
  | .hbm, ⟨7, _⟩ => ⟨S_, .f32⟩
  | .hbm, ⟨8, _⟩ => ⟨S4099x1536, .f32⟩
  | .hbm, ⟨9, _⟩ => ⟨S4096x1536, .f32⟩
  | .hbm, ⟨10, _⟩ => ⟨S1x1536, .f32⟩
  | .hbm, ⟨11, _⟩ => ⟨S4096x1536, .f32⟩
  | .hbm, ⟨12, _⟩ => ⟨S4096x1536, .f32⟩
  | .hbm, ⟨13, _⟩ => ⟨S_, .f32⟩
  | .hbm, ⟨14, _⟩ => ⟨S4096x1536, .f32⟩
  | .hbm, ⟨15, _⟩ => ⟨S4096x1536, .f32⟩
  | .hbm, ⟨16, _⟩ => ⟨S4096x1536, .f32⟩
  | .hbm, ⟨17, _⟩ => ⟨S1x1536, .f32⟩
  | .hbm, ⟨18, _⟩ => ⟨S4096x1536, .f32⟩
  | .hbm, ⟨19, _⟩ => ⟨S4096x1536, .f32⟩
  | .hbm, ⟨20, _⟩ => ⟨S4096x1536, .f32⟩
  | .hbm, ⟨21, _⟩ => ⟨S4096x1536, .f32⟩
  | .hbm, ⟨22, _⟩ => ⟨S1x1536, .f32⟩
  | .hbm, ⟨23, _⟩ => ⟨S4096x1536, .f32⟩
  | .hbm, ⟨24, _⟩ => ⟨S4096x1536, .f32⟩
  | .hbm, ⟨25, _⟩ => ⟨S4096x1536, .f32⟩
  | .hbm, ⟨26, _⟩ => ⟨S4096x1536, .f32⟩
  | .hbm, ⟨27, _⟩ => ⟨S1x1536, .f32⟩
  | .hbm, ⟨28, _⟩ => ⟨S4096x1536, .f32⟩
  | .hbm, ⟨29, _⟩ => ⟨S4096x1536, .f32⟩
  | .hbm, ⟨30, _⟩ => ⟨S4096x1536, .f32⟩
  | .hbm, ⟨31, _⟩ => ⟨S4096x1536, .f32⟩
  | .hbm, ⟨32, _⟩ => ⟨S4096x1536, .f32⟩
  | .hbm, ⟨33, _⟩ => ⟨S4096x1536, .f32⟩
  | .hbm, ⟨34, _⟩ => ⟨S4096x1536, .f32⟩
  | .hbm, ⟨35, _⟩ => ⟨S_, .f32⟩
  | .hbm, ⟨36, _⟩ => ⟨S4096x1536, .f32⟩
  | .hbm, ⟨37, _⟩ => ⟨S4096x1536, .f32⟩
  | .hbm, ⟨38, _⟩ => ⟨S_, .f32⟩
  | .hbm, ⟨39, _⟩ => ⟨S4096x1536, .f32⟩
  | .hbm, ⟨40, _⟩ => ⟨S4096x1536, .f32⟩
  | .hbm, ⟨41, _⟩ => ⟨S4096x1536, .f32⟩
  | .hbm, ⟨42, _⟩ => ⟨S4096x1024, .f32⟩
  | .hbm, ⟨43, _⟩ => ⟨S4096x512, .f32⟩
  | _, _ => ⟨S4096x5760, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c : Ref sig .tc := ⟨.hbm, 6, rfl⟩
abbrev main_call0_v0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_call1_v0 : Ref sig .tc := ⟨.hbm, 33, rfl⟩
abbrev main_call1_v1 : Ref sig .tc := ⟨.hbm, 34, rfl⟩
abbrev main_call1_cst : Ref sig .tc := ⟨.hbm, 35, rfl⟩
abbrev main_call1_v2 : Ref sig .tc := ⟨.hbm, 36, rfl⟩
abbrev main_call1_v3 : Ref sig .tc := ⟨.hbm, 37, rfl⟩
abbrev main_call1_cst_0 : Ref sig .tc := ⟨.hbm, 38, rfl⟩
abbrev main_call1_v4 : Ref sig .tc := ⟨.hbm, 39, rfl⟩
abbrev main_call1_v5 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩

abbrev nD : Nat := 1
abbrev τ : Topo := Topo.v7x

variable {F : FTy → Type} [FloatOps F]
-- ==== KernelSums.lean ====
abbrev S4096x16 : Shape := ⟨2, ![4096, 16]⟩
abbrev S1x16 : Shape := ⟨2, ![1, 16]⟩
abbrev S_ : Shape := ⟨0, ![]⟩
abbrev S4096x5760 : Shape := ⟨2, ![4096, 5760]⟩
abbrev S1x128 : Shape := ⟨2, ![1, 128]⟩
abbrev S16x4096 : Shape := ⟨2, ![16, 4096]⟩
abbrev S512x128 : Shape := ⟨2, ![512, 128]⟩
abbrev S16x512 : Shape := ⟨2, ![16, 512]⟩
abbrev S512x512 : Shape := ⟨2, ![512, 512]⟩
abbrev S128x512 : Shape := ⟨2, ![128, 512]⟩

abbrev nBuf : Space → Nat
  | .hbm => 9
  | .vmem => 6
  | .smem => 0
  | _ => 0

abbrev bufTy : (tb : Table) → Fin (tcTables nBuf tb) → BufTy
  | .hbm, ⟨0, _⟩ => ⟨S4096x16, .f32⟩
  | .hbm, ⟨1, _⟩ => ⟨S1x16, .f32⟩
  | .hbm, ⟨2, _⟩ => ⟨S_, .i32⟩
  | .hbm, ⟨3, _⟩ => ⟨S_, .f32⟩
  | .hbm, ⟨4, _⟩ => ⟨S4096x5760, .f32⟩
  | .hbm, ⟨5, _⟩ => ⟨S_, .i32⟩
  | .hbm, ⟨6, _⟩ => ⟨S_, .f32⟩
  | .hbm, ⟨7, _⟩ => ⟨S1x128, .f32⟩
  | .hbm, ⟨8, _⟩ => ⟨S16x4096, .f32⟩
  | .local _ .vmem, ⟨0, _⟩ => ⟨S512x128, .f32⟩
  | .local _ .vmem, ⟨1, _⟩ => ⟨S512x128, .f32⟩
  | .local _ .vmem, ⟨2, _⟩ => ⟨S1x128, .f32⟩
  | .local _ .vmem, ⟨3, _⟩ => ⟨S16x512, .f32⟩
  | .local _ .vmem, ⟨4, _⟩ => ⟨S16x512, .f32⟩
  | .local _ .vmem, ⟨5, _⟩ => ⟨S1x128, .f32⟩
  | _, _ => ⟨S4096x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_c_0 : Ref sig .tc := ⟨.hbm, 5, rfl⟩
abbrev main_call1_v0 : Ref sig .tc := ⟨.hbm, 6, rfl⟩
abbrev main_v1 : Ref sig .tc := ⟨.hbm, 7, rfl⟩
abbrev main_v2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c44_i32 : BitVec 32 := 44#32
  let c0_i32 : BitVec 32 := 0#32
  ![arg0.toNat, c44_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S16x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceSumsIdeal.lean ====
abbrev S4096x16 : Shape := ⟨2, ![4096, 16]⟩
abbrev S1x16 : Shape := ⟨2, ![1, 16]⟩
abbrev S_ : Shape := ⟨0, ![]⟩
abbrev S16x4096 : Shape := ⟨2, ![16, 4096]⟩

abbrev nBuf : Space → Nat
  | .hbm => 24
  | .vmem => 0
  | .smem => 0
  | _ => 0

abbrev bufTy : (tb : Table) → Fin (tcTables nBuf tb) → BufTy
  | .hbm, ⟨0, _⟩ => ⟨S4096x16, .f32⟩
  | .hbm, ⟨1, _⟩ => ⟨S1x16, .f32⟩
  | .hbm, ⟨2, _⟩ => ⟨S4096x16, .f32⟩
  | .hbm, ⟨3, _⟩ => ⟨S4096x16, .f32⟩
  | .hbm, ⟨4, _⟩ => ⟨S4096x16, .f32⟩
  | .hbm, ⟨5, _⟩ => ⟨S_, .f32⟩
  | .hbm, ⟨6, _⟩ => ⟨S4096x16, .f32⟩
  | .hbm, ⟨7, _⟩ => ⟨S4096x16, .f32⟩
  | .hbm, ⟨8, _⟩ => ⟨S4096x16, .f32⟩
  | .hbm, ⟨9, _⟩ => ⟨S4096x16, .f32⟩
  | .hbm, ⟨10, _⟩ => ⟨S4096x16, .i1⟩
  | .hbm, ⟨11, _⟩ => ⟨S4096x16, .f32⟩
  | .hbm, ⟨12, _⟩ => ⟨S4096x16, .f32⟩
  | .hbm, ⟨13, _⟩ => ⟨S4096x16, .f32⟩
  | .hbm, ⟨14, _⟩ => ⟨S4096x16, .f32⟩
  | .hbm, ⟨15, _⟩ => ⟨S4096x16, .f32⟩
  | .hbm, ⟨16, _⟩ => ⟨S4096x16, .f32⟩
  | .hbm, ⟨17, _⟩ => ⟨S4096x16, .f32⟩
  | .hbm, ⟨18, _⟩ => ⟨S4096x16, .f32⟩
  | .hbm, ⟨19, _⟩ => ⟨S4096x16, .f32⟩
  | .hbm, ⟨20, _⟩ => ⟨S_, .f32⟩
  | .hbm, ⟨21, _⟩ => ⟨S_, .f32⟩
  | .hbm, ⟨22, _⟩ => ⟨S4096x16, .f32⟩
  | .hbm, ⟨23, _⟩ => ⟨S16x4096, .f32⟩
  | _, _ => ⟨S4096x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_call0_v0 : Ref sig .tc := ⟨.hbm, 4, rfl⟩
abbrev main_call0_call0_cst : Ref sig .tc := ⟨.hbm, 5, rfl⟩
abbrev main_call0_call0_v0 : Ref sig .tc := ⟨.hbm, 6, rfl⟩
abbrev main_call0_call0_v1 : Ref sig .tc := ⟨.hbm, 7, rfl⟩
abbrev main_call0_call0_v2 : Ref sig .tc := ⟨.hbm, 8, rfl⟩
abbrev main_call0_call0_v3 : Ref sig .tc := ⟨.hbm, 9, rfl⟩
abbrev main_call0_call0_v4 : Ref sig .tc := ⟨.hbm, 10, rfl⟩
abbrev main_call0_call0_v5 : Ref sig .tc := ⟨.hbm, 11, rfl⟩
abbrev main_call0_call0_v6 : Ref sig .tc := ⟨.hbm, 12, rfl⟩
abbrev main_call0_call0_v7 : Ref sig .tc := ⟨.hbm, 13, rfl⟩
abbrev main_call0_call0_v8 : Ref sig .tc := ⟨.hbm, 14, rfl⟩
abbrev main_call0_call0_v9 : Ref sig .tc := ⟨.hbm, 15, rfl⟩
abbrev main_call0_call0_v10 : Ref sig .tc := ⟨.hbm, 16, rfl⟩
abbrev main_call0_call0_v11 : Ref sig .tc := ⟨.hbm, 17, rfl⟩
abbrev main_call0_v1 : Ref sig .tc := ⟨.hbm, 18, rfl⟩
abbrev main_v2 : Ref sig .tc := ⟨.hbm, 19, rfl⟩
abbrev main_call1_call0_cst : Ref sig .tc := ⟨.hbm, 20, rfl⟩
abbrev main_call1_call0_v0 : Ref sig .tc := ⟨.hbm, 21, rfl⟩
abbrev main_v3 : Ref sig .tc := ⟨.hbm, 22, rfl⟩
abbrev main_v4 : Ref sig .tc := ⟨.hbm, 23, rfl⟩

abbrev nD : Nat := 1
abbrev τ : Topo := Topo.v7x

variable {F : FTy → Type} [FloatOps F]
-- ==== KernelProj.lean ====
abbrev S4096x1024 : Shape := ⟨2, ![4096, 1024]⟩
abbrev S1x1024 : Shape := ⟨2, ![1, 1024]⟩
abbrev S1024x5760 : Shape := ⟨2, ![1024, 5760]⟩
abbrev S4096x5760 : Shape := ⟨2, ![4096, 5760]⟩
abbrev S512x1024 : Shape := ⟨2, ![512, 1024]⟩
abbrev S1024x640 : Shape := ⟨2, ![1024, 640]⟩
abbrev S512x640 : Shape := ⟨2, ![512, 640]⟩

abbrev nBuf : Space → Nat
  | .hbm => 5
  | .vmem => 8
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1x1024, .f32⟩
  | .hbm, ⟨3, _⟩ => ⟨S1024x5760, .bf16⟩
  | .hbm, ⟨4, _⟩ => ⟨S4096x5760, .f32⟩
  | .local _ .vmem, ⟨0, _⟩ => ⟨S512x1024, .f32⟩
  | .local _ .vmem, ⟨1, _⟩ => ⟨S512x1024, .f32⟩
  | .local _ .vmem, ⟨2, _⟩ => ⟨S1024x640, .bf16⟩
  | .local _ .vmem, ⟨3, _⟩ => ⟨S1024x640, .bf16⟩
  | .local _ .vmem, ⟨4, _⟩ => ⟨S1x1024, .f32⟩
  | .local _ .vmem, ⟨5, _⟩ => ⟨S1x1024, .f32⟩
  | .local _ .vmem, ⟨6, _⟩ => ⟨S512x640, .f32⟩
  | .local _ .vmem, ⟨7, _⟩ => ⟨S512x640, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨3, ![8, 9, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x640 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, true]

abbrev stage0_4 : Fin 2 → Memref sig .tc .vmem S512x640 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== ReferenceProjIdeal.lean ====
abbrev S4096x1024 : Shape := ⟨2, ![4096, 1024]⟩
abbrev S1x1024 : Shape := ⟨2, ![1, 1024]⟩
abbrev S1024x5760 : Shape := ⟨2, ![1024, 5760]⟩
abbrev S_ : Shape := ⟨0, ![]⟩
abbrev S4096x5760 : Shape := ⟨2, ![4096, 5760]⟩

abbrev nBuf : Space → Nat
  | .hbm => 13
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1x1024, .f32⟩
  | .hbm, ⟨3, _⟩ => ⟨S1024x5760, .bf16⟩
  | .hbm, ⟨4, _⟩ => ⟨S_, .f32⟩
  | .hbm, ⟨5, _⟩ => ⟨S1x1024, .f32⟩
  | .hbm, ⟨6, _⟩ => ⟨S1x1024, .f32⟩
  | .hbm, ⟨7, _⟩ => ⟨S4096x1024, .f32⟩
  | .hbm, ⟨8, _⟩ => ⟨S4096x1024, .f32⟩
  | .hbm, ⟨9, _⟩ => ⟨S4096x1024, .f32⟩
  | .hbm, ⟨10, _⟩ => ⟨S4096x1024, .f32⟩
  | .hbm, ⟨11, _⟩ => ⟨S1024x5760, .f32⟩
  | .hbm, ⟨12, _⟩ => ⟨S4096x5760, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩

abbrev nD : Nat := 1
abbrev τ : Topo := Topo.v7x

variable {F : FTy → Type} [FloatOps F]
-- ==== KernelOut.lean ====
abbrev S4096x2048 : Shape := ⟨2, ![4096, 2048]⟩
abbrev S2048x1024 : Shape := ⟨2, ![2048, 1024]⟩
abbrev S4096x1024 : Shape := ⟨2, ![4096, 1024]⟩
abbrev S512x2048 : Shape := ⟨2, ![512, 2048]⟩
abbrev S2048x512 : Shape := ⟨2, ![2048, 512]⟩
abbrev S512x512 : Shape := ⟨2, ![512, 512]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S2048x1024, .bf16⟩
  | .hbm, ⟨2, _⟩ => ⟨S4096x1024, .f32⟩
  | .local _ .vmem, ⟨0, _⟩ => ⟨S512x2048, .bf16⟩
  | .local _ .vmem, ⟨1, _⟩ => ⟨S512x2048, .bf16⟩
  | .local _ .vmem, ⟨2, _⟩ => ⟨S2048x512, .bf16⟩
  | .local _ .vmem, ⟨3, _⟩ => ⟨S2048x512, .bf16⟩
  | .local _ .vmem, ⟨4, _⟩ => ⟨S512x512, .f32⟩
  | .local _ .vmem, ⟨5, _⟩ => ⟨S512x512, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceOutIdeal.lean ====
abbrev S4096x2048 : Shape := ⟨2, ![4096, 2048]⟩
abbrev S2048x1024 : Shape := ⟨2, ![2048, 1024]⟩
abbrev S4096x1024 : Shape := ⟨2, ![4096, 1024]⟩

abbrev nBuf : Space → Nat
  | .hbm => 5
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x1024, .bf16⟩
  | .hbm, ⟨2, _⟩ => ⟨S4096x2048, .f32⟩
  | .hbm, ⟨3, _⟩ => ⟨S2048x1024, .f32⟩
  | .hbm, ⟨4, _⟩ => ⟨S4096x1024, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== KernelDmix.lean ====
abbrev S4096x2048 : Shape := ⟨2, ![4096, 2048]⟩
abbrev S2048x1024 : Shape := ⟨2, ![2048, 1024]⟩
abbrev S4096x1024 : Shape := ⟨2, ![4096, 1024]⟩
abbrev S512x1024 : Shape := ⟨2, ![512, 1024]⟩
abbrev S512x512 : Shape := ⟨2, ![512, 512]⟩

abbrev nBuf : Space → Nat
  | .hbm => 4
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S2048x1024, .bf16⟩
  | .hbm, ⟨2, _⟩ => ⟨S4096x1024, .bf16⟩
  | .hbm, ⟨3, _⟩ => ⟨S4096x2048, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x512, .f32⟩
  | .local _ .vmem, ⟨5, _⟩ => ⟨S512x512, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceDmixIdeal.lean ====
abbrev S4096x2048 : Shape := ⟨2, ![4096, 2048]⟩
abbrev S2048x1024 : Shape := ⟨2, ![2048, 1024]⟩
abbrev S4096x1024 : Shape := ⟨2, ![4096, 1024]⟩

abbrev nBuf : Space → Nat
  | .hbm => 8
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x1024, .bf16⟩
  | .hbm, ⟨2, _⟩ => ⟨S4096x1024, .bf16⟩
  | .hbm, ⟨3, _⟩ => ⟨S4096x2048, .f32⟩
  | .hbm, ⟨4, _⟩ => ⟨S2048x1024, .f32⟩
  | .hbm, ⟨5, _⟩ => ⟨S4096x1024, .f32⟩
  | .hbm, ⟨6, _⟩ => ⟨S4096x1024, .f32⟩
  | .hbm, ⟨7, _⟩ => ⟨S4096x2048, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== KernelWout.lean ====
abbrev S4096x2048 : Shape := ⟨2, ![4096, 2048]⟩
abbrev S2048x1024 : Shape := ⟨2, ![2048, 1024]⟩
abbrev S4096x1024 : Shape := ⟨2, ![4096, 1024]⟩
abbrev S1024x1024 : Shape := ⟨2, ![1024, 1024]⟩
abbrev S1024x512 : Shape := ⟨2, ![1024, 512]⟩

abbrev nBuf : Space → Nat
  | .hbm => 4
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S2048x1024, .bf16⟩
  | .hbm, ⟨2, _⟩ => ⟨S4096x1024, .bf16⟩
  | .hbm, ⟨3, _⟩ => ⟨S2048x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x512, .bf16⟩
  | .local _ .vmem, ⟨3, _⟩ => ⟨S1024x512, .bf16⟩
  | .local _ .vmem, ⟨4, _⟩ => ⟨S1024x512, .bf16⟩
  | .local _ .vmem, ⟨5, _⟩ => ⟨S1024x512, .bf16⟩
  | .local _ .vmem, ⟨6, _⟩ => ⟨S1024x512, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceWoutIdeal.lean ====
abbrev S4096x2048 : Shape := ⟨2, ![4096, 2048]⟩
abbrev S2048x1024 : Shape := ⟨2, ![2048, 1024]⟩
abbrev S4096x1024 : Shape := ⟨2, ![4096, 1024]⟩
abbrev S1024x2048 : Shape := ⟨2, ![1024, 2048]⟩

abbrev nBuf : Space → Nat
  | .hbm => 10
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x1024, .bf16⟩
  | .hbm, ⟨2, _⟩ => ⟨S4096x1024, .bf16⟩
  | .hbm, ⟨3, _⟩ => ⟨S2048x1024, .f32⟩
  | .hbm, ⟨4, _⟩ => ⟨S4096x2048, .f32⟩
  | .hbm, ⟨5, _⟩ => ⟨S4096x1024, .f32⟩
  | .hbm, ⟨6, _⟩ => ⟨S4096x1024, .f32⟩
  | .hbm, ⟨7, _⟩ => ⟨S1024x2048, .f32⟩
  | .hbm, ⟨8, _⟩ => ⟨S2048x1024, .f32⟩
  | .hbm, ⟨9, _⟩ => ⟨S2048x1024, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== KernelFf.lean ====
abbrev S4096x4096 : Shape := ⟨2, ![4096, 4096]⟩
abbrev S4096x1024 : Shape := ⟨2, ![4096, 1024]⟩
abbrev S512x1024 : Shape := ⟨2, ![512, 1024]⟩
abbrev S1024x512 : Shape := ⟨2, ![1024, 512]⟩
abbrev S512x512 : Shape := ⟨2, ![512, 512]⟩

abbrev nBuf : Space → Nat
  | .hbm => 3
  | .vmem => 7
  | .smem => 0
  | _ => 0

abbrev bufTy : (tb : Table) → Fin (tcTables nBuf tb) → BufTy
  | .hbm, ⟨0, _⟩ => ⟨S4096x4096, .f32⟩
  | .hbm, ⟨1, _⟩ => ⟨S4096x1024, .bf16⟩
  | .hbm, ⟨2, _⟩ => ⟨S4096x1024, .f32⟩
  | .local _ .vmem, ⟨0, _⟩ => ⟨S512x1024, .f32⟩
  | .local _ .vmem, ⟨1, _⟩ => ⟨S512x1024, .f32⟩
  | .local _ .vmem, ⟨2, _⟩ => ⟨S1024x512, .bf16⟩
  | .local _ .vmem, ⟨3, _⟩ => ⟨S1024x512, .bf16⟩
  | .local _ .vmem, ⟨4, _⟩ => ⟨S512x512, .f32⟩
  | .local _ .vmem, ⟨5, _⟩ => ⟨S512x512, .f32⟩
  | .local _ .vmem, ⟨6, _⟩ => ⟨S512x512, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 4], ![false, false, false]⟩

def k0_cond3 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_7 : BitVec 32 := 0#32
  let v15 : BitVec 1 := Scalar.cmpi .ne v14 c0_i32_7
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceFfIdeal.lean ====
abbrev S4096x4096 : Shape := ⟨2, ![4096, 4096]⟩
abbrev S4096x1024 : Shape := ⟨2, ![4096, 1024]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x1024, .bf16⟩
  | .hbm, ⟨2, _⟩ => ⟨S_, .f32⟩
  | .hbm, ⟨3, _⟩ => ⟨S4096x4096, .f32⟩
  | .hbm, ⟨4, _⟩ => ⟨S4096x4096, .f32⟩
  | .hbm, ⟨5, _⟩ => ⟨S4096x4096, .f32⟩
  | .hbm, ⟨6, _⟩ => ⟨S4096x1024, .f32⟩
  | .hbm, ⟨7, _⟩ => ⟨S4096x1024, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_cst : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩

abbrev nD : Nat := 1
abbrev τ : Topo := Topo.v7x

variable {F : FTy → Type} [FloatOps F]
-- ==== KernelWff.lean ====
abbrev S4096x4096 : Shape := ⟨2, ![4096, 4096]⟩
abbrev S4096x1024 : Shape := ⟨2, ![4096, 1024]⟩
abbrev S1024x1024 : Shape := ⟨2, ![1024, 1024]⟩
abbrev S1024x512 : Shape := ⟨2, ![1024, 512]⟩

abbrev nBuf : Space → Nat
  | .hbm => 4
  | .vmem => 7
  | .smem => 0
  | _ => 0

abbrev bufTy : (tb : Table) → Fin (tcTables nBuf tb) → BufTy
  | .hbm, ⟨0, _⟩ => ⟨S4096x4096, .f32⟩
  | .hbm, ⟨1, _⟩ => ⟨S4096x1024, .bf16⟩
  | .hbm, ⟨2, _⟩ => ⟨S4096x1024, .bf16⟩
  | .hbm, ⟨3, _⟩ => ⟨S4096x1024, .bf16⟩
  | .local _ .vmem, ⟨0, _⟩ => ⟨S1024x1024, .f32⟩
  | .local _ .vmem, ⟨1, _⟩ => ⟨S1024x1024, .f32⟩
  | .local _ .vmem, ⟨2, _⟩ => ⟨S1024x512, .bf16⟩
  | .local _ .vmem, ⟨3, _⟩ => ⟨S1024x512, .bf16⟩
  | .local _ .vmem, ⟨4, _⟩ => ⟨S1024x512, .bf16⟩
  | .local _ .vmem, ⟨5, _⟩ => ⟨S1024x512, .bf16⟩
  | .local _ .vmem, ⟨6, _⟩ => ⟨S1024x512, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 4], ![false, false, false]⟩

def k0_cond3 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_7 : BitVec 32 := 0#32
  let v15 : BitVec 1 := Scalar.cmpi .ne v14 c0_i32_7
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceWffIdeal.lean ====
abbrev S4096x4096 : Shape := ⟨2, ![4096, 4096]⟩
abbrev S4096x1024 : Shape := ⟨2, ![4096, 1024]⟩
abbrev S_ : Shape := ⟨0, ![]⟩
abbrev S1024x4096 : Shape := ⟨2, ![1024, 4096]⟩

abbrev nBuf : Space → Nat
  | .hbm => 13
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x1024, .bf16⟩
  | .hbm, ⟨2, _⟩ => ⟨S4096x1024, .bf16⟩
  | .hbm, ⟨3, _⟩ => ⟨S4096x1024, .f32⟩
  | .hbm, ⟨4, _⟩ => ⟨S_, .f32⟩
  | .hbm, ⟨5, _⟩ => ⟨S4096x4096, .f32⟩
  | .hbm, ⟨6, _⟩ => ⟨S4096x4096, .f32⟩
  | .hbm, ⟨7, _⟩ => ⟨S4096x4096, .f32⟩
  | .hbm, ⟨8, _⟩ => ⟨S4096x1024, .f32⟩
  | .hbm, ⟨9, _⟩ => ⟨S4096x1024, .f32⟩
  | .hbm, ⟨10, _⟩ => ⟨S1024x4096, .f32⟩
  | .hbm, ⟨11, _⟩ => ⟨S4096x1024, .f32⟩
  | .hbm, ⟨12, _⟩ => ⟨S4096x1024, .bf16⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_call0_cst : Ref sig .tc := ⟨.hbm, 4, rfl⟩
abbrev main_call0_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩

abbrev nD : Nat := 1
abbrev τ : Topo := Topo.v7x

variable {F : FTy → Type} [FloatOps F]
-- ==== KernelWin.lean ====
abbrev S4096x1024 : Shape := ⟨2, ![4096, 1024]⟩
abbrev S1x1024 : Shape := ⟨2, ![1, 1024]⟩
abbrev S1024x1024 : Shape := ⟨2, ![1024, 1024]⟩
abbrev S1024x512 : Shape := ⟨2, ![1024, 512]⟩

abbrev nBuf : Space → Nat
  | .hbm => 6
  | .vmem => 9
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1x1024, .f32⟩
  | .hbm, ⟨3, _⟩ => ⟨S1024x1024, .bf16⟩
  | .hbm, ⟨4, _⟩ => ⟨S4096x1024, .bf16⟩
  | .hbm, ⟨5, _⟩ => ⟨S1024x1024, .bf16⟩
  | .local _ .vmem, ⟨0, _⟩ => ⟨S1024x1024, .f32⟩
  | .local _ .vmem, ⟨1, _⟩ => ⟨S1024x1024, .f32⟩
  | .local _ .vmem, ⟨2, _⟩ => ⟨S1024x512, .bf16⟩
  | .local _ .vmem, ⟨3, _⟩ => ⟨S1024x512, .bf16⟩
  | .local _ .vmem, ⟨4, _⟩ => ⟨S1x1024, .f32⟩
  | .local _ .vmem, ⟨5, _⟩ => ⟨S1x1024, .f32⟩
  | .local _ .vmem, ⟨6, _⟩ => ⟨S1024x512, .bf16⟩
  | .local _ .vmem, ⟨7, _⟩ => ⟨S1024x512, .bf16⟩
  | .local _ .vmem, ⟨8, _⟩ => ⟨S1024x512, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨3, ![1, 2, 4], ![false, false, false]⟩

def k0_cond3 (i : grid0.Coords) : BitVec 1 :=
  let arg2 : BitVec 32 := BitVec.ofNat 32 (i 2).val
  let c3_i32 : BitVec 32 := 3#32
  let v18 : BitVec 1 := Scalar.cmpi .eq arg2 c3_i32
  let v19 : BitVec 32 := Scalar.extui v18
  let c0_i32_11 : BitVec 32 := 0#32
  let v20 : BitVec 1 := Scalar.cmpi .ne v19 c0_i32_11
  v20

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false, false]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== ReferenceWinIdeal.lean ====
abbrev S4096x1024 : Shape := ⟨2, ![4096, 1024]⟩
abbrev S1x1024 : Shape := ⟨2, ![1, 1024]⟩
abbrev S1024x1024 : Shape := ⟨2, ![1024, 1024]⟩
abbrev S_ : Shape := ⟨0, ![]⟩

abbrev nBuf : Space → Nat
  | .hbm => 18
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1x1024, .f32⟩
  | .hbm, ⟨3, _⟩ => ⟨S1024x1024, .bf16⟩
  | .hbm, ⟨4, _⟩ => ⟨S4096x1024, .bf16⟩
  | .hbm, ⟨5, _⟩ => ⟨S1024x1024, .f32⟩
  | .hbm, ⟨6, _⟩ => ⟨S_, .f32⟩
  | .hbm, ⟨7, _⟩ => ⟨S1x1024, .f32⟩
  | .hbm, ⟨8, _⟩ => ⟨S1x1024, .f32⟩
  | .hbm, ⟨9, _⟩ => ⟨S4096x1024, .f32⟩
  | .hbm, ⟨10, _⟩ => ⟨S4096x1024, .f32⟩
  | .hbm, ⟨11, _⟩ => ⟨S4096x1024, .f32⟩
  | .hbm, ⟨12, _⟩ => ⟨S4096x1024, .f32⟩
  | .hbm, ⟨13, _⟩ => ⟨S4096x1024, .f32⟩
  | .hbm, ⟨14, _⟩ => ⟨S4096x1024, .f32⟩
  | .hbm, ⟨15, _⟩ => ⟨S1024x1024, .f32⟩
  | .hbm, ⟨16, _⟩ => ⟨S1024x1024, .f32⟩
  | .hbm, ⟨17, _⟩ => ⟨S1024x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩

abbrev nD : Nat := 1
abbrev τ : Topo := Topo.v7x

variable {F : FTy → Type} [FloatOps F]
-- ==== KernelWinb.lean ====
abbrev S4096x1024 : Shape := ⟨2, ![4096, 1024]⟩
abbrev S1x1024 : Shape := ⟨2, ![1, 1024]⟩
abbrev S1024x512 : Shape := ⟨2, ![1024, 512]⟩
abbrev S4096x512 : Shape := ⟨2, ![4096, 512]⟩
abbrev S1024x1024 : Shape := ⟨2, ![1024, 1024]⟩

abbrev nBuf : Space → Nat
  | .hbm => 6
  | .vmem => 8
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1x1024, .f32⟩
  | .hbm, ⟨3, _⟩ => ⟨S1024x512, .bf16⟩
  | .hbm, ⟨4, _⟩ => ⟨S4096x512, .bf16⟩
  | .hbm, ⟨5, _⟩ => ⟨S1024x512, .bf16⟩
  | .local _ .vmem, ⟨0, _⟩ => ⟨S1024x1024, .f32⟩
  | .local _ .vmem, ⟨1, _⟩ => ⟨S1024x1024, .f32⟩
  | .local _ .vmem, ⟨2, _⟩ => ⟨S1024x512, .bf16⟩
  | .local _ .vmem, ⟨3, _⟩ => ⟨S1024x512, .bf16⟩
  | .local _ .vmem, ⟨4, _⟩ => ⟨S1x1024, .f32⟩
  | .local _ .vmem, ⟨5, _⟩ => ⟨S1x1024, .f32⟩
  | .local _ .vmem, ⟨6, _⟩ => ⟨S1024x512, .bf16⟩
  | .local _ .vmem, ⟨7, _⟩ => ⟨S1024x512, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32 : BitVec 32 := 3#32
  let v18 : BitVec 1 := Scalar.cmpi .eq arg2 c3_i32
  let v19 : BitVec 32 := Scalar.extui v18
  let c0_i32_11 : BitVec 32 := 0#32
  let v20 : BitVec 1 := Scalar.cmpi .ne v19 c0_i32_11
  v20

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false, false]

abbrev stage0_4 : Fin 1 → Memref sig .tc .vmem S1024x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true, false]
-- ==== ReferenceWinbIdeal.lean ====
abbrev S4096x1024 : Shape := ⟨2, ![4096, 1024]⟩
abbrev S1x1024 : Shape := ⟨2, ![1, 1024]⟩
abbrev S1024x512 : Shape := ⟨2, ![1024, 512]⟩
abbrev S4096x512 : Shape := ⟨2, ![4096, 512]⟩
abbrev S_ : Shape := ⟨0, ![]⟩
abbrev S512x1024 : Shape := ⟨2, ![512, 1024]⟩

abbrev nBuf : Space → Nat
  | .hbm => 18
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1x1024, .f32⟩
  | .hbm, ⟨3, _⟩ => ⟨S1024x512, .bf16⟩
  | .hbm, ⟨4, _⟩ => ⟨S4096x512, .bf16⟩
  | .hbm, ⟨5, _⟩ => ⟨S1024x512, .f32⟩
  | .hbm, ⟨6, _⟩ => ⟨S_, .f32⟩
  | .hbm, ⟨7, _⟩ => ⟨S1x1024, .f32⟩
  | .hbm, ⟨8, _⟩ => ⟨S1x1024, .f32⟩
  | .hbm, ⟨9, _⟩ => ⟨S4096x1024, .f32⟩
  | .hbm, ⟨10, _⟩ => ⟨S4096x1024, .f32⟩
  | .hbm, ⟨11, _⟩ => ⟨S4096x1024, .f32⟩
  | .hbm, ⟨12, _⟩ => ⟨S4096x1024, .f32⟩
  | .hbm, ⟨13, _⟩ => ⟨S4096x512, .f32⟩
  | .hbm, ⟨14, _⟩ => ⟨S4096x512, .f32⟩
  | .hbm, ⟨15, _⟩ => ⟨S512x1024, .f32⟩
  | .hbm, ⟨16, _⟩ => ⟨S1024x512, .f32⟩
  | .hbm, ⟨17, _⟩ => ⟨S1024x512, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩

abbrev nD : Nat := 1
abbrev τ : Topo := Topo.v7x

variable {F : FTy → Type} [FloatOps F]
-- ==== KernelWind.lean ====
abbrev S4096x1024 : Shape := ⟨2, ![4096, 1024]⟩
abbrev S1x1024 : Shape := ⟨2, ![1, 1024]⟩
abbrev S1024x128 : Shape := ⟨2, ![1024, 128]⟩
abbrev S4096x128 : Shape := ⟨2, ![4096, 128]⟩
abbrev S1024x1024 : Shape := ⟨2, ![1024, 1024]⟩

abbrev nBuf : Space → Nat
  | .hbm => 6
  | .vmem => 8
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1x1024, .f32⟩
  | .hbm, ⟨3, _⟩ => ⟨S1024x128, .bf16⟩
  | .hbm, ⟨4, _⟩ => ⟨S4096x128, .bf16⟩
  | .hbm, ⟨5, _⟩ => ⟨S1024x128, .bf16⟩
  | .local _ .vmem, ⟨0, _⟩ => ⟨S1024x1024, .f32⟩
  | .local _ .vmem, ⟨1, _⟩ => ⟨S1024x1024, .f32⟩
  | .local _ .vmem, ⟨2, _⟩ => ⟨S1024x128, .bf16⟩
  | .local _ .vmem, ⟨3, _⟩ => ⟨S1024x128, .bf16⟩
  | .local _ .vmem, ⟨4, _⟩ => ⟨S1x1024, .f32⟩
  | .local _ .vmem, ⟨5, _⟩ => ⟨S1x1024, .f32⟩
  | .local _ .vmem, ⟨6, _⟩ => ⟨S1024x128, .bf16⟩
  | .local _ .vmem, ⟨7, _⟩ => ⟨S1024x128, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32 : BitVec 32 := 3#32
  let v18 : BitVec 1 := Scalar.cmpi .eq arg2 c3_i32
  let v19 : BitVec 32 := Scalar.extui v18
  let c0_i32_11 : BitVec 32 := 0#32
  let v20 : BitVec 1 := Scalar.cmpi .ne v19 c0_i32_11
  v20

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false, false]

abbrev stage0_4 : Fin 1 → Memref sig .tc .vmem S1024x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true, false]
-- ==== ReferenceWindIdeal.lean ====
abbrev S4096x1024 : Shape := ⟨2, ![4096, 1024]⟩
abbrev S1x1024 : Shape := ⟨2, ![1, 1024]⟩
abbrev S1024x128 : Shape := ⟨2, ![1024, 128]⟩
abbrev S4096x128 : Shape := ⟨2, ![4096, 128]⟩
abbrev S_ : Shape := ⟨0, ![]⟩
abbrev S128x1024 : Shape := ⟨2, ![128, 1024]⟩

abbrev nBuf : Space → Nat
  | .hbm => 18
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1x1024, .f32⟩
  | .hbm, ⟨3, _⟩ => ⟨S1024x128, .bf16⟩
  | .hbm, ⟨4, _⟩ => ⟨S4096x128, .bf16⟩
  | .hbm, ⟨5, _⟩ => ⟨S1024x128, .f32⟩
  | .hbm, ⟨6, _⟩ => ⟨S_, .f32⟩
  | .hbm, ⟨7, _⟩ => ⟨S1x1024, .f32⟩
  | .hbm, ⟨8, _⟩ => ⟨S1x1024, .f32⟩
  | .hbm, ⟨9, _⟩ => ⟨S4096x1024, .f32⟩
  | .hbm, ⟨10, _⟩ => ⟨S4096x1024, .f32⟩
  | .hbm, ⟨11, _⟩ => ⟨S4096x1024, .f32⟩
  | .hbm, ⟨12, _⟩ => ⟨S4096x1024, .f32⟩
  | .hbm, ⟨13, _⟩ => ⟨S4096x128, .f32⟩
  | .hbm, ⟨14, _⟩ => ⟨S4096x128, .f32⟩
  | .hbm, ⟨15, _⟩ => ⟨S128x1024, .f32⟩
  | .hbm, ⟨16, _⟩ => ⟨S1024x128, .f32⟩
  | .hbm, ⟨17, _⟩ => ⟨S1024x128, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩

abbrev nD : Nat := 1
abbrev τ : Topo := Topo.v7x

variable {F : FTy → Type} [FloatOps F]
-- ==== KernelFin.lean ====
abbrev S4096x1024 : Shape := ⟨2, ![4096, 1024]⟩
abbrev S8x1024x512 : Shape := ⟨3, ![8, 1024, 512]⟩
abbrev S4096x4096 : Shape := ⟨2, ![4096, 4096]⟩
abbrev S512x1024 : Shape := ⟨2, ![512, 1024]⟩
abbrev S1x1024x512 : Shape := ⟨3, ![1, 1024, 512]⟩
abbrev S512x512 : Shape := ⟨2, ![512, 512]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S8x1024x512, .bf16⟩
  | .hbm, ⟨2, _⟩ => ⟨S4096x4096, .f32⟩
  | .local _ .vmem, ⟨0, _⟩ => ⟨S512x1024, .bf16⟩
  | .local _ .vmem, ⟨1, _⟩ => ⟨S512x1024, .bf16⟩
  | .local _ .vmem, ⟨2, _⟩ => ⟨S1x1024x512, .bf16⟩
  | .local _ .vmem, ⟨3, _⟩ => ⟨S1x1024x512, .bf16⟩
  | .local _ .vmem, ⟨4, _⟩ => ⟨S512x512, .f32⟩
  | .local _ .vmem, ⟨5, _⟩ => ⟨S512x512, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg2.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceFinIdeal.lean ====
abbrev S4096x1024 : Shape := ⟨2, ![4096, 1024]⟩
abbrev S8x1024x512 : Shape := ⟨3, ![8, 1024, 512]⟩
abbrev S1024x8x512 : Shape := ⟨3, ![1024, 8, 512]⟩
abbrev S1024x4096 : Shape := ⟨2, ![1024, 4096]⟩
abbrev S4096x4096 : Shape := ⟨2, ![4096, 4096]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S8x1024x512, .bf16⟩
  | .hbm, ⟨2, _⟩ => ⟨S4096x1024, .f32⟩
  | .hbm, ⟨3, _⟩ => ⟨S8x1024x512, .f32⟩
  | .hbm, ⟨4, _⟩ => ⟨S1024x8x512, .f32⟩
  | .hbm, ⟨5, _⟩ => ⟨S1024x4096, .f32⟩
  | .hbm, ⟨6, _⟩ => ⟨S4096x4096, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== KernelWfin.lean ====
abbrev S4096x1024 : Shape := ⟨2, ![4096, 1024]⟩
abbrev S8x1024x512 : Shape := ⟨3, ![8, 1024, 512]⟩
abbrev S4096x4096 : Shape := ⟨2, ![4096, 4096]⟩
abbrev S1024x1024 : Shape := ⟨2, ![1024, 1024]⟩
abbrev S1024x512 : Shape := ⟨2, ![1024, 512]⟩
abbrev S1x1024x512 : Shape := ⟨3, ![1, 1024, 512]⟩

abbrev nBuf : Space → Nat
  | .hbm => 4
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S8x1024x512, .bf16⟩
  | .hbm, ⟨2, _⟩ => ⟨S4096x4096, .bf16⟩
  | .hbm, ⟨3, _⟩ => ⟨S8x1024x512, .bf16⟩
  | .local _ .vmem, ⟨0, _⟩ => ⟨S1024x1024, .bf16⟩
  | .local _ .vmem, ⟨1, _⟩ => ⟨S1024x1024, .bf16⟩
  | .local _ .vmem, ⟨2, _⟩ => ⟨S1024x512, .bf16⟩
  | .local _ .vmem, ⟨3, _⟩ => ⟨S1024x512, .bf16⟩
  | .local _ .vmem, ⟨4, _⟩ => ⟨S1x1024x512, .bf16⟩
  | .local _ .vmem, ⟨5, _⟩ => ⟨S1x1024x512, .bf16⟩
  | .local _ .vmem, ⟨6, _⟩ => ⟨S1024x512, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 8, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceWfinIdeal.lean ====
abbrev S4096x1024 : Shape := ⟨2, ![4096, 1024]⟩
abbrev S8x1024x512 : Shape := ⟨3, ![8, 1024, 512]⟩
abbrev S4096x4096 : Shape := ⟨2, ![4096, 4096]⟩
abbrev S1024x8x512 : Shape := ⟨3, ![1024, 8, 512]⟩
abbrev S1024x4096 : Shape := ⟨2, ![1024, 4096]⟩

abbrev nBuf : Space → Nat
  | .hbm => 14
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S8x1024x512, .bf16⟩
  | .hbm, ⟨2, _⟩ => ⟨S4096x4096, .bf16⟩
  | .hbm, ⟨3, _⟩ => ⟨S8x1024x512, .f32⟩
  | .hbm, ⟨4, _⟩ => ⟨S4096x1024, .f32⟩
  | .hbm, ⟨5, _⟩ => ⟨S1024x8x512, .f32⟩
  | .hbm, ⟨6, _⟩ => ⟨S1024x4096, .f32⟩
  | .hbm, ⟨7, _⟩ => ⟨S4096x4096, .f32⟩
  | .hbm, ⟨8, _⟩ => ⟨S4096x4096, .f32⟩
  | .hbm, ⟨9, _⟩ => ⟨S4096x1024, .f32⟩
  | .hbm, ⟨10, _⟩ => ⟨S1024x4096, .f32⟩
  | .hbm, ⟨11, _⟩ => ⟨S1024x8x512, .f32⟩
  | .hbm, ⟨12, _⟩ => ⟨S8x1024x512, .f32⟩
  | .hbm, ⟨13, _⟩ => ⟨S8x1024x512, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩

abbrev nD : Nat := 1
abbrev τ : Topo := Topo.v7x

variable {F : FTy → Type} [FloatOps F]
-- ==== KernelDfin.lean ====
abbrev S4096x1024 : Shape := ⟨2, ![4096, 1024]⟩
abbrev S8x1024x512 : Shape := ⟨3, ![8, 1024, 512]⟩
abbrev S4096x4096 : Shape := ⟨2, ![4096, 4096]⟩
abbrev S256x512 : Shape := ⟨2, ![256, 512]⟩
abbrev S1x512x512 : Shape := ⟨3, ![1, 512, 512]⟩
abbrev S512x512 : Shape := ⟨2, ![512, 512]⟩

abbrev nBuf : Space → Nat
  | .hbm => 4
  | .vmem => 34
  | .smem => 0
  | _ => 0

abbrev bufTy : (tb : Table) → Fin (tcTables nBuf tb) → BufTy
  | .hbm, ⟨0, _⟩ => ⟨S4096x1024, .bf16⟩
  | .hbm, ⟨1, _⟩ => ⟨S8x1024x512, .bf16⟩
  | .hbm, ⟨2, _⟩ => ⟨S4096x4096, .bf16⟩
  | .hbm, ⟨3, _⟩ => ⟨S4096x1024, .f32⟩
  | .local _ .vmem, ⟨0, _⟩ => ⟨S256x512, .bf16⟩
  | .local _ .vmem, ⟨1, _⟩ => ⟨S256x512, .bf16⟩
  | .local _ .vmem, ⟨2, _⟩ => ⟨S256x512, .bf16⟩
  | .local _ .vmem, ⟨3, _⟩ => ⟨S256x512, .bf16⟩
  | .local _ .vmem, ⟨4, _⟩ => ⟨S256x512, .bf16⟩
  | .local _ .vmem, ⟨5, _⟩ => ⟨S256x512, .bf16⟩
  | .local _ .vmem, ⟨6, _⟩ => ⟨S256x512, .bf16⟩
  | .local _ .vmem, ⟨7, _⟩ => ⟨S256x512, .bf16⟩
  | .local _ .vmem, ⟨8, _⟩ => ⟨S256x512, .bf16⟩
  | .local _ .vmem, ⟨9, _⟩ => ⟨S256x512, .bf16⟩
  | .local _ .vmem, ⟨10, _⟩ => ⟨S256x512, .bf16⟩
  | .local _ .vmem, ⟨11, _⟩ => ⟨S256x512, .bf16⟩
  | .local _ .vmem, ⟨12, _⟩ => ⟨S256x512, .bf16⟩
  | .local _ .vmem, ⟨13, _⟩ => ⟨S256x512, .bf16⟩
  | .local _ .vmem, ⟨14, _⟩ => ⟨S256x512, .bf16⟩
  | .local _ .vmem, ⟨15, _⟩ => ⟨S256x512, .bf16⟩
  | .local _ .vmem, ⟨16, _⟩ => ⟨S1x512x512, .bf16⟩
  | .local _ .vmem, ⟨17, _⟩ => ⟨S1x512x512, .bf16⟩
  | .local _ .vmem, ⟨18, _⟩ => ⟨S1x512x512, .bf16⟩
  | .local _ .vmem, ⟨19, _⟩ => ⟨S1x512x512, .bf16⟩
  | .local _ .vmem, ⟨20, _⟩ => ⟨S1x512x512, .bf16⟩
  | .local _ .vmem, ⟨21, _⟩ => ⟨S1x512x512, .bf16⟩
  | .local _ .vmem, ⟨22, _⟩ => ⟨S1x512x512, .bf16⟩
  | .local _ .vmem, ⟨23, _⟩ => ⟨S1x512x512, .bf16⟩
  | .local _ .vmem, ⟨24, _⟩ => ⟨S1x512x512, .bf16⟩
  | .local _ .vmem, ⟨25, _⟩ => ⟨S1x512x512, .bf16⟩
  | .local _ .vmem, ⟨26, _⟩ => ⟨S1x512x512, .bf16⟩
  | .local _ .vmem, ⟨27, _⟩ => ⟨S1x512x512, .bf16⟩
  | .local _ .vmem, ⟨28, _⟩ => ⟨S1x512x512, .bf16⟩
  | .local _ .vmem, ⟨29, _⟩ => ⟨S1x512x512, .bf16⟩
  | .local _ .vmem, ⟨30, _⟩ => ⟨S1x512x512, .bf16⟩
  | .local _ .vmem, ⟨31, _⟩ => ⟨S1x512x512, .bf16⟩
  | .local _ .vmem, ⟨32, _⟩ => ⟨S256x512, .f32⟩
  | .local _ .vmem, ⟨33, _⟩ => ⟨S256x512, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_stg16_0 : Ref sig .tc := ⟨.vmem, 32, rfl⟩
abbrev cc0_stg16_1 : Ref sig .tc := ⟨.vmem, 33, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31
abbrev cc0_sem16_0 : DmaSem sig := 32
abbrev cc0_sem16_1 : DmaSem sig := 33

abbrev nD : Nat := 1
abbrev τ : Topo := Topo.v7x

variable {F : FTy → Type} [FloatOps F]

abbrev grid0 : Pipeline.Grid := ⟨2, ![16, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let c0_i32 : BitVec 32 := 0#32
  ![arg0.toNat, c2_i32.toNat]

def cc0_transform_3 (i : grid0.Coords) : Fin 2 → Nat :=
  let arg0 : BitVec 32 := BitVec.ofNat 32 (i 0).val
  let arg1 : BitVec 32 := BitVec.ofNat 32 (i 1).val
  let c3_i32 : BitVec 32 := 3#32
  let c0_i32 : BitVec 32 := 0#32
  ![arg0.toNat, c3_i32.toNat]

def cc0_transform_4 (i : grid0.Coords) : Fin 2 → Nat :=
  let arg0 : BitVec 32 := BitVec.ofNat 32 (i 0).val
  let arg1 : BitVec 32 := BitVec.ofNat 32 (i 1).val
  let c4_i32 : BitVec 32 := 4#32
  let c0_i32 : BitVec 32 := 0#32
  ![arg0.toNat, c4_i32.toNat]

def cc0_transform_5 (i : grid0.Coords) : Fin 2 → Nat :=
  let arg0 : BitVec 32 := BitVec.ofNat 32 (i 0).val
  let arg1 : BitVec 32 := BitVec.ofNat 32 (i 1).val
  let c5_i32 : BitVec 32 := 5#32
  let c0_i32 : BitVec 32 := 0#32
  ![arg0.toNat, c5_i32.toNat]

def cc0_transform_6 (i : grid0.Coords) : Fin 2 → Nat :=
  let arg0 : BitVec 32 := BitVec.ofNat 32 (i 0).val
  let arg1 : BitVec 32 := BitVec.ofNat 32 (i 1).val
  let c6_i32 : BitVec 32 := 6#32
  let c0_i32 : BitVec 32 := 0#32
  ![arg0.toNat, c6_i32.toNat]

def cc0_transform_7 (i : grid0.Coords) : Fin 2 → Nat :=
  let arg0 : BitVec 32 := BitVec.ofNat 32 (i 0).val
  let arg1 : BitVec 32 := BitVec.ofNat 32 (i 1).val
  let c7_i32 : BitVec 32 := 7#32
  let c0_i32 : BitVec 32 := 0#32
  ![arg0.toNat, c7_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_9 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  let c0_i32_0 : BitVec 32 := 0#32
  ![c2_i32.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  ![c3_i32.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c4_i32 : BitVec 32 := 4#32
  let c0_i32 : BitVec 32 := 0#32
  let c0_i32_0 : BitVec 32 := 0#32
  ![c4_i32.toNat, arg1.toNat, c0_i32.toNat]

def cc0_transform_13 (i : grid0.Coords) : Fin 3 → Nat :=
  let arg0 : BitVec 32 := BitVec.ofNat 32 (i 0).val
  let arg1 : BitVec 32 := BitVec.ofNat 32 (i 1).val
  let c5_i32 : BitVec 32 := 5#32
  let c0_i32 : BitVec 32 := 0#32
  let c0_i32_0 : BitVec 32 := 0#32
  ![c5_i32.toNat, arg1.toNat, c0_i32.toNat]

def cc0_transform_14 (i : grid0.Coords) : Fin 3 → Nat :=
  let arg0 : BitVec 32 := BitVec.ofNat 32 (i 0).val
  let arg1 : BitVec 32 := BitVec.ofNat 32 (i 1).val
  let c6_i32 : BitVec 32 := 6#32
  let c0_i32 : BitVec 32 := 0#32
  let c0_i32_0 : BitVec 32 := 0#32
  ![c6_i32.toNat, arg1.toNat, c0_i32.toNat]

def cc0_transform_15 (i : grid0.Coords) : Fin 3 → Nat :=
  let arg0 : BitVec 32 := BitVec.ofNat 32 (i 0).val
  let arg1 : BitVec 32 := BitVec.ofNat 32 (i 1).val
  let c7_i32 : BitVec 32 := 7#32
  let c0_i32 : BitVec 32 := 0#32
  let c0_i32_0 : BitVec 32 := 0#32
  ![c7_i32.toNat, arg1.toNat, c0_i32.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S256x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S256x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S1x512x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 2 → Memref sig .tc .vmem S1x512x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![false, true]

abbrev stage0_11 : Fin 2 → Memref sig .tc .vmem S1x512x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![false, true]

abbrev stage0_12 : Fin 2 → Memref sig .tc .vmem S1x512x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![false, true]

abbrev stage0_13 : Fin 2 → Memref sig .tc .vmem S1x512x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![false, true]

abbrev stage0_14 : Fin 2 → Memref sig .tc .vmem S1x512x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![false, true]

abbrev stage0_15 : Fin 2 → Memref sig .tc .vmem S1x512x512 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![false, true]

abbrev stage0_16 : Fin 2 → Memref sig .tc .vmem S256x512 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]
-- ==== ReferenceDfinIdeal.lean ====
abbrev S4096x1024 : Shape := ⟨2, ![4096, 1024]⟩
abbrev S8x1024x512 : Shape := ⟨3, ![8, 1024, 512]⟩
abbrev S4096x4096 : Shape := ⟨2, ![4096, 4096]⟩
abbrev S1024x8x512 : Shape := ⟨3, ![1024, 8, 512]⟩
abbrev S1024x4096 : Shape := ⟨2, ![1024, 4096]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S8x1024x512, .bf16⟩
  | .hbm, ⟨2, _⟩ => ⟨S4096x4096, .bf16⟩
  | .hbm, ⟨3, _⟩ => ⟨S4096x1024, .f32⟩
  | .hbm, ⟨4, _⟩ => ⟨S8x1024x512, .f32⟩
  | .hbm, ⟨5, _⟩ => ⟨S1024x8x512, .f32⟩
  | .hbm, ⟨6, _⟩ => ⟨S1024x4096, .f32⟩
  | .hbm, ⟨7, _⟩ => ⟨S4096x4096, .f32⟩
  | .hbm, ⟨8, _⟩ => ⟨S4096x4096, .f32⟩
  | .hbm, ⟨9, _⟩ => ⟨S4096x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== KernelDh.lean ====
abbrev S4096x1024 : Shape := ⟨2, ![4096, 1024]⟩
abbrev S1024x5760 : Shape := ⟨2, ![1024, 5760]⟩
abbrev S4096x5760 : Shape := ⟨2, ![4096, 5760]⟩
abbrev S4096x512 : Shape := ⟨2, ![4096, 512]⟩
abbrev S4096x128 : Shape := ⟨2, ![4096, 128]⟩
abbrev S256x1024 : Shape := ⟨2, ![256, 1024]⟩
abbrev S256x512 : Shape := ⟨2, ![256, 512]⟩
abbrev S256x128 : Shape := ⟨2, ![256, 128]⟩
abbrev S512x1024 : Shape := ⟨2, ![512, 1024]⟩
abbrev S512x512 : Shape := ⟨2, ![512, 512]⟩
abbrev S512x128 : Shape := ⟨2, ![512, 128]⟩

abbrev nBuf : Space → Nat
  | .hbm => 11
  | .vmem => 30
  | .smem => 0
  | _ => 0

abbrev bufTy : (tb : Table) → Fin (tcTables nBuf tb) → BufTy
  | .hbm, ⟨0, _⟩ => ⟨S4096x1024, .f32⟩
  | .hbm, ⟨1, _⟩ => ⟨S1024x5760, .bf16⟩
  | .hbm, ⟨2, _⟩ => ⟨S4096x5760, .bf16⟩
  | .hbm, ⟨3, _⟩ => ⟨S4096x1024, .bf16⟩
  | .hbm, ⟨4, _⟩ => ⟨S4096x1024, .bf16⟩
  | .hbm, ⟨5, _⟩ => ⟨S4096x1024, .bf16⟩
  | .hbm, ⟨6, _⟩ => ⟨S4096x1024, .bf16⟩
  | .hbm, ⟨7, _⟩ => ⟨S4096x1024, .bf16⟩
  | .hbm, ⟨8, _⟩ => ⟨S4096x512, .bf16⟩
  | .hbm, ⟨9, _⟩ => ⟨S4096x128, .bf16⟩
  | .hbm, ⟨10, _⟩ => ⟨S4096x1024, .f32⟩
  | .local _ .vmem, ⟨0, _⟩ => ⟨S256x1024, .bf16⟩
  | .local _ .vmem, ⟨1, _⟩ => ⟨S256x1024, .bf16⟩
  | .local _ .vmem, ⟨2, _⟩ => ⟨S256x1024, .bf16⟩
  | .local _ .vmem, ⟨3, _⟩ => ⟨S256x1024, .bf16⟩
  | .local _ .vmem, ⟨4, _⟩ => ⟨S256x1024, .bf16⟩
  | .local _ .vmem, ⟨5, _⟩ => ⟨S256x1024, .bf16⟩
  | .local _ .vmem, ⟨6, _⟩ => ⟨S256x1024, .bf16⟩
  | .local _ .vmem, ⟨7, _⟩ => ⟨S256x1024, .bf16⟩
  | .local _ .vmem, ⟨8, _⟩ => ⟨S256x1024, .bf16⟩
  | .local _ .vmem, ⟨9, _⟩ => ⟨S256x1024, .bf16⟩
  | .local _ .vmem, ⟨10, _⟩ => ⟨S256x512, .bf16⟩
  | .local _ .vmem, ⟨11, _⟩ => ⟨S256x512, .bf16⟩
  | .local _ .vmem, ⟨12, _⟩ => ⟨S256x128, .bf16⟩
  | .local _ .vmem, ⟨13, _⟩ => ⟨S256x128, .bf16⟩
  | .local _ .vmem, ⟨14, _⟩ => ⟨S512x1024, .bf16⟩
  | .local _ .vmem, ⟨15, _⟩ => ⟨S512x1024, .bf16⟩
  | .local _ .vmem, ⟨16, _⟩ => ⟨S512x1024, .bf16⟩
  | .local _ .vmem, ⟨17, _⟩ => ⟨S512x1024, .bf16⟩
  | .local _ .vmem, ⟨18, _⟩ => ⟨S512x1024, .bf16⟩
  | .local _ .vmem, ⟨19, _⟩ => ⟨S512x1024, .bf16⟩
  | .local _ .vmem, ⟨20, _⟩ => ⟨S512x1024, .bf16⟩
  | .local _ .vmem, ⟨21, _⟩ => ⟨S512x1024, .bf16⟩
  | .local _ .vmem, ⟨22, _⟩ => ⟨S512x1024, .bf16⟩
  | .local _ .vmem, ⟨23, _⟩ => ⟨S512x1024, .bf16⟩
  | .local _ .vmem, ⟨24, _⟩ => ⟨S512x512, .bf16⟩
  | .local _ .vmem, ⟨25, _⟩ => ⟨S512x512, .bf16⟩
  | .local _ .vmem, ⟨26, _⟩ => ⟨S512x128, .bf16⟩
  | .local _ .vmem, ⟨27, _⟩ => ⟨S512x128, .bf16⟩
  | .local _ .vmem, ⟨28, _⟩ => ⟨S256x512, .f32⟩
  | .local _ .vmem, ⟨29, _⟩ => ⟨S256x512, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29

abbrev nD : Nat := 1
abbrev τ : Topo := Topo.v7x

variable {F : FTy → Type} [FloatOps F]

abbrev grid0 : Pipeline.Grid := ⟨2, ![16, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_8 (i : grid0.Coords) : Fin 2 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg1.toNat, c1_i32.toNat]

def cc0_transform_9 (i : grid0.Coords) : Fin 2 → Nat :=
  let arg0 : BitVec 32 := BitVec.ofNat 32 (i 0).val
  let arg1 : BitVec 32 := BitVec.ofNat 32 (i 1).val
  let c2_i32 : BitVec 32 := 2#32
  let c0_i32 : BitVec 32 := 0#32
  ![arg1.toNat, c2_i32.toNat]

def cc0_transform_10 (i : grid0.Coords) : Fin 2 → Nat :=
  let arg0 : BitVec 32 := BitVec.ofNat 32 (i 0).val
  let arg1 : BitVec 32 := BitVec.ofNat 32 (i 1).val
  let c3_i32 : BitVec 32 := 3#32
  let c0_i32 : BitVec 32 := 0#32
  ![arg1.toNat, c3_i32.toNat]

def cc0_transform_11 (i : grid0.Coords) : Fin 2 → Nat :=
  let arg0 : BitVec 32 := BitVec.ofNat 32 (i 0).val
  let arg1 : BitVec 32 := BitVec.ofNat 32 (i 1).val
  let c4_i32 : BitVec 32 := 4#32
  let c0_i32 : BitVec 32 := 0#32
  ![arg1.toNat, c4_i32.toNat]

def cc0_transform_12 (i : grid0.Coords) : Fin 2 → Nat :=
  let arg0 : BitVec 32 := BitVec.ofNat 32 (i 0).val
  let arg1 : BitVec 32 := BitVec.ofNat 32 (i 1).val
  let c10_i32 : BitVec 32 := 10#32
  let c0_i32 : BitVec 32 := 0#32
  ![arg1.toNat, c10_i32.toNat]

def cc0_transform_13 (i : grid0.Coords) : Fin 2 → Nat :=
  let arg0 : BitVec 32 := BitVec.ofNat 32 (i 0).val
  let arg1 : BitVec 32 := BitVec.ofNat 32 (i 1).val
  let c44_i32 : BitVec 32 := 44#32
  let c0_i32 : BitVec 32 := 0#32
  ![arg1.toNat, c44_i32.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S256x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![false, true]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![false, true]

abbrev stage0_12 : Fin 2 → Memref sig .tc .vmem S512x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![false, true]

abbrev stage0_13 : Fin 2 → Memref sig .tc .vmem S512x128 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![false, true]

abbrev stage0_14 : Fin 2 → Memref sig .tc .vmem S256x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]
-- ==== ReferenceDhIdeal.lean ====
abbrev S4096x1024 : Shape := ⟨2, ![4096, 1024]⟩
abbrev S1024x5760 : Shape := ⟨2, ![1024, 5760]⟩
abbrev S4096x5760 : Shape := ⟨2, ![4096, 5760]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x5760, .bf16⟩
  | .hbm, ⟨2, _⟩ => ⟨S4096x5760, .bf16⟩
  | .hbm, ⟨3, _⟩ => ⟨S1024x5760, .f32⟩
  | .hbm, ⟨4, _⟩ => ⟨S4096x5760, .f32⟩
  | .hbm, ⟨5, _⟩ => ⟨S4096x5760, .f32⟩
  | .hbm, ⟨6, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Proof.In.lean ====
/- The gradient of the step's input: the value of `_input_grad` against the derivative of the residual scale and the
   modulation. Each row block is an elementwise expression; the two modulation gradients are column sums that the grid
   adds up, 256 rows at a point. -/
module

public import proofs.«01_k».proof.Defs
public import proofs.«01_k».proof.Proof.Gen.KernelInIdeal.Value
public import proofs.«01_k».proof.Proof.Gen.ReferenceInIdeal.Read
public import Idealize.ShloMosaic.Lib.Pipeline.ValueKit
public import Idealize.ShloMosaic.Lib.Claim
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.KernelInIdeal.Whole

open Cert.KernelInIdeal Cert.KernelInIdeal.Gen
open Cert.ReferenceInIdeal.Read (val_main_v18 val_main_v17 val_main_v16 val_main_v15 val_main_v14 val_main_v13
  val_main_v12 val_main_v11 val_main_v10 val_main_v9 val_main_v8 val_main_v3 val_main_v2 val_main_cst_0 val_main_cst_1
  val_main_cst_2 val_main_cst_3)

variable (m : (ℓ : Loc nD τ sig) → Buf (Elt Ideal) ℓ)

/-- Where each window's block sits: row block `t` of the big arrays, the one row of the small ones. -/
theorem idx : ∀ t : Fin cfg0.N, win0_0.index t = ![t.val, 0] ∧ win0_1.index t = ![t.val, 0]
    ∧ win0_2.index t = ![t.val, 0] ∧ win0_3.index t = ![0, 0] ∧ win0_4.index t = ![t.val, 0]
    ∧ win0_5.index t = ![0, 0] ∧ win0_6.index t = ![0, 0] :=
  (by decide +kernel : ∀ t : Fin grid0.N, _)

/-- The zero row the two accumulators start from. -/
theorem zero1 (j : S1x1024.Idx) : k0_pay1 (F := Ideal) j = 0 := by pointwise [k0_pay1]
theorem zero2 (j : S1x1024.Idx) : k0_pay2 (F := Ideal) j = 0 := by pointwise [k0_pay2]

/-- One point adds its rows' products to the gradient of the scale. -/
theorem pay4 (x0 x2 : FVec Ideal S256x1024 .f32) (acc : FVec Ideal S1x1024 .f32) (j : S1x1024.Idx) :
    k0_pay4 x0 x2 acc j = acc j + ∑ k : Fin 256, x2 (ix2 k (j 1)) * x0 (ix2 k (j 1)) := by
  pointwise [k0_pay4]
  exact congrArg _ (Finset.sum_congr rfl fun k _ => mul_comm _ _)

/-- One point adds its rows to the gradient of the shift. -/
theorem pay5 (x0 : FVec Ideal S256x1024 .f32) (acc : FVec Ideal S1x1024 .f32) (j : S1x1024.Idx) :
    k0_pay5 x0 acc j = acc j + ∑ k : Fin 256, x0 (ix2 k (j 1)) := by
  pointwise [k0_pay5]

/-- The row block a point stores is the reference's gradient there. -/
theorem point (c : Dev nD) (t : Fin cfg0.N) (y) : k0_pay3 (iblk m c 0 t) (iblk m c 1 t) (iblk m c 3 t) y
    = val_main_v18 (F := Ideal) (m ((c : Thread nD τ).loc main_arg1)) (m ((c : Thread nD τ).loc main_arg3))
        (m ((c : Thread nD τ).loc main_arg4)) (((cfg0.win 4).blk t).view.emb y) := by
  pointwise [k0_pay3, val_main_v18, val_main_v17, val_main_v16, val_main_v15, val_main_v14, val_main_v8, val_main_v3,
    val_main_v2, val_main_cst_0, val_main_cst_3]
  rw [add_comm]
  blk_point [iblk, V, idx t]

theorem final4 (c : Dev nD) : (dats m 0 c).arrAt 4 cfg0.N
    = val_main_v18 (F := Ideal) (m ((c : Thread nD τ).loc main_arg1)) (m ((c : Thread nD τ).loc main_arg3))
        (m ((c : Thread nD τ).loc main_arg4)) := by
  refine (dats m 0 c).arrAt_eq_of_covers 4 _ (by decide +kernel) fun t _ y => ?_
  blk_simp
  rw [after0_4]
  by_cases h : t.val % 16 = 0
  · rw [outsAt0_A m c t h]; frame_out
    exact point m c t y
  · rw [outsAt0_B m c t h]; frame_out
    exact point m c t y

theorem final5 (c : Dev nD) : (dats m 0 c).arrAt 5 cfg0.N
    = val_main_v13 (F := Ideal) (m ((c : Thread nD τ).loc main_arg0)) (m ((c : Thread nD τ).loc main_arg4)) := by
  refine (dats m 0 c).arrAt_eq_of_after_last 5 t0_15 (by decide +kernel) _ fun j => ?_
  blk_simp
  rw [after0_5, Pipeline.eq_sum_fin_of_reset_step_apply_last (fun n h => (outsAt0 m c n h).2.1) 16 (fun _ => 0) _
    (fun t h j => by rw [outsAt0_A m c t h]; frame_out; rw [pay4, zero1])
    (fun t h j => by rw [outsAt0_B m c t h]; frame_out; rw [pay4])
    (le_of_eq N_0) t0_15 rfl j, zero_add]
  pointwise [val_main_v13, val_main_v12, val_main_v11, val_main_v8, val_main_cst_2]
  refine Fin.sum_mul_add_congr fun t k hl => ?_
  blk_point [iblk, V, idx t]

theorem final6 (c : Dev nD) : (dats m 0 c).arrAt 6 cfg0.N
    = val_main_v10 (F := Ideal) (m ((c : Thread nD τ).loc main_arg4)) := by
  refine (dats m 0 c).arrAt_eq_of_after_last 6 t0_15 (by decide +kernel) _ fun j => ?_
  blk_simp
  rw [after0_6, Pipeline.eq_sum_fin_of_reset_step_apply_last (fun n h => (outsAt0 m c n h).2.2) 16 (fun _ => 0) _
    (fun t h j => by rw [outsAt0_A m c t h]; frame_out; rw [pay5, zero2])
    (fun t h j => by rw [outsAt0_B m c t h]; frame_out; rw [pay5])
    (le_of_eq N_0) t0_15 rfl j, zero_add]
  pointwise [val_main_v10, val_main_v9, val_main_cst_1]
  refine Fin.sum_mul_add_congr fun t k hl => ?_
  blk_point [iblk, V, idx t]

end Cert.KernelInIdeal.Whole

namespace Cert.Proof.InClaims

open Cert.KernelInIdeal.Whole Cert.ReferenceInIdeal.Read

/-- Over the reals the three results are the derivative's. -/
theorem algebraic : Cert.algebraic_KernelInIdeal_ReferenceInIdeal := by
  intro m g m' g' _ hagree
  refine ⟨fun c => val_main_v18 (F := Ideal) (m (c.tc.loc Cert.KernelInIdeal.main_arg1))
      (m (c.tc.loc Cert.KernelInIdeal.main_arg3)) (m (c.tc.loc Cert.KernelInIdeal.main_arg4)),
    fun c => val_main_v13 (F := Ideal) (m (c.tc.loc Cert.KernelInIdeal.main_arg0))
      (m (c.tc.loc Cert.KernelInIdeal.main_arg4)),
    fun c => val_main_v10 (F := Ideal) (m (c.tc.loc Cert.KernelInIdeal.main_arg4)), ?_, ?_⟩
  · refine (θ_run _ _ _).mono (fun r h c => ?_) (Cert.KernelInIdeal.Value.run_blocks m g)
    obtain ⟨h0, h1, h2, hr⟩ := h c
    exact ⟨h0.trans (final4 m c), h1.trans (final5 m c), h2.trans (final6 m c), hr⟩
  · refine (θ_run _ _ _).mono (fun r h c => ?_) (Cert.ReferenceInIdeal.Value.run m' g')
    obtain ⟨h0, h1, h2, hr⟩ := h c
    obtain ⟨e0, e1, -, e3, e4⟩ := hagree c
    exact ⟨(h0.trans (val_main_v18_eq _ _ _)).trans (by rw [e1, e3, e4]),
      (h1.trans (val_main_v13_eq _ _)).trans (by rw [e0, e4]), (h2.trans (val_main_v10_eq _)).trans (by rw [e4]), hr⟩

end Cert.Proof.InClaims

end
-- ==== Proof.Rows.lean ====
/- One row of a norm over the extended reals: the derivative of the RMS norm as the kernel writes it and as the
   derivative of the forward lines has it, at any row, and the gate's derivative. -/
module

public import Idealize.ShloMosaic.Lib.IdealHost
public import Idealize.ShloMosaic.PureOps.Ideal.Laws

@[expose] public section

noncomputable section

open Idealize.ShloMosaic

namespace Cert.Rows

/-- The constants of the programs as reals: the row's length, the norm's ε, minus a half. -/
theorem w1024 : Ideal.ofBits .f32 0x44800000#32 = ((1024 : ℝ) : EReal) := by
  simp [Ideal.ofBits, Ideal.ieee, -EReal.coe_mul]; norm_num

theorem weps : ∃ e : ℝ, 0 < e ∧ Ideal.ofBits .f32 0x3727C5AC#32 = (e : EReal) := by
  refine ⟨_, ?_, by simp [Ideal.ofBits, Ideal.ieee, -EReal.coe_mul]; rfl⟩
  norm_num

theorem wmhalf : Ideal.ofBits .f32 0xBF000000#32 = ((-(1 / 2) : ℝ) : EReal) := by
  simp [Ideal.ofBits, Ideal.ieee, -EReal.coe_mul, -EReal.coe_neg]; norm_num

/-- A sum of reals is the real sum. -/
theorem coe_sum {n : ℕ} (f : Fin n → ℝ) : ∑ k, (f k : EReal) = ((∑ k, f k : ℝ) : EReal) := by
  induction n with
  | zero => simp
  | succ n ih => rw [Fin.sum_univ_succ, Fin.sum_univ_succ, ih, EReal.coe_add]

/-- A nonnegative real factor leaves a sum. -/
theorem mul_sum {n : ℕ} (r : ℝ) (hr : 0 ≤ r) (f : Fin n → EReal) : ∑ k, (r : EReal) * f k = (r : EReal) * ∑ k, f k := by
  induction n with
  | zero => simp
  | succ n ih =>
    rw [Fin.sum_univ_succ, Fin.sum_univ_succ, ih,
      EReal.left_distrib_of_nonneg_of_ne_top (EReal.coe_nonneg.2 hr) (EReal.coe_ne_top r)]

/-- A finite number is a real. -/
theorem real_of {x : EReal} (h1 : x ≠ ⊤) (h2 : x ≠ ⊥) : ∃ r : ℝ, x = r := ⟨x.toReal, (EReal.coe_toReal h1 h2).symm⟩

theorem sq_nonneg (x : EReal) : 0 ≤ x * x := by
  induction x with
  | bot => simp
  | top => simp
  | coe r => rw [← EReal.coe_mul]; exact EReal.coe_nonneg.2 (mul_self_nonneg r)

/-- A sum of squares is `⊤`, or every member is a real. -/
theorem sq_cases {n : ℕ} (x : Fin n → EReal) : (∑ k, x k * x k) = ⊤ ∨ ∃ X : Fin n → ℝ, ∀ k, x k = X k := by
  by_cases h : ∃ k, x k = ⊤ ∨ x k = ⊥
  · left
    obtain ⟨k, hk⟩ := h
    have e : x k * x k = ⊤ := by rcases hk with hk | hk <;> rw [hk] <;> rfl
    exact top_le_iff.1 (e ▸ Finset.single_le_sum (f := fun k => x k * x k) (fun i _ => sq_nonneg _) (Finset.mem_univ k))
  · right
    push Not at h
    choose X hX using fun k => real_of (h k).1 (h k).2
    exact ⟨X, hX⟩

/-- The mean of the squares plus ε. -/
def var (x : Fin 1024 → EReal) : EReal :=
  Ideal.div (∑ k, x k * x k) (Ideal.ofBits .f32 0x44800000#32) + Ideal.ofBits .f32 0x3727C5AC#32

/-- It is `⊤`, or a positive real over a row of reals. -/
theorem var_cases (x : Fin 1024 → EReal) :
    var x = ⊤ ∨ ∃ (X : Fin 1024 → ℝ) (v : ℝ), (∀ k, x k = X k) ∧ 0 < v ∧ var x = v := by
  obtain ⟨e, he, hE⟩ := weps
  have d : ∀ s : EReal, Ideal.div s ((1024 : ℝ) : EReal) = s * ((1 / 1024 : ℝ) : EReal) := Ideal.div_coe (by norm_num)
  unfold var
  rw [w1024, hE, d]
  rcases sq_cases x with h | ⟨X, hX⟩
  · left
    rw [h, EReal.top_mul_coe_of_pos (by norm_num), EReal.top_add_coe]
  · right
    refine ⟨X, (∑ k, X k * X k) * (1 / 1024) + e, hX, ?_, ?_⟩
    · have : 0 ≤ ∑ k, X k * X k := Finset.sum_nonneg fun k _ => mul_self_nonneg _
      positivity
    · simp only [hX, ← EReal.coe_mul, coe_sum, ← EReal.coe_add]

theorem rsqrt_pos {v : ℝ} (h : 0 < v) : Ideal.rsqrt (v : EReal) = (((Real.sqrt v)⁻¹ : ℝ) : EReal) := by
  rw [Ideal.rsqrt_coe, if_neg (not_lt.2 h.le), if_neg h.ne']

/-- The RMS norm's derivative at an entry, as the kernel writes it. -/
def rmsK (a x : Fin 1024 → EReal) (e : Fin 1024) : EReal :=
  Ideal.rsqrt (var x) * (a e - x e * Ideal.rsqrt (var x) *
    Ideal.div (∑ k, a k * (x k * Ideal.rsqrt (var x))) (Ideal.ofBits .f32 0x44800000#32))

/-- The factor of the row that the mean of the squares passes back. -/
def rmsS (a x : Fin 1024 → EReal) : EReal :=
  Ideal.div ((∑ k, x k * a k) * (Ideal.ofBits .f32 0xBF000000#32 * Ideal.div (Ideal.rsqrt (var x)) (var x)))
    (Ideal.ofBits .f32 0x44800000#32)

/-- The RMS norm's derivative at an entry, as the derivative of the forward lines has it. -/
def rmsR (a x : Fin 1024 → EReal) (e : Fin 1024) : EReal :=
  a e * Ideal.rsqrt (var x) + x e * rmsS a x + rmsS a x * x e

theorem rms_top {a x : Fin 1024 → EReal} (h : var x = ⊤) (e : Fin 1024) : rmsK a x e = 0 := by
  rw [rmsK, h, Ideal.rsqrt_top, zero_mul]

/-- The two are equal at every row. -/
theorem rms_eq (a x : Fin 1024 → EReal) (e : Fin 1024) : rmsK a x e = rmsR a x e := by
  rcases var_cases x with h | ⟨X, v, hX, hv, h⟩
  · rw [rms_top h, rmsR, rmsS, h, Ideal.rsqrt_top]
    have z : Ideal.div (0 : EReal) ⊤ = 0 := by rw [Ideal.div, if_neg (by simp), zero_mul]
    have d : Ideal.div (0 : EReal) ((1024 : ℝ) : EReal) = 0 := by rw [Ideal.div_coe (by norm_num), zero_mul]
    rw [z, mul_zero, mul_zero, mul_zero, w1024, d, mul_zero, zero_mul, add_zero, add_zero]
  · have hs : 0 < Real.sqrt v := Real.sqrt_pos.2 hv
    have d : ∀ s : EReal, Ideal.div s ((1024 : ℝ) : EReal) = s * ((1 / 1024 : ℝ) : EReal) := Ideal.div_coe (by norm_num)
    rw [rmsK, rmsR, rmsS, h, rsqrt_pos hv, w1024, wmhalf, d, d, Ideal.div_coe hv.ne']
    generalize hr : (Real.sqrt v)⁻¹ = r
    have hr0 : 0 < r := hr ▸ inv_pos.2 hs
    have hrr : r * r = 1 / v := by rw [← hr, ← mul_inv, Real.mul_self_sqrt hv.le, one_div]
    have e1 : ∑ k, a k * (x k * (r : EReal)) = (r : EReal) * ∑ k, x k * a k := by
      rw [← mul_sum r hr0.le]
      exact Finset.sum_congr rfl fun k _ => by rw [← mul_assoc, mul_comm, mul_comm (a k)]
    rw [e1]
    generalize ∑ k, x k * a k = T
    have q : (0 : ℝ) ≤ 1 / 2 * r * (1 / v) * (1 / 1024) := by positivity
    have e2 : T * (((-(1 / 2) : ℝ) : EReal) * ((r : EReal) * ((1 / v : ℝ) : EReal))) * ((1 / 1024 : ℝ) : EReal)
        = -T * ((1 / 2 * r * (1 / v) * (1 / 1024) : ℝ) : EReal) := by
      rw [← EReal.coe_mul, ← EReal.coe_mul, mul_assoc, ← EReal.coe_mul]
      rw [show -T = T * ((-1 : ℝ) : EReal) by rw [EReal.coe_neg, mul_neg, EReal.coe_one, mul_one], mul_assoc T ((-1 : ℝ) : EReal), ← EReal.coe_mul]
      exact congrArg (fun z : ℝ => T * (z : EReal)) (by ring)
    rw [e2, sub_eq_add_neg, EReal.left_distrib_of_nonneg_of_ne_top (EReal.coe_nonneg.2 hr0.le) (EReal.coe_ne_top r),
      add_assoc, mul_comm (r : EReal) (a e)]
    refine congrArg (a e * (r : EReal) + ·) ?_
    have e4 : x e * (-T * ((1 / 2 * r * (1 / v) * (1 / 1024) : ℝ) : EReal))
        = ((1 / 2 * r * (1 / v) * (1 / 1024) : ℝ) : EReal) * -(x e * T) := by
      rw [← mul_neg, ← mul_assoc, mul_comm]
    rw [mul_comm (-T * _) (x e), e4, ← EReal.right_distrib_of_nonneg (EReal.coe_nonneg.2 q) (EReal.coe_nonneg.2 q),
      ← EReal.coe_add, mul_neg, mul_neg, neg_inj]
    have e3 : x e * (r : EReal) * ((r : EReal) * T * ((1 / 1024 : ℝ) : EReal))
        = ((r * r * (1 / 1024) : ℝ) : EReal) * (x e * T) := by
      rw [EReal.coe_mul, EReal.coe_mul]
      simp only [mul_assoc, mul_comm, mul_left_comm]
    rw [e3, ← mul_assoc, ← EReal.coe_mul]
    refine congrArg (fun z : ℝ => (z : EReal) * (x e * T)) ?_
    rw [hrr]; ring

/-- Over a real row of the cotangent the RMS norm's derivative is a real wherever the row's variance is one. -/
theorem rms_real {a x : Fin 1024 → EReal} {X : Fin 1024 → ℝ} {v : ℝ} (hX : ∀ k, x k = X k) (hv : 0 < v) (h : var x = v)
    {A : Fin 1024 → ℝ} (hA : ∀ k, a k = A k) (e : Fin 1024) : ∃ r : ℝ, rmsK a x e = r := by
  rw [rmsK, h, rsqrt_pos hv, w1024, Ideal.div_coe (by norm_num)]
  simp only [hX, hA, ← EReal.coe_mul, coe_sum, ← EReal.coe_sub]
  exact ⟨_, rfl⟩

/-- The gate's derivative: the product form against the two terms of the product rule. -/
theorem gate_real (c z : EReal) (h : (∃ r : ℝ, c = r) ∨ z = 0 ∨ z = ⊥) :
    c * (Ideal.logistic z * (1 + z * (1 - Ideal.logistic z)))
      = z * c * (Ideal.logistic z * (1 - Ideal.logistic z)) + c * Ideal.logistic z := by
  have one : (1 : EReal) - 1 = 0 := by rw [← EReal.coe_one, ← EReal.coe_sub, sub_self, EReal.coe_zero]
  induction z with
  | bot => rw [Ideal.logistic_bot]; simp
  | top => rw [Ideal.logistic_top, one, mul_zero, add_zero, mul_one, mul_one, mul_zero, mul_zero, zero_add]
  | coe z =>
    rcases h with ⟨r, rfl⟩ | h | h
    · rw [Ideal.logistic_coe, ← EReal.coe_one]
      simp only [← EReal.coe_mul, ← EReal.coe_sub, ← EReal.coe_add]
      exact congrArg _ (by ring)
    · rw [h]; simp
    · exact absurd h (EReal.coe_ne_bot z)

theorem logistic_pos (z : ℝ) : ∃ s : ℝ, 0 < s ∧ Ideal.logistic (z : EReal) = s :=
  ⟨_, inv_pos.2 (by positivity), Ideal.logistic_coe z⟩

/-- The gradient at the gate of the gated RMS norm, at any row whose cotangent is real. -/
theorem gate_row (a y z : Fin 1024 → EReal) (ha : ∀ k, ∃ r : ℝ, a k = r) (e : Fin 1024) :
    rmsK a (fun k => y k * (z k * Ideal.logistic (z k))) e * y e * (Ideal.logistic (z e) * (1 + z e * (1 - Ideal.logistic (z e))))
      = z e * (rmsK a (fun k => y k * (z k * Ideal.logistic (z k))) e * y e) * (Ideal.logistic (z e) * (1 - Ideal.logistic (z e)))
        + rmsK a (fun k => y k * (z k * Ideal.logistic (z k))) e * y e * Ideal.logistic (z e) := by
  choose A hA using ha
  rcases var_cases fun k => y k * (z k * Ideal.logistic (z k)) with h | ⟨X, v, hX, hv, h⟩
  · rw [rms_top h]; simp
  · obtain ⟨r, hr⟩ := rms_real (x := fun k => y k * (z k * Ideal.logistic (z k))) hX hv h hA e
    rw [hr]
    refine gate_real _ _ ?_
    have hx := hX e
    by_cases hy : ∃ w : ℝ, y e = w
    · obtain ⟨w, hw⟩ := hy
      exact .inl ⟨r * w, by rw [hw, EReal.coe_mul]⟩
    · right
      have hy' : y e = ⊤ ∨ y e = ⊥ := by
        by_contra hh
        push Not at hh
        exact hy (real_of hh.1 hh.2)
      have top (q : ℝ) : (⊤ : EReal) ≠ q := (EReal.coe_ne_top q).symm
      have bot (q : ℝ) : (⊥ : EReal) ≠ q := (EReal.coe_ne_bot q).symm
      generalize z e = w at hx ⊢
      induction w with
      | bot => exact .inr rfl
      | top =>
        rw [Ideal.logistic_top, mul_one] at hx
        rcases hy' with hy' | hy' <;> rw [hy'] at hx
        · exact absurd hx (top _)
        · exact absurd hx (bot _)
      | coe w =>
        obtain ⟨s, hs, e⟩ := logistic_pos w
        rw [e, ← EReal.coe_mul] at hx
        rcases lt_trichotomy w 0 with hw | hw | hw
        · have : w * s < 0 := mul_neg_of_neg_of_pos hw hs
          rcases hy' with hy' | hy' <;> rw [hy'] at hx
          · rw [EReal.top_mul_coe_of_neg this] at hx; exact absurd hx (bot _)
          · rw [EReal.bot_mul_coe_of_neg this] at hx; exact absurd hx (top _)
        · left; rw [hw]; rfl
        · have : 0 < w * s := mul_pos hw hs
          rcases hy' with hy' | hy' <;> rw [hy'] at hx
          · rw [EReal.top_mul_coe_of_pos this] at hx; exact absurd hx (top _)
          · rw [EReal.bot_mul_coe_of_pos this] at hx; exact absurd hx (bot _)

/-- An argument that the precondition keeps finite is a real. -/
theorem finite_of {x : EReal} (h : Ideal.cmp .olt (max x (-x)) (Ideal.ofBits .f32 0x7F800000#32) = 1#1) : ∃ r : ℝ, x = r := by
  have top : Ideal.ofBits .f32 0x7F800000#32 = ⊤ := by simp [Ideal.ofBits, Ideal.ieee]
  rw [top] at h
  induction x with
  | coe r => exact ⟨r, rfl⟩
  | _ => exact absurd h (by simp [Ideal.cmp])

end Cert.Rows
end
-- ==== Proof.Mix.lean ====
/- The gated RMS norm of the state-space heads and the RMS norm of the attention heads, backward: the value of
   `_mix_norm_bwd` against the derivative of the two norms. Rows are those of Rows.lean; the two weight gradients are
   column sums that the grid adds up, 256 rows at a point. -/
module

public import proofs.«01_k».proof.Defs
public import proofs.«01_k».proof.Proof.Gen.KernelMixIdeal.Value
public import proofs.«01_k».proof.Proof.Gen.ReferenceMixIdeal.Read
public import proofs.«01_k».proof.Proof.Rows
public import Idealize.ShloMosaic.Lib.Pipeline.ValueKit
public import Idealize.ShloMosaic.Lib.Claim
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.KernelMixIdeal.Whole

open Cert.KernelMixIdeal Cert.KernelMixIdeal.Gen Cert.Rows

/-- The columns of the cotangent that belong to the first and to the second half. -/
def _root_.Cert.Rows.lo (k : Fin 1024) : Fin 2048 := ⟨k.val, by omega⟩
def _root_.Cert.Rows.hi (k : Fin 1024) : Fin 2048 := ⟨1024 + k.val, by omega⟩

/-- The gate's activation. -/
theorem silu_at (z : Vec Ideal S256x1024 .f32) (r : Fin 256) (e : Fin 1024) :
    k0_pay9 (F := Ideal) z (ix2 r e) = z (ix2 r e) * Ideal.logistic (z (ix2 r e)) := by
  pointwise [k0_pay9, k0_pay6]
  rw [zero_sub, Ideal.logistic]

theorem gated_at (y z : Vec Ideal S256x1024 .f32) (r : Fin 256) (e : Fin 1024) :
    k0_pay10 (F := Ideal) y z (ix2 r e) = y (ix2 r e) * (z (ix2 r e) * Ideal.logistic (z (ix2 r e))) := by
  rw [← silu_at]
  pointwise [k0_pay10]

theorem root_at (y z : Vec Ideal S256x1024 .f32) (r : Fin 256) (u : Fin 1) :
    k0_pay11 (F := Ideal) y z (ix2 r u) = Ideal.rsqrt (var fun k => k0_pay10 (F := Ideal) y z (ix2 r k)) := by
  pointwise [k0_pay11]
  rfl

theorem normed_at (y z : Vec Ideal S256x1024 .f32) (r : Fin 256) (e : Fin 1024) :
    k0_pay13 (F := Ideal) y z (ix2 r e) = k0_pay10 (F := Ideal) y z (ix2 r e) * k0_pay11 (F := Ideal) y z (ix2 r 0) := by
  pointwise [k0_pay13]

/-- The gradient at the gated rows. -/
theorem dg_at (d : Vec Ideal S256x2048 .f32) (y z : Vec Ideal S256x1024 .f32) (w : Vec Ideal S1x1024 .f32) (r : Fin 256) (e : Fin 1024) :
    k0_pay14 (F := Ideal) w (k0_pay11 y z) (k0_pay12 d) (k0_pay13 y z) (ix2 r e)
      = rmsK (fun k => d (ix2 r (lo k)) * w (ix2 0 k)) (fun k => k0_pay10 (F := Ideal) y z (ix2 r k)) e := by
  pointwise [k0_pay14, k0_pay12]
  simp only [normed_at, root_at]
  rfl

theorem root2_at (x : Vec Ideal S256x1024 .f32) (r : Fin 256) (u : Fin 1) :
    k0_pay16 (F := Ideal) x (ix2 r u) = Ideal.rsqrt (var fun k => x (ix2 r k)) := by
  pointwise [k0_pay16]
  rfl

/-- The gradient at the attention rows. -/
theorem datt_at (d : Vec Ideal S256x2048 .f32) (x : Vec Ideal S256x1024 .f32) (w : Vec Ideal S1x1024 .f32) (r : Fin 256) (e : Fin 1024) :
    k0_pay19 (F := Ideal) d x w (ix2 r e)
      = rmsK (fun k => d (ix2 r (hi k)) * w (ix2 0 k)) (fun k => x (ix2 r k)) e := by
  pointwise [k0_pay19, k0_pay17, k0_pay18]
  simp only [root2_at]
  rfl

/-- The zero rows the two accumulators start from, and what one point adds to them. -/
theorem zero4 (j : S1x1024.Idx) : k0_pay4 (F := Ideal) j = 0 := by pointwise [k0_pay4]
theorem zero5 (j : S1x1024.Idx) : k0_pay5 (F := Ideal) j = 0 := by pointwise [k0_pay5]

theorem add9 (d : Vec Ideal S256x2048 .f32) (y z : Vec Ideal S256x1024 .f32) (acc : Vec Ideal S1x1024 .f32) (e : Fin 1024) :
    k0_pay1 (F := Ideal) (k0_pay7 acc) (k0_pay15 (k0_pay12 d) (k0_pay13 y z)) (ix2 0 e)
      = acc (ix2 0 e) + ∑ r : Fin 256, k0_pay10 (F := Ideal) y z (ix2 r e) * k0_pay11 (F := Ideal) y z (ix2 r 0) * d (ix2 r (lo e)) := by
  pointwise [k0_pay1, k0_pay7, k0_pay15, k0_pay12]
  refine congrArg (acc (ix2 0 e) + ·) (Finset.sum_congr rfl fun r _ => ?_)
  rw [normed_at, mul_comm]
  rfl

theorem add10 (d : Vec Ideal S256x2048 .f32) (x : Vec Ideal S256x1024 .f32) (acc : Vec Ideal S1x1024 .f32) (e : Fin 1024) :
    k0_pay2 (F := Ideal) (k0_pay8 acc) (k0_pay20 d x) (ix2 0 e)
      = acc (ix2 0 e) + ∑ r : Fin 256, x (ix2 r e) * k0_pay16 (F := Ideal) x (ix2 r 0) * d (ix2 r (hi e)) := by
  pointwise [k0_pay2, k0_pay8, k0_pay20, k0_pay17, k0_pay18]
  exact congrArg (acc (ix2 0 e) + ·) (Finset.sum_congr rfl fun r _ => mul_comm _ _)

end Cert.KernelMixIdeal.Whole

namespace Cert.ReferenceMixIdeal.Whole

open Cert.ReferenceMixIdeal Cert.ReferenceMixIdeal.Read Cert.Rows

variable (y z att : FVec Ideal S4096x1024 .f32) (w v : FVec Ideal S1x1024 .f32) (d : FVec Ideal S4096x2048 .f32)

theorem gated_at (r : Fin 4096) (e : Fin 1024) :
    val_main_v1 (F := Ideal) y z (ix2 r e) = y (ix2 r e) * (z (ix2 r e) * Ideal.logistic (z (ix2 r e))) := by
  pointwise [val_main_v1, val_main_v0_0, val_main_v0_2, val_main_call0_v4, val_main_call0_cst_0, val_main_call0_v3, val_main_call0_v2,
    val_main_call0_cst, val_main_call0_v1, val_main_call0_v0]
  rw [Ideal.logistic]

theorem dg_at (r : Fin 4096) (e : Fin 1024) : val_main_v72 (F := Ideal) y z w d (ix2 r e)
    = rmsR (fun k => d (ix2 r (lo k)) * w (ix2 0 k)) (fun k => val_main_v1 (F := Ideal) y z (ix2 r k)) e := by
  pointwise [val_main_v72, val_main_v71, val_main_v70, val_main_v69, val_main_v68, val_main_v67, val_main_v66, val_main_v65, val_main_v64,
    val_main_v63, val_main_v62, val_main_v61, val_main_v60, val_main_v59, val_main_v58, val_main_v57, val_main_v33, val_main_v12,
    val_main_v11, val_main_v10, val_main_v9, val_main_v8, val_main_v7, val_main_v6, val_main_v5, val_main_v4, val_main_v3, val_main_v2,
    val_main_cst, val_main_cst_0, val_main_cst_1, val_main_cst_2, val_main_cst_12, val_main_cst_13, val_main_cst_14]
  simp only [rmsR, rmsS, Finset.univ_unique, Finset.sum_singleton]
  rfl

theorem datt_at (r : Fin 4096) (e : Fin 1024) : val_main_v53 (F := Ideal) att v d (ix2 r e)
    = rmsR (fun k => d (ix2 r (hi k)) * v (ix2 0 k)) (fun k => att (ix2 r k)) e := by
  pointwise [val_main_v53, val_main_v52, val_main_v51, val_main_v50, val_main_v49, val_main_v48, val_main_v47, val_main_v46, val_main_v45,
    val_main_v44, val_main_v43, val_main_v42, val_main_v41, val_main_v40, val_main_v39, val_main_v38, val_main_v34, val_main_v27,
    val_main_v26, val_main_v25, val_main_v24, val_main_v23, val_main_v22, val_main_v21, val_main_v20, val_main_v19, val_main_v18, val_main_v17,
    val_main_cst_3, val_main_cst_4, val_main_cst_5, val_main_cst_6, val_main_cst_8, val_main_cst_9, val_main_cst_10]
  simp only [rmsR, rmsS, Finset.univ_unique, Finset.sum_singleton]
  rfl

/-- What one row adds to a weight's gradient. -/
def term1 (e : Fin 1024) (r : Fin 4096) : EReal :=
  val_main_v1 (F := Ideal) y z (ix2 r e) * Ideal.rsqrt (var fun k => val_main_v1 (F := Ideal) y z (ix2 r k)) * d (ix2 r (lo e))

theorem dw_at (e : Fin 1024) : val_main_v56 (F := Ideal) y z d (ix2 0 e)
    = ∑ r : Fin 4096, term1 y z d e r := by
  pointwise [val_main_v56, val_main_v55, val_main_v54, val_main_v33, val_main_v14, val_main_v13, val_main_v9, val_main_v8, val_main_v7,
    val_main_v6, val_main_v5, val_main_v4, val_main_v3, val_main_v2, val_main_cst, val_main_cst_0, val_main_cst_1, val_main_cst_11]
  rfl

/-- What one row adds to a weight's gradient. -/
def term2 (e : Fin 1024) (r : Fin 4096) : EReal :=
  att (ix2 r e) * Ideal.rsqrt (var fun k => att (ix2 r k)) * d (ix2 r (hi e))

theorem dv_at (e : Fin 1024) : val_main_v37 (F := Ideal) att d (ix2 0 e)
    = ∑ r : Fin 4096, term2 att d e r := by
  pointwise [val_main_v37, val_main_v36, val_main_v35, val_main_v34, val_main_v29, val_main_v28, val_main_v24, val_main_v23, val_main_v22,
    val_main_v21, val_main_v20, val_main_v19, val_main_v18, val_main_v17, val_main_cst_3, val_main_cst_4, val_main_cst_5, val_main_cst_7]
  rfl

end Cert.ReferenceMixIdeal.Whole

namespace Cert.KernelMixIdeal.Whole
open Cert.KernelMixIdeal Cert.KernelMixIdeal.Gen Cert.Rows

variable (m : (ℓ : Loc nD τ sig) → Buf (Elt Ideal) ℓ)

/-- Where each window's block sits: row block `t` of the big arrays, the one row of the small ones. -/
theorem idx : ∀ t : Fin cfg0.N, win0_0.index t = ![t.val, 0] ∧ win0_1.index t = ![t.val, 0]
    ∧ win0_2.index t = ![t.val, 0] ∧ win0_3.index t = ![t.val, 0] ∧ win0_4.index t = ![0, 0]
    ∧ win0_5.index t = ![0, 0] ∧ win0_6.index t = ![t.val, 0] ∧ win0_7.index t = ![t.val, 0]
    ∧ win0_8.index t = ![t.val, 0] ∧ win0_9.index t = ![0, 0] ∧ win0_10.index t = ![0, 0] :=
  (by decide +kernel : ∀ t : Fin grid0.N, _)

/-- The row of the arrays that row `r` of a point's block is. -/
def row (t : Fin cfg0.N) (r : Fin 256) : Fin 4096 := ⟨t.val * 256 + r.val, by have := Nat.lt_of_lt_of_eq t.isLt N_0; omega⟩

/-- The rows a point works on. -/
abbrev cot (c : Dev nD) (t : Fin cfg0.N) : Vec Ideal S256x2048 .f32 := iblk m c 0 t
abbrev ys (c : Dev nD) (t : Fin cfg0.N) : Vec Ideal S256x1024 .f32 := iblk m c 1 t
abbrev zs (c : Dev nD) (t : Fin cfg0.N) : Vec Ideal S256x1024 .f32 := X0_2 m c t
abbrev att (c : Dev nD) (t : Fin cfg0.N) : Vec Ideal S256x1024 .f32 := iblk m c 3 t
abbrev w1 (c : Dev nD) (t : Fin cfg0.N) : Vec Ideal S1x1024 .f32 := iblk m c 4 t
abbrev w2 (c : Dev nD) (t : Fin cfg0.N) : Vec Ideal S1x1024 .f32 := iblk m c 5 t

theorem in0 (c : Dev nD) (t : Fin cfg0.N) (r : Fin 256) (k : Fin 2048) :
    cot m c t (ix2 r k) = m ((c : Thread nD τ).loc main_arg5) (ix2 (row t r) k) := by
  blk_point [cot, ys, zs, att, w1, w2, iblk, V, idx t, row]

theorem in1 (c : Dev nD) (t : Fin cfg0.N) (r : Fin 256) (k : Fin 1024) :
    ys m c t (ix2 r k) = m ((c : Thread nD τ).loc main_arg0) (ix2 (row t r) k) := by
  blk_point [cot, ys, zs, att, w1, w2, iblk, V, idx t, row]

theorem in2 (c : Dev nD) (t : Fin cfg0.N) (r : Fin 256) (k : Fin 1024) :
    zs m c t (ix2 r k) = m ((c : Thread nD τ).loc main_arg1) (ix2 (row t r) k) := by
  unfold zs X0_2 Pipeline.Window.fill
  rw [dif_pos (moved0_2 t _)]
  have e : (win0_2.blk t).view.emb (fun a => ⟨(ix2 r k a).val, ((cfg0.win 2).moved_iff _ _).mp (moved0_2 t (ix2 r k)) a⟩) = ix2 (row t r) ⟨k.val, by omega⟩ := by
    blk_ext [idx t, row]
  unfold iblk
  refine (congrArg (V m c main_v0) e).trans ?_
  simp only [V, hostOps0, hostOps0_1, List.flatten_cons, List.flatten_nil, List.append_nil, List.cons_append, List.nil_append]
  entry_read
  refine Eq.trans (b := pad S4096x5760 ![0, 0] ![0, 4736] ![0, 0] (m ((c : Thread nD τ).loc main_arg1)) (sitofp (F := Ideal) .f32 (constantI S_ 32 0#32))
    pads_S4096x1024_S4096x5760_000_047360 h_S_ (ix2 (row t r) ⟨k.val, by omega⟩)) rfl ?_
  pointwise
  refine dif_pos fun a => ?_
  fin_cases a
  · exact ⟨Nat.zero_le _, Nat.mod_one _, by show ((row t r).val - 0) / (0 + 1) < 4096; omega⟩
  · exact ⟨Nat.zero_le _, Nat.mod_one _, by show (k.val - 0) / (0 + 1) < 1024; omega⟩

theorem in3 (c : Dev nD) (t : Fin cfg0.N) (r : Fin 256) (k : Fin 1024) :
    att m c t (ix2 r k) = m ((c : Thread nD τ).loc main_arg2) (ix2 (row t r) k) := by
  blk_point [cot, ys, zs, att, w1, w2, iblk, V, idx t, row]

theorem in4 (c : Dev nD) (t : Fin cfg0.N) (k : Fin 1024) :
    w1 m c t (ix2 0 k) = m ((c : Thread nD τ).loc main_arg3) (ix2 0 k) := by
  blk_point [cot, ys, zs, att, w1, w2, iblk, V, idx t]

theorem in5 (c : Dev nD) (t : Fin cfg0.N) (k : Fin 1024) :
    w2 m c t (ix2 0 k) = m ((c : Thread nD τ).loc main_arg4) (ix2 0 k) := by
  blk_point [cot, ys, zs, att, w1, w2, iblk, V, idx t]

theorem out7 (t : Fin cfg0.N) (r : Fin 256) (k : Fin 1024) : ((cfg0.win 7).blk t).view.emb (ix2 r k) = ix2 (row t r) k := by
  blk_ext [idx t, row]

theorem out8 (t : Fin cfg0.N) (r : Fin 256) (k : Fin 1024) : ((cfg0.win 8).blk t).view.emb (ix2 r k) = ix2 (row t r) k := by
  blk_ext [idx t, row]

theorem out6 (t : Fin cfg0.N) (r : Fin 256) (k : Fin 1024) : ((cfg0.win 6).blk t).view.emb (ix2 r k) = ix2 (row t r) k := by
  blk_ext [idx t, row]

/-- The gradient at the gated rows: what the kernel computes of a block is what the reference computes of the same rows. -/
theorem dg_eq (c : Dev nD) (t : Fin cfg0.N) (r : Fin 256) (e : Fin 1024) :
    k0_pay14 (F := Ideal) (w1 m c t) (k0_pay11 (ys m c t) (zs m c t)) (k0_pay12 (cot m c t)) (k0_pay13 (ys m c t) (zs m c t)) (ix2 r e)
      = ReferenceMixIdeal.Read.val_main_v72 (F := Ideal) (m ((c : Thread nD τ).loc main_arg0)) (m ((c : Thread nD τ).loc main_arg1)) (m ((c : Thread nD τ).loc main_arg3)) (m ((c : Thread nD τ).loc main_arg5)) (ix2 (row t r) e) := by
  rw [dg_at, rms_eq, ReferenceMixIdeal.Whole.dg_at]
  congr 1 <;> funext k
  · rw [in0, in4]
  · rw [gated_at, ReferenceMixIdeal.Whole.gated_at, in1, in2]

theorem datt_eq (c : Dev nD) (t : Fin cfg0.N) (r : Fin 256) (e : Fin 1024) :
    k0_pay19 (F := Ideal) (cot m c t) (att m c t) (w2 m c t) (ix2 r e)
      = ReferenceMixIdeal.Read.val_main_v53 (F := Ideal) (m ((c : Thread nD τ).loc main_arg2)) (m ((c : Thread nD τ).loc main_arg4)) (m ((c : Thread nD τ).loc main_arg5)) (ix2 (row t r) e) := by
  rw [datt_at, rms_eq, ReferenceMixIdeal.Whole.datt_at]
  congr 1 <;> funext k
  · rw [in0, in5]
  · rw [in3]

theorem dy_eq (c : Dev nD) (t : Fin cfg0.N) (r : Fin 256) (e : Fin 1024) :
    k0_pay21 (F := Ideal) (w1 m c t) (k0_pay9 (zs m c t)) (k0_pay11 (ys m c t) (zs m c t)) (k0_pay12 (cot m c t)) (k0_pay13 (ys m c t) (zs m c t)) (ix2 r e)
      = ReferenceMixIdeal.Read.val_main_v74 (F := Ideal) (m ((c : Thread nD τ).loc main_arg0)) (m ((c : Thread nD τ).loc main_arg1)) (m ((c : Thread nD τ).loc main_arg3)) (m ((c : Thread nD τ).loc main_arg5)) (ix2 (row t r) e) := by
  have h := dg_eq m c t r e
  have s := silu_at (zs m c t) r e
  rw [in2] at s
  refine Eq.trans (b := k0_pay14 (F := Ideal) (w1 m c t) (k0_pay11 (ys m c t) (zs m c t)) (k0_pay12 (cot m c t)) (k0_pay13 (ys m c t) (zs m c t)) (ix2 r e) * k0_pay9 (F := Ideal) (zs m c t) (ix2 r e)) rfl ?_
  rw [h, s, Ideal.logistic]
  symm
  pointwise [ReferenceMixIdeal.Read.val_main_v74, ReferenceMixIdeal.Read.val_main_v0_0, ReferenceMixIdeal.Read.val_main_v0_2,
      ReferenceMixIdeal.Read.val_main_call0_v4, ReferenceMixIdeal.Read.val_main_call0_cst_0, ReferenceMixIdeal.Read.val_main_call0_v3, ReferenceMixIdeal.Read.val_main_call0_v2,
      ReferenceMixIdeal.Read.val_main_call0_cst, ReferenceMixIdeal.Read.val_main_call0_v1, ReferenceMixIdeal.Read.val_main_call0_v0]

theorem dz_eq (ha : ∀ (c : Dev nD) i, ∃ r : ℝ, m ((c : Thread nD τ).loc main_arg5) i = (r : EReal)) (hw : ∀ (c : Dev nD) i, ∃ r : ℝ, m ((c : Thread nD τ).loc main_arg3) i = (r : EReal)) (c : Dev nD) (t : Fin cfg0.N) (r : Fin 256) (e : Fin 1024) :
    k0_pay3 (F := Ideal) (k0_pay6 (zs m c t)) (k0_pay22 (ys m c t) (w1 m c t) (k0_pay11 (ys m c t) (zs m c t)) (k0_pay12 (cot m c t)) (k0_pay13 (ys m c t) (zs m c t))) (k0_pay23 (k0_pay6 (zs m c t))) (Ideal.ofBits .f32 0x3F800000#32) (ix2 r e)
      = ReferenceMixIdeal.Read.val_main_v76 (F := Ideal) (m ((c : Thread nD τ).loc main_arg0)) (m ((c : Thread nD τ).loc main_arg1)) (m ((c : Thread nD τ).loc main_arg3)) (m ((c : Thread nD τ).loc main_arg5)) (ix2 (row t r) e) := by
  have h := dg_eq m c t r e
  refine Eq.trans (b := k0_pay14 (F := Ideal) (w1 m c t) (k0_pay11 (ys m c t) (zs m c t)) (k0_pay12 (cot m c t)) (k0_pay13 (ys m c t) (zs m c t)) (ix2 r e) * ys m c t (ix2 r e) *
    (Ideal.logistic (zs m c t (ix2 r e)) * (1 + zs m c t (ix2 r e) * (1 - Ideal.logistic (zs m c t (ix2 r e)))))) ?_ ?_
  · pointwise [k0_pay3, k0_pay22, k0_pay23, k0_pay6]
    simp only [zero_sub, Ideal.logistic]
  rw [dg_at] at h ⊢
  simp only [gated_at] at h ⊢
  rw [gate_row _ (fun k => ys m c t (ix2 r k)) (fun k => zs m c t (ix2 r k)), h]
  · pointwise [ReferenceMixIdeal.Read.val_main_v76, ReferenceMixIdeal.Read.val_main_v75, ReferenceMixIdeal.Read.val_main_call1_v1, ReferenceMixIdeal.Read.val_main_call1_v2,
      ReferenceMixIdeal.Read.val_main_call1_v0, ReferenceMixIdeal.Read.val_main_v73, ReferenceMixIdeal.Read.val_main_v0_2, ReferenceMixIdeal.Read.val_main_v0_1,
      ReferenceMixIdeal.Read.val_main_call0_v4, ReferenceMixIdeal.Read.val_main_call0_cst_0, ReferenceMixIdeal.Read.val_main_call0_v3, ReferenceMixIdeal.Read.val_main_call0_v2,
      ReferenceMixIdeal.Read.val_main_call0_cst, ReferenceMixIdeal.Read.val_main_call0_v1, ReferenceMixIdeal.Read.val_main_call0_v0,
      ReferenceMixIdeal.Read.val_main_call0_v7, ReferenceMixIdeal.Read.val_main_call0_v6, ReferenceMixIdeal.Read.val_main_call0_cst_1]
    rw [in1, in2]
    have key : ∀ D Y Z L : EReal, Z * (D * Y) * (L * (1 - L)) + D * Y * L = Y * D * L + Z * (Y * D) * (L * (1 - L)) := by
      intro D Y Z L; rw [mul_comm D Y, add_comm]
    exact key _ _ _ _
  · intro k
    rw [in0, in4]
    obtain ⟨x, hx⟩ := ha c (ix2 (row t r) (lo k))
    obtain ⟨y, hy⟩ := hw c (ix2 0 k)
    exact ⟨x * y, by rw [hx, hy, EReal.coe_mul]⟩

theorem row_of (j : S1x1024.Idx) : j = ix2 0 (j 1) := by
  funext a
  fin_cases a
  · exact Subsingleton.elim (α := Fin 1) _ _
  · rfl

/-- What one point adds to the two accumulators. -/
theorem add9_eq (c : Dev nD) (t : Fin cfg0.N) (acc : Vec Ideal S1x1024 .f32) (j : S1x1024.Idx) :
    k0_pay1 (F := Ideal) (k0_pay7 acc) (k0_pay15 (k0_pay12 (cot m c t)) (k0_pay13 (ys m c t) (zs m c t))) j
      = acc j + ∑ r : Fin 256, ReferenceMixIdeal.Whole.term1 (m ((c : Thread nD τ).loc main_arg0)) (m ((c : Thread nD τ).loc main_arg1)) (m ((c : Thread nD τ).loc main_arg5)) (j 1) (row t r) := by
  obtain ⟨e, rfl⟩ : ∃ e, j = ix2 0 e := ⟨_, row_of j⟩
  rw [add9]
  change _ = acc (ix2 0 e) + ∑ r : Fin 256, ReferenceMixIdeal.Whole.term1 _ _ _ e (row t r)
  refine congrArg (acc (ix2 0 e) + ·) (Finset.sum_congr rfl fun r _ => ?_)
  unfold ReferenceMixIdeal.Whole.term1
  simp only [root_at, gated_at, ReferenceMixIdeal.Whole.gated_at, in0, in1, in2]

theorem add10_eq (c : Dev nD) (t : Fin cfg0.N) (acc : Vec Ideal S1x1024 .f32) (j : S1x1024.Idx) :
    k0_pay2 (F := Ideal) (k0_pay8 acc) (k0_pay20 (cot m c t) (att m c t)) j
      = acc j + ∑ r : Fin 256, ReferenceMixIdeal.Whole.term2 (m ((c : Thread nD τ).loc main_arg2)) (m ((c : Thread nD τ).loc main_arg5)) (j 1) (row t r) := by
  obtain ⟨e, rfl⟩ : ∃ e, j = ix2 0 e := ⟨_, row_of j⟩
  rw [add10]
  change _ = acc (ix2 0 e) + ∑ r : Fin 256, ReferenceMixIdeal.Whole.term2 _ _ e (row t r)
  refine congrArg (acc (ix2 0 e) + ·) (Finset.sum_congr rfl fun r _ => ?_)
  unfold ReferenceMixIdeal.Whole.term2
  simp only [root2_at, in0, in3]

/-- The gradient at the scan's output. -/
theorem final6 (c : Dev nD) : (dats m 0 c).arrAt 6 cfg0.N = ReferenceMixIdeal.Read.val_main_v74 (F := Ideal) (m ((c : Thread nD τ).loc main_arg0)) (m ((c : Thread nD τ).loc main_arg1)) (m ((c : Thread nD τ).loc main_arg3)) (m ((c : Thread nD τ).loc main_arg5)) := by
  refine (dats m 0 c).arrAt_eq_of_covers 6 _ (by decide +kernel) fun t _ y => ?_
  blk_simp
  rw [after0_6]
  obtain ⟨r, e, rfl⟩ : ∃ r e, y = ix2 r e := ⟨_, _, (ix2_eta y).symm⟩
  rw [out6]
  by_cases h : t.val % 16 = 0
  · rw [outsAt0_A m c t h]; frame_out
    exact dy_eq m c t r e
  · rw [outsAt0_B m c t h]; frame_out
    exact dy_eq m c t r e

/-- The gradient at the gate. -/
theorem final7 (ha : ∀ (c : Dev nD) i, ∃ r : ℝ, m ((c : Thread nD τ).loc main_arg5) i = (r : EReal)) (hw : ∀ (c : Dev nD) i, ∃ r : ℝ, m ((c : Thread nD τ).loc main_arg3) i = (r : EReal)) (c : Dev nD) :
    (dats m 0 c).arrAt 7 cfg0.N = ReferenceMixIdeal.Read.val_main_v76 (F := Ideal) (m ((c : Thread nD τ).loc main_arg0)) (m ((c : Thread nD τ).loc main_arg1)) (m ((c : Thread nD τ).loc main_arg3)) (m ((c : Thread nD τ).loc main_arg5)) := by
  refine (dats m 0 c).arrAt_eq_of_covers 7 _ (by decide +kernel) fun t _ y => ?_
  blk_simp
  rw [after0_7]
  obtain ⟨r, e, rfl⟩ : ∃ r e, y = ix2 r e := ⟨_, _, (ix2_eta y).symm⟩
  rw [out7]
  by_cases h : t.val % 16 = 0
  · rw [outsAt0_A m c t h]; frame_out
    exact dz_eq m ha hw c t r e
  · rw [outsAt0_B m c t h]; frame_out
    exact dz_eq m ha hw c t r e

/-- The gradient at the attention's output. -/
theorem final8 (c : Dev nD) : (dats m 0 c).arrAt 8 cfg0.N = ReferenceMixIdeal.Read.val_main_v53 (F := Ideal) (m ((c : Thread nD τ).loc main_arg2)) (m ((c : Thread nD τ).loc main_arg4)) (m ((c : Thread nD τ).loc main_arg5)) := by
  refine (dats m 0 c).arrAt_eq_of_covers 8 _ (by decide +kernel) fun t _ y => ?_
  blk_simp
  rw [after0_8]
  obtain ⟨r, e, rfl⟩ : ∃ r e, y = ix2 r e := ⟨_, _, (ix2_eta y).symm⟩
  rw [out8]
  by_cases h : t.val % 16 = 0
  · rw [outsAt0_A m c t h]; frame_out
    exact datt_eq m c t r e
  · rw [outsAt0_B m c t h]; frame_out
    exact datt_eq m c t r e

/-- The gradient at the first weight. -/
theorem final9 (c : Dev nD) : (dats m 0 c).arrAt 9 cfg0.N = ReferenceMixIdeal.Read.val_main_v56 (F := Ideal) (m ((c : Thread nD τ).loc main_arg0)) (m ((c : Thread nD τ).loc main_arg1)) (m ((c : Thread nD τ).loc main_arg5)) := by
  refine (dats m 0 c).arrAt_eq_of_after_last 9 t0_15 (by decide +kernel) _ fun j => ?_
  blk_simp
  rw [after0_9, Pipeline.eq_sum_fin_of_reset_step_apply_last (fun n h => (outsAt0 m c n h).2.2.2.1) 16 (fun _ => 0) _
    (fun t h j => by rw [outsAt0_A m c t h]; frame_out; exact (add9_eq m c t _ j).trans (by rw [zero4]))
    (fun t h j => by rw [outsAt0_B m c t h]; frame_out; exact add9_eq m c t _ j)
    (le_of_eq N_0) t0_15 rfl j, zero_add]
  obtain ⟨e, rfl⟩ : ∃ e, j = ix2 0 e := ⟨_, row_of j⟩
  rw [ReferenceMixIdeal.Whole.dw_at]
  exact Fin.sum_mul_add_congr fun t k hl => rfl

/-- The gradient at the second weight. -/
theorem final10 (c : Dev nD) : (dats m 0 c).arrAt 10 cfg0.N = ReferenceMixIdeal.Read.val_main_v37 (F := Ideal) (m ((c : Thread nD τ).loc main_arg2)) (m ((c : Thread nD τ).loc main_arg5)) := by
  refine (dats m 0 c).arrAt_eq_of_after_last 10 t0_15 (by decide +kernel) _ fun j => ?_
  blk_simp
  rw [after0_10, Pipeline.eq_sum_fin_of_reset_step_apply_last (fun n h => (outsAt0 m c n h).2.2.2.2) 16 (fun _ => 0) _
    (fun t h j => by rw [outsAt0_A m c t h]; frame_out; exact (add10_eq m c t _ j).trans (by rw [zero5]))
    (fun t h j => by rw [outsAt0_B m c t h]; frame_out; exact add10_eq m c t _ j)
    (le_of_eq N_0) t0_15 rfl j, zero_add]
  obtain ⟨e, rfl⟩ : ∃ e, j = ix2 0 e := ⟨_, row_of j⟩
  rw [ReferenceMixIdeal.Whole.dv_at]
  exact Fin.sum_mul_add_congr fun t k hl => rfl

end Cert.KernelMixIdeal.Whole

namespace Cert.Proof.MixClaims

open Cert.KernelMixIdeal.Whole Cert.ReferenceMixIdeal.Read

/-- Where the masks of the precondition are all ones, the weight and the cotangent are real numbers. -/
theorem real (m : (ℓ : Loc Cert.KernelMixIdeal.nD Cert.KernelMixIdeal.τ Cert.KernelMixIdeal.sig) → Buf (Elt Ideal) ℓ) [Cert.Pre_finite_mix.Facts] (h : Cert.Pre_KernelMixIdeal_finite_mix m) :
    (∀ (c : Dev Cert.KernelMixIdeal.nD) i, ∃ r : ℝ, m ((c.tc : Thread Cert.KernelMixIdeal.nD Cert.KernelMixIdeal.τ).loc Cert.KernelMixIdeal.main_arg5) i = (r : EReal))
    ∧ ∀ (c : Dev Cert.KernelMixIdeal.nD) i, ∃ r : ℝ, m ((c.tc : Thread Cert.KernelMixIdeal.nD Cert.KernelMixIdeal.τ).loc Cert.KernelMixIdeal.main_arg3) i = (r : EReal) :=
  ⟨fun c i => Cert.Rows.finite_of (congrFun (h c).2 i), fun c i => Cert.Rows.finite_of (congrFun (h c).1 i)⟩

/-- Over the reals the five results are the derivative's. -/
theorem algebraic [Cert.Pre_finite_mix.Facts] : Cert.algebraic_KernelMixIdeal_ReferenceMixIdeal_pre_finite_mix := by
  intro m g m' g' hp hagree
  obtain ⟨ha, hw⟩ := real m hp
  refine ⟨fun c => val_main_v74 (F := Ideal) (m (c.tc.loc Cert.KernelMixIdeal.main_arg0)) (m (c.tc.loc Cert.KernelMixIdeal.main_arg1)) (m (c.tc.loc Cert.KernelMixIdeal.main_arg3)) (m (c.tc.loc Cert.KernelMixIdeal.main_arg5)),
    fun c => val_main_v76 (F := Ideal) (m (c.tc.loc Cert.KernelMixIdeal.main_arg0)) (m (c.tc.loc Cert.KernelMixIdeal.main_arg1)) (m (c.tc.loc Cert.KernelMixIdeal.main_arg3)) (m (c.tc.loc Cert.KernelMixIdeal.main_arg5)),
    fun c => val_main_v53 (F := Ideal) (m (c.tc.loc Cert.KernelMixIdeal.main_arg2)) (m (c.tc.loc Cert.KernelMixIdeal.main_arg4)) (m (c.tc.loc Cert.KernelMixIdeal.main_arg5)),
    fun c => val_main_v56 (F := Ideal) (m (c.tc.loc Cert.KernelMixIdeal.main_arg0)) (m (c.tc.loc Cert.KernelMixIdeal.main_arg1)) (m (c.tc.loc Cert.KernelMixIdeal.main_arg5)),
    fun c => val_main_v37 (F := Ideal) (m (c.tc.loc Cert.KernelMixIdeal.main_arg2)) (m (c.tc.loc Cert.KernelMixIdeal.main_arg5)), ?_, ?_⟩
  · refine (θ_run _ _ _).mono (fun r h c => ?_) (Cert.KernelMixIdeal.Value.run_blocks m g)
    obtain ⟨h0, h1, h2, h3, h4, hr⟩ := h c
    exact ⟨h0.trans (final6 m c), h1.trans (final7 m ha hw c), h2.trans (final8 m c), h3.trans (final9 m c), h4.trans (final10 m c), hr⟩
  · refine (θ_run _ _ _).mono (fun r h c => ?_) (Cert.ReferenceMixIdeal.Value.run m' g')
    obtain ⟨h0, h1, h2, h3, h4, hr⟩ := h c
    obtain ⟨e0, e1, e2, e3, e4, e5⟩ := hagree c
    exact ⟨(h0.trans (val_main_v74_eq m' c)).trans (by rw [e0, e1, e3, e5]),
      (h1.trans (val_main_v76_eq m' c)).trans (by rw [e0, e1, e3, e5]),
      (h2.trans (val_main_v53_eq _ _ _)).trans (by rw [e2, e4, e5]),
      (h3.trans (val_main_v56_eq _ _ _)).trans (by rw [e0, e1, e5]),
      (h4.trans (val_main_v37_eq _ _)).trans (by rw [e2, e5]), hr⟩

end Cert.Proof.MixClaims
end
-- ==== Proof.Norms.lean ====
/- One row of a layer norm over the extended reals: its derivative as the kernels write it, with two means taken out,
   and as the derivative of the forward lines has it, term by term. They agree at every row of reals. -/
module

public import proofs.«01_k».proof.Proof.Rows

@[expose] public section

noncomputable section

open Idealize.ShloMosaic

namespace Cert.Rows

/-- The constants two, a half and 1/1024 of the programs as reals. -/
theorem wtwo : Ideal.ofBits .f32 0x40000000#32 = ((2 : ℝ) : EReal) := by
  simp [Ideal.ofBits, Ideal.ieee, -EReal.coe_mul]; norm_num

theorem whalf : Ideal.ofBits .f32 0x3F000000#32 = ((1 / 2 : ℝ) : EReal) := by
  simp [Ideal.ofBits, Ideal.ieee, -EReal.coe_mul]; norm_num

theorem winv : Ideal.ofBits .f32 0x3A800000#32 = ((1 / 1024 : ℝ) : EReal) := by
  simp [Ideal.ofBits, Ideal.ieee, -EReal.coe_mul]; norm_num

theorem walpha : ∃ r : ℝ, Ideal.ofBits .f32 0x3F9837F0#32 = (r : EReal) :=
  ⟨_, by simp [Ideal.ofBits, Ideal.ieee, -EReal.coe_mul]; rfl⟩

theorem div1024 (s : EReal) : Ideal.div s ((1024 : ℝ) : EReal) = s * ((1 / 1024 : ℝ) : EReal) := Ideal.div_coe (by norm_num) s

/-- The residual sum under a norm. -/
def res (x f g : EReal) : EReal := Ideal.ofBits .f32 0x3F9837F0#32 * x + (1 + g) * f

theorem res_real {x f g : EReal} (hx : ∃ r : ℝ, x = r) (hf : ∃ r : ℝ, f = r) (hg : ∃ r : ℝ, g = r) : ∃ r : ℝ, res x f g = r := by
  obtain ⟨a, rfl⟩ := hx
  obtain ⟨b, rfl⟩ := hf
  obtain ⟨c, rfl⟩ := hg
  obtain ⟨w, hw⟩ := walpha
  exact ⟨w * a + (1 + c) * b, by rw [res, hw, ← EReal.coe_one]; simp only [← EReal.coe_mul, ← EReal.coe_add]⟩

/-- The mean of a row, and the row less its mean. -/
def mean (x : Fin 1024 → EReal) : EReal := Ideal.div (∑ k, x k) (Ideal.ofBits .f32 0x44800000#32)
def cen (x : Fin 1024 → EReal) (e : Fin 1024) : EReal := x e - mean x

/-- The reciprocal root of the variance, and the normed row. -/
def rstd (x : Fin 1024 → EReal) : EReal := Ideal.rsqrt (var (cen x))
def nrm (x : Fin 1024 → EReal) (e : Fin 1024) : EReal := cen x e * rstd x

/-- The layer norm's derivative at an entry, as the kernels write it. -/
def lnK (a x : Fin 1024 → EReal) (e : Fin 1024) : EReal :=
  rstd x * (a e - mean a - nrm x e * mean fun k => a k * nrm x k)

/-- The factor that the variance passes back. -/
def lnS (a x : Fin 1024 → EReal) : EReal :=
  Ideal.div ((∑ k, cen x k * a k) * (Ideal.ofBits .f32 0xBF000000#32 * Ideal.div (rstd x) (var (cen x))))
    (Ideal.ofBits .f32 0x44800000#32)

/-- The layer norm's derivative at an entry, as the derivative of the forward lines has it. -/
def lnR (a x : Fin 1024 → EReal) (e : Fin 1024) : EReal :=
  a e * rstd x + lnS a x * (Ideal.ofBits .f32 0x40000000#32 * cen x e)
    + Ideal.div ((∑ k, -(a k * rstd x)) + ∑ k, -(lnS a x * (Ideal.ofBits .f32 0x40000000#32 * cen x k)))
      (Ideal.ofBits .f32 0x44800000#32)

/-- Over a row of reals the centred row is real and sums to zero. -/
theorem cen_real {x : Fin 1024 → EReal} (hx : ∀ k, ∃ r : ℝ, x k = r) :
    ∃ C : Fin 1024 → ℝ, (∀ k, cen x k = C k) ∧ ∑ k, C k = 0 := by
  choose X hX using hx
  refine ⟨fun k => X k - (∑ j, X j) * (1 / 1024), fun k => ?_, ?_⟩
  · rw [cen, mean, w1024, div1024]
    simp only [hX, coe_sum, ← EReal.coe_mul, ← EReal.coe_sub]
  · rw [Finset.sum_sub_distrib, Finset.sum_const, Finset.card_univ, Fintype.card_fin, nsmul_eq_mul]
    push_cast; ring

/-- The variance of a row of reals is a positive real. -/
theorem var_real {C : Fin 1024 → ℝ} {c : Fin 1024 → EReal} (h : ∀ k, c k = C k) : ∃ v : ℝ, 0 < v ∧ var c = v := by
  rcases var_cases c with ht | ⟨_, v, _, hv, e⟩
  · exfalso
    obtain ⟨e, _, hE⟩ := weps
    rw [var, w1024, hE, div1024] at ht
    simp only [h, ← EReal.coe_mul, coe_sum, ← EReal.coe_add] at ht
    exact EReal.coe_ne_top _ ht
  · exact ⟨v, hv, e⟩

/-- The identity of the two forms over the reals. -/
theorem ln_reals (A C : Fin 1024 → ℝ) (hC : ∑ k, C k = 0) (r v : ℝ) (hrr : r * r = 1 / v) (e : Fin 1024) :
    r * (A e - (∑ k, A k) * (1 / 1024) - C e * r * ((∑ k, A k * (C k * r)) * (1 / 1024)))
      = A e * r + (∑ k, C k * A k) * (-(1 / 2) * (r * (1 / v))) * (1 / 1024) * (2 * C e)
        + ((∑ k, -(A k * r)) + ∑ k, -((∑ j, C j * A j) * (-(1 / 2) * (r * (1 / v))) * (1 / 1024) * (2 * C k))) * (1 / 1024) := by
  have e1 : ∑ k, A k * (C k * r) = (∑ k, C k * A k) * r := by
    rw [Finset.sum_mul]; exact Finset.sum_congr rfl fun k _ => by ring
  have e2 : ∑ k, -(A k * r) = -((∑ k, A k) * r) := by
    rw [Finset.sum_neg_distrib, Finset.sum_mul]
  rw [e1, e2, ← hrr]
  generalize (∑ j, C j * A j) = T
  have e3 : ∑ k, -(T * (-(1 / 2) * (r * (r * r))) * (1 / 1024) * (2 * C k)) = 0 := by
    rw [Finset.sum_neg_distrib, ← Finset.mul_sum, ← Finset.mul_sum, hC]; ring
  rw [e3]; ring

/-- The two forms of the derivative agree over rows of reals. -/
theorem ln_eq {a x : Fin 1024 → EReal} (ha : ∀ k, ∃ r : ℝ, a k = r) (hx : ∀ k, ∃ r : ℝ, x k = r) (e : Fin 1024) :
    lnK a x e = lnR a x e := by
  choose A hA using ha
  obtain ⟨C, hC, hz⟩ := cen_real hx
  obtain ⟨v, hv, hV⟩ := var_real hC
  have hs : 0 < Real.sqrt v := Real.sqrt_pos.2 hv
  have hrr : (Real.sqrt v)⁻¹ * (Real.sqrt v)⁻¹ = 1 / v := by rw [← mul_inv, Real.mul_self_sqrt hv.le, one_div]
  have hr : rstd x = (((Real.sqrt v)⁻¹ : ℝ) : EReal) := by rw [rstd, hV, rsqrt_pos hv]
  have L := congrArg (fun z : ℝ => (z : EReal)) (ln_reals A C hz (Real.sqrt v)⁻¹ v hrr e)
  generalize (Real.sqrt v)⁻¹ = r at *
  simp only [EReal.coe_add, EReal.coe_sub, EReal.coe_mul, ← coe_sum, EReal.coe_neg] at L
  rw [lnK, lnR, lnS, hV, Ideal.div_coe hv.ne', w1024, wmhalf, wtwo]
  simp only [mean, nrm, hr, hC, hA, w1024, div1024, EReal.coe_neg]
  exact L

/-- The loss's factor: twice the half, over the row's length, is the kernel's 1/1024. -/
theorem loss_factor (x : EReal) :
    Ideal.div (Ideal.ofBits .f32 0x3F000000#32 * 1) (Ideal.ofBits .f32 0x44800000#32) * (Ideal.ofBits .f32 0x40000000#32 * x)
      = x * Ideal.ofBits .f32 0x3A800000#32 := by
  rw [w1024, whalf, wtwo, winv, div1024, mul_one, ← mul_assoc, ← EReal.coe_mul, ← EReal.coe_mul, mul_comm]
  exact congrArg (fun z : ℝ => x * (z : EReal)) (by norm_num)

theorem nrm_real {x : Fin 1024 → EReal} (hx : ∀ k, ∃ r : ℝ, x k = r) (e : Fin 1024) : ∃ r : ℝ, nrm x e = r := by
  obtain ⟨C, hC, hz⟩ := cen_real hx
  obtain ⟨v, hv, hV⟩ := var_real hC
  exact ⟨C e * (Real.sqrt v)⁻¹, by rw [nrm, rstd, hV, rsqrt_pos hv, hC, EReal.coe_mul]⟩

/-- The error under the loss: the scaled and shifted normed row less the target. -/
def err (x gam bet tgt : Fin 1024 → EReal) (e : Fin 1024) : EReal := nrm x e * gam e + bet e - tgt e

theorem err_real {x gam bet tgt : Fin 1024 → EReal} (hx : ∀ k, ∃ r : ℝ, x k = r) (hg : ∀ k, ∃ r : ℝ, gam k = r)
    (hb : ∀ k, ∃ r : ℝ, bet k = r) (ht : ∀ k, ∃ r : ℝ, tgt k = r) (e : Fin 1024) : ∃ r : ℝ, err x gam bet tgt e = r := by
  obtain ⟨n, hn⟩ := nrm_real hx e
  obtain ⟨g, hg⟩ := hg e
  obtain ⟨b, hb⟩ := hb e
  obtain ⟨t, ht⟩ := ht e
  exact ⟨n * g + b - t, by rw [err, hn, hg, hb, ht]; simp only [← EReal.coe_mul, ← EReal.coe_add, ← EReal.coe_sub]⟩

theorem mul_real {x y : EReal} (hx : ∃ r : ℝ, x = r) (hy : ∃ r : ℝ, y = r) : ∃ r : ℝ, x * y = r := by
  obtain ⟨a, rfl⟩ := hx
  obtain ⟨b, rfl⟩ := hy
  exact ⟨a * b, (EReal.coe_mul a b).symm⟩

end Cert.Rows
end
-- ==== Proof.Ln1.lean ====
/- The first layer norm, the residual sum under it and the modulation above it, backward: the value of `_ln1_bwd`
   against the derivative of those forward lines. Rows are those of Norms.lean; the five sums over the rows are added up
   by the grid, 256 rows at a point. -/
module

public import proofs.«01_k».proof.Defs
public import proofs.«01_k».proof.Proof.Gen.KernelLn1Ideal.Value
public import proofs.«01_k».proof.Proof.Gen.ReferenceLn1Ideal.Read
public import proofs.«01_k».proof.Proof.Norms
public import Idealize.ShloMosaic.Lib.Pipeline.ValueKit
public import Idealize.ShloMosaic.Lib.Claim
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.KernelLn1Ideal.Whole

open Cert.KernelLn1Ideal Cert.KernelLn1Ideal.Gen Cert.Rows

section
variable (x y dh du : Vec Ideal S256x1024 .f32) (g gam bet sc : Vec Ideal S1x1024 .f32)

/-- The row under the norm, and the cotangent above it, of a block's row. -/
def sumRow (r : Fin 256) (k : Fin 1024) : EReal := res (x (ix2 r k)) (y (ix2 r k)) (g (ix2 0 k))
def dxRow (r : Fin 256) (k : Fin 1024) : EReal :=
  Ideal.ofBits .f32 0x3F9837F0#32 * du (ix2 r k) + dh (ix2 r k) * (1 + sc (ix2 0 k))

theorem sum_at (r : Fin 256) (e : Fin 1024) : k0_pay17 (F := Ideal) x y g (ix2 r e) = sumRow x y g r e := by
  pointwise [k0_pay17]
  rfl

theorem cen_at (r : Fin 256) (e : Fin 1024) : k0_pay18 (F := Ideal) (k0_pay17 x y g) (ix2 r e) = cen (sumRow x y g r) e := by
  pointwise [k0_pay18]
  simp only [sum_at]
  rfl

theorem rstd_at (r : Fin 256) (u : Fin 1) : k0_pay19 (F := Ideal) (k0_pay17 x y g) (ix2 r u) = rstd (sumRow x y g r) := by
  pointwise [k0_pay19]
  simp only [cen_at]
  rfl

theorem nrm_at (r : Fin 256) (e : Fin 1024) : k0_pay20 (F := Ideal) (k0_pay17 x y g) (ix2 r e) = nrm (sumRow x y g r) e := by
  pointwise [k0_pay20]
  rw [cen_at, rstd_at]
  rfl

theorem x1_at (r : Fin 256) (e : Fin 1024) :
    k0_pay21 (F := Ideal) gam bet (k0_pay17 x y g) (ix2 r e) = nrm (sumRow x y g r) e * gam (ix2 0 e) + bet (ix2 0 e) := by
  pointwise [k0_pay21]
  rw [nrm_at]

theorem dx_at (r : Fin 256) (e : Fin 1024) : k0_pay22 (F := Ideal) dh du sc (ix2 r e) = dxRow dh du sc r e := by
  pointwise [k0_pay22]
  rfl

theorem du_at (r : Fin 256) (e : Fin 1024) :
    k0_pay23 (F := Ideal) dh du gam sc (k0_pay17 x y g) (ix2 r e)
      = lnK (fun k => dxRow dh du sc r k * gam (ix2 0 k)) (sumRow x y g r) e := by
  pointwise [k0_pay23]
  simp only [dx_at, nrm_at, rstd_at]
  rfl

theorem dy_at (d : FVec Ideal S256x1024 .f32) (r : Fin 256) (e : Fin 1024) :
    k0_pay6 (F := Ideal) d (k0_pay24 g) (ix2 r e) = d (ix2 r e) * (1 + g (ix2 0 e)) := by
  pointwise [k0_pay6, k0_pay24]

/-- What one point adds to the five sums, and the zero rows they start from. -/
theorem add10 (acc : Vec Ideal S1x1024 .f32) (e : Fin 1024) :
    k0_pay1 (F := Ideal) dh (k0_pay12 acc) (k0_pay21 gam bet (k0_pay17 x y g)) (ix2 0 e)
      = acc (ix2 0 e) + ∑ r : Fin 256, dh (ix2 r e) * (nrm (sumRow x y g r) e * gam (ix2 0 e) + bet (ix2 0 e)) := by
  pointwise [k0_pay1, k0_pay12]
  simp only [x1_at]

theorem add11 (acc : Vec Ideal S1x1024 .f32) (e : Fin 1024) :
    k0_pay2 (F := Ideal) dh (k0_pay13 acc) (ix2 0 e) = acc (ix2 0 e) + ∑ r : Fin 256, dh (ix2 r e) := by
  pointwise [k0_pay2, k0_pay13]

theorem add12 (acc : Vec Ideal S1x1024 .f32) (e : Fin 1024) :
    k0_pay3 (F := Ideal) (k0_pay14 acc) (k0_pay20 (k0_pay17 x y g)) (k0_pay22 dh du sc) (ix2 0 e)
      = acc (ix2 0 e) + ∑ r : Fin 256, dxRow dh du sc r e * nrm (sumRow x y g r) e := by
  pointwise [k0_pay3, k0_pay14]
  simp only [dx_at, nrm_at]

theorem add13 (acc : Vec Ideal S1x1024 .f32) (e : Fin 1024) :
    k0_pay4 (F := Ideal) (k0_pay15 acc) (k0_pay22 dh du sc) (ix2 0 e) = acc (ix2 0 e) + ∑ r : Fin 256, dxRow dh du sc r e := by
  pointwise [k0_pay4, k0_pay15]
  simp only [dx_at]

theorem add14 (d : FVec Ideal S256x1024 .f32) (acc : Vec Ideal S1x1024 .f32) (e : Fin 1024) :
    k0_pay5 (F := Ideal) y (k0_pay16 acc) d (ix2 0 e) = acc (ix2 0 e) + ∑ r : Fin 256, d (ix2 r e) * y (ix2 r e) := by
  pointwise [k0_pay5, k0_pay16]

end

theorem zero7 (j : S1x1024.Idx) : k0_pay7 (F := Ideal) j = 0 := by pointwise [k0_pay7]
theorem zero8 (j : S1x1024.Idx) : k0_pay8 (F := Ideal) j = 0 := by pointwise [k0_pay8]
theorem zero9 (j : S1x1024.Idx) : k0_pay9 (F := Ideal) j = 0 := by pointwise [k0_pay9]
theorem zero10 (j : S1x1024.Idx) : k0_pay10 (F := Ideal) j = 0 := by pointwise [k0_pay10]
theorem zero11 (j : S1x1024.Idx) : k0_pay11 (F := Ideal) j = 0 := by pointwise [k0_pay11]

end Cert.KernelLn1Ideal.Whole

namespace Cert.ReferenceLn1Ideal.Whole

open Cert.ReferenceLn1Ideal Cert.ReferenceLn1Ideal.Read Cert.Rows

variable (x y : FVec Ideal S4096x1024 .f32) (g gam bet sc : FVec Ideal S1x1024 .f32) (dh du : FVec Ideal S4096x1024 .f32)

/-- The row under the norm, and the cotangent above it, of the arrays' row. -/
def sumRow (r : Fin 4096) (k : Fin 1024) : EReal := res (x (ix2 r k)) (y (ix2 r k)) (g (ix2 0 k))
def dxRow (r : Fin 4096) (k : Fin 1024) : EReal :=
  Ideal.ofBits .f32 0x3F9837F0#32 * du (ix2 r k) + dh (ix2 r k) * (1 + sc (ix2 0 k))

theorem sum_at (r : Fin 4096) (e : Fin 1024) : val_main_v6 (F := Ideal) x y g (ix2 r e) = sumRow x y g r e := by
  pointwise [val_main_v6, val_main_v5, val_main_v4, val_main_v3, val_main_v2, val_main_cst_0, val_main_v1, val_main_v0, val_main_cst]
  rfl

theorem cen_at (r : Fin 4096) (e : Fin 1024) : val_main_v12 (F := Ideal) x y g (ix2 r e) = cen (sumRow x y g r) e := by
  pointwise [val_main_v12, val_main_v11, val_main_v10, val_main_v9, val_main_v8, val_main_v7, val_main_cst_1, val_main_cst_2]
  simp only [sum_at]
  rfl

theorem cen2_at (r : Fin 4096) (e : Fin 1024) : val_main_v21 (F := Ideal) x y g (ix2 r e) = cen (sumRow x y g r) e :=
  cen_at x y g r e

theorem var_at (r : Fin 4096) (u : Fin 1) : val_main_v23 (F := Ideal) x y g (ix2 r u) = var (cen (sumRow x y g r)) := by
  pointwise [val_main_v23, val_main_v22, val_main_cst_6, val_main_v19, val_main_v18, val_main_cst_5, val_main_v17, val_main_v16,
    val_main_cst_4, val_main_v13]
  simp only [cen_at]
  rfl

theorem nrm_at (r : Fin 4096) (e : Fin 1024) : val_main_v29 (F := Ideal) x y g (ix2 r e) = nrm (sumRow x y g r) e := by
  pointwise [val_main_v29, val_main_v28, val_main_v24]
  rw [cen2_at, var_at]
  rfl

theorem x1_at (r : Fin 4096) (e : Fin 1024) : val_main_v33 (F := Ideal) x y g gam bet (ix2 r e)
    = nrm (sumRow x y g r) e * gam (ix2 0 e) + bet (ix2 0 e) := by
  pointwise [val_main_v33, val_main_v32, val_main_v31, val_main_v30]
  rw [nrm_at]

theorem dx_at (r : Fin 4096) (e : Fin 1024) : val_main_v52 (F := Ideal) sc dh du (ix2 r e) = dxRow sc dh du r e := by
  pointwise [val_main_v52, val_main_v51, val_main_v50, val_main_v44, val_main_v43, val_main_v42, val_main_cst_11, val_main_v35,
    val_main_v34, val_main_cst_8]
  rfl

theorem du_at (r : Fin 4096) (e : Fin 1024) : val_main_v83 (F := Ideal) x y g gam sc dh du (ix2 r e)
    = lnR (fun k => dxRow sc dh du r k * gam (ix2 0 k)) (sumRow x y g r) e := by
  pointwise [val_main_v83, val_main_v82, val_main_v81, val_main_cst_21, val_main_v80, val_main_v79, val_main_cst_20, val_main_v78,
    val_main_v77, val_main_v76, val_main_v75, val_main_cst_19, val_main_v74, val_main_v73, val_main_v72, val_main_v71, val_main_cst_18,
    val_main_v70, val_main_v69, val_main_cst_17, val_main_v68, val_main_v67, val_main_cst_16, val_main_v66, val_main_v65, val_main_v64,
    val_main_v63, val_main_v62, val_main_v61, val_main_cst_15, val_main_v60, val_main_v59, val_main_v58, val_main_v27, val_main_v26,
    val_main_cst_7, val_main_v25, val_main_v24, val_main_v15, val_main_v14, val_main_cst_3]
  simp only [dx_at, cen_at, cen2_at, var_at, Finset.univ_unique, Finset.sum_singleton]
  rfl

theorem dy_at (r : Fin 4096) (e : Fin 1024) : val_main_v89 (F := Ideal) x y g gam sc dh du (ix2 r e)
    = (1 + g (ix2 0 e)) * val_main_v83 (F := Ideal) x y g gam sc dh du (ix2 r e) := by
  pointwise [val_main_v89, val_main_v85, val_main_v84, val_main_v3, val_main_v2, val_main_cst_0]

/-- What one row adds to each of the five sums. -/
def term10 (e : Fin 1024) (r : Fin 4096) : EReal := (nrm (sumRow x y g r) e * gam (ix2 0 e) + bet (ix2 0 e)) * dh (ix2 r e)
def term11 (e : Fin 1024) (r : Fin 4096) : EReal := dh (ix2 r e)
def term12 (e : Fin 1024) (r : Fin 4096) : EReal := nrm (sumRow x y g r) e * dxRow sc dh du r e
def term13 (e : Fin 1024) (r : Fin 4096) : EReal := dxRow sc dh du r e
def term14 (e : Fin 1024) (r : Fin 4096) : EReal := val_main_v83 (F := Ideal) x y g gam sc dh du (ix2 r e) * y (ix2 r e)

theorem dsc_at (e : Fin 1024) : val_main_v49 (F := Ideal) x y g gam bet dh (ix2 0 e) = ∑ r : Fin 4096, term10 x y g gam bet dh e r := by
  pointwise [val_main_v49, val_main_v48, val_main_cst_12, val_main_v47, val_main_v44]
  simp only [x1_at]
  rfl

theorem dsh_at (e : Fin 1024) : val_main_v46 (F := Ideal) dh (ix2 0 e) = ∑ r : Fin 4096, term11 dh e r := by
  pointwise [val_main_v46, val_main_v45, val_main_cst_11]
  rfl

theorem dgam_at (e : Fin 1024) : val_main_v57 (F := Ideal) x y g sc dh du (ix2 0 e) = ∑ r : Fin 4096, term12 x y g sc dh du e r := by
  pointwise [val_main_v57, val_main_v56, val_main_cst_14, val_main_v55]
  simp only [dx_at, nrm_at]
  rfl

theorem dbet_at (e : Fin 1024) : val_main_v54 (F := Ideal) sc dh du (ix2 0 e) = ∑ r : Fin 4096, term13 sc dh du e r := by
  pointwise [val_main_v54, val_main_v53, val_main_cst_13]
  simp only [dx_at]
  rfl

theorem dg_at (e : Fin 1024) : val_main_v88 (F := Ideal) x y g gam sc dh du (ix2 0 e)
    = ∑ r : Fin 4096, term14 x y g gam sc dh du e r := by
  pointwise [val_main_v88, val_main_v87, val_main_cst_22, val_main_v86]
  rfl

end Cert.ReferenceLn1Ideal.Whole

namespace Cert.KernelLn1Ideal.Whole
open Cert.KernelLn1Ideal Cert.KernelLn1Ideal.Gen Cert.Rows
open Cert.ReferenceLn1Ideal.Whole (term10 term11 term12 term13 term14)

variable (m : (ℓ : Loc nD τ sig) → Buf (Elt Ideal) ℓ)

/-- Where each window's block sits: row block `t` of the big arrays, the one row of the small ones. -/
theorem idx : ∀ t : Fin cfg0.N, win0_0.index t = ![t.val, 0] ∧ win0_1.index t = ![t.val, 0]
    ∧ win0_2.index t = ![t.val, 0] ∧ win0_3.index t = ![t.val, 0] ∧ win0_4.index t = ![0, 0]
    ∧ win0_5.index t = ![0, 0] ∧ win0_6.index t = ![0, 0] ∧ win0_7.index t = ![0, 0]
    ∧ win0_8.index t = ![t.val, 0] ∧ win0_9.index t = ![t.val, 0] ∧ win0_10.index t = ![0, 0] ∧ win0_11.index t = ![0, 0]
    ∧ win0_12.index t = ![0, 0] ∧ win0_13.index t = ![0, 0] ∧ win0_14.index t = ![0, 0] :=
  (by decide +kernel : ∀ t : Fin grid0.N, _)

/-- The row of the arrays that row `r` of a point's block is. -/
def row (t : Fin cfg0.N) (r : Fin 256) : Fin 4096 := ⟨t.val * 256 + r.val, by have := Nat.lt_of_lt_of_eq t.isLt N_0; omega⟩

/-- The rows a point works on. -/
abbrev dhs (c : Dev nD) (t : Fin cfg0.N) : Vec Ideal S256x1024 .f32 := iblk m c 0 t
abbrev dus (c : Dev nD) (t : Fin cfg0.N) : Vec Ideal S256x1024 .f32 := iblk m c 1 t
abbrev xs (c : Dev nD) (t : Fin cfg0.N) : Vec Ideal S256x1024 .f32 := iblk m c 2 t
abbrev ys (c : Dev nD) (t : Fin cfg0.N) : Vec Ideal S256x1024 .f32 := iblk m c 3 t
abbrev g1 (c : Dev nD) (t : Fin cfg0.N) : Vec Ideal S1x1024 .f32 := iblk m c 4 t
abbrev gm (c : Dev nD) (t : Fin cfg0.N) : Vec Ideal S1x1024 .f32 := iblk m c 5 t
abbrev bt (c : Dev nD) (t : Fin cfg0.N) : Vec Ideal S1x1024 .f32 := iblk m c 6 t
abbrev sc (c : Dev nD) (t : Fin cfg0.N) : Vec Ideal S1x1024 .f32 := iblk m c 7 t

/-- The arrays they are rows of. -/
abbrev ax (c : Dev nD) : FVec Ideal S4096x1024 .f32 := m ((c : Thread nD τ).loc main_arg0)
abbrev ay (c : Dev nD) : FVec Ideal S4096x1024 .f32 := m ((c : Thread nD τ).loc main_arg1)
abbrev ag (c : Dev nD) : FVec Ideal S1x1024 .f32 := m ((c : Thread nD τ).loc main_arg2)
abbrev agm (c : Dev nD) : FVec Ideal S1x1024 .f32 := m ((c : Thread nD τ).loc main_arg3)
abbrev abt (c : Dev nD) : FVec Ideal S1x1024 .f32 := m ((c : Thread nD τ).loc main_arg4)
abbrev asc (c : Dev nD) : FVec Ideal S1x1024 .f32 := m ((c : Thread nD τ).loc main_arg5)
abbrev adh (c : Dev nD) : FVec Ideal S4096x1024 .f32 := m ((c : Thread nD τ).loc main_arg7)
abbrev adu (c : Dev nD) : FVec Ideal S4096x1024 .f32 := m ((c : Thread nD τ).loc main_arg8)

theorem in0 (c : Dev nD) (t : Fin cfg0.N) (r : Fin 256) (k : Fin 1024) : dhs m c t (ix2 r k) = adh m c (ix2 (row t r) k) := by
  blk_point [dhs, iblk, V, idx t, row]
theorem in1 (c : Dev nD) (t : Fin cfg0.N) (r : Fin 256) (k : Fin 1024) : dus m c t (ix2 r k) = adu m c (ix2 (row t r) k) := by
  blk_point [dus, iblk, V, idx t, row]
theorem in2 (c : Dev nD) (t : Fin cfg0.N) (r : Fin 256) (k : Fin 1024) : xs m c t (ix2 r k) = ax m c (ix2 (row t r) k) := by
  blk_point [xs, iblk, V, idx t, row]
theorem in3 (c : Dev nD) (t : Fin cfg0.N) (r : Fin 256) (k : Fin 1024) : ys m c t (ix2 r k) = ay m c (ix2 (row t r) k) := by
  blk_point [ys, iblk, V, idx t, row]
theorem in4 (c : Dev nD) (t : Fin cfg0.N) (k : Fin 1024) : g1 m c t (ix2 0 k) = ag m c (ix2 0 k) := by
  blk_point [g1, iblk, V, idx t]
theorem in5 (c : Dev nD) (t : Fin cfg0.N) (k : Fin 1024) : gm m c t (ix2 0 k) = agm m c (ix2 0 k) := by
  blk_point [gm, iblk, V, idx t]
theorem in6 (c : Dev nD) (t : Fin cfg0.N) (k : Fin 1024) : bt m c t (ix2 0 k) = abt m c (ix2 0 k) := by
  blk_point [bt, iblk, V, idx t]
theorem in7 (c : Dev nD) (t : Fin cfg0.N) (k : Fin 1024) : sc m c t (ix2 0 k) = asc m c (ix2 0 k) := by
  blk_point [sc, iblk, V, idx t]

theorem out8 (t : Fin cfg0.N) (r : Fin 256) (k : Fin 1024) : ((cfg0.win 8).blk t).view.emb (ix2 r k) = ix2 (row t r) k := by
  blk_ext [idx t, row]
theorem out9 (t : Fin cfg0.N) (r : Fin 256) (k : Fin 1024) : ((cfg0.win 9).blk t).view.emb (ix2 r k) = ix2 (row t r) k := by
  blk_ext [idx t, row]

/-- A block's rows are the arrays' rows. -/
theorem sumRow_eq (c : Dev nD) (t : Fin cfg0.N) (r : Fin 256) :
    sumRow (xs m c t) (ys m c t) (g1 m c t) r = ReferenceLn1Ideal.Whole.sumRow (ax m c) (ay m c) (ag m c) (row t r) := by
  funext k
  unfold sumRow ReferenceLn1Ideal.Whole.sumRow
  rw [in2, in3, in4]

theorem dxRow_eq (c : Dev nD) (t : Fin cfg0.N) (r : Fin 256) :
    dxRow (dhs m c t) (dus m c t) (sc m c t) r = ReferenceLn1Ideal.Whole.dxRow (asc m c) (adh m c) (adu m c) (row t r) := by
  funext k
  unfold dxRow ReferenceLn1Ideal.Whole.dxRow
  rw [in0, in1, in7]

/-- The arguments are real numbers. -/
def Reals : Prop := ∀ c : Dev nD, (∀ i, ∃ r : ℝ, ax m c i = r) ∧ (∀ i, ∃ r : ℝ, ay m c i = r) ∧ (∀ i, ∃ r : ℝ, ag m c i = r)
  ∧ (∀ i, ∃ r : ℝ, agm m c i = r) ∧ (∀ i, ∃ r : ℝ, asc m c i = r) ∧ (∀ i, ∃ r : ℝ, adh m c i = r) ∧ ∀ i, ∃ r : ℝ, adu m c i = r

/-- The derivative's arrays. -/
abbrev refDu (c : Dev nD) : FVec Ideal S4096x1024 .f32 := ReferenceLn1Ideal.Read.val_main_v83 (F := Ideal) (ax m c) (ay m c) (ag m c) (agm m c) (asc m c) (adh m c) (adu m c)
abbrev refDy (c : Dev nD) : FVec Ideal S4096x1024 .bf16 := ReferenceLn1Ideal.Read.val_main_v89 (F := Ideal) (ax m c) (ay m c) (ag m c) (agm m c) (asc m c) (adh m c) (adu m c)
abbrev refDsc (c : Dev nD) : FVec Ideal S1x1024 .f32 :=
  ReferenceLn1Ideal.Read.val_main_v49 (F := Ideal) (ax m c) (ay m c) (ag m c) (agm m c) (abt m c) (adh m c)
abbrev refDsh (c : Dev nD) : FVec Ideal S1x1024 .f32 := ReferenceLn1Ideal.Read.val_main_v46 (F := Ideal) (adh m c)
abbrev refDgam (c : Dev nD) : FVec Ideal S1x1024 .f32 :=
  ReferenceLn1Ideal.Read.val_main_v57 (F := Ideal) (ax m c) (ay m c) (ag m c) (asc m c) (adh m c) (adu m c)
abbrev refDbet (c : Dev nD) : FVec Ideal S1x1024 .f32 := ReferenceLn1Ideal.Read.val_main_v54 (F := Ideal) (asc m c) (adh m c) (adu m c)
abbrev refDg (c : Dev nD) : FVec Ideal S1x1024 .f32 := ReferenceLn1Ideal.Read.val_main_v88 (F := Ideal) (ax m c) (ay m c) (ag m c) (agm m c) (asc m c) (adh m c) (adu m c)

/-- The gradient under the norm, as a point leaves it. -/
abbrev duv (c : Dev nD) (t : Fin cfg0.N) : FVec Ideal S256x1024 .f32 :=
  k0_pay23 (F := Ideal) (dhs m c t) (dus m c t) (gm m c t) (sc m c t) (k0_pay17 (xs m c t) (ys m c t) (g1 m c t))

theorem du_eq (h : Reals m) (c : Dev nD) (t : Fin cfg0.N) (r : Fin 256) (e : Fin 1024) :
    duv m c t (ix2 r e) = refDu m c (ix2 (row t r) e) := by
  obtain ⟨hx, hy, hg, hm, hs, hh, hu⟩ := h c
  have hd : ∀ k, ∃ q : ℝ, ReferenceLn1Ideal.Whole.dxRow (asc m c) (adh m c) (adu m c) (row t r) k = q := fun k => by
    obtain ⟨w, hw⟩ := walpha
    obtain ⟨s, hs⟩ := hs (ix2 0 k)
    obtain ⟨d, hd⟩ := hh (ix2 (row t r) k)
    obtain ⟨u, hu⟩ := hu (ix2 (row t r) k)
    exact ⟨w * u + d * (1 + s), by
      rw [ReferenceLn1Ideal.Whole.dxRow, hw, hs, hd, hu, ← EReal.coe_one]; simp only [← EReal.coe_mul, ← EReal.coe_add]⟩
  rw [duv, du_at, refDu, ReferenceLn1Ideal.Whole.du_at, sumRow_eq, dxRow_eq]
  simp only [in5]
  exact ln_eq (fun k => mul_real (hd k) (hm _)) (fun k => res_real (hx _) (hy _) (hg _)) e

theorem dy_eq (h : Reals m) (c : Dev nD) (t : Fin cfg0.N) (r : Fin 256) (e : Fin 1024) :
    k0_pay6 (F := Ideal) (duv m c t) (k0_pay24 (g1 m c t)) (ix2 r e) = refDy m c (ix2 (row t r) e) := by
  rw [dy_at, refDy, ReferenceLn1Ideal.Whole.dy_at, du_eq m h, in4, mul_comm]

theorem row_of (j : S1x1024.Idx) : j = ix2 0 (j 1) := by
  funext a
  fin_cases a
  · exact Subsingleton.elim (α := Fin 1) _ _
  · rfl

/-- What one point adds to the five sums. -/
theorem add10_eq (c : Dev nD) (t : Fin cfg0.N) (acc : Vec Ideal S1x1024 .f32) (j : S1x1024.Idx) :
    k0_pay1 (F := Ideal) (dhs m c t) (k0_pay12 acc) (k0_pay21 (gm m c t) (bt m c t) (k0_pay17 (xs m c t) (ys m c t) (g1 m c t))) j
      = acc j + ∑ r : Fin 256, term10 (ax m c) (ay m c) (ag m c) (agm m c) (abt m c) (adh m c) (j 1) (row t r) := by
  obtain ⟨e, rfl⟩ : ∃ e, j = ix2 0 e := ⟨_, row_of j⟩
  rw [add10]
  change _ = acc (ix2 0 e) + ∑ r : Fin 256, term10 _ _ _ _ _ _ e (row t r)
  refine congrArg (acc (ix2 0 e) + ·) (Finset.sum_congr rfl fun r _ => ?_)
  rw [term10, sumRow_eq, in0, in5, in6, mul_comm]

theorem add11_eq (c : Dev nD) (t : Fin cfg0.N) (acc : Vec Ideal S1x1024 .f32) (j : S1x1024.Idx) :
    k0_pay2 (F := Ideal) (dhs m c t) (k0_pay13 acc) j = acc j + ∑ r : Fin 256, term11 (adh m c) (j 1) (row t r) := by
  obtain ⟨e, rfl⟩ : ∃ e, j = ix2 0 e := ⟨_, row_of j⟩
  rw [add11]
  change _ = acc (ix2 0 e) + ∑ r : Fin 256, term11 _ e (row t r)
  simp only [term11, in0]

theorem add12_eq (c : Dev nD) (t : Fin cfg0.N) (acc : Vec Ideal S1x1024 .f32) (j : S1x1024.Idx) :
    k0_pay3 (F := Ideal) (k0_pay14 acc) (k0_pay20 (k0_pay17 (xs m c t) (ys m c t) (g1 m c t))) (k0_pay22 (dhs m c t) (dus m c t) (sc m c t)) j
      = acc j + ∑ r : Fin 256, term12 (ax m c) (ay m c) (ag m c) (asc m c) (adh m c) (adu m c) (j 1) (row t r) := by
  obtain ⟨e, rfl⟩ : ∃ e, j = ix2 0 e := ⟨_, row_of j⟩
  rw [add12]
  change _ = acc (ix2 0 e) + ∑ r : Fin 256, term12 _ _ _ _ _ _ e (row t r)
  refine congrArg (acc (ix2 0 e) + ·) (Finset.sum_congr rfl fun r _ => ?_)
  rw [term12, sumRow_eq, dxRow_eq, mul_comm]

theorem add13_eq (c : Dev nD) (t : Fin cfg0.N) (acc : Vec Ideal S1x1024 .f32) (j : S1x1024.Idx) :
    k0_pay4 (F := Ideal) (k0_pay15 acc) (k0_pay22 (dhs m c t) (dus m c t) (sc m c t)) j
      = acc j + ∑ r : Fin 256, term13 (asc m c) (adh m c) (adu m c) (j 1) (row t r) := by
  obtain ⟨e, rfl⟩ : ∃ e, j = ix2 0 e := ⟨_, row_of j⟩
  rw [add13]
  change _ = acc (ix2 0 e) + ∑ r : Fin 256, term13 _ _ _ e (row t r)
  simp only [term13, dxRow_eq]

theorem add14_eq (h : Reals m) (c : Dev nD) (t : Fin cfg0.N) (acc : Vec Ideal S1x1024 .f32) (j : S1x1024.Idx) :
    k0_pay5 (F := Ideal) (ys m c t) (k0_pay16 acc) (duv m c t) j
      = acc j + ∑ r : Fin 256, term14 (ax m c) (ay m c) (ag m c) (agm m c) (asc m c) (adh m c) (adu m c) (j 1) (row t r) := by
  obtain ⟨e, rfl⟩ : ∃ e, j = ix2 0 e := ⟨_, row_of j⟩
  rw [add14]
  change _ = acc (ix2 0 e) + ∑ r : Fin 256, term14 _ _ _ _ _ _ _ e (row t r)
  refine congrArg (acc (ix2 0 e) + ·) (Finset.sum_congr rfl fun r _ => ?_)
  rw [term14, du_eq m h, in3]

/-- The gradient under the norm, as an array. -/
theorem final8 (h : Reals m) (c : Dev nD) : (dats m 0 c).arrAt 8 cfg0.N = refDu m c := by
  refine (dats m 0 c).arrAt_eq_of_covers 8 _ (by decide +kernel) fun t _ y => ?_
  blk_simp
  rw [after0_8]
  obtain ⟨r, e, rfl⟩ : ∃ r e, y = ix2 r e := ⟨_, _, (ix2_eta y).symm⟩
  rw [out8]
  by_cases q : t.val % 16 = 0
  · rw [outsAt0_A m c t q]; frame_out
    exact du_eq m h c t r e
  · rw [outsAt0_B m c t q]; frame_out
    exact du_eq m h c t r e

/-- The gradient at the branch under the norm. -/
theorem final9 (h : Reals m) (c : Dev nD) : (dats m 0 c).arrAt 9 cfg0.N = refDy m c := by
  refine (dats m 0 c).arrAt_eq_of_covers 9 _ (by decide +kernel) fun t _ y => ?_
  blk_simp
  rw [after0_9]
  obtain ⟨r, e, rfl⟩ : ∃ r e, y = ix2 r e := ⟨_, _, (ix2_eta y).symm⟩
  rw [out9]
  by_cases q : t.val % 16 = 0
  · rw [outsAt0_A m c t q]; frame_out
    exact dy_eq m h c t r e
  · rw [outsAt0_B m c t q]; frame_out
    exact dy_eq m h c t r e

/-- The gradient at the modulation's scale. -/
theorem final10 (c : Dev nD) : (dats m 0 c).arrAt 10 cfg0.N = refDsc m c := by
  refine (dats m 0 c).arrAt_eq_of_after_last 10 t0_15 (by decide +kernel) _ fun j => ?_
  blk_simp
  rw [after0_10, Pipeline.eq_sum_fin_of_reset_step_apply_last (fun n h => (outsAt0 m c n h).2.2.1) 16 (fun _ => 0) _
    (fun t q j => by rw [outsAt0_A m c t q]; frame_out; exact (add10_eq m c t _ j).trans (by rw [zero7]))
    (fun t q j => by rw [outsAt0_B m c t q]; frame_out; exact add10_eq m c t _ j)
    (le_of_eq N_0) t0_15 rfl j, zero_add]
  obtain ⟨e, rfl⟩ : ∃ e, j = ix2 0 e := ⟨_, row_of j⟩
  rw [refDsc, ReferenceLn1Ideal.Whole.dsc_at]
  exact Fin.sum_mul_add_congr fun t k hl => rfl

/-- The gradient at the modulation's shift. -/
theorem final11 (c : Dev nD) : (dats m 0 c).arrAt 11 cfg0.N = refDsh m c := by
  refine (dats m 0 c).arrAt_eq_of_after_last 11 t0_15 (by decide +kernel) _ fun j => ?_
  blk_simp
  rw [after0_11, Pipeline.eq_sum_fin_of_reset_step_apply_last (fun n h => (outsAt0 m c n h).2.2.2.1) 16 (fun _ => 0) _
    (fun t q j => by rw [outsAt0_A m c t q]; frame_out; exact (add11_eq m c t _ j).trans (by rw [zero8]))
    (fun t q j => by rw [outsAt0_B m c t q]; frame_out; exact add11_eq m c t _ j)
    (le_of_eq N_0) t0_15 rfl j, zero_add]
  obtain ⟨e, rfl⟩ : ∃ e, j = ix2 0 e := ⟨_, row_of j⟩
  rw [refDsh, ReferenceLn1Ideal.Whole.dsh_at]
  exact Fin.sum_mul_add_congr fun t k hl => rfl

/-- The gradient at the norm's scale. -/
theorem final12 (c : Dev nD) : (dats m 0 c).arrAt 12 cfg0.N = refDgam m c := by
  refine (dats m 0 c).arrAt_eq_of_after_last 12 t0_15 (by decide +kernel) _ fun j => ?_
  blk_simp
  rw [after0_12, Pipeline.eq_sum_fin_of_reset_step_apply_last (fun n h => (outsAt0 m c n h).2.2.2.2.1) 16 (fun _ => 0) _
    (fun t q j => by rw [outsAt0_A m c t q]; frame_out; exact (add12_eq m c t _ j).trans (by rw [zero9]))
    (fun t q j => by rw [outsAt0_B m c t q]; frame_out; exact add12_eq m c t _ j)
    (le_of_eq N_0) t0_15 rfl j, zero_add]
  obtain ⟨e, rfl⟩ : ∃ e, j = ix2 0 e := ⟨_, row_of j⟩
  rw [refDgam, ReferenceLn1Ideal.Whole.dgam_at]
  exact Fin.sum_mul_add_congr fun t k hl => rfl

/-- The gradient at the norm's shift. -/
theorem final13 (c : Dev nD) : (dats m 0 c).arrAt 13 cfg0.N = refDbet m c := by
  refine (dats m 0 c).arrAt_eq_of_after_last 13 t0_15 (by decide +kernel) _ fun j => ?_
  blk_simp
  rw [after0_13, Pipeline.eq_sum_fin_of_reset_step_apply_last (fun n h => (outsAt0 m c n h).2.2.2.2.2.1) 16 (fun _ => 0) _
    (fun t q j => by rw [outsAt0_A m c t q]; frame_out; exact (add13_eq m c t _ j).trans (by rw [zero10]))
    (fun t q j => by rw [outsAt0_B m c t q]; frame_out; exact add13_eq m c t _ j)
    (le_of_eq N_0) t0_15 rfl j, zero_add]
  obtain ⟨e, rfl⟩ : ∃ e, j = ix2 0 e := ⟨_, row_of j⟩
  rw [refDbet, ReferenceLn1Ideal.Whole.dbet_at]
  exact Fin.sum_mul_add_congr fun t k hl => rfl

/-- The gradient at the branch's gate. -/
theorem final14 (h : Reals m) (c : Dev nD) : (dats m 0 c).arrAt 14 cfg0.N = refDg m c := by
  refine (dats m 0 c).arrAt_eq_of_after_last 14 t0_15 (by decide +kernel) _ fun j => ?_
  blk_simp
  rw [after0_14, Pipeline.eq_sum_fin_of_reset_step_apply_last (fun n h => (outsAt0 m c n h).2.2.2.2.2.2) 16 (fun _ => 0) _
    (fun t q j => by rw [outsAt0_A m c t q]; frame_out; exact (add14_eq m h c t _ j).trans (by rw [zero11]))
    (fun t q j => by rw [outsAt0_B m c t q]; frame_out; exact add14_eq m h c t _ j)
    (le_of_eq N_0) t0_15 rfl j, zero_add]
  obtain ⟨e, rfl⟩ : ∃ e, j = ix2 0 e := ⟨_, row_of j⟩
  rw [refDg, ReferenceLn1Ideal.Whole.dg_at]
  exact Fin.sum_mul_add_congr fun t k hl => rfl

end Cert.KernelLn1Ideal.Whole

namespace Cert.Proof.Ln1Claims

open Cert.KernelLn1Ideal.Whole Cert.ReferenceLn1Ideal.Read

/-- Where the masks of the precondition are all ones, the arguments it reads are real numbers. -/
theorem real (m : (ℓ : Loc Cert.KernelLn1Ideal.nD Cert.KernelLn1Ideal.τ Cert.KernelLn1Ideal.sig) → Buf (Elt Ideal) ℓ) [Cert.Pre_finite_ln1.Facts] (h : Cert.Pre_KernelLn1Ideal_finite_ln1 m) :
    Reals m := fun c =>
  ⟨fun i => Cert.Rows.finite_of (congrFun (h c).1 i), fun i => Cert.Rows.finite_of (congrFun (h c).2.1 i),
    fun i => Cert.Rows.finite_of (congrFun (h c).2.2.1 i), fun i => Cert.Rows.finite_of (congrFun (h c).2.2.2.1 i),
    fun i => Cert.Rows.finite_of (congrFun (h c).2.2.2.2.1 i), fun i => Cert.Rows.finite_of (congrFun (h c).2.2.2.2.2.1 i),
    fun i => Cert.Rows.finite_of (congrFun (h c).2.2.2.2.2.2 i)⟩

/-- Over the reals the seven results are the derivative's. -/
theorem algebraic [Cert.Pre_finite_ln1.Facts] : Cert.algebraic_KernelLn1Ideal_ReferenceLn1Ideal_pre_finite_ln1 := by
  intro m g m' g' hp hagree
  have hR := real m hp
  refine ⟨refDu m, refDy m, refDsc m, refDsh m, refDgam m, refDbet m, refDg m, ?_, ?_⟩
  · refine (θ_run _ _ _).mono (fun r h c => ?_) (Cert.KernelLn1Ideal.Value.run_blocks m g)
    obtain ⟨h0, h1, h2, h3, h4, h5, h6, hr⟩ := h c
    exact ⟨h0.trans (final8 m hR c), h1.trans (final9 m hR c), h2.trans (final10 m c), h3.trans (final11 m c), h4.trans (final12 m c),
      h5.trans (final13 m c), h6.trans (final14 m hR c), hr⟩
  · refine (θ_run _ _ _).mono (fun r h c => ?_) (Cert.ReferenceLn1Ideal.Value.run m' g')
    obtain ⟨h0, h1, h2, h3, h4, h5, h6, hr⟩ := h c
    obtain ⟨e0, e1, e2, e3, e4, e5, _, e7, e8⟩ := hagree c
    exact ⟨(h0.trans (val_main_v83_eq m' c)).trans (by rw [e0, e1, e2, e3, e5, e7, e8]),
      (h1.trans (val_main_v89_eq m' c)).trans (by rw [e0, e1, e2, e3, e5, e7, e8]),
      (h2.trans (val_main_v49_eq m' c)).trans (by rw [e0, e1, e2, e3, e4, e7]),
      (h3.trans (val_main_v46_eq _)).trans (by rw [e7]),
      (h4.trans (val_main_v57_eq m' c)).trans (by rw [e0, e1, e2, e5, e7, e8]),
      (h5.trans (val_main_v54_eq _ _ _)).trans (by rw [e5, e7, e8]),
      (h6.trans (val_main_v88_eq m' c)).trans (by rw [e0, e1, e2, e3, e5, e7, e8]), hr⟩

end Cert.Proof.Ln1Claims
end
-- ==== Proof.Ln2.lean ====
/- The second layer norm and the loss over it: the value of `_ln2_loss` against the squared errors' column sums and
   the derivative of the loss through the norm. Rows are those of Norms.lean; the four sums over the rows are added up by
   the grid, 256 rows at a point. -/
module

public import proofs.«01_k».proof.Defs
public import proofs.«01_k».proof.Proof.Gen.KernelLn2Ideal.Value
public import proofs.«01_k».proof.Proof.Gen.ReferenceLn2Ideal.Read
public import proofs.«01_k».proof.Proof.Norms
public import Idealize.ShloMosaic.Lib.Pipeline.ValueKit
public import Idealize.ShloMosaic.Lib.Claim
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.KernelLn2Ideal.Whole

open Cert.KernelLn2Ideal Cert.KernelLn2Ideal.Gen Cert.Rows

section
variable (x f t : Vec Ideal S256x1024 .f32) (g gam bet : Vec Ideal S1x1024 .f32)

/-- The row under the norm, and the error above it, of a block's row. -/
def sumRow (r : Fin 256) (k : Fin 1024) : EReal := res (x (ix2 r k)) (f (ix2 r k)) (g (ix2 0 k))
def errRow (r : Fin 256) : Fin 1024 → EReal :=
  err (sumRow x f g r) (fun k => gam (ix2 0 k)) (fun k => bet (ix2 0 k)) (fun k => t (ix2 r k))

theorem cen_at (r : Fin 256) (e : Fin 1024) : k0_pay11 (F := Ideal) x f g (ix2 r e) = cen (sumRow x f g r) e := by
  pointwise [k0_pay11]
  rfl

theorem rstd_at (r : Fin 256) (u : Fin 1) : k0_pay13 (F := Ideal) (k0_pay12 x f g) (ix2 r u) = rstd (sumRow x f g r) := by
  pointwise [k0_pay13, k0_pay12]
  simp only [cen_at]
  rfl

theorem nrm_at (r : Fin 256) (e : Fin 1024) :
    k0_pay14 (F := Ideal) (k0_pay11 x f g) (k0_pay12 x f g) (ix2 r e) = nrm (sumRow x f g r) e := by
  pointwise [k0_pay14]
  rw [cen_at, rstd_at]
  rfl

theorem err_at (r : Fin 256) (e : Fin 1024) :
    k0_pay15 (F := Ideal) t gam bet (k0_pay11 x f g) (k0_pay12 x f g) (ix2 r e) = errRow x f t g gam bet r e := by
  pointwise [k0_pay15]
  rw [nrm_at]
  rfl

theorem dx_at (r : Fin 256) (e : Fin 1024) :
    k0_pay16 (F := Ideal) t gam bet (k0_pay11 x f g) (k0_pay12 x f g) (ix2 r e)
      = errRow x f t g gam bet r e * Ideal.ofBits .f32 0x3A800000#32 := by
  pointwise [k0_pay16]
  rw [err_at]

theorem du_at (r : Fin 256) (e : Fin 1024) :
    k0_pay17 (F := Ideal) t gam bet (k0_pay11 x f g) (k0_pay12 x f g) (ix2 r e)
      = lnK (fun k => errRow x f t g gam bet r k * Ideal.ofBits .f32 0x3A800000#32 * gam (ix2 0 k)) (sumRow x f g r) e := by
  pointwise [k0_pay17]
  simp only [dx_at, nrm_at, rstd_at]
  rfl

theorem dff_at (r : Fin 256) (e : Fin 1024) :
    k0_pay2 (F := Ideal) (k0_pay18 t g gam bet (k0_pay11 x f g) (k0_pay12 x f g)) (ix2 r e)
      = k0_pay17 (F := Ideal) t gam bet (k0_pay11 x f g) (k0_pay12 x f g) (ix2 r e) * (1 + g (ix2 0 e)) := by
  pointwise [k0_pay2, k0_pay18]

/-- What one point adds to the four sums, and the zero rows they start from. -/
theorem add8 (acc : Vec Ideal S1x1024 .f32) (e : Fin 1024) :
    k0_pay19 (F := Ideal) t gam bet (k0_pay7 acc) (k0_pay11 x f g) (k0_pay12 x f g) (ix2 0 e)
      = acc (ix2 0 e) + ∑ r : Fin 256, errRow x f t g gam bet r e * errRow x f t g gam bet r e := by
  pointwise [k0_pay19, k0_pay7]
  simp only [err_at]

theorem add9 (acc : Vec Ideal S1x1024 .f32) (e : Fin 1024) :
    k0_pay20 (F := Ideal) t gam bet (k0_pay8 acc) (k0_pay11 x f g) (k0_pay12 x f g) (ix2 0 e)
      = acc (ix2 0 e) + ∑ r : Fin 256, errRow x f t g gam bet r e * Ideal.ofBits .f32 0x3A800000#32 * nrm (sumRow x f g r) e := by
  pointwise [k0_pay20, k0_pay8]
  simp only [dx_at, nrm_at]

theorem add10 (acc : Vec Ideal S1x1024 .f32) (e : Fin 1024) :
    k0_pay21 (F := Ideal) t gam bet (k0_pay9 acc) (k0_pay11 x f g) (k0_pay12 x f g) (ix2 0 e)
      = acc (ix2 0 e) + ∑ r : Fin 256, errRow x f t g gam bet r e * Ideal.ofBits .f32 0x3A800000#32 := by
  pointwise [k0_pay21, k0_pay9]
  simp only [dx_at]

theorem add11 (d : FVec Ideal S256x1024 .f32) (acc : Vec Ideal S1x1024 .f32) (e : Fin 1024) :
    k0_pay1 (F := Ideal) f (k0_pay10 acc) d (ix2 0 e) = acc (ix2 0 e) + ∑ r : Fin 256, d (ix2 r e) * f (ix2 r e) := by
  pointwise [k0_pay1, k0_pay10]

end

theorem zero3 (j : S1x1024.Idx) : k0_pay3 (F := Ideal) j = 0 := by pointwise [k0_pay3]
theorem zero4 (j : S1x1024.Idx) : k0_pay4 (F := Ideal) j = 0 := by pointwise [k0_pay4]
theorem zero5 (j : S1x1024.Idx) : k0_pay5 (F := Ideal) j = 0 := by pointwise [k0_pay5]
theorem zero6 (j : S1x1024.Idx) : k0_pay6 (F := Ideal) j = 0 := by pointwise [k0_pay6]

end Cert.KernelLn2Ideal.Whole

namespace Cert.ReferenceLn2Ideal.Whole

open Cert.ReferenceLn2Ideal Cert.ReferenceLn2Ideal.Read Cert.Rows

variable (x f t : FVec Ideal S4096x1024 .f32) (g gam bet : FVec Ideal S1x1024 .f32)

/-- The row under the norm, and the error above it, of the arrays' row. -/
def sumRow (r : Fin 4096) (k : Fin 1024) : EReal := res (x (ix2 r k)) (f (ix2 r k)) (g (ix2 0 k))
def errRow (r : Fin 4096) : Fin 1024 → EReal :=
  err (sumRow x f g r) (fun k => gam (ix2 0 k)) (fun k => bet (ix2 0 k)) (fun k => t (ix2 r k))

theorem sum_at (r : Fin 4096) (e : Fin 1024) : val_main_v6 (F := Ideal) x f g (ix2 r e) = sumRow x f g r e := by
  pointwise [val_main_v6, val_main_v5, val_main_v4, val_main_v3, val_main_v2, val_main_cst_0, val_main_v1, val_main_v0, val_main_cst]
  rfl

theorem cen_at (r : Fin 4096) (e : Fin 1024) : val_main_v12 (F := Ideal) x f g (ix2 r e) = cen (sumRow x f g r) e := by
  pointwise [val_main_v12, val_main_v11, val_main_v10, val_main_v9, val_main_v8, val_main_v7, val_main_cst_1, val_main_cst_2]
  simp only [sum_at]
  rfl

theorem cen2_at (r : Fin 4096) (e : Fin 1024) : val_main_v21 (F := Ideal) x f g (ix2 r e) = cen (sumRow x f g r) e :=
  cen_at x f g r e

theorem cen3_at (r : Fin 4096) (e : Fin 1024) : val_main_v90 (F := Ideal) x f g (ix2 r e) = cen (sumRow x f g r) e :=
  cen_at x f g r e

theorem cen4_at (r : Fin 4096) (e : Fin 1024) : val_main_v97 (F := Ideal) x f g (ix2 r e) = cen (sumRow x f g r) e :=
  cen_at x f g r e

theorem var_at (r : Fin 4096) (u : Fin 1) : val_main_v23 (F := Ideal) x f g (ix2 r u) = var (cen (sumRow x f g r)) := by
  pointwise [val_main_v23, val_main_v22, val_main_cst_6, val_main_v19, val_main_v18, val_main_cst_5, val_main_v17, val_main_v16,
    val_main_cst_4, val_main_v13]
  simp only [cen_at]
  rfl

theorem nrm_at (r : Fin 4096) (e : Fin 1024) : val_main_v29 (F := Ideal) x f g (ix2 r e) = nrm (sumRow x f g r) e := by
  pointwise [val_main_v29, val_main_v28, val_main_v24]
  rw [cen2_at, var_at]
  rfl

theorem nrm2_at (r : Fin 4096) (e : Fin 1024) : val_main_v102 (F := Ideal) x f g (ix2 r e) = nrm (sumRow x f g r) e := by
  pointwise [val_main_v102, val_main_v101, val_main_v100, val_main_v99, val_main_v98, val_main_cst_30, val_main_v95, val_main_v94,
    val_main_cst_29, val_main_v93, val_main_v92, val_main_cst_28, val_main_v91]
  simp only [cen3_at, cen4_at]
  rfl

theorem err_at (r : Fin 4096) (e : Fin 1024) : val_main_v34 (F := Ideal) x f t g gam bet (ix2 r e) = errRow x f t g gam bet r e := by
  pointwise [val_main_v34, val_main_v33, val_main_v32, val_main_v31, val_main_v30]
  rw [nrm_at]
  rfl

theorem err2_at (r : Fin 4096) (e : Fin 1024) : val_main_v107 (F := Ideal) x f t g gam bet (ix2 r e) = errRow x f t g gam bet r e := by
  pointwise [val_main_v107, val_main_v106, val_main_v105, val_main_v104, val_main_v103]
  rw [nrm2_at]
  rfl

theorem dx_at (r : Fin 4096) (e : Fin 1024) : val_main_v48 (F := Ideal) x f t g gam bet (ix2 r e)
    = errRow x f t g gam bet r e * Ideal.ofBits .f32 0x3A800000#32 := by
  pointwise [val_main_v48, val_main_v47, val_main_v46, val_main_v45, val_main_v44, val_main_v43, val_main_cst_13, val_main_cst_14,
    val_main_cst_15, val_main_v37, val_main_v36, val_main_cst_8]
  rw [err_at, ← loss_factor, mul_one]

theorem du_at (r : Fin 4096) (e : Fin 1024) : val_main_v79 (F := Ideal) x f t g gam bet (ix2 r e)
    = lnR (fun k => errRow x f t g gam bet r k * Ideal.ofBits .f32 0x3A800000#32 * gam (ix2 0 k)) (sumRow x f g r) e := by
  pointwise [val_main_v79, val_main_v78, val_main_v77, val_main_cst_24, val_main_v76, val_main_v75, val_main_cst_23, val_main_v74,
    val_main_v73, val_main_v72, val_main_v71, val_main_cst_22, val_main_v70, val_main_v69, val_main_v68, val_main_v67, val_main_cst_21,
    val_main_v66, val_main_v65, val_main_cst_20, val_main_v64, val_main_v63, val_main_cst_19, val_main_v62, val_main_v61, val_main_v60,
    val_main_v59, val_main_v58, val_main_v57, val_main_cst_18, val_main_v56, val_main_v55, val_main_v54, val_main_v27, val_main_v26,
    val_main_cst_7, val_main_v25, val_main_v24, val_main_v15, val_main_v14, val_main_cst_3]
  simp only [dx_at, cen_at, cen2_at, var_at, Finset.univ_unique, Finset.sum_singleton]
  rfl

theorem dff_at (r : Fin 4096) (e : Fin 1024) : val_main_v111 (F := Ideal) x f t g gam bet (ix2 r e)
    = (1 + g (ix2 0 e)) * val_main_v79 (F := Ideal) x f t g gam bet (ix2 r e) := by
  pointwise [val_main_v111, val_main_v81, val_main_v80, val_main_v3, val_main_v2, val_main_cst_0]

/-- What one row adds to each of the four sums. -/
def term8 (e : Fin 1024) (r : Fin 4096) : EReal := errRow x f t g gam bet r e * errRow x f t g gam bet r e
def term9 (e : Fin 1024) (r : Fin 4096) : EReal := nrm (sumRow x f g r) e * (errRow x f t g gam bet r e * Ideal.ofBits .f32 0x3A800000#32)
def term10 (e : Fin 1024) (r : Fin 4096) : EReal := errRow x f t g gam bet r e * Ideal.ofBits .f32 0x3A800000#32
def term11 (e : Fin 1024) (r : Fin 4096) : EReal := val_main_v79 (F := Ideal) x f t g gam bet (ix2 r e) * f (ix2 r e)

theorem loss_at (e : Fin 1024) : val_main_v110 (F := Ideal) x f t g gam bet (ix2 0 e) = ∑ r : Fin 4096, term8 x f t g gam bet e r := by
  pointwise [val_main_v110, val_main_v109, val_main_cst_31, val_main_v108]
  simp only [err2_at]
  rfl

theorem dgam_at (e : Fin 1024) : val_main_v53 (F := Ideal) x f t g gam bet (ix2 0 e) = ∑ r : Fin 4096, term9 x f t g gam bet e r := by
  pointwise [val_main_v53, val_main_v52, val_main_cst_17, val_main_v51]
  simp only [dx_at, nrm_at]
  rfl

theorem dbet_at (e : Fin 1024) : val_main_v50 (F := Ideal) x f t g gam bet (ix2 0 e) = ∑ r : Fin 4096, term10 x f t g gam bet e r := by
  pointwise [val_main_v50, val_main_v49, val_main_cst_16]
  simp only [dx_at]
  rfl

theorem dg_at (e : Fin 1024) : val_main_v84 (F := Ideal) x f t g gam bet (ix2 0 e) = ∑ r : Fin 4096, term11 x f t g gam bet e r := by
  pointwise [val_main_v84, val_main_v83, val_main_cst_25, val_main_v82]
  rfl

end Cert.ReferenceLn2Ideal.Whole

namespace Cert.KernelLn2Ideal.Whole
open Cert.KernelLn2Ideal Cert.KernelLn2Ideal.Gen Cert.Rows
open Cert.ReferenceLn2Ideal.Whole (term8 term9 term10 term11)

variable (m : (ℓ : Loc nD τ sig) → Buf (Elt Ideal) ℓ)

/-- Where each window's block sits: row block `t` of the big arrays, the one row of the small ones. -/
theorem idx : ∀ t : Fin cfg0.N, win0_0.index t = ![t.val, 0] ∧ win0_1.index t = ![t.val, 0]
    ∧ win0_2.index t = ![t.val, 0] ∧ win0_3.index t = ![0, 0] ∧ win0_4.index t = ![0, 0]
    ∧ win0_5.index t = ![0, 0] ∧ win0_6.index t = ![t.val, 0] ∧ win0_7.index t = ![t.val, 0]
    ∧ win0_8.index t = ![0, 0] ∧ win0_9.index t = ![0, 0] ∧ win0_10.index t = ![0, 0] ∧ win0_11.index t = ![0, 0] :=
  (by decide +kernel : ∀ t : Fin grid0.N, _)

/-- The row of the arrays that row `r` of a point's block is. -/
def row (t : Fin cfg0.N) (r : Fin 256) : Fin 4096 := ⟨t.val * 256 + r.val, by have := Nat.lt_of_lt_of_eq t.isLt N_0; omega⟩

/-- The rows a point works on. -/
abbrev xs (c : Dev nD) (t : Fin cfg0.N) : Vec Ideal S256x1024 .f32 := iblk m c 0 t
abbrev fs (c : Dev nD) (t : Fin cfg0.N) : Vec Ideal S256x1024 .f32 := iblk m c 1 t
abbrev ts (c : Dev nD) (t : Fin cfg0.N) : Vec Ideal S256x1024 .f32 := iblk m c 2 t
abbrev g2 (c : Dev nD) (t : Fin cfg0.N) : Vec Ideal S1x1024 .f32 := iblk m c 3 t
abbrev gm (c : Dev nD) (t : Fin cfg0.N) : Vec Ideal S1x1024 .f32 := iblk m c 4 t
abbrev bt (c : Dev nD) (t : Fin cfg0.N) : Vec Ideal S1x1024 .f32 := iblk m c 5 t

/-- The arrays they are rows of. -/
abbrev ax (c : Dev nD) : FVec Ideal S4096x1024 .f32 := m ((c : Thread nD τ).loc main_arg0)
abbrev af (c : Dev nD) : FVec Ideal S4096x1024 .f32 := m ((c : Thread nD τ).loc main_arg1)
abbrev atg (c : Dev nD) : FVec Ideal S4096x1024 .f32 := m ((c : Thread nD τ).loc main_arg2)
abbrev ag (c : Dev nD) : FVec Ideal S1x1024 .f32 := m ((c : Thread nD τ).loc main_arg3)
abbrev agm (c : Dev nD) : FVec Ideal S1x1024 .f32 := m ((c : Thread nD τ).loc main_arg4)
abbrev abt (c : Dev nD) : FVec Ideal S1x1024 .f32 := m ((c : Thread nD τ).loc main_arg5)

theorem in0 (c : Dev nD) (t : Fin cfg0.N) (r : Fin 256) (k : Fin 1024) : xs m c t (ix2 r k) = ax m c (ix2 (row t r) k) := by
  blk_point [xs, iblk, V, idx t, row]
theorem in1 (c : Dev nD) (t : Fin cfg0.N) (r : Fin 256) (k : Fin 1024) : fs m c t (ix2 r k) = af m c (ix2 (row t r) k) := by
  blk_point [fs, iblk, V, idx t, row]
theorem in2 (c : Dev nD) (t : Fin cfg0.N) (r : Fin 256) (k : Fin 1024) : ts m c t (ix2 r k) = atg m c (ix2 (row t r) k) := by
  blk_point [ts, iblk, V, idx t, row]
theorem in3 (c : Dev nD) (t : Fin cfg0.N) (k : Fin 1024) : g2 m c t (ix2 0 k) = ag m c (ix2 0 k) := by
  blk_point [g2, iblk, V, idx t]
theorem in4 (c : Dev nD) (t : Fin cfg0.N) (k : Fin 1024) : gm m c t (ix2 0 k) = agm m c (ix2 0 k) := by
  blk_point [gm, iblk, V, idx t]
theorem in5 (c : Dev nD) (t : Fin cfg0.N) (k : Fin 1024) : bt m c t (ix2 0 k) = abt m c (ix2 0 k) := by
  blk_point [bt, iblk, V, idx t]

theorem out6 (t : Fin cfg0.N) (r : Fin 256) (k : Fin 1024) : ((cfg0.win 6).blk t).view.emb (ix2 r k) = ix2 (row t r) k := by
  blk_ext [idx t, row]
theorem out7 (t : Fin cfg0.N) (r : Fin 256) (k : Fin 1024) : ((cfg0.win 7).blk t).view.emb (ix2 r k) = ix2 (row t r) k := by
  blk_ext [idx t, row]

/-- A block's rows are the arrays' rows. -/
theorem sumRow_eq (c : Dev nD) (t : Fin cfg0.N) (r : Fin 256) :
    sumRow (xs m c t) (fs m c t) (g2 m c t) r = ReferenceLn2Ideal.Whole.sumRow (ax m c) (af m c) (ag m c) (row t r) := by
  funext k
  unfold sumRow ReferenceLn2Ideal.Whole.sumRow
  rw [in0, in1, in3]

theorem errRow_eq (c : Dev nD) (t : Fin cfg0.N) (r : Fin 256) :
    errRow (xs m c t) (fs m c t) (ts m c t) (g2 m c t) (gm m c t) (bt m c t) r
      = ReferenceLn2Ideal.Whole.errRow (ax m c) (af m c) (atg m c) (ag m c) (agm m c) (abt m c) (row t r) := by
  unfold errRow ReferenceLn2Ideal.Whole.errRow
  rw [sumRow_eq]
  congr 1 <;> funext k
  · rw [in4]
  · rw [in5]
  · rw [in2]

/-- The arguments are real numbers. -/
def Reals : Prop := ∀ c : Dev nD, (∀ i, ∃ r : ℝ, ax m c i = r) ∧ (∀ i, ∃ r : ℝ, af m c i = r) ∧ (∀ i, ∃ r : ℝ, atg m c i = r)
  ∧ (∀ i, ∃ r : ℝ, ag m c i = r) ∧ (∀ i, ∃ r : ℝ, agm m c i = r) ∧ ∀ i, ∃ r : ℝ, abt m c i = r

abbrev refDu (c : Dev nD) : FVec Ideal S4096x1024 .f32 :=
  ReferenceLn2Ideal.Read.val_main_v79 (F := Ideal) (ax m c) (af m c) (atg m c) (ag m c) (agm m c) (abt m c)

/-- The gradient under the norm. -/
theorem du_eq (h : Reals m) (c : Dev nD) (t : Fin cfg0.N) (r : Fin 256) (e : Fin 1024) :
    k0_pay17 (F := Ideal) (ts m c t) (gm m c t) (bt m c t) (k0_pay11 (xs m c t) (fs m c t) (g2 m c t)) (k0_pay12 (xs m c t) (fs m c t) (g2 m c t)) (ix2 r e)
      = refDu m c (ix2 (row t r) e) := by
  obtain ⟨hx, hf, ht, hg, hm, hb⟩ := h c
  have hs : ∀ k, ∃ q : ℝ, ReferenceLn2Ideal.Whole.sumRow (ax m c) (af m c) (ag m c) (row t r) k = q :=
    fun k => res_real (hx _) (hf _) (hg _)
  rw [du_at, refDu, ReferenceLn2Ideal.Whole.du_at, sumRow_eq, errRow_eq]
  simp only [in4]
  exact ln_eq (fun k => mul_real (mul_real (err_real hs (fun k => hm _) (fun k => hb _) (fun k => ht _) k) ⟨_, winv⟩) (hm _)) hs e

theorem dff_eq (h : Reals m) (c : Dev nD) (t : Fin cfg0.N) (r : Fin 256) (e : Fin 1024) :
    k0_pay2 (F := Ideal) (k0_pay18 (ts m c t) (g2 m c t) (gm m c t) (bt m c t) (k0_pay11 (xs m c t) (fs m c t) (g2 m c t)) (k0_pay12 (xs m c t) (fs m c t) (g2 m c t))) (ix2 r e)
      = ReferenceLn2Ideal.Read.val_main_v111 (F := Ideal) (ax m c) (af m c) (atg m c) (ag m c) (agm m c) (abt m c) (ix2 (row t r) e) := by
  rw [dff_at, ReferenceLn2Ideal.Whole.dff_at, du_eq m h, in3, mul_comm]

theorem row_of (j : S1x1024.Idx) : j = ix2 0 (j 1) := by
  funext a
  fin_cases a
  · exact Subsingleton.elim (α := Fin 1) _ _
  · rfl

/-- What one point adds to the four sums. -/
theorem add8_eq (c : Dev nD) (t : Fin cfg0.N) (acc : Vec Ideal S1x1024 .f32) (j : S1x1024.Idx) :
    k0_pay19 (F := Ideal) (ts m c t) (gm m c t) (bt m c t) (k0_pay7 acc) (k0_pay11 (xs m c t) (fs m c t) (g2 m c t)) (k0_pay12 (xs m c t) (fs m c t) (g2 m c t)) j
      = acc j + ∑ r : Fin 256, term8 (ax m c) (af m c) (atg m c) (ag m c) (agm m c) (abt m c) (j 1) (row t r) := by
  obtain ⟨e, rfl⟩ : ∃ e, j = ix2 0 e := ⟨_, row_of j⟩
  rw [add8]
  change _ = acc (ix2 0 e) + ∑ r : Fin 256, term8 _ _ _ _ _ _ e (row t r)
  simp only [term8, errRow_eq]

theorem add9_eq (c : Dev nD) (t : Fin cfg0.N) (acc : Vec Ideal S1x1024 .f32) (j : S1x1024.Idx) :
    k0_pay20 (F := Ideal) (ts m c t) (gm m c t) (bt m c t) (k0_pay8 acc) (k0_pay11 (xs m c t) (fs m c t) (g2 m c t)) (k0_pay12 (xs m c t) (fs m c t) (g2 m c t)) j
      = acc j + ∑ r : Fin 256, term9 (ax m c) (af m c) (atg m c) (ag m c) (agm m c) (abt m c) (j 1) (row t r) := by
  obtain ⟨e, rfl⟩ : ∃ e, j = ix2 0 e := ⟨_, row_of j⟩
  rw [add9]
  change _ = acc (ix2 0 e) + ∑ r : Fin 256, term9 _ _ _ _ _ _ e (row t r)
  refine congrArg (acc (ix2 0 e) + ·) (Finset.sum_congr rfl fun r _ => ?_)
  rw [term9, errRow_eq, sumRow_eq, mul_comm]

theorem add10_eq (c : Dev nD) (t : Fin cfg0.N) (acc : Vec Ideal S1x1024 .f32) (j : S1x1024.Idx) :
    k0_pay21 (F := Ideal) (ts m c t) (gm m c t) (bt m c t) (k0_pay9 acc) (k0_pay11 (xs m c t) (fs m c t) (g2 m c t)) (k0_pay12 (xs m c t) (fs m c t) (g2 m c t)) j
      = acc j + ∑ r : Fin 256, term10 (ax m c) (af m c) (atg m c) (ag m c) (agm m c) (abt m c) (j 1) (row t r) := by
  obtain ⟨e, rfl⟩ : ∃ e, j = ix2 0 e := ⟨_, row_of j⟩
  rw [add10]
  change _ = acc (ix2 0 e) + ∑ r : Fin 256, term10 _ _ _ _ _ _ e (row t r)
  simp only [term10, errRow_eq]

theorem add11_eq (h : Reals m) (c : Dev nD) (t : Fin cfg0.N) (acc : Vec Ideal S1x1024 .f32) (j : S1x1024.Idx) :
    k0_pay1 (F := Ideal) (fs m c t) (k0_pay10 acc) (k0_pay17 (F := Ideal) (ts m c t) (gm m c t) (bt m c t) (k0_pay11 (xs m c t) (fs m c t) (g2 m c t)) (k0_pay12 (xs m c t) (fs m c t) (g2 m c t))) j
      = acc j + ∑ r : Fin 256, term11 (ax m c) (af m c) (atg m c) (ag m c) (agm m c) (abt m c) (j 1) (row t r) := by
  obtain ⟨e, rfl⟩ : ∃ e, j = ix2 0 e := ⟨_, row_of j⟩
  rw [add11]
  change _ = acc (ix2 0 e) + ∑ r : Fin 256, term11 _ _ _ _ _ _ e (row t r)
  refine congrArg (acc (ix2 0 e) + ·) (Finset.sum_congr rfl fun r _ => ?_)
  rw [term11, du_eq m h, in1]

/-- The gradient under the norm, as an array. -/
theorem final6 (h : Reals m) (c : Dev nD) : (dats m 0 c).arrAt 6 cfg0.N = refDu m c := by
  refine (dats m 0 c).arrAt_eq_of_covers 6 _ (by decide +kernel) fun t _ y => ?_
  blk_simp
  rw [after0_6]
  obtain ⟨r, e, rfl⟩ : ∃ r e, y = ix2 r e := ⟨_, _, (ix2_eta y).symm⟩
  rw [out6]
  by_cases q : t.val % 16 = 0
  · rw [outsAt0_A m c t q]; frame_out
    exact du_eq m h c t r e
  · rw [outsAt0_B m c t q]; frame_out
    exact du_eq m h c t r e

/-- The gradient at the branch under the norm. -/
theorem final7 (h : Reals m) (c : Dev nD) : (dats m 0 c).arrAt 7 cfg0.N
    = ReferenceLn2Ideal.Read.val_main_v111 (F := Ideal) (ax m c) (af m c) (atg m c) (ag m c) (agm m c) (abt m c) := by
  refine (dats m 0 c).arrAt_eq_of_covers 7 _ (by decide +kernel) fun t _ y => ?_
  blk_simp
  rw [after0_7]
  obtain ⟨r, e, rfl⟩ : ∃ r e, y = ix2 r e := ⟨_, _, (ix2_eta y).symm⟩
  rw [out7]
  by_cases q : t.val % 16 = 0
  · rw [outsAt0_A m c t q]; frame_out
    exact dff_eq m h c t r e
  · rw [outsAt0_B m c t q]; frame_out
    exact dff_eq m h c t r e

/-- The squared errors' column sums. -/
theorem final8 (c : Dev nD) : (dats m 0 c).arrAt 8 cfg0.N
    = ReferenceLn2Ideal.Read.val_main_v110 (F := Ideal) (ax m c) (af m c) (atg m c) (ag m c) (agm m c) (abt m c) := by
  refine (dats m 0 c).arrAt_eq_of_after_last 8 t0_15 (by decide +kernel) _ fun j => ?_
  blk_simp
  rw [after0_8, Pipeline.eq_sum_fin_of_reset_step_apply_last (fun n h => (outsAt0 m c n h).2.2.1) 16 (fun _ => 0) _
    (fun t q j => by rw [outsAt0_A m c t q]; frame_out; exact (add8_eq m c t _ j).trans (by rw [zero3]))
    (fun t q j => by rw [outsAt0_B m c t q]; frame_out; exact add8_eq m c t _ j)
    (le_of_eq N_0) t0_15 rfl j, zero_add]
  obtain ⟨e, rfl⟩ : ∃ e, j = ix2 0 e := ⟨_, row_of j⟩
  rw [ReferenceLn2Ideal.Whole.loss_at]
  exact Fin.sum_mul_add_congr fun t k hl => rfl

/-- The gradient at the norm's scale. -/
theorem final9 (c : Dev nD) : (dats m 0 c).arrAt 9 cfg0.N
    = ReferenceLn2Ideal.Read.val_main_v53 (F := Ideal) (ax m c) (af m c) (atg m c) (ag m c) (agm m c) (abt m c) := by
  refine (dats m 0 c).arrAt_eq_of_after_last 9 t0_15 (by decide +kernel) _ fun j => ?_
  blk_simp
  rw [after0_9, Pipeline.eq_sum_fin_of_reset_step_apply_last (fun n h => (outsAt0 m c n h).2.2.2.1) 16 (fun _ => 0) _
    (fun t q j => by rw [outsAt0_A m c t q]; frame_out; exact (add9_eq m c t _ j).trans (by rw [zero4]))
    (fun t q j => by rw [outsAt0_B m c t q]; frame_out; exact add9_eq m c t _ j)
    (le_of_eq N_0) t0_15 rfl j, zero_add]
  obtain ⟨e, rfl⟩ : ∃ e, j = ix2 0 e := ⟨_, row_of j⟩
  rw [ReferenceLn2Ideal.Whole.dgam_at]
  exact Fin.sum_mul_add_congr fun t k hl => rfl

/-- The gradient at the norm's shift. -/
theorem final10 (c : Dev nD) : (dats m 0 c).arrAt 10 cfg0.N
    = ReferenceLn2Ideal.Read.val_main_v50 (F := Ideal) (ax m c) (af m c) (atg m c) (ag m c) (agm m c) (abt m c) := by
  refine (dats m 0 c).arrAt_eq_of_after_last 10 t0_15 (by decide +kernel) _ fun j => ?_
  blk_simp
  rw [after0_10, Pipeline.eq_sum_fin_of_reset_step_apply_last (fun n h => (outsAt0 m c n h).2.2.2.2.1) 16 (fun _ => 0) _
    (fun t q j => by rw [outsAt0_A m c t q]; frame_out; exact (add10_eq m c t _ j).trans (by rw [zero5]))
    (fun t q j => by rw [outsAt0_B m c t q]; frame_out; exact add10_eq m c t _ j)
    (le_of_eq N_0) t0_15 rfl j, zero_add]
  obtain ⟨e, rfl⟩ : ∃ e, j = ix2 0 e := ⟨_, row_of j⟩
  rw [ReferenceLn2Ideal.Whole.dbet_at]
  exact Fin.sum_mul_add_congr fun t k hl => rfl

/-- The gradient at the branch's gate. -/
theorem final11 (h : Reals m) (c : Dev nD) : (dats m 0 c).arrAt 11 cfg0.N
    = ReferenceLn2Ideal.Read.val_main_v84 (F := Ideal) (ax m c) (af m c) (atg m c) (ag m c) (agm m c) (abt m c) := by
  refine (dats m 0 c).arrAt_eq_of_after_last 11 t0_15 (by decide +kernel) _ fun j => ?_
  blk_simp
  rw [after0_11, Pipeline.eq_sum_fin_of_reset_step_apply_last (fun n h => (outsAt0 m c n h).2.2.2.2.2) 16 (fun _ => 0) _
    (fun t q j => by rw [outsAt0_A m c t q]; frame_out; exact (add11_eq m h c t _ j).trans (by rw [zero6]))
    (fun t q j => by rw [outsAt0_B m c t q]; frame_out; exact add11_eq m h c t _ j)
    (le_of_eq N_0) t0_15 rfl j, zero_add]
  obtain ⟨e, rfl⟩ : ∃ e, j = ix2 0 e := ⟨_, row_of j⟩
  rw [ReferenceLn2Ideal.Whole.dg_at]
  exact Fin.sum_mul_add_congr fun t k hl => rfl

end Cert.KernelLn2Ideal.Whole

namespace Cert.Proof.Ln2Claims

open Cert.KernelLn2Ideal.Whole Cert.ReferenceLn2Ideal.Read

/-- Where the masks of the precondition are all ones, the arguments are real numbers. -/
theorem real (m : (ℓ : Loc Cert.KernelLn2Ideal.nD Cert.KernelLn2Ideal.τ Cert.KernelLn2Ideal.sig) → Buf (Elt Ideal) ℓ) [Cert.Pre_finite_ln2.Facts] (h : Cert.Pre_KernelLn2Ideal_finite_ln2 m) :
    Reals m := fun c =>
  ⟨fun i => Cert.Rows.finite_of (congrFun (h c).1 i), fun i => Cert.Rows.finite_of (congrFun (h c).2.1 i),
    fun i => Cert.Rows.finite_of (congrFun (h c).2.2.1 i), fun i => Cert.Rows.finite_of (congrFun (h c).2.2.2.1 i),
    fun i => Cert.Rows.finite_of (congrFun (h c).2.2.2.2.1 i), fun i => Cert.Rows.finite_of (congrFun (h c).2.2.2.2.2 i)⟩

/-- Over the reals the six results are the derivative's and the squared errors' sums. -/
theorem algebraic [Cert.Pre_finite_ln2.Facts] : Cert.algebraic_KernelLn2Ideal_ReferenceLn2Ideal_pre_finite_ln2 := by
  intro m g m' g' hp hagree
  have hR := real m hp
  refine ⟨fun c => refDu m c, fun c => val_main_v111 (F := Ideal) (ax m c) (af m c) (atg m c) (ag m c) (agm m c) (abt m c),
    fun c => val_main_v110 (F := Ideal) (ax m c) (af m c) (atg m c) (ag m c) (agm m c) (abt m c),
    fun c => val_main_v53 (F := Ideal) (ax m c) (af m c) (atg m c) (ag m c) (agm m c) (abt m c),
    fun c => val_main_v50 (F := Ideal) (ax m c) (af m c) (atg m c) (ag m c) (agm m c) (abt m c),
    fun c => val_main_v84 (F := Ideal) (ax m c) (af m c) (atg m c) (ag m c) (agm m c) (abt m c), ?_, ?_⟩
  · refine (θ_run _ _ _).mono (fun r h c => ?_) (Cert.KernelLn2Ideal.Value.run_blocks m g)
    obtain ⟨h0, h1, h2, h3, h4, h5, hr⟩ := h c
    exact ⟨h0.trans (final6 m hR c), h1.trans (final7 m hR c), h2.trans (final8 m c), h3.trans (final9 m c), h4.trans (final10 m c),
      h5.trans (final11 m hR c), hr⟩
  · refine (θ_run _ _ _).mono (fun r h c => ?_) (Cert.ReferenceLn2Ideal.Value.run m' g')
    obtain ⟨h0, h1, h2, h3, h4, h5, hr⟩ := h c
    obtain ⟨e0, e1, e2, e3, e4, e5⟩ := hagree c
    exact ⟨(h0.trans (val_main_v79_eq m' c)).trans (by rw [e0, e1, e2, e3, e4, e5]),
      (h1.trans (val_main_v111_eq m' c)).trans (by rw [e0, e1, e2, e3, e4, e5]),
      (h2.trans (val_main_v110_eq m' c)).trans (by rw [e0, e1, e2, e3, e4, e5]),
      (h3.trans (val_main_v53_eq m' c)).trans (by rw [e0, e1, e2, e3, e4, e5]),
      (h4.trans (val_main_v50_eq m' c)).trans (by rw [e0, e1, e2, e3, e4, e5]),
      (h5.trans (val_main_v84_eq m' c)).trans (by rw [e0, e1, e2, e3, e4, e5]), hr⟩

end Cert.Proof.Ln2Claims
end
-- ==== Proof.Gate.lean ====
/- The hidden layer's squared ReLU: the value of `_mm_nt` with the gate's gradient over its tiles, against the derivative
   of the product with the second weight at the square of the ReLU. A tile is one whole product, and where the hidden value
   is not positive both sides are zero, so nothing need be finite. -/
module

public import proofs.«01_k».proof.Defs
public import proofs.«01_k».proof.Proof.Gen.KernelGateIdeal.Value
public import proofs.«01_k».proof.Proof.Gen.ReferenceGateIdeal.Read
public import Idealize.ShloMosaic.Lib.Pipeline.ValueKit
public import Idealize.ShloMosaic.Lib.Claim
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.KernelGateIdeal.Whole

open Cert.KernelGateIdeal Cert.KernelGateIdeal.Gen
open Cert.ReferenceGateIdeal.Read

variable (m : (ℓ : Loc nD τ sig) → Buf (Elt Ideal) ℓ)

/-- The weight two. -/
def two : EReal := Ideal.ofBits .f32 0x40000000#32

/-- The cotangent of a hidden value. -/
def grad (d a : EReal) : EReal := d * (two * max a 0)

/-- A tile's entry. -/
theorem pay (x0 x1 : FVec Ideal S512x1024 .bf16) (x2 : FVec Ideal S512x512 .f32) (r k : Fin 512) :
    k0_pay1 (F := Ideal) x0 x1 x2 (ix2 r k) = grad (∑ e : Fin 1024, x0 (ix2 r e) * x1 (ix2 k e)) (x2 (ix2 r k)) := by
  pointwise [k0_pay1]
  rfl

/-- The derivative's entry. -/
theorem ref (a : FVec Ideal S4096x4096 .f32) (w d : FVec Ideal S4096x1024 .bf16) (r k : Fin 4096) :
    val_main_v14 (F := Ideal) a w d (ix2 r k) = grad (∑ e : Fin 1024, d (ix2 r e) * w (ix2 k e)) (a (ix2 r k)) := by
  pointwise [val_main_v14, val_main_v13, val_main_v12, val_main_v11, val_main_v10, val_main_v9, val_main_v7, val_main_v6, val_main_v5, val_main_v2, val_main_v1,
    val_main_v0, val_main_call0_v0, val_main_call0_cst, val_main_cst, val_main_cst_1, val_main_cst_2]
  unfold grad two
  split_ifs with h
  · rfl
  · rw [max_eq_right (not_lt.mp h), mul_zero, mul_zero]

/-- Where each window's block sits. -/
theorem idx : ∀ t : Fin cfg0.N, win0_0.index t = ![t.val / 8, 0] ∧ win0_1.index t = ![t.val % 8, 0]
    ∧ win0_2.index t = ![t.val / 8, t.val % 8] ∧ win0_3.index t = ![t.val / 8, t.val % 8] :=
  (by decide +kernel : ∀ t : Fin grid0.N, _)

/-- A point's tile is the derivative's block. -/
theorem point (c : Dev nD) (t : Fin cfg0.N) (r k : Fin 512) :
    k0_pay1 (F := Ideal) (iblk m c 0 t) (iblk m c 1 t) (iblk m c 2 t) (ix2 r k)
      = val_main_v14 (F := Ideal) (m ((c : Thread nD τ).loc main_arg0)) (m ((c : Thread nD τ).loc main_arg1)) (m ((c : Thread nD τ).loc main_arg2))
          (((cfg0.win 3).blk t).view.emb (ix2 r k)) := by
  have hN : t.val < 64 := lt_of_lt_of_eq t.isLt N_0
  have he : ((cfg0.win 3).blk t).view.emb (ix2 r k)
      = ix2 (⟨512 * (t.val / 8) + r.val, by omega⟩ : Fin 4096) (⟨512 * (t.val % 8) + k.val, by omega⟩ : Fin 4096) := by
    blk_point [idx t]
  have h0 (e : Fin 1024) : (iblk m c 0 t : FVec Ideal S512x1024 .bf16) (ix2 r e)
      = (m ((c : Thread nD τ).loc main_arg2) : FVec Ideal S4096x1024 .bf16) (ix2 (⟨512 * (t.val / 8) + r.val, by omega⟩ : Fin 4096) e) := by
    blk_point [iblk, V, idx t]
  have h1 (e : Fin 1024) : (iblk m c 1 t : FVec Ideal S512x1024 .bf16) (ix2 k e)
      = (m ((c : Thread nD τ).loc main_arg1) : FVec Ideal S4096x1024 .bf16) (ix2 (⟨512 * (t.val % 8) + k.val, by omega⟩ : Fin 4096) e) := by
    blk_point [iblk, V, idx t]
  have h2 : (iblk m c 2 t : FVec Ideal S512x512 .f32) (ix2 r k) = (m ((c : Thread nD τ).loc main_arg0) : FVec Ideal S4096x4096 .f32)
      (ix2 (⟨512 * (t.val / 8) + r.val, by omega⟩ : Fin 4096) (⟨512 * (t.val % 8) + k.val, by omega⟩ : Fin 4096)) := by
    blk_point [iblk, V, idx t]
  rw [he, ref, pay, h2]
  exact congrArg (grad · _) (Finset.sum_congr rfl fun e _ => congrArg₂ (· * ·) (h0 e) (h1 e))

theorem final (c : Dev nD) : (dats m 0 c).arrAt 3 cfg0.N
    = val_main_v14 (F := Ideal) (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]
  frame_out
  obtain ⟨r, k, rfl⟩ : ∃ r k : Fin 512, y = ix2 r k := ⟨y 0, y 1, by ext i; fin_cases i <;> rfl⟩
  exact point m c t r k

end Cert.KernelGateIdeal.Whole

namespace Cert.Proof.GateClaims

open Cert.KernelGateIdeal.Whole Cert.ReferenceGateIdeal.Read

/-- Over the reals the result is the derivative. -/
theorem algebraic : Cert.algebraic_KernelGateIdeal_ReferenceGateIdeal := by
  intro m g m' g' _ hagree
  refine ⟨fun c => val_main_v14 (F := Ideal) (m (c.tc.loc Cert.KernelGateIdeal.main_arg0)) (m (c.tc.loc Cert.KernelGateIdeal.main_arg1))
    (m (c.tc.loc Cert.KernelGateIdeal.main_arg2)), ?_, ?_⟩
  · refine (θ_run _ _ _).mono (fun r h c => ?_) (Cert.KernelGateIdeal.Value.run_blocks m g)
    obtain ⟨h0, hr⟩ := h c
    exact ⟨h0.trans (final m c), hr⟩
  · refine (θ_run _ _ _).mono (fun r h c => ?_) (Cert.ReferenceGateIdeal.Value.run m' g')
    obtain ⟨h0, hr⟩ := h c
    obtain ⟨e0, e1, e2⟩ := hagree c
    exact ⟨(h0.trans (val_main_v14_eq _ _ _)).trans (by rw [e0, e1, e2]), hr⟩

end Cert.Proof.GateClaims
end
-- ==== Proof.Cum.lean ====
/- The forget gates: the value of `cum_bwd` over its grid, which walks the row blocks from the last to the first and carries
   the running sum of the cotangents, against the derivative of the running sum of the gates' logarithms. -/
module

public import proofs.«01_k».proof.Defs
public import proofs.«01_k».proof.Proof.Gen.KernelCumIdeal.Value
public import proofs.«01_k».proof.Proof.Gen.ReferenceCumIdeal.Read
public import proofs.«01_k».proof.Proof.Rows
public import Idealize.ShloMosaic.Lib.Pipeline.ValueKit
public import Idealize.ShloMosaic.Lib.Routing.OpsOne
public import Idealize.ShloMosaic.Lib.Claim
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Proof.Cum

/-- The sum of a column from a row on. -/
def suf (f : ℕ → EReal) (R : ℕ) : EReal := ∑ n ∈ Finset.Ico R 4096, f n

/-- A column as a function of the row's number, zero past the end. -/
def col {C : ℕ} (x : (⟨2, ![4096, C]⟩ : Shape).Idx → EReal) (k : Fin C) (n : ℕ) : EReal := if h : n < 4096 then x (ix2 ⟨n, h⟩ k) else 0

theorem foldl_add {ι : Type} (g : ι → EReal) (l : List ι) (v : EReal) : l.foldl (fun r n => r + g n) v = v + (l.map g).sum := by
  induction l generalizing v with
  | nil => simp
  | cons a l ih => rw [List.foldl_cons, ih, List.map_cons, List.sum_cons, add_assoc]

open Cert.ReferenceCumIdeal Cert.ReferenceCumIdeal.Read

/-- The reversed running sum is the sum from the row on. -/
theorem suffix (x : FVec Ideal S4096x16 .f32) (r : Fin 4096) (k : Fin 16) :
    val_main_v4 (F := Ideal) x (ix2 r k) = suf (col x k) r.val := by
  have z : val_main_call2_call0_v0 (F := Ideal) (Shape.Idx.first Gen.h_S_) = 0 := by
    pointwise [val_main_call2_call0_v0, val_main_call2_call0_cst]
  have w0 (n : Fin (Idealize.ShloMosaic.Routing.shape2 4096 1).numel) : ((Idealize.ShloMosaic.Routing.shape2 4096 1).rowMajor.symm n 0).val = n.val := by
    rw [Routing.symm_col]; rfl
  have w1 (n : Fin (Idealize.ShloMosaic.Routing.shape2 4096 1).numel) : ((Idealize.ShloMosaic.Routing.shape2 4096 1).rowMajor.symm n 1).val = 0 := by
    rw [Routing.symm_col]; rfl
  unfold val_main_v4 Host.reduceWindowAdd
  show Ideal.hostReduceWindowAdd _ _ _ _ _ _ _ _ = _
  unfold Ideal.hostReduceWindowAdd Host.reduceWindow
  refine (foldl_add _ _ _).trans ?_
  refine (congrArg₂ (· + ·) z (congrArg List.sum (List.map_congr_left (g := fun n => col x k (r.val + n.val)) fun n _ => ?_))).trans ?_
  · dsimp only [col]
    split
    · next hin =>
      have h0 : r.val * 1 + ((Idealize.ShloMosaic.Routing.shape2 4096 1).rowMajor.symm n 0).val - 0 < 4096 := (hin 0).2
      rw [w0] at h0
      rw [dif_pos (by omega)]
      refine congrArg x (funext fun a => Fin.ext ?_)
      match a with
      | ⟨0, _⟩ =>
        show r.val * 1 + ((Idealize.ShloMosaic.Routing.shape2 4096 1).rowMajor.symm n 0).val - 0 = r.val + n.val
        rw [w0]; omega
      | ⟨1, _⟩ =>
        show k.val * 1 + ((Idealize.ShloMosaic.Routing.shape2 4096 1).rowMajor.symm n 1).val - 0 = k.val
        rw [w1]; omega
    · next hin =>
      rw [dif_neg fun hlt => hin fun a => by
        match a with
        | ⟨0, _⟩ =>
          show 0 ≤ r.val * 1 + ((Idealize.ShloMosaic.Routing.shape2 4096 1).rowMajor.symm n 0).val
            ∧ r.val * 1 + ((Idealize.ShloMosaic.Routing.shape2 4096 1).rowMajor.symm n 0).val - 0 < 4096
          rw [w0]; omega
        | ⟨1, _⟩ =>
          show 0 ≤ k.val * 1 + ((Idealize.ShloMosaic.Routing.shape2 4096 1).rowMajor.symm n 1).val
            ∧ k.val * 1 + ((Idealize.ShloMosaic.Routing.shape2 4096 1).rowMajor.symm n 1).val - 0 < 16
          rw [w1]; omega]
      exact z
  · rw [zero_add]
    refine (Fin.sum_univ_def (fun n : Fin (Idealize.ShloMosaic.Routing.shape2 4096 1).numel => col x k (r.val + n.val))).symm.trans ?_
    rw [Fin.sum_univ_eq_sum_range (fun n => col x k (r.val + n)), Routing.numel_col, suf, Finset.sum_Ico_eq_sum_range]
    refine (Finset.sum_subset (Finset.range_mono (Nat.sub_le _ _)) fun n _ h => ?_).symm
    rw [col, dif_neg (by rw [Finset.mem_range] at h; omega)]

theorem zint : (FloatOps.sitofp .f32 (0#32) : Ideal .f32) = (0 : EReal) := by simp [FloatOps.sitofp]

/-- The gate's factor, as the kernel has it. -/
def sgm (y : EReal) : EReal := Ideal.div 1 (1 + Ideal.exp (0 - (0 - y)))

/-- The softplus of a real number. -/
theorem soft (x : ℝ) (n : EReal) (hn : n = -(x : EReal)) :
    max n 0 + Ideal.log1p (Ideal.exp (-FloatOps.absf (F := Ideal) (φ := .f32) n)) = ((max (-x) 0 + Real.log (1 + Real.exp (-|x|)) : ℝ) : EReal) := by
  have ab : FloatOps.absf (F := Ideal) (φ := .f32) n = ((|x| : ℝ) : EReal) := by
    subst hn
    show max (-(x : EReal)) (- -(x : EReal)) = _
    rw [neg_neg, ← EReal.coe_neg, max_comm]
    exact (EReal.coe_strictMono.monotone.map_max).symm
  have mx : max n 0 = ((max (-x) 0 : ℝ) : EReal) := by
    subst hn
    rw [← EReal.coe_neg, ← EReal.coe_zero]
    exact (EReal.coe_strictMono.monotone.map_max).symm
  have p : 0 < 1 + Real.exp (-|x|) := by positivity
  rw [mx, ab, ← EReal.coe_neg, Ideal.exp_coe, Ideal.log1p, ← EReal.coe_one, ← EReal.coe_add, Ideal.log_coe, if_neg (not_le.2 p), ← EReal.coe_add]

/-- The factor is the derivative of the logarithm of the logistic function at a real input. -/
theorem gate (x : ℝ) (n : EReal) (hn : n = -(x : EReal)) : Ideal.exp (n - (max n 0 + Ideal.log1p (Ideal.exp (-FloatOps.absf (F := Ideal) (φ := .f32) n)))) = sgm (x : EReal) := by
  have e0 : ((0 : ℝ) : EReal) - ((0 : ℝ) - (x : EReal)) = (x : EReal) := by
    rw [← EReal.coe_sub, ← EReal.coe_sub]; simp
  have p : 0 < 1 + Real.exp (-|x|) := by positivity
  have d : sgm (x : EReal) = (((1 + Real.exp x)⁻¹ : ℝ) : EReal) := by
    rw [sgm, ← EReal.coe_zero, e0, Ideal.exp_coe, ← EReal.coe_one, ← EReal.coe_add, Ideal.div_coe (by positivity), ← EReal.coe_mul]
    simp
  rw [soft x n hn, d, hn, ← EReal.coe_neg, ← EReal.coe_sub, Ideal.exp_coe]
  refine congrArg _ ?_
  rw [show -x - (max (-x) 0 + Real.log (1 + Real.exp (-|x|))) = (-x - max (-x) 0) - Real.log (1 + Real.exp (-|x|)) by ring, Real.exp_sub, Real.exp_log p]
  rcases le_total 0 x with h | h
  · rw [abs_of_nonneg h, max_eq_right (by linarith), sub_zero, Real.exp_neg]
    have := Real.exp_pos x
    field_simp
    ring
  · rw [abs_of_nonpos h, max_eq_left (by linarith), neg_neg, sub_self, Real.exp_zero, one_div]

theorem refv5 (a : FVec Ideal S4096x16 .f32) (b : FVec Ideal S1x16 .f32) (d : FVec Ideal S4096x16 .f32) (r : Fin 4096) (k : Fin 16)
    (x : ℝ) (hx : a (ix2 r k) + b (ix2 0 k) = x) :
    val_main_v5 (F := Ideal) a b d (ix2 r k) = suf (col d k) r.val * sgm (a (ix2 r k) + b (ix2 0 k)) := by
  unfold val_main_v5 val_main_call3_v1 val_main_call3_v0
  pointwise [val_main_v2_1, val_main_call0_call0_v21, val_main_call0_call0_v20, val_main_call0_call0_v16, val_main_call0_call0_v14, val_main_call0_call0_v15,
    val_main_call0_call0_v13, val_main_call0_call0_v18, val_main_call0_call0_v19, val_main_call0_call0_v17, val_main_call0_v1_0,
    val_main_call0_call0_v11, val_main_call0_call0_v10, val_main_call0_call0_v9, val_main_call0_call0_v8, val_main_call0_call0_v7, val_main_call0_call0_v6,
    val_main_call0_call0_v5, val_main_call0_call0_v4, val_main_call0_call0_v3, val_main_call0_call0_v2, val_main_call0_call0_v1, val_main_call0_call0_v0,
    val_main_call0_v0, val_main_v1, val_main_v0, val_main_call0_call0_cst, val_main_call0_call0_cst_0, val_main_call0_call0_cst_1, val_main_call0_call0_cst_2,
    val_main_call0_call0_cst_3]
  have top : Ideal.ofBits .f32 0x7F800000#32 = ⊤ := by simp [Ideal.ofBits, Ideal.ieee]
  have n1 : -(a (ix2 r k) + b (ix2 0 k)) ≠ ⊤ := by rw [hx, ← EReal.coe_neg]; exact EReal.coe_ne_top _
  have g := gate x _ (congrArg Neg.neg hx)
  have n2 : max (-(a (ix2 r k) + b (ix2 0 k))) 0 + Ideal.log1p (Ideal.exp (-FloatOps.absf (F := Ideal) (φ := .f32) (-(a (ix2 r k) + b (ix2 0 k))))) ≠ ⊤ := by
    rw [soft x _ (congrArg Neg.neg hx)]
    exact EReal.coe_ne_top _
  rw [top, if_neg n1, if_neg (not_not.2 rfl), if_neg n2, g, EReal.neg_mul, neg_neg, suffix, hx]

/-- The first result. -/
def out (a : FVec Ideal S4096x16 .f32) (b : FVec Ideal S1x16 .f32) (d e : FVec Ideal S4096x16 .f32) (r : Fin 4096) (k : Fin 128) : EReal :=
  if h : k.val < 32 then if h' : k.val < 16 then e (ix2 r ⟨k.val, h'⟩)
    else suf (col d ⟨k.val - 16, by omega⟩) r.val * sgm (a (ix2 r ⟨k.val - 16, by omega⟩) + b (ix2 0 ⟨k.val - 16, by omega⟩))
  else 0

/-- The gates' inputs are real numbers. -/
def Inputs (a : FVec Ideal S4096x16 .f32) (b : FVec Ideal S1x16 .f32) : Prop := ∀ (r : Fin 4096) (k : Fin 16), ∃ x : ℝ, a (ix2 r k) + b (ix2 0 k) = x

theorem refv14 (a : FVec Ideal S4096x16 .f32) (b : FVec Ideal S1x16 .f32) (d e : FVec Ideal S4096x16 .f32) (H : Inputs a b) (r : Fin 4096) (k : Fin 128) :
    val_main_v14 (F := Ideal) a b d e (ix2 r k) = out a b d e r k := by
  pointwise [val_main_v14, val_main_v9, val_main_v8, val_main_call4_v0, val_main_c]
  unfold out
  by_cases h : k.val < 32
  · rw [dif_pos h, dif_pos h]
    by_cases h' : k.val < 16
    · rw [dif_pos h', dif_pos h']
    · obtain ⟨x, hx⟩ := H r ⟨k.val - 16, by omega⟩
      rw [dif_neg h', dif_neg h']
      exact refv5 a b d r _ x hx
  · rw [dif_neg h, dif_neg h]
    exact zint

theorem refv13 (a : FVec Ideal S4096x16 .f32) (b : FVec Ideal S1x16 .f32) (d e : FVec Ideal S4096x16 .f32) (H : Inputs a b) (k : Fin 128) :
    val_main_v13 (F := Ideal) a b d e (ix2 0 k) = ∑ r, out a b d e r k := by
  pointwise [val_main_v13, val_main_v12, val_main_v11, val_main_v10, val_main_v7, val_main_v6, val_main_call5_v0, val_main_c_1, val_main_cst, val_main_cst_0]
  simp only [out]
  by_cases h : k.val < 32
  · rw [dif_pos h]
    by_cases h' : k.val < 16
    · rw [dif_pos h']
      exact Finset.sum_congr rfl fun r _ => by rw [dif_pos h, dif_pos h']
    · rw [dif_neg h']
      refine Finset.sum_congr rfl fun r _ => ?_
      obtain ⟨x, hx⟩ := H r ⟨k.val - 16, by omega⟩
      rw [dif_pos h, dif_neg h']
      exact refv5 a b d r _ x hx
  · rw [dif_neg h, Finset.sum_eq_zero fun r _ => dif_neg h]
    exact zint

/-- The triangle of ones. -/
theorem tri (e r : Fin 512) : FloatOps.sitofp (F := Ideal) .f32 (BitVec.setWidth 32 (IntOp.cmpi .sge (BitVec.ofNat 32 e.val) (BitVec.ofNat 32 r.val)))
    = if r ≤ e then (1 : EReal) else 0 := by
  rw [WordCmp.cmpi_sge_ofNat (by omega) (by omega)]
  by_cases h : r ≤ e
  · rw [if_pos h, decide_eq_true (by exact h)]
    simp [FloatOps.sitofp]
  · rw [if_neg h, decide_eq_false (by exact h)]
    simp [FloatOps.sitofp]

end Cert.Proof.Cum

namespace Cert.KernelCumIdeal.Whole

open Cert.KernelCumIdeal Cert.KernelCumIdeal.Gen Cert.Proof.Cum

theorem pay11 (x : FVec Ideal S512x128 .f32) (w : FVec Ideal S1x128 .f32) (X : Fin 512 → Fin 128 → ℝ) (hX : ∀ r k, x (ix2 r k) = X r k) (r : Fin 512) (k : Fin 128) :
    k0_pay11 (F := Ideal) x w (ix2 r k) = (∑ e : Fin 512, if r ≤ e then x (ix2 e k) else 0) + w (ix2 0 k) := by
  pointwise [k0_pay11]
  have z (e : Fin 512) : x (ix2 e k) - x (ix2 e k) = 0 := by rw [hX, ← EReal.coe_sub, sub_self, EReal.coe_zero]
  simp only [tri, z, sub_zero, mul_zero, Finset.sum_const_zero, add_zero, ite_mul, one_mul, zero_mul, ite_self]

theorem lanes : ∀ k : Fin 128, IntOp.andi (IntOp.cmpi CmpIPredicate.sge (BitVec.ofNat 32 k.val) 16#32) (IntOp.cmpi CmpIPredicate.slt (BitVec.ofNat 32 k.val) 32#32)
    = if 16 ≤ k.val ∧ k.val < 32 then 1#1 else 0#1 := by decide +kernel

theorem pay1 (x0 x1 : FVec Ideal S512x128 .f32) (x2 : FVec Ideal S1x128 .f32) (s : FVec Ideal S512x128 .f32) (r : Fin 512) (k : Fin 128) :
    k0_pay1 (F := Ideal) x0 x1 x2 s (iota .tc S512x128 32 [1] iota_S512x128_d1_w32) k0_pay12 (ix2 r k)
      = x0 (ix2 r k) + if 16 ≤ k.val ∧ k.val < 32 then s (ix2 r k) * sgm (x1 (ix2 r k) + x2 (ix2 0 k)) else 0 := by
  pointwise [k0_pay1, k0_pay12]
  rw [lanes]
  unfold sgm
  split_ifs <;> rfl

variable (m : (ℓ : Loc nD τ sig) → Buf (Elt Ideal) ℓ)

theorem idx : ∀ t : Fin cfg0.N, win0_0.index t = ![7 - t.val, 0] ∧ win0_1.index t = ![7 - t.val, 0]
    ∧ win0_2.index t = ![7 - t.val, 44] ∧ win0_3.index t = ![0, 0] ∧ win0_4.index t = ![7 - t.val, 0]
    ∧ win0_5.index t = ![0, 0] ∧ win0_6.index t = ![0, 0] :=
  (by decide +kernel : ∀ t : Fin grid0.N, _)

/-- The arrays the host pads. -/
theorem pad0 (c : Dev nD) : V m c main_v0 = pad S4096x5760 ![0, 5648] ![0, 96] ![0, 0] (m ((c : Thread nD τ).loc main_arg0)) (sitofp (F := Ideal) .f32 (constantI S_ 32 0#32))
    pads_S4096x16_S4096x5760_000_5648960 h_S_ := by
  simp only [V, hostOps0, hostOps0_1, hostOps0_2, hostOps0_3, hostOps0_4, hostOps0_5, hostOps0_6, hostOps0_7, List.flatten_cons, List.flatten_nil, List.append_nil, List.cons_append, List.nil_append]
  entry_read
  rfl

theorem pad1 (c : Dev nD) : V m c main_v1 = pad S1x128 ![0, 16] ![0, 96] ![0, 0] (m ((c : Thread nD τ).loc main_arg1)) (sitofp (F := Ideal) .f32 (constantI S_ 32 0#32))
    pads_S1x16_S1x128_000_16960 h_S_ := by
  simp only [V, hostOps0, hostOps0_1, hostOps0_2, hostOps0_3, hostOps0_4, hostOps0_5, hostOps0_6, hostOps0_7, List.flatten_cons, List.flatten_nil, List.append_nil, List.cons_append, List.nil_append]
  entry_read
  rfl

theorem pad2 (c : Dev nD) : V m c main_v2 = pad S4096x128 ![0, 16] ![0, 96] ![0, 0] (m ((c : Thread nD τ).loc main_arg2)) (sitofp (F := Ideal) .f32 (constantI S_ 32 0#32))
    pads_S4096x16_S4096x128_000_16960 h_S_ := by
  simp only [V, hostOps0, hostOps0_1, hostOps0_2, hostOps0_3, hostOps0_4, hostOps0_5, hostOps0_6, hostOps0_7, List.flatten_cons, List.flatten_nil, List.append_nil, List.cons_append, List.nil_append]
  entry_read
  rfl

theorem pad3 (c : Dev nD) : V m c main_v3 = pad S4096x128 ![0, 0] ![0, 112] ![0, 0] (m ((c : Thread nD τ).loc main_arg3)) (sitofp (F := Ideal) .f32 (constantI S_ 32 0#32))
    pads_S4096x16_S4096x128_000_01120 h_S_ := by
  simp only [V, hostOps0, hostOps0_1, hostOps0_2, hostOps0_3, hostOps0_4, hostOps0_5, hostOps0_6, hostOps0_7, List.flatten_cons, List.flatten_nil, List.append_nil, List.cons_append, List.nil_append]
  entry_read
  rfl

/-- The row of the array a point's row is. -/
def row (t : Fin cfg0.N) (r : Fin 512) : Fin 4096 := ⟨512 * (7 - t.val) + r.val, by omega⟩

/-- The four arguments. -/
def af (c : Dev nD) : FVec Ideal S4096x16 .f32 := m ((c : Thread nD τ).loc main_arg0)
def ab (c : Dev nD) : FVec Ideal S1x16 .f32 := m ((c : Thread nD τ).loc main_arg1)
def ad (c : Dev nD) : FVec Ideal S4096x16 .f32 := m ((c : Thread nD τ).loc main_arg2)
def ae (c : Dev nD) : FVec Ideal S4096x16 .f32 := m ((c : Thread nD τ).loc main_arg3)

/-- A lane of the padded cotangent. -/
def lane (c : Dev nD) (k : Fin 128) (n : ℕ) : EReal := if h : 16 ≤ k.val ∧ k.val < 32 then col (ad m c) ⟨k.val - 16, by omega⟩ n else 0

theorem in0 (c : Dev nD) (t : Fin cfg0.N) (r : Fin 512) (k : Fin 128) : (iblk m c 0 t : FVec Ideal S512x128 .f32) (ix2 r k)
    = lane m c k (512 * (7 - t.val) + r.val) := by
  have e : (((cfg0.win 0).blk t).view.emb (ix2 r k)) = ix2 (row t r) k := by blk_ext [idx t, row]
  refine (congrArg (V m c main_v2) e).trans ?_
  rw [pad2]
  pointwise
  unfold lane
  by_cases h : 16 ≤ k.val ∧ k.val < 32
  · rw [dif_pos h]
    refine (dif_pos fun a => ?_).trans (dif_pos (show 512 * (7 - t.val) + r.val < 4096 from (row t r).isLt) : col (ad m c) ⟨k.val - 16, _⟩ (512 * (7 - t.val) + r.val) = _).symm
    fin_cases a
    · exact ⟨Nat.zero_le _, Nat.mod_one _, by show ((row t r).val - 0) / (0 + 1) < 4096; omega⟩
    · exact ⟨h.1, Nat.mod_one _, by show (k.val - 16) / (0 + 1) < 16; omega⟩
  · rw [dif_neg h]
    refine (dif_neg fun g => h ?_).trans zint
    have g1 := g 1
    exact ⟨g1.1, by have : (k.val - 16) / (0 + 1) < 16 := g1.2.2
                    omega⟩

theorem in1 (c : Dev nD) (t : Fin cfg0.N) (r : Fin 512) (k : Fin 128) : (iblk m c 1 t : FVec Ideal S512x128 .f32) (ix2 r k)
    = if h : k.val < 16 then ae m c (ix2 (row t r) ⟨k.val, h⟩) else 0 := by
  have e : (((cfg0.win 1).blk t).view.emb (ix2 r k)) = ix2 (row t r) k := by blk_ext [idx t, row]
  refine (congrArg (V m c main_v3) e).trans ?_
  rw [pad3]
  pointwise
  by_cases h : k.val < 16
  · rw [dif_pos h]
    refine dif_pos fun a => ?_
    fin_cases a
    · exact ⟨Nat.zero_le _, Nat.mod_one _, by show ((row t r).val - 0) / (0 + 1) < 4096; omega⟩
    · exact ⟨Nat.zero_le _, Nat.mod_one _, by show (k.val - 0) / (0 + 1) < 16; omega⟩
  · rw [dif_neg h]
    refine (dif_neg fun g => h ?_).trans zint
    have : (k.val - 0) / (0 + 1) < 16 := (g 1).2.2
    omega

theorem in2 (c : Dev nD) (t : Fin cfg0.N) (r : Fin 512) (k : Fin 128) (h : 16 ≤ k.val ∧ k.val < 32) : (iblk m c 2 t : FVec Ideal S512x128 .f32) (ix2 r k)
    = af m c (ix2 (row t r) ⟨k.val - 16, by omega⟩) := by
  have e : (((cfg0.win 2).blk t).view.emb (ix2 r k)) = ix2 (row t r) (⟨5632 + k.val, by omega⟩ : Fin 5760) := by blk_ext [idx t, row]
  refine (congrArg (V m c main_v0) e).trans ?_
  rw [pad0]
  pointwise
  refine (dif_pos fun a => ?_).trans (congrArg (fun q => af m c (ix2 (row t r) q)) (Fin.ext ?_))
  fin_cases a
  · exact ⟨Nat.zero_le _, Nat.mod_one _, by show ((row t r).val - 0) / (0 + 1) < 4096; omega⟩
  · exact ⟨(by show 5648 ≤ 5632 + k.val; omega), Nat.mod_one _, by show (5632 + k.val - 5648) / (0 + 1) < 16; omega⟩
  · show 5632 + k.val - 5648 = k.val - 16
    omega

theorem in3 (c : Dev nD) (t : Fin cfg0.N) (k : Fin 128) (h : 16 ≤ k.val ∧ k.val < 32) : (iblk m c 3 t : FVec Ideal S1x128 .f32) (ix2 0 k)
    = ab m c (ix2 0 ⟨k.val - 16, by omega⟩) := by
  have e : (((cfg0.win 3).blk t).view.emb (ix2 0 k)) = ix2 (0 : Fin 1) k := by blk_ext [idx t, row]
  refine (congrArg (V m c main_v1) e).trans ?_
  rw [pad1]
  pointwise
  refine dif_pos fun a => ?_
  fin_cases a
  · exact ⟨Nat.zero_le _, Nat.mod_one _, by show (0 - 0) / (0 + 1) < 1; omega⟩
  · exact ⟨h.1, Nat.mod_one _, by show (k.val - 16) / (0 + 1) < 16; omega⟩

/-- The running sum of a block of rows, continued by the sum of the rows after it. -/
theorem chunk (f : ℕ → EReal) (b : ℕ) (hb : b ≤ 7) (r : Fin 512) :
    (∑ e : Fin 512, if r ≤ e then f (512 * b + e.val) else 0) + suf f (512 * b + 512) = suf f (512 * b + r.val) := by
  have h1 : (∑ e : Fin 512, if r ≤ e then f (512 * b + e.val) else 0) = ∑ n ∈ Finset.Ico (512 * b + r.val) (512 * b + 512), f n := by
    refine (Fin.sum_univ_eq_sum_range (fun e => if r.val ≤ e then f (512 * b + e) else 0) 512).trans ?_
    rw [← Finset.sum_filter, Finset.sum_Ico_eq_sum_range]
    have : (Finset.range 512).filter (fun e => r.val ≤ e) = Finset.Ico r.val 512 := by
      ext e; simp only [Finset.mem_filter, Finset.mem_range, Finset.mem_Ico]; omega
    rw [this, Finset.sum_Ico_eq_sum_range]
    refine Finset.sum_congr (by congr 1; omega) fun n _ => by rw [Nat.add_assoc]
  rw [h1]
  exact Finset.sum_Ico_consecutive f (by omega) (by omega)

/-- The cotangents are real numbers. -/
def Reals : Prop := ∀ c : Dev nD, (∀ i, ∃ x : ℝ, ad m c i = x) ∧ Inputs (af m c) (ab m c)

theorem step (H : Reals m) (c : Dev nD) (t : Fin cfg0.N) (w : FVec Ideal S1x128 .f32)
    (hw : ∀ k : Fin 128, w (ix2 0 k) = suf (lane m c k) (512 * (7 - t.val) + 512)) (r : Fin 512) (k : Fin 128) :
    k0_pay11 (F := Ideal) (iblk m c 0 t) w (ix2 r k) = suf (lane m c k) (512 * (7 - t.val) + r.val) := by
  have hx : ∀ (r : Fin 512) (k : Fin 128), ∃ x : ℝ, (iblk m c 0 t : FVec Ideal S512x128 .f32) (ix2 r k) = (x : EReal) := fun r k => by
    rw [in0, lane]
    split_ifs with h
    · rw [col, dif_pos (show 512 * (7 - t.val) + r.val < 4096 from (row t r).isLt)]
      exact (H c).1 _
    · exact ⟨0, rfl⟩
  choose X hX using hx
  rw [pay11 _ _ X hX, hw, ← chunk _ _ (by omega)]
  exact congrArg (· + _) (Finset.sum_congr rfl fun e _ => by rw [in0])

theorem zero5 (r : Fin 1) (k : Fin 128) : k0_pay5 (F := Ideal) (ix2 r k) = 0 := by pointwise [k0_pay5]
theorem zero6 (j : S1x128.Idx) : k0_pay6 (F := Ideal) j = 0 := by pointwise [k0_pay6]
theorem sufTop (f : ℕ → EReal) : suf f 4096 = 0 := by rw [suf, Finset.Ico_self, Finset.sum_empty]
theorem cast7 (x : FVec Ideal S512x128 .f32) (j : S512x128.Idx) : k0_pay7 (F := Ideal) x j = x j := by pointwise [k0_pay7]
theorem cast8 (x : FVec Ideal S512x128 .f32) (j : S512x128.Idx) : k0_pay8 (F := Ideal) x j = x j := by pointwise [k0_pay8]
theorem cast9 (x : FVec Ideal S1x128 .f32) (j : S1x128.Idx) : k0_pay9 (F := Ideal) x j = x j := by pointwise [k0_pay9]
theorem cast10 (x : FVec Ideal S1x128 .f32) (j : S1x128.Idx) : k0_pay10 (F := Ideal) x j = x j := by pointwise [k0_pay10]
theorem pay2 (x : FVec Ideal S512x128 .f32) (k : Fin 128) : k0_pay2 (F := Ideal) x (ix2 0 k) = x (ix2 0 k) := by pointwise [k0_pay2]

theorem carry (H : Reals m) (c : Dev nD) : ∀ (n : ℕ) (hn : n < cfg0.N) (k : Fin 128),
    (outsAt0 m c n hn).2.1 (ix2 0 k) = suf (lane m c k) (512 * (7 - n))
  | 0, hn, k => by
    rw [outsAt0_A m c ⟨0, hn⟩ rfl]; frame_out
    rw [pay2]
    exact (step m H c ⟨0, hn⟩ _ (fun k => (zero5 _ k).trans (sufTop _).symm) 0 k)
  | n + 1, hn, k => by
    have hN : n + 1 < 8 := lt_of_lt_of_eq hn N_0
    rw [outsAt0_B m c ⟨n + 1, hn⟩ (by show ¬(n + 1) % 8 = 0; omega)]; frame_out
    rw [pay2]
    refine step m H c ⟨n + 1, hn⟩ _ (fun k => (carry H c n _ k).trans (congrArg _ ?_)) 0 k
    show 512 * (7 - n) = 512 * (7 - (n + 1)) + 512
    omega

theorem before (H : Reals m) (c : Dev nD) (t : Fin cfg0.N) (q : ¬t.val % 8 = 0) (h : t.val - 1 < cfg0.N) (k : Fin 128) :
    (outsAt0 m c (t.val - 1) h).2.1 (ix2 0 k) = suf (lane m c k) (512 * (7 - t.val) + 512) := by
  have hN : t.val < 8 := lt_of_lt_of_eq t.isLt N_0
  exact (carry m H c _ h k).trans (congrArg _ (by omega))

theorem first (c : Dev nD) (t : Fin cfg0.N) (q : t.val % 8 = 0) (k : Fin 128) : k0_pay5 (F := Ideal) (ix2 0 k) = suf (lane m c k) (512 * (7 - t.val) + 512) := by
  have hN : t.val < 8 := lt_of_lt_of_eq t.isLt N_0
  rw [zero5, show 512 * (7 - t.val) + 512 = 4096 by omega, sufTop]

theorem body (H : Reals m) (c : Dev nD) (t : Fin cfg0.N) (w : FVec Ideal S1x128 .f32)
    (hw : ∀ k : Fin 128, w (ix2 0 k) = suf (lane m c k) (512 * (7 - t.val) + 512)) (r : Fin 512) (k : Fin 128) :
    k0_pay1 (F := Ideal) (k0_pay7 (iblk m c 1 t)) (k0_pay8 (iblk m c 2 t)) (k0_pay9 (iblk m c 3 t)) (k0_pay11 (iblk m c 0 t) w)
      (iota .tc S512x128 32 [1] iota_S512x128_d1_w32) k0_pay12 (ix2 r k) = out (af m c) (ab m c) (ad m c) (ae m c) (row t r) k := by
  rw [pay1, cast7, cast8, cast9, in1, out]
  by_cases h : k.val < 32
  · by_cases h' : k.val < 16
    · rw [dif_pos h, dif_pos h', dif_pos h', if_neg (by omega), add_zero]
    · rw [dif_pos h, dif_neg h', dif_neg h', if_pos (by omega), zero_add, step m H c t w hw, in2 m c t r k (by omega), in3 m c t k (by omega)]
      refine congrArg (· * _) (Finset.sum_congr rfl fun n _ => ?_)
      rw [lane, dif_pos ⟨by omega, h⟩]
  · rw [dif_neg h, dif_neg (by omega), if_neg (by omega), add_zero]

theorem pay3 (x0 x1 : FVec Ideal S512x128 .f32) (x2 w : FVec Ideal S1x128 .f32) (x3 : FVec Ideal S512x128 .f32) (p q : IVec S512x128 32) (k : Fin 128) :
    k0_pay3 (F := Ideal) x0 x1 x2 w x3 p q (ix2 0 k) = w (ix2 0 k) + ∑ r : Fin 512, k0_pay1 (F := Ideal) x0 x1 x2 x3 p q (ix2 r k) := by
  pointwise [k0_pay3]

open Cert.ReferenceCumIdeal.Read

theorem final4 (H : Reals m) (c : Dev nD) : (dats m 0 c).arrAt 4 cfg0.N = val_main_v14 (F := Ideal) (af m c) (ab m c) (ad m c) (ae m c) := by
  refine (dats m 0 c).arrAt_eq_of_covers 4 _ (by decide +kernel) fun t _ y => ?_
  blk_simp
  rw [after0_4]
  obtain ⟨r, k, rfl⟩ : ∃ (r : Fin 512) (k : Fin 128), y = ix2 r k := ⟨_, _, (ix2_eta y).symm⟩
  have e : (((cfg0.win 4).blk t).view.emb (ix2 r k)) = ix2 (row t r) k := by blk_ext [idx t, row]
  rw [e, refv14 _ _ _ _ (H c).2]
  by_cases q : t.val % 8 = 0
  · rw [outsAt0_A m c t q]; frame_out
    exact body m H c t _ (first m c t q) r k
  · rw [outsAt0_B m c t q]; frame_out
    exact body m H c t _ (before m H c t q _) r k

theorem total (H : Reals m) (c : Dev nD) (t : Fin cfg0.N) (v w : FVec Ideal S1x128 .f32)
    (hw : ∀ k : Fin 128, w (ix2 0 k) = suf (lane m c k) (512 * (7 - t.val) + 512)) (j : S1x128.Idx) :
    k0_pay3 (F := Ideal) (k0_pay7 (iblk m c 1 t)) (k0_pay8 (iblk m c 2 t)) (k0_pay9 (iblk m c 3 t)) v (k0_pay11 (iblk m c 0 t) w)
      (iota .tc S512x128 32 [1] iota_S512x128_d1_w32) k0_pay12 j = v j + ∑ r : Fin 512, out (af m c) (ab m c) (ad m c) (ae m c) (row t r) (j 1) := by
  obtain ⟨e, rfl⟩ : ∃ e : Fin 128, j = ix2 (0 : Fin 1) e := ⟨j 1, by ext i; fin_cases i <;> simp [ix2]⟩
  rw [pay3]
  exact congrArg (_ + ·) (Finset.sum_congr rfl fun r _ => body m H c t w hw r e)

theorem final6 (H : Reals m) (c : Dev nD) : (dats m 0 c).arrAt 6 cfg0.N = val_main_v13 (F := Ideal) (af m c) (ab m c) (ad m c) (ae m c) := by
  refine (dats m 0 c).arrAt_eq_of_after_last 6 t0_7 (by decide +kernel) _ fun j => ?_
  blk_simp
  rw [after0_6, Pipeline.eq_sum_fin_of_reset_step_apply_last (fun n h => (outsAt0 m c n h).2.2) 8 (fun _ => 0)
    (fun t j => ∑ r : Fin 512, out (af m c) (ab m c) (ad m c) (ae m c) (row t r) (j 1))
    (fun t q j => by rw [outsAt0_A m c t q]; frame_out; exact (total m H c t _ _ (first m c t q) j).trans (by rw [cast10, zero6]))
    (fun t q j => by rw [outsAt0_B m c t q]; frame_out; exact (total m H c t _ _ (before m H c t q _) j).trans (by rw [cast10]))
    (le_of_eq N_0) t0_7 rfl j, zero_add]
  obtain ⟨e, rfl⟩ : ∃ e : Fin 128, j = ix2 (0 : Fin 1) e := ⟨j 1, by ext i; fin_cases i <;> simp [ix2]⟩
  rw [refv13 _ _ _ _ (H c).2]
  refine (Equiv.sum_comp (M := EReal) Fin.revPerm (fun t : Fin cfg0.N => ∑ r : Fin 512, out (af m c) (ab m c) (ad m c) (ae m c) (row t r) e)).symm.trans ?_
  refine Fin.sum_mul_add_congr fun t k hl => congrArg (fun R => out (af m c) (ab m c) (ad m c) (ae m c) R e) (Fin.ext ?_)
  have hN : t.val < 8 := lt_of_lt_of_eq t.isLt N_0
  show 512 * (7 - (8 - (t.val + 1))) + k.val = t.val * 512 + k.val
  omega

end Cert.KernelCumIdeal.Whole

namespace Cert.Proof.CumClaims

open Cert.KernelCumIdeal.Whole Cert.ReferenceCumIdeal.Read

/-- Where the masks of the precondition are all ones, the arguments it reads are real numbers. -/
theorem real (m : (ℓ : Loc Cert.KernelCumIdeal.nD Cert.KernelCumIdeal.τ Cert.KernelCumIdeal.sig) → Buf (Elt Ideal) ℓ) [Cert.Pre_finite_cum.Facts] (h : Cert.Pre_KernelCumIdeal_finite_cum m) :
    Reals m := fun c => by
  refine ⟨fun i => Cert.Rows.finite_of (congrFun (h c).2.2 i), fun r k => ?_⟩
  obtain ⟨x, hx⟩ : ∃ x : ℝ, af m c (ix2 r k) = x := Cert.Rows.finite_of (congrFun (h c).1 (ix2 r k))
  obtain ⟨y, hy⟩ : ∃ y : ℝ, ab m c (ix2 0 k) = y := Cert.Rows.finite_of (congrFun (h c).2.1 (ix2 0 k))
  exact ⟨x + y, by rw [hx, hy, EReal.coe_add]⟩

/-- Over the reals the two results are the derivative's. -/
theorem algebraic [Cert.Pre_finite_cum.Facts] : Cert.algebraic_KernelCumIdeal_ReferenceCumIdeal_pre_finite_cum := by
  intro m g m' g' hp hagree
  have hR := real m hp
  refine ⟨fun c => val_main_v14 (F := Ideal) (af m c) (ab m c) (ad m c) (ae m c), fun c => val_main_v13 (F := Ideal) (af m c) (ab m c) (ad m c) (ae m c), ?_, ?_⟩
  · refine (θ_run _ _ _).mono (fun r h c => ?_) (Cert.KernelCumIdeal.Value.run_blocks m g)
    obtain ⟨h0, -, h2, hr⟩ := h c
    exact ⟨h0.trans (final4 m hR c), h2.trans (final6 m hR c), hr⟩
  · refine (θ_run _ _ _).mono (fun r h c => ?_) (Cert.ReferenceCumIdeal.Value.run m' g')
    obtain ⟨h0, h1, hr⟩ := h c
    obtain ⟨e0, e1, e2, e3⟩ := hagree c
    exact ⟨(h0.trans (val_main_v14_eq _ _ _ _)).trans (by rw [e0, e1, e2, e3]; rfl), (h1.trans (val_main_v13_eq m' c)).trans (by rw [e0, e1, e2, e3]; rfl), hr⟩

end Cert.Proof.CumClaims
end
-- ==== Proof.Ada.lean ====
/- The conditioning: the value of `ada_grad`, one launch over whole arrays, against the derivatives of the product of the
   SiLU of the conditioning with its weight and of the bias. The kernel splits each operand in three by format and adds six
   of the nine products; over the reals the second and third parts are zero, which takes real operands. -/
module

public import proofs.«01_k».proof.Defs
public import proofs.«01_k».proof.Proof.Gen.KernelAdaIdeal.Value
public import proofs.«01_k».proof.Proof.Gen.ReferenceAdaIdeal.Read
public import proofs.«01_k».proof.Proof.Rows
public import Idealize.ShloMosaic.Lib.Claim
public import Idealize.ShloMosaic.Lib.Pointwise

@[expose] public section

set_option maxRecDepth 16384

noncomputable section

open Idealize.ShloMosaic Idealize.ShloMosaic.TcCoe Idealize.SL.Sem

namespace Cert.Proof.Ada

open Cert.KernelAdaIdeal Cert.KernelAdaIdeal.Gen
open Cert.ReferenceAdaIdeal.Read

/-- The SiLU. -/
def silu (x : EReal) : EReal := x * Ideal.div 1 (1 + Ideal.exp (0 - x))

/-- The SiLU of a real number is one. -/
theorem silu_real (x : ℝ) : ∃ y : ℝ, silu (x : EReal) = y := by
  have p : 0 < 1 + Real.exp (-x) := by positivity
  refine ⟨x * (1 + Real.exp (-x))⁻¹, ?_⟩
  rw [silu, zero_sub, ← EReal.coe_neg, Ideal.exp_coe, ← EReal.coe_one, ← EReal.coe_add, Ideal.div_coe (by positivity), ← EReal.coe_mul, ← EReal.coe_mul, one_div, one_mul]

/-- The weight's gradient. -/
def gw (c : FVec Ideal S8x1024 .f32) (d : FVec Ideal S8x768 .f32) (r : Fin 1024) (k : Fin 768) : EReal :=
  ∑ e : Fin 8, silu (c (ix2 e r)) * d (ix2 e k)

theorem refw (c : FVec Ideal S8x1024 .f32) (d : FVec Ideal S8x768 .f32) (r : Fin 1024) (k : Fin 768) :
    val_main_v10 (F := Ideal) c d (ix2 r k) = gw c d r k := by
  pointwise [val_main_v10, val_main_v9, val_main_v2, val_main_call0_v5, val_main_call0_v4, val_main_call0_v3, val_main_call0_v2, val_main_call0_v1,
    val_main_call0_v0, val_main_call0_cst, val_main_call0_cst_0]
  exact Finset.sum_congr rfl fun e _ => by rw [mul_comm, silu, zero_sub]

theorem payw (c : FVec Ideal S8x1024 .f32) (d : FVec Ideal S8x768 .f32) (hc : ∀ i, ∃ x : ℝ, c i = x) (hd : ∀ i, ∃ x : ℝ, d i = x)
    (r : Fin 1024) (k : Fin 768) : k0_pay2 (F := Ideal) c d (ix2 r k) = gw c d r k := by
  have za (e : Fin 8) : silu (c (ix2 e r)) - silu (c (ix2 e r)) = 0 := by
    obtain ⟨x, hx⟩ := hc (ix2 e r)
    obtain ⟨y, hy⟩ := silu_real x
    rw [hx, hy, ← EReal.coe_sub, sub_self, EReal.coe_zero]
  have zb (e : Fin 8) : d (ix2 e k) - d (ix2 e k) = 0 := by
    obtain ⟨x, hx⟩ := hd (ix2 e k)
    rw [hx, ← EReal.coe_sub, sub_self, EReal.coe_zero]
  unfold silu at za
  pointwise [k0_pay2]
  simp only [za, zb, mul_zero, zero_mul, sub_zero, Finset.sum_const_zero, add_zero]
  rfl

theorem payb (d : FVec Ideal S8x6144 .f32) (k : Fin 6144) : k0_pay1 (F := Ideal) d (ix2 0 k) = val_main_v8 (F := Ideal) d (ix2 0 k) := by
  pointwise [k0_pay1, val_main_v8, val_main_v7, val_main_cst_2]

end Cert.Proof.Ada

namespace Cert.Proof.AdaClaims

open Cert.Proof.Ada Cert.KernelAdaIdeal Cert.KernelAdaIdeal.Gen Cert.ReferenceAdaIdeal.Read

/-- Over the reals the two results are the derivative's. -/
theorem algebraic [Cert.Pre_finite_ada.Facts] : Cert.algebraic_KernelAdaIdeal_ReferenceAdaIdeal_pre_finite_ada := by
  intro m g m' g' hp hagree
  refine ⟨fun c => val_main_v10 (F := Ideal) (m (c.tc.loc main_arg0)) (m (c.tc.loc main_arg1)), fun c => val_main_v8 (F := Ideal) (m (c.tc.loc main_arg2)), ?_, ?_⟩
  · refine (θ_run _ _ _).mono (fun r h c => ?_) (Cert.KernelAdaIdeal.Value.run m g)
    obtain ⟨h0, h1, hr⟩ := h c
    refine ⟨h0.trans (funext fun j => ?_), h1.trans (funext fun j => ?_), hr⟩
    · obtain ⟨r, k, rfl⟩ : ∃ (r : Fin 1024) (k : Fin 768), j = ix2 r k := ⟨_, _, (ix2_eta j).symm⟩
      exact (payw _ _ (fun i => Cert.Rows.finite_of (congrFun (hp c).1 i)) (fun i => Cert.Rows.finite_of (congrFun (hp c).2 i)) r k).trans (refw _ _ r k).symm
    · obtain ⟨a, k, rfl⟩ : ∃ (a : Fin 1) (k : Fin 6144), j = ix2 a k := ⟨_, _, (ix2_eta j).symm⟩
      obtain rfl : a = 0 := Subsingleton.elim _ _
      exact payb _ k
  · refine (θ_run _ _ _).mono (fun r h c => ?_) (Cert.ReferenceAdaIdeal.Value.run m' g')
    obtain ⟨h0, h1, hr⟩ := h c
    obtain ⟨e0, e1, e2⟩ := hagree c
    exact ⟨(h0.trans (val_main_v10_eq _ _)).trans (by rw [e0, e1]), (h1.trans (val_main_v8_eq _)).trans (by rw [e2]), hr⟩

end Cert.Proof.AdaClaims
end
-- ==== Proof.Mod.lean ====
/- The modulation: the value of `ada_mod`, one launch over whole arrays, against the product of the SiLU of the conditioning
   with its weight, plus the bias. As for its derivative, the second and third parts of the operands are zero over the reals. -/
module

public import proofs.«01_k».proof.Defs
public import proofs.«01_k».proof.Proof.Gen.KernelModIdeal.Value
public import proofs.«01_k».proof.Proof.Gen.ReferenceModIdeal.Read
public import proofs.«01_k».proof.Proof.Ada
public import Idealize.ShloMosaic.Lib.Pipeline.ValueKit
public import Idealize.ShloMosaic.Lib.Claim
public import Idealize.ShloMosaic.Lib.Pointwise

@[expose] public section

set_option maxRecDepth 16384

noncomputable section

open Idealize.ShloMosaic Idealize.ShloMosaic.TcCoe Idealize.SL.Sem

namespace Cert.Proof.ModClaims

open Cert.Proof.Ada Cert.KernelModIdeal Cert.KernelModIdeal.Gen Cert.ReferenceModIdeal.Read

/-- The modulation's entry. -/
def out (c : FVec Ideal S8x1024 .f32) (w : FVec Ideal S1024x768 .f32) (b : FVec Ideal S1x768 .f32) (r : Fin 8) (k : Fin 768) : EReal :=
  ∑ e : Fin 1024, silu (c (ix2 r e)) * w (ix2 e k) + b (ix2 0 k)

theorem ref (c : FVec Ideal S8x1024 .f32) (w : FVec Ideal S1024x768 .f32) (b : FVec Ideal S1x768 .f32) (r : Fin 8) (k : Fin 768) :
    val_main_v3 (F := Ideal) c w b (ix2 r k) = out c w b r k := by
  pointwise [val_main_v3, val_main_v2, val_main_v1, val_main_v0, val_main_call0_v5, val_main_call0_v4, val_main_call0_v3, val_main_call0_v2,
    val_main_call0_v1, val_main_call0_v0, val_main_call0_cst, val_main_call0_cst_0]
  exact congrArg (· + _) (Finset.sum_congr rfl fun e _ => by rw [silu, zero_sub])

theorem pay (c : FVec Ideal S8x1024 .f32) (w : FVec Ideal S1024x768 .f32) (b : FVec Ideal S1x768 .f32) (hc : ∀ i, ∃ x : ℝ, c i = x)
    (hw : ∀ i, ∃ x : ℝ, w i = x) (r : Fin 8) (k : Fin 768) : k0_pay1 (F := Ideal) c w b (ix2 r k) = out c w b r k := by
  have za (e : Fin 1024) : silu (c (ix2 r e)) - silu (c (ix2 r e)) = 0 := by
    obtain ⟨x, hx⟩ := hc (ix2 r e)
    obtain ⟨y, hy⟩ := silu_real x
    rw [hx, hy, ← EReal.coe_sub, sub_self, EReal.coe_zero]
  have zb (e : Fin 1024) : w (ix2 e k) - w (ix2 e k) = 0 := by
    obtain ⟨x, hx⟩ := hw (ix2 e k)
    rw [hx, ← EReal.coe_sub, sub_self, EReal.coe_zero]
  unfold silu at za
  pointwise [k0_pay1]
  simp only [za, zb, mul_zero, zero_mul, sub_zero, Finset.sum_const_zero, add_zero]
  rfl

/-- Over the reals the result is the modulation. -/
theorem algebraic [Cert.Pre_finite_mod.Facts] : Cert.algebraic_KernelModIdeal_ReferenceModIdeal_pre_finite_mod := by
  intro m g m' g' hp hagree
  refine ⟨fun c => val_main_v3 (F := Ideal) (m (c.tc.loc main_arg0)) (m (c.tc.loc main_arg1)) (m (c.tc.loc main_arg2)), ?_, ?_⟩
  · refine (θ_run _ _ _).mono (fun r h c => ?_) (Cert.KernelModIdeal.Value.run m g)
    obtain ⟨h0, hr⟩ := h c
    refine ⟨h0.trans (funext fun j => ?_), hr⟩
    obtain ⟨r, k, rfl⟩ : ∃ (r : Fin 8) (k : Fin 768), j = ix2 r k := ⟨_, _, (ix2_eta j).symm⟩
    exact (pay _ _ _ (fun i => Cert.Rows.finite_of (congrFun (hp c).1 i)) (fun i => Cert.Rows.finite_of (congrFun (hp c).2 i)) r k).trans (ref _ _ _ r k).symm
  · refine (θ_run _ _ _).mono (fun r h c => ?_) (Cert.ReferenceModIdeal.Value.run m' g')
    obtain ⟨h0, hr⟩ := h c
    obtain ⟨e0, e1, e2⟩ := hagree c
    exact ⟨(h0.trans (val_main_v3_eq _ _ _)).trans (by rw [e0, e1, e2]), hr⟩

end Cert.Proof.ModClaims
end
-- ==== Proof.Rms.lean ====
/- The two RMS norms: the value of `mix_norm` over its row blocks, against the norms of the gated state-space heads and of
   the attention heads side by side. Both are the same sums in the same order, so nothing need be finite. -/
module

public import proofs.«01_k».proof.Defs
public import proofs.«01_k».proof.Proof.Gen.KernelRmsIdeal.Value
public import proofs.«01_k».proof.Proof.Gen.ReferenceRmsIdeal.Read
public import proofs.«01_k».proof.Proof.Rows
public import Idealize.ShloMosaic.Lib.Pipeline.ValueKit
public import Idealize.ShloMosaic.Lib.Claim
public import Idealize.ShloMosaic.Lib.Pointwise

@[expose] public section

set_option maxRecDepth 16384

noncomputable section

open Idealize.ShloMosaic Idealize.ShloMosaic.TcCoe Idealize.SL.Sem

namespace Cert.KernelRmsIdeal.Whole

open Cert.KernelRmsIdeal Cert.KernelRmsIdeal.Gen Cert.Rows
open Cert.ReferenceRmsIdeal.Read

/-- A gated entry, and an entry of the normed rows: the gated ones in the first half, the attention's in the second. -/
def gated (y z : EReal) : EReal := y * (z * Ideal.logistic z)
def entry {n : ℕ} (y z a : (⟨2, ![n, 1024]⟩ : Shape).Idx → EReal) (w v : FVec Ideal S1x1024 .f32) (r : Fin n) (e : Fin 2048) : EReal :=
  if h : e.val < 1024 then gated (y (ix2 r ⟨e.val, h⟩)) (z (ix2 r ⟨e.val, h⟩)) * Ideal.rsqrt (var fun k => gated (y (ix2 r k)) (z (ix2 r k))) * w (ix2 0 ⟨e.val, h⟩)
  else a (ix2 r ⟨e.val - 1024, by omega⟩) * Ideal.rsqrt (var fun k => a (ix2 r k)) * v (ix2 0 ⟨e.val - 1024, by omega⟩)

theorem pay (y z a : FVec Ideal S256x1024 .f32) (w v : FVec Ideal S1x1024 .f32) (r : Fin 256) (e : Fin 2048) :
    k0_pay1 (F := Ideal) (k0_pay2 y z a w v) (ix2 r e) = entry y z a w v r e := by
  pointwise [k0_pay1, k0_pay2]
  simp only [entry, gated, Ideal.logistic, zero_sub]
  rfl

theorem ref (y z a : FVec Ideal S4096x1024 .f32) (w v : FVec Ideal S1x1024 .f32) (r : Fin 4096) (e : Fin 2048) :
    val_main_v27 (F := Ideal) y z a w v (ix2 r e) = entry y z a w v r e := by
  pointwise [val_main_v27, val_main_v26, val_main_v25, val_main_v24, val_main_v23, val_main_v22, val_main_v21, val_main_v20, val_main_v19, val_main_v18,
    val_main_v17, val_main_v16, val_main_v15, val_main_v14, val_main_v13, val_main_v12, val_main_v11, val_main_v10, val_main_v9, val_main_v8, val_main_v7,
    val_main_v6, val_main_v5, val_main_v4, val_main_v3, val_main_v2, val_main_v1, val_main_v0, val_main_call0_v5, val_main_call0_v4, val_main_call0_v3,
    val_main_call0_v2, val_main_call0_v1, val_main_call0_v0, val_main_call0_cst, val_main_call0_cst_0, val_main_cst, val_main_cst_0, val_main_cst_1,
    val_main_cst_2, val_main_cst_3, val_main_cst_4]
  simp only [entry, gated, Ideal.logistic]
  rfl

variable (m : (ℓ : Loc nD τ sig) → Buf (Elt Ideal) ℓ)

/-- Where each window's block sits: row block `t` of the big arrays, the one row of the small ones. -/
theorem idx : ∀ t : Fin cfg0.N, win0_0.index t = ![t.val, 0] ∧ win0_1.index t = ![t.val, 0]
    ∧ win0_2.index t = ![t.val, 0] ∧ win0_3.index t = ![0, 0] ∧ win0_4.index t = ![0, 0] ∧ win0_5.index t = ![t.val, 0] :=
  (by decide +kernel : ∀ t : Fin grid0.N, _)

/-- The row of the arrays that row `r` of a point's block is. -/
def row (t : Fin cfg0.N) (r : Fin 256) : Fin 4096 := ⟨t.val * 256 + r.val, by have := Nat.lt_of_lt_of_eq t.isLt N_0; omega⟩

/-- The arguments. -/
abbrev ay (c : Dev nD) : FVec Ideal S4096x1024 .f32 := m ((c : Thread nD τ).loc main_arg0)
abbrev az (c : Dev nD) : FVec Ideal S4096x1024 .f32 := m ((c : Thread nD τ).loc main_arg1)
abbrev aa (c : Dev nD) : FVec Ideal S4096x1024 .f32 := m ((c : Thread nD τ).loc main_arg2)
abbrev aw (c : Dev nD) : FVec Ideal S1x1024 .f32 := m ((c : Thread nD τ).loc main_arg3)
abbrev av (c : Dev nD) : FVec Ideal S1x1024 .f32 := m ((c : Thread nD τ).loc main_arg4)

theorem in0 (c : Dev nD) (t : Fin cfg0.N) (r : Fin 256) (k : Fin 1024) : (iblk m c 0 t : FVec Ideal S256x1024 .f32) (ix2 r k) = ay m c (ix2 (row t r) k) := by
  blk_point [iblk, V, idx t, row]

theorem in1 (c : Dev nD) (t : Fin cfg0.N) (r : Fin 256) (k : Fin 1024) : (X0_1 m c t : FVec Ideal S256x1024 .f32) (ix2 r k) = az m c (ix2 (row t r) k) := by
  unfold X0_1 Pipeline.Window.fill
  rw [dif_pos (moved0_1 t _)]
  have e : (win0_1.blk t).view.emb (fun a => ⟨(ix2 r k a).val, ((cfg0.win 1).moved_iff _ _).mp (moved0_1 t (ix2 r k)) a⟩) = ix2 (row t r) ⟨k.val, by omega⟩ := by
    blk_ext [idx t, row]
  unfold iblk
  refine (congrArg (V m c main_v0) e).trans ?_
  simp only [V, hostOps0, hostOps0_1, List.flatten_cons, List.flatten_nil, List.append_nil, List.cons_append, List.nil_append]
  entry_read
  refine Eq.trans (b := pad S4096x5760 ![0, 0] ![0, 4736] ![0, 0] (m ((c : Thread nD τ).loc main_arg1)) (sitofp (F := Ideal) .f32 (constantI S_ 32 0#32))
    pads_S4096x1024_S4096x5760_000_047360 h_S_ (ix2 (row t r) ⟨k.val, by omega⟩)) rfl ?_
  pointwise
  refine dif_pos fun a => ?_
  fin_cases a
  · exact ⟨Nat.zero_le _, Nat.mod_one _, by show ((row t r).val - 0) / (0 + 1) < 4096; omega⟩
  · exact ⟨Nat.zero_le _, Nat.mod_one _, by show (k.val - 0) / (0 + 1) < 1024; omega⟩

theorem in2 (c : Dev nD) (t : Fin cfg0.N) (r : Fin 256) (k : Fin 1024) : (iblk m c 2 t : FVec Ideal S256x1024 .f32) (ix2 r k) = aa m c (ix2 (row t r) k) := by
  blk_point [iblk, V, idx t, row]
theorem in3 (c : Dev nD) (t : Fin cfg0.N) (k : Fin 1024) : (iblk m c 3 t : FVec Ideal S1x1024 .f32) (ix2 0 k) = aw m c (ix2 0 k) := by
  blk_point [iblk, V, idx t]
theorem in4 (c : Dev nD) (t : Fin cfg0.N) (k : Fin 1024) : (iblk m c 4 t : FVec Ideal S1x1024 .f32) (ix2 0 k) = av m c (ix2 0 k) := by
  blk_point [iblk, V, idx t]

theorem outs (c : Dev nD) (t : Fin cfg0.N) : outsAt0 m c t
    = k0_pay1 (F := Ideal) (k0_pay2 (iblk m c 0 t) (X0_1 m c t) (iblk m c 2 t) (iblk m c 3 t) (iblk m c 4 t)) := by
  unfold outsAt0
  frame_out

/-- The normed rows, as an array. -/
theorem final (c : Dev nD) : (dats m 0 c).arrAt 5 cfg0.N = val_main_v27 (F := Ideal) (ay m c) (az m c) (aa m c) (aw m c) (av m c) := by
  refine (dats m 0 c).arrAt_eq_of_covers 5 _ (by decide +kernel) fun t _ y => ?_
  blk_simp
  rw [after0_5, outs]
  obtain ⟨r, e, rfl⟩ : ∃ (r : Fin 256) (e : Fin 2048), y = ix2 r e := ⟨_, _, (ix2_eta y).symm⟩
  have o : ((cfg0.win 5).blk t).view.emb (ix2 r e) = ix2 (row t r) e := by blk_ext [idx t, row]
  rw [o, ref]
  refine (pay _ _ _ _ _ r e).trans ?_
  unfold entry
  simp only [in0, in1, in2, in3, in4]

end Cert.KernelRmsIdeal.Whole

namespace Cert.Proof.RmsClaims

open Cert.KernelRmsIdeal.Whole Cert.ReferenceRmsIdeal.Read

/-- Over the reals the result is the forward lines'. -/
theorem algebraic : Cert.algebraic_KernelRmsIdeal_ReferenceRmsIdeal := by
  intro m g m' g' _ hagree
  refine ⟨fun c => val_main_v27 (F := Ideal) (ay m c) (az m c) (aa m c) (aw m c) (av m c), ?_, ?_⟩
  · refine (θ_run _ _ _).mono (fun r h c => ?_) (Cert.KernelRmsIdeal.Value.run_blocks m g)
    obtain ⟨h0, hr⟩ := h c
    exact ⟨h0.trans (final m c), hr⟩
  · refine (θ_run _ _ _).mono (fun r h c => ?_) (Cert.ReferenceRmsIdeal.Value.run m' g')
    obtain ⟨h0, hr⟩ := h c
    obtain ⟨e0, e1, e2, e3, e4⟩ := hagree c
    exact ⟨(h0.trans (val_main_v27_eq _ _ _ _ _)).trans (by rw [e0, e1, e2, e3, e4]), hr⟩

end Cert.Proof.RmsClaims
end
-- ==== Proof.Norm.lean ====
/- The first layer norm: the value of `ln1` over its row blocks, against the residual sum, the layer norm and the modulation
   of the forward lines. Both are the same sums in the same order, so nothing need be finite. -/
module

public import proofs.«01_k».proof.Defs
public import proofs.«01_k».proof.Proof.Gen.KernelNormIdeal.Value
public import proofs.«01_k».proof.Proof.Gen.ReferenceNormIdeal.Read
public import proofs.«01_k».proof.Proof.Norms
public import Idealize.ShloMosaic.Lib.Pipeline.ValueKit
public import Idealize.ShloMosaic.Lib.Claim
public import Idealize.ShloMosaic.Lib.Pointwise

@[expose] public section

set_option maxRecDepth 16384

noncomputable section

open Idealize.ShloMosaic Idealize.ShloMosaic.TcCoe Idealize.SL.Sem

namespace Cert.KernelNormIdeal.Whole

open Cert.KernelNormIdeal Cert.KernelNormIdeal.Gen Cert.Rows
open Cert.ReferenceNormIdeal.Read

/-- The normed row's entry. -/
def x1 {n : ℕ} (x y : (⟨2, ![n, 1024]⟩ : Shape).Idx → EReal) (g gam bet : FVec Ideal S1x1024 .f32) (r : Fin n) (e : Fin 1024) : EReal :=
  nrm (fun k => res (x (ix2 r k)) (y (ix2 r k)) (g (ix2 0 k))) e * gam (ix2 0 e) + bet (ix2 0 e)

theorem pay2 (x y : FVec Ideal S256x1024 .f32) (g gam bet : FVec Ideal S1x1024 .f32) (r : Fin 256) (e : Fin 1024) :
    k0_pay2 (F := Ideal) x y g gam bet (ix2 r e) = x1 x y g gam bet r e := by
  pointwise [k0_pay2]
  rfl

theorem pay4 (x y : FVec Ideal S256x1024 .f32) (g gam bet s h : FVec Ideal S1x1024 .f32) (r : Fin 256) (e : Fin 1024) :
    k0_pay4 (F := Ideal) x y g gam bet s h (ix2 r e) = x1 x y g gam bet r e := by
  unfold k0_pay4
  frame_out
  exact pay2 x y g gam bet r e

theorem pay1 (h : FVec Ideal S1x1024 .f32) (a : FVec Ideal S256x1024 .f32) (s : FVec Ideal S1x1024 .f32) (r : Fin 256) (e : Fin 1024) :
    k0_pay1 (F := Ideal) h a (k0_pay3 s) (ix2 r e) = a (ix2 r e) * (1 + s (ix2 0 e)) + h (ix2 0 e) := by
  pointwise [k0_pay1, k0_pay3]

theorem ref28 (x y : FVec Ideal S4096x1024 .f32) (g gam bet : FVec Ideal S1x1024 .f32) (r : Fin 4096) (e : Fin 1024) :
    val_main_v28 (F := Ideal) x y g gam bet (ix2 r e) = x1 x y g gam bet r e := by
  pointwise [val_main_v28, val_main_v27, val_main_v26, val_main_v25, val_main_v24, val_main_v23, val_main_v22, val_main_v21, val_main_v20, val_main_v19,
    val_main_v18, val_main_v17, val_main_v16, val_main_v15, val_main_v14, val_main_v13, val_main_v12, val_main_v11, val_main_v10, val_main_v9, val_main_v8,
    val_main_v7, val_main_v6, val_main_v5, val_main_v4, val_main_v3, val_main_v2, val_main_v1, val_main_v0, val_main_cst, val_main_cst_0, val_main_cst_1,
    val_main_cst_2, val_main_cst_3, val_main_cst_4, val_main_cst_5]
  rfl

theorem ref35 (x y : FVec Ideal S4096x1024 .f32) (g gam bet s h : FVec Ideal S1x1024 .f32) (r : Fin 4096) (e : Fin 1024) :
    val_main_v35 (F := Ideal) x y g gam bet s h (ix2 r e) = x1 x y g gam bet r e * (1 + s (ix2 0 e)) + h (ix2 0 e) := by
  rw [← ref28]
  pointwise [val_main_v35, val_main_v34, val_main_v33, val_main_v32, val_main_v31, val_main_v30, val_main_v29, val_main_cst_6]

variable (m : (ℓ : Loc nD τ sig) → Buf (Elt Ideal) ℓ)

/-- Where each window's block sits: row block `t` of the big arrays, the one row of the small ones. -/
theorem idx : ∀ t : Fin cfg0.N, win0_0.index t = ![t.val, 0] ∧ win0_1.index t = ![t.val, 0]
    ∧ win0_2.index t = ![0, 0] ∧ win0_3.index t = ![0, 0] ∧ win0_4.index t = ![0, 0]
    ∧ win0_5.index t = ![0, 0] ∧ win0_6.index t = ![0, 0] ∧ win0_7.index t = ![t.val, 0] ∧ win0_8.index t = ![t.val, 0] :=
  (by decide +kernel : ∀ t : Fin grid0.N, _)

/-- The row of the arrays that row `r` of a point's block is. -/
def row (t : Fin cfg0.N) (r : Fin 256) : Fin 4096 := ⟨t.val * 256 + r.val, by have := Nat.lt_of_lt_of_eq t.isLt N_0; omega⟩

/-- The arguments. -/
abbrev ax (c : Dev nD) : FVec Ideal S4096x1024 .f32 := m ((c : Thread nD τ).loc main_arg0)
abbrev ay (c : Dev nD) : FVec Ideal S4096x1024 .f32 := m ((c : Thread nD τ).loc main_arg1)
abbrev ag (c : Dev nD) : FVec Ideal S1x1024 .f32 := m ((c : Thread nD τ).loc main_arg2)
abbrev agm (c : Dev nD) : FVec Ideal S1x1024 .f32 := m ((c : Thread nD τ).loc main_arg3)
abbrev abt (c : Dev nD) : FVec Ideal S1x1024 .f32 := m ((c : Thread nD τ).loc main_arg4)
abbrev asc (c : Dev nD) : FVec Ideal S1x1024 .f32 := m ((c : Thread nD τ).loc main_arg5)
abbrev ash (c : Dev nD) : FVec Ideal S1x1024 .f32 := m ((c : Thread nD τ).loc main_arg6)

theorem in0 (c : Dev nD) (t : Fin cfg0.N) (r : Fin 256) (k : Fin 1024) : (iblk m c 0 t : FVec Ideal S256x1024 .f32) (ix2 r k) = ax m c (ix2 (row t r) k) := by
  blk_point [iblk, V, idx t, row]
theorem in1 (c : Dev nD) (t : Fin cfg0.N) (r : Fin 256) (k : Fin 1024) : (iblk m c 1 t : FVec Ideal S256x1024 .f32) (ix2 r k) = ay m c (ix2 (row t r) k) := by
  blk_point [iblk, V, idx t, row]
theorem in2 (c : Dev nD) (t : Fin cfg0.N) (k : Fin 1024) : (iblk m c 2 t : FVec Ideal S1x1024 .f32) (ix2 0 k) = ag m c (ix2 0 k) := by
  blk_point [iblk, V, idx t]
theorem in3 (c : Dev nD) (t : Fin cfg0.N) (k : Fin 1024) : (iblk m c 3 t : FVec Ideal S1x1024 .f32) (ix2 0 k) = agm m c (ix2 0 k) := by
  blk_point [iblk, V, idx t]
theorem in4 (c : Dev nD) (t : Fin cfg0.N) (k : Fin 1024) : (iblk m c 4 t : FVec Ideal S1x1024 .f32) (ix2 0 k) = abt m c (ix2 0 k) := by
  blk_point [iblk, V, idx t]
theorem in5 (c : Dev nD) (t : Fin cfg0.N) (k : Fin 1024) : (iblk m c 5 t : FVec Ideal S1x1024 .f32) (ix2 0 k) = asc m c (ix2 0 k) := by
  blk_point [iblk, V, idx t]
theorem in6 (c : Dev nD) (t : Fin cfg0.N) (k : Fin 1024) : (iblk m c 6 t : FVec Ideal S1x1024 .f32) (ix2 0 k) = ash m c (ix2 0 k) := by
  blk_point [iblk, V, idx t]

theorem x1_eq (c : Dev nD) (t : Fin cfg0.N) (r : Fin 256) (e : Fin 1024) :
    x1 (iblk m c 0 t : FVec Ideal S256x1024 .f32) (iblk m c 1 t : FVec Ideal S256x1024 .f32) (iblk m c 2 t) (iblk m c 3 t) (iblk m c 4 t) r e
      = x1 (ax m c) (ay m c) (ag m c) (agm m c) (abt m c) (row t r) e := by
  unfold x1
  simp only [in0, in1, in2, in3, in4]

/-- The normed rows, as an array. -/
theorem final7 (c : Dev nD) : (dats m 0 c).arrAt 7 cfg0.N = val_main_v28 (F := Ideal) (ax m c) (ay m c) (ag m c) (agm m c) (abt m c) := by
  refine (dats m 0 c).arrAt_eq_of_covers 7 _ (by decide +kernel) fun t _ y => ?_
  blk_simp
  rw [after0_7]
  frame_out
  obtain ⟨r, e, rfl⟩ : ∃ (r : Fin 256) (e : Fin 1024), y = ix2 r e := ⟨_, _, (ix2_eta y).symm⟩
  have o : ((cfg0.win 7).blk t).view.emb (ix2 r e) = ix2 (row t r) e := by blk_ext [idx t, row]
  rw [o, ref28, pay4]
  exact x1_eq m c t r e

/-- The modulated rows, as an array. -/
theorem final8 (c : Dev nD) : (dats m 0 c).arrAt 8 cfg0.N
    = val_main_v35 (F := Ideal) (ax m c) (ay m c) (ag m c) (agm m c) (abt m c) (asc m c) (ash m c) := by
  refine (dats m 0 c).arrAt_eq_of_covers 8 _ (by decide +kernel) fun t _ y => ?_
  blk_simp
  rw [after0_8]
  frame_out
  obtain ⟨r, e, rfl⟩ : ∃ (r : Fin 256) (e : Fin 1024), y = ix2 r e := ⟨_, _, (ix2_eta y).symm⟩
  have o : ((cfg0.win 8).blk t).view.emb (ix2 r e) = ix2 (row t r) e := by blk_ext [idx t, row]
  rw [o, ref35, pay1, pay4, x1_eq, in5, in6]

end Cert.KernelNormIdeal.Whole

namespace Cert.Proof.NormClaims

open Cert.KernelNormIdeal.Whole Cert.ReferenceNormIdeal.Read

/-- Over the reals the two results are the forward lines'. -/
theorem algebraic : Cert.algebraic_KernelNormIdeal_ReferenceNormIdeal := by
  intro m g m' g' _ hagree
  refine ⟨fun c => val_main_v28 (F := Ideal) (ax m c) (ay m c) (ag m c) (agm m c) (abt m c),
    fun c => val_main_v35 (F := Ideal) (ax m c) (ay m c) (ag m c) (agm m c) (abt m c) (asc m c) (ash m c), ?_, ?_⟩
  · refine (θ_run _ _ _).mono (fun r h c => ?_) (Cert.KernelNormIdeal.Value.run_blocks m g)
    obtain ⟨h0, h1, hr⟩ := h c
    exact ⟨h0.trans (final7 m c), h1.trans (final8 m c), hr⟩
  · refine (θ_run _ _ _).mono (fun r h c => ?_) (Cert.ReferenceNormIdeal.Value.run m' g')
    obtain ⟨h0, h1, hr⟩ := h c
    obtain ⟨e0, e1, e2, e3, e4, e5, e6⟩ := hagree c
    exact ⟨(h0.trans (val_main_v28_eq _ _ _ _ _)).trans (by rw [e0, e1, e2, e3, e4]), (h1.trans (val_main_v35_eq m' c)).trans (by rw [e0, e1, e2, e3, e4, e5, e6]), hr⟩

end Cert.Proof.NormClaims
end
-- ==== Proof.Act.lean ====
/- The causal convolution and its SiLU: the value of `conv_fwd` over its row blocks, each block reading the last rows of the one
   before it, against the weighted sum of the shifted rows. Both add the same products, so nothing need be finite. -/
module

public import proofs.«01_k».proof.Defs
public import proofs.«01_k».proof.Proof.Gen.KernelActIdeal.Value
public import proofs.«01_k».proof.Proof.Gen.ReferenceActIdeal.Read
public import Idealize.ShloMosaic.Lib.Pipeline.ValueKit
public import Idealize.ShloMosaic.Lib.Claim
public import Idealize.ShloMosaic.Lib.Pointwise

@[expose] public section

set_option maxRecDepth 16384

noncomputable section

open Idealize.ShloMosaic Idealize.ShloMosaic.TcCoe Idealize.SL.Sem
namespace Cert.KernelActIdeal.Whole

open Cert.KernelActIdeal Cert.KernelActIdeal.Gen
open Cert.ReferenceActIdeal.Read
open Cert.ReferenceActIdeal (S4096x1536)

/-- An entry's weighted sum of its own value and of the three before it (zero before the first row), and its SiLU. -/
def past (u : FVec Ideal S4096x1536 .f32) (j : ℕ) (r : Fin 4096) (e : Fin 1536) : EReal := if h : j ≤ r.val then u (ix2 ⟨r.val - j, by omega⟩ e) else 0
def act (x : EReal) : EReal := x * Ideal.div 1 (1 + Ideal.exp (0 - x))
def lin (u : FVec Ideal S4096x1536 .f32) (w : FVec Ideal S4x1536 .f32) (b : FVec Ideal S1x1536 .f32) (r : Fin 4096) (e : Fin 1536) : EReal :=
  u (ix2 r e) * w (ix2 3 e) + b (ix2 0 e) + past u 1 r e * w (ix2 2 e) + past u 2 r e * w (ix2 1 e) + past u 3 r e * w (ix2 0 e)

/-- The convolved channels: the scan's own and its two other operands'. -/
abbrev chn (x : FVec Ideal S4096x5760 .f32) : FVec Ideal S4096x1536 .f32 := val_main_v2 (F := Ideal) x
theorem chn_xs (x : FVec Ideal S4096x5760 .f32) (R : Fin 4096) (k : Fin 1024) : chn x (ix2 R ⟨k.val, by omega⟩) = x (ix2 R ⟨1024 + k.val, by omega⟩) := by
  pointwise [chn, val_main_v2, val_main_v1, val_main_v0]
theorem chn_bc (x : FVec Ideal S4096x5760 .f32) (R : Fin 4096) (k : Fin 512) : chn x (ix2 R ⟨1024 + k.val, by omega⟩) = x (ix2 R ⟨5120 + k.val, by omega⟩) := by
  pointwise [chn, val_main_v2, val_main_v1, val_main_v0]

theorem r0 (x : FVec Ideal S4096x5760 .f32) (j : ℕ) (hj : j ≤ 3) (r : Fin 4096) (e : Fin 1536) (q : Fin 4099) (hq : q.val = 3 - j + r.val) :
   val_main_v3 (F := Ideal) x (ix2 q e) = past (chn x) j r e := by
  unfold past
  pointwise [val_main_v3, val_main_call0_v0, val_main_c]
  by_cases h : j ≤ r.val
  · rw [dif_pos (by omega), dif_pos h]
    exact congrArg (fun k => chn x (ix2 k e)) (Fin.ext (by show q.val - 3 = r.val - j; omega))
  · rw [dif_neg (by omega), dif_neg h]
    show ((BitVec.toInt 0#32 : ℝ) : EReal) = 0
    simp

theorem ref27 (x : FVec Ideal S4096x5760 .f32) (w : FVec Ideal S4x1536 .f32) (b : FVec Ideal S1x1536 .f32) (r : Fin 4096) (e : Fin 1536) :
   val_main_v27 (F := Ideal) x w b (ix2 r e) = act (lin (chn x) w b r e) := by
  have h3 : past (chn x) 0 r e = chn x (ix2 r e) := dif_pos (Nat.zero_le _)
  pointwise [val_main_v27, val_main_v26, val_main_v25, val_main_v24, val_main_v23, val_main_v22,
    val_main_v21, val_main_v20, val_main_v19, val_main_v18, val_main_v17, val_main_v16, val_main_v15, val_main_v14, val_main_v13, val_main_v12, val_main_v11,
    val_main_v10, val_main_v9, val_main_v8, val_main_v7, val_main_v6, val_main_v5, val_main_v4, val_main_cst, val_main_call1_v0, val_main_call1_v1,
    val_main_call1_cst, val_main_call1_v2, val_main_call1_v3, val_main_call1_v4, val_main_call1_v5, val_main_call1_cst_0]
  rw [r0 x 3 (by omega) r e ⟨r.val, by omega⟩ (by show r.val = 3 - 3 + r.val; omega), r0 x 2 (by omega) r e ⟨1 + r.val, by omega⟩ rfl,
    r0 x 1 (by omega) r e ⟨2 + r.val, by omega⟩ rfl, r0 x 0 (by omega) r e ⟨3 + r.val, by omega⟩ rfl, h3]
  have s : past (chn x) 3 r e * w (ix2 0 e) + past (chn x) 2 r e * w (ix2 1 e) + past (chn x) 1 r e * w (ix2 2 e) + chn x (ix2 r e) * w (ix2 3 e) + b (ix2 0 e) = lin (chn x) w b r e := by
    unfold lin
    ac_rfl
  rw [s, act, zero_sub]

theorem ref28 (x : FVec Ideal S4096x5760 .f32) (w : FVec Ideal S4x1536 .f32) (b : FVec Ideal S1x1536 .f32) (r : Fin 4096) (e : Fin 1024) :
   val_main_v28 (F := Ideal) x w b (ix2 r e) = act (lin (chn x) w b r ⟨e.val, by omega⟩) := by
  rw [← ref27]
  pointwise [val_main_v28]
theorem ref29 (x : FVec Ideal S4096x5760 .f32) (w : FVec Ideal S4x1536 .f32) (b : FVec Ideal S1x1536 .f32) (r : Fin 4096) (e : Fin 512) :
   val_main_v29 (F := Ideal) x w b (ix2 r e) = act (lin (chn x) w b r ⟨1024 + e.val, by omega⟩) := by
  rw [← ref27]
  pointwise [val_main_v29]

/-- The value `j` rows above, in a block and the block before it. -/
def up {n : ℕ} (first : BitVec 1) (x v : (⟨2, ![256, n]⟩ : Shape).Idx → EReal) (j : ℕ) (r : Fin 256) (e : Fin n) : EReal :=
  Scalar.select (IntOp.cmpi CmpIPredicate.slt (BitVec.ofNat 32 r.val) (BitVec.ofNat 32 j)) (Scalar.select first 0 (v (ix2 ⟨(r.val + 256 - j) % 256, Nat.mod_lt _ (by decide)⟩ e)))
    (x (ix2 ⟨(r.val + 256 - j) % 256, Nat.mod_lt _ (by decide)⟩ e))

theorem pay8 (i : grid0.Coords) (x v : FVec Ideal S256x1024 .f32) (w : FVec Ideal S4x1024 .f32) (b : FVec Ideal S1x1024 .f32) (r : Fin 256) (e : Fin 1024) :
    k0_pay9 (F := Ideal) x (k0_pay2 w) (k0_pay5 i v) (k0_pay7 i x v w b) k0_pay8 2#32 (ix2 r e)
      = act (x (ix2 r e) * w (ix2 3 e) + b (ix2 0 e) + up (Scalar.cmpi CmpIPredicate.eq (BitVec.ofNat 32 (i 0).val) 0#32) x v 1 r e * w (ix2 2 e)
        + up (Scalar.cmpi CmpIPredicate.eq (BitVec.ofNat 32 (i 0).val) 0#32) x v 2 r e * w (ix2 1 e)
        + up (Scalar.cmpi CmpIPredicate.eq (BitVec.ofNat 32 (i 0).val) 0#32) x v 3 r e * w (ix2 0 e)) := by
  pointwise [k0_pay9, k0_pay8, k0_pay7, k0_pay5, k0_pay2]
  rfl
theorem pay9 (i : grid0.Coords) (x v : FVec Ideal S256x512 .f32) (w : FVec Ideal S4x512 .f32) (b : FVec Ideal S1x512 .f32) (r : Fin 256) (e : Fin 512) :
    k0_pay1 (F := Ideal) x (k0_pay3 w) (k0_pay6 i v) (k0_pay10 x (k0_pay3 w) (k0_pay4 b) (k0_pay6 i v)) (k0_pay11 x (k0_pay6 i v)) (k0_pay12 (k0_pay3 w)) (ix2 r e)
      = act (x (ix2 r e) * w (ix2 3 e) + b (ix2 0 e) + up (Scalar.cmpi CmpIPredicate.eq (BitVec.ofNat 32 (i 0).val) 0#32) x v 1 r e * w (ix2 2 e)
        + up (Scalar.cmpi CmpIPredicate.eq (BitVec.ofNat 32 (i 0).val) 0#32) x v 2 r e * w (ix2 1 e)
        + up (Scalar.cmpi CmpIPredicate.eq (BitVec.ofNat 32 (i 0).val) 0#32) x v 3 r e * w (ix2 0 e)) := by
  pointwise [k0_pay1, k0_pay12, k0_pay11, k0_pay10, k0_pay6, k0_pay4, k0_pay3]
  rfl

variable (m : (ℓ : Loc nD τ sig) → Buf (Elt Ideal) ℓ)
theorem idx : ∀ t : Fin cfg0.N, win0_0.index t = ![t.val, 1] ∧ win0_1.index t = ![t.val - 1, 1]
    ∧ win0_2.index t = ![t.val, 10] ∧ win0_3.index t = ![t.val - 1, 10] ∧ win0_4.index t = ![0, 0] ∧ win0_5.index t = ![0, 0]
    ∧ win0_6.index t = ![0, 0] ∧ win0_7.index t = ![0, 0] ∧ win0_8.index t = ![t.val, 0] ∧ win0_9.index t = ![t.val, 0] :=
  (by decide +kernel : ∀ t : Fin grid0.N, _)

/-- The row of the arrays that row `r` of a point's block is. -/
def row (t : Fin cfg0.N) (r : Fin 256) : Fin 4096 := ⟨t.val * 256 + r.val, by have := Nat.lt_of_lt_of_eq t.isLt N_0; omega⟩

/-- The same row of the block before. -/
def before (t : Fin cfg0.N) (h : 0 < t.val) (r : Fin 256) : Fin 4096 := ⟨(t.val - 1) * 256 + r.val, by have := Nat.lt_of_lt_of_eq t.isLt N_0; omega⟩

/-- The arguments. -/
abbrev ap (c : Dev nD) : FVec Ideal S4096x5760 .f32 := m ((c : Thread nD τ).loc main_arg0)
abbrev au (c : Dev nD) : FVec Ideal S4096x1536 .f32 := chn (ap m c)
abbrev aw (c : Dev nD) : FVec Ideal S4x1536 .f32 := m ((c : Thread nD τ).loc main_arg1)
abbrev ab (c : Dev nD) : FVec Ideal S1x1536 .f32 := m ((c : Thread nD τ).loc main_arg2)

theorem in4 (c : Dev nD) (t : Fin cfg0.N) (j : Fin 4) (k : Fin 1024) : (iblk m c 4 t : FVec Ideal S4x1024 .f32) (ix2 j k) = aw m c (ix2 j ⟨k.val, by omega⟩) := by
  blk_point [iblk, V, idx t]
theorem in5 (c : Dev nD) (t : Fin cfg0.N) (k : Fin 1024) : (iblk m c 5 t : FVec Ideal S1x1024 .f32) (ix2 0 k) = ab m c (ix2 0 ⟨k.val, by omega⟩) := by
  blk_point [iblk, V, idx t]
theorem in6 (c : Dev nD) (t : Fin cfg0.N) (j : Fin 4) (k : Fin 512) : (iblk m c 6 t : FVec Ideal S4x512 .f32) (ix2 j k) = aw m c (ix2 j ⟨1024 + k.val, by omega⟩) := by
  blk_point [iblk, V, idx t]
theorem in7 (c : Dev nD) (t : Fin cfg0.N) (k : Fin 512) : (iblk m c 7 t : FVec Ideal S1x512 .f32) (ix2 0 k) = ab m c (ix2 0 ⟨1024 + k.val, by omega⟩) := by
  blk_point [iblk, V, idx t]

theorem in0 (c : Dev nD) (t : Fin cfg0.N) (r : Fin 256) (k : Fin 1024) : (X0_0 m c t : FVec Ideal S256x1024 .f32) (ix2 r k) = au m c (ix2 (row t r) ⟨k.val, by omega⟩) := by
  unfold X0_0 Pipeline.Window.fill
  rw [dif_pos (moved0_0 t _)]
  refine Eq.trans ?_ (chn_xs (ap m c) _ k).symm
  have e : (win0_0.blk t).view.emb (fun a => ⟨(ix2 r k a).val, ((cfg0.win 0).moved_iff _ _).mp (moved0_0 t (ix2 r k)) a⟩) = ix2 (row t r) ⟨1024 + k.val, by omega⟩ := by
    blk_ext [idx t, row]
  unfold iblk
  exact (congrFun (V_main_arg0 m c) _).trans (congrArg (ap m c) e)

theorem in1 (c : Dev nD) (t : Fin cfg0.N) (h : 0 < t.val) (r : Fin 256) (k : Fin 1024) : (X0_1 m c t : FVec Ideal S256x1024 .f32) (ix2 r k) = au m c (ix2 (before t h r) ⟨k.val, by omega⟩) := by
  unfold X0_1 Pipeline.Window.fill
  rw [dif_pos (moved0_1 t _)]
  refine Eq.trans ?_ (chn_xs (ap m c) _ k).symm
  have e : (win0_1.blk t).view.emb (fun a => ⟨(ix2 r k a).val, ((cfg0.win 1).moved_iff _ _).mp (moved0_1 t (ix2 r k)) a⟩) = ix2 (before t h r) ⟨1024 + k.val, by omega⟩ := by
    blk_ext [idx t, before]
  unfold iblk
  exact (congrFun (V_main_arg0 m c) _).trans (congrArg (ap m c) e)

theorem in2 (c : Dev nD) (t : Fin cfg0.N) (r : Fin 256) (k : Fin 512) : (X0_2 m c t : FVec Ideal S256x512 .f32) (ix2 r k) = au m c (ix2 (row t r) ⟨1024 + k.val, by omega⟩) := by
  unfold X0_2 Pipeline.Window.fill
  rw [dif_pos (moved0_2 t _)]
  refine Eq.trans ?_ (chn_bc (ap m c) _ k).symm
  have e : (win0_2.blk t).view.emb (fun a => ⟨(ix2 r k a).val, ((cfg0.win 2).moved_iff _ _).mp (moved0_2 t (ix2 r k)) a⟩) = ix2 (row t r) ⟨5120 + k.val, by omega⟩ := by
    blk_ext [idx t, row]
  unfold iblk
  exact (congrFun (V_main_arg0 m c) _).trans (congrArg (ap m c) e)

theorem in3 (c : Dev nD) (t : Fin cfg0.N) (h : 0 < t.val) (r : Fin 256) (k : Fin 512) : (X0_3 m c t : FVec Ideal S256x512 .f32) (ix2 r k) = au m c (ix2 (before t h r) ⟨1024 + k.val, by omega⟩) := by
  unfold X0_3 Pipeline.Window.fill
  rw [dif_pos (moved0_3 t _)]
  refine Eq.trans ?_ (chn_bc (ap m c) _ k).symm
  have e : (win0_3.blk t).view.emb (fun a => ⟨(ix2 r k a).val, ((cfg0.win 3).moved_iff _ _).mp (moved0_3 t (ix2 r k)) a⟩) = ix2 (before t h r) ⟨5120 + k.val, by omega⟩ := by
    blk_ext [idx t, before]
  unfold iblk
  exact (congrFun (V_main_arg0 m c) _).trans (congrArg (ap m c) e)

/-- The rows above in the blocks are the rows above in the array. -/
theorem up_eq {n : ℕ} (u : FVec Ideal S4096x1536 .f32) (t : Fin cfg0.N) (x v : (⟨2, ![256, n]⟩ : Shape).Idx → EReal) (e : Fin n) (q : Fin 1536)
    (hx : ∀ r, x (ix2 r e) = u (ix2 (row t r) q)) (hv : ∀ (h : 0 < t.val) r, v (ix2 r e) = u (ix2 (before t h r) q)) (j : ℕ) (hj : j ≤ 3) (r : Fin 256) :
    up (Scalar.cmpi CmpIPredicate.eq (BitVec.ofNat 32 (grid0.coords t 0).val) 0#32) x v j r e = past u j (row t r) q := by
  have ht : t.val < 16 := Nat.lt_of_lt_of_eq t.isLt N_0
  have hc : (grid0.coords t 0).val = t.val := (by decide +kernel : ∀ t : Fin grid0.N, (grid0.coords t 0).val = t.val) t
  have hs : IntOp.cmpi CmpIPredicate.slt (BitVec.ofNat 32 r.val) (BitVec.ofNat 32 j) = if r.val < j then 1#1 else 0#1 :=
    (by decide +kernel : ∀ (j : Fin 4) (r : Fin 256), IntOp.cmpi CmpIPredicate.slt (BitVec.ofNat 32 r.val) (BitVec.ofNat 32 j.val) = if r.val < j.val then 1#1 else 0#1) ⟨j, by omega⟩ r
  have h0 : Scalar.cmpi CmpIPredicate.eq (BitVec.ofNat 32 (grid0.coords t 0).val) 0#32 = if t.val = 0 then 1#1 else 0#1 := by
    rw [hc]
    exact (by decide +kernel : ∀ n : Fin 16, Scalar.cmpi CmpIPredicate.eq (BitVec.ofNat 32 n.val) 0#32 = if n.val = 0 then 1#1 else 0#1) ⟨t.val, ht⟩
  unfold up past
  rw [hs, h0, hx]
  by_cases h : r.val < j
  · rw [if_pos h]
    by_cases hz : t.val = 0
    · rw [if_pos hz, dif_neg (by show ¬ j ≤ t.val * 256 + r.val; omega)]
      rfl
    · rw [if_neg hz, dif_pos (by show j ≤ t.val * 256 + r.val; omega), hv (by omega)]
      exact congrArg (fun k => u (ix2 k q)) (Fin.ext (by show (t.val - 1) * 256 + (r.val + 256 - j) % 256 = t.val * 256 + r.val - j; omega))
  · rw [if_neg h, dif_pos (by show j ≤ t.val * 256 + r.val; omega)]
    exact congrArg (fun k => u (ix2 k q)) (Fin.ext (by show t.val * 256 + (r.val + 256 - j) % 256 = t.val * 256 + r.val - j; omega))

theorem outs8 (c : Dev nD) (t : Fin cfg0.N) (r : Fin 256) (e : Fin 1024) : (outsAt0 m c t).1 (ix2 r e) = act (lin (au m c) (aw m c) (ab m c) (row t r) ⟨e.val, by omega⟩) := by
  unfold outsAt0
  frame_out
  refine (pay8 _ _ _ _ _ r e).trans ?_
  have up1 := fun j hj => up_eq (au m c) t (X0_0 m c t : FVec Ideal S256x1024 .f32) (X0_1 m c t : FVec Ideal S256x1024 .f32) e ⟨e.val, by omega⟩ (fun r => in0 m c t r e) (fun h r => in1 m c t h r e) j hj r
  rw [up1 1 (by omega), up1 2 (by omega), up1 3 (by omega), in0, in4, in4, in4, in4, in5]
  rfl

theorem outs9 (c : Dev nD) (t : Fin cfg0.N) (r : Fin 256) (e : Fin 512) : (outsAt0 m c t).2 (ix2 r e) = act (lin (au m c) (aw m c) (ab m c) (row t r) ⟨1024 + e.val, by omega⟩) := by
  unfold outsAt0
  frame_out
  refine (pay9 _ _ _ _ _ r e).trans ?_
  have up1 := fun j hj => up_eq (au m c) t (X0_2 m c t : FVec Ideal S256x512 .f32) (X0_3 m c t : FVec Ideal S256x512 .f32) e ⟨1024 + e.val, by omega⟩ (fun r => in2 m c t r e) (fun h r => in3 m c t h r e) j hj r
  rw [up1 1 (by omega), up1 2 (by omega), up1 3 (by omega), in2, in6, in6, in6, in6, in7]
  rfl

/-- The convolved channels of the scan's input, as an array. -/
theorem final8 (c : Dev nD) : (dats m 0 c).arrAt 8 cfg0.N = val_main_v28 (F := Ideal) (ap m c) (aw m c) (ab m c) := by
  refine (dats m 0 c).arrAt_eq_of_covers 8 _ (by decide +kernel) fun t _ y => ?_
  blk_simp
  rw [after0_8]
  obtain ⟨r, e, rfl⟩ : ∃ (r : Fin 256) (e : Fin 1024), y = ix2 r e := ⟨_, _, (ix2_eta y).symm⟩
  have o : ((cfg0.win 8).blk t).view.emb (ix2 r e) = ix2 (row t r) e := by blk_ext [idx t, row]
  rw [o, ref28]
  exact outs8 m c t r e

/-- The convolved channels of its two other operands, as an array. -/
theorem final9 (c : Dev nD) : (dats m 0 c).arrAt 9 cfg0.N = val_main_v29 (F := Ideal) (ap m c) (aw m c) (ab m c) := by
  refine (dats m 0 c).arrAt_eq_of_covers 9 _ (by decide +kernel) fun t _ y => ?_
  blk_simp
  rw [after0_9]
  obtain ⟨r, e, rfl⟩ : ∃ (r : Fin 256) (e : Fin 512), y = ix2 r e := ⟨_, _, (ix2_eta y).symm⟩
  have o : ((cfg0.win 9).blk t).view.emb (ix2 r e) = ix2 (row t r) e := by blk_ext [idx t, row]
  rw [o, ref29]
  exact outs9 m c t r e

end Cert.KernelActIdeal.Whole

namespace Cert.Proof.ActClaims

open Cert.KernelActIdeal.Whole Cert.ReferenceActIdeal.Read

/-- Over the reals the two results are the forward lines'. -/
theorem algebraic : Cert.algebraic_KernelActIdeal_ReferenceActIdeal := by
  intro m g m' g' _ hagree
  refine ⟨fun c => val_main_v28 (F := Ideal) (ap m c) (aw m c) (ab m c), fun c => val_main_v29 (F := Ideal) (ap m c) (aw m c) (ab m c), ?_, ?_⟩
  · refine (θ_run _ _ _).mono (fun r h c => ?_) (Cert.KernelActIdeal.Value.run_blocks m g)
    obtain ⟨h0, h1, hr⟩ := h c
    exact ⟨h0.trans (final8 m c), h1.trans (final9 m c), hr⟩
  · refine (θ_run _ _ _).mono (fun r h c => ?_) (Cert.ReferenceActIdeal.Value.run m' g')
    obtain ⟨h0, h1, hr⟩ := h c
    obtain ⟨e0, e1, e2⟩ := hagree c
    exact ⟨(h0.trans (val_main_v28_eq m' c)).trans (by rw [e0, e1, e2]), (h1.trans (val_main_v29_eq m' c)).trans (by rw [e0, e1, e2]), hr⟩

end Cert.Proof.ActClaims
end
-- ==== Proof.Sums.lean ====
/- The running sums of the log forget gates: the value of `cum_fwd`, which adds each row block by a product with a triangle of ones
   to what it carries from the block before, against the running sum of the logarithm of the logistic function. -/
module

public import proofs.«01_k».proof.Proof.Gen.KernelSumsIdeal.Value
public import proofs.«01_k».proof.Proof.Gen.ReferenceSumsIdeal.Read
public import proofs.«01_k».proof.Proof.Cum
public import proofs.«01_k».proof.Defs
public import Idealize.ShloMosaic.Lib.Pipeline.ValueKit
public import Idealize.ShloMosaic.Lib.Pipeline.ReadBack
public import Idealize.ShloMosaic.Lib.Routing.OpsOne
public import Idealize.ShloMosaic.Lib.Claim
public import Idealize.ShloMosaic.Lib.Pointwise

@[expose] public section

set_option maxRecDepth 16384

noncomputable section

open Idealize.ShloMosaic Idealize.ShloMosaic.TcCoe Idealize.SL.Sem

namespace Cert.Proof.Sums

open Cert.Proof.Cum Cert.ReferenceSumsIdeal Cert.ReferenceSumsIdeal.Read

/-- The sum of a column up to a row. -/
def upto (f : ℕ → EReal) (R : ℕ) : EReal := ∑ n ∈ Finset.range R, f n

/-- The logarithm of the logistic function, as the kernel has it. -/
def lsg (y : EReal) : EReal := min y 0 - Ideal.log (1 + Ideal.exp (0 - FloatOps.absf (F := Ideal) (φ := .f32) y))

/-- At a real input it is a real number, and minus the softplus of the opposite number. -/
theorem lsg_real (x : ℝ) : lsg (x : EReal) = ((-(max (-x) 0 + Real.log (1 + Real.exp (-|x|))) : ℝ) : EReal) := by
  have ab : FloatOps.absf (F := Ideal) (φ := .f32) (x : EReal) = ((|x| : ℝ) : EReal) := by
    show max (x : EReal) (-(x : EReal)) = _
    rw [← EReal.coe_neg]
    exact (EReal.coe_strictMono.monotone.map_max).symm
  have mn : min (x : EReal) 0 = ((min x 0 : ℝ) : EReal) := by
    rw [← EReal.coe_zero]
    exact (EReal.coe_strictMono.monotone.map_min).symm
  have p : 0 < 1 + Real.exp (-|x|) := by positivity
  rw [lsg, ab, mn, zero_sub, ← EReal.coe_neg, Ideal.exp_coe, ← EReal.coe_one, ← EReal.coe_add, Ideal.log_coe, if_neg (not_le.2 p), ← EReal.coe_sub]
  refine congrArg _ ?_
  have : max (-x) 0 = -min x 0 := by rw [← max_neg_neg, neg_zero]
  rw [this]
  ring

theorem gates (a : FVec Ideal S4096x16 .f32) (b : FVec Ideal S1x16 .f32) (r : Fin 4096) (k : Fin 16) (x : ℝ) (hx : a (ix2 r k) + b (ix2 0 k) = x) :
    val_main_v2 (F := Ideal) a b (ix2 r k) = lsg (x : EReal) := by
  pointwise [val_main_v2, val_main_call0_v1, val_main_call0_call0_v11, val_main_call0_call0_v10, val_main_call0_call0_v9, val_main_call0_call0_v8,
    val_main_call0_call0_v7, val_main_call0_call0_v6, val_main_call0_call0_v5, val_main_call0_call0_v4, val_main_call0_call0_v3, val_main_call0_call0_v2,
    val_main_call0_call0_v1, val_main_call0_call0_v0, val_main_call0_call0_cst, val_main_call0_v0, val_main_v1, val_main_v0]
  have s := soft x _ (congrArg Neg.neg hx)
  rw [s, lsg_real, EReal.coe_neg, if_neg fun h => h rfl]

/-- The running sum is the sum up to the row. -/
theorem prefixes (a : FVec Ideal S4096x16 .f32) (b : FVec Ideal S1x16 .f32) (r : Fin 4096) (k : Fin 16) :
    val_main_v3 (F := Ideal) a b (ix2 r k) = upto (col (val_main_v2 (F := Ideal) a b) k) (r.val + 1) := by
  have z : val_main_call1_call0_v0 (F := Ideal) (Shape.Idx.first Gen.h_S_) = 0 := by
    pointwise [val_main_call1_call0_v0, val_main_call1_call0_cst]
  have w0 (n : Fin (Idealize.ShloMosaic.Routing.shape2 4096 1).numel) : ((Idealize.ShloMosaic.Routing.shape2 4096 1).rowMajor.symm n 0).val = n.val := by
    rw [Routing.symm_col]; rfl
  have w1 (n : Fin (Idealize.ShloMosaic.Routing.shape2 4096 1).numel) : ((Idealize.ShloMosaic.Routing.shape2 4096 1).rowMajor.symm n 1).val = 0 := by
    rw [Routing.symm_col]; rfl
  unfold val_main_v3 Host.reduceWindowAdd
  generalize val_main_v2 (F := Ideal) a b = x
  show Ideal.hostReduceWindowAdd _ _ _ _ _ _ _ _ = _
  unfold Ideal.hostReduceWindowAdd Host.reduceWindow
  refine (foldl_add _ _ _).trans ?_
  refine (congrArg₂ (· + ·) z (congrArg List.sum (List.map_congr_left (g := fun n => if 4095 ≤ r.val + n.val then col x k (r.val + n.val - 4095) else 0) fun n _ => ?_))).trans ?_
  · have hn : n.val < 4096 := n.isLt.trans_eq (Routing.numel_col _)
    dsimp only [col]
    split
    · next hin =>
      have h0 : 4095 ≤ r.val * 1 + ((Idealize.ShloMosaic.Routing.shape2 4096 1).rowMajor.symm n 0).val := (hin 0).1
      rw [w0] at h0
      rw [if_pos (by omega), dif_pos (by omega)]
      refine congrArg x (funext fun a => Fin.ext ?_)
      match a with
      | ⟨0, _⟩ =>
        show r.val * 1 + ((Idealize.ShloMosaic.Routing.shape2 4096 1).rowMajor.symm n 0).val - 4095 = r.val + n.val - 4095
        rw [w0]; omega
      | ⟨1, _⟩ =>
        show k.val * 1 + ((Idealize.ShloMosaic.Routing.shape2 4096 1).rowMajor.symm n 1).val - 0 = k.val
        rw [w1]; omega
    · next hin =>
      rw [if_neg fun hlt => hin fun a => by
        match a with
        | ⟨0, _⟩ =>
          show 4095 ≤ r.val * 1 + ((Idealize.ShloMosaic.Routing.shape2 4096 1).rowMajor.symm n 0).val
            ∧ r.val * 1 + ((Idealize.ShloMosaic.Routing.shape2 4096 1).rowMajor.symm n 0).val - 4095 < 4096
          rw [w0]; omega
        | ⟨1, _⟩ =>
          show 0 ≤ k.val * 1 + ((Idealize.ShloMosaic.Routing.shape2 4096 1).rowMajor.symm n 1).val
            ∧ k.val * 1 + ((Idealize.ShloMosaic.Routing.shape2 4096 1).rowMajor.symm n 1).val - 0 < 16
          rw [w1]; omega]
      exact z
  · rw [zero_add]
    refine (Fin.sum_univ_def (fun n : Fin (Idealize.ShloMosaic.Routing.shape2 4096 1).numel => if 4095 ≤ r.val + n.val then col x k (r.val + n.val - 4095) else 0)).symm.trans ?_
    rw [Fin.sum_univ_eq_sum_range (fun n => if 4095 ≤ r.val + n then col x k (r.val + n - 4095) else 0), Routing.numel_col, upto, ← Finset.sum_filter]
    refine Finset.sum_nbij' (fun n => r.val + n - 4095) (fun n => n + 4095 - r.val) ?_ ?_ ?_ ?_ ?_
    all_goals intro n hn; simp only [Finset.mem_filter, Finset.mem_range] at hn ⊢
    all_goals omega

/-- The triangle of ones. -/
theorem triangle (e r : Fin 512) : FloatOps.sitofp (F := Ideal) .f32 (BitVec.setWidth 32 (IntOp.cmpi .sle (BitVec.ofNat 32 e.val) (BitVec.ofNat 32 r.val)))
    = if e ≤ r then (1 : EReal) else 0 := by
  rw [WordCmp.cmpi_sle_ofNat (by omega) (by omega)]
  by_cases h : e ≤ r
  · rw [if_pos h, decide_eq_true (by exact h)]
    simp [FloatOps.sitofp]
  · rw [if_neg h, decide_eq_false (by exact h)]
    simp [FloatOps.sitofp]

/-- The sum of a block's rows up to one, added to the sum of the rows before the block. -/
theorem chunk (f : ℕ → EReal) (b : ℕ) (r : Fin 512) :
    (∑ e : Fin 512, if e ≤ r then f (512 * b + e.val) else 0) + upto f (512 * b) = upto f (512 * b + r.val + 1) := by
  have h1 : (∑ e : Fin 512, if e ≤ r then f (512 * b + e.val) else 0) = ∑ n ∈ Finset.range (r.val + 1), f (512 * b + n) := by
    refine (Fin.sum_univ_eq_sum_range (fun e => if e ≤ r.val then f (512 * b + e) else 0) 512).trans ?_
    rw [← Finset.sum_filter]
    refine Finset.sum_congr ?_ fun _ _ => rfl
    ext e; simp only [Finset.mem_filter, Finset.mem_range]; omega
  rw [h1, add_comm, upto, upto, Nat.add_assoc]
  exact (Finset.sum_range_add f (512 * b) (r.val + 1)).symm

end Cert.Proof.Sums

namespace Cert.KernelSumsIdeal.Whole

open Cert.KernelSumsIdeal Cert.KernelSumsIdeal.Gen Cert.Proof.Sums Cert.Proof.Cum
open Cert.ReferenceSumsIdeal.Read

theorem lanes : ∀ k : Fin 128, IntOp.andi (IntOp.cmpi CmpIPredicate.sge (BitVec.ofNat 32 k.val) 16#32) (IntOp.cmpi CmpIPredicate.slt (BitVec.ofNat 32 k.val) 32#32)
    = if 16 ≤ k.val ∧ k.val < 32 then 1#1 else 0#1 := by decide +kernel

theorem pay5 (x : FVec Ideal S512x128 .f32) (b : FVec Ideal S1x128 .f32) (r : Fin 512) (k : Fin 128) :
    k0_pay5 (F := Ideal) x b (ix2 r k) = if 16 ≤ k.val ∧ k.val < 32 then lsg (x (ix2 r k) + b (ix2 0 k)) else 0 := by
  pointwise [k0_pay5]
  rw [lanes]
  unfold lsg
  split_ifs <;> rfl

theorem cast7 (x : FVec Ideal S512x128 .f32) (b : FVec Ideal S1x128 .f32) (j : S512x128.Idx) : k0_pay7 (F := Ideal) x b j = k0_pay5 (F := Ideal) x b j := by
  pointwise [k0_pay7]
theorem cast8 (x : FVec Ideal S512x128 .f32) (b : FVec Ideal S1x128 .f32) (j : S512x128.Idx) : k0_pay8 (F := Ideal) x b j = k0_pay5 (F := Ideal) x b j - k0_pay5 (F := Ideal) x b j := by
  pointwise [k0_pay8, k0_pay7]
theorem cast9 (x : FVec Ideal S512x128 .f32) (b : FVec Ideal S1x128 .f32) (j : S512x128.Idx) : k0_pay9 (F := Ideal) x b j = k0_pay8 (F := Ideal) x b j := by
  pointwise [k0_pay9]
theorem cast10 (x : FVec Ideal S512x128 .f32) (b : FVec Ideal S1x128 .f32) (j : S512x128.Idx) : k0_pay10 (F := Ideal) x b j = k0_pay8 (F := Ideal) x b j - k0_pay8 (F := Ideal) x b j := by
  pointwise [k0_pay10, k0_pay9]
theorem one6 (r e : Fin 512) : k0_pay6 (F := Ideal) (ix2 r e) = if e ≤ r then (1 : EReal) else 0 := by
  rw [← triangle]
  pointwise [k0_pay6]

/-- The four parts that a block's running sums are made from. -/
abbrev sums (x : FVec Ideal S512x128 .f32) (b w : FVec Ideal S1x128 .f32) : FVec Ideal S512x128 .f32 :=
  k0_pay1 (F := Ideal) k0_pay6 (k0_pay9 x b) (k0_pay10 x b) (k0_pay11 x b) (constant S512x128 .f32 0x00000000#32) w

theorem pay1 (x : FVec Ideal S512x128 .f32) (b w : FVec Ideal S1x128 .f32) (X : Fin 512 → Fin 128 → ℝ) (hX : ∀ r k, k0_pay5 (F := Ideal) x b (ix2 r k) = X r k) (r : Fin 512) (k : Fin 128) :
    sums x b w (ix2 r k) = (∑ e : Fin 512, if e ≤ r then k0_pay5 (F := Ideal) x b (ix2 e k) else 0) + w (ix2 0 k) := by
  pointwise [sums, k0_pay1, k0_pay11]
  have z (e : Fin 512) : k0_pay8 (F := Ideal) x b (ix2 e k) = 0 := by rw [cast8, hX, ← EReal.coe_sub, sub_self, EReal.coe_zero]
  simp only [one6, cast7, cast9, cast10, z, sub_zero, mul_zero, Finset.sum_const_zero, add_zero, zero_add, ite_mul, one_mul, zero_mul, ite_self]

variable (m : (ℓ : Loc nD τ sig) → Buf (Elt Ideal) ℓ)

theorem idx : ∀ t : Fin cfg0.N, win0_0.index t = ![t.val, 44] ∧ win0_1.index t = ![0, 0] ∧ win0_2.index t = ![0, t.val] :=
  (by decide +kernel : ∀ t : Fin grid0.N, _)

/-- The arrays the host pads. -/
theorem pad0 (c : Dev nD) : V m c main_v0 = pad S4096x5760 ![0, 5648] ![0, 96] ![0, 0] (m ((c : Thread nD τ).loc main_arg0)) (sitofp (F := Ideal) .f32 (constantI S_ 32 0#32))
    pads_S4096x16_S4096x5760_000_5648960 h_S_ := by
  simp only [V, hostOps0, hostOps0_1, hostOps0_2, hostOps0_3, List.flatten_cons, List.flatten_nil, List.append_nil, List.cons_append, List.nil_append]
  entry_read
  rfl

theorem pad1 (c : Dev nD) : V m c main_v1 = pad S1x128 ![0, 16] ![0, 96] ![0, 0] (m ((c : Thread nD τ).loc main_arg1)) (sitofp (F := Ideal) .f32 (constantI S_ 32 0#32))
    pads_S1x16_S1x128_000_16960 h_S_ := by
  simp only [V, hostOps0, hostOps0_1, hostOps0_2, hostOps0_3, List.flatten_cons, List.flatten_nil, List.append_nil, List.cons_append, List.nil_append]
  entry_read
  rfl

/-- The row of the array a point's row is. -/
def row (t : Fin cfg0.N) (r : Fin 512) : Fin 4096 := ⟨512 * t.val + r.val, by have := Nat.lt_of_lt_of_eq t.isLt N_0; omega⟩

/-- The two arguments. -/
def af (c : Dev nD) : FVec Ideal S4096x16 .f32 := m ((c : Thread nD τ).loc main_arg0)
def ab (c : Dev nD) : FVec Ideal S1x16 .f32 := m ((c : Thread nD τ).loc main_arg1)

theorem in0 (c : Dev nD) (t : Fin cfg0.N) (r : Fin 512) (k : Fin 128) (h : 16 ≤ k.val ∧ k.val < 32) : (iblk m c 0 t : FVec Ideal S512x128 .f32) (ix2 r k)
    = af m c (ix2 (row t r) ⟨k.val - 16, by omega⟩) := by
  have e : (((cfg0.win 0).blk t).view.emb (ix2 r k)) = ix2 (row t r) (⟨5632 + k.val, by omega⟩ : Fin 5760) := by blk_ext [idx t, row]
  refine (congrArg (V m c main_v0) e).trans ?_
  rw [pad0]
  pointwise
  refine (dif_pos fun a => ?_).trans (congrArg (fun q => af m c (ix2 (row t r) q)) (Fin.ext ?_))
  fin_cases a
  · exact ⟨Nat.zero_le _, Nat.mod_one _, by show ((row t r).val - 0) / (0 + 1) < 4096; omega⟩
  · exact ⟨(by show 5648 ≤ 5632 + k.val; omega), Nat.mod_one _, by show (5632 + k.val - 5648) / (0 + 1) < 16; omega⟩
  · show 5632 + k.val - 5648 = k.val - 16
    omega

theorem in1 (c : Dev nD) (t : Fin cfg0.N) (k : Fin 128) (h : 16 ≤ k.val ∧ k.val < 32) : (iblk m c 1 t : FVec Ideal S1x128 .f32) (ix2 0 k)
    = ab m c (ix2 0 ⟨k.val - 16, by omega⟩) := by
  have e : (((cfg0.win 1).blk t).view.emb (ix2 0 k)) = ix2 (0 : Fin 1) k := by blk_ext [idx t, row]
  refine (congrArg (V m c main_v1) e).trans ?_
  rw [pad1]
  pointwise
  refine dif_pos fun a => ?_
  fin_cases a
  · exact ⟨Nat.zero_le _, Nat.mod_one _, by show (0 - 0) / (0 + 1) < 1; omega⟩
  · exact ⟨h.1, Nat.mod_one _, by show (k.val - 16) / (0 + 1) < 16; omega⟩

/-- A lane of the logarithms. -/
def lane (c : Dev nD) (k : Fin 128) (n : ℕ) : EReal := if h : 16 ≤ k.val ∧ k.val < 32 then col (val_main_v2 (F := Ideal) (af m c) (ab m c)) ⟨k.val - 16, by omega⟩ n else 0

/-- The gates' inputs are real numbers. -/
def Reals : Prop := ∀ (c : Dev nD) (r : Fin 4096) (k : Fin 16), ∃ x : ℝ, af m c (ix2 r k) + ab m c (ix2 0 k) = x

theorem logs (H : Reals m) (c : Dev nD) (t : Fin cfg0.N) (r : Fin 512) (k : Fin 128) :
    k0_pay5 (F := Ideal) (iblk m c 0 t) (iblk m c 1 t) (ix2 r k) = lane m c k (512 * t.val + r.val)
      ∧ ∃ x : ℝ, lane m c k (512 * t.val + r.val) = x := by
  rw [pay5, lane]
  by_cases h : 16 ≤ k.val ∧ k.val < 32
  · obtain ⟨x, hx⟩ := H c (row t r) ⟨k.val - 16, by omega⟩
    rw [if_pos h, dif_pos h, in0 m c t r k h, in1 m c t k h, hx, col, dif_pos (show 512 * t.val + r.val < 4096 from (row t r).isLt)]
    have g := gates (af m c) (ab m c) (row t r) ⟨k.val - 16, by omega⟩ x hx
    exact ⟨g.symm, _, g.trans (lsg_real x)⟩
  · rw [if_neg h, dif_neg h]
    exact ⟨rfl, 0, rfl⟩

theorem step (H : Reals m) (c : Dev nD) (t : Fin cfg0.N) (w : FVec Ideal S1x128 .f32)
    (hw : ∀ k : Fin 128, w (ix2 0 k) = upto (lane m c k) (512 * t.val)) (r : Fin 512) (k : Fin 128) :
    sums (iblk m c 0 t) (iblk m c 1 t) w (ix2 r k) = upto (lane m c k) (512 * t.val + r.val + 1) := by
  have hx : ∀ (r : Fin 512) (k : Fin 128), ∃ x : ℝ, k0_pay5 (F := Ideal) (iblk m c 0 t) (iblk m c 1 t) (ix2 r k) = (x : EReal) := fun r k => by
    rw [(logs m H c t r k).1]
    exact (logs m H c t r k).2
  choose X hX using hx
  rw [pay1 _ _ _ X hX, hw, ← chunk]
  exact congrArg (· + _) (Finset.sum_congr rfl fun e _ => by rw [(logs m H c t e k).1])

theorem zero4 (j : S1x128.Idx) : k0_pay4 (F := Ideal) j = 0 := by pointwise [k0_pay4]

/-- What is carried is the last row of the sums, and what is stored the transposed lanes of the gates. -/
theorem pay2 (x : FVec Ideal S512x128 .f32) (b w : FVec Ideal S1x128 .f32) (k : Fin 128) :
    k0_pay2 (F := Ideal) k0_pay6 (k0_pay9 x b) (k0_pay10 x b) (k0_pay11 x b) (constant S512x128 .f32 0x00000000#32) w (ix2 0 k) = sums x b w (ix2 511 k) := by
  pointwise [k0_pay2]
theorem pay3 (x : FVec Ideal S512x128 .f32) (b w : FVec Ideal S1x128 .f32) (k : Fin 16) (r : Fin 512) :
    k0_pay3 (F := Ideal) k0_pay6 (k0_pay9 x b) (k0_pay10 x b) (k0_pay11 x b) (constant S512x128 .f32 0x00000000#32) w (ix2 k r) = sums x b w (ix2 r ⟨16 + k.val, by omega⟩) := by
  pointwise [k0_pay3]

theorem carry (H : Reals m) (c : Dev nD) : ∀ (n : ℕ) (hn : n < cfg0.N) (k : Fin 128),
    (outsAt0 m c n hn).2 (ix2 0 k) = upto (lane m c k) (512 * (n + 1))
  | 0, hn, k => by
    rw [outsAt0_A m c ⟨0, hn⟩ rfl]; frame_out
    rw [pay2]
    exact step m H c ⟨0, hn⟩ _ (fun k => zero4 _) 511 k
  | n + 1, hn, k => by
    have hN : n + 1 < 8 := lt_of_lt_of_eq hn N_0
    rw [outsAt0_B m c ⟨n + 1, hn⟩ (by show ¬(n + 1) % 8 = 0; omega)]; frame_out
    rw [pay2, read_unread_whole]
    refine (step m H c ⟨n + 1, hn⟩ _ (fun k => carry H c n _ k) 511 k).trans (congrArg _ ?_)
    show 512 * (n + 1) + 511 + 1 = 512 * (n + 1 + 1)
    omega

theorem before (H : Reals m) (c : Dev nD) (t : Fin cfg0.N) (q : ¬t.val % 8 = 0) (h : t.val - 1 < cfg0.N) (k : Fin 128) :
    (outsAt0 m c (t.val - 1) h).2 (ix2 0 k) = upto (lane m c k) (512 * t.val) :=
  (carry m H c _ h k).trans (congrArg _ (by omega))

theorem body (H : Reals m) (c : Dev nD) (t : Fin cfg0.N) (w : FVec Ideal S1x128 .f32)
    (hw : ∀ k : Fin 128, w (ix2 0 k) = upto (lane m c k) (512 * t.val)) (k : Fin 16) (r : Fin 512) :
    sums (iblk m c 0 t) (iblk m c 1 t) w (ix2 r ⟨16 + k.val, by omega⟩) = val_main_v4 (F := Ideal) (af m c) (ab m c) (ix2 k (row t r)) := by
  have v4 : val_main_v4 (F := Ideal) (af m c) (ab m c) (ix2 k (row t r)) = val_main_v3 (F := Ideal) (af m c) (ab m c) (ix2 (row t r) k) := by
    pointwise [val_main_v4]
  rw [step m H c t w hw, v4, prefixes]
  refine Finset.sum_congr rfl fun n _ => ?_
  rw [lane, dif_pos ⟨by show 16 ≤ 16 + k.val; omega, by show 16 + k.val < 32; omega⟩]
  exact congrArg (fun q => col _ q n) (Fin.ext (by show 16 + k.val - 16 = k.val; omega))

theorem final2 (H : Reals m) (c : Dev nD) : (dats m 0 c).arrAt 2 cfg0.N = val_main_v4 (F := Ideal) (af m c) (ab m c) := by
  refine (dats m 0 c).arrAt_eq_of_covers 2 _ (by decide +kernel) fun t _ y => ?_
  blk_simp
  rw [after0_2]
  obtain ⟨k, r, rfl⟩ : ∃ (k : Fin 16) (r : Fin 512), y = ix2 k r := ⟨_, _, (ix2_eta y).symm⟩
  have e : (((cfg0.win 2).blk t).view.emb (ix2 k r)) = ix2 k (row t r) := by blk_ext [idx t, row]
  have hN : t.val < 8 := lt_of_lt_of_eq t.isLt N_0
  rw [e]
  by_cases q : t.val % 8 = 0
  · rw [outsAt0_A m c t q]; frame_out
    rw [pay3]
    exact body m H c t _ (fun k => by rw [zero4, show t.val = 0 by omega]; rfl) k r
  · rw [outsAt0_B m c t q]; frame_out
    rw [pay3, read_unread_whole]
    exact body m H c t _ (before m H c t q _) k r

end Cert.KernelSumsIdeal.Whole

namespace Cert.Proof.SumsClaims

open Cert.KernelSumsIdeal.Whole Cert.ReferenceSumsIdeal.Read

/-- Where the masks of the precondition are all ones, the gates' inputs are real numbers. -/
theorem real (m : (ℓ : Loc Cert.KernelSumsIdeal.nD Cert.KernelSumsIdeal.τ Cert.KernelSumsIdeal.sig) → Buf (Elt Ideal) ℓ) [Cert.Pre_finite_sums.Facts] (h : Cert.Pre_KernelSumsIdeal_finite_sums m) :
    Reals m := fun c r k => by
  obtain ⟨x, hx⟩ : ∃ x : ℝ, af m c (ix2 r k) = x := Cert.Rows.finite_of (congrFun (h c).1 (ix2 r k))
  obtain ⟨y, hy⟩ : ∃ y : ℝ, ab m c (ix2 0 k) = y := Cert.Rows.finite_of (congrFun (h c).2 (ix2 0 k))
  exact ⟨x + y, by rw [hx, hy, EReal.coe_add]⟩

/-- Over the reals the result is the running sum of the logarithms. -/
theorem algebraic [Cert.Pre_finite_sums.Facts] : Cert.algebraic_KernelSumsIdeal_ReferenceSumsIdeal_pre_finite_sums := by
  intro m g m' g' hp hagree
  have hR := real m hp
  refine ⟨fun c => val_main_v4 (F := Ideal) (af m c) (ab m c), ?_, ?_⟩
  · refine (θ_run _ _ _).mono (fun r h c => ?_) (Cert.KernelSumsIdeal.Value.run_blocks m g)
    obtain ⟨h0, hr⟩ := h c
    exact ⟨h0.trans (final2 m hR c), hr⟩
  · refine (θ_run _ _ _).mono (fun r h c => ?_) (Cert.ReferenceSumsIdeal.Value.run m' g')
    obtain ⟨h0, hr⟩ := h c
    obtain ⟨e0, e1⟩ := hagree c
    exact ⟨(h0.trans (val_main_v4_eq _ _)).trans (by rw [e0, e1]; rfl), hr⟩

end Cert.Proof.SumsClaims
end
-- ==== Proof.Proj.lean ====
/- The mixer's input projection of the modulated input: a tile is one whole product. -/
module

public import proofs.«01_k».proof.Defs
public import proofs.«01_k».proof.Proof.Gen.KernelProjIdeal.Value
public import proofs.«01_k».proof.Proof.Gen.ReferenceProjIdeal.Read
public import Idealize.ShloMosaic.Lib.Pipeline.ValueKit
public import Idealize.ShloMosaic.Lib.Pipeline.ReadBack
public import Idealize.ShloMosaic.Lib.Claim
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.KernelProjIdeal.Whole

open Cert.KernelProjIdeal Cert.KernelProjIdeal.Gen
open Cert.ReferenceProjIdeal.Read

variable (m : (ℓ : Loc nD τ sig) → Buf (Elt Ideal) ℓ)

/-- Where each window's block sits. -/
theorem idx : ∀ t : Fin cfg0.N, win0_0.index t = ![t.val / 9, 0] ∧ win0_1.index t = ![0, t.val % 9] ∧ win0_2.index t = ![0, 0] ∧ win0_3.index t = ![0, 0]
    ∧ win0_4.index t = ![t.val / 9, t.val % 9] :=
  (by decide +kernel : ∀ t : Fin grid0.N, _)

/-- A term of the product. -/
def term (x s h w : EReal) : EReal := (x * (1 + s) + h) * w

/-- A tile's entry. -/
theorem pay (x0 : FVec Ideal S512x1024 .f32) (s h : FVec Ideal S1x1024 .f32) (x1 : FVec Ideal S1024x640 .bf16) (r : Fin 512) (k : Fin 640) :
    k0_pay1 (F := Ideal) x0 s h x1 (ix2 r k) = ∑ e : Fin 1024, term (x0 (ix2 r e)) (s (ix2 0 e)) (h (ix2 0 e)) (x1 (ix2 e k)) := by
  pointwise [k0_pay1]
  rfl

/-- The reference's entry. -/
theorem ref (a : FVec Ideal S4096x1024 .f32) (s h : FVec Ideal S1x1024 .f32) (w : FVec Ideal S1024x5760 .bf16) (r : Fin 4096) (k : Fin 5760) :
    val_main_v7 (F := Ideal) a s h w (ix2 r k) = ∑ e : Fin 1024, term (a (ix2 r e)) (s (ix2 0 e)) (h (ix2 0 e)) (w (ix2 e k)) := by
  pointwise [val_main_v7, val_main_v6, val_main_v5, val_main_v4, val_main_v3, val_main_v2, val_main_v1, val_main_v0, val_main_cst]
  rfl

/-- A block's entry is the array's. -/
theorem in0 (c : Dev nD) (t : Fin cfg0.N) (r : Fin 512) (e : Fin 1024) (R : Fin 4096) (E : Fin 1024) (hR : R.val = 512 * (t.val / 9) + r.val) (hE : E.val = e.val) :
    (iblk m c 0 t : FVec Ideal S512x1024 .f32) (ix2 r e) = (m ((c : Thread nD τ).loc main_arg0) : FVec Ideal S4096x1024 .f32) (ix2 R E) := by
  obtain ⟨R, hR'⟩ := R
  obtain ⟨E, hE'⟩ := E
  dsimp only at hR hE
  subst hR hE
  blk_point [iblk, V, idx t]

/-- A block's entry is the array's. -/
theorem in1 (c : Dev nD) (t : Fin cfg0.N) (r : Fin 1024) (e : Fin 640) (R : Fin 1024) (E : Fin 5760) (hR : R.val = r.val) (hE : E.val = 640 * (t.val % 9) + e.val) :
    (iblk m c 1 t : FVec Ideal S1024x640 .bf16) (ix2 r e) = (m ((c : Thread nD τ).loc main_arg3) : FVec Ideal S1024x5760 .bf16) (ix2 R E) := by
  obtain ⟨R, hR'⟩ := R
  obtain ⟨E, hE'⟩ := E
  dsimp only at hR hE
  subst hR hE
  blk_point [iblk, V, idx t]

/-- A block's entry is the array's. -/
theorem in2 (c : Dev nD) (t : Fin cfg0.N) (r : Fin 1) (e : Fin 1024) (R : Fin 1) (E : Fin 1024) (hR : R.val = r.val) (hE : E.val = e.val) :
    (iblk m c 2 t : FVec Ideal S1x1024 .f32) (ix2 r e) = (m ((c : Thread nD τ).loc main_arg1) : FVec Ideal S1x1024 .f32) (ix2 R E) := by
  obtain ⟨R, hR'⟩ := R
  obtain ⟨E, hE'⟩ := E
  dsimp only at hR hE
  subst hR hE
  blk_point [iblk, V, idx t]

/-- A block's entry is the array's. -/
theorem in3 (c : Dev nD) (t : Fin cfg0.N) (r : Fin 1) (e : Fin 1024) (R : Fin 1) (E : Fin 1024) (hR : R.val = r.val) (hE : E.val = e.val) :
    (iblk m c 3 t : FVec Ideal S1x1024 .f32) (ix2 r e) = (m ((c : Thread nD τ).loc main_arg2) : FVec Ideal S1x1024 .f32) (ix2 R E) := by
  obtain ⟨R, hR'⟩ := R
  obtain ⟨E, hE'⟩ := E
  dsimp only at hR hE
  subst hR hE
  blk_point [iblk, V, idx t]

theorem final (c : Dev nD) : (dats m 0 c).arrAt 4 cfg0.N = val_main_v7 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t _ y => ?_
  blk_simp
  rw [after0_4]
  frame_out
  obtain ⟨r, k, rfl⟩ : ∃ (r : Fin 512) (k : Fin 640), y = ix2 r k := ⟨y 0, y 1, by ext i; fin_cases i <;> rfl⟩
  have hN : t.val < 72 := lt_of_lt_of_eq t.isLt N_0
  have he : ((cfg0.win 4).blk t).view.emb (ix2 r k)
      = ix2 (⟨512 * (t.val / 9) + r.val, by omega⟩ : Fin 4096) (⟨640 * (t.val % 9) + k.val, by omega⟩ : Fin 5760) := by
    blk_point [idx t]
  rw [he, ref, pay]
  refine Finset.sum_congr (M := EReal) rfl fun e _ => ?_
  rw [in0 m c t r e ⟨512 * (t.val / 9) + r.val, by omega⟩ e rfl rfl, in1 m c t e k e ⟨640 * (t.val % 9) + k.val, by omega⟩ rfl rfl, in2 m c t 0 e 0 e rfl rfl, in3 m c t 0 e 0 e rfl rfl]

end Cert.KernelProjIdeal.Whole

namespace Cert.Proof.ProjClaims

open Cert.KernelProjIdeal.Whole Cert.ReferenceProjIdeal.Read

/-- Over the reals the result is the reference's product. -/
theorem algebraic : Cert.algebraic_KernelProjIdeal_ReferenceProjIdeal := by
  intro m g m' g' _ hagree
  refine ⟨fun c => val_main_v7 (F := Ideal) (m (c.tc.loc Cert.KernelProjIdeal.main_arg0)) (m (c.tc.loc Cert.KernelProjIdeal.main_arg1)) (m (c.tc.loc Cert.KernelProjIdeal.main_arg2)) (m (c.tc.loc Cert.KernelProjIdeal.main_arg3)), ?_, ?_⟩
  · refine (θ_run _ _ _).mono (fun r h c => ?_) (Cert.KernelProjIdeal.Value.run_blocks m g)
    obtain ⟨h0, hr⟩ := h c
    exact ⟨h0.trans (final m c), hr⟩
  · refine (θ_run _ _ _).mono (fun r h c => ?_) (Cert.ReferenceProjIdeal.Value.run m' g')
    obtain ⟨h0, hr⟩ := h c
    obtain ⟨e0, e1, e2, e3⟩ := hagree c
    exact ⟨(h0.trans (val_main_v7_eq _ _ _ _)).trans (by rw [e0, e1, e2, e3]), hr⟩

end Cert.Proof.ProjClaims
end
-- ==== Proof.Out.lean ====
/- The mixer's output projection: a tile is one whole product. -/
module

public import proofs.«01_k».proof.Defs
public import proofs.«01_k».proof.Proof.Gen.KernelOutIdeal.Value
public import proofs.«01_k».proof.Proof.Gen.ReferenceOutIdeal.Read
public import Idealize.ShloMosaic.Lib.Pipeline.ValueKit
public import Idealize.ShloMosaic.Lib.Pipeline.ReadBack
public import Idealize.ShloMosaic.Lib.Claim
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.KernelOutIdeal.Whole

open Cert.KernelOutIdeal Cert.KernelOutIdeal.Gen
open Cert.ReferenceOutIdeal.Read

variable (m : (ℓ : Loc nD τ sig) → Buf (Elt Ideal) ℓ)

/-- Where each window's block sits. -/
theorem idx : ∀ t : Fin cfg0.N, win0_0.index t = ![t.val / 2, 0] ∧ win0_1.index t = ![0, t.val % 2] ∧ win0_2.index t = ![t.val / 2, t.val % 2] :=
  (by decide +kernel : ∀ t : Fin grid0.N, _)

/-- A tile's entry. -/
theorem pay (x0 : FVec Ideal S512x2048 .bf16) (x1 : FVec Ideal S2048x512 .bf16) (r k : Fin 512) :
    k0_pay1 (F := Ideal) x0 x1 (ix2 r k) = ∑ e : Fin 2048, x0 (ix2 r e) * x1 (ix2 e k) := by
  pointwise [k0_pay1]

/-- The reference's entry. -/
theorem ref (a : FVec Ideal S4096x2048 .bf16) (w : FVec Ideal S2048x1024 .bf16) (r : Fin 4096) (k : Fin 1024) :
    val_main_v2 (F := Ideal) a w (ix2 r k) = ∑ e : Fin 2048, a (ix2 r e) * w (ix2 e k) := by
  pointwise [val_main_v2, val_main_v1, val_main_v0]

/-- A block's entry is the array's. -/
theorem in0 (c : Dev nD) (t : Fin cfg0.N) (r : Fin 512) (e : Fin 2048) (R : Fin 4096) (E : Fin 2048) (hR : R.val = 512 * (t.val / 2) + r.val) (hE : E.val = e.val) :
    (iblk m c 0 t : FVec Ideal S512x2048 .bf16) (ix2 r e) = (m ((c : Thread nD τ).loc main_arg0) : FVec Ideal S4096x2048 .bf16) (ix2 R E) := by
  obtain ⟨R, hR'⟩ := R
  obtain ⟨E, hE'⟩ := E
  dsimp only at hR hE
  subst hR hE
  blk_point [iblk, V, idx t]

/-- A block's entry is the array's. -/
theorem in1 (c : Dev nD) (t : Fin cfg0.N) (r : Fin 2048) (e : Fin 512) (R : Fin 2048) (E : Fin 1024) (hR : R.val = r.val) (hE : E.val = 512 * (t.val % 2) + e.val) :
    (iblk m c 1 t : FVec Ideal S2048x512 .bf16) (ix2 r e) = (m ((c : Thread nD τ).loc main_arg1) : FVec Ideal S2048x1024 .bf16) (ix2 R E) := by
  obtain ⟨R, hR'⟩ := R
  obtain ⟨E, hE'⟩ := E
  dsimp only at hR hE
  subst hR hE
  blk_point [iblk, V, idx t]

theorem final (c : Dev nD) : (dats m 0 c).arrAt 2 cfg0.N = val_main_v2 (F := Ideal) (m ((c : Thread nD τ).loc main_arg0)) (m ((c : Thread nD τ).loc main_arg1)) := by
  refine (dats m 0 c).arrAt_eq_of_covers 2 _ (by decide +kernel) fun t _ y => ?_
  blk_simp
  rw [after0_2]
  frame_out
  obtain ⟨r, k, rfl⟩ : ∃ r k : Fin 512, y = ix2 r k := ⟨y 0, y 1, by ext i; fin_cases i <;> rfl⟩
  have hN : t.val < 16 := lt_of_lt_of_eq t.isLt N_0
  have he : ((cfg0.win 2).blk t).view.emb (ix2 r k)
      = ix2 (⟨512 * (t.val / 2) + r.val, by omega⟩ : Fin 4096) (⟨512 * (t.val % 2) + k.val, by omega⟩ : Fin 1024) := by
    blk_point [idx t]
  rw [he, ref, pay]
  exact Finset.sum_congr (M := EReal) rfl fun e _ => congrArg₂ (· * ·) (in0 m c t r e _ _ rfl rfl) (in1 m c t e k _ _ rfl rfl)

end Cert.KernelOutIdeal.Whole

namespace Cert.Proof.OutClaims

open Cert.KernelOutIdeal.Whole Cert.ReferenceOutIdeal.Read

/-- Over the reals the result is the reference's product. -/
theorem algebraic : Cert.algebraic_KernelOutIdeal_ReferenceOutIdeal := by
  intro m g m' g' _ hagree
  refine ⟨fun c => val_main_v2 (F := Ideal) (m (c.tc.loc Cert.KernelOutIdeal.main_arg0)) (m (c.tc.loc Cert.KernelOutIdeal.main_arg1)), ?_, ?_⟩
  · refine (θ_run _ _ _).mono (fun r h c => ?_) (Cert.KernelOutIdeal.Value.run_blocks m g)
    obtain ⟨h0, hr⟩ := h c
    exact ⟨h0.trans (final m c), hr⟩
  · refine (θ_run _ _ _).mono (fun r h c => ?_) (Cert.ReferenceOutIdeal.Value.run m' g')
    obtain ⟨h0, hr⟩ := h c
    obtain ⟨e0, e1⟩ := hagree c
    exact ⟨(h0.trans (val_main_v2_eq _ _)).trans (by rw [e0, e1]), hr⟩

end Cert.Proof.OutClaims
end
-- ==== Proof.Dmix.lean ====
/- The gradient at the output projection's input: a tile is one whole product with the weight transposed. -/
module

public import proofs.«01_k».proof.Defs
public import proofs.«01_k».proof.Proof.Gen.KernelDmixIdeal.Value
public import proofs.«01_k».proof.Proof.Gen.ReferenceDmixIdeal.Read
public import Idealize.ShloMosaic.Lib.Pipeline.ValueKit
public import Idealize.ShloMosaic.Lib.Pipeline.ReadBack
public import Idealize.ShloMosaic.Lib.Claim
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.KernelDmixIdeal.Whole

open Cert.KernelDmixIdeal Cert.KernelDmixIdeal.Gen
open Cert.ReferenceDmixIdeal.Read

variable (m : (ℓ : Loc nD τ sig) → Buf (Elt Ideal) ℓ)

/-- Where each window's block sits. -/
theorem idx : ∀ t : Fin cfg0.N, win0_0.index t = ![t.val / 4, 0] ∧ win0_1.index t = ![t.val % 4, 0] ∧ win0_2.index t = ![t.val / 4, t.val % 4] :=
  (by decide +kernel : ∀ t : Fin grid0.N, _)

/-- A tile's entry. -/
theorem pay (x0 x1 : FVec Ideal S512x1024 .bf16) (r k : Fin 512) :
    k0_pay1 (F := Ideal) x0 x1 (ix2 r k) = ∑ e : Fin 1024, x0 (ix2 r e) * x1 (ix2 k e) := by
  pointwise [k0_pay1]

/-- The derivative's entry. -/
theorem ref (w : FVec Ideal S2048x1024 .bf16) (d : FVec Ideal S4096x1024 .bf16) (r : Fin 4096) (k : Fin 2048) :
    val_main_v4 (F := Ideal) w d (ix2 r k) = ∑ e : Fin 1024, d (ix2 r e) * w (ix2 k e) := by
  pointwise [val_main_v4, val_main_v3, val_main_v1]

/-- A block's entry is the array's. -/
theorem in0 (c : Dev nD) (t : Fin cfg0.N) (r : Fin 512) (e : Fin 1024) (R : Fin 4096) (E : Fin 1024) (hR : R.val = 512 * (t.val / 4) + r.val) (hE : E.val = e.val) :
    (iblk m c 0 t : FVec Ideal S512x1024 .bf16) (ix2 r e) = (m ((c : Thread nD τ).loc main_arg2) : FVec Ideal S4096x1024 .bf16) (ix2 R E) := by
  obtain ⟨R, hR'⟩ := R
  obtain ⟨E, hE'⟩ := E
  dsimp only at hR hE
  subst hR hE
  blk_point [iblk, V, idx t]

/-- A block's entry is the array's. -/
theorem in1 (c : Dev nD) (t : Fin cfg0.N) (r : Fin 512) (e : Fin 1024) (R : Fin 2048) (E : Fin 1024) (hR : R.val = 512 * (t.val % 4) + r.val) (hE : E.val = e.val) :
    (iblk m c 1 t : FVec Ideal S512x1024 .bf16) (ix2 r e) = (m ((c : Thread nD τ).loc main_arg1) : FVec Ideal S2048x1024 .bf16) (ix2 R E) := by
  obtain ⟨R, hR'⟩ := R
  obtain ⟨E, hE'⟩ := E
  dsimp only at hR hE
  subst hR hE
  blk_point [iblk, V, idx t]

theorem final (c : Dev nD) : (dats m 0 c).arrAt 2 cfg0.N = val_main_v4 (F := Ideal) (m ((c : Thread nD τ).loc main_arg1)) (m ((c : Thread nD τ).loc main_arg2)) := by
  refine (dats m 0 c).arrAt_eq_of_covers 2 _ (by decide +kernel) fun t _ y => ?_
  blk_simp
  rw [after0_2]
  frame_out
  obtain ⟨r, k, rfl⟩ : ∃ r k : Fin 512, y = ix2 r k := ⟨y 0, y 1, by ext i; fin_cases i <;> rfl⟩
  have hN : t.val < 32 := lt_of_lt_of_eq t.isLt N_0
  have he : ((cfg0.win 2).blk t).view.emb (ix2 r k)
      = ix2 (⟨512 * (t.val / 4) + r.val, by omega⟩ : Fin 4096) (⟨512 * (t.val % 4) + k.val, by omega⟩ : Fin 2048) := by
    blk_point [idx t]
  rw [he, ref, pay]
  exact Finset.sum_congr (M := EReal) rfl fun e _ => congrArg₂ (· * ·) (in0 m c t r e _ _ rfl rfl) (in1 m c t k e _ _ rfl rfl)

end Cert.KernelDmixIdeal.Whole

namespace Cert.Proof.DmixClaims

open Cert.KernelDmixIdeal.Whole Cert.ReferenceDmixIdeal.Read

/-- Over the reals the result is the reference's product. -/
theorem algebraic : Cert.algebraic_KernelDmixIdeal_ReferenceDmixIdeal := by
  intro m g m' g' _ hagree
  refine ⟨fun c => val_main_v4 (F := Ideal) (m (c.tc.loc Cert.KernelDmixIdeal.main_arg1)) (m (c.tc.loc Cert.KernelDmixIdeal.main_arg2)), ?_, ?_⟩
  · refine (θ_run _ _ _).mono (fun r h c => ?_) (Cert.KernelDmixIdeal.Value.run_blocks m g)
    obtain ⟨h0, hr⟩ := h c
    exact ⟨h0.trans (final m c), hr⟩
  · refine (θ_run _ _ _).mono (fun r h c => ?_) (Cert.ReferenceDmixIdeal.Value.run m' g')
    obtain ⟨h0, hr⟩ := h c
    obtain ⟨-, e1, e2⟩ := hagree c
    exact ⟨(h0.trans (val_main_v4_eq _ _)).trans (by rw [e1, e2]), hr⟩

end Cert.Proof.DmixClaims
end
-- ==== Proof.Wout.lean ====
/- The gradient of the output projection's weight: a tile is the sum of its four chunks of rows. -/
module

public import proofs.«01_k».proof.Defs
public import proofs.«01_k».proof.Proof.Gen.KernelWoutIdeal.Value
public import proofs.«01_k».proof.Proof.Gen.ReferenceWoutIdeal.Read
public import Idealize.ShloMosaic.Lib.Pipeline.ValueKit
public import Idealize.ShloMosaic.Lib.Pipeline.ReadBack
public import Idealize.ShloMosaic.Lib.Claim
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.KernelWoutIdeal.Whole

open Cert.KernelWoutIdeal Cert.KernelWoutIdeal.Gen
open Cert.ReferenceWoutIdeal.Read

variable (m : (ℓ : Loc nD τ sig) → Buf (Elt Ideal) ℓ)

/-- Where each window's block sits. -/
theorem idx : ∀ t : Fin cfg0.N, win0_0.index t = ![t.val % 4, t.val / 8] ∧ win0_1.index t = ![t.val % 4, t.val / 4 % 2] ∧ win0_2.index t = ![t.val / 8, t.val / 4 % 2] :=
  (by decide +kernel : ∀ t : Fin grid0.N, _)

/-- A tile is written back after its last chunk. -/
theorem flush : ∀ t : Fin cfg0.N, (cfg0.win 2).flush t = true → t.val % 4 = 3 :=
  (by decide +kernel : ∀ t : Fin grid0.N, _)

/-- A chunk's part of a tile's entry. -/
theorem pay1 (x0 : FVec Ideal S1024x1024 .bf16) (x1 : FVec Ideal S1024x512 .bf16) (r : Fin 1024) (k : Fin 512) :
    k0_pay1 (F := Ideal) x0 x1 (ix2 r k) = ∑ e : Fin 1024, x0 (ix2 e r) * x1 (ix2 e k) := by
  pointwise [k0_pay1]

theorem pay2 (x0 : FVec Ideal S1024x1024 .bf16) (x1 : FVec Ideal S1024x512 .bf16) (j : S1024x512.Idx) : k0_pay2 (F := Ideal) x0 x1 j = k0_pay1 (F := Ideal) x0 x1 j := by
  pointwise [k0_pay2]

theorem pay3 (x0 : FVec Ideal S1024x1024 .bf16) (x1 : FVec Ideal S1024x512 .bf16) (a : FVec Ideal S1024x512 .f32) (j : S1024x512.Idx) : k0_pay3 (F := Ideal) x0 x1 a j = a j + k0_pay1 (F := Ideal) x0 x1 j := by
  pointwise [k0_pay3]

theorem pay4 (a : FVec Ideal S1024x512 .f32) (j : S1024x512.Idx) : k0_pay4 (F := Ideal) a j = a j := by
  pointwise [k0_pay4]

/-- The reference's entry. -/
theorem ref (a : FVec Ideal S4096x2048 .bf16) (d : FVec Ideal S4096x1024 .bf16) (r : Fin 2048) (k : Fin 1024) :
    val_main_v6 (F := Ideal) a d (ix2 r k) = ∑ e : Fin 4096, a (ix2 e r) * d (ix2 e k) := by
  pointwise [val_main_v6, val_main_v5, val_main_v4, val_main_v3, val_main_v1]
  exact Finset.sum_congr rfl fun e _ => mul_comm _ _

/-- A block's entry is the array's. -/
theorem in0 (c : Dev nD) (t : Fin cfg0.N) (r : Fin 1024) (e : Fin 1024) (R : Fin 4096) (E : Fin 2048) (hR : R.val = 1024 * (t.val % 4) + r.val) (hE : E.val = 1024 * (t.val / 8) + e.val) :
    (iblk m c 0 t : FVec Ideal S1024x1024 .bf16) (ix2 r e) = (m ((c : Thread nD τ).loc main_arg0) : FVec Ideal S4096x2048 .bf16) (ix2 R E) := by
  obtain ⟨R, hR'⟩ := R
  obtain ⟨E, hE'⟩ := E
  dsimp only at hR hE
  subst hR hE
  blk_point [iblk, V, idx t]

/-- A block's entry is the array's. -/
theorem in1 (c : Dev nD) (t : Fin cfg0.N) (r : Fin 1024) (e : Fin 512) (R : Fin 4096) (E : Fin 1024) (hR : R.val = 1024 * (t.val % 4) + r.val) (hE : E.val = 512 * (t.val / 4 % 2) + e.val) :
    (iblk m c 1 t : FVec Ideal S1024x512 .bf16) (ix2 r e) = (m ((c : Thread nD τ).loc main_arg2) : FVec Ideal S4096x1024 .bf16) (ix2 R E) := by
  obtain ⟨R, hR'⟩ := R
  obtain ⟨E, hE'⟩ := E
  dsimp only at hR hE
  subst hR hE
  blk_point [iblk, V, idx t]

/-- After a chunk the scratch holds the sum of the tile's chunks so far. -/
theorem first (c : Dev nD) (t : Fin cfg0.N) (h : t.val % 4 = 0) (j : S1024x512.Idx) :
    (outsAt0 m c t.val t.isLt).2 j = (fun _ => 0 : S1024x512.Idx → EReal) j + k0_pay1 (F := Ideal) (iblk m c 0 t) (iblk m c 1 t) j := by
  rw [outsAt0_A m c t h (by omega) (by omega)]; frame_out
  rw [pay2]
  exact (zero_add _).symm

theorem next (c : Dev nD) (t : Fin cfg0.N) (h : ¬t.val % 4 = 0) (j : S1024x512.Idx) :
    (outsAt0 m c t.val t.isLt).2 j = (outsAt0 m c (t.val - 1) (Nat.lt_of_le_of_lt (Nat.sub_le _ _) t.isLt)).2 j + k0_pay1 (F := Ideal) (iblk m c 0 t) (iblk m c 1 t) j := by
  by_cases h2 : t.val % 4 = 3
  · rw [outsAt0_C m c t h (by omega) h2]; frame_out
    rw [pay3, read_unread_whole]
  · rw [outsAt0_B m c t h (by omega) h2]; frame_out
    rw [pay3, read_unread_whole]

/-- At a tile's last chunk the tile is the scratch. -/
theorem last (c : Dev nD) (t : Fin cfg0.N) (h : t.val % 4 = 3) (j : S1024x512.Idx) : (outsAt0 m c t.val t.isLt).1 j = (outsAt0 m c t.val t.isLt).2 j := by
  rw [outsAt0_C m c t (by omega) (by omega) h]; frame_out
  rw [pay4]

theorem final (c : Dev nD) : (dats m 0 c).arrAt 2 cfg0.N = val_main_v6 (F := Ideal) (m ((c : Thread nD τ).loc main_arg0)) (m ((c : Thread nD τ).loc main_arg2)) := by
  refine (dats m 0 c).arrAt_eq_of_covers 2 _ (by decide +kernel) fun t hf y => ?_
  have h3 := flush t hf
  blk_simp
  rw [after0_2]
  obtain ⟨r, k, rfl⟩ : ∃ (r : Fin 1024) (k : Fin 512), y = ix2 r k := ⟨y 0, y 1, by ext i; fin_cases i <;> rfl⟩
  have hN : t.val < 16 := lt_of_lt_of_eq t.isLt N_0
  have he : ((cfg0.win 2).blk t).view.emb (ix2 r k)
      = ix2 (⟨1024 * (t.val / 8) + r.val, by omega⟩ : Fin 2048) (⟨512 * (t.val / 4 % 2) + k.val, by omega⟩ : Fin 1024) := by
    blk_point [idx t]
  rw [he, ref, last m c t h3, Pipeline.eq_sum_fin_of_reset_step_apply_of_flush (fun n h => (outsAt0 m c n h).2) 4 (fun _ => 0)
    (fun t j => k0_pay1 (F := Ideal) (iblk m c 0 t) (iblk m c 1 t) j) (first m c) (next m c) t h3 (ix2 r k), zero_add]
  simp only [pay1]
  refine Fin.sum_mul_add_congr fun s e hl => ?_
  have hs : s.val < 4 := s.isLt
  have hE : s.val * 1024 + e.val < 4096 := hl
  rw [in0 m c ⟨4 * (t.val / 4) + s.val, _⟩ e r ⟨s.val * 1024 + e.val, hE⟩ ⟨1024 * (t.val / 8) + r.val, by omega⟩ (by dsimp only; omega) (by dsimp only; omega),
    in1 m c ⟨4 * (t.val / 4) + s.val, _⟩ e k ⟨s.val * 1024 + e.val, hE⟩ ⟨512 * (t.val / 4 % 2) + k.val, by omega⟩ (by dsimp only; omega) (by dsimp only; omega)]

end Cert.KernelWoutIdeal.Whole

namespace Cert.Proof.WoutClaims

open Cert.KernelWoutIdeal.Whole Cert.ReferenceWoutIdeal.Read

/-- Over the reals the result is the reference's product. -/
theorem algebraic : Cert.algebraic_KernelWoutIdeal_ReferenceWoutIdeal := by
  intro m g m' g' _ hagree
  refine ⟨fun c => val_main_v6 (F := Ideal) (m (c.tc.loc Cert.KernelWoutIdeal.main_arg0)) (m (c.tc.loc Cert.KernelWoutIdeal.main_arg2)), ?_, ?_⟩
  · refine (θ_run _ _ _).mono (fun r h c => ?_) (Cert.KernelWoutIdeal.Value.run_blocks m g)
    obtain ⟨h0, hr⟩ := h c
    exact ⟨h0.trans (final m c), hr⟩
  · refine (θ_run _ _ _).mono (fun r h c => ?_) (Cert.ReferenceWoutIdeal.Value.run m' g')
    obtain ⟨h0, hr⟩ := h c
    obtain ⟨e0, -, e2⟩ := hagree c
    exact ⟨(h0.trans (val_main_v6_eq _ _)).trans (by rw [e0, e2]), hr⟩

end Cert.Proof.WoutClaims
end
-- ==== Proof.Ff.lean ====
/- The hidden layer's second product, at the square of the ReLU: a tile is the sum of its four chunks. -/
module

public import proofs.«01_k».proof.Defs
public import proofs.«01_k».proof.Proof.Gen.KernelFfIdeal.Value
public import proofs.«01_k».proof.Proof.Gen.ReferenceFfIdeal.Read
public import Idealize.ShloMosaic.Lib.Pipeline.ValueKit
public import Idealize.ShloMosaic.Lib.Pipeline.ReadBack
public import Idealize.ShloMosaic.Lib.Claim
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.KernelFfIdeal.Whole

open Cert.KernelFfIdeal Cert.KernelFfIdeal.Gen
open Cert.ReferenceFfIdeal.Read

variable (m : (ℓ : Loc nD τ sig) → Buf (Elt Ideal) ℓ)

/-- Where each window's block sits. -/
theorem idx : ∀ t : Fin cfg0.N, win0_0.index t = ![t.val / 8, t.val % 4] ∧ win0_1.index t = ![t.val % 4, t.val / 4 % 2] ∧ win0_2.index t = ![t.val / 8, t.val / 4 % 2] :=
  (by decide +kernel : ∀ t : Fin grid0.N, _)

/-- A tile is written back after its last chunk. -/
theorem flush : ∀ t : Fin cfg0.N, (cfg0.win 2).flush t = true → t.val % 4 = 3 :=
  (by decide +kernel : ∀ t : Fin grid0.N, _)

/-- The square of the ReLU. -/
def sq (x : EReal) : EReal := max x 0 * max x 0

/-- A chunk's part of a tile's entry. -/
theorem pay1 (x0 : FVec Ideal S512x1024 .f32) (x1 : FVec Ideal S1024x512 .bf16) (r : Fin 512) (k : Fin 512) :
    k0_pay1 (F := Ideal) x0 x1 (ix2 r k) = ∑ e : Fin 1024, sq (x0 (ix2 r e)) * x1 (ix2 e k) := by
  pointwise [k0_pay1]
  rfl

theorem pay2 (x0 : FVec Ideal S512x1024 .f32) (x1 : FVec Ideal S1024x512 .bf16) (j : S512x512.Idx) : k0_pay2 (F := Ideal) x0 x1 j = k0_pay1 (F := Ideal) x0 x1 j := by
  pointwise [k0_pay2]

theorem pay3 (x0 : FVec Ideal S512x1024 .f32) (x1 : FVec Ideal S1024x512 .bf16) (a : FVec Ideal S512x512 .f32) (j : S512x512.Idx) : k0_pay3 (F := Ideal) x0 x1 a j = a j + k0_pay1 (F := Ideal) x0 x1 j := by
  pointwise [k0_pay3]

/-- The reference's entry. -/
theorem ref (a : FVec Ideal S4096x4096 .f32) (w : FVec Ideal S4096x1024 .bf16) (r : Fin 4096) (k : Fin 1024) :
    val_main_v3 (F := Ideal) a w (ix2 r k) = ∑ e : Fin 4096, sq (a (ix2 r e)) * w (ix2 e k) := by
  pointwise [val_main_v3, val_main_v2, val_main_v1, val_main_v0, val_main_call0_v0, val_main_call0_cst]
  rfl

/-- A block's entry is the array's. -/
theorem in0 (c : Dev nD) (t : Fin cfg0.N) (r : Fin 512) (e : Fin 1024) (R : Fin 4096) (E : Fin 4096) (hR : R.val = 512 * (t.val / 8) + r.val) (hE : E.val = 1024 * (t.val % 4) + e.val) :
    (iblk m c 0 t : FVec Ideal S512x1024 .f32) (ix2 r e) = (m ((c : Thread nD τ).loc main_arg0) : FVec Ideal S4096x4096 .f32) (ix2 R E) := by
  obtain ⟨R, hR'⟩ := R
  obtain ⟨E, hE'⟩ := E
  dsimp only at hR hE
  subst hR hE
  blk_point [iblk, V, idx t]

/-- A block's entry is the array's. -/
theorem in1 (c : Dev nD) (t : Fin cfg0.N) (r : Fin 1024) (e : Fin 512) (R : Fin 4096) (E : Fin 1024) (hR : R.val = 1024 * (t.val % 4) + r.val) (hE : E.val = 512 * (t.val / 4 % 2) + e.val) :
    (iblk m c 1 t : FVec Ideal S1024x512 .bf16) (ix2 r e) = (m ((c : Thread nD τ).loc main_arg1) : FVec Ideal S4096x1024 .bf16) (ix2 R E) := by
  obtain ⟨R, hR'⟩ := R
  obtain ⟨E, hE'⟩ := E
  dsimp only at hR hE
  subst hR hE
  blk_point [iblk, V, idx t]

/-- After a chunk the scratch holds the sum of the tile's chunks so far. -/
theorem first (c : Dev nD) (t : Fin cfg0.N) (h : t.val % 4 = 0) (j : S512x512.Idx) :
    (outsAt0 m c t.val t.isLt).2 j = (fun _ => 0 : S512x512.Idx → EReal) j + k0_pay1 (F := Ideal) (iblk m c 0 t) (iblk m c 1 t) j := by
  rw [outsAt0_A m c t h (by omega) (by omega)]; frame_out
  rw [pay2]
  exact (zero_add _).symm

theorem next (c : Dev nD) (t : Fin cfg0.N) (h : ¬t.val % 4 = 0) (j : S512x512.Idx) :
    (outsAt0 m c t.val t.isLt).2 j = (outsAt0 m c (t.val - 1) (Nat.lt_of_le_of_lt (Nat.sub_le _ _) t.isLt)).2 j + k0_pay1 (F := Ideal) (iblk m c 0 t) (iblk m c 1 t) j := by
  by_cases h2 : t.val % 4 = 3
  · rw [outsAt0_C m c t h (by omega) h2]; frame_out
    rw [pay3, read_unread_whole]
  · rw [outsAt0_B m c t h (by omega) h2]; frame_out
    rw [pay3, read_unread_whole]

/-- At a tile's last chunk the tile is the scratch. -/
theorem last (c : Dev nD) (t : Fin cfg0.N) (h : t.val % 4 = 3) (j : S512x512.Idx) : (outsAt0 m c t.val t.isLt).1 j = (outsAt0 m c t.val t.isLt).2 j := by
  rw [outsAt0_C m c t (by omega) (by omega) h]; frame_out

theorem final (c : Dev nD) : (dats m 0 c).arrAt 2 cfg0.N = val_main_v3 (F := Ideal) (m ((c : Thread nD τ).loc main_arg0)) (m ((c : Thread nD τ).loc main_arg1)) := by
  refine (dats m 0 c).arrAt_eq_of_covers 2 _ (by decide +kernel) fun t hf y => ?_
  have h3 := flush t hf
  blk_simp
  rw [after0_2]
  obtain ⟨r, k, rfl⟩ : ∃ (r : Fin 512) (k : Fin 512), y = ix2 r k := ⟨y 0, y 1, by ext i; fin_cases i <;> rfl⟩
  have hN : t.val < 64 := lt_of_lt_of_eq t.isLt N_0
  have he : ((cfg0.win 2).blk t).view.emb (ix2 r k)
      = ix2 (⟨512 * (t.val / 8) + r.val, by omega⟩ : Fin 4096) (⟨512 * (t.val / 4 % 2) + k.val, by omega⟩ : Fin 1024) := by
    blk_point [idx t]
  rw [he, ref, last m c t h3, Pipeline.eq_sum_fin_of_reset_step_apply_of_flush (fun n h => (outsAt0 m c n h).2) 4 (fun _ => 0)
    (fun t j => k0_pay1 (F := Ideal) (iblk m c 0 t) (iblk m c 1 t) j) (first m c) (next m c) t h3 (ix2 r k), zero_add]
  simp only [pay1]
  refine Fin.sum_mul_add_congr fun s e hl => ?_
  have hs : s.val < 4 := s.isLt
  have hE : s.val * 1024 + e.val < 4096 := hl
  rw [in0 m c ⟨4 * (t.val / 4) + s.val, _⟩ r e ⟨512 * (t.val / 8) + r.val, by omega⟩ ⟨s.val * 1024 + e.val, hE⟩ (by dsimp only; omega) (by dsimp only; omega),
    in1 m c ⟨4 * (t.val / 4) + s.val, _⟩ e k ⟨s.val * 1024 + e.val, hE⟩ ⟨512 * (t.val / 4 % 2) + k.val, by omega⟩ (by dsimp only; omega) (by dsimp only; omega)]

end Cert.KernelFfIdeal.Whole

namespace Cert.Proof.FfClaims

open Cert.KernelFfIdeal.Whole Cert.ReferenceFfIdeal.Read

/-- Over the reals the result is the reference's product. -/
theorem algebraic : Cert.algebraic_KernelFfIdeal_ReferenceFfIdeal := by
  intro m g m' g' _ hagree
  refine ⟨fun c => val_main_v3 (F := Ideal) (m (c.tc.loc Cert.KernelFfIdeal.main_arg0)) (m (c.tc.loc Cert.KernelFfIdeal.main_arg1)), ?_, ?_⟩
  · refine (θ_run _ _ _).mono (fun r h c => ?_) (Cert.KernelFfIdeal.Value.run_blocks m g)
    obtain ⟨h0, hr⟩ := h c
    exact ⟨h0.trans (final m c), hr⟩
  · refine (θ_run _ _ _).mono (fun r h c => ?_) (Cert.ReferenceFfIdeal.Value.run m' g')
    obtain ⟨h0, hr⟩ := h c
    obtain ⟨e0, e1⟩ := hagree c
    exact ⟨(h0.trans (val_main_v3_eq _ _)).trans (by rw [e0, e1]), hr⟩

end Cert.Proof.FfClaims
end
-- ==== Proof.Wff.lean ====
/- The gradient of the hidden layer's second weight: a tile is the sum of its four chunks of rows. -/
module

public import proofs.«01_k».proof.Defs
public import proofs.«01_k».proof.Proof.Gen.KernelWffIdeal.Value
public import proofs.«01_k».proof.Proof.Gen.ReferenceWffIdeal.Read
public import Idealize.ShloMosaic.Lib.Pipeline.ValueKit
public import Idealize.ShloMosaic.Lib.Pipeline.ReadBack
public import Idealize.ShloMosaic.Lib.Claim
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.KernelWffIdeal.Whole

open Cert.KernelWffIdeal Cert.KernelWffIdeal.Gen
open Cert.ReferenceWffIdeal.Read

variable (m : (ℓ : Loc nD τ sig) → Buf (Elt Ideal) ℓ)

/-- Where each window's block sits. -/
theorem idx : ∀ t : Fin cfg0.N, win0_0.index t = ![t.val % 4, t.val / 8] ∧ win0_1.index t = ![t.val % 4, t.val / 4 % 2] ∧ win0_2.index t = ![t.val / 8, t.val / 4 % 2] :=
  (by decide +kernel : ∀ t : Fin grid0.N, _)

/-- A tile is written back after its last chunk. -/
theorem flush : ∀ t : Fin cfg0.N, (cfg0.win 2).flush t = true → t.val % 4 = 3 :=
  (by decide +kernel : ∀ t : Fin grid0.N, _)

/-- The square of the ReLU. -/
def sq (x : EReal) : EReal := max x 0 * max x 0

/-- A chunk's part of a tile's entry. -/
theorem pay1 (x0 : FVec Ideal S1024x1024 .f32) (x1 : FVec Ideal S1024x512 .bf16) (r : Fin 1024) (k : Fin 512) :
    k0_pay1 (F := Ideal) x0 x1 (ix2 r k) = ∑ e : Fin 1024, sq (x0 (ix2 e r)) * x1 (ix2 e k) := by
  pointwise [k0_pay1]
  rfl

theorem pay2 (x0 : FVec Ideal S1024x1024 .f32) (x1 : FVec Ideal S1024x512 .bf16) (j : S1024x512.Idx) : k0_pay2 (F := Ideal) x0 x1 j = k0_pay1 (F := Ideal) x0 x1 j := by
  pointwise [k0_pay2]

theorem pay3 (x0 : FVec Ideal S1024x1024 .f32) (x1 : FVec Ideal S1024x512 .bf16) (a : FVec Ideal S1024x512 .f32) (j : S1024x512.Idx) : k0_pay3 (F := Ideal) x0 x1 a j = a j + k0_pay1 (F := Ideal) x0 x1 j := by
  pointwise [k0_pay3]

theorem pay4 (a : FVec Ideal S1024x512 .f32) (j : S1024x512.Idx) : k0_pay4 (F := Ideal) a j = a j := by
  pointwise [k0_pay4]

/-- The reference's entry. -/
theorem ref (a : FVec Ideal S4096x4096 .f32) (d : FVec Ideal S4096x1024 .bf16) (r : Fin 4096) (k : Fin 1024) :
    val_main_v7 (F := Ideal) a d (ix2 r k) = ∑ e : Fin 4096, sq (a (ix2 e r)) * d (ix2 e k) := by
  pointwise [val_main_v7, val_main_v6, val_main_v5, val_main_v4, val_main_v2, val_main_v1, val_main_call0_v0, val_main_call0_cst]
  exact Finset.sum_congr rfl fun e _ => mul_comm _ _

/-- A block's entry is the array's. -/
theorem in0 (c : Dev nD) (t : Fin cfg0.N) (r : Fin 1024) (e : Fin 1024) (R : Fin 4096) (E : Fin 4096) (hR : R.val = 1024 * (t.val % 4) + r.val) (hE : E.val = 1024 * (t.val / 8) + e.val) :
    (iblk m c 0 t : FVec Ideal S1024x1024 .f32) (ix2 r e) = (m ((c : Thread nD τ).loc main_arg0) : FVec Ideal S4096x4096 .f32) (ix2 R E) := by
  obtain ⟨R, hR'⟩ := R
  obtain ⟨E, hE'⟩ := E
  dsimp only at hR hE
  subst hR hE
  blk_point [iblk, V, idx t]

/-- A block's entry is the array's. -/
theorem in1 (c : Dev nD) (t : Fin cfg0.N) (r : Fin 1024) (e : Fin 512) (R : Fin 4096) (E : Fin 1024) (hR : R.val = 1024 * (t.val % 4) + r.val) (hE : E.val = 512 * (t.val / 4 % 2) + e.val) :
    (iblk m c 1 t : FVec Ideal S1024x512 .bf16) (ix2 r e) = (m ((c : Thread nD τ).loc main_arg2) : FVec Ideal S4096x1024 .bf16) (ix2 R E) := by
  obtain ⟨R, hR'⟩ := R
  obtain ⟨E, hE'⟩ := E
  dsimp only at hR hE
  subst hR hE
  blk_point [iblk, V, idx t]

/-- After a chunk the scratch holds the sum of the tile's chunks so far. -/
theorem first (c : Dev nD) (t : Fin cfg0.N) (h : t.val % 4 = 0) (j : S1024x512.Idx) :
    (outsAt0 m c t.val t.isLt).2 j = (fun _ => 0 : S1024x512.Idx → EReal) j + k0_pay1 (F := Ideal) (iblk m c 0 t) (iblk m c 1 t) j := by
  rw [outsAt0_A m c t h (by omega) (by omega)]; frame_out
  rw [pay2]
  exact (zero_add _).symm

theorem next (c : Dev nD) (t : Fin cfg0.N) (h : ¬t.val % 4 = 0) (j : S1024x512.Idx) :
    (outsAt0 m c t.val t.isLt).2 j = (outsAt0 m c (t.val - 1) (Nat.lt_of_le_of_lt (Nat.sub_le _ _) t.isLt)).2 j + k0_pay1 (F := Ideal) (iblk m c 0 t) (iblk m c 1 t) j := by
  by_cases h2 : t.val % 4 = 3
  · rw [outsAt0_C m c t h (by omega) h2]; frame_out
    rw [pay3, read_unread_whole]
  · rw [outsAt0_B m c t h (by omega) h2]; frame_out
    rw [pay3, read_unread_whole]

/-- At a tile's last chunk the tile is the scratch. -/
theorem last (c : Dev nD) (t : Fin cfg0.N) (h : t.val % 4 = 3) (j : S1024x512.Idx) : (outsAt0 m c t.val t.isLt).1 j = (outsAt0 m c t.val t.isLt).2 j := by
  rw [outsAt0_C m c t (by omega) (by omega) h]; frame_out
  rw [pay4]

theorem final (c : Dev nD) : (dats m 0 c).arrAt 2 cfg0.N = val_main_v7 (F := Ideal) (m ((c : Thread nD τ).loc main_arg0)) (m ((c : Thread nD τ).loc main_arg2)) := by
  refine (dats m 0 c).arrAt_eq_of_covers 2 _ (by decide +kernel) fun t hf y => ?_
  have h3 := flush t hf
  blk_simp
  rw [after0_2]
  obtain ⟨r, k, rfl⟩ : ∃ (r : Fin 1024) (k : Fin 512), y = ix2 r k := ⟨y 0, y 1, by ext i; fin_cases i <;> rfl⟩
  have hN : t.val < 32 := lt_of_lt_of_eq t.isLt N_0
  have he : ((cfg0.win 2).blk t).view.emb (ix2 r k)
      = ix2 (⟨1024 * (t.val / 8) + r.val, by omega⟩ : Fin 4096) (⟨512 * (t.val / 4 % 2) + k.val, by omega⟩ : Fin 1024) := by
    blk_point [idx t]
  rw [he, ref, last m c t h3, Pipeline.eq_sum_fin_of_reset_step_apply_of_flush (fun n h => (outsAt0 m c n h).2) 4 (fun _ => 0)
    (fun t j => k0_pay1 (F := Ideal) (iblk m c 0 t) (iblk m c 1 t) j) (first m c) (next m c) t h3 (ix2 r k), zero_add]
  simp only [pay1]
  refine Fin.sum_mul_add_congr fun s e hl => ?_
  have hs : s.val < 4 := s.isLt
  have hE : s.val * 1024 + e.val < 4096 := hl
  rw [in0 m c ⟨4 * (t.val / 4) + s.val, _⟩ e r ⟨s.val * 1024 + e.val, hE⟩ ⟨1024 * (t.val / 8) + r.val, by omega⟩ (by dsimp only; omega) (by dsimp only; omega),
    in1 m c ⟨4 * (t.val / 4) + s.val, _⟩ e k ⟨s.val * 1024 + e.val, hE⟩ ⟨512 * (t.val / 4 % 2) + k.val, by omega⟩ (by dsimp only; omega) (by dsimp only; omega)]

end Cert.KernelWffIdeal.Whole

namespace Cert.Proof.WffClaims

open Cert.KernelWffIdeal.Whole Cert.ReferenceWffIdeal.Read

/-- Over the reals the result is the reference's product. -/
theorem algebraic : Cert.algebraic_KernelWffIdeal_ReferenceWffIdeal := by
  intro m g m' g' _ hagree
  refine ⟨fun c => val_main_v7 (F := Ideal) (m (c.tc.loc Cert.KernelWffIdeal.main_arg0)) (m (c.tc.loc Cert.KernelWffIdeal.main_arg2)), ?_, ?_⟩
  · refine (θ_run _ _ _).mono (fun r h c => ?_) (Cert.KernelWffIdeal.Value.run_blocks m g)
    obtain ⟨h0, hr⟩ := h c
    exact ⟨h0.trans (final m c), hr⟩
  · refine (θ_run _ _ _).mono (fun r h c => ?_) (Cert.ReferenceWffIdeal.Value.run m' g')
    obtain ⟨h0, hr⟩ := h c
    obtain ⟨e0, -, e2⟩ := hagree c
    exact ⟨(h0.trans (val_main_v7_eq _ _)).trans (by rw [e0, e2]), hr⟩

end Cert.Proof.WffClaims
end
-- ==== Proof.Win.lean ====
/- A part of the gradient of the input projection's weight, a segment of 1024 columns: a tile is the sum of its four chunks of rows. -/
module

public import proofs.«01_k».proof.Defs
public import proofs.«01_k».proof.Proof.Gen.KernelWinIdeal.Value
public import proofs.«01_k».proof.Proof.Gen.ReferenceWinIdeal.Read
public import Idealize.ShloMosaic.Lib.Pipeline.ValueKit
public import Idealize.ShloMosaic.Lib.Pipeline.ReadBack
public import Idealize.ShloMosaic.Lib.Claim
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.KernelWinIdeal.Whole

open Cert.KernelWinIdeal Cert.KernelWinIdeal.Gen
open Cert.ReferenceWinIdeal.Read

variable (m : (ℓ : Loc nD τ sig) → Buf (Elt Ideal) ℓ)

/-- Where each window's block sits. -/
theorem idx : ∀ t : Fin cfg0.N, win0_0.index t = ![t.val % 4, 0] ∧ win0_1.index t = ![t.val % 4, t.val / 4] ∧ win0_2.index t = ![0, 0] ∧ win0_3.index t = ![0, 0]
    ∧ win0_4.index t = ![0, t.val / 4] :=
  (by decide +kernel : ∀ t : Fin grid0.N, _)

/-- A tile is written back after its last chunk. -/
theorem flush : ∀ t : Fin cfg0.N, (cfg0.win 4).flush t = true → t.val % 4 = 3 :=
  (by decide +kernel : ∀ t : Fin grid0.N, _)

/-- A term of the product. -/
def term (x s h d : EReal) : EReal := (x * (1 + s) + h) * d

/-- A chunk's part of a tile's entry. -/
theorem pay1 (x0 : FVec Ideal S1024x1024 .f32) (s h : FVec Ideal S1x1024 .f32) (b : FVec Ideal S1024x512 .bf16) (r : Fin 1024) (k : Fin 512) :
    k0_pay1 (F := Ideal) x0 s h b (ix2 r k) = ∑ e : Fin 1024, term (x0 (ix2 e r)) (s (ix2 0 r)) (h (ix2 0 r)) (b (ix2 e k)) := by
  pointwise [k0_pay1]
  rfl

theorem pay2 (x0 : FVec Ideal S1024x1024 .f32) (s h : FVec Ideal S1x1024 .f32) (b : FVec Ideal S1024x512 .bf16) (j : S1024x512.Idx) : k0_pay2 (F := Ideal) x0 s h b j = k0_pay1 (F := Ideal) x0 s h b j := by
  pointwise [k0_pay2]

theorem pay3 (x0 : FVec Ideal S1024x1024 .f32) (s h : FVec Ideal S1x1024 .f32) (b : FVec Ideal S1024x512 .bf16) (a : FVec Ideal S1024x512 .f32) (j : S1024x512.Idx) : k0_pay3 (F := Ideal) x0 s h b a j = a j + k0_pay1 (F := Ideal) x0 s h b j := by
  pointwise [k0_pay3]

theorem pay4 (a : FVec Ideal S1024x512 .f32) (j : S1024x512.Idx) : k0_pay4 (F := Ideal) a j = a j := by
  pointwise [k0_pay4]

/-- The reference's entry. -/
theorem ref (a : FVec Ideal S4096x1024 .f32) (s h : FVec Ideal S1x1024 .f32) (d : FVec Ideal S4096x1024 .bf16) (r : Fin 1024) (k : Fin 1024) :
    val_main_v11 (F := Ideal) a s h d (ix2 r k) = ∑ e : Fin 4096, term (a (ix2 e r)) (s (ix2 0 r)) (h (ix2 0 r)) (d (ix2 e k)) := by
  pointwise [val_main_v11, val_main_v10, val_main_v9, val_main_v8, val_main_v6, val_main_v5, val_main_v4, val_main_v3, val_main_v2, val_main_v1, val_main_cst]
  exact Finset.sum_congr rfl fun e _ => mul_comm _ _

/-- A block's entry is the array's. -/
theorem in0 (c : Dev nD) (t : Fin cfg0.N) (r : Fin 1024) (e : Fin 1024) (R : Fin 4096) (E : Fin 1024) (hR : R.val = 1024 * (t.val % 4) + r.val) (hE : E.val = e.val) :
    (iblk m c 0 t : FVec Ideal S1024x1024 .f32) (ix2 r e) = (m ((c : Thread nD τ).loc main_arg0) : FVec Ideal S4096x1024 .f32) (ix2 R E) := by
  obtain ⟨R, hR'⟩ := R
  obtain ⟨E, hE'⟩ := E
  dsimp only at hR hE
  subst hR hE
  blk_point [iblk, V, idx t]

/-- A block's entry is the array's. -/
theorem in1 (c : Dev nD) (t : Fin cfg0.N) (r : Fin 1024) (e : Fin 512) (R : Fin 4096) (E : Fin 1024) (hR : R.val = 1024 * (t.val % 4) + r.val) (hE : E.val = 512 * (t.val / 4) + e.val) :
    (iblk m c 1 t : FVec Ideal S1024x512 .bf16) (ix2 r e) = (m ((c : Thread nD τ).loc main_arg4) : FVec Ideal S4096x1024 .bf16) (ix2 R E) := by
  obtain ⟨R, hR'⟩ := R
  obtain ⟨E, hE'⟩ := E
  dsimp only at hR hE
  subst hR hE
  blk_point [iblk, V, idx t]

/-- A block's entry is the array's. -/
theorem in2 (c : Dev nD) (t : Fin cfg0.N) (r : Fin 1) (e : Fin 1024) (R : Fin 1) (E : Fin 1024) (hR : R.val = r.val) (hE : E.val = e.val) :
    (iblk m c 2 t : FVec Ideal S1x1024 .f32) (ix2 r e) = (m ((c : Thread nD τ).loc main_arg1) : FVec Ideal S1x1024 .f32) (ix2 R E) := by
  obtain ⟨R, hR'⟩ := R
  obtain ⟨E, hE'⟩ := E
  dsimp only at hR hE
  subst hR hE
  blk_point [iblk, V, idx t]

/-- A block's entry is the array's. -/
theorem in3 (c : Dev nD) (t : Fin cfg0.N) (r : Fin 1) (e : Fin 1024) (R : Fin 1) (E : Fin 1024) (hR : R.val = r.val) (hE : E.val = e.val) :
    (iblk m c 3 t : FVec Ideal S1x1024 .f32) (ix2 r e) = (m ((c : Thread nD τ).loc main_arg2) : FVec Ideal S1x1024 .f32) (ix2 R E) := by
  obtain ⟨R, hR'⟩ := R
  obtain ⟨E, hE'⟩ := E
  dsimp only at hR hE
  subst hR hE
  blk_point [iblk, V, idx t]

/-- After a chunk the scratch holds the sum of the tile's chunks so far. -/
theorem first (c : Dev nD) (t : Fin cfg0.N) (h : t.val % 4 = 0) (j : S1024x512.Idx) :
    (outsAt0 m c t.val t.isLt).2 j = (fun _ => 0 : S1024x512.Idx → EReal) j + k0_pay1 (F := Ideal) (iblk m c 0 t) (iblk m c 2 t) (iblk m c 3 t) (iblk m c 1 t) j := by
  have hN : t.val < 8 := lt_of_lt_of_eq t.isLt N_0
  rw [outsAt0_A m c t h (by omega) (by omega)]; frame_out
  rw [pay2]
  exact (zero_add _).symm

theorem next (c : Dev nD) (t : Fin cfg0.N) (h : ¬t.val % 4 = 0) (j : S1024x512.Idx) :
    (outsAt0 m c t.val t.isLt).2 j = (outsAt0 m c (t.val - 1) (Nat.lt_of_le_of_lt (Nat.sub_le _ _) t.isLt)).2 j + k0_pay1 (F := Ideal) (iblk m c 0 t) (iblk m c 2 t) (iblk m c 3 t) (iblk m c 1 t) j := by
  by_cases h2 : t.val % 4 = 3
  · rw [outsAt0_C m c t h (by omega) h2]; frame_out
    rw [pay3, read_unread_whole]
  · rw [outsAt0_B m c t h (by omega) h2]; frame_out
    rw [pay3, read_unread_whole]

/-- At a tile's last chunk the tile is the scratch. -/
theorem last (c : Dev nD) (t : Fin cfg0.N) (h : t.val % 4 = 3) (j : S1024x512.Idx) : (outsAt0 m c t.val t.isLt).1 j = (outsAt0 m c t.val t.isLt).2 j := by
  rw [outsAt0_C m c t (by omega) (by omega) h]; frame_out
  rw [pay4]

theorem final (c : Dev nD) : (dats m 0 c).arrAt 4 cfg0.N = val_main_v11 (F := Ideal) (m ((c : Thread nD τ).loc main_arg0)) (m ((c : Thread nD τ).loc main_arg1)) (m ((c : Thread nD τ).loc main_arg2)) (m ((c : Thread nD τ).loc main_arg4)) := by
  refine (dats m 0 c).arrAt_eq_of_covers 4 _ (by decide +kernel) fun t hf y => ?_
  have h3 := flush t hf
  blk_simp
  rw [after0_4]
  obtain ⟨r, k, rfl⟩ : ∃ (r : Fin 1024) (k : Fin 512), y = ix2 r k := ⟨y 0, y 1, by ext i; fin_cases i <;> rfl⟩
  have hN : t.val < 8 := lt_of_lt_of_eq t.isLt N_0
  have he : ((cfg0.win 4).blk t).view.emb (ix2 r k)
      = ix2 r (⟨512 * (t.val / 4) + k.val, by omega⟩ : Fin 1024) := by
    blk_point [idx t]
  rw [he, ref, last m c t h3, Pipeline.eq_sum_fin_of_reset_step_apply_of_flush (fun n h => (outsAt0 m c n h).2) 4 (fun _ => 0)
    (fun t j => k0_pay1 (F := Ideal) (iblk m c 0 t) (iblk m c 2 t) (iblk m c 3 t) (iblk m c 1 t) j) (first m c) (next m c) t h3 (ix2 r k), zero_add]
  simp only [pay1]
  refine Fin.sum_mul_add_congr fun s e hl => ?_
  have hs : s.val < 4 := s.isLt
  have hE : s.val * 1024 + e.val < 4096 := hl
  rw [in0 m c ⟨4 * (t.val / 4) + s.val, _⟩ e r ⟨s.val * 1024 + e.val, hE⟩ r (by dsimp only; omega) rfl,
    in1 m c ⟨4 * (t.val / 4) + s.val, _⟩ e k ⟨s.val * 1024 + e.val, hE⟩ ⟨512 * (t.val / 4) + k.val, by omega⟩ (by dsimp only; omega) (by dsimp only; omega),
    in2 m c ⟨4 * (t.val / 4) + s.val, _⟩ 0 r 0 r rfl rfl, in3 m c ⟨4 * (t.val / 4) + s.val, _⟩ 0 r 0 r rfl rfl]

end Cert.KernelWinIdeal.Whole

namespace Cert.Proof.WinClaims

open Cert.KernelWinIdeal.Whole Cert.ReferenceWinIdeal.Read

/-- Over the reals the result is the reference's product. -/
theorem algebraic : Cert.algebraic_KernelWinIdeal_ReferenceWinIdeal := by
  intro m g m' g' _ hagree
  refine ⟨fun c => val_main_v11 (F := Ideal) (m (c.tc.loc Cert.KernelWinIdeal.main_arg0)) (m (c.tc.loc Cert.KernelWinIdeal.main_arg1)) (m (c.tc.loc Cert.KernelWinIdeal.main_arg2)) (m (c.tc.loc Cert.KernelWinIdeal.main_arg4)), ?_, ?_⟩
  · refine (θ_run _ _ _).mono (fun r h c => ?_) (Cert.KernelWinIdeal.Value.run_blocks m g)
    obtain ⟨h0, hr⟩ := h c
    exact ⟨h0.trans (final m c), hr⟩
  · refine (θ_run _ _ _).mono (fun r h c => ?_) (Cert.ReferenceWinIdeal.Value.run m' g')
    obtain ⟨h0, hr⟩ := h c
    obtain ⟨e0, e1, e2, -, e4⟩ := hagree c
    exact ⟨(h0.trans (val_main_v11_eq _ _ _ _)).trans (by rw [e0, e1, e2, e4]), hr⟩

end Cert.Proof.WinClaims
end
-- ==== Proof.Winb.lean ====
/- A part of the gradient of the input projection's weight, a segment of 512 columns: a tile is the sum of its four chunks of rows. -/
module

public import proofs.«01_k».proof.Defs
public import proofs.«01_k».proof.Proof.Gen.KernelWinbIdeal.Value
public import proofs.«01_k».proof.Proof.Gen.ReferenceWinbIdeal.Read
public import Idealize.ShloMosaic.Lib.Pipeline.ValueKit
public import Idealize.ShloMosaic.Lib.Pipeline.ReadBack
public import Idealize.ShloMosaic.Lib.Claim
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.KernelWinbIdeal.Whole

open Cert.KernelWinbIdeal Cert.KernelWinbIdeal.Gen
open Cert.ReferenceWinbIdeal.Read

variable (m : (ℓ : Loc nD τ sig) → Buf (Elt Ideal) ℓ)

/-- Where each window's block sits. -/
theorem idx : ∀ t : Fin cfg0.N, win0_0.index t = ![t.val % 4, 0] ∧ win0_1.index t = ![t.val % 4, t.val / 4] ∧ win0_2.index t = ![0, 0] ∧ win0_3.index t = ![0, 0]
    ∧ win0_4.index t = ![0, t.val / 4] :=
  (by decide +kernel : ∀ t : Fin grid0.N, _)

/-- A tile is written back after its last chunk. -/
theorem flush : ∀ t : Fin cfg0.N, (cfg0.win 4).flush t = true → t.val % 4 = 3 :=
  (by decide +kernel : ∀ t : Fin grid0.N, _)

/-- A term of the product. -/
def term (x s h d : EReal) : EReal := (x * (1 + s) + h) * d

/-- A chunk's part of a tile's entry. -/
theorem pay1 (x0 : FVec Ideal S1024x1024 .f32) (s h : FVec Ideal S1x1024 .f32) (b : FVec Ideal S1024x512 .bf16) (r : Fin 1024) (k : Fin 512) :
    k0_pay1 (F := Ideal) x0 s h b (ix2 r k) = ∑ e : Fin 1024, term (x0 (ix2 e r)) (s (ix2 0 r)) (h (ix2 0 r)) (b (ix2 e k)) := by
  pointwise [k0_pay1]
  rfl

theorem pay2 (x0 : FVec Ideal S1024x1024 .f32) (s h : FVec Ideal S1x1024 .f32) (b : FVec Ideal S1024x512 .bf16) (j : S1024x512.Idx) : k0_pay2 (F := Ideal) x0 s h b j = k0_pay1 (F := Ideal) x0 s h b j := by
  pointwise [k0_pay2]

theorem pay3 (x0 : FVec Ideal S1024x1024 .f32) (s h : FVec Ideal S1x1024 .f32) (b : FVec Ideal S1024x512 .bf16) (a : FVec Ideal S1024x512 .f32) (j : S1024x512.Idx) : k0_pay3 (F := Ideal) x0 s h b a j = a j + k0_pay1 (F := Ideal) x0 s h b j := by
  pointwise [k0_pay3]

theorem pay4 (a : FVec Ideal S1024x512 .f32) (j : S1024x512.Idx) : k0_pay4 (F := Ideal) a j = a j := by
  pointwise [k0_pay4]

/-- The reference's entry. -/
theorem ref (a : FVec Ideal S4096x1024 .f32) (s h : FVec Ideal S1x1024 .f32) (d : FVec Ideal S4096x512 .bf16) (r : Fin 1024) (k : Fin 512) :
    val_main_v11 (F := Ideal) a s h d (ix2 r k) = ∑ e : Fin 4096, term (a (ix2 e r)) (s (ix2 0 r)) (h (ix2 0 r)) (d (ix2 e k)) := by
  pointwise [val_main_v11, val_main_v10, val_main_v9, val_main_v8, val_main_v6, val_main_v5, val_main_v4, val_main_v3, val_main_v2, val_main_v1, val_main_cst]
  exact Finset.sum_congr rfl fun e _ => mul_comm _ _

/-- A block's entry is the array's. -/
theorem in0 (c : Dev nD) (t : Fin cfg0.N) (r : Fin 1024) (e : Fin 1024) (R : Fin 4096) (E : Fin 1024) (hR : R.val = 1024 * (t.val % 4) + r.val) (hE : E.val = e.val) :
    (iblk m c 0 t : FVec Ideal S1024x1024 .f32) (ix2 r e) = (m ((c : Thread nD τ).loc main_arg0) : FVec Ideal S4096x1024 .f32) (ix2 R E) := by
  obtain ⟨R, hR'⟩ := R
  obtain ⟨E, hE'⟩ := E
  dsimp only at hR hE
  subst hR hE
  blk_point [iblk, V, idx t]

/-- A block's entry is the array's. -/
theorem in1 (c : Dev nD) (t : Fin cfg0.N) (r : Fin 1024) (e : Fin 512) (R : Fin 4096) (E : Fin 512) (hR : R.val = 1024 * (t.val % 4) + r.val) (hE : E.val = 512 * (t.val / 4) + e.val) :
    (iblk m c 1 t : FVec Ideal S1024x512 .bf16) (ix2 r e) = (m ((c : Thread nD τ).loc main_arg4) : FVec Ideal S4096x512 .bf16) (ix2 R E) := by
  obtain ⟨R, hR'⟩ := R
  obtain ⟨E, hE'⟩ := E
  dsimp only at hR hE
  subst hR hE
  blk_point [iblk, V, idx t]

/-- A block's entry is the array's. -/
theorem in2 (c : Dev nD) (t : Fin cfg0.N) (r : Fin 1) (e : Fin 1024) (R : Fin 1) (E : Fin 1024) (hR : R.val = r.val) (hE : E.val = e.val) :
    (iblk m c 2 t : FVec Ideal S1x1024 .f32) (ix2 r e) = (m ((c : Thread nD τ).loc main_arg1) : FVec Ideal S1x1024 .f32) (ix2 R E) := by
  obtain ⟨R, hR'⟩ := R
  obtain ⟨E, hE'⟩ := E
  dsimp only at hR hE
  subst hR hE
  blk_point [iblk, V, idx t]

/-- A block's entry is the array's. -/
theorem in3 (c : Dev nD) (t : Fin cfg0.N) (r : Fin 1) (e : Fin 1024) (R : Fin 1) (E : Fin 1024) (hR : R.val = r.val) (hE : E.val = e.val) :
    (iblk m c 3 t : FVec Ideal S1x1024 .f32) (ix2 r e) = (m ((c : Thread nD τ).loc main_arg2) : FVec Ideal S1x1024 .f32) (ix2 R E) := by
  obtain ⟨R, hR'⟩ := R
  obtain ⟨E, hE'⟩ := E
  dsimp only at hR hE
  subst hR hE
  blk_point [iblk, V, idx t]

/-- After a chunk the scratch holds the sum of the tile's chunks so far. -/
theorem first (c : Dev nD) (t : Fin cfg0.N) (h : t.val % 4 = 0) (j : S1024x512.Idx) :
    (outsAt0 m c t.val t.isLt).2 j = (fun _ => 0 : S1024x512.Idx → EReal) j + k0_pay1 (F := Ideal) (iblk m c 0 t) (iblk m c 2 t) (iblk m c 3 t) (iblk m c 1 t) j := by
  have hN : t.val < 4 := lt_of_lt_of_eq t.isLt N_0
  rw [outsAt0_A m c t h (by omega) (by omega)]; frame_out
  rw [pay2]
  exact (zero_add _).symm

theorem next (c : Dev nD) (t : Fin cfg0.N) (h : ¬t.val % 4 = 0) (j : S1024x512.Idx) :
    (outsAt0 m c t.val t.isLt).2 j = (outsAt0 m c (t.val - 1) (Nat.lt_of_le_of_lt (Nat.sub_le _ _) t.isLt)).2 j + k0_pay1 (F := Ideal) (iblk m c 0 t) (iblk m c 2 t) (iblk m c 3 t) (iblk m c 1 t) j := by
  by_cases h2 : t.val % 4 = 3
  · rw [outsAt0_C m c t h (by omega) h2]; frame_out
    rw [pay3, read_unread_whole]
  · rw [outsAt0_B m c t h (by omega) h2]; frame_out
    rw [pay3, read_unread_whole]

/-- At a tile's last chunk the tile is the scratch. -/
theorem last (c : Dev nD) (t : Fin cfg0.N) (h : t.val % 4 = 3) (j : S1024x512.Idx) : (outsAt0 m c t.val t.isLt).1 j = (outsAt0 m c t.val t.isLt).2 j := by
  rw [outsAt0_C m c t (by omega) (by omega) h]; frame_out
  rw [pay4]

theorem final (c : Dev nD) : (dats m 0 c).arrAt 4 cfg0.N = val_main_v11 (F := Ideal) (m ((c : Thread nD τ).loc main_arg0)) (m ((c : Thread nD τ).loc main_arg1)) (m ((c : Thread nD τ).loc main_arg2)) (m ((c : Thread nD τ).loc main_arg4)) := by
  refine (dats m 0 c).arrAt_eq_of_covers 4 _ (by decide +kernel) fun t hf y => ?_
  have h3 := flush t hf
  blk_simp
  rw [after0_4]
  obtain ⟨r, k, rfl⟩ : ∃ (r : Fin 1024) (k : Fin 512), y = ix2 r k := ⟨y 0, y 1, by ext i; fin_cases i <;> rfl⟩
  have hN : t.val < 4 := lt_of_lt_of_eq t.isLt N_0
  have he : ((cfg0.win 4).blk t).view.emb (ix2 r k)
      = ix2 r (⟨512 * (t.val / 4) + k.val, by omega⟩ : Fin 512) := by
    blk_point [idx t]
  rw [he, ref, last m c t h3, Pipeline.eq_sum_fin_of_reset_step_apply_of_flush (fun n h => (outsAt0 m c n h).2) 4 (fun _ => 0)
    (fun t j => k0_pay1 (F := Ideal) (iblk m c 0 t) (iblk m c 2 t) (iblk m c 3 t) (iblk m c 1 t) j) (first m c) (next m c) t h3 (ix2 r k), zero_add]
  simp only [pay1]
  refine Fin.sum_mul_add_congr fun s e hl => ?_
  have hs : s.val < 4 := s.isLt
  have hE : s.val * 1024 + e.val < 4096 := hl
  rw [in0 m c ⟨4 * (t.val / 4) + s.val, _⟩ e r ⟨s.val * 1024 + e.val, hE⟩ r (by dsimp only; omega) rfl,
    in1 m c ⟨4 * (t.val / 4) + s.val, _⟩ e k ⟨s.val * 1024 + e.val, hE⟩ ⟨512 * (t.val / 4) + k.val, by omega⟩ (by dsimp only; omega) (by dsimp only; omega),
    in2 m c ⟨4 * (t.val / 4) + s.val, _⟩ 0 r 0 r rfl rfl, in3 m c ⟨4 * (t.val / 4) + s.val, _⟩ 0 r 0 r rfl rfl]

end Cert.KernelWinbIdeal.Whole

namespace Cert.Proof.WinbClaims

open Cert.KernelWinbIdeal.Whole Cert.ReferenceWinbIdeal.Read

/-- Over the reals the result is the reference's product. -/
theorem algebraic : Cert.algebraic_KernelWinbIdeal_ReferenceWinbIdeal := by
  intro m g m' g' _ hagree
  refine ⟨fun c => val_main_v11 (F := Ideal) (m (c.tc.loc Cert.KernelWinbIdeal.main_arg0)) (m (c.tc.loc Cert.KernelWinbIdeal.main_arg1)) (m (c.tc.loc Cert.KernelWinbIdeal.main_arg2)) (m (c.tc.loc Cert.KernelWinbIdeal.main_arg4)), ?_, ?_⟩
  · refine (θ_run _ _ _).mono (fun r h c => ?_) (Cert.KernelWinbIdeal.Value.run_blocks m g)
    obtain ⟨h0, hr⟩ := h c
    exact ⟨h0.trans (final m c), hr⟩
  · refine (θ_run _ _ _).mono (fun r h c => ?_) (Cert.ReferenceWinbIdeal.Value.run m' g')
    obtain ⟨h0, hr⟩ := h c
    obtain ⟨e0, e1, e2, -, e4⟩ := hagree c
    exact ⟨(h0.trans (val_main_v11_eq _ _ _ _)).trans (by rw [e0, e1, e2, e4]), hr⟩

end Cert.Proof.WinbClaims
end
-- ==== Proof.Wind.lean ====
/- A part of the gradient of the input projection's weight, a segment of 128 columns: a tile is the sum of its four chunks of rows. -/
module

public import proofs.«01_k».proof.Defs
public import proofs.«01_k».proof.Proof.Gen.KernelWindIdeal.Value
public import proofs.«01_k».proof.Proof.Gen.ReferenceWindIdeal.Read
public import Idealize.ShloMosaic.Lib.Pipeline.ValueKit
public import Idealize.ShloMosaic.Lib.Pipeline.ReadBack
public import Idealize.ShloMosaic.Lib.Claim
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.KernelWindIdeal.Whole

open Cert.KernelWindIdeal Cert.KernelWindIdeal.Gen
open Cert.ReferenceWindIdeal.Read

variable (m : (ℓ : Loc nD τ sig) → Buf (Elt Ideal) ℓ)

/-- Where each window's block sits. -/
theorem idx : ∀ t : Fin cfg0.N, win0_0.index t = ![t.val % 4, 0] ∧ win0_1.index t = ![t.val % 4, t.val / 4] ∧ win0_2.index t = ![0, 0] ∧ win0_3.index t = ![0, 0]
    ∧ win0_4.index t = ![0, t.val / 4] :=
  (by decide +kernel : ∀ t : Fin grid0.N, _)

/-- A tile is written back after its last chunk. -/
theorem flush : ∀ t : Fin cfg0.N, (cfg0.win 4).flush t = true → t.val % 4 = 3 :=
  (by decide +kernel : ∀ t : Fin grid0.N, _)

/-- A term of the product. -/
def term (x s h d : EReal) : EReal := (x * (1 + s) + h) * d

/-- A chunk's part of a tile's entry. -/
theorem pay1 (x0 : FVec Ideal S1024x1024 .f32) (s h : FVec Ideal S1x1024 .f32) (b : FVec Ideal S1024x128 .bf16) (r : Fin 1024) (k : Fin 128) :
    k0_pay1 (F := Ideal) x0 s h b (ix2 r k) = ∑ e : Fin 1024, term (x0 (ix2 e r)) (s (ix2 0 r)) (h (ix2 0 r)) (b (ix2 e k)) := by
  pointwise [k0_pay1]
  rfl

theorem pay2 (x0 : FVec Ideal S1024x1024 .f32) (s h : FVec Ideal S1x1024 .f32) (b : FVec Ideal S1024x128 .bf16) (j : S1024x128.Idx) : k0_pay2 (F := Ideal) x0 s h b j = k0_pay1 (F := Ideal) x0 s h b j := by
  pointwise [k0_pay2]

theorem pay3 (x0 : FVec Ideal S1024x1024 .f32) (s h : FVec Ideal S1x1024 .f32) (b : FVec Ideal S1024x128 .bf16) (a : FVec Ideal S1024x128 .f32) (j : S1024x128.Idx) : k0_pay3 (F := Ideal) x0 s h b a j = a j + k0_pay1 (F := Ideal) x0 s h b j := by
  pointwise [k0_pay3]

theorem pay4 (a : FVec Ideal S1024x128 .f32) (j : S1024x128.Idx) : k0_pay4 (F := Ideal) a j = a j := by
  pointwise [k0_pay4]

/-- The reference's entry. -/
theorem ref (a : FVec Ideal S4096x1024 .f32) (s h : FVec Ideal S1x1024 .f32) (d : FVec Ideal S4096x128 .bf16) (r : Fin 1024) (k : Fin 128) :
    val_main_v11 (F := Ideal) a s h d (ix2 r k) = ∑ e : Fin 4096, term (a (ix2 e r)) (s (ix2 0 r)) (h (ix2 0 r)) (d (ix2 e k)) := by
  pointwise [val_main_v11, val_main_v10, val_main_v9, val_main_v8, val_main_v6, val_main_v5, val_main_v4, val_main_v3, val_main_v2, val_main_v1, val_main_cst]
  exact Finset.sum_congr rfl fun e _ => mul_comm _ _

/-- A block's entry is the array's. -/
theorem in0 (c : Dev nD) (t : Fin cfg0.N) (r : Fin 1024) (e : Fin 1024) (R : Fin 4096) (E : Fin 1024) (hR : R.val = 1024 * (t.val % 4) + r.val) (hE : E.val = e.val) :
    (iblk m c 0 t : FVec Ideal S1024x1024 .f32) (ix2 r e) = (m ((c : Thread nD τ).loc main_arg0) : FVec Ideal S4096x1024 .f32) (ix2 R E) := by
  obtain ⟨R, hR'⟩ := R
  obtain ⟨E, hE'⟩ := E
  dsimp only at hR hE
  subst hR hE
  blk_point [iblk, V, idx t]

/-- A block's entry is the array's. -/
theorem in1 (c : Dev nD) (t : Fin cfg0.N) (r : Fin 1024) (e : Fin 128) (R : Fin 4096) (E : Fin 128) (hR : R.val = 1024 * (t.val % 4) + r.val) (hE : E.val = 128 * (t.val / 4) + e.val) :
    (iblk m c 1 t : FVec Ideal S1024x128 .bf16) (ix2 r e) = (m ((c : Thread nD τ).loc main_arg4) : FVec Ideal S4096x128 .bf16) (ix2 R E) := by
  obtain ⟨R, hR'⟩ := R
  obtain ⟨E, hE'⟩ := E
  dsimp only at hR hE
  subst hR hE
  blk_point [iblk, V, idx t]

/-- A block's entry is the array's. -/
theorem in2 (c : Dev nD) (t : Fin cfg0.N) (r : Fin 1) (e : Fin 1024) (R : Fin 1) (E : Fin 1024) (hR : R.val = r.val) (hE : E.val = e.val) :
    (iblk m c 2 t : FVec Ideal S1x1024 .f32) (ix2 r e) = (m ((c : Thread nD τ).loc main_arg1) : FVec Ideal S1x1024 .f32) (ix2 R E) := by
  obtain ⟨R, hR'⟩ := R
  obtain ⟨E, hE'⟩ := E
  dsimp only at hR hE
  subst hR hE
  blk_point [iblk, V, idx t]

/-- A block's entry is the array's. -/
theorem in3 (c : Dev nD) (t : Fin cfg0.N) (r : Fin 1) (e : Fin 1024) (R : Fin 1) (E : Fin 1024) (hR : R.val = r.val) (hE : E.val = e.val) :
    (iblk m c 3 t : FVec Ideal S1x1024 .f32) (ix2 r e) = (m ((c : Thread nD τ).loc main_arg2) : FVec Ideal S1x1024 .f32) (ix2 R E) := by
  obtain ⟨R, hR'⟩ := R
  obtain ⟨E, hE'⟩ := E
  dsimp only at hR hE
  subst hR hE
  blk_point [iblk, V, idx t]

/-- After a chunk the scratch holds the sum of the tile's chunks so far. -/
theorem first (c : Dev nD) (t : Fin cfg0.N) (h : t.val % 4 = 0) (j : S1024x128.Idx) :
    (outsAt0 m c t.val t.isLt).2 j = (fun _ => 0 : S1024x128.Idx → EReal) j + k0_pay1 (F := Ideal) (iblk m c 0 t) (iblk m c 2 t) (iblk m c 3 t) (iblk m c 1 t) j := by
  have hN : t.val < 4 := lt_of_lt_of_eq t.isLt N_0
  rw [outsAt0_A m c t h (by omega) (by omega)]; frame_out
  rw [pay2]
  exact (zero_add _).symm

theorem next (c : Dev nD) (t : Fin cfg0.N) (h : ¬t.val % 4 = 0) (j : S1024x128.Idx) :
    (outsAt0 m c t.val t.isLt).2 j = (outsAt0 m c (t.val - 1) (Nat.lt_of_le_of_lt (Nat.sub_le _ _) t.isLt)).2 j + k0_pay1 (F := Ideal) (iblk m c 0 t) (iblk m c 2 t) (iblk m c 3 t) (iblk m c 1 t) j := by
  by_cases h2 : t.val % 4 = 3
  · rw [outsAt0_C m c t h (by omega) h2]; frame_out
    rw [pay3, read_unread_whole]
  · rw [outsAt0_B m c t h (by omega) h2]; frame_out
    rw [pay3, read_unread_whole]

/-- At a tile's last chunk the tile is the scratch. -/
theorem last (c : Dev nD) (t : Fin cfg0.N) (h : t.val % 4 = 3) (j : S1024x128.Idx) : (outsAt0 m c t.val t.isLt).1 j = (outsAt0 m c t.val t.isLt).2 j := by
  rw [outsAt0_C m c t (by omega) (by omega) h]; frame_out
  rw [pay4]

theorem final (c : Dev nD) : (dats m 0 c).arrAt 4 cfg0.N = val_main_v11 (F := Ideal) (m ((c : Thread nD τ).loc main_arg0)) (m ((c : Thread nD τ).loc main_arg1)) (m ((c : Thread nD τ).loc main_arg2)) (m ((c : Thread nD τ).loc main_arg4)) := by
  refine (dats m 0 c).arrAt_eq_of_covers 4 _ (by decide +kernel) fun t hf y => ?_
  have h3 := flush t hf
  blk_simp
  rw [after0_4]
  obtain ⟨r, k, rfl⟩ : ∃ (r : Fin 1024) (k : Fin 128), y = ix2 r k := ⟨y 0, y 1, by ext i; fin_cases i <;> rfl⟩
  have hN : t.val < 4 := lt_of_lt_of_eq t.isLt N_0
  have he : ((cfg0.win 4).blk t).view.emb (ix2 r k)
      = ix2 r (⟨128 * (t.val / 4) + k.val, by omega⟩ : Fin 128) := by
    blk_point [idx t]
  rw [he, ref, last m c t h3, Pipeline.eq_sum_fin_of_reset_step_apply_of_flush (fun n h => (outsAt0 m c n h).2) 4 (fun _ => 0)
    (fun t j => k0_pay1 (F := Ideal) (iblk m c 0 t) (iblk m c 2 t) (iblk m c 3 t) (iblk m c 1 t) j) (first m c) (next m c) t h3 (ix2 r k), zero_add]
  simp only [pay1]
  refine Fin.sum_mul_add_congr fun s e hl => ?_
  have hs : s.val < 4 := s.isLt
  have hE : s.val * 1024 + e.val < 4096 := hl
  rw [in0 m c ⟨4 * (t.val / 4) + s.val, _⟩ e r ⟨s.val * 1024 + e.val, hE⟩ r (by dsimp only; omega) rfl,
    in1 m c ⟨4 * (t.val / 4) + s.val, _⟩ e k ⟨s.val * 1024 + e.val, hE⟩ ⟨128 * (t.val / 4) + k.val, by omega⟩ (by dsimp only; omega) (by dsimp only; omega),
    in2 m c ⟨4 * (t.val / 4) + s.val, _⟩ 0 r 0 r rfl rfl, in3 m c ⟨4 * (t.val / 4) + s.val, _⟩ 0 r 0 r rfl rfl]

end Cert.KernelWindIdeal.Whole

namespace Cert.Proof.WindClaims

open Cert.KernelWindIdeal.Whole Cert.ReferenceWindIdeal.Read

/-- Over the reals the result is the reference's product. -/
theorem algebraic : Cert.algebraic_KernelWindIdeal_ReferenceWindIdeal := by
  intro m g m' g' _ hagree
  refine ⟨fun c => val_main_v11 (F := Ideal) (m (c.tc.loc Cert.KernelWindIdeal.main_arg0)) (m (c.tc.loc Cert.KernelWindIdeal.main_arg1)) (m (c.tc.loc Cert.KernelWindIdeal.main_arg2)) (m (c.tc.loc Cert.KernelWindIdeal.main_arg4)), ?_, ?_⟩
  · refine (θ_run _ _ _).mono (fun r h c => ?_) (Cert.KernelWindIdeal.Value.run_blocks m g)
    obtain ⟨h0, hr⟩ := h c
    exact ⟨h0.trans (final m c), hr⟩
  · refine (θ_run _ _ _).mono (fun r h c => ?_) (Cert.ReferenceWindIdeal.Value.run m' g')
    obtain ⟨h0, hr⟩ := h c
    obtain ⟨e0, e1, e2, -, e4⟩ := hagree c
    exact ⟨(h0.trans (val_main_v11_eq _ _ _ _)).trans (by rw [e0, e1, e2, e4]), hr⟩

end Cert.Proof.WindClaims
end
-- ==== Proof.Fin.lean ====
/- The hidden layer's first product, its weight in column shards: a tile is one whole product. -/
module

public import proofs.«01_k».proof.Defs
public import proofs.«01_k».proof.Proof.Gen.KernelFinIdeal.Value
public import proofs.«01_k».proof.Proof.Gen.ReferenceFinIdeal.Read
public import Idealize.ShloMosaic.Lib.Pipeline.ValueKit
public import Idealize.ShloMosaic.Lib.Pipeline.ReadBack
public import Idealize.ShloMosaic.Lib.Claim
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.KernelFinIdeal.Whole

open Cert.KernelFinIdeal Cert.KernelFinIdeal.Gen
open Cert.ReferenceFinIdeal.Read

variable (m : (ℓ : Loc nD τ sig) → Buf (Elt Ideal) ℓ)

/-- Where each window's block sits. -/
theorem idx : ∀ t : Fin cfg0.N, win0_0.index t = ![t.val / 8, 0] ∧ win0_1.index t = ![t.val % 8, 0, 0] ∧ win0_2.index t = ![t.val / 8, t.val % 8] :=
  (by decide +kernel : ∀ t : Fin grid0.N, _)

/-- A tile's entry. -/
theorem pay (x0 : FVec Ideal S512x1024 .bf16) (x1 : FVec Ideal S1x1024x512 .bf16) (r k : Fin 512) :
    k0_pay1 (F := Ideal) x0 x1 (ix2 r k) = ∑ e : Fin 1024, x0 (ix2 r e) * x1 (ix3 0 e k) := by
  pointwise [k0_pay1]

/-- The reference's entry. -/
theorem ref (a : FVec Ideal S4096x1024 .bf16) (w : FVec Ideal S8x1024x512 .bf16) (r : Fin 4096) (j : Fin 8) (k : Fin 512) :
    val_main_v4 (F := Ideal) a w (ix2 r (⟨512 * j.val + k.val, by omega⟩ : Fin 4096)) = ∑ e : Fin 1024, a (ix2 r e) * w (ix3 j e k) := by
  pointwise [val_main_v4, val_main_v0]
  refine Finset.sum_congr rfl fun e _ => congrArg (a (ix2 r e) * ·) ?_
  rw [val_main_v3_apply, val_main_v2_apply]
  pointwise [val_main_v1]
  congr 1
  funext i
  apply Fin.ext
  fin_cases i
  · show (e.val * 4096 + (512 * j.val + k.val)) / 512 % 8 = j.val
    omega
  · show (e.val * 4096 + (512 * j.val + k.val)) / 4096 = e.val
    omega
  · show (e.val * 4096 + (512 * j.val + k.val)) % 512 = k.val
    omega

/-- A block's entry is the array's. -/
theorem in0 (c : Dev nD) (t : Fin cfg0.N) (r : Fin 512) (e : Fin 1024) (R : Fin 4096) (E : Fin 1024) (hR : R.val = 512 * (t.val / 8) + r.val) (hE : E.val = e.val) :
    (iblk m c 0 t : FVec Ideal S512x1024 .bf16) (ix2 r e) = (m ((c : Thread nD τ).loc main_arg0) : FVec Ideal S4096x1024 .bf16) (ix2 R E) := by
  obtain ⟨R, hR'⟩ := R
  obtain ⟨E, hE'⟩ := E
  dsimp only at hR hE
  subst hR hE
  blk_point [iblk, V, idx t]

/-- A block's entry is the array's. -/
theorem in1 (c : Dev nD) (t : Fin cfg0.N) (e : Fin 1024) (k : Fin 512) (j : Fin 8) (hj : j.val = t.val % 8) :
    (iblk m c 1 t : FVec Ideal S1x1024x512 .bf16) (ix3 0 e k) = (m ((c : Thread nD τ).loc main_arg1) : FVec Ideal S8x1024x512 .bf16) (ix3 j e k) := by
  obtain ⟨j, hj'⟩ := j
  dsimp only at hj
  subst hj
  blk_point [iblk, V, idx t]

theorem final (c : Dev nD) : (dats m 0 c).arrAt 2 cfg0.N = val_main_v4 (F := Ideal) (m ((c : Thread nD τ).loc main_arg0)) (m ((c : Thread nD τ).loc main_arg1)) := by
  refine (dats m 0 c).arrAt_eq_of_covers 2 _ (by decide +kernel) fun t _ y => ?_
  blk_simp
  rw [after0_2]
  frame_out
  obtain ⟨r, k, rfl⟩ : ∃ r k : Fin 512, y = ix2 r k := ⟨y 0, y 1, by ext i; fin_cases i <;> rfl⟩
  have hN : t.val < 64 := lt_of_lt_of_eq t.isLt N_0
  have he : ((cfg0.win 2).blk t).view.emb (ix2 r k)
      = ix2 (⟨512 * (t.val / 8) + r.val, by omega⟩ : Fin 4096) (⟨512 * (⟨t.val % 8, by omega⟩ : Fin 8).val + k.val, by dsimp only; omega⟩ : Fin 4096) := by
    blk_point [idx t]
  rw [he, ref, pay]
  exact Finset.sum_congr (M := EReal) rfl fun e _ => congrArg₂ (· * ·) (in0 m c t r e _ _ rfl rfl) (in1 m c t e k _ rfl)

end Cert.KernelFinIdeal.Whole

namespace Cert.Proof.FinClaims

open Cert.KernelFinIdeal.Whole Cert.ReferenceFinIdeal.Read

/-- Over the reals the result is the reference's product. -/
theorem algebraic : Cert.algebraic_KernelFinIdeal_ReferenceFinIdeal := by
  intro m g m' g' _ hagree
  refine ⟨fun c => val_main_v4 (F := Ideal) (m (c.tc.loc Cert.KernelFinIdeal.main_arg0)) (m (c.tc.loc Cert.KernelFinIdeal.main_arg1)), ?_, ?_⟩
  · refine (θ_run _ _ _).mono (fun r h c => ?_) (Cert.KernelFinIdeal.Value.run_blocks m g)
    obtain ⟨h0, hr⟩ := h c
    exact ⟨h0.trans (final m c), hr⟩
  · refine (θ_run _ _ _).mono (fun r h c => ?_) (Cert.ReferenceFinIdeal.Value.run m' g')
    obtain ⟨h0, hr⟩ := h c
    obtain ⟨e0, e1⟩ := hagree c
    exact ⟨(h0.trans (val_main_v4_eq _ _)).trans (by rw [e0, e1]), hr⟩

end Cert.Proof.FinClaims
end
-- ==== Proof.Wfin.lean ====
/- The gradient of the hidden layer's first weight, in column shards: a shard is the sum of its four chunks of rows. -/
module

public import proofs.«01_k».proof.Defs
public import proofs.«01_k».proof.Proof.Gen.KernelWfinIdeal.Value
public import proofs.«01_k».proof.Proof.Gen.ReferenceWfinIdeal.Read
public import Idealize.ShloMosaic.Lib.Pipeline.ValueKit
public import Idealize.ShloMosaic.Lib.Pipeline.ReadBack
public import Idealize.ShloMosaic.Lib.Claim
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.KernelWfinIdeal.Whole

open Cert.KernelWfinIdeal Cert.KernelWfinIdeal.Gen
open Cert.ReferenceWfinIdeal.Read

variable (m : (ℓ : Loc nD τ sig) → Buf (Elt Ideal) ℓ)

/-- Where each window's block sits. -/
theorem idx : ∀ t : Fin cfg0.N, win0_0.index t = ![t.val % 4, 0] ∧ win0_1.index t = ![t.val % 4, t.val / 4] ∧ win0_2.index t = ![t.val / 4, 0, 0] :=
  (by decide +kernel : ∀ t : Fin grid0.N, _)

/-- A tile is written back after its last chunk. -/
theorem flush : ∀ t : Fin cfg0.N, (cfg0.win 2).flush t = true → t.val % 4 = 3 :=
  (by decide +kernel : ∀ t : Fin grid0.N, _)

/-- A chunk's part of a tile's entry. -/
theorem pay1 (x0 : FVec Ideal S1024x1024 .bf16) (x1 : FVec Ideal S1024x512 .bf16) (r : Fin 1024) (k : Fin 512) :
    k0_pay1 (F := Ideal) x0 x1 (ix2 r k) = ∑ e : Fin 1024, x0 (ix2 e r) * x1 (ix2 e k) := by
  pointwise [k0_pay1]

theorem pay2 (x0 : FVec Ideal S1024x1024 .bf16) (x1 : FVec Ideal S1024x512 .bf16) (j : S1024x512.Idx) : k0_pay2 (F := Ideal) x0 x1 j = k0_pay1 (F := Ideal) x0 x1 j := by
  pointwise [k0_pay2]

theorem pay3 (x0 : FVec Ideal S1024x1024 .bf16) (x1 : FVec Ideal S1024x512 .bf16) (a : FVec Ideal S1024x512 .f32) (j : S1024x512.Idx) : k0_pay3 (F := Ideal) x0 x1 a j = a j + k0_pay1 (F := Ideal) x0 x1 j := by
  pointwise [k0_pay3]

theorem pay4 (a : FVec Ideal S1024x512 .f32) (r : Fin 1024) (k : Fin 512) : k0_pay4 (F := Ideal) a (ix3 0 r k) = a (ix2 r k) := by
  pointwise [k0_pay4]

/-- The reference's entry. -/
theorem ref (a : FVec Ideal S4096x1024 .bf16) (d : FVec Ideal S4096x4096 .bf16) (j : Fin 8) (r : Fin 1024) (k : Fin 512) :
    val_main_v10 (F := Ideal) a d (ix3 j r k) = ∑ e : Fin 4096, a (ix2 e r) * d (ix2 e (⟨512 * j.val + k.val, by omega⟩ : Fin 4096)) := by
  have e1 : idx_main_v8 (idx_main_v9 (ix3 j r k)) = ix2 r (⟨512 * j.val + k.val, by omega⟩ : Fin 4096) := by
    funext i
    apply Fin.ext
    fin_cases i
    · show ((r.val * 8 + j.val) * 512 + k.val) / 4096 = r.val
      omega
    · show ((r.val * 8 + j.val) * 512 + k.val) % 4096 = 512 * j.val + k.val
      omega
  have h : val_main_v10 (F := Ideal) a d (ix3 j r k) = val_main_v7 (F := Ideal) a d (ix2 r (⟨512 * j.val + k.val, by omega⟩ : Fin 4096)) := by
    rw [val_main_v10_apply, val_main_v9_apply, val_main_v8_apply, e1]
    rfl
  rw [h]
  pointwise [val_main_v7, val_main_v6, val_main_v5, val_main_v1]
  exact Finset.sum_congr rfl fun e _ => mul_comm _ _

/-- A block's entry is the array's. -/
theorem in0 (c : Dev nD) (t : Fin cfg0.N) (r : Fin 1024) (e : Fin 1024) (R : Fin 4096) (E : Fin 1024) (hR : R.val = 1024 * (t.val % 4) + r.val) (hE : E.val = e.val) :
    (iblk m c 0 t : FVec Ideal S1024x1024 .bf16) (ix2 r e) = (m ((c : Thread nD τ).loc main_arg0) : FVec Ideal S4096x1024 .bf16) (ix2 R E) := by
  obtain ⟨R, hR'⟩ := R
  obtain ⟨E, hE'⟩ := E
  dsimp only at hR hE
  subst hR hE
  blk_point [iblk, V, idx t]

/-- A block's entry is the array's. -/
theorem in1 (c : Dev nD) (t : Fin cfg0.N) (r : Fin 1024) (e : Fin 512) (R : Fin 4096) (E : Fin 4096) (hR : R.val = 1024 * (t.val % 4) + r.val) (hE : E.val = 512 * (t.val / 4) + e.val) :
    (iblk m c 1 t : FVec Ideal S1024x512 .bf16) (ix2 r e) = (m ((c : Thread nD τ).loc main_arg2) : FVec Ideal S4096x4096 .bf16) (ix2 R E) := by
  obtain ⟨R, hR'⟩ := R
  obtain ⟨E, hE'⟩ := E
  dsimp only at hR hE
  subst hR hE
  blk_point [iblk, V, idx t]

/-- After a chunk the scratch holds the sum of the tile's chunks so far. -/
theorem first (c : Dev nD) (t : Fin cfg0.N) (h : t.val % 4 = 0) (j : S1024x512.Idx) :
    (outsAt0 m c t.val t.isLt).2 j = (fun _ => 0 : S1024x512.Idx → EReal) j + k0_pay1 (F := Ideal) (iblk m c 0 t) (iblk m c 1 t) j := by
  rw [outsAt0_A m c t h (by omega) (by omega)]; frame_out
  rw [pay2]
  exact (zero_add _).symm

theorem next (c : Dev nD) (t : Fin cfg0.N) (h : ¬t.val % 4 = 0) (j : S1024x512.Idx) :
    (outsAt0 m c t.val t.isLt).2 j = (outsAt0 m c (t.val - 1) (Nat.lt_of_le_of_lt (Nat.sub_le _ _) t.isLt)).2 j + k0_pay1 (F := Ideal) (iblk m c 0 t) (iblk m c 1 t) j := by
  by_cases h2 : t.val % 4 = 3
  · rw [outsAt0_C m c t h (by omega) h2]; frame_out
    rw [pay3, read_unread_whole]
  · rw [outsAt0_B m c t h (by omega) h2]; frame_out
    rw [pay3, read_unread_whole]

/-- At a tile's last chunk the tile is the scratch. -/
theorem last (c : Dev nD) (t : Fin cfg0.N) (h : t.val % 4 = 3) (r : Fin 1024) (k : Fin 512) :
    (outsAt0 m c t.val t.isLt).1 (ix3 0 r k) = (outsAt0 m c t.val t.isLt).2 (ix2 r k) := by
  rw [outsAt0_C m c t (by omega) (by omega) h]; frame_out
  rw [pay4]

theorem final (c : Dev nD) : (dats m 0 c).arrAt 2 cfg0.N = val_main_v10 (F := Ideal) (m ((c : Thread nD τ).loc main_arg0)) (m ((c : Thread nD τ).loc main_arg2)) := by
  refine (dats m 0 c).arrAt_eq_of_covers 2 _ (by decide +kernel) fun t hf y => ?_
  have h3 := flush t hf
  blk_simp
  rw [after0_2]
  obtain ⟨r, k, rfl⟩ : ∃ (r : Fin 1024) (k : Fin 512), y = ix3 0 r k :=
    ⟨y 1, y 2, by
      ext i
      fin_cases i
      · have h0 : (y 0).val < 1 := (y 0).isLt
        show (y 0).val = 0
        omega
      · rfl
      · rfl⟩
  have hN : t.val < 32 := lt_of_lt_of_eq t.isLt N_0
  have he : ((cfg0.win 2).blk t).view.emb (ix3 0 r k) = ix3 (⟨t.val / 4, by omega⟩ : Fin 8) r k := by
    blk_point [idx t]
  rw [he, ref, last m c t h3, Pipeline.eq_sum_fin_of_reset_step_apply_of_flush (fun n h => (outsAt0 m c n h).2) 4 (fun _ => 0)
    (fun t j => k0_pay1 (F := Ideal) (iblk m c 0 t) (iblk m c 1 t) j) (first m c) (next m c) t h3 (ix2 r k), zero_add]
  simp only [pay1]
  refine Fin.sum_mul_add_congr fun s e hl => ?_
  have hs : s.val < 4 := s.isLt
  have hE : s.val * 1024 + e.val < 4096 := hl
  rw [in0 m c ⟨4 * (t.val / 4) + s.val, _⟩ e r ⟨s.val * 1024 + e.val, hE⟩ r (by dsimp only; omega) rfl,
    in1 m c ⟨4 * (t.val / 4) + s.val, _⟩ e k ⟨s.val * 1024 + e.val, hE⟩ ⟨512 * (t.val / 4) + k.val, by omega⟩ (by dsimp only; omega) (by dsimp only; omega)]

end Cert.KernelWfinIdeal.Whole

namespace Cert.Proof.WfinClaims

open Cert.KernelWfinIdeal.Whole Cert.ReferenceWfinIdeal.Read

/-- Over the reals the result is the reference's product. -/
theorem algebraic : Cert.algebraic_KernelWfinIdeal_ReferenceWfinIdeal := by
  intro m g m' g' _ hagree
  refine ⟨fun c => val_main_v10 (F := Ideal) (m (c.tc.loc Cert.KernelWfinIdeal.main_arg0)) (m (c.tc.loc Cert.KernelWfinIdeal.main_arg2)), ?_, ?_⟩
  · refine (θ_run _ _ _).mono (fun r h c => ?_) (Cert.KernelWfinIdeal.Value.run_blocks m g)
    obtain ⟨h0, hr⟩ := h c
    exact ⟨h0.trans (final m c), hr⟩
  · refine (θ_run _ _ _).mono (fun r h c => ?_) (Cert.ReferenceWfinIdeal.Value.run m' g')
    obtain ⟨h0, hr⟩ := h c
    obtain ⟨e0, -, e2⟩ := hagree c
    exact ⟨(h0.trans (val_main_v10_eq _ _)).trans (by rw [e0, e2]), hr⟩

end Cert.Proof.WfinClaims
end
-- ==== Proof.Dfin.lean ====
/- The gradient at the hidden layer's input, over the weight's column shards: a tile is the sum of eight products. -/
module

public import proofs.«01_k».proof.Defs
public import proofs.«01_k».proof.Proof.Gen.KernelDfinIdeal.Value
public import proofs.«01_k».proof.Proof.Gen.ReferenceDfinIdeal.Read
public import Idealize.ShloMosaic.Lib.Pipeline.ValueKit
public import Idealize.ShloMosaic.Lib.Pipeline.ReadBack
public import Idealize.ShloMosaic.Lib.Claim
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.KernelDfinIdeal.Whole

open Cert.KernelDfinIdeal Cert.KernelDfinIdeal.Gen
open Cert.ReferenceDfinIdeal.Read

variable (m : (ℓ : Loc nD τ sig) → Buf (Elt Ideal) ℓ)

/-- Where each window's block sits. -/
theorem idx : ∀ t : Fin cfg0.N, win0_0.index t = ![t.val / 2, 0] ∧ win0_1.index t = ![t.val / 2, 1] ∧ win0_2.index t = ![t.val / 2, 2] ∧ win0_3.index t = ![t.val / 2, 3] ∧ win0_4.index t = ![t.val / 2, 4] ∧ win0_5.index t = ![t.val / 2, 5] ∧ win0_6.index t = ![t.val / 2, 6] ∧ win0_7.index t = ![t.val / 2, 7] ∧ win0_8.index t = ![0, t.val % 2, 0] ∧ win0_9.index t = ![1, t.val % 2, 0] ∧ win0_10.index t = ![2, t.val % 2, 0] ∧ win0_11.index t = ![3, t.val % 2, 0] ∧ win0_12.index t = ![4, t.val % 2, 0] ∧ win0_13.index t = ![5, t.val % 2, 0] ∧ win0_14.index t = ![6, t.val % 2, 0] ∧ win0_15.index t = ![7, t.val % 2, 0] ∧ win0_16.index t = ![t.val / 2, t.val % 2] :=
  (by decide +kernel : ∀ t : Fin grid0.N, _)

/-- A shard's part of a tile's entry. -/
def part (a : FVec Ideal S256x512 .bf16) (w : FVec Ideal S1x512x512 .bf16) (r : Fin 256) (q : Fin 512) : EReal := ∑ e : Fin 512, a (ix2 r e) * w (ix3 0 q e)

/-- A tile's entry. -/
theorem pay (a0 : FVec Ideal S256x512 .bf16) (w0 : FVec Ideal S1x512x512 .bf16) (a1 : FVec Ideal S256x512 .bf16) (w1 : FVec Ideal S1x512x512 .bf16) (a2 : FVec Ideal S256x512 .bf16) (w2 : FVec Ideal S1x512x512 .bf16) (a3 : FVec Ideal S256x512 .bf16) (w3 : FVec Ideal S1x512x512 .bf16) (a4 : FVec Ideal S256x512 .bf16) (w4 : FVec Ideal S1x512x512 .bf16) (a5 : FVec Ideal S256x512 .bf16) (w5 : FVec Ideal S1x512x512 .bf16) (a6 : FVec Ideal S256x512 .bf16) (w6 : FVec Ideal S1x512x512 .bf16) (a7 : FVec Ideal S256x512 .bf16) (w7 : FVec Ideal S1x512x512 .bf16) (r : Fin 256) (q : Fin 512) :
    k0_pay1 (F := Ideal) (k0_pay2 (F := Ideal) a0 w0 a1 w1 a2 w2 a3 w3 a4 w4) a5 w5 a6 w6 a7 w7 (ix2 r q) = part a0 w0 r q + part a1 w1 r q + part a2 w2 r q + part a3 w3 r q + part a4 w4 r q + part a5 w5 r q + part a6 w6 r q + part a7 w7 r q := by
  pointwise [k0_pay1, k0_pay2]
  rfl

/-- A shard's part of the derivative's entry. -/
def term (w : FVec Ideal S8x1024x512 .bf16) (d : FVec Ideal S4096x4096 .bf16) (r : Fin 4096) (q : Fin 1024) (s : Fin 8) : EReal :=
  ∑ e : Fin 512, d (ix2 r (⟨s.val * 512 + e.val, by omega⟩ : Fin 4096)) * w (ix3 s q e)

/-- The packed weight's entry. -/
theorem packed (w : FVec Ideal S8x1024x512 .bf16) (q : Fin 1024) (s : Fin 8) (e : Fin 512) :
    val_main_v3 (F := Ideal) w (ix2 q (⟨s.val * 512 + e.val, by omega⟩ : Fin 4096)) = w (ix3 s q e) := by
  rw [val_main_v3_apply, val_main_v2_apply]
  pointwise [val_main_v1]
  congr 1
  funext i
  apply Fin.ext
  fin_cases i
  · show (q.val * 4096 + (s.val * 512 + e.val)) / 512 % 8 = s.val
    omega
  · show (q.val * 4096 + (s.val * 512 + e.val)) / 4096 = q.val
    omega
  · show (q.val * 4096 + (s.val * 512 + e.val)) % 512 = e.val
    omega

/-- The derivative's entry. -/
theorem ref (w : FVec Ideal S8x1024x512 .bf16) (d : FVec Ideal S4096x4096 .bf16) (r : Fin 4096) (q : Fin 1024) :
    val_main_v6 (F := Ideal) w d (ix2 r q) = ∑ s : Fin 8, term w d r q s := by
  have h : val_main_v6 (F := Ideal) w d (ix2 r q) = ∑ e : Fin 4096, d (ix2 r e) * val_main_v3 (F := Ideal) w (ix2 q e) := by
    pointwise [val_main_v6, val_main_v5]
  rw [h]
  refine Eq.symm (Fin.sum_mul_add_congr fun s e hl => ?_)
  rw [← packed w q s e]

theorem part0 (c : Dev nD) (t : Fin cfg0.N) (r : Fin 256) (q : Fin 512) (R : Fin 4096) (Q : Fin 1024) (hR : R.val = 256 * (t.val / 2) + r.val) (hQ : Q.val = 512 * (t.val % 2) + q.val) :
    part (iblk m c 0 t) (iblk m c 8 t) r q = term (m ((c : Thread nD τ).loc main_arg1)) (m ((c : Thread nD τ).loc main_arg2)) R Q 0 := by
  obtain ⟨R, hR'⟩ := R
  obtain ⟨Q, hQ'⟩ := Q
  dsimp only at hR hQ
  subst hR hQ
  refine Finset.sum_congr rfl fun e _ => congrArg₂ (· * ·) ?_ ?_
  · blk_point [iblk, V, idx t]
  · blk_point [iblk, V, idx t]

theorem part1 (c : Dev nD) (t : Fin cfg0.N) (r : Fin 256) (q : Fin 512) (R : Fin 4096) (Q : Fin 1024) (hR : R.val = 256 * (t.val / 2) + r.val) (hQ : Q.val = 512 * (t.val % 2) + q.val) :
    part (iblk m c 1 t) (iblk m c 9 t) r q = term (m ((c : Thread nD τ).loc main_arg1)) (m ((c : Thread nD τ).loc main_arg2)) R Q 1 := by
  obtain ⟨R, hR'⟩ := R
  obtain ⟨Q, hQ'⟩ := Q
  dsimp only at hR hQ
  subst hR hQ
  refine Finset.sum_congr rfl fun e _ => congrArg₂ (· * ·) ?_ ?_
  · blk_point [iblk, V, idx t]
  · blk_point [iblk, V, idx t]

theorem part2 (c : Dev nD) (t : Fin cfg0.N) (r : Fin 256) (q : Fin 512) (R : Fin 4096) (Q : Fin 1024) (hR : R.val = 256 * (t.val / 2) + r.val) (hQ : Q.val = 512 * (t.val % 2) + q.val) :
    part (iblk m c 2 t) (iblk m c 10 t) r q = term (m ((c : Thread nD τ).loc main_arg1)) (m ((c : Thread nD τ).loc main_arg2)) R Q 2 := by
  obtain ⟨R, hR'⟩ := R
  obtain ⟨Q, hQ'⟩ := Q
  dsimp only at hR hQ
  subst hR hQ
  refine Finset.sum_congr rfl fun e _ => congrArg₂ (· * ·) ?_ ?_
  · blk_point [iblk, V, idx t]
  · blk_point [iblk, V, idx t]

theorem part3 (c : Dev nD) (t : Fin cfg0.N) (r : Fin 256) (q : Fin 512) (R : Fin 4096) (Q : Fin 1024) (hR : R.val = 256 * (t.val / 2) + r.val) (hQ : Q.val = 512 * (t.val % 2) + q.val) :
    part (iblk m c 3 t) (iblk m c 11 t) r q = term (m ((c : Thread nD τ).loc main_arg1)) (m ((c : Thread nD τ).loc main_arg2)) R Q 3 := by
  obtain ⟨R, hR'⟩ := R
  obtain ⟨Q, hQ'⟩ := Q
  dsimp only at hR hQ
  subst hR hQ
  refine Finset.sum_congr rfl fun e _ => congrArg₂ (· * ·) ?_ ?_
  · blk_point [iblk, V, idx t]
  · blk_point [iblk, V, idx t]

theorem part4 (c : Dev nD) (t : Fin cfg0.N) (r : Fin 256) (q : Fin 512) (R : Fin 4096) (Q : Fin 1024) (hR : R.val = 256 * (t.val / 2) + r.val) (hQ : Q.val = 512 * (t.val % 2) + q.val) :
    part (iblk m c 4 t) (iblk m c 12 t) r q = term (m ((c : Thread nD τ).loc main_arg1)) (m ((c : Thread nD τ).loc main_arg2)) R Q 4 := by
  obtain ⟨R, hR'⟩ := R
  obtain ⟨Q, hQ'⟩ := Q
  dsimp only at hR hQ
  subst hR hQ
  refine Finset.sum_congr rfl fun e _ => congrArg₂ (· * ·) ?_ ?_
  · blk_point [iblk, V, idx t]
  · blk_point [iblk, V, idx t]

theorem part5 (c : Dev nD) (t : Fin cfg0.N) (r : Fin 256) (q : Fin 512) (R : Fin 4096) (Q : Fin 1024) (hR : R.val = 256 * (t.val / 2) + r.val) (hQ : Q.val = 512 * (t.val % 2) + q.val) :
    part (iblk m c 5 t) (iblk m c 13 t) r q = term (m ((c : Thread nD τ).loc main_arg1)) (m ((c : Thread nD τ).loc main_arg2)) R Q 5 := by
  obtain ⟨R, hR'⟩ := R
  obtain ⟨Q, hQ'⟩ := Q
  dsimp only at hR hQ
  subst hR hQ
  refine Finset.sum_congr rfl fun e _ => congrArg₂ (· * ·) ?_ ?_
  · blk_point [iblk, V, idx t]
  · blk_point [iblk, V, idx t]

theorem part6 (c : Dev nD) (t : Fin cfg0.N) (r : Fin 256) (q : Fin 512) (R : Fin 4096) (Q : Fin 1024) (hR : R.val = 256 * (t.val / 2) + r.val) (hQ : Q.val = 512 * (t.val % 2) + q.val) :
    part (iblk m c 6 t) (iblk m c 14 t) r q = term (m ((c : Thread nD τ).loc main_arg1)) (m ((c : Thread nD τ).loc main_arg2)) R Q 6 := by
  obtain ⟨R, hR'⟩ := R
  obtain ⟨Q, hQ'⟩ := Q
  dsimp only at hR hQ
  subst hR hQ
  refine Finset.sum_congr rfl fun e _ => congrArg₂ (· * ·) ?_ ?_
  · blk_point [iblk, V, idx t]
  · blk_point [iblk, V, idx t]

theorem part7 (c : Dev nD) (t : Fin cfg0.N) (r : Fin 256) (q : Fin 512) (R : Fin 4096) (Q : Fin 1024) (hR : R.val = 256 * (t.val / 2) + r.val) (hQ : Q.val = 512 * (t.val % 2) + q.val) :
    part (iblk m c 7 t) (iblk m c 15 t) r q = term (m ((c : Thread nD τ).loc main_arg1)) (m ((c : Thread nD τ).loc main_arg2)) R Q 7 := by
  obtain ⟨R, hR'⟩ := R
  obtain ⟨Q, hQ'⟩ := Q
  dsimp only at hR hQ
  subst hR hQ
  refine Finset.sum_congr rfl fun e _ => congrArg₂ (· * ·) ?_ ?_
  · blk_point [iblk, V, idx t]
  · blk_point [iblk, V, idx t]

theorem final (c : Dev nD) : (dats m 0 c).arrAt 16 cfg0.N = val_main_v6 (F := Ideal) (m ((c : Thread nD τ).loc main_arg1)) (m ((c : Thread nD τ).loc main_arg2)) := by
  refine (dats m 0 c).arrAt_eq_of_covers 16 _ (by decide +kernel) fun t _ y => ?_
  blk_simp
  rw [after0_16]
  frame_out
  obtain ⟨r, q, rfl⟩ : ∃ (r : Fin 256) (q : Fin 512), y = ix2 r q := ⟨y 0, y 1, by ext i; fin_cases i <;> rfl⟩
  have hN : t.val < 32 := lt_of_lt_of_eq t.isLt N_0
  have he : ((cfg0.win 16).blk t).view.emb (ix2 r q)
      = ix2 (⟨256 * (t.val / 2) + r.val, by omega⟩ : Fin 4096) (⟨512 * (t.val % 2) + q.val, by omega⟩ : Fin 1024) := by
    blk_point [idx t]
  have hR : (⟨256 * (t.val / 2) + r.val, by omega⟩ : Fin 4096).val = 256 * (t.val / 2) + r.val := rfl
  have hQ : (⟨512 * (t.val % 2) + q.val, by omega⟩ : Fin 1024).val = 512 * (t.val % 2) + q.val := rfl
  rw [he, ref, pay, part0 m c t r q _ _ hR hQ, part1 m c t r q _ _ hR hQ, part2 m c t r q _ _ hR hQ, part3 m c t r q _ _ hR hQ, part4 m c t r q _ _ hR hQ, part5 m c t r q _ _ hR hQ, part6 m c t r q _ _ hR hQ, part7 m c t r q _ _ hR hQ]
  exact (Fin.sum_univ_eight (M := EReal) _).symm

end Cert.KernelDfinIdeal.Whole

namespace Cert.Proof.DfinClaims

open Cert.KernelDfinIdeal.Whole Cert.ReferenceDfinIdeal.Read

/-- Over the reals the result is the reference's product. -/
theorem algebraic : Cert.algebraic_KernelDfinIdeal_ReferenceDfinIdeal := by
  intro m g m' g' _ hagree
  refine ⟨fun c => val_main_v6 (F := Ideal) (m (c.tc.loc Cert.KernelDfinIdeal.main_arg1)) (m (c.tc.loc Cert.KernelDfinIdeal.main_arg2)), ?_, ?_⟩
  · refine (θ_run _ _ _).mono (fun r h c => ?_) (Cert.KernelDfinIdeal.Value.run_blocks m g)
    obtain ⟨h0, hr⟩ := h c
    exact ⟨h0.trans (final m c), hr⟩
  · refine (θ_run _ _ _).mono (fun r h c => ?_) (Cert.ReferenceDfinIdeal.Value.run m' g')
    obtain ⟨h0, hr⟩ := h c
    obtain ⟨-, e1, e2⟩ := hagree c
    exact ⟨(h0.trans (val_main_v6_eq _ _)).trans (by rw [e1, e2]), hr⟩

end Cert.Proof.DfinClaims
end
-- ==== Proof.Dh.lean ====
/- The gradient at the input projection's input: a tile is the sum of seven products, one for each column group. -/
module

public import proofs.«01_k».proof.Defs
public import proofs.«01_k».proof.Proof.Gen.KernelDhIdeal.Value
public import proofs.«01_k».proof.Proof.Gen.ReferenceDhIdeal.Read
public import Idealize.ShloMosaic.Lib.Pipeline.ValueKit
public import Idealize.ShloMosaic.Lib.Pipeline.ReadBack
public import Idealize.ShloMosaic.Lib.Claim
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.KernelDhIdeal.Whole

open Cert.KernelDhIdeal Cert.KernelDhIdeal.Gen
open Cert.ReferenceDhIdeal.Read

variable (m : (ℓ : Loc nD τ sig) → Buf (Elt Ideal) ℓ)

/-- Where each window's block sits. -/
theorem idx : ∀ t : Fin cfg0.N, win0_0.index t = ![t.val / 2, 0] ∧ win0_1.index t = ![t.val / 2, 0] ∧ win0_2.index t = ![t.val / 2, 0] ∧ win0_3.index t = ![t.val / 2, 0] ∧ win0_4.index t = ![t.val / 2, 0] ∧ win0_5.index t = ![t.val / 2, 0] ∧ win0_6.index t = ![t.val / 2, 0] ∧ win0_7.index t = ![t.val % 2, 0] ∧ win0_8.index t = ![t.val % 2, 1] ∧ win0_9.index t = ![t.val % 2, 2] ∧ win0_10.index t = ![t.val % 2, 3] ∧ win0_11.index t = ![t.val % 2, 4] ∧ win0_12.index t = ![t.val % 2, 10] ∧ win0_13.index t = ![t.val % 2, 44] ∧ win0_14.index t = ![t.val / 2, t.val % 2] :=
  (by decide +kernel : ∀ t : Fin grid0.N, _)

/-- A column group's part of a tile's entry. -/
def part {n : ℕ} (a : (⟨2, ![256, n]⟩ : Shape).Idx → EReal) (w : (⟨2, ![512, n]⟩ : Shape).Idx → EReal) (r : Fin 256) (q : Fin 512) : EReal := ∑ e : Fin n, a (ix2 r e) * w (ix2 q e)

/-- A tile's entry. -/
theorem pay (a0 : FVec Ideal S256x1024 .bf16) (w0 : FVec Ideal S512x1024 .bf16) (a1 : FVec Ideal S256x1024 .bf16) (w1 : FVec Ideal S512x1024 .bf16) (a2 : FVec Ideal S256x1024 .bf16) (w2 : FVec Ideal S512x1024 .bf16) (a3 : FVec Ideal S256x1024 .bf16) (w3 : FVec Ideal S512x1024 .bf16) (a4 : FVec Ideal S256x1024 .bf16) (w4 : FVec Ideal S512x1024 .bf16) (a5 : FVec Ideal S256x512 .bf16) (w5 : FVec Ideal S512x512 .bf16) (a6 : FVec Ideal S256x128 .bf16) (w6 : FVec Ideal S512x128 .bf16) (r : Fin 256) (q : Fin 512) :
    k0_pay1 (F := Ideal) (k0_pay2 (F := Ideal) a0 w0 a1 w1 a2 w2 a3 w3 a4 w4) (k0_pay3 (F := Ideal) a5 w5) a6 w6 (ix2 r q) = part a0 w0 r q + part a1 w1 r q + part a2 w2 r q + part a3 w3 r q + part a4 w4 r q + part a5 w5 r q + part a6 w6 r q := by
  pointwise [k0_pay1, k0_pay2, k0_pay3]
  rfl

/-- A term of the derivative's entry. -/
def term (w : FVec Ideal S1024x5760 .bf16) (d : FVec Ideal S4096x5760 .bf16) (r : Fin 4096) (q : Fin 1024) (e : Fin 5760) : EReal := d (ix2 r e) * w (ix2 q e)

/-- The derivative's entry. -/
theorem ref (w : FVec Ideal S1024x5760 .bf16) (d : FVec Ideal S4096x5760 .bf16) (r : Fin 4096) (q : Fin 1024) :
    val_main_v3 (F := Ideal) w d (ix2 r q) = ∑ e : Fin 5760, term w d r q e := by
  pointwise [val_main_v3, val_main_v2, val_main_v0]
  rfl

/-- A sum over all columns is the sum over the column groups. -/
theorem split (g : Fin 5760 → EReal) : ∑ e, g e
    = ((∑ s : Fin 5, ∑ e : Fin 1024, g ⟨s.val * 1024 + e.val, by omega⟩) + ∑ e : Fin 512, g ⟨5120 + e.val, by omega⟩) + ∑ e : Fin 128, g ⟨5632 + e.val, by omega⟩ := by
  have h1 := Fin.sum_univ_add (a := 5632) (b := 128) g
  have h2 := Fin.sum_univ_add (a := 5120) (b := 512) fun i => g (Fin.castAdd 128 i)
  have h3 : ∑ i : Fin 5120, g (Fin.castAdd 128 (Fin.castAdd 512 i)) = ∑ s : Fin 5, ∑ e : Fin 1024, g ⟨s.val * 1024 + e.val, by omega⟩ :=
    Eq.symm (Fin.sum_mul_add_congr fun s e hl => rfl)
  exact h1.trans (congrArg₂ (· + ·) (h2.trans (congrArg₂ (· + ·) h3 rfl)) rfl)

/-- The same, group by group. -/
theorem groups (g : Fin 5760 → EReal) : ∑ e, g e
    = (∑ e : Fin 1024, g ⟨0 + e.val, by omega⟩) + (∑ e : Fin 1024, g ⟨1024 + e.val, by omega⟩) + (∑ e : Fin 1024, g ⟨2048 + e.val, by omega⟩) + (∑ e : Fin 1024, g ⟨3072 + e.val, by omega⟩) + (∑ e : Fin 1024, g ⟨4096 + e.val, by omega⟩) + (∑ e : Fin 512, g ⟨5120 + e.val, by omega⟩) + (∑ e : Fin 128, g ⟨5632 + e.val, by omega⟩) := by
  have h : ∀ (s : Fin 5) (o : ℕ) (ho : s.val * 1024 = o), (∑ e : Fin 1024, g ⟨s.val * 1024 + e.val, by omega⟩) = ∑ e : Fin 1024, g ⟨o + e.val, by omega⟩ := fun s o ho =>
    Finset.sum_congr rfl fun e _ => congrArg g (Fin.ext (congrArg (· + e.val) ho))
  rw [split, Fin.sum_univ_five, h 0 0 rfl, h 1 1024 rfl, h 2 2048 rfl, h 3 3072 rfl, h 4 4096 rfl]

theorem slice0 (c : Dev nD) : V m c main_v0 = extractStridedSlice S4096x1024 ![0, 0] (m ((c : Thread nD τ).loc main_arg2)) slices_S4096x5760_S4096x1024_0_0 := by
  simp only [V, hostOps0]
  entry_read
  rfl

theorem in0 (c : Dev nD) (t : Fin cfg0.N) (r : Fin 256) (e : Fin 1024) (R : Fin 4096) (hR : R.val = 256 * (t.val / 2) + r.val) :
    (iblk m c 0 t : FVec Ideal S256x1024 .bf16) (ix2 r e) = (m ((c : Thread nD τ).loc main_arg2) : FVec Ideal S4096x5760 .bf16) (ix2 R ⟨0 + e.val, by omega⟩) := by
  obtain ⟨R, hR'⟩ := R
  dsimp only at hR
  subst hR
  have e1 : ((cfg0.win 0).blk t).view.emb (ix2 r e) = ix2 (⟨256 * (t.val / 2) + r.val, hR'⟩ : Fin 4096) e := by
    blk_ext [idx t]
  unfold iblk
  refine (congrArg (V m c main_v0) e1).trans ?_
  rw [slice0]
  refine extractStridedSlice_apply _ _ _ _ _ fun a => ?_
  fin_cases a
  · exact (Nat.zero_add _).symm
  · rfl

theorem wt0 (c : Dev nD) (t : Fin cfg0.N) (q : Fin 512) (e : Fin 1024) (Q : Fin 1024) (hQ : Q.val = 512 * (t.val % 2) + q.val) :
    (X0_7 m c t : FVec Ideal S512x1024 .bf16) (ix2 q e) = (m ((c : Thread nD τ).loc main_arg1) : FVec Ideal S1024x5760 .bf16) (ix2 Q ⟨0 + e.val, by omega⟩) := by
  obtain ⟨Q, hQ'⟩ := Q
  dsimp only at hQ
  subst hQ
  unfold X0_7 Pipeline.Window.fill
  rw [dif_pos (moved0_7 t _)]
  have e1 : (win0_7.blk t).view.emb (fun a => ⟨(ix2 q e a).val, ((cfg0.win 7).moved_iff _ _).mp (moved0_7 t (ix2 q e)) a⟩) = ix2 (⟨512 * (t.val % 2) + q.val, hQ'⟩ : Fin 1024) ⟨0 + e.val, by omega⟩ := by
    blk_ext [idx t]
  unfold iblk
  exact (congrFun (V_main_arg1 m c) _).trans (congrArg (m ((c : Thread nD τ).loc main_arg1)) e1)

theorem slice1 (c : Dev nD) : V m c main_v1 = extractStridedSlice S4096x1024 ![0, 1024] (m ((c : Thread nD τ).loc main_arg2)) slices_S4096x5760_S4096x1024_0_1024 := by
  simp only [V, hostOps0]
  entry_read
  rfl

theorem in1 (c : Dev nD) (t : Fin cfg0.N) (r : Fin 256) (e : Fin 1024) (R : Fin 4096) (hR : R.val = 256 * (t.val / 2) + r.val) :
    (iblk m c 1 t : FVec Ideal S256x1024 .bf16) (ix2 r e) = (m ((c : Thread nD τ).loc main_arg2) : FVec Ideal S4096x5760 .bf16) (ix2 R ⟨1024 + e.val, by omega⟩) := by
  obtain ⟨R, hR'⟩ := R
  dsimp only at hR
  subst hR
  have e1 : ((cfg0.win 1).blk t).view.emb (ix2 r e) = ix2 (⟨256 * (t.val / 2) + r.val, hR'⟩ : Fin 4096) e := by
    blk_ext [idx t]
  unfold iblk
  refine (congrArg (V m c main_v1) e1).trans ?_
  rw [slice1]
  refine extractStridedSlice_apply _ _ _ _ _ fun a => ?_
  fin_cases a
  · exact (Nat.zero_add _).symm
  · rfl

theorem wt1 (c : Dev nD) (t : Fin cfg0.N) (q : Fin 512) (e : Fin 1024) (Q : Fin 1024) (hQ : Q.val = 512 * (t.val % 2) + q.val) :
    (X0_8 m c t : FVec Ideal S512x1024 .bf16) (ix2 q e) = (m ((c : Thread nD τ).loc main_arg1) : FVec Ideal S1024x5760 .bf16) (ix2 Q ⟨1024 + e.val, by omega⟩) := by
  obtain ⟨Q, hQ'⟩ := Q
  dsimp only at hQ
  subst hQ
  unfold X0_8 Pipeline.Window.fill
  rw [dif_pos (moved0_8 t _)]
  have e1 : (win0_8.blk t).view.emb (fun a => ⟨(ix2 q e a).val, ((cfg0.win 8).moved_iff _ _).mp (moved0_8 t (ix2 q e)) a⟩) = ix2 (⟨512 * (t.val % 2) + q.val, hQ'⟩ : Fin 1024) ⟨1024 + e.val, by omega⟩ := by
    blk_ext [idx t]
  unfold iblk
  exact (congrFun (V_main_arg1 m c) _).trans (congrArg (m ((c : Thread nD τ).loc main_arg1)) e1)

theorem slice2 (c : Dev nD) : V m c main_v2 = extractStridedSlice S4096x1024 ![0, 2048] (m ((c : Thread nD τ).loc main_arg2)) slices_S4096x5760_S4096x1024_0_2048 := by
  simp only [V, hostOps0]
  entry_read
  rfl

theorem in2 (c : Dev nD) (t : Fin cfg0.N) (r : Fin 256) (e : Fin 1024) (R : Fin 4096) (hR : R.val = 256 * (t.val / 2) + r.val) :
    (iblk m c 2 t : FVec Ideal S256x1024 .bf16) (ix2 r e) = (m ((c : Thread nD τ).loc main_arg2) : FVec Ideal S4096x5760 .bf16) (ix2 R ⟨2048 + e.val, by omega⟩) := by
  obtain ⟨R, hR'⟩ := R
  dsimp only at hR
  subst hR
  have e1 : ((cfg0.win 2).blk t).view.emb (ix2 r e) = ix2 (⟨256 * (t.val / 2) + r.val, hR'⟩ : Fin 4096) e := by
    blk_ext [idx t]
  unfold iblk
  refine (congrArg (V m c main_v2) e1).trans ?_
  rw [slice2]
  refine extractStridedSlice_apply _ _ _ _ _ fun a => ?_
  fin_cases a
  · exact (Nat.zero_add _).symm
  · rfl

theorem wt2 (c : Dev nD) (t : Fin cfg0.N) (q : Fin 512) (e : Fin 1024) (Q : Fin 1024) (hQ : Q.val = 512 * (t.val % 2) + q.val) :
    (X0_9 m c t : FVec Ideal S512x1024 .bf16) (ix2 q e) = (m ((c : Thread nD τ).loc main_arg1) : FVec Ideal S1024x5760 .bf16) (ix2 Q ⟨2048 + e.val, by omega⟩) := by
  obtain ⟨Q, hQ'⟩ := Q
  dsimp only at hQ
  subst hQ
  unfold X0_9 Pipeline.Window.fill
  rw [dif_pos (moved0_9 t _)]
  have e1 : (win0_9.blk t).view.emb (fun a => ⟨(ix2 q e a).val, ((cfg0.win 9).moved_iff _ _).mp (moved0_9 t (ix2 q e)) a⟩) = ix2 (⟨512 * (t.val % 2) + q.val, hQ'⟩ : Fin 1024) ⟨2048 + e.val, by omega⟩ := by
    blk_ext [idx t]
  unfold iblk
  exact (congrFun (V_main_arg1 m c) _).trans (congrArg (m ((c : Thread nD τ).loc main_arg1)) e1)

theorem slice3 (c : Dev nD) : V m c main_v3 = extractStridedSlice S4096x1024 ![0, 3072] (m ((c : Thread nD τ).loc main_arg2)) slices_S4096x5760_S4096x1024_0_3072 := by
  simp only [V, hostOps0]
  entry_read
  rfl

theorem in3 (c : Dev nD) (t : Fin cfg0.N) (r : Fin 256) (e : Fin 1024) (R : Fin 4096) (hR : R.val = 256 * (t.val / 2) + r.val) :
    (iblk m c 3 t : FVec Ideal S256x1024 .bf16) (ix2 r e) = (m ((c : Thread nD τ).loc main_arg2) : FVec Ideal S4096x5760 .bf16) (ix2 R ⟨3072 + e.val, by omega⟩) := by
  obtain ⟨R, hR'⟩ := R
  dsimp only at hR
  subst hR
  have e1 : ((cfg0.win 3).blk t).view.emb (ix2 r e) = ix2 (⟨256 * (t.val / 2) + r.val, hR'⟩ : Fin 4096) e := by
    blk_ext [idx t]
  unfold iblk
  refine (congrArg (V m c main_v3) e1).trans ?_
  rw [slice3]
  refine extractStridedSlice_apply _ _ _ _ _ fun a => ?_
  fin_cases a
  · exact (Nat.zero_add _).symm
  · rfl

theorem wt3 (c : Dev nD) (t : Fin cfg0.N) (q : Fin 512) (e : Fin 1024) (Q : Fin 1024) (hQ : Q.val = 512 * (t.val % 2) + q.val) :
    (X0_10 m c t : FVec Ideal S512x1024 .bf16) (ix2 q e) = (m ((c : Thread nD τ).loc main_arg1) : FVec Ideal S1024x5760 .bf16) (ix2 Q ⟨3072 + e.val, by omega⟩) := by
  obtain ⟨Q, hQ'⟩ := Q
  dsimp only at hQ
  subst hQ
  unfold X0_10 Pipeline.Window.fill
  rw [dif_pos (moved0_10 t _)]
  have e1 : (win0_10.blk t).view.emb (fun a => ⟨(ix2 q e a).val, ((cfg0.win 10).moved_iff _ _).mp (moved0_10 t (ix2 q e)) a⟩) = ix2 (⟨512 * (t.val % 2) + q.val, hQ'⟩ : Fin 1024) ⟨3072 + e.val, by omega⟩ := by
    blk_ext [idx t]
  unfold iblk
  exact (congrFun (V_main_arg1 m c) _).trans (congrArg (m ((c : Thread nD τ).loc main_arg1)) e1)

theorem slice4 (c : Dev nD) : V m c main_v4 = extractStridedSlice S4096x1024 ![0, 4096] (m ((c : Thread nD τ).loc main_arg2)) slices_S4096x5760_S4096x1024_0_4096 := by
  simp only [V, hostOps0]
  entry_read
  rfl

theorem in4 (c : Dev nD) (t : Fin cfg0.N) (r : Fin 256) (e : Fin 1024) (R : Fin 4096) (hR : R.val = 256 * (t.val / 2) + r.val) :
    (iblk m c 4 t : FVec Ideal S256x1024 .bf16) (ix2 r e) = (m ((c : Thread nD τ).loc main_arg2) : FVec Ideal S4096x5760 .bf16) (ix2 R ⟨4096 + e.val, by omega⟩) := by
  obtain ⟨R, hR'⟩ := R
  dsimp only at hR
  subst hR
  have e1 : ((cfg0.win 4).blk t).view.emb (ix2 r e) = ix2 (⟨256 * (t.val / 2) + r.val, hR'⟩ : Fin 4096) e := by
    blk_ext [idx t]
  unfold iblk
  refine (congrArg (V m c main_v4) e1).trans ?_
  rw [slice4]
  refine extractStridedSlice_apply _ _ _ _ _ fun a => ?_
  fin_cases a
  · exact (Nat.zero_add _).symm
  · rfl

theorem wt4 (c : Dev nD) (t : Fin cfg0.N) (q : Fin 512) (e : Fin 1024) (Q : Fin 1024) (hQ : Q.val = 512 * (t.val % 2) + q.val) :
    (X0_11 m c t : FVec Ideal S512x1024 .bf16) (ix2 q e) = (m ((c : Thread nD τ).loc main_arg1) : FVec Ideal S1024x5760 .bf16) (ix2 Q ⟨4096 + e.val, by omega⟩) := by
  obtain ⟨Q, hQ'⟩ := Q
  dsimp only at hQ
  subst hQ
  unfold X0_11 Pipeline.Window.fill
  rw [dif_pos (moved0_11 t _)]
  have e1 : (win0_11.blk t).view.emb (fun a => ⟨(ix2 q e a).val, ((cfg0.win 11).moved_iff _ _).mp (moved0_11 t (ix2 q e)) a⟩) = ix2 (⟨512 * (t.val % 2) + q.val, hQ'⟩ : Fin 1024) ⟨4096 + e.val, by omega⟩ := by
    blk_ext [idx t]
  unfold iblk
  exact (congrFun (V_main_arg1 m c) _).trans (congrArg (m ((c : Thread nD τ).loc main_arg1)) e1)

theorem slice5 (c : Dev nD) : V m c main_v5 = extractStridedSlice S4096x512 ![0, 5120] (m ((c : Thread nD τ).loc main_arg2)) slices_S4096x5760_S4096x512_0_5120 := by
  simp only [V, hostOps0]
  entry_read
  rfl

theorem in5 (c : Dev nD) (t : Fin cfg0.N) (r : Fin 256) (e : Fin 512) (R : Fin 4096) (hR : R.val = 256 * (t.val / 2) + r.val) :
    (iblk m c 5 t : FVec Ideal S256x512 .bf16) (ix2 r e) = (m ((c : Thread nD τ).loc main_arg2) : FVec Ideal S4096x5760 .bf16) (ix2 R ⟨5120 + e.val, by omega⟩) := by
  obtain ⟨R, hR'⟩ := R
  dsimp only at hR
  subst hR
  have e1 : ((cfg0.win 5).blk t).view.emb (ix2 r e) = ix2 (⟨256 * (t.val / 2) + r.val, hR'⟩ : Fin 4096) e := by
    blk_ext [idx t]
  unfold iblk
  refine (congrArg (V m c main_v5) e1).trans ?_
  rw [slice5]
  refine extractStridedSlice_apply _ _ _ _ _ fun a => ?_
  fin_cases a
  · exact (Nat.zero_add _).symm
  · rfl

theorem wt5 (c : Dev nD) (t : Fin cfg0.N) (q : Fin 512) (e : Fin 512) (Q : Fin 1024) (hQ : Q.val = 512 * (t.val % 2) + q.val) :
    (X0_12 m c t : FVec Ideal S512x512 .bf16) (ix2 q e) = (m ((c : Thread nD τ).loc main_arg1) : FVec Ideal S1024x5760 .bf16) (ix2 Q ⟨5120 + e.val, by omega⟩) := by
  obtain ⟨Q, hQ'⟩ := Q
  dsimp only at hQ
  subst hQ
  unfold X0_12 Pipeline.Window.fill
  rw [dif_pos (moved0_12 t _)]
  have e1 : (win0_12.blk t).view.emb (fun a => ⟨(ix2 q e a).val, ((cfg0.win 12).moved_iff _ _).mp (moved0_12 t (ix2 q e)) a⟩) = ix2 (⟨512 * (t.val % 2) + q.val, hQ'⟩ : Fin 1024) ⟨5120 + e.val, by omega⟩ := by
    blk_ext [idx t]
  unfold iblk
  exact (congrFun (V_main_arg1 m c) _).trans (congrArg (m ((c : Thread nD τ).loc main_arg1)) e1)

theorem slice6 (c : Dev nD) : V m c main_v6 = extractStridedSlice S4096x128 ![0, 5632] (m ((c : Thread nD τ).loc main_arg2)) slices_S4096x5760_S4096x128_0_5632 := by
  simp only [V, hostOps0]
  entry_read
  rfl

theorem in6 (c : Dev nD) (t : Fin cfg0.N) (r : Fin 256) (e : Fin 128) (R : Fin 4096) (hR : R.val = 256 * (t.val / 2) + r.val) :
    (iblk m c 6 t : FVec Ideal S256x128 .bf16) (ix2 r e) = (m ((c : Thread nD τ).loc main_arg2) : FVec Ideal S4096x5760 .bf16) (ix2 R ⟨5632 + e.val, by omega⟩) := by
  obtain ⟨R, hR'⟩ := R
  dsimp only at hR
  subst hR
  have e1 : ((cfg0.win 6).blk t).view.emb (ix2 r e) = ix2 (⟨256 * (t.val / 2) + r.val, hR'⟩ : Fin 4096) e := by
    blk_ext [idx t]
  unfold iblk
  refine (congrArg (V m c main_v6) e1).trans ?_
  rw [slice6]
  refine extractStridedSlice_apply _ _ _ _ _ fun a => ?_
  fin_cases a
  · exact (Nat.zero_add _).symm
  · rfl

theorem wt6 (c : Dev nD) (t : Fin cfg0.N) (q : Fin 512) (e : Fin 128) (Q : Fin 1024) (hQ : Q.val = 512 * (t.val % 2) + q.val) :
    (iblk m c 13 t : FVec Ideal S512x128 .bf16) (ix2 q e) = (m ((c : Thread nD τ).loc main_arg1) : FVec Ideal S1024x5760 .bf16) (ix2 Q ⟨5632 + e.val, by omega⟩) := by
  obtain ⟨Q, hQ'⟩ := Q
  dsimp only at hQ
  subst hQ
  have e1 : ((cfg0.win 13).blk t).view.emb (ix2 q e) = ix2 (⟨512 * (t.val % 2) + q.val, hQ'⟩ : Fin 1024) ⟨5632 + e.val, by omega⟩ := by
    blk_ext [idx t]
  unfold iblk
  exact (congrFun (V_main_arg1 m c) _).trans (congrArg (m ((c : Thread nD τ).loc main_arg1)) e1)

theorem outs (c : Dev nD) (t : Fin cfg0.N) : outsAt0 m c t
    = k0_pay1 (F := Ideal) (k0_pay2 (F := Ideal) (iblk m c 0 t) (X0_7 m c t) (iblk m c 1 t) (X0_8 m c t) (iblk m c 2 t) (X0_9 m c t) (iblk m c 3 t) (X0_10 m c t) (iblk m c 4 t) (X0_11 m c t)) (k0_pay3 (F := Ideal) (iblk m c 5 t) (X0_12 m c t)) (iblk m c 6 t) (iblk m c 13 t) := by
  unfold outsAt0
  frame_out

theorem part0 (c : Dev nD) (t : Fin cfg0.N) (r : Fin 256) (q : Fin 512) (R : Fin 4096) (Q : Fin 1024) (hR : R.val = 256 * (t.val / 2) + r.val) (hQ : Q.val = 512 * (t.val % 2) + q.val) :
    part (n := 1024) (iblk m c 0 t) (X0_7 m c t) r q = ∑ e : Fin 1024, term (m ((c : Thread nD τ).loc main_arg1)) (m ((c : Thread nD τ).loc main_arg2)) R Q ⟨0 + e.val, by omega⟩ :=
  Finset.sum_congr rfl fun e _ => congrArg₂ (· * ·) (in0 m c t r e R hR) (wt0 m c t q e Q hQ)

theorem part1 (c : Dev nD) (t : Fin cfg0.N) (r : Fin 256) (q : Fin 512) (R : Fin 4096) (Q : Fin 1024) (hR : R.val = 256 * (t.val / 2) + r.val) (hQ : Q.val = 512 * (t.val % 2) + q.val) :
    part (n := 1024) (iblk m c 1 t) (X0_8 m c t) r q = ∑ e : Fin 1024, term (m ((c : Thread nD τ).loc main_arg1)) (m ((c : Thread nD τ).loc main_arg2)) R Q ⟨1024 + e.val, by omega⟩ :=
  Finset.sum_congr rfl fun e _ => congrArg₂ (· * ·) (in1 m c t r e R hR) (wt1 m c t q e Q hQ)

theorem part2 (c : Dev nD) (t : Fin cfg0.N) (r : Fin 256) (q : Fin 512) (R : Fin 4096) (Q : Fin 1024) (hR : R.val = 256 * (t.val / 2) + r.val) (hQ : Q.val = 512 * (t.val % 2) + q.val) :
    part (n := 1024) (iblk m c 2 t) (X0_9 m c t) r q = ∑ e : Fin 1024, term (m ((c : Thread nD τ).loc main_arg1)) (m ((c : Thread nD τ).loc main_arg2)) R Q ⟨2048 + e.val, by omega⟩ :=
  Finset.sum_congr rfl fun e _ => congrArg₂ (· * ·) (in2 m c t r e R hR) (wt2 m c t q e Q hQ)

theorem part3 (c : Dev nD) (t : Fin cfg0.N) (r : Fin 256) (q : Fin 512) (R : Fin 4096) (Q : Fin 1024) (hR : R.val = 256 * (t.val / 2) + r.val) (hQ : Q.val = 512 * (t.val % 2) + q.val) :
    part (n := 1024) (iblk m c 3 t) (X0_10 m c t) r q = ∑ e : Fin 1024, term (m ((c : Thread nD τ).loc main_arg1)) (m ((c : Thread nD τ).loc main_arg2)) R Q ⟨3072 + e.val, by omega⟩ :=
  Finset.sum_congr rfl fun e _ => congrArg₂ (· * ·) (in3 m c t r e R hR) (wt3 m c t q e Q hQ)

theorem part4 (c : Dev nD) (t : Fin cfg0.N) (r : Fin 256) (q : Fin 512) (R : Fin 4096) (Q : Fin 1024) (hR : R.val = 256 * (t.val / 2) + r.val) (hQ : Q.val = 512 * (t.val % 2) + q.val) :
    part (n := 1024) (iblk m c 4 t) (X0_11 m c t) r q = ∑ e : Fin 1024, term (m ((c : Thread nD τ).loc main_arg1)) (m ((c : Thread nD τ).loc main_arg2)) R Q ⟨4096 + e.val, by omega⟩ :=
  Finset.sum_congr rfl fun e _ => congrArg₂ (· * ·) (in4 m c t r e R hR) (wt4 m c t q e Q hQ)

theorem part5 (c : Dev nD) (t : Fin cfg0.N) (r : Fin 256) (q : Fin 512) (R : Fin 4096) (Q : Fin 1024) (hR : R.val = 256 * (t.val / 2) + r.val) (hQ : Q.val = 512 * (t.val % 2) + q.val) :
    part (n := 512) (iblk m c 5 t) (X0_12 m c t) r q = ∑ e : Fin 512, term (m ((c : Thread nD τ).loc main_arg1)) (m ((c : Thread nD τ).loc main_arg2)) R Q ⟨5120 + e.val, by omega⟩ :=
  Finset.sum_congr rfl fun e _ => congrArg₂ (· * ·) (in5 m c t r e R hR) (wt5 m c t q e Q hQ)

theorem part6 (c : Dev nD) (t : Fin cfg0.N) (r : Fin 256) (q : Fin 512) (R : Fin 4096) (Q : Fin 1024) (hR : R.val = 256 * (t.val / 2) + r.val) (hQ : Q.val = 512 * (t.val % 2) + q.val) :
    part (n := 128) (iblk m c 6 t) (iblk m c 13 t) r q = ∑ e : Fin 128, term (m ((c : Thread nD τ).loc main_arg1)) (m ((c : Thread nD τ).loc main_arg2)) R Q ⟨5632 + e.val, by omega⟩ :=
  Finset.sum_congr rfl fun e _ => congrArg₂ (· * ·) (in6 m c t r e R hR) (wt6 m c t q e Q hQ)

set_option maxHeartbeats 800000 in
theorem final (c : Dev nD) : (dats m 0 c).arrAt 14 cfg0.N = val_main_v3 (F := Ideal) (m ((c : Thread nD τ).loc main_arg1)) (m ((c : Thread nD τ).loc main_arg2)) := by
  refine (dats m 0 c).arrAt_eq_of_covers 14 _ (by decide +kernel) fun t _ y => ?_
  blk_simp
  rw [after0_14, outs]
  obtain ⟨r, q, rfl⟩ : ∃ (r : Fin 256) (q : Fin 512), y = ix2 r q := ⟨y 0, y 1, by ext i; fin_cases i <;> rfl⟩
  have hN : t.val < 32 := lt_of_lt_of_eq t.isLt N_0
  have he : ((cfg0.win 14).blk t).view.emb (ix2 r q)
      = ix2 (⟨256 * (t.val / 2) + r.val, by omega⟩ : Fin 4096) (⟨512 * (t.val % 2) + q.val, by omega⟩ : Fin 1024) := by
    blk_point [idx t]
  have hR : (⟨256 * (t.val / 2) + r.val, by omega⟩ : Fin 4096).val = 256 * (t.val / 2) + r.val := rfl
  have hQ : (⟨512 * (t.val % 2) + q.val, by omega⟩ : Fin 1024).val = 512 * (t.val % 2) + q.val := rfl
  rw [he, ref]
  refine (pay _ _ _ _ _ _ _ _ _ _ _ _ _ _ r q).trans (Eq.trans ?_ (groups _).symm)
  rw [part0 m c t r q _ _ hR hQ, part1 m c t r q _ _ hR hQ, part2 m c t r q _ _ hR hQ, part3 m c t r q _ _ hR hQ, part4 m c t r q _ _ hR hQ, part5 m c t r q _ _ hR hQ, part6 m c t r q _ _ hR hQ]

end Cert.KernelDhIdeal.Whole

namespace Cert.Proof.DhClaims

open Cert.KernelDhIdeal.Whole Cert.ReferenceDhIdeal.Read

/-- Over the reals the result is the reference's product. -/
theorem algebraic : Cert.algebraic_KernelDhIdeal_ReferenceDhIdeal := by
  intro m g m' g' _ hagree
  refine ⟨fun c => val_main_v3 (F := Ideal) (m (c.tc.loc Cert.KernelDhIdeal.main_arg1)) (m (c.tc.loc Cert.KernelDhIdeal.main_arg2)), ?_, ?_⟩
  · refine (θ_run _ _ _).mono (fun r h c => ?_) (Cert.KernelDhIdeal.Value.run_blocks m g)
    obtain ⟨h0, hr⟩ := h c
    exact ⟨h0.trans (final m c), hr⟩
  · refine (θ_run _ _ _).mono (fun r h c => ?_) (Cert.ReferenceDhIdeal.Value.run m' g')
    obtain ⟨h0, hr⟩ := h c
    obtain ⟨-, e1, e2⟩ := hagree c
    exact ⟨(h0.trans (val_main_v3_eq _ _)).trans (by rw [e1, e2]), hr⟩

end Cert.Proof.DhClaims
end
-- ==== Proof.AttReal.lean ====
/- Causal attention with a decay over the reals, and its derivative: the scores of a head, their weights, and the
   gradients as sums over rows. A row of scores may be shifted by any number: the weights are the same. -/
module

public import Idealize.ShloMosaic.Lib.Pipeline.ValueKit
public import Idealize.ShloMosaic.Lib.Pointwise

@[expose] public section

noncomputable section

open Idealize.ShloMosaic

namespace Cert.Att

/-- Column `d` of head `H`, and the head a column belongs to. -/
def col (H : Fin 16) (d : Fin 64) : Fin 1024 := ⟨H.val * 64 + d.val, by omega⟩
def headOf (E : Fin 1024) : Fin 16 := ⟨E.val / 64, by omega⟩

/-! ## Sums and quotients of reals among the extended reals -/

theorem sum_coe {ι : Type} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

theorem div_real (a : ℝ) {b : ℝ} (hb : b ≠ 0) : Ideal.div (a : EReal) (b : EReal) = ((a / b : ℝ) : EReal) := by
  rw [Ideal.div_coe hb, ← EReal.coe_mul, mul_one_div]

theorem eighth : Ideal.ofBits .f32 0x3E000000#32 = ((1 / 8 : ℝ) : EReal) := by
  simp [Ideal.ofBits, Ideal.ieee, -EReal.coe_mul]; norm_num

theorem neg_inf : Ideal.ofBits .f32 0xFF800000#32 = ⊥ := by simp [Ideal.ofBits, Ideal.ieee]

/-! ## One row's weights -/

section Row
variable (P : Fin 4096 → Prop) [DecidablePred P] (f : Fin 4096 → ℝ)

/-- A row's exponentials, zero where masked. -/
def ex (K : Fin 4096) : ℝ := if P K then Real.exp (f K) else 0

theorem ex_nonneg (K : Fin 4096) : 0 ≤ ex P f K := by unfold ex; split_ifs; exacts [(Real.exp_pos _).le, le_rfl]

theorem ex_pos {R : Fin 4096} (hR : P R) : 0 < ∑ K, ex P f K :=
  Finset.sum_pos' (fun K _ => ex_nonneg P f K) ⟨R, Finset.mem_univ _, by unfold ex; rw [if_pos hR]; exact Real.exp_pos _⟩

theorem ex_shift (a : ℝ) (K : Fin 4096) : ex P (fun K => f K + a) K = ex P f K * Real.exp a := by
  unfold ex; split_ifs
  · exact Real.exp_add _ _
  · rw [zero_mul]

/-- The masked row, the greatest of it, and the exponentials under it. -/
def msk (K : Fin 4096) : EReal := if P K then (f K : EReal) else ⊥
def top : EReal := Finset.fold max ⊥ (msk P f) Finset.univ

theorem top_real {R : Fin 4096} (hR : P R) : ∃ μ : ℝ, top P f = μ := by
  have h1 : (f R : EReal) ≤ top P f := (Finset.le_fold_max _).2 (Or.inr ⟨R, Finset.mem_univ _, by unfold msk; rw [if_pos hR]⟩)
  have h2 : top P f < ⊤ := (Finset.fold_max_lt _).2 ⟨bot_lt_top, fun K _ => by unfold msk; split_ifs; exacts [EReal.coe_lt_top _, bot_lt_top]⟩
  exact ⟨(top P f).toReal, (EReal.coe_toReal h2.ne (ne_bot_of_le_ne_bot (EReal.coe_ne_bot _) h1)).symm⟩

theorem exp_msk (μ : ℝ) (K : Fin 4096) : Ideal.exp (msk P f K - (μ : EReal)) = ((ex P f K * Real.exp (-μ) : ℝ) : EReal) := by
  unfold msk ex
  split_ifs
  · rw [← EReal.coe_sub, Ideal.exp_coe, sub_eq_add_neg, Real.exp_add]
  · rw [EReal.bot_sub, Ideal.exp_bot, zero_mul, EReal.coe_zero]

/-- The exponentials under the row's greatest entry are the plain ones times one positive number. -/
theorem soft {R : Fin 4096} (hR : P R) : ∃ μ : ℝ, top P f = μ ∧ (∀ K, Ideal.exp (msk P f K - top P f) = ((ex P f K * Real.exp (-μ) : ℝ) : EReal)) ∧
    ∑ K, Ideal.exp (msk P f K - top P f) = (((∑ K, ex P f K) * Real.exp (-μ) : ℝ) : EReal) := by
  obtain ⟨μ, h⟩ := top_real P f hR
  refine ⟨μ, h, fun K => by rw [h]; exact exp_msk P f μ K, ?_⟩
  rw [h, Finset.sum_congr rfl fun K _ => exp_msk P f μ K, sum_coe, Finset.sum_mul]

/-- A weight. -/
def wt (K : Fin 4096) : ℝ := ex P f K / ∑ K', ex P f K'

theorem wt_shift (a : ℝ) (K : Fin 4096) : wt P (fun K => f K + a) K = wt P f K := by
  unfold wt
  simp only [ex_shift, ← Finset.sum_mul]
  exact mul_div_mul_right _ _ (Real.exp_pos a).ne'

/-- The derivative through the quotient, from the exponentials `x` under any positive factor, their sum `z` and the weights' gradients `D`. -/
theorem weights (D : Fin 4096 → ℝ) {y : ℝ} {e : ℝ} (he : 0 < e) (hy : 0 < y) (hx : y = (∑ K, ex P f K) * e) (K : Fin 4096) :
    (Ideal.div (D K : EReal) (y : EReal) + -∑ K', (D K' : EReal) * Ideal.div 1 ((y : EReal) * (y : EReal)) * ((ex P f K' * e : ℝ) : EReal)) * ((ex P f K * e : ℝ) : EReal)
      = ((wt P f K * (D K - ∑ K', wt P f K' * D K') : ℝ) : EReal) := by
  have hy2 : y * y ≠ 0 := (mul_pos hy hy).ne'
  rw [← EReal.coe_mul, ← EReal.coe_one, div_real _ hy.ne', div_real _ hy2]
  simp only [← EReal.coe_mul]
  rw [sum_coe, ← EReal.coe_neg, ← EReal.coe_add, ← EReal.coe_mul]
  refine congrArg _ ?_
  have hz : (∑ K, ex P f K) ≠ 0 := fun h => by rw [h, zero_mul] at hx; exact hy.ne' hx
  have e1 : ∑ K', D K' * (1 / (y * y)) * (ex P f K' * e) = (∑ K', wt P f K' * D K') / y := by
    rw [Finset.sum_div]
    refine Finset.sum_congr rfl fun K' _ => ?_
    unfold wt
    rw [hx]
    field_simp
  rw [e1]
  have e2 : ex P f K * e = wt P f K * y := by unfold wt; rw [hx]; field_simp
  rw [e2]
  field_simp
  ring

end Row

/-! ## The heads -/

variable (q k v w : Fin 4096 → Fin 1024 → ℝ) (g : Fin 16 → Fin 4096 → ℝ)

def s (H : Fin 16) (R K : Fin 4096) : ℝ := (∑ d, q R (col H d) * k K (col H d)) * (1 / 8) - g H K
def p (H : Fin 16) (R K : Fin 4096) : ℝ := wt (fun K => K ≤ R) (s q k g H R) K
def dp (H : Fin 16) (R K : Fin 4096) : ℝ := ∑ d, w R (col H d) * v K (col H d)
def ds (H : Fin 16) (R K : Fin 4096) : ℝ := p q k g H R K * (dp v w H R K - ∑ K', p q k g H R K' * dp v w H R K')
/-- The output. -/
def o (R : Fin 4096) (E : Fin 1024) : ℝ := ∑ K, p q k g (headOf E) R K * v K E
/-- The row's log-sum. -/
def lse (H : Fin 16) (R : Fin 4096) : ℝ := Real.log (∑ K, ex (fun K => K ≤ R) (s q k g H R) K)

theorem headOf_col (H : Fin 16) (d : Fin 64) : headOf (col H d) = H := Fin.ext (by simp only [headOf, col]; omega)

/-- The output's product with its gradient is the weighted mean of the weights' gradients. -/
theorem delta (H : Fin 16) (R : Fin 4096) :
    ∑ d, w R (col H d) * o q k v g R (col H d) = ∑ K, p q k g H R K * dp v w H R K := by
  simp only [o, headOf_col, dp, Finset.mul_sum]
  rw [Finset.sum_comm]
  exact Finset.sum_congr rfl fun K _ => Finset.sum_congr rfl fun d _ => by ring

theorem p_masked {H : Fin 16} {R K : Fin 4096} (h : ¬K ≤ R) : p q k g H R K = 0 := by
  unfold p wt ex; rw [if_neg h, zero_div]

theorem ds_masked {H : Fin 16} {R K : Fin 4096} (h : ¬K ≤ R) : ds q k v w g H R K = 0 := by
  unfold ds; rw [p_masked q k g h, zero_mul]

/-- The weight from the row's log-sum. -/
theorem exp_lse (H : Fin 16) (R K : Fin 4096) :
    Ideal.exp (msk (fun K => K ≤ R) (s q k g H R) K - (lse q k g H R : EReal)) = (p q k g H R K : EReal) := by
  rw [exp_msk]
  unfold p wt lse
  rw [Real.exp_neg, Real.exp_log (ex_pos (fun K => K ≤ R) (s q k g H R) (le_refl R)), div_eq_mul_inv]

end Cert.Att

end
-- ==== Proof.AttHost.lean ====
/- The forward lines on the host before the attention backward call, at finite arguments: the output and the row log-sum
   are those of AttReal.lean. -/
module

public import proofs.«01_k».proof.Proof.Gen.KernelAttIdeal.Frame
public import proofs.«01_k».proof.Proof.AttReal
public import Idealize.ShloMosaic.Lib.Pipeline.ValueKit
public import Idealize.ShloMosaic.Lib.Pointwise
public import Idealize.ShloMosaic.Lib.WordCmp

@[expose] public section

set_option maxRecDepth 16384

noncomputable section

open Idealize.ShloMosaic Idealize.ShloMosaic.TcCoe Idealize.SL.Sem

namespace Cert.KernelAttIdeal.Host

open Cert.KernelAttIdeal Cert.KernelAttIdeal.Gen Cert.Att

abbrev A := FVec Ideal S4096x1024 .f32
abbrev A3 := FVec Ideal S16x4096x4096 .f32

def parts (q : A) : FVec Ideal S4096x16x64 .f32 := shapeCast _ q shapeCasts_S4096x1024_S4096x16x64
def score (q k : A) (g : FVec Ideal S16x4096 .f32) : A3 :=
  subf (mulf (Host.dotGeneral dot_S4096x16x64_S4096x16x64_S16x4096x4096_2_2_0_0_1_1 none (parts q) (parts k))
      (broadcastInDim S16x4096x4096 ![] bcast_S_S16x4096x4096 (constant S_ .f32 0x3E000000#32)))
    (broadcastInDim S16x4096x4096 ![0, 1, 2] bcast_S16x1x4096_S16x4096x4096_0_1_2 (broadcastInDim S16x1x4096 ![0, 2] bcast_S16x4096_S16x1x4096_0_2 g))
def causal : IVec S16x4096x4096 1 :=
  broadcastInDim S16x4096x4096 ![0, 1, 2] bcast_S1x4096x4096_S16x4096x4096_0_1_2 (broadcastInDim S1x4096x4096 ![1, 2] bcast_S4096x4096_S1x4096x4096_1_2
    (cmpi .sge (broadcastInDim S4096x4096 ![0, 1] bcast_S4096x1_S4096x4096_0_1 (broadcastInDim S4096x1 ![0] bcast_S4096_S4096x1_0 (iotaInDim S4096 32 0)))
      (broadcastInDim S4096x4096 ![0, 1] bcast_S1x4096_S4096x4096_0_1 (broadcastInDim S1x4096 ![1] bcast_S4096_S1x4096_1 (iotaInDim S4096 32 0)))))
def low : A3 := broadcastInDim S16x4096x4096 ![] bcast_S_S16x4096x4096 (constant S_ .f32 0xFF800000#32)
def masked (q k : A) (g : FVec Ideal S16x4096 .f32) : A3 := select causal (score q k g) low
def best (x : A3) : FVec Ideal S16x4096x1 .f32 :=
  broadcastInDim S16x4096x1 ![0, 1] bcast_S16x4096_S16x4096x1_0_1 (Host.reduce FloatOps.maximumf x (constant S_ .f32 0xFF800000#32) reducesTo_S16x4096x4096_S16x4096_d2 h_S_)
def raised (x : A3) : A3 := Host.exp (subf x (broadcastInDim S16x4096x4096 ![0, 1, 2] bcast_S16x4096x1_S16x4096x4096_0_1_2 (best x)))
def total (x : A3) : FVec Ideal S16x4096x1 .f32 :=
  broadcastInDim S16x4096x1 ![0, 1] bcast_S16x4096_S16x4096x1_0_1 (Host.reduceAdd (raised x) (constant S_ .f32 0x00000000#32) reducesTo_S16x4096x4096_S16x4096_d2 h_S_)
def weights (x : A3) : A3 := Host.divf (raised x) (broadcastInDim S16x4096x4096 ![0, 1, 2] bcast_S16x4096x1_S16x4096x4096_0_1_2 (total x))
def mixed (x : A3) (v : A) : A :=
  shapeCast _ (transpose S4096x16x64 [2, 0, 1] (Host.dotGeneral dot_S4096x16x64_S16x4096x4096_S16x64x4096_0_2_2_1_1_0 none (parts v) (weights x)) transposes_S16x64x4096_S4096x16x64_2_0_1)
    shapeCasts_S4096x16x64_S4096x1024
def spread (b t : FVec Ideal S16x4096x1 .f32) : A :=
  shapeCast _ (broadcastInDim S4096x16x64 ![0, 1] bcast_S4096x16_S4096x16x64_0_1 (transpose S4096x16 [1, 0]
    (shapeCast _ (addf b (Host.log t)) shapeCasts_S16x4096x1_S16x4096 : FVec Ideal S16x4096 .f32) transposes_S16x4096_S4096x16_1_0)) shapeCasts_S4096x16x64_S4096x1024

def logsum (x : A3) : A := spread (best x) (total x)

theorem spread_at (b t : FVec Ideal S16x4096x1 .f32) (H : Fin 16) (R : Fin 4096) (d : Fin 64) :
    spread b t (ix2 R (col H d)) = b (ix3 H R 0) + Ideal.log (t (ix3 H R 0)) := by
  have e : spread b t (ix2 R (col H d)) = b (ix3 (headOf (col H d)) R 0) + Ideal.log (t (ix3 (headOf (col H d)) R 0)) := by
    pointwise [spread]
    rfl
  rw [e, headOf_col]

section Read
variable (m : (ℓ : Loc nD τ sig) → Buf (Elt Ideal) ℓ) (c : Dev nD)

theorem read_o : V m c main_v29 = mixed (masked (m ((c : Thread nD τ).loc main_arg0)) (m ((c : Thread nD τ).loc main_arg1)) (m ((c : Thread nD τ).loc main_arg3))) (m ((c : Thread nD τ).loc main_arg2)) := by
  simp only [V, hostOps0, hostOps0_1, hostOps0_2, hostOps0_3, List.flatten_cons, List.flatten_nil, List.append_nil, List.cons_append, List.nil_append]
  entry_read
  rfl

theorem read_lse : V m c main_v35 = logsum (masked (m ((c : Thread nD τ).loc main_arg0)) (m ((c : Thread nD τ).loc main_arg1)) (m ((c : Thread nD τ).loc main_arg3))) := by
  simp only [V, hostOps0, hostOps0_1, hostOps0_2, hostOps0_3, List.flatten_cons, List.flatten_nil, List.append_nil, List.cons_append, List.nil_append]
  entry_read
  rfl

end Read

theorem causal_at (H : Fin 16) (R K : Fin 4096) (x y : EReal) : Scalar.select (causal (ix3 H R K)) x y = if K ≤ R then x else y := by
  have : causal (ix3 H R K) = IntOp.cmpi .sge (BitVec.ofNat 32 R.val) (BitVec.ofNat 32 K.val) := by
    pointwise [causal]
  rw [this, show IntOp.cmpi .sge (BitVec.ofNat 32 R.val) (BitVec.ofNat 32 K.val) = IntOp.cmpi .sle (BitVec.ofNat 32 K.val) (BitVec.ofNat 32 R.val) from rfl,
    WordCmp.cmpi_sle_ofNat (by omega) (by omega)]
  by_cases h : K ≤ R
  · rw [if_pos h, decide_eq_true (show K.val ≤ R.val from h)]; rfl
  · rw [if_neg h, decide_eq_false (show ¬K.val ≤ R.val from h)]; rfl

theorem low_at (i : S16x4096x4096.Idx) : low i = (⊥ : EReal) := by
  pointwise [low]
  exact neg_inf

theorem fold_max (P : Fin 4096 → Prop) [DecidablePred P] (f : Fin 4096 → ℝ) (op : EReal → EReal → EReal) [Std.Commutative op] [Std.Associative op]
    (b : EReal) (l : Fin 4096 → EReal) (hop : op = max) (hb : b = ⊥) (hl : ∀ L, l L = msk P f L) : Finset.fold op b l Finset.univ = top P f := by
  subst hop hb
  obtain rfl : l = msk P f := funext hl
  rfl

section Row
variable (x : A3) (P : Fin 4096 → Prop) [DecidablePred P] (f : Fin 4096 → ℝ) (H : Fin 16) (R : Fin 4096) (h : ∀ L, x (ix3 H R L) = msk P f L)
include h

theorem best_at (u : Fin 1) : best x (ix3 H R u) = top P f := by
  pointwise [best]
  exact fold_max P f _ _ _ rfl neg_inf h

theorem raised_at (L : Fin 4096) : raised x (ix3 H R L) = Ideal.exp (msk P f L - top P f) := by
  have e : raised x (ix3 H R L) = Ideal.exp (x (ix3 H R L) - best x (ix3 H R 0)) := by pointwise [raised]
  rw [e, best_at x P f H R h, h]

theorem total_at (u : Fin 1) : total x (ix3 H R u) = ∑ L, Ideal.exp (msk P f L - top P f) := by
  pointwise [total]
  exact Finset.sum_congr rfl fun L _ => raised_at x P f H R h L

theorem weights_at {r : Fin 4096} (hr : P r) (L : Fin 4096) : weights x (ix3 H R L) = (wt P f L : EReal) := by
  have e : weights x (ix3 H R L) = Ideal.div (raised x (ix3 H R L)) (total x (ix3 H R 0)) := by pointwise [weights]
  obtain ⟨μ, -, h1, h2⟩ := soft P f hr
  rw [e, raised_at x P f H R h, total_at x P f H R h, h1, h2, div_real _ (mul_pos (ex_pos P f hr) (Real.exp_pos (-μ))).ne', mul_div_mul_right _ _ (Real.exp_pos _).ne']
  rfl

theorem logsum_at {r : Fin 4096} (hr : P r) (d : Fin 64) : logsum x (ix2 R (col H d)) = ((Real.log (∑ L, ex P f L) : ℝ) : EReal) := by
  obtain ⟨μ, h0, h1, h2⟩ := soft P f hr
  unfold logsum
  rw [spread_at, best_at x P f H R h, total_at x P f H R h, h2, h0]
  have hZ := ex_pos P f hr
  rw [Ideal.log_coe, if_neg (mul_pos hZ (Real.exp_pos _)).not_ge, ← EReal.coe_add, Real.log_mul hZ.ne' (Real.exp_pos _).ne', Real.log_exp]
  exact congrArg _ (by ring)

end Row

variable {q k v : A} {g : FVec Ideal S16x4096 .f32} {Q K V : Fin 4096 → Fin 1024 → ℝ} {G : Fin 16 → Fin 4096 → ℝ}
  (hq : ∀ R E, q (ix2 R E) = (Q R E : EReal)) (hk : ∀ R E, k (ix2 R E) = (K R E : EReal)) (hg : ∀ H R, g (ix2 H R) = (G H R : EReal))
include hq hk hg

theorem masked_at (H : Fin 16) (R L : Fin 4096) : masked q k g (ix3 H R L) = msk (fun L => L ≤ R) (s Q K G H R) L := by
  have e : score q k g (ix3 H R L) = ((s Q K G H R L : ℝ) : EReal) := by
    pointwise [score, parts]
    have key : ∀ a : EReal, a = ((∑ d, Q R (col H d) * K L (col H d) : ℝ) : EReal) →
        a * Ideal.ofBits .f32 0x3E000000#32 - g (ix2 H L) = ((s Q K G H R L : ℝ) : EReal) := fun a ha => by
      rw [ha, eighth, hg, ← EReal.coe_mul, ← EReal.coe_sub]; rfl
    refine key _ ?_
    rw [← sum_coe]
    exact Finset.sum_congr rfl fun d _ => by rw [hq, hk, ← EReal.coe_mul]; rfl
  refine (causal_at H R L _ _).trans ?_
  unfold msk
  rw [e, low_at]

theorem lse_at (R : Fin 4096) (E : Fin 1024) : logsum (masked q k g) (ix2 R E) = (lse Q K G (headOf E) R : EReal) := by
  have e : E = col (headOf E) ⟨E.val % 64, Nat.mod_lt _ (by decide)⟩ := Fin.ext (by simp only [col, headOf]; omega)
  rw [e, headOf_col]
  exact logsum_at _ _ _ _ _ (masked_at hq hk hg (headOf E) R) (le_refl R) _

theorem o_at (hv : ∀ R E, v (ix2 R E) = (V R E : EReal)) (R : Fin 4096) (E : Fin 1024) : mixed (masked q k g) v (ix2 R E) = (o Q K V G R E : EReal) := by
  pointwise [mixed, parts]
  unfold o
  rw [← sum_coe]
  exact Finset.sum_congr rfl fun L _ => by
    rw [weights_at _ _ _ _ _ (masked_at hq hk hg _ R) (le_refl R), hv, ← EReal.coe_mul, mul_comm]; rfl

end Cert.KernelAttIdeal.Host

end
-- ==== Proof.AttTile.lean ====
/- One point of the attention backward call over the reals: what the body adds, at a pair of 512-row blocks, to the
   gradients of the keys, the values, the queries and the decay, as sums over the block of two terms: the weight
   `exp (score − row log-sum)` and the score's gradient `weight · (do·v − do·o)`. Two heads share the 128 columns. -/
module

public import proofs.«01_k».proof.Proof.Gen.KernelAttIdeal.Skeleton
public import Idealize.ShloMosaic.Lib.Pipeline.ValueKit
public import Idealize.ShloMosaic.Lib.Pointwise
public import Idealize.ShloMosaic.Lib.WordCmp

@[expose] public section

set_option maxRecDepth 16384

noncomputable section

open Idealize.ShloMosaic Idealize.ShloMosaic.TcCoe Idealize.SL.Sem

namespace Cert.KernelAttIdeal.Tile

open Cert.KernelAttIdeal Cert.KernelAttIdeal.Gen

/-- Column `d` of head `h` of the pair. -/
def hd (h : Fin 2) (d : Fin 64) : Fin 128 := ⟨64 * h.val + d.val, by omega⟩
/-- The head a column belongs to. -/
def hof (e : Fin 128) : Fin 2 := ⟨e.val / 64, by omega⟩

theorem hd_zero (d : Fin 64) (p) : (⟨d.val, p⟩ : Fin 128) = hd 0 d := Fin.ext (by simp [hd])
theorem hd_one (d : Fin 64) (p) : (⟨64 + d.val, p⟩ : Fin 128) = hd 1 d := Fin.ext (by simp [hd])
theorem hof_hd (h : Fin 2) (d : Fin 64) : hof (hd h d) = h := Fin.ext (by simp only [hof, hd]; omega)

/-- The scale of the scores, one over the root of 64. -/
def scale : EReal := Ideal.ofBits .f32 0x3E000000#32

/-- What a point loads: the blocks of queries, keys, values, output, row log-sum and output gradient, the pair's rows of
    the decay, and the two block numbers. -/
structure Blocks where
  kb : ℕ
  qb : ℕ
  q : FVec Ideal S512x128 .f32
  k : FVec Ideal S512x128 .f32
  v : FVec Ideal S512x128 .f32
  g : Fin 2 → Fin 512 → EReal
  o : FVec Ideal S512x128 .f32
  lse : FVec Ideal S512x128 .f32
  dO : FVec Ideal S512x128 .f32

variable (B : Blocks)

def sc (h : Fin 2) (r k : Fin 512) : EReal :=
  if 512 * B.kb + k.val ≤ 512 * B.qb + r.val then
    (∑ d, B.q (ix2 r (hd h d)) * scale * B.k (ix2 k (hd h d))) - B.g h k else ⊥
def pr (h : Fin 2) (r k : Fin 512) : EReal := Ideal.exp (sc B h r k - B.lse (ix2 r (hd h 0)))
def ds (h : Fin 2) (r k : Fin 512) : EReal :=
  pr B h r k * (∑ d, B.dO (ix2 r (hd h d)) * B.v (ix2 k (hd h d)) - ∑ d, B.dO (ix2 r (hd h d)) * B.o (ix2 r (hd h d)))
def dk (k : Fin 512) (e : Fin 128) : EReal := ∑ r, ds B (hof e) r k * (B.q (ix2 r e) * scale)
def dv (k : Fin 512) (e : Fin 128) : EReal := ∑ r, pr B (hof e) r k * B.dO (ix2 r e)
def dc (h : Fin 2) (k : Fin 512) : EReal := ∑ r, ds B h r k
def dq (r : Fin 512) (e : Fin 128) : EReal := (∑ k, ds B (hof e) r k * B.k (ix2 k e)) * scale
def dr (r : Fin 512) (e : Fin 128) : EReal := ∑ k, ds B (hof e) r k

/-- The words and rows the body holds at the point are the block numbers and the pair's rows of the decay. -/
structure Holds (B : Blocks) (a b : BitVec 32) (g0 g1 : Vec Ideal S1x512 .f32) : Prop where
  ha : a = BitVec.ofNat 32 B.kb
  hb : b = BitVec.ofNat 32 B.qb
  h1 : B.kb < 8
  h2 : B.qb < 8
  h3 : ∀ k, g0 (ix2 0 k) = B.g 0 k
  h4 : ∀ k, g1 (ix2 0 k) = B.g 1 k

variable {B} {a b : BitVec 32} {g0 g1 : Vec Ideal S1x512 .f32} (H : Holds B a b g0 g1)
include H

/-- The words compare as the row and column numbers do. -/
theorem causal (r k : Fin 512) (x y : EReal) :
    Scalar.select (IntOp.cmpi CmpIPredicate.sle (IntOp.addi (Scalar.muli a 512#32) (BitVec.ofNat 32 k.val))
      (IntOp.addi (Scalar.muli b 512#32) (BitVec.ofNat 32 r.val))) x y
      = if 512 * B.kb + k.val ≤ 512 * B.qb + r.val then x else y := by
  have e : ∀ n j : ℕ, n < 8 → j < 512 → IntOp.addi (Scalar.muli (BitVec.ofNat 32 n) 512#32) (BitVec.ofNat 32 j) = BitVec.ofNat 32 (512 * n + j) := by
    intro n j hn hj
    apply BitVec.eq_of_toNat_eq
    simp only [IntOp.addi, Scalar.muli, IntOp.muli, BitVec.toNat_add, BitVec.toNat_mul, BitVec.toNat_ofNat]
    omega
  have h1 := H.h1
  have h2 := H.h2
  rw [H.ha, H.hb, e _ _ H.h1 k.isLt, e _ _ H.h2 r.isLt, WordCmp.cmpi_sle_ofNat (by omega) (by omega)]
  by_cases h : 512 * B.kb + k.val ≤ 512 * B.qb + r.val
  · rw [if_pos h, decide_eq_true h]; rfl
  · rw [if_neg h, decide_eq_false h]; rfl

omit H in
theorem mask_eq : (Named.named (F := Ideal) κ "mask" (φ := .f32) 4048155338#32 : EReal) = ⊥ := rfl

omit H in
theorem scaled (q : Vec Ideal S512x128 .f32) (r : Fin 512) (e : Fin 128) : k0_pay9 (F := Ideal) q (ix2 r e) = q (ix2 r e) * scale := by
  pointwise [k0_pay9]
  rfl

omit H in
theorem keys (x : Vec Ideal S512x128 .f32) (r : Fin 512) (e : Fin 128) : k0_pay10 (F := Ideal) x (ix2 r e) = x (ix2 r e) := by
  pointwise [k0_pay10]

/-! ## Head 0 -/

theorem sc0 (r k : Fin 512) : k0_pay14 (F := Ideal) a b B.q B.k g0 (ix2 r k) = sc B 0 r k := by
  pointwise [k0_pay14, k0_pay9, k0_pay10]
  rw [causal H, H.h3]
  simp only [hd_zero]
  rfl

theorem pr0 (r k : Fin 512) : k0_pay16 (F := Ideal) (k0_pay14 a b B.q B.k g0) (k0_pay15 B.lse) (ix2 r k) = pr B 0 r k := by
  pointwise [k0_pay16, k0_pay15, k0_pay13]
  rw [sc0 H]
  rfl

theorem ds0 (r k : Fin 512) : k0_pay20 (F := Ideal) (k0_pay11 B.v) B.dO (k0_pay12 B.o) (k0_pay14 a b B.q B.k g0) (k0_pay15 B.lse) (ix2 r k) = ds B 0 r k := by
  pointwise [k0_pay20, k0_pay17, k0_pay18, k0_pay11, k0_pay12]
  rw [pr0 H]
  simp only [hd_zero]
  rfl

theorem dv0 (w : Vec Ideal S512x64 .f32) (k : Fin 512) (d : Fin 64) :
    k0_pay19 (F := Ideal) B.dO (k0_pay14 a b B.q B.k g0) (k0_pay15 B.lse) w (ix2 k d) = w (ix2 k d) + dv B k (hd 0 d) := by
  pointwise [k0_pay19, k0_pay17, k0_pay18]
  simp only [pr0 H, hd_zero, dv, hof_hd]

theorem dc0 (w : Vec Ideal S1x512 .f32) (k : Fin 512) :
    k0_pay21 (F := Ideal) (k0_pay11 B.v) B.dO (k0_pay12 B.o) (k0_pay14 a b B.q B.k g0) (k0_pay15 B.lse) w (ix2 0 k) = w (ix2 0 k) + dc B 0 k := by
  pointwise [k0_pay21]
  simp only [ds0 H, dc]

theorem dk0 (w : Vec Ideal S512x64 .f32) (k : Fin 512) (d : Fin 64) :
    k0_pay23 (F := Ideal) (k0_pay9 B.q) (k0_pay11 B.v) B.dO (k0_pay12 B.o) (k0_pay14 a b B.q B.k g0) (k0_pay15 B.lse) w (ix2 k d)
      = w (ix2 k d) + dk B k (hd 0 d) := by
  pointwise [k0_pay23, k0_pay22, k0_pay9]
  simp only [ds0 H, hd_zero, dk, hof_hd]
  rfl

theorem dq0 (r : Fin 512) (d : Fin 64) :
    k0_pay25 (F := Ideal) (k0_pay24 (k0_pay10 B.k) (k0_pay11 B.v) B.dO (k0_pay12 B.o) (k0_pay14 a b B.q B.k g0) (k0_pay15 B.lse)) (Scalar.ofBits .f32 0x3E000000#32) (ix2 r d)
      = dq B r (hd 0 d) := by
  pointwise [k0_pay25, k0_pay24, k0_pay22, k0_pay10]
  simp only [ds0 H, hd_zero, dq, hof_hd]
  rfl

theorem dq0_add (w : Vec Ideal S512x64 .f32) (r : Fin 512) (d : Fin 64) :
    k0_pay27 (F := Ideal) (k0_pay24 (k0_pay10 B.k) (k0_pay11 B.v) B.dO (k0_pay12 B.o) (k0_pay14 a b B.q B.k g0) (k0_pay15 B.lse)) (Scalar.ofBits .f32 0x3E000000#32) w (ix2 r d)
      = w (ix2 r d) + dq B r (hd 0 d) := by
  pointwise [k0_pay27]
  exact congrArg (w (ix2 r d) + ·) (dq0 H r d)

theorem dr0 (r : Fin 512) (d : Fin 64) :
    k0_pay26 (F := Ideal) (k0_pay20 (k0_pay11 B.v) B.dO (k0_pay12 B.o) (k0_pay14 a b B.q B.k g0) (k0_pay15 B.lse)) (ix2 r d) = dr B r (hd 0 d) := by
  pointwise [k0_pay26]
  simp only [ds0 H, dr, hof_hd]

theorem dr0_add (w : Vec Ideal S512x64 .f32) (r : Fin 512) (d : Fin 64) :
    k0_pay28 (F := Ideal) (k0_pay20 (k0_pay11 B.v) B.dO (k0_pay12 B.o) (k0_pay14 a b B.q B.k g0) (k0_pay15 B.lse)) w (ix2 r d)
      = w (ix2 r d) + dr B r (hd 0 d) := by
  pointwise [k0_pay28]
  rw [dr0 H]

/-! ## Head 1 -/

theorem pr1 (r k : Fin 512) : k0_pay29 (F := Ideal) a b (k0_pay9 B.q) (k0_pay10 B.k) (k0_pay13 B.lse) g1 (ix2 r k) = pr B 1 r k := by
  pointwise [k0_pay29, k0_pay9, k0_pay10, k0_pay13]
  rw [causal H, H.h4]
  simp only [hd_one]
  rfl

theorem ds1 (r k : Fin 512) :
    k0_pay34 (F := Ideal) (k0_pay11 B.v) (k0_pay29 a b (k0_pay9 B.q) (k0_pay10 B.k) (k0_pay13 B.lse) g1) (k0_pay31 B.dO (k0_pay12 B.o)) (k0_pay32 B.dO) (ix2 r k)
      = ds B 1 r k := by
  pointwise [k0_pay34, k0_pay31, k0_pay30, k0_pay32, k0_pay11, k0_pay12]
  rw [pr1 H]
  simp only [hd_one]
  rfl

theorem dv1 (w : Vec Ideal S512x64 .f32) (k : Fin 512) (d : Fin 64) :
    k0_pay33 (F := Ideal) (k0_pay29 a b (k0_pay9 B.q) (k0_pay10 B.k) (k0_pay13 B.lse) g1) (k0_pay32 B.dO) w (ix2 k d) = w (ix2 k d) + dv B k (hd 1 d) := by
  pointwise [k0_pay33, k0_pay32, k0_pay30]
  simp only [pr1 H, hd_one, dv, hof_hd]

theorem dc1 (w : Vec Ideal S1x512 .f32) (k : Fin 512) :
    k0_pay35 (F := Ideal) (k0_pay11 B.v) (k0_pay29 a b (k0_pay9 B.q) (k0_pay10 B.k) (k0_pay13 B.lse) g1) (k0_pay31 B.dO (k0_pay12 B.o)) (k0_pay32 B.dO) w (ix2 0 k)
      = w (ix2 0 k) + dc B 1 k := by
  pointwise [k0_pay35]
  simp only [ds1 H, dc]

theorem dk1 (w : Vec Ideal S512x64 .f32) (k : Fin 512) (d : Fin 64) :
    k0_pay37 (F := Ideal) (k0_pay9 B.q) (k0_pay11 B.v) (k0_pay29 a b (k0_pay9 B.q) (k0_pay10 B.k) (k0_pay13 B.lse) g1) (k0_pay31 B.dO (k0_pay12 B.o)) (k0_pay32 B.dO) w (ix2 k d)
      = w (ix2 k d) + dk B k (hd 1 d) := by
  pointwise [k0_pay37, k0_pay36]
  simp only [ds1 H, scaled, hd_one, dk, hof_hd]

theorem dq1 (r : Fin 512) (d : Fin 64) :
    k0_pay38 (F := Ideal) (k0_pay10 B.k) (k0_pay11 B.v) (k0_pay29 a b (k0_pay9 B.q) (k0_pay10 B.k) (k0_pay13 B.lse) g1) (k0_pay31 B.dO (k0_pay12 B.o)) (k0_pay32 B.dO) (ix2 r d)
      = dq B r (hd 1 d) := by
  pointwise [k0_pay38, k0_pay36]
  simp only [ds1 H, keys, hd_one, dq, hof_hd]
  rfl

theorem dq1_add (w : Vec Ideal S512x64 .f32) (r : Fin 512) (d : Fin 64) :
    k0_pay4 (F := Ideal) (k0_pay38 (k0_pay10 B.k) (k0_pay11 B.v) (k0_pay29 a b (k0_pay9 B.q) (k0_pay10 B.k) (k0_pay13 B.lse) g1) (k0_pay31 B.dO (k0_pay12 B.o)) (k0_pay32 B.dO)) w (ix2 r d)
      = w (ix2 r d) + dq B r (hd 1 d) := by
  pointwise [k0_pay4]
  rw [dq1 H]

theorem dr1 (r : Fin 512) (d : Fin 64) :
    k0_pay39 (F := Ideal) (k0_pay11 B.v) (k0_pay29 a b (k0_pay9 B.q) (k0_pay10 B.k) (k0_pay13 B.lse) g1) (k0_pay31 B.dO (k0_pay12 B.o)) (k0_pay32 B.dO) (ix2 r d)
      = dr B r (hd 1 d) := by
  pointwise [k0_pay39]
  simp only [ds1 H, dr, hof_hd]

theorem dr1_add (w : Vec Ideal S512x64 .f32) (r : Fin 512) (d : Fin 64) :
    k0_pay5 (F := Ideal) (k0_pay39 (k0_pay11 B.v) (k0_pay29 a b (k0_pay9 B.q) (k0_pay10 B.k) (k0_pay13 B.lse) g1) (k0_pay31 B.dO (k0_pay12 B.o)) (k0_pay32 B.dO)) w (ix2 r d)
      = w (ix2 r d) + dr B r (hd 1 d) := by
  pointwise [k0_pay5]
  rw [dr1 H]

end Cert.KernelAttIdeal.Tile
end
-- ==== Proof.AttVal.lean ====
/- The attention backward call at one point over the reals: with the row log-sum and the output of the forward lines, a
   block's weight and the score's gradient are those of AttReal.lean, and so are the sums over the block. -/
module

public import proofs.«01_k».proof.Proof.AttTile
public import proofs.«01_k».proof.Proof.AttReal

@[expose] public section

set_option maxRecDepth 16384

noncomputable section

open Idealize.ShloMosaic Idealize.ShloMosaic.TcCoe

namespace Cert.KernelAttIdeal.Tile

open Cert.Att

/-- Row `r` of block `b`; column `e` and head `h` of pair `j`. -/
def bk (b : ℕ) (r : Fin 512) : Fin 4096 := ⟨(512 * b + r.val) % 4096, Nat.mod_lt _ (by decide)⟩
def ce (j : ℕ) (e : Fin 128) : Fin 1024 := ⟨(128 * j + e.val) % 1024, Nat.mod_lt _ (by decide)⟩
def hh (j : ℕ) (h : Fin 2) : Fin 16 := ⟨(2 * j + h.val) % 16, Nat.mod_lt _ (by decide)⟩

theorem bk_val {b : ℕ} (hb : b < 8) (r : Fin 512) : (bk b r).val = 512 * b + r.val := Nat.mod_eq_of_lt (by omega)
theorem ce_hd {j : ℕ} (hj : j < 8) (h : Fin 2) (d : Fin 64) : ce j (hd h d) = col (hh j h) d := Fin.ext (by
  simp only [ce, hd, col, hh]; omega)
theorem headOf_ce {j : ℕ} (hj : j < 8) (e : Fin 128) : headOf (ce j e) = hh j (hof e) := Fin.ext (by
  simp only [ce, hof, headOf, hh]; omega)
theorem hh_zero_hd {j : ℕ} (hj : j < 8) (h : Fin 2) (d : Fin 64) : headOf (ce j (hd h d)) = hh j h := by rw [headOf_ce hj, hof_hd]

/-- A sum over the rows, block by block. -/
theorem sum_blocks {M : Type} [AddCommMonoid M] (f : Fin 4096 → M) : ∑ K, f K = ∑ b ∈ Finset.range 8, ∑ r : Fin 512, f (bk b r) := by
  rw [Finset.sum_range, Fin.sum_univ_tiles 8 512 rfl f]
  exact Finset.sum_congr rfl fun b _ => Finset.sum_congr rfl fun r _ => congrArg f (Fin.ext (by rw [bk_val b.isLt]; simp; omega))

/-- Of a row the key blocks up to its own suffice, of a key the query blocks from its own on. -/
theorem sum_upto (f : Fin 4096 → ℝ) {b : ℕ} (hb : b < 8) (hf : ∀ k r, k < 8 → b < k → f (bk k r) = 0) :
    ∑ k ∈ Finset.range (b + 1), ∑ r : Fin 512, f (bk k r) = ∑ K, f K := by
  rw [sum_blocks]
  refine Finset.sum_subset (fun x hx => Finset.mem_range.2 (by have := Finset.mem_range.1 hx; omega)) fun x hx hn => Finset.sum_eq_zero fun r _ => ?_
  exact hf x r (Finset.mem_range.1 hx) (by have := mt Finset.mem_range.2 hn; omega)
theorem sum_from (f : Fin 4096 → ℝ) {b : ℕ} (hb : b < 8) (hf : ∀ k r, k < b → f (bk k r) = 0) :
    ∑ k ∈ Finset.Ico b 8, ∑ r : Fin 512, f (bk k r) = ∑ K, f K := by
  rw [sum_blocks]
  refine Finset.sum_subset (fun x hx => Finset.mem_range.2 (Finset.mem_Ico.1 hx).2) fun x hx hn => Finset.sum_eq_zero fun r _ => ?_
  exact hf x r (by have := mt Finset.mem_Ico.2 hn; have := Finset.mem_range.1 hx; omega)

variable {Q K V W : Fin 4096 → Fin 1024 → ℝ} {G : Fin 16 → Fin 4096 → ℝ}

/-- The blocks are those of the arrays at pair `j`. -/
structure Reads (Q K V W : Fin 4096 → Fin 1024 → ℝ) (G : Fin 16 → Fin 4096 → ℝ) (B : Blocks) (j : ℕ) : Prop where
  hj : j < 8
  h1 : B.kb < 8
  h2 : B.qb < 8
  q : ∀ r e, B.q (ix2 r e) = (Q (bk B.qb r) (ce j e) : EReal)
  k : ∀ r e, B.k (ix2 r e) = (K (bk B.kb r) (ce j e) : EReal)
  v : ∀ r e, B.v (ix2 r e) = (V (bk B.kb r) (ce j e) : EReal)
  g : ∀ h r, B.g h r = (G (hh j h) (bk B.kb r) : EReal)
  o : ∀ r e, B.o (ix2 r e) = (Att.o Q K V G (bk B.qb r) (ce j e) : EReal)
  lse : ∀ r e, B.lse (ix2 r e) = (Att.lse Q K G (headOf (ce j e)) (bk B.qb r) : EReal)
  dO : ∀ r e, B.dO (ix2 r e) = (W (bk B.qb r) (ce j e) : EReal)

variable {B : Blocks} {j : ℕ} (R : Reads Q K V W G B j)
include R

theorem pr_real (h : Fin 2) (r k : Fin 512) : pr B h r k = (Att.p Q K G (hh j h) (bk B.qb r) (bk B.kb k) : EReal) := by
  have e : sc B h r k = msk (fun L => L ≤ bk B.qb r) (Att.s Q K G (hh j h) (bk B.qb r)) (bk B.kb k) := by
    have key : ∑ d, B.q (ix2 r (hd h d)) * scale * B.k (ix2 k (hd h d)) - B.g h k = (Att.s Q K G (hh j h) (bk B.qb r) (bk B.kb k) : EReal) := by
      have t : ∀ d, B.q (ix2 r (hd h d)) * scale * B.k (ix2 k (hd h d))
          = ((Q (bk B.qb r) (col (hh j h) d) * (1 / 8) * K (bk B.kb k) (col (hh j h) d) : ℝ) : EReal) := fun d => by
        rw [R.q, R.k, ce_hd R.hj, show scale = _ from eighth, ← EReal.coe_mul, ← EReal.coe_mul]
      rw [Finset.sum_congr rfl fun d _ => t d, sum_coe, R.g, ← EReal.coe_sub]
      refine congrArg _ ?_
      unfold Att.s
      rw [Finset.sum_mul]
      exact congrArg (· - _) (Finset.sum_congr rfl fun d _ => by ring)
    unfold sc msk
    rw [key]
    refine if_congr ?_ rfl rfl
    show _ ↔ (bk B.kb k).val ≤ (bk B.qb r).val
    rw [bk_val R.h1, bk_val R.h2]
  unfold pr
  rw [e, R.lse, hh_zero_hd R.hj]
  exact exp_lse Q K G (hh j h) (bk B.qb r) (bk B.kb k)

theorem ds_real (h : Fin 2) (r k : Fin 512) : ds B h r k = (Att.ds Q K V W G (hh j h) (bk B.qb r) (bk B.kb k) : EReal) := by
  have t : ∀ d, B.dO (ix2 r (hd h d)) * B.v (ix2 k (hd h d)) = ((W (bk B.qb r) (col (hh j h) d) * V (bk B.kb k) (col (hh j h) d) : ℝ) : EReal) := fun d => by
    rw [R.dO, R.v, ce_hd R.hj, ← EReal.coe_mul]
  have u : ∀ d, B.dO (ix2 r (hd h d)) * B.o (ix2 r (hd h d)) = ((W (bk B.qb r) (col (hh j h) d) * Att.o Q K V G (bk B.qb r) (col (hh j h) d) : ℝ) : EReal) := fun d => by
    rw [R.dO, R.o, ce_hd R.hj, ← EReal.coe_mul]
  unfold ds
  rw [pr_real R, Finset.sum_congr rfl fun d _ => t d, Finset.sum_congr rfl fun d _ => u d, sum_coe, sum_coe, ← EReal.coe_sub, ← EReal.coe_mul, delta]
  rfl

theorem dk_real (k : Fin 512) (e : Fin 128) : dk B k e
    = ((∑ r, Att.ds Q K V W G (headOf (ce j e)) (bk B.qb r) (bk B.kb k) * (1 / 8) * Q (bk B.qb r) (ce j e) : ℝ) : EReal) := by
  unfold dk
  rw [← sum_coe, headOf_ce R.hj]
  exact Finset.sum_congr rfl fun r _ => by
    rw [ds_real R, R.q, show scale = _ from eighth, ← EReal.coe_mul, ← EReal.coe_mul]; exact congrArg _ (by ring)

theorem dv_real (k : Fin 512) (e : Fin 128) : dv B k e
    = ((∑ r, Att.p Q K G (headOf (ce j e)) (bk B.qb r) (bk B.kb k) * W (bk B.qb r) (ce j e) : ℝ) : EReal) := by
  unfold dv
  rw [← sum_coe, headOf_ce R.hj]
  exact Finset.sum_congr rfl fun r _ => by rw [pr_real R, R.dO, ← EReal.coe_mul]

theorem dc_real (h : Fin 2) (k : Fin 512) : dc B h k = ((∑ r, Att.ds Q K V W G (hh j h) (bk B.qb r) (bk B.kb k) : ℝ) : EReal) := by
  unfold dc
  rw [← sum_coe]
  exact Finset.sum_congr rfl fun r _ => ds_real R h r k

theorem dr_real (r : Fin 512) (e : Fin 128) : dr B r e = ((∑ k, Att.ds Q K V W G (headOf (ce j e)) (bk B.qb r) (bk B.kb k) : ℝ) : EReal) := by
  unfold dr
  rw [← sum_coe, headOf_ce R.hj]
  exact Finset.sum_congr rfl fun k _ => ds_real R _ r k

theorem dq_real (r : Fin 512) (e : Fin 128) : dq B r e
    = ((∑ k, Att.ds Q K V W G (headOf (ce j e)) (bk B.qb r) (bk B.kb k) * (1 / 8) * K (bk B.kb k) (ce j e) : ℝ) : EReal) := by
  have t : ∀ k, ds B (hof e) r k * B.k (ix2 k e) = ((Att.ds Q K V W G (headOf (ce j e)) (bk B.qb r) (bk B.kb k) * K (bk B.kb k) (ce j e) : ℝ) : EReal) := fun k => by
    rw [ds_real R, R.k, headOf_ce R.hj, ← EReal.coe_mul]
  unfold dq
  rw [Finset.sum_congr rfl fun k _ => t k, sum_coe, show scale = _ from eighth, ← EReal.coe_mul, Finset.sum_mul]
  exact congrArg _ (Finset.sum_congr rfl fun k _ => by ring)

end Cert.KernelAttIdeal.Tile

end
-- ==== Proof.AttPiece.lean ====
/- What the buffers read after the stores of one point: the two heads' halves of a 512-row block, and the two rows of
   the decay's accumulator. -/
module

public import proofs.«01_k».proof.Proof.AttTile
public import Idealize.ShloMosaic.Lib.WritesUnit
public import Idealize.ShloMosaic.Lib.WholeRead
public import Idealize.ShloMosaic.Lib.VecWindow

@[expose] public section

set_option maxRecDepth 16384

noncomputable section

open Idealize.ShloMosaic Idealize.ShloMosaic.TcCoe Idealize.SL.Sem

namespace Cert.KernelAttIdeal.Tile

open Cert.KernelAttIdeal Cert.KernelAttIdeal.Gen

/-- Row block `b` of an array overwritten by a block. -/
def setR (b : ℕ) (y : Vec Ideal S4096x128 .f32) (D : Fin 512 → Fin 128 → EReal) : Vec Ideal S4096x128 .f32 := fun j =>
  if (j 0).val / 512 = b then D ⟨(j 0).val % 512, Nat.mod_lt _ (by decide)⟩ (j 1) else y j
/-- A block added to row block `b` of an array. -/
def addR (b : ℕ) (y : Vec Ideal S4096x128 .f32) (D : Fin 512 → Fin 128 → EReal) : Vec Ideal S4096x128 .f32 := fun j =>
  if (j 0).val / 512 = b then y j + D ⟨(j 0).val % 512, Nat.mod_lt _ (by decide)⟩ (j 1) else y j
/-- A block added to a block. -/
def addS (y : Vec Ideal S512x128 .f32) (D : Fin 512 → Fin 128 → EReal) : Vec Ideal S512x128 .f32 := fun j => y j + D (j 0) (j 1)
/-- Two rows added to the first two of eight. -/
def addC (y : Vec Ideal S8x512 .f32) (D : Fin 2 → Fin 512 → EReal) : Vec Ideal S8x512 .f32 := fun j =>
  if h : (j 0).val < 2 then y j + D ⟨(j 0).val, h⟩ (j 1) else y j

/-! ## Reading a list of stores to a matrix -/

section
variable {R C r c : ℕ} (M : Memref sig .tc .vmem ⟨2, ![R, C]⟩ .f32) (f : M.view.ty.Contents (Elt Ideal)) {off : Fin 2 → ℕ} {o0 o1 : ℕ}
  (e : off = ![o0, o1]) (inb : ∀ a, off a + (⟨2, ![r, c]⟩ : Shape).size a ≤ (⟨2, ![R, C]⟩ : Shape).size a) (p : Vec Ideal ⟨2, ![r, c]⟩ .f32)
  (L : List (View.Piece (Elt Ideal) ⟨2, ![R, C]⟩ .f32)) (j0 : Fin R) (j1 : Fin C)

include e in
theorem read_on (x0 : Fin r) (x1 : Fin c) (h0 : j0.val = o0 + x0.val) (h1 : j1.val = o1 + x1.val) :
    View.read (Elt Ideal) M.view (M.view.writes (Elt Ideal) f
      (⟨Rect.unit (s := ⟨2, ![R, C]⟩) off (⟨2, ![r, c]⟩ : Shape).size inb, p⟩ :: L)) (ix2 j0 j1) = p (ix2 x0 x1) :=
  View.read_writes_cons_unit_of_mem (Val := Elt Ideal) (s := ⟨2, ![R, C]⟩) (size := (⟨2, ![r, c]⟩ : Shape).size) M.view f inb p L (ix2 j0 j1) (ix2 x0 x1) e
    (Fin.forall_fin_two.mpr ⟨h0, h1⟩)

include e in
theorem read_off0 (h : j0.val < o0 ∨ o0 + r ≤ j0.val) :
    View.read (Elt Ideal) M.view (M.view.writes (Elt Ideal) f
      (⟨Rect.unit (s := ⟨2, ![R, C]⟩) off (⟨2, ![r, c]⟩ : Shape).size inb, p⟩ :: L)) (ix2 j0 j1)
      = View.read (Elt Ideal) M.view (M.view.writes (Elt Ideal) f L) (ix2 j0 j1) :=
  View.read_writes_cons_unit_of_not_mem (Val := Elt Ideal) (s := ⟨2, ![R, C]⟩) (size := (⟨2, ![r, c]⟩ : Shape).size) M.view f inb p L (ix2 j0 j1) e (0 : Fin 2) h

include e in
theorem read_off1 (h : j1.val < o1 ∨ o1 + c ≤ j1.val) :
    View.read (Elt Ideal) M.view (M.view.writes (Elt Ideal) f
      (⟨Rect.unit (s := ⟨2, ![R, C]⟩) off (⟨2, ![r, c]⟩ : Shape).size inb, p⟩ :: L)) (ix2 j0 j1)
      = View.read (Elt Ideal) M.view (M.view.writes (Elt Ideal) f L) (ix2 j0 j1) :=
  View.read_writes_cons_unit_of_not_mem (Val := Elt Ideal) (s := ⟨2, ![R, C]⟩) (size := (⟨2, ![r, c]⟩ : Shape).size) M.view f inb p L (ix2 j0 j1) e (1 : Fin 2) h
end

section
variable {R : ℕ} (M : Memref sig .tc .vmem ⟨2, ![R, 128]⟩ .f32) (hM : M.IsWhole) (s : Vec Ideal ⟨2, ![R, 128]⟩ .f32) {b : ℕ} (hb : 512 * b + 512 ≤ R)
  {off0 off1 : Fin 2 → ℕ} (e0 : off0 = ![512 * b, 0]) (e1 : off1 = ![512 * b, 64])
  (inb0 : ∀ a, off0 a + S512x64.size a ≤ (⟨2, ![R, 128]⟩ : Shape).size a) (inb1 : ∀ a, off1 a + S512x64.size a ≤ (⟨2, ![R, 128]⟩ : Shape).size a)

include hb e0 in
theorem prev0 (k : Fin 512) (d : Fin 64) : View.readAt (Elt Ideal) M.view (Rect.unit (s := ⟨2, ![R, 128]⟩) off0 S512x64.size inb0).toLoadRect (hM.unread s) (ix2 k d)
    = s (ix2 ⟨512 * b + k.val, by omega⟩ (hd 0 d)) := by
  subst e0
  rw [hM.readAt_unread]
  refine congrArg s (funext fun a => Fin.ext ?_)
  fin_cases a
  · show 512 * b + 1 * k.val = _; simp
  · show 0 + 1 * d.val = _; simp [hd]

include hb e1 in
theorem prev1 (k : Fin 512) (d : Fin 64) : View.readAt (Elt Ideal) M.view (Rect.unit (s := ⟨2, ![R, 128]⟩) off1 S512x64.size inb1).toLoadRect (hM.unread s) (ix2 k d)
    = s (ix2 ⟨512 * b + k.val, by omega⟩ (hd 1 d)) := by
  subst e1
  rw [hM.readAt_unread]
  refine congrArg s (funext fun a => Fin.ext ?_)
  fin_cases a
  · show 512 * b + 1 * k.val = _; simp
  · show 64 + 1 * d.val = _; simp [hd]

include hb e0 e1 in
theorem halves (p0 p1 : Vec Ideal S512x64 .f32) (G : Vec Ideal ⟨2, ![R, 128]⟩ .f32)
    (h0 : ∀ k d, p0 (ix2 k d) = G (ix2 ⟨512 * b + k.val, by omega⟩ (hd 0 d)))
    (h1 : ∀ k d, p1 (ix2 k d) = G (ix2 ⟨512 * b + k.val, by omega⟩ (hd 1 d))) :
    View.read (Elt Ideal) M.view (M.view.writes (Elt Ideal) (hM.unread s)
      [⟨Rect.unit (s := ⟨2, ![R, 128]⟩) off1 S512x64.size inb1, p1⟩, ⟨Rect.unit (s := ⟨2, ![R, 128]⟩) off0 S512x64.size inb0, p0⟩])
      = fun j => if (j 0).val / 512 = b then G j else s j := by
  funext j
  obtain ⟨r, c, rfl⟩ : ∃ (r : Fin R) (c : Fin 128), j = ix2 r c := ⟨j 0, j 1, by funext a; fin_cases a <;> rfl⟩
  show _ = if r.val / 512 = b then G (ix2 r c) else s (ix2 r c)
  by_cases hj : r.val / 512 = b
  · rw [if_pos hj]
    by_cases hc : c.val < 64
    · refine (read_off1 M _ e1 inb1 p1 _ r c (Or.inl hc)).trans ((read_on M _ e0 inb0 p0 _ r c ⟨r.val % 512, Nat.mod_lt _ (by decide)⟩ ⟨c.val, hc⟩
        (by show r.val = 512 * b + r.val % 512; omega) (by show c.val = 0 + c.val; omega)).trans ((h0 _ _).trans (congrArg G ?_)))
      exact congrArg₂ ix2 (Fin.ext (by show 512 * b + r.val % 512 = r.val; omega)) (Fin.ext (by show 64 * 0 + c.val = c.val; omega))
    · refine (read_on M _ e1 inb1 p1 _ r c ⟨r.val % 512, Nat.mod_lt _ (by decide)⟩ ⟨c.val - 64, by omega⟩
        (by show r.val = 512 * b + r.val % 512; omega) (by show c.val = 64 + (c.val - 64); omega)).trans ((h1 _ _).trans (congrArg G ?_))
      exact congrArg₂ ix2 (Fin.ext (by show 512 * b + r.val % 512 = r.val; omega)) (Fin.ext (by show 64 * 1 + (c.val - 64) = c.val; omega))
  · rw [if_neg hj]
    have hr : r.val < 512 * b ∨ 512 * b + 512 ≤ r.val := by omega
    exact (read_off0 M _ e1 inb1 p1 _ r c hr).trans ((read_off0 M _ e0 inb0 p0 _ r c hr).trans (congrFun (hM.read_unread s) _))
end

/-- A load of a whole block reads the block. -/
theorem whole (M : Memref sig .tc .vmem S512x128 .f32) (hM : M.IsWhole) (s : Vec Ideal S512x128 .f32) :
    View.readAt (Elt Ideal) M.view (Rect.unit (s := S512x128) ![0, 0] S512x128.size inb_S512x128_S512x128_0_0).toLoadRect (hM.unread s) = s :=
  (View.readAt_full _ _ _).trans (hM.read_unread s)

section
variable (M : Memref sig .tc .vmem S8x512 .f32) (hM : M.IsWhole) (s : Vec Ideal S8x512 .f32)

theorem prevC (h : Fin 2) (off : Fin 2 → ℕ) (e : off = ![h.val, 0]) (inb : ∀ a, off a + S1x512.size a ≤ S8x512.size a) (k : Fin 512) :
    View.readAt (Elt Ideal) M.view (Rect.unit (s := S8x512) off S1x512.size inb).toLoadRect (hM.unread s) (ix2 0 k)
      = s (ix2 ⟨h.val, by omega⟩ k) := by
  subst e
  rw [hM.readAt_unread]
  refine congrArg s (funext fun a => Fin.ext ?_)
  fin_cases a
  · show h.val + 1 * 0 = _; simp
  · show 0 + 1 * k.val = _; simp

theorem rows (p0 p1 : Vec Ideal S1x512 .f32) (D : Fin 2 → Fin 512 → EReal)
    (h0 : ∀ k, p0 (ix2 0 k) = s (ix2 ⟨0, by omega⟩ k) + D 0 k)
    (h1 : ∀ k, p1 (ix2 0 k) = s (ix2 ⟨1, by omega⟩ k) + D 1 k) :
    View.read (Elt Ideal) M.view (M.view.writes (Elt Ideal) (hM.unread s)
      [⟨Rect.unit (s := S8x512) ![1, 0] S1x512.size inb_S8x512_S1x512_1_0, p1⟩,
        ⟨Rect.unit (s := S8x512) ![0, 0] S1x512.size inb_S8x512_S1x512_0_0, p0⟩]) = addC s D := by
  funext j
  obtain ⟨r, k, rfl⟩ : ∃ (r : Fin 8) (k : Fin 512), j = ix2 r k := ⟨j 0, j 1, by funext a; fin_cases a <;> rfl⟩
  show _ = if h : r.val < 2 then s (ix2 r k) + D ⟨r.val, h⟩ k else s (ix2 r k)
  by_cases hr0 : r.val = 0
  · obtain rfl : r = 0 := Fin.ext hr0
    exact (read_off0 M _ rfl _ p1 _ 0 k (Or.inl (by decide))).trans ((read_on M _ rfl _ p0 _ 0 k 0 k rfl (by omega)).trans (h0 k))
  · by_cases hr1 : r.val = 1
    · obtain rfl : r = 1 := Fin.ext hr1
      exact (read_on M _ rfl _ p1 _ 1 k 0 k rfl (by omega)).trans (h1 k)
    · rw [dif_neg (by omega)]
      exact (read_off0 M _ rfl _ p1 _ r k (Or.inr (by omega))).trans
        ((read_off0 M _ rfl _ p0 _ r k (Or.inr (by omega))).trans (congrFun (hM.read_unread s) _))
end

/-! ## The five stores of a point -/

section
variable {B : Blocks} {a b : BitVec 32} {g0 g1 : Vec Ideal S1x512 .f32} (H : Holds B a b g0 g1)
  {q k v o lse dO : Vec Ideal S512x128 .f32} (hq : q = B.q) (hk : k = B.k) (hv : v = B.v) (ho : o = B.o) (hl : lse = B.lse) (hd : dO = B.dO)

section
variable (M : Memref sig .tc .vmem S512x128 .f32) (hM : M.IsWhole) (s : Vec Ideal S512x128 .f32)
include H hq hk hv ho hl hd

theorem stored_dk : View.read (Elt Ideal) M.view (M.view.writes (Elt Ideal) (hM.unread s)
      [⟨Rect.unit (s := S512x128) ![0, 64] S512x64.size inb_S512x128_S512x64_0_64,
          k0_pay37 (F := Ideal) (k0_pay9 q) (k0_pay11 v) (k0_pay29 a b (k0_pay9 q) (k0_pay10 k) (k0_pay13 lse) g1) (k0_pay31 dO (k0_pay12 o)) (k0_pay32 dO)
            (View.readAt (Elt Ideal) M.view (Rect.unit (s := S512x128) ![0, 64] S512x64.size inb_S512x128_S512x64_0_64).toLoadRect (hM.unread s))⟩,
        ⟨Rect.unit (s := S512x128) ![0, 0] S512x64.size inb_S512x128_S512x64_0_0,
          k0_pay23 (F := Ideal) (k0_pay9 q) (k0_pay11 v) dO (k0_pay12 o) (k0_pay14 a b q k g0) (k0_pay15 lse)
            (View.readAt (Elt Ideal) M.view (Rect.unit (s := S512x128) ![0, 0] S512x64.size inb_S512x128_S512x64_0_0).toLoadRect (hM.unread s))⟩])
      = addS s (dk B) := by
  subst hq hk hv ho hl hd
  refine (halves M hM s (b := 0) (by decide) rfl rfl _ _ _ _ (addS s (dk B)) ?_ ?_).trans ?_
  · intro x d; rw [dk0 H, prev0 M hM s (b := 0) (by decide) rfl]; simp only [addS, ix2_0, ix2_1, Nat.mul_zero, Nat.zero_add]
  · intro x d; rw [dk1 H, prev1 M hM s (b := 0) (by decide) rfl]; simp only [addS, ix2_0, ix2_1, Nat.mul_zero, Nat.zero_add]
  · funext j; exact if_pos (Nat.div_eq_of_lt (j 0).isLt)

theorem stored_dv : View.read (Elt Ideal) M.view (M.view.writes (Elt Ideal) (hM.unread s)
      [⟨Rect.unit (s := S512x128) ![0, 64] S512x64.size inb_S512x128_S512x64_0_64,
          k0_pay33 (F := Ideal) (k0_pay29 a b (k0_pay9 q) (k0_pay10 k) (k0_pay13 lse) g1) (k0_pay32 dO)
            (View.readAt (Elt Ideal) M.view (Rect.unit (s := S512x128) ![0, 64] S512x64.size inb_S512x128_S512x64_0_64).toLoadRect (hM.unread s))⟩,
        ⟨Rect.unit (s := S512x128) ![0, 0] S512x64.size inb_S512x128_S512x64_0_0,
          k0_pay19 (F := Ideal) dO (k0_pay14 a b q k g0) (k0_pay15 lse)
            (View.readAt (Elt Ideal) M.view (Rect.unit (s := S512x128) ![0, 0] S512x64.size inb_S512x128_S512x64_0_0).toLoadRect (hM.unread s))⟩])
      = addS s (dv B) := by
  subst hq hk hv ho hl hd
  refine (halves M hM s (b := 0) (by decide) rfl rfl _ _ _ _ (addS s (dv B)) ?_ ?_).trans ?_
  · intro x d; rw [dv0 H, prev0 M hM s (b := 0) (by decide) rfl]; simp only [addS, ix2_0, ix2_1, Nat.mul_zero, Nat.zero_add]
  · intro x d; rw [dv1 H, prev1 M hM s (b := 0) (by decide) rfl]; simp only [addS, ix2_0, ix2_1, Nat.mul_zero, Nat.zero_add]
  · funext j; exact if_pos (Nat.div_eq_of_lt (j 0).isLt)
end

section
variable (M : Memref sig .tc .vmem S8x512 .f32) (hM : M.IsWhole) (s : Vec Ideal S8x512 .f32)
include H hq hk hv ho hl hd

theorem stored_dc : View.read (Elt Ideal) M.view (M.view.writes (Elt Ideal) (hM.unread s)
      [⟨Rect.unit (s := S8x512) ![1, 0] S1x512.size inb_S8x512_S1x512_1_0,
          k0_pay35 (F := Ideal) (k0_pay11 v) (k0_pay29 a b (k0_pay9 q) (k0_pay10 k) (k0_pay13 lse) g1) (k0_pay31 dO (k0_pay12 o)) (k0_pay32 dO)
            (View.readAt (Elt Ideal) M.view (Rect.unit (s := S8x512) ![1, 0] S1x512.size inb_S8x512_S1x512_1_0).toLoadRect (hM.unread s))⟩,
        ⟨Rect.unit (s := S8x512) ![0, 0] S1x512.size inb_S8x512_S1x512_0_0,
          k0_pay21 (F := Ideal) (k0_pay11 v) dO (k0_pay12 o) (k0_pay14 a b q k g0) (k0_pay15 lse)
            (View.readAt (Elt Ideal) M.view (Rect.unit (s := S8x512) ![0, 0] S1x512.size inb_S8x512_S1x512_0_0).toLoadRect (hM.unread s))⟩])
      = addC s (dc B) := by
  subst hq hk hv ho hl hd
  refine rows M hM s _ _ (dc B) ?_ ?_
  · intro x; rw [dc0 H]; exact congrArg (· + _) (prevC M hM s 0 _ rfl _ x)
  · intro x; rw [dc1 H]; exact congrArg (· + _) (prevC M hM s 1 _ rfl _ x)
end

section
variable (M : Memref sig .tc .vmem S4096x128 .f32) (hM : M.IsWhole) (s : Vec Ideal S4096x128 .f32)
  {off0 off1 : Fin 2 → ℕ} (e0 : off0 = ![512 * B.qb, 0]) (e1 : off1 = ![512 * B.qb, 64])
  (inb0 : ∀ a, off0 a + S512x64.size a ≤ S4096x128.size a) (inb1 : ∀ a, off1 a + S512x64.size a ≤ S4096x128.size a)
include H hq hk hv ho hl hd e0 e1

theorem stored_dq : View.read (Elt Ideal) M.view (M.view.writes (Elt Ideal) (hM.unread s)
      [⟨Rect.unit (s := S4096x128) off1 S512x64.size inb1,
          k0_pay38 (F := Ideal) (k0_pay10 k) (k0_pay11 v) (k0_pay29 a b (k0_pay9 q) (k0_pay10 k) (k0_pay13 lse) g1) (k0_pay31 dO (k0_pay12 o)) (k0_pay32 dO)⟩,
        ⟨Rect.unit (s := S4096x128) off0 S512x64.size inb0,
          k0_pay25 (F := Ideal) (k0_pay24 (k0_pay10 k) (k0_pay11 v) dO (k0_pay12 o) (k0_pay14 a b q k g0) (k0_pay15 lse)) (Scalar.ofBits .f32 0x3E000000#32)⟩])
      = setR B.qb s (dq B) := by
  subst hq hk hv ho hl hd
  have hb : 512 * B.qb + 512 ≤ 4096 := by have := H.h2; omega
  refine (halves M hM s hb e0 e1 inb0 inb1 _ _ (fun j => dq B ⟨(j 0).val % 512, Nat.mod_lt _ (by decide)⟩ (j 1)) ?_ ?_).trans rfl
  · intro x d; rw [dq0 H]; simp only [ix2_0, ix2_1, Nat.mul_add_mod, Nat.mod_eq_of_lt x.isLt]
  · intro x d; rw [dq1 H]; simp only [ix2_0, ix2_1, Nat.mul_add_mod, Nat.mod_eq_of_lt x.isLt]

theorem stored_dr : View.read (Elt Ideal) M.view (M.view.writes (Elt Ideal) (hM.unread s)
      [⟨Rect.unit (s := S4096x128) off1 S512x64.size inb1,
          k0_pay39 (F := Ideal) (k0_pay11 v) (k0_pay29 a b (k0_pay9 q) (k0_pay10 k) (k0_pay13 lse) g1) (k0_pay31 dO (k0_pay12 o)) (k0_pay32 dO)⟩,
        ⟨Rect.unit (s := S4096x128) off0 S512x64.size inb0,
          k0_pay26 (F := Ideal) (k0_pay20 (k0_pay11 v) dO (k0_pay12 o) (k0_pay14 a b q k g0) (k0_pay15 lse))⟩])
      = setR B.qb s (dr B) := by
  subst hq hk hv ho hl hd
  have hb : 512 * B.qb + 512 ≤ 4096 := by have := H.h2; omega
  refine (halves M hM s hb e0 e1 inb0 inb1 _ _ (fun j => dr B ⟨(j 0).val % 512, Nat.mod_lt _ (by decide)⟩ (j 1)) ?_ ?_).trans rfl
  · intro x d; rw [dr0 H]; simp only [ix2_0, ix2_1, Nat.mul_add_mod, Nat.mod_eq_of_lt x.isLt]
  · intro x d; rw [dr1 H]; simp only [ix2_0, ix2_1, Nat.mul_add_mod, Nat.mod_eq_of_lt x.isLt]

theorem added_dq : View.read (Elt Ideal) M.view (M.view.writes (Elt Ideal) (hM.unread s)
      [⟨Rect.unit (s := S4096x128) off1 S512x64.size inb1,
          k0_pay4 (F := Ideal) (k0_pay38 (k0_pay10 k) (k0_pay11 v) (k0_pay29 a b (k0_pay9 q) (k0_pay10 k) (k0_pay13 lse) g1) (k0_pay31 dO (k0_pay12 o)) (k0_pay32 dO))
            (View.readAt (Elt Ideal) M.view (Rect.unit (s := S4096x128) off1 S512x64.size inb1).toLoadRect (hM.unread s))⟩,
        ⟨Rect.unit (s := S4096x128) off0 S512x64.size inb0,
          k0_pay27 (F := Ideal) (k0_pay24 (k0_pay10 k) (k0_pay11 v) dO (k0_pay12 o) (k0_pay14 a b q k g0) (k0_pay15 lse)) (Scalar.ofBits .f32 0x3E000000#32)
            (View.readAt (Elt Ideal) M.view (Rect.unit (s := S4096x128) off0 S512x64.size inb0).toLoadRect (hM.unread s))⟩])
      = addR B.qb s (dq B) := by
  subst hq hk hv ho hl hd
  have hb : 512 * B.qb + 512 ≤ 4096 := by have := H.h2; omega
  refine (halves M hM s hb e0 e1 inb0 inb1 _ _ (fun j => s j + dq B ⟨(j 0).val % 512, Nat.mod_lt _ (by decide)⟩ (j 1)) ?_ ?_).trans rfl
  · intro x d; rw [dq0_add H, prev0 M hM s hb e0]; simp only [ix2_0, ix2_1, Nat.mul_add_mod, Nat.mod_eq_of_lt x.isLt]
  · intro x d; rw [dq1_add H, prev1 M hM s hb e1]; simp only [ix2_0, ix2_1, Nat.mul_add_mod, Nat.mod_eq_of_lt x.isLt]

theorem added_dr : View.read (Elt Ideal) M.view (M.view.writes (Elt Ideal) (hM.unread s)
      [⟨Rect.unit (s := S4096x128) off1 S512x64.size inb1,
          k0_pay5 (F := Ideal) (k0_pay39 (k0_pay11 v) (k0_pay29 a b (k0_pay9 q) (k0_pay10 k) (k0_pay13 lse) g1) (k0_pay31 dO (k0_pay12 o)) (k0_pay32 dO))
            (View.readAt (Elt Ideal) M.view (Rect.unit (s := S4096x128) off1 S512x64.size inb1).toLoadRect (hM.unread s))⟩,
        ⟨Rect.unit (s := S4096x128) off0 S512x64.size inb0,
          k0_pay28 (F := Ideal) (k0_pay20 (k0_pay11 v) dO (k0_pay12 o) (k0_pay14 a b q k g0) (k0_pay15 lse))
            (View.readAt (Elt Ideal) M.view (Rect.unit (s := S4096x128) off0 S512x64.size inb0).toLoadRect (hM.unread s))⟩])
      = addR B.qb s (dr B) := by
  subst hq hk hv ho hl hd
  have hb : 512 * B.qb + 512 ≤ 4096 := by have := H.h2; omega
  refine (halves M hM s hb e0 e1 inb0 inb1 _ _ (fun j => s j + dr B ⟨(j 0).val % 512, Nat.mod_lt _ (by decide)⟩ (j 1)) ?_ ?_).trans rfl
  · intro x d; rw [dr0_add H, prev0 M hM s hb e0]; simp only [ix2_0, ix2_1, Nat.mul_add_mod, Nat.mod_eq_of_lt x.isLt]
  · intro x d; rw [dr1_add H, prev1 M hM s hb e1]; simp only [ix2_0, ix2_1, Nat.mul_add_mod, Nat.mod_eq_of_lt x.isLt]
end
end

end Cert.KernelAttIdeal.Tile
end
-- ==== Proof.AttRun.lean ====
/- The body of the attention backward call over the reals at one grid point, in its three parts: the accumulators zeroed
   where the query block is the key block, the two heads' sums added where the key block is not after it, the
   accumulators written out at the last query block. -/
module

public import proofs.«01_k».proof.Proof.Gen.KernelAttIdeal.Frame
public import proofs.«01_k».proof.Proof.AttPiece

@[expose] public section

set_option maxRecDepth 16384

noncomputable section

namespace Cert.KernelAttIdeal.Whole

open Cert.KernelAttIdeal Cert.KernelAttIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelAttIdeal.Tile

local notation "𝕄" => MT nD τ sig Unit (Elt Ideal) ℕ (UR sig nD τ) ℕ

section
variable (c : Dev nD) (i : grid0.Coords) (arg3 : Memref sig .tc .vmem S512x128 .f32) (harg3 : arg3.IsWhole) (arg4 : Memref sig .tc .vmem S512x128 .f32) (harg4 : arg4.IsWhole) (arg5 : Memref sig .tc .vmem S512x128 .f32) (harg5 : arg5.IsWhole) (arg6 : Memref sig .tc .vmem S16x512 .f32) (harg6 : arg6.IsWhole) (arg7 : Memref sig .tc .vmem S512x128 .f32) (harg7 : arg7.IsWhole) (arg8 : Memref sig .tc .vmem S512x128 .f32) (harg8 : arg8.IsWhole) (arg9 : Memref sig .tc .vmem S512x128 .f32) (harg9 : arg9.IsWhole) (arg10 : Memref sig .tc .vmem S4096x128 .f32) (harg10 : arg10.IsWhole) (arg11 : Memref sig .tc .vmem S512x128 .bf16) (harg11 : arg11.IsWhole) (arg12 : Memref sig .tc .vmem S512x128 .bf16) (harg12 : arg12.IsWhole) (arg13 : Memref sig .tc .vmem S1x8x512 .f32) (harg13 : arg13.IsWhole) (arg14 : Memref sig .tc .vmem S4096x128 .f32) (harg14 : arg14.IsWhole) (arg15 : Memref sig .tc .vmem S512x128 .f32) (harg15 : arg15.IsWhole) (arg16 : Memref sig .tc .vmem S512x128 .f32) (harg16 : arg16.IsWhole) (arg17 : Memref sig .tc .vmem S8x512 .f32) (harg17 : arg17.IsWhole)
  (x0 x1 x2 : Vec Ideal S512x128 .f32) (x3 : Vec Ideal S16x512 .f32) (x4 x5 x6 : Vec Ideal S512x128 .f32)

/-- The fifteen buffers the body holds, by what each reads. -/
def hold (y7 : Vec Ideal S4096x128 .f32) (y8 y9 : Vec Ideal S512x128 .bf16) (y10 : Vec Ideal S1x8x512 .f32) (y11 : Vec Ideal S4096x128 .f32)
    (s0 s1 : Vec Ideal S512x128 .f32) (s2 : Vec Ideal S8x512 .f32) : sProp 𝕄 :=
  iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare y7 ∗ owns (c : Thread nD τ) arg11 fullShare y8 ∗ owns (c : Thread nD τ) arg12 fullShare y9 ∗ owns (c : Thread nD τ) arg13 fullShare y10 ∗ owns (c : Thread nD τ) arg14 fullShare y11 ∗ owns (c : Thread nD τ) arg15 fullShare s0 ∗ owns (c : Thread nD τ) arg16 fullShare s1 ∗ owns (c : Thread nD τ) arg17 fullShare s2)

/-- The blocks at the point of coordinates `i`. -/
def blocks : Blocks where
  kb := (i 1).val
  qb := (i 2).val
  q := x0
  k := x1
  v := x2
  g := fun h k => x3 (ix2 ⟨2 * (i 0).val + h.val, by have := (i 0).isLt; have : (i 0).val < 8 := this; omega⟩ k)
  o := x4
  lse := x5
  dO := x6

variable (y7 : Vec Ideal S4096x128 .f32) (y8 y9 : Vec Ideal S512x128 .bf16) (y10 : Vec Ideal S1x8x512 .f32) (y11 : Vec Ideal S4096x128 .f32)
    (s0 s1 : Vec Ideal S512x128 .f32) (s2 : Vec Ideal S8x512 .f32) (E : Set ℕ)

/-- The accumulators as a point finds them: zero at the key block's own query block. -/
def start (s : Vec Ideal S512x128 .f32) : Vec Ideal S512x128 .f32 := if (i 1).val = (i 2).val then fun _ => 0 else s
def startC (s : Vec Ideal S8x512 .f32) : Vec Ideal S8x512 .f32 := if (i 1).val = (i 2).val then fun _ => 0 else s

/-- What the work leaves. -/
def work (B : Blocks) (s : Vec Ideal S512x128 .f32) (D : Blocks → Fin 512 → Fin 128 → EReal) : Vec Ideal S512x128 .f32 :=
  if B.kb ≤ B.qb then addS s (D B) else s
def workC (B : Blocks) (s : Vec Ideal S8x512 .f32) : Vec Ideal S8x512 .f32 := if B.kb ≤ B.qb then addC s (dc B) else s
def workR (B : Blocks) (y : Vec Ideal S4096x128 .f32) (D : Blocks → Fin 512 → Fin 128 → EReal) : Vec Ideal S4096x128 .f32 :=
  if B.kb ≤ B.qb then (if B.kb = 0 then setR B.qb y (D B) else addR B.qb y (D B)) else y

/-- What the last query block writes out. -/
def out (y : Vec Ideal S512x128 .bf16) (s : Vec Ideal S512x128 .f32) : Vec Ideal S512x128 .bf16 := if (i 2).val = 7 then s else y
def outC (y : Vec Ideal S1x8x512 .f32) (s : Vec Ideal S8x512 .f32) : Vec Ideal S1x8x512 .f32 :=
  if (i 2).val = 7 then fun j => s (ix2 (j 1) (j 2)) else y

theorem pay6_eq (s : Vec Ideal S512x128 .f32) : k0_pay6 (F := Ideal) s = s := by funext j; pointwise [k0_pay6]
theorem pay7_eq (s : Vec Ideal S512x128 .f32) : k0_pay7 (F := Ideal) s = s := by funext j; pointwise [k0_pay7]
theorem pay8_eq (s : Vec Ideal S8x512 .f32) : k0_pay8 (F := Ideal) s = fun j => s (ix2 (j 1) (j 2)) := by funext j; pointwise [k0_pay8]
theorem pay1_eq : k0_pay1 (F := Ideal) = fun _ => 0 := by funext j; pointwise [k0_pay1]
theorem pay2_eq : k0_pay2 (F := Ideal) = fun _ => 0 := by funext j; pointwise [k0_pay2]
theorem pay3_eq : k0_pay3 (F := Ideal) = fun _ => 0 := by funext j; pointwise [k0_pay3]

/-- A point's conditions and offsets, in its coordinates. -/
structure At : Prop where
  c0 : Scalar.cmpi .ne (Scalar.extui (Scalar.cmpi .eq (BitVec.ofNat 32 (i 2).val) (BitVec.ofNat 32 (i 1).val)) : BitVec 32) 0#32 = 1#1 ↔ (i 1).val = (i 2).val
  c2 : k0_cond2 i = 1#1 ↔ (i 1).val ≤ (i 2).val
  c3 : k0_cond3 i = 1#1 ↔ (i 1).val = 0
  c4 : k0_cond4 i = 1#1 ↔ (i 1).val ≠ 0
  c5 : k0_cond5 i = 1#1 ↔ (i 1).val = 0
  c6 : k0_cond6 i = 1#1 ↔ (i 1).val ≠ 0
  c7 : k0_cond7 i = 1#1 ↔ (i 2).val = 7
  o0 : k0_off1 i 0#32 = ![2 * (i 0).val, 0]
  o1 : k0_off1 i 1#32 = ![2 * (i 0).val + 1, 0]
  o2 : k0_off2 i = ![512 * (i 2).val, 0]
  o3 : k0_off3 i = ![512 * (i 2).val, 0]
  o4 : k0_off4 i = ![512 * (i 2).val, 64]
  o5 : k0_off5 i = ![512 * (i 2).val, 64]

/-- A load of one row of the decay. -/
theorem row_at (off : Fin 2 → ℕ) {r : ℕ} (hr : r < 16) (e : off = ![r, 0]) (inb : ∀ a, off a + S1x512.size a ≤ S16x512.size a) (k : Fin 512) :
    View.readAt (Elt Ideal) arg6.view (Rect.unit (s := S16x512) off S1x512.size inb).toLoadRect (harg6.unread x3) (ix2 0 k) = x3 (ix2 ⟨r, hr⟩ k) := by
  subst e
  rw [harg6.readAt_unread]
  refine congrArg x3 (funext fun a => Fin.ext ?_)
  fin_cases a
  · show r + 1 * 0 = _; simp
  · show 0 + 1 * k.val = _; simp

/-- A load of the whole accumulator of the decay. -/
theorem wholeC (M : Memref sig .tc .vmem S8x512 .f32) (hM : M.IsWhole) (s : Vec Ideal S8x512 .f32) :
    View.readAt (Elt Ideal) M.view (Rect.unit (s := S8x512) ![0, 0] S8x512.size inb_S8x512_S8x512_0_0).toLoadRect (hM.unread s) = s :=
  (View.readAt_full _ _ _).trans (hM.read_unread s)

theorem holds (h : At i) (inb0 : ∀ a, k0_off1 i 0#32 a + S1x512.size a ≤ S16x512.size a) (inb1 : ∀ a, k0_off1 i 1#32 a + S1x512.size a ≤ S16x512.size a) :
    Holds (blocks i x0 x1 x2 x3 x4 x5 x6) (BitVec.ofNat 32 (i 1).val) (BitVec.ofNat 32 (i 2).val)
      (View.readAt (Elt Ideal) arg6.view (Rect.unit (s := S16x512) (k0_off1 i 0#32) S1x512.size inb0).toLoadRect (harg6.unread x3))
      (View.readAt (Elt Ideal) arg6.view (Rect.unit (s := S16x512) (k0_off1 i 1#32) S1x512.size inb1).toLoadRect (harg6.unread x3)) where
  ha := rfl
  hb := rfl
  h1 := (i 1).isLt
  h2 := (i 2).isLt
  h3 := fun k => row_at arg6 harg6 x3 _ _ h.o0 inb0 k
  h4 := fun k => row_at arg6 harg6 x3 _ _ h.o1 inb1 k

set_option maxHeartbeats 1200000 in
/-- The body at a point. -/
theorem body (h : At i) :
    hold c arg3 arg4 arg5 arg6 arg7 arg8 arg9 arg10 arg11 arg12 arg13 arg14 arg15 arg16 arg17 x0 x1 x2 x3 x4 x5 x6 y7 y8 y9 y10 y11 s0 s1 s2
      ⊢ wp frame (wpE (defs₀ (F := Ideal)) Variants.none (c : Thread nD τ) none) E (cc0_attn_bwd i arg3 harg3 arg4 harg4 arg5 harg5 arg6 harg6 arg7 harg7 arg8 harg8 arg9 harg9 arg10 harg10 arg11 harg11 arg12 harg12 arg13 harg13 arg14 harg14 arg15 harg15 arg16 harg16 arg17 harg17)
        fun _ => hold c arg3 arg4 arg5 arg6 arg7 arg8 arg9 arg10 arg11 arg12 arg13 arg14 arg15 arg16 arg17 x0 x1 x2 x3 x4 x5 x6 (workR (blocks i x0 x1 x2 x3 x4 x5 x6) y7 dq)
          (out i y8 (work (blocks i x0 x1 x2 x3 x4 x5 x6) (start i s0) dk)) (out i y9 (work (blocks i x0 x1 x2 x3 x4 x5 x6) (start i s1) dv))
          (outC i y10 (workC (blocks i x0 x1 x2 x3 x4 x5 x6) (startC i s2))) (workR (blocks i x0 x1 x2 x3 x4 x5 x6) y11 dr)
          (work (blocks i x0 x1 x2 x3 x4 x5 x6) (start i s0) dk) (work (blocks i x0 x1 x2 x3 x4 x5 x6) (start i s1) dv)
          (workC (blocks i x0 x1 x2 x3 x4 x5 x6) (startC i s2)) := by
  simp only [cc0_attn_bwd_eq_skeleton]; unfold cc0_attn_bwd_skel
  lift_lets
  intro arg0 arg1 arg2 v0 v1 v2 ret flush flush' stage
  have hflush : ∀ y7 y11 s0 s1 s2, hold c arg3 arg4 arg5 arg6 arg7 arg8 arg9 arg10 arg11 arg12 arg13 arg14 arg15 arg16 arg17 x0 x1 x2 x3 x4 x5 x6 y7 y8 y9 y10 y11 s0 s1 s2
      ⊢ wp frame (wpE (defs₀ (F := Ideal)) Variants.none (c : Thread nD τ) none) E (flush PUnit.unit) fun _ => hold c arg3 arg4 arg5 arg6 arg7 arg8 arg9 arg10 arg11 arg12 arg13 arg14 arg15 arg16 arg17 x0 x1 x2 x3 x4 x5 x6 y7 (out i y8 s0) (out i y9 s1) (outC i y10 s2) y11 s0 s1 s2 := by
    intro y7 y11 s0 s1 s2
    simp only [flush, ret]
    unfold hold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, HS0⟩, ⟨%f13, %hf13, HS1⟩, ⟨%f14, %hf14, HS2⟩⟩
    obtain rfl := harg3.eq_unread hf0; obtain rfl := harg4.eq_unread hf1; obtain rfl := harg5.eq_unread hf2; obtain rfl := harg6.eq_unread hf3; obtain rfl := harg7.eq_unread hf4
    obtain rfl := harg8.eq_unread hf5; obtain rfl := harg9.eq_unread hf6; obtain rfl := harg10.eq_unread hf7; obtain rfl := harg11.eq_unread hf8; obtain rfl := harg12.eq_unread hf9
    obtain rfl := harg13.eq_unread hf10; obtain rfl := harg14.eq_unread hf11; obtain rfl := harg15.eq_unread hf12; obtain rfl := harg16.eq_unread hf13; obtain rfl := harg17.eq_unread hf14
    by_cases hc : k0_cond7 i = 1#1
    · have h7 := h.c7.mp hc
      sl_exec (disch := sl_exact hc)
      sl_step
      isplitl [H0]
      · iexists _; isplitr
        swap
        · iexact H0
        · ipureintro; exact harg3.read_unread _
      isplitl [H1]
      · iexists _; isplitr
        swap
        · iexact H1
        · ipureintro; exact harg4.read_unread _
      isplitl [H2]
      · iexists _; isplitr
        swap
        · iexact H2
        · ipureintro; exact harg5.read_unread _
      isplitl [H3]
      · iexists _; isplitr
        swap
        · iexact H3
        · ipureintro; exact harg6.read_unread _
      isplitl [H4]
      · iexists _; isplitr
        swap
        · iexact H4
        · ipureintro; exact harg7.read_unread _
      isplitl [H5]
      · iexists _; isplitr
        swap
        · iexact H5
        · ipureintro; exact harg8.read_unread _
      isplitl [H6]
      · iexists _; isplitr
        swap
        · iexact H6
        · ipureintro; exact harg9.read_unread _
      isplitl [H7]
      · iexists _; isplitr
        swap
        · iexact H7
        · ipureintro; exact harg10.read_unread _
      isplitl [H8]
      · iexists _; isplitr
        swap
        · iexact H8
        · ipureintro; exact (View.read_writes_full _ _ _ _ _).trans (((pay6_eq _).trans (whole arg15 harg15 s0)).trans (if_pos h7).symm)
      isplitl [H9]
      · iexists _; isplitr
        swap
        · iexact H9
        · ipureintro; exact (View.read_writes_full _ _ _ _ _).trans (((pay7_eq _).trans (whole arg16 harg16 s1)).trans (if_pos h7).symm)
      isplitl [H10]
      · iexists _; isplitr
        swap
        · iexact H10
        · ipureintro; exact (View.read_writes_full _ _ _ _ _).trans (((pay8_eq _).trans (congrArg (fun (s : Vec Ideal S8x512 .f32) (j : S1x8x512.Idx) => s (ix2 (j 1) (j 2))) (wholeC arg17 harg17 s2))).trans (if_pos h7).symm)
      isplitl [H11]
      · iexists _; isplitr
        swap
        · iexact H11
        · ipureintro; exact harg14.read_unread _
      isplitl [HS0]
      · iexists _; isplitr
        swap
        · iexact HS0
        · ipureintro; exact harg15.read_unread _
      isplitl [HS1]
      · iexists _; isplitr
        swap
        · iexact HS1
        · ipureintro; exact harg16.read_unread _
      iexists _; isplitr
      swap
      · iexact HS2
      · ipureintro; exact harg17.read_unread _
    · have h7 := fun e => hc (h.c7.mpr e)
      sl_exec (disch := sl_exact hc)
      sl_step
      isplitl [H0]
      · iexists _; isplitr
        swap
        · iexact H0
        · ipureintro; exact harg3.read_unread _
      isplitl [H1]
      · iexists _; isplitr
        swap
        · iexact H1
        · ipureintro; exact harg4.read_unread _
      isplitl [H2]
      · iexists _; isplitr
        swap
        · iexact H2
        · ipureintro; exact harg5.read_unread _
      isplitl [H3]
      · iexists _; isplitr
        swap
        · iexact H3
        · ipureintro; exact harg6.read_unread _
      isplitl [H4]
      · iexists _; isplitr
        swap
        · iexact H4
        · ipureintro; exact harg7.read_unread _
      isplitl [H5]
      · iexists _; isplitr
        swap
        · iexact H5
        · ipureintro; exact harg8.read_unread _
      isplitl [H6]
      · iexists _; isplitr
        swap
        · iexact H6
        · ipureintro; exact harg9.read_unread _
      isplitl [H7]
      · iexists _; isplitr
        swap
        · iexact H7
        · ipureintro; exact harg10.read_unread _
      isplitl [H8]
      · iexists _; isplitr
        swap
        · iexact H8
        · ipureintro; exact (harg11.read_unread _).trans (if_neg h7).symm
      isplitl [H9]
      · iexists _; isplitr
        swap
        · iexact H9
        · ipureintro; exact (harg12.read_unread _).trans (if_neg h7).symm
      isplitl [H10]
      · iexists _; isplitr
        swap
        · iexact H10
        · ipureintro; exact (harg13.read_unread _).trans (if_neg h7).symm
      isplitl [H11]
      · iexists _; isplitr
        swap
        · iexact H11
        · ipureintro; exact harg14.read_unread _
      isplitl [HS0]
      · iexists _; isplitr
        swap
        · iexact HS0
        · ipureintro; exact harg15.read_unread _
      isplitl [HS1]
      · iexists _; isplitr
        swap
        · iexact HS1
        · ipureintro; exact harg16.read_unread _
      iexists _; isplitr
      swap
      · iexact HS2
      · ipureintro; exact harg17.read_unread _
  clear_value flush
  have hstage : ∀ s0 s1 s2, hold c arg3 arg4 arg5 arg6 arg7 arg8 arg9 arg10 arg11 arg12 arg13 arg14 arg15 arg16 arg17 x0 x1 x2 x3 x4 x5 x6 y7 y8 y9 y10 y11 s0 s1 s2
      ⊢ wp frame (wpE (defs₀ (F := Ideal)) Variants.none (c : Thread nD τ) none) E (stage PUnit.unit) fun _ => hold c arg3 arg4 arg5 arg6 arg7 arg8 arg9 arg10 arg11 arg12 arg13 arg14 arg15 arg16 arg17 x0 x1 x2 x3 x4 x5 x6 (workR (blocks i x0 x1 x2 x3 x4 x5 x6) y7 dq)
          (out i y8 (work (blocks i x0 x1 x2 x3 x4 x5 x6) s0 dk)) (out i y9 (work (blocks i x0 x1 x2 x3 x4 x5 x6) s1 dv)) (outC i y10 (workC (blocks i x0 x1 x2 x3 x4 x5 x6) s2)) (workR (blocks i x0 x1 x2 x3 x4 x5 x6) y11 dr)
          (work (blocks i x0 x1 x2 x3 x4 x5 x6) s0 dk) (work (blocks i x0 x1 x2 x3 x4 x5 x6) s1 dv) (workC (blocks i x0 x1 x2 x3 x4 x5 x6) s2) := by
    intro s0 s1 s2
    have next := hflush (workR (blocks i x0 x1 x2 x3 x4 x5 x6) y7 dq) (workR (blocks i x0 x1 x2 x3 x4 x5 x6) y11 dr) (work (blocks i x0 x1 x2 x3 x4 x5 x6) s0 dk) (work (blocks i x0 x1 x2 x3 x4 x5 x6) s1 dv) (workC (blocks i x0 x1 x2 x3 x4 x5 x6) s2)
    generalize (fun _ : PUnit => hold c arg3 arg4 arg5 arg6 arg7 arg8 arg9 arg10 arg11 arg12 arg13 arg14 arg15 arg16 arg17 x0 x1 x2 x3 x4 x5 x6 (workR (blocks i x0 x1 x2 x3 x4 x5 x6) y7 dq)
          (out i y8 (work (blocks i x0 x1 x2 x3 x4 x5 x6) s0 dk)) (out i y9 (work (blocks i x0 x1 x2 x3 x4 x5 x6) s1 dv)) (outC i y10 (workC (blocks i x0 x1 x2 x3 x4 x5 x6) s2)) (workR (blocks i x0 x1 x2 x3 x4 x5 x6) y11 dr)
          (work (blocks i x0 x1 x2 x3 x4 x5 x6) s0 dk) (work (blocks i x0 x1 x2 x3 x4 x5 x6) s1 dv) (workC (blocks i x0 x1 x2 x3 x4 x5 x6) s2)) = K at next ⊢
    simp only [stage, flush', k0_part1_eq_skeleton, k0_part2_eq_skeleton, k0_part3_eq_skeleton, k0_part4_eq_skeleton]
    unfold hold owns at next ⊢
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, HS0⟩, ⟨%f13, %hf13, HS1⟩, ⟨%f14, %hf14, HS2⟩⟩
    obtain rfl := harg3.eq_unread hf0; obtain rfl := harg4.eq_unread hf1; obtain rfl := harg5.eq_unread hf2; obtain rfl := harg6.eq_unread hf3; obtain rfl := harg7.eq_unread hf4
    obtain rfl := harg8.eq_unread hf5; obtain rfl := harg9.eq_unread hf6; obtain rfl := harg10.eq_unread hf7; obtain rfl := harg11.eq_unread hf8; obtain rfl := harg12.eq_unread hf9
    obtain rfl := harg13.eq_unread hf10; obtain rfl := harg14.eq_unread hf11; obtain rfl := harg15.eq_unread hf12; obtain rfl := harg16.eq_unread hf13; obtain rfl := harg17.eq_unread hf14
    by_cases hc : k0_cond2 i = 1#1
    · have hle : (blocks i x0 x1 x2 x3 x4 x5 x6).kb ≤ (blocks i x0 x1 x2 x3 x4 x5 x6).qb := h.c2.mp hc
      by_cases hz : (blocks i x0 x1 x2 x3 x4 x5 x6).kb = 0
      · have hc3 := h.c3.mpr hz
        have hc4 : ¬ k0_cond4 i = 1#1 := fun e => h.c4.mp e hz
        have hc5 := h.c5.mpr hz
        have hc6 : ¬ k0_cond6 i = 1#1 := fun e => h.c6.mp e hz
        sl_exec (disch := first | sl_exact hc | sl_exact hc3 | sl_exact hc4 | sl_exact hc5 | sl_exact hc6)
        iapply next
        isplitl [H0]
        · iexists _; isplitr
          swap
          · iexact H0
          · ipureintro; exact harg3.read_unread _
        isplitl [H1]
        · iexists _; isplitr
          swap
          · iexact H1
          · ipureintro; exact harg4.read_unread _
        isplitl [H2]
        · iexists _; isplitr
          swap
          · iexact H2
          · ipureintro; exact harg5.read_unread _
        isplitl [H3]
        · iexists _; isplitr
          swap
          · iexact H3
          · ipureintro; exact harg6.read_unread _
        isplitl [H4]
        · iexists _; isplitr
          swap
          · iexact H4
          · ipureintro; exact harg7.read_unread _
        isplitl [H5]
        · iexists _; isplitr
          swap
          · iexact H5
          · ipureintro; exact harg8.read_unread _
        isplitl [H6]
        · iexists _; isplitr
          swap
          · iexact H6
          · ipureintro; exact harg9.read_unread _
        isplitl [H7]
        · iexists _; isplitr
          swap
          · iexact H7
          · ipureintro; exact (stored_dq (holds i arg6 harg6 x0 x1 x2 x3 x4 x5 x6 h _ _) (whole arg3 harg3 x0) (whole arg4 harg4 x1) (whole arg5 harg5 x2) (whole arg7 harg7 x4) (whole arg8 harg8 x5) (whole arg9 harg9 x6) arg10 harg10 y7 h.o2 h.o4 _ _).trans ((if_pos hle).trans (if_pos hz)).symm
        isplitl [H8]
        · iexists _; isplitr
          swap
          · iexact H8
          · ipureintro; exact harg11.read_unread _
        isplitl [H9]
        · iexists _; isplitr
          swap
          · iexact H9
          · ipureintro; exact harg12.read_unread _
        isplitl [H10]
        · iexists _; isplitr
          swap
          · iexact H10
          · ipureintro; exact harg13.read_unread _
        isplitl [H11]
        · iexists _; isplitr
          swap
          · iexact H11
          · ipureintro; exact (stored_dr (holds i arg6 harg6 x0 x1 x2 x3 x4 x5 x6 h _ _) (whole arg3 harg3 x0) (whole arg4 harg4 x1) (whole arg5 harg5 x2) (whole arg7 harg7 x4) (whole arg8 harg8 x5) (whole arg9 harg9 x6) arg14 harg14 y11 h.o2 h.o4 _ _).trans ((if_pos hle).trans (if_pos hz)).symm
        isplitl [HS0]
        · iexists _; isplitr
          swap
          · iexact HS0
          · ipureintro; exact (stored_dk (holds i arg6 harg6 x0 x1 x2 x3 x4 x5 x6 h _ _) (whole arg3 harg3 x0) (whole arg4 harg4 x1) (whole arg5 harg5 x2) (whole arg7 harg7 x4) (whole arg8 harg8 x5) (whole arg9 harg9 x6) arg15 harg15 s0).trans (if_pos hle).symm
        isplitl [HS1]
        · iexists _; isplitr
          swap
          · iexact HS1
          · ipureintro; exact (stored_dv (holds i arg6 harg6 x0 x1 x2 x3 x4 x5 x6 h _ _) (whole arg3 harg3 x0) (whole arg4 harg4 x1) (whole arg5 harg5 x2) (whole arg7 harg7 x4) (whole arg8 harg8 x5) (whole arg9 harg9 x6) arg16 harg16 s1).trans (if_pos hle).symm
        iexists _; isplitr
        swap
        · iexact HS2
        · ipureintro; exact (stored_dc (holds i arg6 harg6 x0 x1 x2 x3 x4 x5 x6 h _ _) (whole arg3 harg3 x0) (whole arg4 harg4 x1) (whole arg5 harg5 x2) (whole arg7 harg7 x4) (whole arg8 harg8 x5) (whole arg9 harg9 x6) arg17 harg17 s2).trans (if_pos hle).symm
      · have hc3 : ¬ k0_cond3 i = 1#1 := fun e => hz (h.c3.mp e)
        have hc4 := h.c4.mpr hz
        have hc5 : ¬ k0_cond5 i = 1#1 := fun e => hz (h.c5.mp e)
        have hc6 := h.c6.mpr hz
        sl_exec (disch := first | sl_exact hc | sl_exact hc3 | sl_exact hc4 | sl_exact hc5 | sl_exact hc6)
        iapply next
        isplitl [H0]
        · iexists _; isplitr
          swap
          · iexact H0
          · ipureintro; exact harg3.read_unread _
        isplitl [H1]
        · iexists _; isplitr
          swap
          · iexact H1
          · ipureintro; exact harg4.read_unread _
        isplitl [H2]
        · iexists _; isplitr
          swap
          · iexact H2
          · ipureintro; exact harg5.read_unread _
        isplitl [H3]
        · iexists _; isplitr
          swap
          · iexact H3
          · ipureintro; exact harg6.read_unread _
        isplitl [H4]
        · iexists _; isplitr
          swap
          · iexact H4
          · ipureintro; exact harg7.read_unread _
        isplitl [H5]
        · iexists _; isplitr
          swap
          · iexact H5
          · ipureintro; exact harg8.read_unread _
        isplitl [H6]
        · iexists _; isplitr
          swap
          · iexact H6
          · ipureintro; exact harg9.read_unread _
        isplitl [H7]
        · iexists _; isplitr
          swap
          · iexact H7
          · ipureintro; exact (added_dq (holds i arg6 harg6 x0 x1 x2 x3 x4 x5 x6 h _ _) (whole arg3 harg3 x0) (whole arg4 harg4 x1) (whole arg5 harg5 x2) (whole arg7 harg7 x4) (whole arg8 harg8 x5) (whole arg9 harg9 x6) arg10 harg10 y7 h.o3 h.o5 _ _).trans ((if_pos hle).trans (if_neg hz)).symm
        isplitl [H8]
        · iexists _; isplitr
          swap
          · iexact H8
          · ipureintro; exact harg11.read_unread _
        isplitl [H9]
        · iexists _; isplitr
          swap
          · iexact H9
          · ipureintro; exact harg12.read_unread _
        isplitl [H10]
        · iexists _; isplitr
          swap
          · iexact H10
          · ipureintro; exact harg13.read_unread _
        isplitl [H11]
        · iexists _; isplitr
          swap
          · iexact H11
          · ipureintro; exact (added_dr (holds i arg6 harg6 x0 x1 x2 x3 x4 x5 x6 h _ _) (whole arg3 harg3 x0) (whole arg4 harg4 x1) (whole arg5 harg5 x2) (whole arg7 harg7 x4) (whole arg8 harg8 x5) (whole arg9 harg9 x6) arg14 harg14 y11 h.o3 h.o5 _ _).trans ((if_pos hle).trans (if_neg hz)).symm
        isplitl [HS0]
        · iexists _; isplitr
          swap
          · iexact HS0
          · ipureintro; exact (stored_dk (holds i arg6 harg6 x0 x1 x2 x3 x4 x5 x6 h _ _) (whole arg3 harg3 x0) (whole arg4 harg4 x1) (whole arg5 harg5 x2) (whole arg7 harg7 x4) (whole arg8 harg8 x5) (whole arg9 harg9 x6) arg15 harg15 s0).trans (if_pos hle).symm
        isplitl [HS1]
        · iexists _; isplitr
          swap
          · iexact HS1
          · ipureintro; exact (stored_dv (holds i arg6 harg6 x0 x1 x2 x3 x4 x5 x6 h _ _) (whole arg3 harg3 x0) (whole arg4 harg4 x1) (whole arg5 harg5 x2) (whole arg7 harg7 x4) (whole arg8 harg8 x5) (whole arg9 harg9 x6) arg16 harg16 s1).trans (if_pos hle).symm
        iexists _; isplitr
        swap
        · iexact HS2
        · ipureintro; exact (stored_dc (holds i arg6 harg6 x0 x1 x2 x3 x4 x5 x6 h _ _) (whole arg3 harg3 x0) (whole arg4 harg4 x1) (whole arg5 harg5 x2) (whole arg7 harg7 x4) (whole arg8 harg8 x5) (whole arg9 harg9 x6) arg17 harg17 s2).trans (if_pos hle).symm
    · have hle : ¬ (blocks i x0 x1 x2 x3 x4 x5 x6).kb ≤ (blocks i x0 x1 x2 x3 x4 x5 x6).qb := fun e => hc (h.c2.mpr e)
      sl_exec (disch := sl_exact hc)
      iapply next
      isplitl [H0]
      · iexists _; isplitr
        swap
        · iexact H0
        · ipureintro; exact harg3.read_unread _
      isplitl [H1]
      · iexists _; isplitr
        swap
        · iexact H1
        · ipureintro; exact harg4.read_unread _
      isplitl [H2]
      · iexists _; isplitr
        swap
        · iexact H2
        · ipureintro; exact harg5.read_unread _
      isplitl [H3]
      · iexists _; isplitr
        swap
        · iexact H3
        · ipureintro; exact harg6.read_unread _
      isplitl [H4]
      · iexists _; isplitr
        swap
        · iexact H4
        · ipureintro; exact harg7.read_unread _
      isplitl [H5]
      · iexists _; isplitr
        swap
        · iexact H5
        · ipureintro; exact harg8.read_unread _
      isplitl [H6]
      · iexists _; isplitr
        swap
        · iexact H6
        · ipureintro; exact harg9.read_unread _
      isplitl [H7]
      · iexists _; isplitr
        swap
        · iexact H7
        · ipureintro; exact (harg10.read_unread _).trans (if_neg hle).symm
      isplitl [H8]
      · iexists _; isplitr
        swap
        · iexact H8
        · ipureintro; exact harg11.read_unread _
      isplitl [H9]
      · iexists _; isplitr
        swap
        · iexact H9
        · ipureintro; exact harg12.read_unread _
      isplitl [H10]
      · iexists _; isplitr
        swap
        · iexact H10
        · ipureintro; exact harg13.read_unread _
      isplitl [H11]
      · iexists _; isplitr
        swap
        · iexact H11
        · ipureintro; exact (harg14.read_unread _).trans (if_neg hle).symm
      isplitl [HS0]
      · iexists _; isplitr
        swap
        · iexact HS0
        · ipureintro; exact (harg15.read_unread _).trans (if_neg hle).symm
      isplitl [HS1]
      · iexists _; isplitr
        swap
        · iexact HS1
        · ipureintro; exact (harg16.read_unread _).trans (if_neg hle).symm
      iexists _; isplitr
      swap
      · iexact HS2
      · ipureintro; exact (harg17.read_unread _).trans (if_neg hle).symm
  clear_value stage
  have next := hstage (start i s0) (start i s1) (startC i s2)
  generalize (fun _ : PUnit => hold c arg3 arg4 arg5 arg6 arg7 arg8 arg9 arg10 arg11 arg12 arg13 arg14 arg15 arg16 arg17 x0 x1 x2 x3 x4 x5 x6 (workR (blocks i x0 x1 x2 x3 x4 x5 x6) y7 dq)
          (out i y8 (work (blocks i x0 x1 x2 x3 x4 x5 x6) (start i s0) dk)) (out i y9 (work (blocks i x0 x1 x2 x3 x4 x5 x6) (start i s1) dv)) (outC i y10 (workC (blocks i x0 x1 x2 x3 x4 x5 x6) (startC i s2))) (workR (blocks i x0 x1 x2 x3 x4 x5 x6) y11 dr)
          (work (blocks i x0 x1 x2 x3 x4 x5 x6) (start i s0) dk) (work (blocks i x0 x1 x2 x3 x4 x5 x6) (start i s1) dv) (workC (blocks i x0 x1 x2 x3 x4 x5 x6) (startC i s2))) = K at next ⊢
  unfold hold owns at next ⊢
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, HS0⟩, ⟨%f13, %hf13, HS1⟩, ⟨%f14, %hf14, HS2⟩⟩
  obtain rfl := harg3.eq_unread hf0; obtain rfl := harg4.eq_unread hf1; obtain rfl := harg5.eq_unread hf2; obtain rfl := harg6.eq_unread hf3; obtain rfl := harg7.eq_unread hf4
  obtain rfl := harg8.eq_unread hf5; obtain rfl := harg9.eq_unread hf6; obtain rfl := harg10.eq_unread hf7; obtain rfl := harg11.eq_unread hf8; obtain rfl := harg12.eq_unread hf9
  obtain rfl := harg13.eq_unread hf10; obtain rfl := harg14.eq_unread hf11; obtain rfl := harg15.eq_unread hf12; obtain rfl := harg16.eq_unread hf13; obtain rfl := harg17.eq_unread hf14
  by_cases hc : v2 = 1#1
  · have h0 := h.c0.mp hc
    sl_exec (disch := sl_exact hc)
    iapply next
    isplitl [H0]
    · iexists _; isplitr
      swap
      · iexact H0
      · ipureintro; exact harg3.read_unread _
    isplitl [H1]
    · iexists _; isplitr
      swap
      · iexact H1
      · ipureintro; exact harg4.read_unread _
    isplitl [H2]
    · iexists _; isplitr
      swap
      · iexact H2
      · ipureintro; exact harg5.read_unread _
    isplitl [H3]
    · iexists _; isplitr
      swap
      · iexact H3
      · ipureintro; exact harg6.read_unread _
    isplitl [H4]
    · iexists _; isplitr
      swap
      · iexact H4
      · ipureintro; exact harg7.read_unread _
    isplitl [H5]
    · iexists _; isplitr
      swap
      · iexact H5
      · ipureintro; exact harg8.read_unread _
    isplitl [H6]
    · iexists _; isplitr
      swap
      · iexact H6
      · ipureintro; exact harg9.read_unread _
    isplitl [H7]
    · iexists _; isplitr
      swap
      · iexact H7
      · ipureintro; exact harg10.read_unread _
    isplitl [H8]
    · iexists _; isplitr
      swap
      · iexact H8
      · ipureintro; exact harg11.read_unread _
    isplitl [H9]
    · iexists _; isplitr
      swap
      · iexact H9
      · ipureintro; exact harg12.read_unread _
    isplitl [H10]
    · iexists _; isplitr
      swap
      · iexact H10
      · ipureintro; exact harg13.read_unread _
    isplitl [H11]
    · iexists _; isplitr
      swap
      · iexact H11
      · ipureintro; exact harg14.read_unread _
    isplitl [HS0]
    · iexists _; isplitr
      swap
      · iexact HS0
      · ipureintro; exact (View.read_writes_full _ _ _ _ _).trans (pay1_eq.trans (if_pos h0).symm)
    isplitl [HS1]
    · iexists _; isplitr
      swap
      · iexact HS1
      · ipureintro; exact (View.read_writes_full _ _ _ _ _).trans (pay2_eq.trans (if_pos h0).symm)
    iexists _; isplitr
    swap
    · iexact HS2
    · ipureintro; exact (View.read_writes_full _ _ _ _ _).trans (pay3_eq.trans (if_pos h0).symm)
  · have h0 := fun e => hc (h.c0.mpr e)
    sl_exec (disch := sl_exact hc)
    iapply next
    isplitl [H0]
    · iexists _; isplitr
      swap
      · iexact H0
      · ipureintro; exact harg3.read_unread _
    isplitl [H1]
    · iexists _; isplitr
      swap
      · iexact H1
      · ipureintro; exact harg4.read_unread _
    isplitl [H2]
    · iexists _; isplitr
      swap
      · iexact H2
      · ipureintro; exact harg5.read_unread _
    isplitl [H3]
    · iexists _; isplitr
      swap
      · iexact H3
      · ipureintro; exact harg6.read_unread _
    isplitl [H4]
    · iexists _; isplitr
      swap
      · iexact H4
      · ipureintro; exact harg7.read_unread _
    isplitl [H5]
    · iexists _; isplitr
      swap
      · iexact H5
      · ipureintro; exact harg8.read_unread _
    isplitl [H6]
    · iexists _; isplitr
      swap
      · iexact H6
      · ipureintro; exact harg9.read_unread _
    isplitl [H7]
    · iexists _; isplitr
      swap
      · iexact H7
      · ipureintro; exact harg10.read_unread _
    isplitl [H8]
    · iexists _; isplitr
      swap
      · iexact H8
      · ipureintro; exact harg11.read_unread _
    isplitl [H9]
    · iexists _; isplitr
      swap
      · iexact H9
      · ipureintro; exact harg12.read_unread _
    isplitl [H10]
    · iexists _; isplitr
      swap
      · iexact H10
      · ipureintro; exact harg13.read_unread _
    isplitl [H11]
    · iexists _; isplitr
      swap
      · iexact H11
      · ipureintro; exact harg14.read_unread _
    isplitl [HS0]
    · iexists _; isplitr
      swap
      · iexact HS0
      · ipureintro; exact (harg15.read_unread _).trans (if_neg h0).symm
    isplitl [HS1]
    · iexists _; isplitr
      swap
      · iexact HS1
      · ipureintro; exact (harg16.read_unread _).trans (if_neg h0).symm
    iexists _; isplitr
    swap
    · iexact HS2
    · ipureintro; exact (harg17.read_unread _).trans (if_neg h0).symm

end
end Cert.KernelAttIdeal.Whole
end
-- ==== Proof.AttSum.lean ====
/- What the attention backward call has summed after a number of grid points: the gradient of a key block over the query
   blocks from its own on, the gradient of a query row over the key blocks up to its own. -/
module

public import proofs.«01_k».proof.Proof.AttRun

@[expose] public section

set_option maxRecDepth 16384

noncomputable section

namespace Cert.KernelAttIdeal.Whole

open Cert.KernelAttIdeal Cert.KernelAttIdeal.Gen Cert.KernelAttIdeal.Tile
open Idealize.ShloMosaic Idealize.ShloMosaic.TcCoe Idealize.ShloMosaic.Tactic

variable (m : (ℓ : Loc nD τ sig) → Buf (Elt Ideal) ℓ) (c : Dev nD)

/-- A point's coordinates: the pair of heads, the key block, the query block. -/
theorem crd : ∀ t : Fin cfg0.N, (grid0.coords t 0).val = t.val / 64 ∧ (grid0.coords t 1).val = t.val / 8 % 8 ∧ (grid0.coords t 2).val = t.val % 8 :=
  (by decide +kernel : ∀ t : Fin grid0.N, _)

/-- The blocks the body holds at a point. -/
def T (t : Fin cfg0.N) : Blocks :=
  blocks (grid0.coords t) (iblk m c 0 t) (iblk m c 1 t) (iblk m c 2 t) (iblk m c 3 t) (iblk m c 4 t) (iblk m c 5 t) (iblk m c 6 t)

theorem T_kb (t : Fin cfg0.N) : (T m c t).kb = t.val / 8 % 8 := (crd t).2.1
theorem T_qb (t : Fin cfg0.N) : (T m c t).qb = t.val % 8 := (crd t).2.2

/-- A block's gradient at the point of number `n`. -/
def term {α β : Type} (D : Blocks → α → β → EReal) (n : ℕ) (a : α) (b : β) : EReal := if h : n < cfg0.N then D (T m c ⟨n, h⟩) a b else 0

theorem term_at {α β : Type} (D : Blocks → α → β → EReal) (t : Fin cfg0.N) (a : α) (b : β) : term m c D t.val a b = D (T m c t) a b := dif_pos t.isLt

/-- How many key blocks query block `b` has met after point `n`. -/
def seen (n b : ℕ) : ℕ := if b ≤ n % 8 then min (n / 8 % 8 + 1) (b + 1) else min (n / 8 % 8) (b + 1)

def sumR (D : Blocks → Fin 512 → Fin 128 → EReal) (n : ℕ) (y : S4096x128.Idx) : EReal :=
  ∑ k ∈ Finset.range (seen n ((y 0).val / 512)),
    term m c D (64 * (n / 64) + 8 * k + (y 0).val / 512) (⟨(y 0).val % 512, Nat.mod_lt _ (by decide)⟩ : Fin 512) (y 1)
def okR (D : Blocks → Fin 512 → Fin 128 → EReal) (n : ℕ) (X : S4096x128.Idx → EReal) : Prop :=
  ∀ y : S4096x128.Idx, 0 < seen n ((y 0).val / 512) → X y = sumR m c D n y

def sumS (D : Blocks → Fin 512 → Fin 128 → EReal) (n : ℕ) (y : S512x128.Idx) : EReal :=
  ∑ q ∈ Finset.Ico (n / 8 % 8) (n % 8 + 1), term m c D (8 * (n / 8) + q) (y 0) (y 1)
def okS (D : Blocks → Fin 512 → Fin 128 → EReal) (n : ℕ) (X : S512x128.Idx → EReal) : Prop :=
  n / 8 % 8 ≤ n % 8 → ∀ y : S512x128.Idx, X y = sumS m c D n y

def sumC (n : ℕ) (y : S8x512.Idx) : EReal :=
  if h : (y 0).val < 2 then ∑ q ∈ Finset.Ico (n / 8 % 8) (n % 8 + 1), term m c dc (8 * (n / 8) + q) (⟨(y 0).val, h⟩ : Fin 2) (y 1) else 0
def okC (n : ℕ) (X : S8x512.Idx → EReal) : Prop := n / 8 % 8 ≤ n % 8 → ∀ y : S8x512.Idx, X y = sumC m c n y

/-- The point before, in the same pair of heads. -/
theorem before (n : ℕ) (h : n % 64 ≠ 0) :
    (0 < n % 8 ∧ (n - 1) % 8 = n % 8 - 1 ∧ (n - 1) / 8 % 8 = n / 8 % 8) ∨ (n % 8 = 0 ∧ 0 < n / 8 % 8 ∧ (n - 1) % 8 = 7 ∧ (n - 1) / 8 % 8 = n / 8 % 8 - 1) := by
  omega

theorem seen_keep (n b : ℕ) (h : n % 64 ≠ 0) (hb : b < 8) (hn : ¬(n / 8 % 8 ≤ n % 8 ∧ b = n % 8)) : seen (n - 1) b = seen n b := by
  unfold seen
  rcases before n h with ⟨h1, e1, e2⟩ | ⟨h1, h2, e1, e2⟩ <;> rw [e1, e2] <;> generalize n / 8 % 8 = k at * <;> generalize n % 8 = q at *
  · split_ifs <;> omega
  · split_ifs <;> omega

theorem seen_add (n b : ℕ) (k0 : n / 8 % 8 ≠ 0) (hb : b = n % 8) (w : n / 8 % 8 ≤ n % 8) : seen (n - 1) b = n / 8 % 8 := by
  unfold seen
  rcases before n (by omega) with ⟨h1, e1, e2⟩ | ⟨h1, h2, e1, e2⟩ <;> rw [e1, e2] <;> generalize n / 8 % 8 = k at * <;> generalize n % 8 = q at *
  · split_ifs <;> omega
  · omega

theorem stepR (D : Blocks → Fin 512 → Fin 128 → EReal) (t : Fin cfg0.N) (Y : Vec Ideal S4096x128 .f32)
    (hY : t.val % 64 ≠ 0 → okR m c D (t.val - 1) Y) : okR m c D t.val (workR (T m c t) Y D) := by
  intro y hy
  have hb : (y 0).val / 512 < 8 := by have : (y 0).val < 4096 := (y 0).isLt; omega
  have keep : (¬(t.val / 8 % 8 ≤ t.val % 8 ∧ (y 0).val / 512 = t.val % 8)) → Y y = sumR m c D t.val y := fun hn => by
    have h0 : t.val % 64 ≠ 0 := fun h => by unfold seen at hy; split_ifs at hy <;> omega
    have e : seen (t.val - 1) ((y 0).val / 512) = seen t.val ((y 0).val / 512) := seen_keep _ _ h0 hb hn
    have e' : (t.val - 1) / 64 = t.val / 64 := by omega
    have := hY h0 y (by rw [e]; exact hy)
    unfold sumR at this ⊢
    rw [e, e'] at this
    exact this
  unfold workR
  rw [T_kb, T_qb]
  by_cases w : t.val / 8 % 8 ≤ t.val % 8
  · rw [if_pos w]
    by_cases b : (y 0).val / 512 = t.val % 8
    · have e : seen t.val ((y 0).val / 512) = t.val / 8 % 8 + 1 := by unfold seen; split_ifs <;> omega
      have n : 64 * (t.val / 64) + 8 * (t.val / 8 % 8) + (y 0).val / 512 = t.val := by omega
      unfold sumR
      rw [e, Finset.sum_range_succ, n, term_at m c D t _ (y 1)]
      by_cases k0 : t.val / 8 % 8 = 0
      · rw [if_pos k0, k0, Finset.range_zero, Finset.sum_empty, zero_add]
        exact if_pos b
      · rw [if_neg k0]
        refine (if_pos b).trans (congrArg (· + _) ?_)
        have e1 : seen (t.val - 1) ((y 0).val / 512) = t.val / 8 % 8 := seen_add _ _ k0 b w
        have e' : (t.val - 1) / 64 = t.val / 64 := by omega
        have := hY (by omega) y (by rw [e1]; omega)
        unfold sumR at this
        rw [e1, e'] at this
        exact this
    · refine Eq.trans ?_ (keep fun h => b h.2)
      split_ifs
      · exact if_neg b
      · exact if_neg b
  · rw [if_neg w]
    exact keep fun h => w h.1

theorem stepS (D : Blocks → Fin 512 → Fin 128 → EReal) (t : Fin cfg0.N) (s : Vec Ideal S512x128 .f32)
    (hs : 0 < t.val → okS m c D (t.val - 1) s) : okS m c D t.val (work (T m c t) (start (grid0.coords t) s) D) := by
  intro w y
  unfold work start sumS
  rw [T_kb, T_qb, (crd t).2.1, (crd t).2.2, if_pos w, Finset.sum_Ico_succ_top w, show 8 * (t.val / 8) + t.val % 8 = t.val by omega, term_at m c D t (y 0) (y 1)]
  refine congrArg (· + _) ?_
  by_cases e : t.val / 8 % 8 = t.val % 8
  · rw [if_pos e, e, Finset.Ico_self, Finset.sum_empty]
  · rw [if_neg e]
    have := hs (by omega) (by omega) y
    unfold sumS at this
    rw [show (t.val - 1) / 8 = t.val / 8 by omega, show (t.val - 1) % 8 + 1 = t.val % 8 by omega] at this
    exact this

theorem stepC (t : Fin cfg0.N) (s : Vec Ideal S8x512 .f32)
    (hs : 0 < t.val → okC m c (t.val - 1) s) : okC m c t.val (workC (T m c t) (startC (grid0.coords t) s)) := by
  intro w y
  have prev : (if t.val / 8 % 8 = t.val % 8 then fun _ => (0 : EReal) else s) y
      = if h : (y 0).val < 2 then ∑ q ∈ Finset.Ico (t.val / 8 % 8) (t.val % 8), term m c dc (8 * (t.val / 8) + q) (⟨(y 0).val, h⟩ : Fin 2) (y 1) else 0 := by
    by_cases e : t.val / 8 % 8 = t.val % 8
    · rw [if_pos e, e, Finset.Ico_self]; split_ifs <;> simp
    · rw [if_neg e]
      have := hs (by omega) (by omega) y
      unfold sumC at this
      rw [show (t.val - 1) / 8 = t.val / 8 by omega, show (t.val - 1) % 8 + 1 = t.val % 8 by omega] at this
      exact this
  unfold workC startC sumC
  rw [T_kb, T_qb, (crd t).2.1, (crd t).2.2, if_pos w]
  by_cases h : (y 0).val < 2
  · rw [dif_pos h] at prev ⊢
    rw [Finset.sum_Ico_succ_top w, show 8 * (t.val / 8) + t.val % 8 = t.val by omega, term_at m c dc t _ (y 1), ← prev]
    exact dif_pos h
  · rw [dif_neg h] at prev ⊢
    exact (dif_neg h).trans prev

end Cert.KernelAttIdeal.Whole

end
-- ==== Proof.AttIdx.lean ====
/- What the attention backward call loads at a point where it works: blocks of the packed queries, keys and values, of the
   decay, of the output gradient, and of the forward lines' output and row log-sum. -/
module

public import proofs.«01_k».proof.Proof.AttHost
public import proofs.«01_k».proof.Proof.AttVal
public import proofs.«01_k».proof.Proof.AttSum

@[expose] public section

set_option maxRecDepth 16384

noncomputable section

open Idealize.ShloMosaic Idealize.ShloMosaic.TcCoe Idealize.SL.Sem

namespace Cert.KernelAttIdeal.Whole

open Cert.KernelAttIdeal Cert.KernelAttIdeal.Gen Cert.KernelAttIdeal.Tile Cert.KernelAttIdeal.Host

variable (m : (ℓ : Loc nD τ sig) → Buf (Elt Ideal) ℓ) (c : Dev nD)

/-- Where each window's block sits. -/
theorem idx : ∀ t : Fin cfg0.N, win0_0.index t = ![max (t.val % 8) (t.val / 8 % 8), 16 + t.val / 64]
    ∧ win0_1.index t = ![t.val / 8 % 8, 24 + t.val / 64] ∧ win0_2.index t = ![t.val / 8 % 8, 32 + t.val / 64]
    ∧ win0_3.index t = ![0, t.val / 8 % 8] ∧ win0_4.index t = ![max (t.val % 8) (t.val / 8 % 8), t.val / 64]
    ∧ win0_5.index t = ![max (t.val % 8) (t.val / 8 % 8), t.val / 64] ∧ win0_6.index t = ![max (t.val % 8) (t.val / 8 % 8), t.val / 64]
    ∧ win0_7.index t = ![0, t.val / 64] ∧ win0_8.index t = ![t.val / 8 % 8, t.val / 64] ∧ win0_9.index t = ![t.val / 8 % 8, t.val / 64]
    ∧ win0_10.index t = ![t.val / 64, 0, t.val / 8 % 8] ∧ win0_11.index t = ![0, t.val / 64] :=
  (by decide +kernel : ∀ t : Fin grid0.N, _)

/-- The packed array: queries, keys and values in the columns from 2048 on. -/
theorem packed : V m c main_v37 = pad S4096x5760 ![0, 2048] ![0, 640] ![0, 0]
    (concatenate S4096x3072 1 [⟨S4096x1024, (m ((c : Thread nD τ).loc main_arg0) : A)⟩, ⟨S4096x1024, (m ((c : Thread nD τ).loc main_arg1) : A)⟩, ⟨S4096x1024, (m ((c : Thread nD τ).loc main_arg2) : A)⟩]
      concatenates_S4096x1024_S4096x1024_S4096x1024_S4096x3072_d1) (sitofp (F := Ideal) .f32 (constantI S_ 32 0#32)) pads_S4096x3072_S4096x5760_000_20486400 h_S_ := by
  simp only [V, hostOps0, hostOps0_1, hostOps0_2, hostOps0_3, List.flatten_cons, List.flatten_nil, List.append_nil, List.cons_append, List.nil_append]
  entry_read
  rfl

end Cert.KernelAttIdeal.Whole

end
-- ==== Proof.AttIn.lean ====
/- The blocks a point loads, as parts of the arrays. -/
module

public import proofs.«01_k».proof.Proof.AttIdx

@[expose] public section

set_option maxRecDepth 16384

noncomputable section

open Idealize.ShloMosaic Idealize.ShloMosaic.TcCoe Idealize.SL.Sem

namespace Cert.KernelAttIdeal.Whole

open Cert.KernelAttIdeal Cert.KernelAttIdeal.Gen Cert.KernelAttIdeal.Tile Cert.KernelAttIdeal.Host

variable (m : (ℓ : Loc nD τ sig) → Buf (Elt Ideal) ℓ) (c : Dev nD)

theorem packed_q (R : Fin 4096) (E : Fin 1024) : V m c main_v37 (ix2 R (⟨2048 + E.val, by omega⟩ : Fin 5760)) = m ((c : Thread nD τ).loc main_arg0) (ix2 R E) := by
  rw [packed]
  pointwise
  exact dif_pos (by omega)
theorem packed_k (R : Fin 4096) (E : Fin 1024) : V m c main_v37 (ix2 R (⟨3072 + E.val, by omega⟩ : Fin 5760)) = m ((c : Thread nD τ).loc main_arg1) (ix2 R E) := by
  rw [packed]
  pointwise
  rw [dif_pos ⟨by omega, by omega⟩, dif_neg (by omega), dif_pos (by omega)]
  exact congrArg (fun z => m ((c : Thread nD τ).loc main_arg1) (ix2 R z)) (Fin.ext (by show 3072 + E.val - 2048 - 1024 = E.val; omega))
theorem packed_v (R : Fin 4096) (E : Fin 1024) : V m c main_v37 (ix2 R (⟨4096 + E.val, by omega⟩ : Fin 5760)) = m ((c : Thread nD τ).loc main_arg2) (ix2 R E) := by
  rw [packed]
  pointwise
  rw [dif_pos ⟨by omega, by omega⟩, dif_neg (by omega), dif_neg (by omega)]
  exact congrArg (fun z => m ((c : Thread nD τ).loc main_arg2) (ix2 R z)) (Fin.ext (by show 4096 + E.val - 2048 - 1024 - 1024 = E.val; omega))

abbrev b0 (t : Fin cfg0.N) : Vec Ideal S512x128 .f32 := iblk m c 0 t
abbrev b1 (t : Fin cfg0.N) : Vec Ideal S512x128 .f32 := iblk m c 1 t
abbrev b2 (t : Fin cfg0.N) : Vec Ideal S512x128 .f32 := iblk m c 2 t
abbrev b3 (t : Fin cfg0.N) : Vec Ideal S16x512 .f32 := iblk m c 3 t
abbrev b4 (t : Fin cfg0.N) : Vec Ideal S512x128 .f32 := iblk m c 4 t
abbrev b5 (t : Fin cfg0.N) : Vec Ideal S512x128 .f32 := iblk m c 5 t
abbrev b6 (t : Fin cfg0.N) : Vec Ideal S512x128 .f32 := iblk m c 6 t

theorem in3 (t : Fin cfg0.N) (a : Fin 16) (k : Fin 512) :
    b3 m c t (ix2 a k) = m ((c : Thread nD τ).loc main_arg3) (ix2 a (bk (t.val / 8 % 8) k)) := by
  have e : ((cfg0.win 3).blk t).view.emb (ix2 a k) = ix2 a (bk (t.val / 8 % 8) k) := by blk_ext [idx t, bk, ce]
  exact (congrArg (V m c main_arg3) e).trans (congrFun (V_main_arg3 m c) _)

/-- A block of the row log-sums, of whatever the buffers hold. -/
theorem part5 (W : (b : Ref sig .tc) → Buf (Elt Ideal) ((c : Thread nD τ).loc b)) (t : Fin cfg0.N) (r : Fin 512) (e : Fin 128) (h : t.val / 8 % 8 ≤ t.val % 8) :
    ((cfg0.win 5).blk t).view.read (Elt Ideal) (W (Pipeline.arrRef spec0 5)) (ix2 r e : S512x128.Idx) = W main_v35 (ix2 (bk (t.val % 8) r) (ce (t.val / 64) e)) := by
  have hN : t.val < 512 := Nat.lt_of_lt_of_eq t.isLt N_0
  have e : ((cfg0.win 5).blk t).view.emb (ix2 r e) = ix2 (bk (t.val % 8) r) (ce (t.val / 64) e) := by blk_ext [idx t, bk, ce]
  exact congrArg (W main_v35) e

section Point
variable (t : Fin cfg0.N) (r : Fin 512) (e : Fin 128)

theorem in1 : b1 m c t (ix2 r e) = m ((c : Thread nD τ).loc main_arg1) (ix2 (bk (t.val / 8 % 8) r) (ce (t.val / 64) e)) := by
  have hN : t.val < 512 := Nat.lt_of_lt_of_eq t.isLt N_0
  have e : ((cfg0.win 1).blk t).view.emb (ix2 r e) = ix2 (bk (t.val / 8 % 8) r) (⟨3072 + (ce (t.val / 64) e).val, by omega⟩ : Fin 5760) := by
    blk_ext [idx t, bk, ce]
  exact (congrArg (V m c main_v37) e).trans (packed_k m c _ _)
theorem in2 : b2 m c t (ix2 r e) = m ((c : Thread nD τ).loc main_arg2) (ix2 (bk (t.val / 8 % 8) r) (ce (t.val / 64) e)) := by
  have hN : t.val < 512 := Nat.lt_of_lt_of_eq t.isLt N_0
  have e : ((cfg0.win 2).blk t).view.emb (ix2 r e) = ix2 (bk (t.val / 8 % 8) r) (⟨4096 + (ce (t.val / 64) e).val, by omega⟩ : Fin 5760) := by
    blk_ext [idx t, bk, ce]
  exact (congrArg (V m c main_v37) e).trans (packed_v m c _ _)

variable (h : t.val / 8 % 8 ≤ t.val % 8)
include h

theorem in0 : b0 m c t (ix2 r e) = m ((c : Thread nD τ).loc main_arg0) (ix2 (bk (t.val % 8) r) (ce (t.val / 64) e)) := by
  have hN : t.val < 512 := Nat.lt_of_lt_of_eq t.isLt N_0
  have e : ((cfg0.win 0).blk t).view.emb (ix2 r e) = ix2 (bk (t.val % 8) r) (⟨2048 + (ce (t.val / 64) e).val, by omega⟩ : Fin 5760) := by
    blk_ext [idx t, bk, ce]
  exact (congrArg (V m c main_v37) e).trans (packed_q m c _ _)
theorem in4 : b4 m c t (ix2 r e) = V m c main_v29 (ix2 (bk (t.val % 8) r) (ce (t.val / 64) e)) := by
  have hN : t.val < 512 := Nat.lt_of_lt_of_eq t.isLt N_0
  have e : ((cfg0.win 4).blk t).view.emb (ix2 r e) = ix2 (bk (t.val % 8) r) (ce (t.val / 64) e) := by blk_ext [idx t, bk, ce]
  exact congrArg (V m c main_v29) e
theorem in5 : b5 m c t (ix2 r e) = V m c main_v35 (ix2 (bk (t.val % 8) r) (ce (t.val / 64) e)) :=
  part5 c (V m c) t r e h
theorem in6 : b6 m c t (ix2 r e) = m ((c : Thread nD τ).loc main_arg4) (ix2 (bk (t.val % 8) r) (ce (t.val / 64) e)) := by
  have hN : t.val < 512 := Nat.lt_of_lt_of_eq t.isLt N_0
  have e : ((cfg0.win 6).blk t).view.emb (ix2 r e) = ix2 (bk (t.val % 8) r) (ce (t.val / 64) e) := by blk_ext [idx t, bk, ce]
  exact (congrArg (V m c main_arg4) e).trans (congrFun (V_main_arg4 m c) _)

end Point

end Cert.KernelAttIdeal.Whole

end
-- ==== Proof.AttReads.lean ====
/- The blocks of a point are those of the arrays (AttVal.lean's `Reads`). -/
module

public import proofs.«01_k».proof.Proof.AttIn

@[expose] public section

set_option maxRecDepth 16384

noncomputable section

open Idealize.ShloMosaic Idealize.ShloMosaic.TcCoe Idealize.SL.Sem

namespace Cert.KernelAttIdeal.Whole

open Cert.KernelAttIdeal Cert.KernelAttIdeal.Gen Cert.KernelAttIdeal.Tile Cert.KernelAttIdeal.Host

variable (m : (ℓ : Loc nD τ sig) → Buf (Elt Ideal) ℓ) (c : Dev nD)

/-- The arguments are real numbers. -/
structure Real (Q K V W : Fin 4096 → Fin 1024 → ℝ) (G : Fin 16 → Fin 4096 → ℝ) : Prop where
  q : ∀ R E, m ((c : Thread nD τ).loc main_arg0) (ix2 R E) = (Q R E : EReal)
  k : ∀ R E, m ((c : Thread nD τ).loc main_arg1) (ix2 R E) = (K R E : EReal)
  v : ∀ R E, m ((c : Thread nD τ).loc main_arg2) (ix2 R E) = (V R E : EReal)
  g : ∀ H R, m ((c : Thread nD τ).loc main_arg3) (ix2 H R) = (G H R : EReal)
  w : ∀ R E, m ((c : Thread nD τ).loc main_arg4) (ix2 R E) = (W R E : EReal)

theorem reads_of {Q K V W : Fin 4096 → Fin 1024 → ℝ} {G : Fin 16 → Fin 4096 → ℝ} (B : Blocks) (j a b : ℕ) (ea : B.kb = a) (eb : B.qb = b)
    (hj : j < 8) (h1 : a < 8) (h2 : b < 8)
    (q : ∀ r e, B.q (ix2 r e) = (Q (bk b r) (ce j e) : EReal)) (k : ∀ r e, B.k (ix2 r e) = (K (bk a r) (ce j e) : EReal))
    (v : ∀ r e, B.v (ix2 r e) = (V (bk a r) (ce j e) : EReal)) (g : ∀ h r, B.g h r = (G (hh j h) (bk a r) : EReal))
    (o : ∀ r e, B.o (ix2 r e) = (Att.o Q K V G (bk b r) (ce j e) : EReal))
    (lse : ∀ r e, B.lse (ix2 r e) = (Att.lse Q K G (Att.headOf (ce j e)) (bk b r) : EReal))
    (dO : ∀ r e, B.dO (ix2 r e) = (W (bk b r) (ce j e) : EReal)) : Reads Q K V W G B j := by
  subst ea eb
  exact ⟨hj, h1, h2, q, k, v, g, o, lse, dO⟩

/-- Blocks given by their contents. -/
theorem reads_blocks {Q K V W : Fin 4096 → Fin 1024 → ℝ} {G : Fin 16 → Fin 4096 → ℝ} (i : grid0.Coords) (x0 x1 x2 : Vec Ideal S512x128 .f32)
    (x3 : Vec Ideal S16x512 .f32) (x4 x5 x6 : Vec Ideal S512x128 .f32) (j a b : ℕ) (ej : (i 0).val = j) (ea : (i 1).val = a) (eb : (i 2).val = b)
    (hj : j < 8) (h1 : a < 8) (h2 : b < 8)
    (q : ∀ r e, x0 (ix2 r e) = (Q (bk b r) (ce j e) : EReal)) (k : ∀ r e, x1 (ix2 r e) = (K (bk a r) (ce j e) : EReal))
    (v : ∀ r e, x2 (ix2 r e) = (V (bk a r) (ce j e) : EReal)) (g : ∀ h r, x3 (ix2 h r) = (G h (bk a r) : EReal))
    (o : ∀ r e, x4 (ix2 r e) = (Att.o Q K V G (bk b r) (ce j e) : EReal))
    (lse : ∀ r e, x5 (ix2 r e) = (Att.lse Q K G (Att.headOf (ce j e)) (bk b r) : EReal))
    (dO : ∀ r e, x6 (ix2 r e) = (W (bk b r) (ce j e) : EReal)) : Reads Q K V W G (blocks i x0 x1 x2 x3 x4 x5 x6) j := by
  refine reads_of _ j a b ea eb hj h1 h2 q k v (fun h r => ?_) o lse dO
  refine (g _ r).trans (congrArg (fun H => ((G H _ : ℝ) : EReal)) (Fin.ext ?_))
  simp only [hh]
  omega

section Each
variable {Q K V W : Fin 4096 → Fin 1024 → ℝ} {G : Fin 16 → Fin 4096 → ℝ} (A : Real m c Q K V W G) (t : Fin cfg0.N)
include A

theorem out_at (h : t.val / 8 % 8 ≤ t.val % 8) (r : Fin 512) (e : Fin 128) :
    b4 m c t (ix2 r e) = (Att.o Q K V G (bk (t.val % 8) r) (ce (t.val / 64) e) : EReal) :=
  (in4 m c t r e h).trans ((congrFun (read_o m c) _).trans (o_at A.q A.k A.g A.v _ _))

theorem lse_at' (h : t.val / 8 % 8 ≤ t.val % 8) (r : Fin 512) (e : Fin 128) :
    b5 m c t (ix2 r e) = (Att.lse Q K G (Att.headOf (ce (t.val / 64) e)) (bk (t.val % 8) r) : EReal) :=
  (in5 m c t r e h).trans ((congrFun (read_lse m c) _).trans (lse_at A.q A.k A.g _ _))

theorem reads (h : t.val / 8 % 8 ≤ t.val % 8) : Reads Q K V W G (T m c t) (t.val / 64) := by
  have hN : t.val < 512 := Nat.lt_of_lt_of_eq t.isLt N_0
  have key : ∀ x0 x1 x2 x3 x4 x5 x6, b0 m c t = x0 → b1 m c t = x1 → b2 m c t = x2 → b3 m c t = x3 → b4 m c t = x4 → b5 m c t = x5 → b6 m c t = x6 →
      Reads Q K V W G (blocks (grid0.coords t) x0 x1 x2 x3 x4 x5 x6) (t.val / 64) := by
    intro x0 x1 x2 x3 x4 x5 x6 e0 e1 e2 e3 e4 e5 e6
    refine reads_blocks (grid0.coords t) x0 x1 x2 x3 x4 x5 x6 (t.val / 64) (t.val / 8 % 8) (t.val % 8) ?_ (crd t).2.1 (crd t).2.2 (by omega) (by omega) (by omega)
      (fun r e => ?_) (fun r e => ?_) (fun r e => ?_) (fun a r => ?_) (fun r e => ?_) (fun r e => ?_) (fun r e => ?_)
    · have := (crd t).1
      omega
    · rw [← e0]; exact (in0 m c t r e h).trans (A.q _ _)
    · rw [← e1]; exact (in1 m c t r e).trans (A.k _ _)
    · rw [← e2]; exact (in2 m c t r e).trans (A.v _ _)
    · rw [← e3]; exact (in3 m c t a r).trans (A.g _ _)
    · rw [← e4]; exact out_at m c A t h r e
    · rw [← e5]; exact lse_at' m c A t h r e
    · rw [← e6]; exact (in6 m c t r e h).trans (A.w _ _)
  exact key _ _ _ _ _ _ _ rfl rfl rfl rfl rfl rfl rfl

end Each

end Cert.KernelAttIdeal.Whole

end
-- ==== Proof.AttTotal.lean ====
/- The sums over a pair of heads' points, of blocks whose entries are sums of reals: the sums over all rows. -/
module

public import proofs.«01_k».proof.Proof.AttReads

@[expose] public section

set_option maxRecDepth 16384

noncomputable section

open Idealize.ShloMosaic Idealize.ShloMosaic.TcCoe Idealize.SL.Sem

namespace Cert.KernelAttIdeal.Whole

open Cert.KernelAttIdeal Cert.KernelAttIdeal.Gen Cert.KernelAttIdeal.Tile Cert.KernelAttIdeal.Host

variable (m : (ℓ : Loc nD τ sig) → Buf (Elt Ideal) ℓ) (c : Dev nD)

theorem bk_split (R : Fin 4096) : bk (R.val / 512) ⟨R.val % 512, Nat.mod_lt _ (by decide)⟩ = R := Fin.ext (by
  rw [bk_val (by omega)]; show 512 * (R.val / 512) + R.val % 512 = R.val; omega)

theorem bk_lt {a b : ℕ} (ha : a < 8) (hb : b < 8) (h : a < b) (r k : Fin 512) : ¬bk b r ≤ bk a k := fun hh => by
  have := Fin.le_def.1 hh
  rw [bk_val ha, bk_val hb] at this
  omega

/-- What a block leaves of a row, summed over its key blocks, is the sum over all keys. -/
theorem sumR_eq (D : Blocks → Fin 512 → Fin 128 → EReal) (f : Fin 4096 → Fin 4096 → Fin 128 → ℝ) (j : ℕ) (hj : j < 8)
    (hD : ∀ t : Fin cfg0.N, t.val / 64 = j → t.val / 8 % 8 ≤ t.val % 8 → ∀ r e,
      D (T m c t) r e = ((∑ k, f (bk (t.val % 8) r) (bk (t.val / 8 % 8) k) e : ℝ) : EReal))
    (h0 : ∀ R L e, ¬L ≤ R → f R L e = 0) (n : ℕ) (hn : n / 64 = j) (h : n % 64 = 63) (R : Fin 4096) (e : Fin 128) :
    sumR m c D n (ix2 R e) = ((∑ L, f R L e : ℝ) : EReal) := by
  have hb : R.val / 512 < 8 := by omega
  have hs : seen n (R.val / 512) = R.val / 512 + 1 := by unfold seen; split_ifs <;> omega
  have ht : ∀ k ∈ Finset.range (R.val / 512 + 1), term m c D (64 * (n / 64) + 8 * k + R.val / 512) (⟨R.val % 512, Nat.mod_lt _ (by decide)⟩ : Fin 512) e
      = ((∑ r, f R (bk k r) e : ℝ) : EReal) := fun k hk => by
    have hk' := Finset.mem_range.1 hk
    have hN : 64 * (n / 64) + 8 * k + R.val / 512 < cfg0.N := Nat.lt_of_lt_of_eq (by omega) N_0.symm
    have := hD ⟨_, hN⟩ (by show (64 * (n / 64) + 8 * k + R.val / 512) / 64 = j; omega)
      (by show (64 * (n / 64) + 8 * k + R.val / 512) / 8 % 8 ≤ (64 * (n / 64) + 8 * k + R.val / 512) % 8; omega)
      ⟨R.val % 512, Nat.mod_lt _ (by decide)⟩ e
    simp only [show (64 * (n / 64) + 8 * k + R.val / 512) / 8 % 8 = k by omega, show (64 * (n / 64) + 8 * k + R.val / 512) % 8 = R.val / 512 by omega, bk_split] at this
    exact (dif_pos hN).trans this
  unfold sumR
  refine Eq.trans (b := ∑ k ∈ Finset.range (R.val / 512 + 1), ((∑ r, f R (bk k r) e : ℝ) : EReal)) ?_ ?_
  · exact (congrArg (fun z => ∑ k ∈ Finset.range z, term m c D (64 * (n / 64) + 8 * k + R.val / 512) (⟨R.val % 512, Nat.mod_lt _ (by decide)⟩ : Fin 512) e) hs).trans
      (Finset.sum_congr rfl ht)
  · rw [Att.sum_coe]
    refine congrArg _ (sum_upto (fun L => f R L e) hb fun k r hk hlt => h0 _ _ _ ?_)
    have := bk_lt hb hk hlt r ⟨R.val % 512, Nat.mod_lt _ (by decide)⟩
    rwa [bk_split] at this

/-- What a block leaves of a key, summed over its query blocks, is the sum over all rows. -/
theorem sum_query {β : Type} (D : Blocks → Fin 512 → β → EReal) (f : Fin 4096 → Fin 4096 → β → ℝ) (j : ℕ) (hj : j < 8)
    (hD : ∀ t : Fin cfg0.N, t.val / 64 = j → t.val / 8 % 8 ≤ t.val % 8 → ∀ k e,
      D (T m c t) k e = ((∑ r, f (bk (t.val % 8) r) (bk (t.val / 8 % 8) k) e : ℝ) : EReal))
    (h0 : ∀ R L e, ¬L ≤ R → f R L e = 0) (n : ℕ) (hn : n / 64 = j) (h : n % 8 = 7) (k : Fin 512) (e : β) :
    ∑ q ∈ Finset.Ico (n / 8 % 8) (n % 8 + 1), term m c D (8 * (n / 8) + q) k e = ((∑ R, f R (bk (n / 8 % 8) k) e : ℝ) : EReal) := by
  have hb : n / 8 % 8 < 8 := Nat.mod_lt _ (by decide)
  have ht : ∀ q ∈ Finset.Ico (n / 8 % 8) 8, term m c D (8 * (n / 8) + q) k e = ((∑ r, f (bk q r) (bk (n / 8 % 8) k) e : ℝ) : EReal) := fun q hq => by
    have hq' := Finset.mem_Ico.1 hq
    have hN : 8 * (n / 8) + q < cfg0.N := Nat.lt_of_lt_of_eq (by omega) N_0.symm
    have := hD ⟨_, hN⟩ (by show (8 * (n / 8) + q) / 64 = j; omega) (by show (8 * (n / 8) + q) / 8 % 8 ≤ (8 * (n / 8) + q) % 8; omega) k e
    simp only [show (8 * (n / 8) + q) / 8 % 8 = n / 8 % 8 by omega, show (8 * (n / 8) + q) % 8 = q by omega] at this
    exact (dif_pos hN).trans this
  rw [show n % 8 + 1 = 8 by omega, Finset.sum_congr rfl ht, Att.sum_coe]
  exact congrArg _ (sum_from (fun R => f R (bk (n / 8 % 8) k) e) hb fun q r hlt => h0 _ _ _ (bk_lt (by omega) hb hlt k r))

section Each
variable {Q K V W : Fin 4096 → Fin 1024 → ℝ} {G : Fin 16 → Fin 4096 → ℝ} (A : Real m c Q K V W G) (n : ℕ)
include A

theorem dq_total (hN : n < 512) (h : n % 64 = 63) (R : Fin 4096) (e : Fin 128) : sumR m c dq n (ix2 R e)
    = ((∑ L, Att.ds Q K V W G (Att.headOf (ce (n / 64) e)) R L * (1 / 8) * K L (ce (n / 64) e) : ℝ) : EReal) :=
  sumR_eq m c dq (fun R L e => Att.ds Q K V W G (Att.headOf (ce (n / 64) e)) R L * (1 / 8) * K L (ce (n / 64) e)) (n / 64) (by omega)
    (fun t hj hw r e => by have := dq_real (reads m c A t hw) r e; rw [T_kb, T_qb, hj] at this; exact this)
    (fun R L e hm => by rw [Att.ds_masked Q K V W G hm, zero_mul, zero_mul]) n rfl h R e

theorem dr_total (hN : n < 512) (h : n % 64 = 63) (R : Fin 4096) (e : Fin 128) : sumR m c dr n (ix2 R e)
    = ((∑ L, Att.ds Q K V W G (Att.headOf (ce (n / 64) e)) R L : ℝ) : EReal) :=
  sumR_eq m c dr (fun R L e => Att.ds Q K V W G (Att.headOf (ce (n / 64) e)) R L) (n / 64) (by omega)
    (fun t hj hw r e => by have := dr_real (reads m c A t hw) r e; rw [T_kb, T_qb, hj] at this; exact this)
    (fun R L e hm => Att.ds_masked Q K V W G hm) n rfl h R e

theorem dk_total (hN : n < 512) (h : n % 8 = 7) (k : Fin 512) (e : Fin 128) : sumS m c dk n (ix2 k e)
    = ((∑ R, Att.ds Q K V W G (Att.headOf (ce (n / 64) e)) R (bk (n / 8 % 8) k) * (1 / 8) * Q R (ce (n / 64) e) : ℝ) : EReal) :=
  sum_query m c dk (fun R L e => Att.ds Q K V W G (Att.headOf (ce (n / 64) e)) R L * (1 / 8) * Q R (ce (n / 64) e)) (n / 64) (by omega)
    (fun t hj hw r e => by have := dk_real (reads m c A t hw) r e; rw [T_kb, T_qb, hj] at this; exact this)
    (fun R L e hm => by rw [Att.ds_masked Q K V W G hm, zero_mul, zero_mul]) n rfl h k e

theorem dv_total (hN : n < 512) (h : n % 8 = 7) (k : Fin 512) (e : Fin 128) : sumS m c dv n (ix2 k e)
    = ((∑ R, Att.p Q K G (Att.headOf (ce (n / 64) e)) R (bk (n / 8 % 8) k) * W R (ce (n / 64) e) : ℝ) : EReal) :=
  sum_query m c dv (fun R L e => Att.p Q K G (Att.headOf (ce (n / 64) e)) R L * W R (ce (n / 64) e)) (n / 64) (by omega)
    (fun t hj hw r e => by have := dv_real (reads m c A t hw) r e; rw [T_kb, T_qb, hj] at this; exact this)
    (fun R L e hm => by rw [Att.p_masked Q K G hm, zero_mul]) n rfl h k e

theorem dc_total (hN : n < 512) (h : n % 8 = 7) (a : Fin 8) (k : Fin 512) : sumC m c n (ix2 a k)
    = ((if h : a.val < 2 then ∑ R, Att.ds Q K V W G (hh (n / 64) ⟨a.val, h⟩) R (bk (n / 8 % 8) k) else 0 : ℝ) : EReal) := by
  unfold sumC
  by_cases ha : a.val < 2
  · rw [dif_pos ha]
    refine Eq.trans (dif_pos ha) (Eq.trans ?_ (sum_query m c (fun B k h => dc B h k) (fun R L e => Att.ds Q K V W G (hh (n / 64) e) R L) (n / 64) (by omega)
      (fun t hj hw r e => by have := dc_real (reads m c A t hw) e r; rw [T_kb, T_qb, hj] at this; exact this)
      (fun R L e hm => Att.ds_masked Q K V W G hm) n rfl h k ⟨a.val, ha⟩))
    rfl
  · rw [dif_neg ha]
    exact (dif_neg ha).trans EReal.coe_zero.symm

end Each

end Cert.KernelAttIdeal.Whole

end
-- ==== Proof.AttRef.lean ====
/- The derivative of attention as the host computes it, at finite arguments: the gradients of AttReal.lean. -/
module

public import proofs.«01_k».proof.Proof.Gen.ReferenceAttIdeal.Read
public import proofs.«01_k».proof.Proof.AttReal
public import Idealize.ShloMosaic.Lib.WordCmp

@[expose] public section

set_option maxRecDepth 16384

noncomputable section

open Idealize.ShloMosaic Idealize.ShloMosaic.TcCoe Idealize.SL.Sem

namespace Cert.ReferenceAttIdeal.Whole

open Cert.ReferenceAttIdeal Cert.ReferenceAttIdeal.Read Cert.Att

theorem fold_top (P : Fin 4096 → Prop) [DecidablePred P] (f : Fin 4096 → ℝ) (op : EReal → EReal → EReal) [Std.Commutative op] [Std.Associative op]
    (b : EReal) (l : Fin 4096 → EReal) (hop : op = max) (hb : b = ⊥) (hl : ∀ L, l L = msk P f L) : Finset.fold op b l Finset.univ = top P f := by
  subst hop hb
  obtain rfl : l = msk P f := funext hl
  rfl

theorem mask_at (H : Fin 16) (R K : Fin 4096) (x y : EReal) : Scalar.select (val_main_v19_1 (F := Ideal) (ix3 H R K)) x y = if K ≤ R then x else y := by
  have : val_main_v19_1 (F := Ideal) (ix3 H R K) = IntOp.cmpi .sge (BitVec.ofNat 32 R.val) (BitVec.ofNat 32 K.val) := by
    pointwise [val_main_v19_1, val_main_v18, val_main_v17, val_main_v16, val_main_v15, val_main_v14, val_main_v13, val_main_v12, val_main_v11]
  rw [this, show IntOp.cmpi .sge (BitVec.ofNat 32 R.val) (BitVec.ofNat 32 K.val) = IntOp.cmpi .sle (BitVec.ofNat 32 K.val) (BitVec.ofNat 32 R.val) from rfl,
    WordCmp.cmpi_sle_ofNat (by omega) (by omega)]
  by_cases h : K ≤ R
  · rw [if_pos h, decide_eq_true (show K.val ≤ R.val from h)]; rfl
  · rw [if_neg h, decide_eq_false (show ¬K.val ≤ R.val from h)]; rfl

theorem fold_of (q k : FVec Ideal S4096x1024 .f32) (g : FVec Ideal S16x4096 .f32) (P : Fin 4096 → Prop) [DecidablePred P] (f : Fin 4096 → ℝ)
    (H : Fin 16) (R : Fin 4096) (h : ∀ L, val_main_v19_0 (F := Ideal) q k g (ix3 H R L) = msk P f L) : val_main_v20 (F := Ideal) q k g (ix2 H R) = top P f := by
  pointwise [val_main_v20, val_main_cst_1]
  exact fold_top P f _ _ _ rfl neg_inf h

theorem max_bot (a b : Ideal .f32) (h : a = (⊥ : EReal)) : FloatOps.maximumf a b = b := by
  subst h; exact max_eq_right bot_le

theorem low_at (i : S16x4096.Idx) : val_main_v26 (F := Ideal) i = (⊥ : EReal) := by
  pointwise [val_main_v26, val_main_cst_3]
  exact neg_inf

theorem top_of (q k : FVec Ideal S4096x1024 .f32) (g : FVec Ideal S16x4096 .f32) (H : Fin 16) (R : Fin 4096) (t : EReal)
    (h : val_main_v20 (F := Ideal) q k g (ix2 H R) = t) : val_main_v27 (F := Ideal) q k g (ix2 H R) = t := by
  rw [val_main_v27_apply, h]
  exact max_bot _ t (low_at _)

variable {q k v w : FVec Ideal S4096x1024 .f32} {g : FVec Ideal S16x4096 .f32}
  {Q K V W : Fin 4096 → Fin 1024 → ℝ} {G : Fin 16 → Fin 4096 → ℝ}
  (hq : ∀ R E, q (ix2 R E) = (Q R E : EReal)) (hk : ∀ R E, k (ix2 R E) = (K R E : EReal)) (hv : ∀ R E, v (ix2 R E) = (V R E : EReal))
  (hw : ∀ R E, w (ix2 R E) = (W R E : EReal)) (hg : ∀ H R, g (ix2 H R) = (G H R : EReal))

section Weights
include hq hk hg

theorem score_at (H : Fin 16) (R L : Fin 4096) : val_main_v19_0 (F := Ideal) q k g (ix3 H R L) = msk (fun L => L ≤ R) (fun L => s Q K G H R L + G H R) L := by
  refine (mask_at H R L _ _).trans ?_
  have e : val_main_v10 (F := Ideal) q k g (ix3 H R L) = ((s Q K G H R L + G H R : ℝ) : EReal) := by
    pointwise [val_main_v10, val_main_v9, val_main_v8, val_main_v7, val_main_v6, val_main_v5, val_main_v4, val_main_v3, val_main_cst,
      val_main_v2, val_main_v1, val_main_v0]
    have key : ∀ a : EReal, a = ((∑ d, Q R (col H d) * K L (col H d) : ℝ) : EReal) →
        a * Ideal.ofBits .f32 0x3E000000#32 + (g (ix2 H R) - g (ix2 H L)) = ((s Q K G H R L + G H R : ℝ) : EReal) := fun a ha => by
      rw [ha, eighth, hg, hg, ← EReal.coe_mul, ← EReal.coe_sub, ← EReal.coe_add]
      exact congrArg _ (by unfold s; ring)
    refine key _ ?_
    rw [← sum_coe]
    exact Finset.sum_congr rfl fun d _ => by rw [hq, hk, ← EReal.coe_mul]; rfl
  have b : val_main_call0_v2 (F := Ideal) (ix3 H R L) = ⊥ := by
    pointwise [val_main_call0_v2, val_main_call0_v0, val_main_cst_0]
    exact neg_inf
  unfold msk
  rw [e, b]

theorem fold_at (H : Fin 16) (R : Fin 4096) : val_main_v20 (F := Ideal) q k g (ix2 H R) = top (fun L => L ≤ R) (fun L => s Q K G H R L + G H R) :=
  fold_of q k g (fun L => L ≤ R) (fun L => s Q K G H R L + G H R) H R (score_at hq hk hg H R)

theorem top_at (H : Fin 16) (R : Fin 4096) : val_main_v27 (F := Ideal) q k g (ix2 H R) = top (fun L => L ≤ R) (fun L => s Q K G H R L + G H R) :=
  top_of q k g H R _ (fold_at hq hk hg H R)

theorem exp_at (H : Fin 16) (R L : Fin 4096) : val_main_v40 (F := Ideal) q k g (ix3 H R L)
    = Ideal.exp (msk (fun L => L ≤ R) (fun L => s Q K G H R L + G H R) L - top (fun L => L ≤ R) (fun L => s Q K G H R L + G H R)) := by
  pointwise [val_main_v40, val_main_v39, val_main_v38, val_main_v37]
  rw [score_at hq hk hg, top_at hq hk hg]

theorem total_at (H : Fin 16) (R : Fin 4096) (u : Fin 1) : val_main_v42 (F := Ideal) q k g (ix3 H R u)
    = ∑ L, Ideal.exp (msk (fun L => L ≤ R) (fun L => s Q K G H R L + G H R) L - top (fun L => L ≤ R) (fun L => s Q K G H R L + G H R)) := by
  pointwise [val_main_v42, val_main_v41, val_main_cst_9]
  simp only [exp_at hq hk hg]

end Weights

end Cert.ReferenceAttIdeal.Whole

end
-- ==== Proof.AttDs.lean ====
/- The derivative of attention as the host computes it, at finite arguments: the gradients of AttReal.lean. -/
module

public import proofs.«01_k».proof.Proof.AttRef

@[expose] public section

set_option maxRecDepth 16384

noncomputable section

open Idealize.ShloMosaic Idealize.ShloMosaic.TcCoe Idealize.SL.Sem

namespace Cert.ReferenceAttIdeal.Whole

open Cert.ReferenceAttIdeal Cert.ReferenceAttIdeal.Read Cert.Att

variable {q k v w : FVec Ideal S4096x1024 .f32} {g : FVec Ideal S16x4096 .f32}
  {Q K V W : Fin 4096 → Fin 1024 → ℝ} {G : Fin 16 → Fin 4096 → ℝ}
  (hq : ∀ R E, q (ix2 R E) = (Q R E : EReal)) (hk : ∀ R E, k (ix2 R E) = (K R E : EReal)) (hv : ∀ R E, v (ix2 R E) = (V R E : EReal))
  (hw : ∀ R E, w (ix2 R E) = (W R E : EReal)) (hg : ∀ H R, g (ix2 H R) = (G H R : EReal))

section Weights
include hq hk hg

theorem weight_at (H : Fin 16) (R L : Fin 4096) : val_main_v44 (F := Ideal) q k g (ix3 H R L) = (p Q K G H R L : EReal) := by
  pointwise [val_main_v44, val_main_v43]
  obtain ⟨μ, -, h1, h2⟩ := soft (fun L => L ≤ R) (fun L => s Q K G H R L + G H R) (le_refl R)
  rw [exp_at hq hk hg, total_at hq hk hg, h1, h2,
    div_real _ (mul_pos (ex_pos (fun L => L ≤ R) (fun L => s Q K G H R L + G H R) (le_refl R)) (Real.exp_pos (-μ))).ne', mul_div_mul_right _ _ (Real.exp_pos _).ne']
  exact congrArg _ (wt_shift (fun L => L ≤ R) (s Q K G H R) (G H R) L)

end Weights

section Grads
include hv hw

theorem dp_at (H : Fin 16) (R L : Fin 4096) : val_main_v54 (F := Ideal) v w (ix3 H R L) = (dp V W H R L : EReal) := by
  pointwise [val_main_v54, val_main_v53, val_main_v52, val_main_v48]
  unfold dp
  rw [← sum_coe]
  exact Finset.sum_congr rfl fun d _ => by rw [hv, hw, ← EReal.coe_mul]; rfl

include hq hk hg

/-- The score's gradient. -/
theorem ds_at (H : Fin 16) (R L : Fin 4096) : val_main_v70 (F := Ideal) q k v g w (ix3 H R L) = (ds Q K V W G H R L : EReal) := by
  refine (mask_at H R L _ _).trans ?_
  by_cases h : L ≤ R
  swap
  · rw [if_neg h, ds_masked Q K V W G h]
    pointwise [val_main_call1_v0, val_main_call1_cst]
    exact EReal.coe_zero.symm
  rw [if_pos h]
  pointwise [val_main_v69, val_main_v68, val_main_v67, val_main_v66, val_main_v65, val_main_v64, val_main_v63, val_main_v62, val_main_v61, val_main_v60,
    val_main_v59, val_main_v58, val_main_v47, val_main_v46, val_main_v45, val_main_cst_10, val_main_cst_11, val_main_cst_12]
  obtain ⟨μ, -, h1, h2⟩ := soft (fun L => L ≤ R) (fun L => s Q K G H R L + G H R) (le_refl R)
  have hZ : 0 < (∑ L, ex (fun L => L ≤ R) (fun L => s Q K G H R L + G H R) L) * Real.exp (-μ) :=
    mul_pos (ex_pos (fun L => L ≤ R) (fun L => s Q K G H R L + G H R) (le_refl R)) (Real.exp_pos (-μ))
  simp only [exp_at hq hk hg, total_at hq hk hg, dp_at hv hw]
  simp only [h2]
  simp only [h1]
  have := weights (fun L => L ≤ R) (fun L => s Q K G H R L + G H R) (dp V W H R) (Real.exp_pos (-μ)) hZ rfl L
  simp only [Finset.univ_unique, Finset.sum_singleton]
  exact this.trans (congrArg _ (by unfold ds p; simp only [wt_shift (fun L => L ≤ R) (s Q K G H R) (G H R)]))

end Grads

end Cert.ReferenceAttIdeal.Whole

end
-- ==== Proof.AttGrad.lean ====
/- The derivative of attention as the host computes it, at finite arguments: the gradients of AttReal.lean. -/
module

public import proofs.«01_k».proof.Proof.AttDs

@[expose] public section

set_option maxRecDepth 16384

noncomputable section

open Idealize.ShloMosaic Idealize.ShloMosaic.TcCoe Idealize.SL.Sem

namespace Cert.ReferenceAttIdeal.Whole

open Cert.ReferenceAttIdeal Cert.ReferenceAttIdeal.Read Cert.Att

variable {q k v w : FVec Ideal S4096x1024 .f32} {g : FVec Ideal S16x4096 .f32}
  {Q K V W : Fin 4096 → Fin 1024 → ℝ} {G : Fin 16 → Fin 4096 → ℝ}
  (hq : ∀ R E, q (ix2 R E) = (Q R E : EReal)) (hk : ∀ R E, k (ix2 R E) = (K R E : EReal)) (hv : ∀ R E, v (ix2 R E) = (V R E : EReal))
  (hw : ∀ R E, w (ix2 R E) = (W R E : EReal)) (hg : ∀ H R, g (ix2 H R) = (G H R : EReal))

include hq hk hg hv hw

theorem dsk_at (H : Fin 16) (R L : Fin 4096) : val_main_v79 (F := Ideal) q k v g w (ix3 H R L) = ((ds Q K V W G H R L * (1 / 8) : ℝ) : EReal) := by
  pointwise [val_main_v79, val_main_v78, val_main_cst_17]
  rw [ds_at hq hk hv hw hg, eighth, ← EReal.coe_mul]

theorem dq_at (R : Fin 4096) (E : Fin 1024) : val_main_v85 (F := Ideal) q k v g w (ix2 R E) = ((∑ L, ds Q K V W G (headOf E) R L * (1 / 8) * K L E : ℝ) : EReal) := by
  pointwise [val_main_v85, val_main_v83, val_main_v82, val_main_v81, val_main_v1]
  rw [← sum_coe]
  exact Finset.sum_congr rfl fun L _ => by rw [dsk_at hq hk hv hw hg, hk, ← EReal.coe_mul]; rfl

theorem dk_at (L : Fin 4096) (E : Fin 1024) : val_main_v89 (F := Ideal) q k v g w (ix2 L E) = ((∑ R, ds Q K V W G (headOf E) R L * (1 / 8) * Q R E : ℝ) : EReal) := by
  pointwise [val_main_v89, val_main_v84, val_main_v82, val_main_v81, val_main_v80, val_main_v0]
  rw [← sum_coe]
  exact Finset.sum_congr rfl fun R _ => by rw [dsk_at hq hk hv hw hg, hq, ← EReal.coe_mul]; rfl

omit hv in
theorem dv_at (L : Fin 4096) (E : Fin 1024) : val_main_v90 (F := Ideal) q k g w (ix2 L E) = ((∑ R, p Q K G (headOf E) R L * W R E : ℝ) : EReal) := by
  pointwise [val_main_v90, val_main_v57, val_main_v56, val_main_v55, val_main_v53, val_main_v52, val_main_v48]
  rw [← sum_coe]
  exact Finset.sum_congr rfl fun R _ => by rw [weight_at hq hk hg, hw, ← EReal.coe_mul, mul_comm]; rfl

theorem dr_at (R : Fin 4096) (E : Fin 1024) : val_main_v93 (F := Ideal) q k v g w (ix2 R E) = ((∑ L, ds Q K V W G (headOf E) R L : ℝ) : EReal) := by
  pointwise [val_main_v93, val_main_v92, val_main_v91, val_main_v77, val_main_v72, val_main_v71, val_main_cst_13, val_main_cst_16]
  simp only [Finset.univ_unique, Finset.sum_singleton, ds_at hq hk hv hw hg, sum_coe]
  rfl

theorem dc_at (j a : Fin 8) (L : Fin 4096) : val_main_v88 (F := Ideal) q k v g w (ix3 j a L)
    = ((if h : a.val < 2 then ∑ R, ds Q K V W G ⟨j.val * 2 + a.val, by omega⟩ R L else 0 : ℝ) : EReal) := by
  pointwise [val_main_v88, val_main_v87, val_main_v86, val_main_v76, val_main_v75, val_main_v74, val_main_v73, val_main_cst_14, val_main_cst_15,
    val_main_call2_v0, val_main_c]
  simp only [Finset.univ_unique, Finset.sum_singleton, ds_at hq hk hv hw hg, ← EReal.coe_neg, sum_coe]
  by_cases h : a.val < 2
  · rw [dif_pos h, dif_pos h]
    exact congrArg _ (by rw [Finset.sum_neg_distrib, neg_neg])
  · rw [dif_neg h, dif_neg h]
    simp [FloatOps.sitofp]

end Cert.ReferenceAttIdeal.Whole

end
-- ==== Proof.AttDat.lean ====
/- The attention backward call over the reals, run: each result array named by the blocks' gradients, and the frame. -/
module

public import proofs.«01_k».proof.Proof.AttSum
public import Idealize.ShloMosaic.Lib.Pipeline.DatRel
public import Idealize.ShloMosaic.Lib.Pipeline.ArrRel
public import Idealize.ShloMosaic.Lib.Pipeline.ValueKit
public import Idealize.ShloMosaic.Lib.Claim

@[expose] public section

set_option maxRecDepth 16384

noncomputable section

namespace Cert.KernelAttIdeal.Whole

open Cert.KernelAttIdeal Cert.KernelAttIdeal.Gen Cert.KernelAttIdeal.Tile
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

theorem at_iff (i : grid0.Coords) : ((Scalar.cmpi .ne (Scalar.extui (Scalar.cmpi .eq (BitVec.ofNat 32 (i 2).val) (BitVec.ofNat 32 (i 1).val)) : BitVec 32) 0#32 = 1#1 ↔ (i 1).val = (i 2).val) ∧
    (k0_cond2 i = 1#1 ↔ (i 1).val ≤ (i 2).val) ∧
    (k0_cond3 i = 1#1 ↔ (i 1).val = 0) ∧
    (k0_cond4 i = 1#1 ↔ (i 1).val ≠ 0) ∧
    (k0_cond5 i = 1#1 ↔ (i 1).val = 0) ∧
    (k0_cond6 i = 1#1 ↔ (i 1).val ≠ 0) ∧
    (k0_cond7 i = 1#1 ↔ (i 2).val = 7) ∧
    (k0_off1 i 0#32 = ![2 * (i 0).val, 0]) ∧
    (k0_off1 i 1#32 = ![2 * (i 0).val + 1, 0]) ∧
    (k0_off2 i = ![512 * (i 2).val, 0]) ∧
    (k0_off3 i = ![512 * (i 2).val, 0]) ∧
    (k0_off4 i = ![512 * (i 2).val, 64]) ∧
    (k0_off5 i = ![512 * (i 2).val, 64])) ↔ At i :=
  ⟨fun ⟨c0, c2, c3, c4, c5, c6, c7, o0, o1, o2, o3, o4, o5⟩ => ⟨c0, c2, c3, c4, c5, c6, c7, o0, o1, o2, o3, o4, o5⟩, fun ⟨c0, c2, c3, c4, c5, c6, c7, o0, o1, o2, o3, o4, o5⟩ => ⟨c0, c2, c3, c4, c5, c6, c7, o0, o1, o2, o3, o4, o5⟩⟩

instance (i : grid0.Coords) : Decidable (At i) := decidable_of_iff _ (at_iff i)

theorem at_point : ∀ t : Fin cfg0.N, At (grid0.coords t) := (by decide +kernel : ∀ t : Fin grid0.N, At (grid0.coords t))

/-- The scratch the kernel carries. -/
abbrev sc0 : Memref sig .tc .vmem S512x128 .f32 := Memref.whole cc0_scratch0
abbrev sc1 : Memref sig .tc .vmem S512x128 .f32 := Memref.whole cc0_scratch1
abbrev sc2 : Memref sig .tc .vmem S8x512 .f32 := Memref.whole cc0_scratch2

theorem phi_eq (c : Dev nD) : Pipeline.ΦA spec0 c
    = (iprop(((∃ d, owns (c : Thread nD τ) sc0 fullShare d) ∗ (∃ d, owns (c : Thread nD τ) sc1 fullShare d) ∗ (∃ d, owns (c : Thread nD τ) sc2 fullShare d)) ∗ (∃ r, prngReg c r)) : sProp 𝕄) := by
  unfold Pipeline.ΦA; rw [scopedRest0_eq]; simp only [sc0, sc1, sc2, owns_whole]; try rfl

/-- What the scratch holds after point `n`. -/
def Inv (c : Dev nD) (n : ℕ) (s0 s1 : Vec Ideal S512x128 .f32) (s2 : Vec Ideal S8x512 .f32) : Prop :=
  okS m c dk n s0 ∧ okS m c dv n s1 ∧ okC m c n s2

/-- The scratch before position `n`. -/
def Phi (c : Dev nD) (n : ℕ) : sProp 𝕄 :=
  iprop(∃ s0, ∃ s1, ∃ s2, ⌜0 < n → Inv m c (n - 1) s0 s1 s2⌝ ∗ owns (c : Thread nD τ) sc0 fullShare s0 ∗ owns (c : Thread nD τ) sc1 fullShare s1
    ∗ owns (c : Thread nD τ) sc2 fullShare s2 ∗ (∃ r, prngReg c r))

def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, h⟩ => Pipeline.Dat.unnamed (cfg := cfg0) ⟨7, h⟩ t
    | ⟨8, h⟩ => Pipeline.Dat.unnamed (cfg := cfg0) ⟨8, h⟩ t
    | ⟨9, h⟩ => Pipeline.Dat.unnamed (cfg := cfg0) ⟨9, h⟩ t
    | ⟨10, h⟩ => Pipeline.Dat.unnamed (cfg := cfg0) ⟨10, h⟩ t
    | ⟨11, h⟩ => Pipeline.Dat.unnamed (cfg := cfg0) ⟨11, h⟩ t
  Φ t := Phi m c t.val
  q w := Pipeline.shareOf spec0 w
  owed _ := 0

theorem A_eq (c : Dev nD) (w : Fin cfg0.W) : (dats m 0 c).A w = V m c (Pipeline.arrRef spec0 w) := by dsimp only [dats]
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]

/-- The result windows. -/
def outW : Fin 12 → Bool := fun w => Nat.ble 7 w.val

/-- What the body leaves in a result window at a point. -/
def Rl (c : Dev nD) (w : Fin cfg0.W) (t : Fin cfg0.N) : ((cfg0.win w).block.Idx → Elt Ideal (cfg0.win w).elt) → Prop := match w with
  | ⟨7, _⟩ => fun X => okR m c dq t.val X
  | ⟨8, _⟩ => fun X => t.val % 8 = 7 → ∀ y, X y = sumS m c dk t.val y
  | ⟨9, _⟩ => fun X => t.val % 8 = 7 → ∀ y, X y = sumS m c dv t.val y
  | ⟨10, _⟩ => fun X => t.val % 8 = 7 → ∀ y : S1x8x512.Idx, X y = sumC m c t.val (ix2 (y 1) (y 2))
  | ⟨11, _⟩ => fun X => okR m c dr t.val X
  | _ => fun _ => True

abbrev rdat (c : Dev nD) := (dats m 0 c).toRRel outW (Rl m c)

/-- An accumulated result window holds after a point what the point before left. -/
theorem prev (c : Dev nD) (w : Fin cfg0.W) (hw : outW w = true) (hf : ∀ t, (cfg0.win w).fetch t = false)
    (hl : ∀ t : Fin cfg0.N, (cfg0.win w).flush t = true ↔ t.val % 64 = 63) (t : Fin cfg0.N) (ht : t.val % 64 ≠ 0)
    (Y) (h : (rdat m c).Finds w t Y) : Rl m c w ⟨t.val - 1, Nat.lt_of_le_of_lt (Nat.sub_le _ _) t.isLt⟩ Y := by
  rw [(rdat m c).finds_of_pos (hf t) (by omega)] at h
  rcases h with h | h
  · exact absurd ((hl _).mp h) (by dsimp only; omega)
  · exact Dat.toRRel_leaves (dats m 0 c) hw h

def bodyPre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d))
    ∗ (∃ d, owns (c : Thread nD τ) (win0_5.stage (cfg0.slots t 5)) fullShare ((dats m 0 c).before 5 t d))
    ∗ (∃ d, owns (c : Thread nD τ) (win0_6.stage (cfg0.slots t 6)) fullShare ((dats m 0 c).before 6 t d))
    ∗ (∃ Y, ⌜(rdat m c).Finds 7 t Y⌝ ∗ owns (c : Thread nD τ) (win0_7.stage (cfg0.slots t 7)) fullShare Y)
    ∗ (∃ Y, ⌜(rdat m c).Finds 8 t Y⌝ ∗ owns (c : Thread nD τ) (win0_8.stage (cfg0.slots t 8)) fullShare Y)
    ∗ (∃ Y, ⌜(rdat m c).Finds 9 t Y⌝ ∗ owns (c : Thread nD τ) (win0_9.stage (cfg0.slots t 9)) fullShare Y)
    ∗ (∃ Y, ⌜(rdat m c).Finds 10 t Y⌝ ∗ owns (c : Thread nD τ) (win0_10.stage (cfg0.slots t 10)) fullShare Y)
    ∗ (∃ Y, ⌜(rdat m c).Finds 11 t Y⌝ ∗ owns (c : Thread nD τ) (win0_11.stage (cfg0.slots t 11)) fullShare Y))

def bodyPost (c : Dev nD) (t : Fin cfg0.N) : sProp 𝕄 :=
  iprop((dats m 0 c).Φ t.succ ∗ (dats m 0 c).owesAt () t.succ
    ∗ owns (c : Thread nD τ) (win0_0.stage (cfg0.slots t 0)) fullShare ((dats m 0 c).after 0 t)
    ∗ owns (c : Thread nD τ) (win0_1.stage (cfg0.slots t 1)) fullShare ((dats m 0 c).after 1 t)
    ∗ owns (c : Thread nD τ) (win0_2.stage (cfg0.slots t 2)) fullShare ((dats m 0 c).after 2 t)
    ∗ owns (c : Thread nD τ) (win0_3.stage (cfg0.slots t 3)) fullShare ((dats m 0 c).after 3 t)
    ∗ owns (c : Thread nD τ) (win0_4.stage (cfg0.slots t 4)) fullShare ((dats m 0 c).after 4 t)
    ∗ owns (c : Thread nD τ) (win0_5.stage (cfg0.slots t 5)) fullShare ((dats m 0 c).after 5 t)
    ∗ owns (c : Thread nD τ) (win0_6.stage (cfg0.slots t 6)) fullShare ((dats m 0 c).after 6 t)
    ∗ (∃ X, ⌜Rl m c 7 t X⌝ ∗ owns (c : Thread nD τ) (win0_7.stage (cfg0.slots t 7)) fullShare X)
    ∗ (∃ X, ⌜Rl m c 8 t X⌝ ∗ owns (c : Thread nD τ) (win0_8.stage (cfg0.slots t 8)) fullShare X)
    ∗ (∃ X, ⌜Rl m c 9 t X⌝ ∗ owns (c : Thread nD τ) (win0_9.stage (cfg0.slots t 9)) fullShare X)
    ∗ (∃ X, ⌜Rl m c 10 t X⌝ ∗ owns (c : Thread nD τ) (win0_10.stage (cfg0.slots t 10)) fullShare X)
    ∗ (∃ X, ⌜Rl m c 11 t X⌝ ∗ owns (c : Thread nD τ) (win0_11.stage (cfg0.slots t 11)) fullShare X))

theorem wrote (c : Dev nD) (t : Fin cfg0.N) (D : Blocks → Fin 512 → Fin 128 → EReal) (y : Vec Ideal S512x128 .bf16) (s : Vec Ideal S512x128 .f32) (h : okS m c D t.val s)
    (e : t.val % 8 = 7) (j : S512x128.Idx) : out (grid0.coords t) y s j = sumS m c D t.val j := by
  unfold out; rw [(crd t).2.2, if_pos e]; exact h (by omega) j

theorem wroteC (c : Dev nD) (t : Fin cfg0.N) (y : Vec Ideal S1x8x512 .f32) (s : Vec Ideal S8x512 .f32) (h : okC m c t.val s)
    (e : t.val % 8 = 7) (j : S1x8x512.Idx) : outC (grid0.coords t) y s j = sumC m c t.val (ix2 (j 1) (j 2)) := by
  unfold outC; rw [(crd t).2.2, if_pos e]; exact h (by omega) _

theorem sound (c : Dev nD) (t : Fin cfg0.N) : bodyPre m c t ⊢ wp frame (wpE (defs₀ (F := Ideal)) Variants.none (c : Thread nD τ) none) Set.univ (bodyAt0 t) fun _ => bodyPost m c t := by
  unfold bodyPre bodyPost
  rw [show (dats m 0 c).Φ t.castSucc = Phi m c t.val from rfl, show (dats m 0 c).Φ t.succ = Phi m c (t.val + 1) from rfl,
    show (dats m 0 c).owesAt () t.succ = (dats m 0 c).owesAt () t.castSucc from rfl, after0, after1, after2, after3, after4, after5, after6]
  simp only [before0_0_of m (dats m 0 c) (A_eq m c 0) (after0 m c), before0_1_of m (dats m 0 c) (A_eq m c 1) (after1 m c),
    before0_2_of m (dats m 0 c) (A_eq m c 2) (after2 m c), before0_3_of m (dats m 0 c) (A_eq m c 3) (after3 m c),
    before0_4_of m (dats m 0 c) (A_eq m c 4) (after4 m c), before0_5_of m (dats m 0 c) (A_eq m c 5) (after5 m c),
    before0_6_of m (dats m 0 c) (A_eq m c 6) (after6 m c)]
  unfold Phi
  iintro ⟨⟨%s0, %s1, %s2, %hs, HS0, HS1, HS2, Hg⟩, Ho, ⟨%d0, H0⟩, ⟨%d1, H1⟩, ⟨%d2, H2⟩, ⟨%d3, H3⟩, ⟨%d4, H4⟩, ⟨%d5, H5⟩, ⟨%d6, H6⟩, ⟨%Y7, %h7, H7⟩, ⟨%Y8, %h8, H8⟩, ⟨%Y9, %h9, H9⟩, ⟨%Y10, %h10, H10⟩, ⟨%Y11, %h11, H11⟩⟩
  have k7 : okR m c dq t.val (workR (T m c t) Y7 dq) :=
    stepR m c dq t Y7 fun e => prev m c 7 rfl (fun _ => rfl) flush0_7 t e Y7 h7
  have k11 : okR m c dr t.val (workR (T m c t) Y11 dr) :=
    stepR m c dr t Y11 fun e => prev m c 11 rfl (fun _ => rfl) flush0_11 t e Y11 h11
  have kS0 := stepS m c dk t s0 fun h => (hs h).1
  have kS1 := stepS m c dv t s1 fun h => (hs h).2.1
  have kS2 := stepC m c t s2 fun h => (hs h).2.2
  iapply (wp_wand_r frame (wpE (defs₀ (F := Ideal)) Variants.none (c : Thread nD τ) none) Set.univ)
  isplitl [HS0 HS1 HS2 H0 H1 H2 H3 H4 H5 H6 H7 H8 H9 H10 H11]
  · iapply (body c (grid0.coords t) _ _ _ _ _ _ _ _ _ _ _ _ _ _ _ _ _ _ _ _ _ _ _ _ sc0 (Memref.isWhole_whole _) sc1 (Memref.isWhole_whole _) sc2 (Memref.isWhole_whole _)
      (iblk m c 0 t) (iblk m c 1 t) (iblk m c 2 t) (iblk m c 3 t) (iblk m c 4 t) (iblk m c 5 t) (iblk m c 6 t) Y7 Y8 Y9 Y10 Y11 s0 s1 s2 Set.univ (at_point t))
    unfold hold
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [HS0]; · iexact HS0
    isplitl [HS1]; · iexact HS1
    iexact HS2
  iintro %u H
  unfold hold
  icases H with ⟨H0, H1, H2, H3, H4, H5, H6, H7, H8, H9, H10, H11, HS0, HS1, HS2⟩
  isplitl [HS0 HS1 HS2 Hg]
  · iexists _; iexists _; iexists _
    isplitr
    swap
    · isplitl [HS0]; · iexact HS0
      isplitl [HS1]; · iexact HS1
      isplitl [HS2]; · iexact HS2
      iexact Hg
    · ipureintro; exact fun _ => ⟨kS0, kS1, kS2⟩
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]
  · iexists _; isplitr; swap; · iexact H7
    ipureintro; exact k7
  isplitl [H8]
  · iexists _; isplitr; swap; · iexact H8
    ipureintro; exact wrote m c t dk Y8 _ kS0
  isplitl [H9]
  · iexists _; isplitr; swap; · iexact H9
    ipureintro; exact wrote m c t dv Y9 _ kS1
  isplitl [H10]
  · iexists _; isplitr; swap; · iexact H10
    ipureintro; exact wroteC m c t Y10 _ kS2
  iexists _; isplitr; swap; · iexact H11
  ipureintro; exact k11

theorem defs₀_row (t : Fin cfg0.N) : defs₀ (F := Ideal) .tc cfg0.body (cfg0.bodyArgs t (cfg0.slots t)) = bodyAt0 t := by
  unfold defs₀; rw [Defs.onTc_tc]

theorem obligation (c : Dev nD) : Pipeline.BodyObligationRel (dats m 0 c) (defs₀ (F := Ideal)) Variants.none () Set.univ outW (Rl m c) := fun t => by
  rw [bigSep_W0, bigSep_W0, defs₀_row]
  exact triple_restated (sound m c t) rfl .rfl fun _ => .rfl

theorem hin (c : Dev nD) : Pipeline.ΦA spec0 c ⊢ (dats m 0 c).Φ 0 := by
  rw [show (dats m 0 c).Φ 0 = Phi m c 0 from rfl, phi_eq]
  unfold Phi
  iintro ⟨⟨⟨%a, H0⟩, ⟨%b, H1⟩, ⟨%d, H2⟩⟩, Hg⟩
  iexists a; iexists b; iexists d
  isplitr
  · ipureintro; exact fun h => absurd h (lt_irrefl _)
  isplitl [H0]; · iexact H0
  isplitl [H1]; · iexact H1
  isplitl [H2]; · iexact H2
  iexact Hg

theorem hout (c : Dev nD) : (dats m 0 c).Φ (Fin.last cfg0.N) ⊢ Pipeline.ΦA spec0 c := by
  rw [show (dats m 0 c).Φ (Fin.last cfg0.N) = Phi m c cfg0.N from rfl, phi_eq]
  unfold Phi
  iintro ⟨%a, %b, %d, -, H0, H1, H2, Hg⟩
  isplitl [H0 H1 H2]
  · isplitl [H0]; · iexists a; iexact H0
    isplitl [H1]; · iexists b; iexact H1
    iexists d; iexact H2
  iexact Hg

set_option backward.isDefEq.respectTransparency.types false in
theorem launched : θ_run defs (onTc (τ := τ) (main (F := Ideal))) (s₀ m ρ)
    (fun r => Pipeline.RDat.FramePost (cfgs 0) (fun c => rdat m c) (V m) r ∧ r.2.sem = fun _ => 0) :=
  Pipeline.RDat.θ_run_frame_track_shared (Q' := _) cfgs (0 : Fin 1) launch₀0 defs₀ Variants.none (fun c => rdat m c) m ρ main
    (hbody := fun c => (obligation m c).toRRel) (hq := fun _ _ _ => rfl)
    (howed := fun _ _ => rfl) (V := V m) (hmain := hmain m Variants.none) (hA := A_eq m) (hin := hin m) (hout := hout m)

end Cert.KernelAttIdeal.Whole

end
-- ==== Proof.AttArr.lean ====
/- The five gradient arrays after the run: those of the derivative as the host computes it. -/
module

public import proofs.«01_k».proof.Proof.AttTotal
public import proofs.«01_k».proof.Proof.AttGrad
public import proofs.«01_k».proof.Proof.AttDat

@[expose] public section

set_option maxRecDepth 16384

noncomputable section

open Idealize.ShloMosaic Idealize.ShloMosaic.TcCoe Idealize.SL.Sem

namespace Cert.KernelAttIdeal.Whole

open Cert.KernelAttIdeal Cert.KernelAttIdeal.Gen Cert.KernelAttIdeal.Tile Cert.KernelAttIdeal.Host
open Cert.ReferenceAttIdeal.Read Cert.ReferenceAttIdeal.Whole

variable (m : (ℓ : Loc nD τ sig) → Buf (Elt Ideal) ℓ) (c : Dev nD)
variable {Q K V W : Fin 4096 → Fin 1024 → ℝ} {G : Fin 16 → Fin 4096 → ℝ} (A : Real m c Q K V W G)
variable (after : (w : Fin cfg0.W) → Fin cfg0.N → (cfg0.win w).block.Idx → Elt Ideal (cfg0.win w).elt)
variable (hl : ∀ (w : Fin cfg0.W) (u : Fin cfg0.N), (cfg0.win w).flush u = true → (rdat m c).Leaves w u (after w u))

theorem emb7 (t : Fin cfg0.N) (R : Fin 4096) (e : Fin 128) : ((cfg0.win 7).blk t).view.emb (ix2 R e) = ix2 R (ce (t.val / 64) e) := by
  have hN : t.val < 512 := Nat.lt_of_lt_of_eq t.isLt N_0
  blk_ext [idx t, bk, ce]
theorem emb11 (t : Fin cfg0.N) (R : Fin 4096) (e : Fin 128) : ((cfg0.win 11).blk t).view.emb (ix2 R e) = ix2 R (ce (t.val / 64) e) := by
  have hN : t.val < 512 := Nat.lt_of_lt_of_eq t.isLt N_0
  blk_ext [idx t, bk, ce]
theorem emb8 (t : Fin cfg0.N) (r : Fin 512) (e : Fin 128) : ((cfg0.win 8).blk t).view.emb (ix2 r e) = ix2 (bk (t.val / 8 % 8) r) (ce (t.val / 64) e) := by
  have hN : t.val < 512 := Nat.lt_of_lt_of_eq t.isLt N_0
  blk_ext [idx t, bk, ce]
theorem emb9 (t : Fin cfg0.N) (r : Fin 512) (e : Fin 128) : ((cfg0.win 9).blk t).view.emb (ix2 r e) = ix2 (bk (t.val / 8 % 8) r) (ce (t.val / 64) e) := by
  have hN : t.val < 512 := Nat.lt_of_lt_of_eq t.isLt N_0
  blk_ext [idx t, bk, ce]
theorem emb10 (t : Fin cfg0.N) (hN : t.val < 512) (z : Fin 1) (a : Fin 8) (r : Fin 512) :
    ((cfg0.win 10).blk t).view.emb (ix3 z a r) = ix3 (⟨t.val / 64, by omega⟩ : Fin 8) a (bk (t.val / 8 % 8) r) := by
  blk_ext [idx t, bk, ce]

include A hl

theorem arr7 : ((rdat m c).withAfter after).arrAt 7 cfg0.N = val_main_v85 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine ((rdat m c).withAfter after).arrAt_eq_of_covers 7 _ (by decide +kernel) fun t hf y => ?_
  blk_simp
  have hN : t.val < 512 := Nat.lt_of_lt_of_eq t.isLt N_0
  have h63 := (flush0_7 t).1 hf
  have R7 : okR m c dq t.val (after 7 t) := Pipeline.Dat.toRRel_leaves (dats m 0 c) (rfl : outW 7 = true) (hl 7 t hf)
  obtain ⟨R, e, rfl⟩ : ∃ R e, y = ix2 R e := ⟨_, _, (ix2_eta y).symm⟩
  rw [emb7]
  refine (R7 (ix2 R e) ?_).trans ((dq_total m c A t.val hN h63 R e).trans (dq_at A.q A.k A.v A.w A.g R _).symm)
  show 0 < seen t.val (R.val / 512)
  unfold seen; split_ifs <;> omega

theorem arr11 : ((rdat m c).withAfter after).arrAt 11 cfg0.N = val_main_v93 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine ((rdat m c).withAfter after).arrAt_eq_of_covers 11 _ (by decide +kernel) fun t hf y => ?_
  blk_simp
  have hN : t.val < 512 := Nat.lt_of_lt_of_eq t.isLt N_0
  have h63 := (flush0_11 t).1 hf
  have R11 : okR m c dr t.val (after 11 t) := Pipeline.Dat.toRRel_leaves (dats m 0 c) (rfl : outW 11 = true) (hl 11 t hf)
  obtain ⟨R, e, rfl⟩ : ∃ R e, y = ix2 R e := ⟨_, _, (ix2_eta y).symm⟩
  rw [emb11]
  refine (R11 (ix2 R e) ?_).trans ((dr_total m c A t.val hN h63 R e).trans (dr_at A.q A.k A.v A.w A.g R _).symm)
  show 0 < seen t.val (R.val / 512)
  unfold seen; split_ifs <;> omega

theorem arr8 : ((rdat m c).withAfter after).arrAt 8 cfg0.N = val_main_v89 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine ((rdat m c).withAfter after).arrAt_eq_of_covers 8 _ (by decide +kernel) fun t hf y => ?_
  blk_simp
  have hN : t.val < 512 := Nat.lt_of_lt_of_eq t.isLt N_0
  have h7 := (flush0_8 t).1 hf
  have R8 : t.val % 8 = 7 → ∀ y, after 8 t y = sumS m c dk t.val y := Pipeline.Dat.toRRel_leaves (dats m 0 c) (rfl : outW 8 = true) (hl 8 t hf)
  obtain ⟨r, e, rfl⟩ : ∃ r e, y = ix2 r e := ⟨_, _, (ix2_eta y).symm⟩
  rw [emb8]
  exact (R8 h7 (ix2 r e)).trans ((dk_total m c A t.val hN h7 r e).trans (dk_at A.q A.k A.v A.w A.g _ _).symm)

theorem arr9 : ((rdat m c).withAfter after).arrAt 9 cfg0.N = val_main_v90 (F := Ideal) (m ((c : Thread nD τ).loc main_arg0)) (m ((c : Thread nD τ).loc main_arg1)) (m ((c : Thread nD τ).loc main_arg3)) (m ((c : Thread nD τ).loc main_arg4)) := by
  refine ((rdat m c).withAfter after).arrAt_eq_of_covers 9 _ (by decide +kernel) fun t hf y => ?_
  blk_simp
  have hN : t.val < 512 := Nat.lt_of_lt_of_eq t.isLt N_0
  have h7 := (flush0_9 t).1 hf
  have R9 : t.val % 8 = 7 → ∀ y, after 9 t y = sumS m c dv t.val y := Pipeline.Dat.toRRel_leaves (dats m 0 c) (rfl : outW 9 = true) (hl 9 t hf)
  obtain ⟨r, e, rfl⟩ : ∃ r e, y = ix2 r e := ⟨_, _, (ix2_eta y).symm⟩
  rw [emb9]
  exact (R9 h7 (ix2 r e)).trans ((dv_total m c A t.val hN h7 r e).trans (dv_at A.q A.k A.w A.g _ _).symm)

theorem arr10 : ((rdat m c).withAfter after).arrAt 10 cfg0.N = val_main_v88 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine ((rdat m c).withAfter after).arrAt_eq_of_covers 10 _ (by decide +kernel) fun t hf y => ?_
  blk_simp
  have hN : t.val < 512 := Nat.lt_of_lt_of_eq t.isLt N_0
  have h7 := (flush0_10 t).1 hf
  have R10 : t.val % 8 = 7 → ∀ y : S1x8x512.Idx, after 10 t y = sumC m c t.val (ix2 (y 1) (y 2)) :=
    Pipeline.Dat.toRRel_leaves (dats m 0 c) (rfl : outW 10 = true) (hl 10 t hf)
  obtain ⟨z, a, r, rfl⟩ : ∃ z a r, y = ix3 z a r := ⟨_, _, _, (ix3_eta y).symm⟩
  rw [emb10 t hN]
  refine (R10 h7 (ix3 z a r)).trans ((dc_total m c A t.val hN h7 a r).trans (Eq.trans (congrArg _ ?_) (dc_at A.q A.k A.v A.w A.g _ _ _).symm))
  by_cases ha : a.val < 2
  · rw [dif_pos ha, dif_pos ha]
    exact Finset.sum_congr rfl fun R _ => congrArg (fun H => Att.ds Q K V W G H R _) (Fin.ext (by simp only [hh]; omega))
  · rw [dif_neg ha, dif_neg ha]

end Cert.KernelAttIdeal.Whole

end
-- ==== Proof.AttEnd.lean ====
/- The claims of the attention's backward call: the frame over the reals, and that its five results are the derivative's. -/
module

public import proofs.«01_k».proof.Proof.AttArr
public import proofs.«01_k».proof.Proof.Rows
public import proofs.«01_k».proof.Proof.Gen.ReferenceAttIdeal
public import proofs.«01_k».proof.Proof.Gen.ReferenceAttIdeal.Run
public import proofs.«01_k».proof.Defs
public import Idealize.ShloMosaic.Lib.Claim

@[expose] public section

set_option maxRecDepth 16384

noncomputable section

open Idealize.ShloMosaic Idealize.ShloMosaic.TcCoe Idealize.SL.Sem

namespace Cert.KernelAttIdeal.Whole

open Cert.KernelAttIdeal Cert.KernelAttIdeal.Gen Cert.ReferenceAttIdeal.Read

variable (m : (ℓ : Loc nD τ sig) → Buf (Elt Ideal) ℓ) (ρ : Dev nD → PrngReg)

/-- The arguments as a run leaves them. -/
theorem args_kept {r : PUnit × MemSt nD τ sig (Elt Ideal)} (h : Pipeline.RDat.FramePost (cfgs 0) (fun c => rdat m c) (V m) r) (c : Dev nD) :
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4) :=
  ⟨((h c).2 main_arg0 (Pipeline.mem_restRefs_of main_arg0 (by decide) (by decide))).trans (V_main_arg0 m c),
    ((h c).2 main_arg1 (Pipeline.mem_restRefs_of main_arg1 (by decide) (by decide))).trans (V_main_arg1 m c),
    ((h c).2 main_arg2 (Pipeline.mem_restRefs_of main_arg2 (by decide) (by decide))).trans (V_main_arg2 m c),
    (Pipeline.RDat.FramePost.arr_in h c 3 rfl).trans ((A_eq m c 3).trans (V_main_arg3 m c)),
    (Pipeline.RDat.FramePost.arr_in h c 6 rfl).trans ((A_eq m c 6).trans (V_main_arg4 m c))⟩

/-- The frame over the reals. -/
theorem frame : Cert.quiescent_KernelAttIdeal := fun m g _ =>
  (θ_run _ _ _).mono (fun r h => ⟨fun c => args_kept m h.1 c, h.2⟩) (launched m g)

/-- The results of a run from real arguments. -/
theorem results {r : PUnit × MemSt nD τ sig (Elt Ideal)} (h : Pipeline.RDat.FramePost (cfgs 0) (fun c => rdat m c) (V m) r) (c : Dev nD)
    {Q K V W : Fin 4096 → Fin 1024 → ℝ} {G : Fin 16 → Fin 4096 → ℝ} (A : Real m c Q K V W G) :
    r.2.mem ((c.tc : Thread nD τ).loc main_v38_0) = val_main_v85 (F := Ideal) (m ((c : Thread nD τ).loc main_arg0)) (m ((c : Thread nD τ).loc main_arg1)) (m ((c : Thread nD τ).loc main_arg2)) (m ((c : Thread nD τ).loc main_arg3)) (m ((c : Thread nD τ).loc main_arg4))
    ∧ r.2.mem ((c.tc : Thread nD τ).loc main_v38_1) = val_main_v89 (F := Ideal) (m ((c : Thread nD τ).loc main_arg0)) (m ((c : Thread nD τ).loc main_arg1)) (m ((c : Thread nD τ).loc main_arg2)) (m ((c : Thread nD τ).loc main_arg3)) (m ((c : Thread nD τ).loc main_arg4))
    ∧ r.2.mem ((c.tc : Thread nD τ).loc main_v38_2) = val_main_v90 (F := Ideal) (m ((c : Thread nD τ).loc main_arg0)) (m ((c : Thread nD τ).loc main_arg1)) (m ((c : Thread nD τ).loc main_arg3)) (m ((c : Thread nD τ).loc main_arg4))
    ∧ r.2.mem ((c.tc : Thread nD τ).loc main_v38_3) = val_main_v88 (F := Ideal) (m ((c : Thread nD τ).loc main_arg0)) (m ((c : Thread nD τ).loc main_arg1)) (m ((c : Thread nD τ).loc main_arg2)) (m ((c : Thread nD τ).loc main_arg3)) (m ((c : Thread nD τ).loc main_arg4))
    ∧ r.2.mem ((c.tc : Thread nD τ).loc main_v38_4) = val_main_v93 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  obtain ⟨after, hl, e⟩ := h.exists_exact c
  exact ⟨(e 7).trans (arr7 m c A after hl), (e 8).trans (arr8 m c A after hl), (e 9).trans (arr9 m c A after hl), (e 10).trans (arr10 m c A after hl),
    (e 11).trans (arr11 m c A after hl)⟩

end Cert.KernelAttIdeal.Whole

namespace Cert.Proof.AttClaims

open Cert.KernelAttIdeal.Whole Cert.ReferenceAttIdeal.Read

/-- Where the masks of the precondition are all ones, the arguments are real numbers. -/
theorem real (m : (ℓ : Loc Cert.KernelAttIdeal.nD Cert.KernelAttIdeal.τ Cert.KernelAttIdeal.sig) → Buf (Elt Ideal) ℓ) [Cert.Pre_finite_att.Facts]
    (h : Cert.Pre_KernelAttIdeal_finite_att m) (c : Dev Cert.KernelAttIdeal.nD) : ∃ Q K V W G, Real m c Q K V W G := by
  obtain ⟨h0, h1, h2, h3, h4⟩ := h c
  choose Q hQ using fun R E => Cert.Rows.finite_of (congrFun h0 (ix2 R E))
  choose K hK using fun R E => Cert.Rows.finite_of (congrFun h1 (ix2 R E))
  choose V hV using fun R E => Cert.Rows.finite_of (congrFun h2 (ix2 R E))
  choose G hG using fun R E => Cert.Rows.finite_of (congrFun h3 (ix2 R E))
  choose W hW using fun R E => Cert.Rows.finite_of (congrFun h4 (ix2 R E))
  exact ⟨Q, K, V, W, G, hQ, hK, hV, hG, hW⟩

/-- Over the reals the five results are the derivative's. -/
theorem algebraic [Cert.Pre_finite_att.Facts] : Cert.algebraic_KernelAttIdeal_ReferenceAttIdeal_pre_finite_att := by
  intro m g m' g' hp hagree
  refine ⟨fun c => val_main_v85 (F := Ideal) (m (c.tc.loc Cert.KernelAttIdeal.main_arg0)) (m (c.tc.loc Cert.KernelAttIdeal.main_arg1)) (m (c.tc.loc Cert.KernelAttIdeal.main_arg2)) (m (c.tc.loc Cert.KernelAttIdeal.main_arg3)) (m (c.tc.loc Cert.KernelAttIdeal.main_arg4)),
    fun c => val_main_v89 (F := Ideal) (m (c.tc.loc Cert.KernelAttIdeal.main_arg0)) (m (c.tc.loc Cert.KernelAttIdeal.main_arg1)) (m (c.tc.loc Cert.KernelAttIdeal.main_arg2)) (m (c.tc.loc Cert.KernelAttIdeal.main_arg3)) (m (c.tc.loc Cert.KernelAttIdeal.main_arg4)),
    fun c => val_main_v90 (F := Ideal) (m (c.tc.loc Cert.KernelAttIdeal.main_arg0)) (m (c.tc.loc Cert.KernelAttIdeal.main_arg1)) (m (c.tc.loc Cert.KernelAttIdeal.main_arg3)) (m (c.tc.loc Cert.KernelAttIdeal.main_arg4)),
    fun c => val_main_v88 (F := Ideal) (m (c.tc.loc Cert.KernelAttIdeal.main_arg0)) (m (c.tc.loc Cert.KernelAttIdeal.main_arg1)) (m (c.tc.loc Cert.KernelAttIdeal.main_arg2)) (m (c.tc.loc Cert.KernelAttIdeal.main_arg3)) (m (c.tc.loc Cert.KernelAttIdeal.main_arg4)),
    fun c => val_main_v93 (F := Ideal) (m (c.tc.loc Cert.KernelAttIdeal.main_arg0)) (m (c.tc.loc Cert.KernelAttIdeal.main_arg1)) (m (c.tc.loc Cert.KernelAttIdeal.main_arg2)) (m (c.tc.loc Cert.KernelAttIdeal.main_arg3)) (m (c.tc.loc Cert.KernelAttIdeal.main_arg4)), ?_, ?_⟩
  · refine (θ_run _ _ _).mono (fun r h c => ?_) (launched m g)
    obtain ⟨Q, K, V, W, G, A⟩ := real m hp c
    obtain ⟨h0, h1, h2, h3, h4⟩ := results m h.1 c A
    exact ⟨h0, h1, h2, h3, h4, args_kept m h.1 c⟩
  · refine (θ_run _ _ _).mono (fun r h c => ?_) (Cert.ReferenceAttIdeal.Value.run m' g')
    obtain ⟨h0, h1, h2, h3, h4, hr⟩ := h c
    obtain ⟨e0, e1, e2, e3, e4⟩ := hagree c
    exact ⟨(h0.trans (val_main_v85_eq m' c)).trans (by rw [e0, e1, e2, e3, e4]),
      (h1.trans (val_main_v89_eq m' c)).trans (by rw [e0, e1, e2, e3, e4]),
      (h2.trans (val_main_v90_eq m' c)).trans (by rw [e0, e1, e3, e4]),
      (h3.trans (val_main_v88_eq m' c)).trans (by rw [e0, e1, e2, e3, e4]),
      (h4.trans (val_main_v93_eq m' c)).trans (by rw [e0, e1, e2, e3, e4]), hr⟩

theorem frame_reference : Cert.quiescent_ReferenceAttIdeal := fun m g _ =>
  (θ_run _ _ _).mono (fun r h => ⟨fun c => (h c).2.2.2.2.2, sem_eq_zero_of_no_sems (by decide) r.2⟩)
    (Cert.ReferenceAttIdeal.Value.run m g)

theorem preserves : Cert.preserves_KernelAtt_KernelAttIdeal := IdealRules.named_const.statement _ _ _ _ _ rfl

theorem pre : Cert.Pre_finite_att.Facts := ⟨by decide, by decide⟩

end Cert.Proof.AttClaims
end
-- ==== Proof.AttBits.lean ====
/- The frame of the attention backward call at any floats: at a grid point the body reads its seven blocks and writes the
   five result blocks and the three accumulators, whatever they hold; the run names no value. -/
module

public import proofs.«01_k».proof.Defs
public import proofs.«01_k».proof.Proof.Gen.KernelAtt.Skeleton
public import proofs.«01_k».proof.Proof.Gen.KernelAtt.Frame
public import Idealize.ShloMosaic.Lib.Pipeline.DatRel
public import Idealize.ShloMosaic.Lib.Pipeline.ArrRel
public import Idealize.ShloMosaic.Lib.Claim

@[expose] public section

set_option maxRecDepth 16384

noncomputable section

namespace Cert.KernelAtt.Whole

open Cert.KernelAtt Cert.KernelAtt.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (c : Dev nD) (i : grid0.Coords) (arg3 : Memref sig .tc .vmem S512x128 .f32) (harg3 : arg3.IsWhole) (arg4 : Memref sig .tc .vmem S512x128 .f32) (harg4 : arg4.IsWhole) (arg5 : Memref sig .tc .vmem S512x128 .f32) (harg5 : arg5.IsWhole) (arg6 : Memref sig .tc .vmem S16x512 .f32) (harg6 : arg6.IsWhole) (arg7 : Memref sig .tc .vmem S512x128 .f32) (harg7 : arg7.IsWhole) (arg8 : Memref sig .tc .vmem S512x128 .f32) (harg8 : arg8.IsWhole) (arg9 : Memref sig .tc .vmem S512x128 .f32) (harg9 : arg9.IsWhole) (arg10 : Memref sig .tc .vmem S4096x128 .f32) (harg10 : arg10.IsWhole) (arg11 : Memref sig .tc .vmem S512x128 .bf16) (harg11 : arg11.IsWhole) (arg12 : Memref sig .tc .vmem S512x128 .bf16) (harg12 : arg12.IsWhole) (arg13 : Memref sig .tc .vmem S1x8x512 .f32) (harg13 : arg13.IsWhole) (arg14 : Memref sig .tc .vmem S4096x128 .f32) (harg14 : arg14.IsWhole) (arg15 : Memref sig .tc .vmem S512x128 .f32) (harg15 : arg15.IsWhole) (arg16 : Memref sig .tc .vmem S512x128 .f32) (harg16 : arg16.IsWhole) (arg17 : Memref sig .tc .vmem S8x512 .f32) (harg17 : arg17.IsWhole)

/-- The fifteen buffers the body holds: the blocks it reads by their contents, what it writes by no contents. -/
def raw (f0 : arg3.view.ty.Contents (Elt F)) (f1 : arg4.view.ty.Contents (Elt F)) (f2 : arg5.view.ty.Contents (Elt F)) (f3 : arg6.view.ty.Contents (Elt F)) (f4 : arg7.view.ty.Contents (Elt F)) (f5 : arg8.view.ty.Contents (Elt F)) (f6 : arg9.view.ty.Contents (Elt F)) : sProp 𝕄 :=
  iprop((arg3.view.loc (c : Thread nD τ) ↦[arg3.view.set]{fullShare} f0) ∗ (arg4.view.loc (c : Thread nD τ) ↦[arg4.view.set]{fullShare} f1) ∗ (arg5.view.loc (c : Thread nD τ) ↦[arg5.view.set]{fullShare} f2) ∗ (arg6.view.loc (c : Thread nD τ) ↦[arg6.view.set]{fullShare} f3) ∗ (arg7.view.loc (c : Thread nD τ) ↦[arg7.view.set]{fullShare} f4) ∗ (arg8.view.loc (c : Thread nD τ) ↦[arg8.view.set]{fullShare} f5) ∗ (arg9.view.loc (c : Thread nD τ) ↦[arg9.view.set]{fullShare} f6) ∗ (∃ f, (arg10.view.loc (c : Thread nD τ) ↦[arg10.view.set]{fullShare} f)) ∗ (∃ f, (arg11.view.loc (c : Thread nD τ) ↦[arg11.view.set]{fullShare} f)) ∗ (∃ f, (arg12.view.loc (c : Thread nD τ) ↦[arg12.view.set]{fullShare} f)) ∗ (∃ f, (arg13.view.loc (c : Thread nD τ) ↦[arg13.view.set]{fullShare} f)) ∗ (∃ f, (arg14.view.loc (c : Thread nD τ) ↦[arg14.view.set]{fullShare} f)) ∗ (∃ f, (arg15.view.loc (c : Thread nD τ) ↦[arg15.view.set]{fullShare} f)) ∗ (∃ f, (arg16.view.loc (c : Thread nD τ) ↦[arg16.view.set]{fullShare} f)) ∗ (∃ f, (arg17.view.loc (c : Thread nD τ) ↦[arg17.view.set]{fullShare} f)))

variable (f0 : arg3.view.ty.Contents (Elt F)) (f1 : arg4.view.ty.Contents (Elt F)) (f2 : arg5.view.ty.Contents (Elt F)) (f3 : arg6.view.ty.Contents (Elt F)) (f4 : arg7.view.ty.Contents (Elt F)) (f5 : arg8.view.ty.Contents (Elt F)) (f6 : arg9.view.ty.Contents (Elt F)) (E : Set ℕ)

/-- A point's two kinds: the first key block stores the query rows' sums, a later one adds to them. -/
def Kind : Prop := (k0_cond3 i = 1#1 ∧ ¬ k0_cond4 i = 1#1 ∧ k0_cond5 i = 1#1 ∧ ¬ k0_cond6 i = 1#1)
  ∨ (¬ k0_cond3 i = 1#1 ∧ k0_cond4 i = 1#1 ∧ ¬ k0_cond5 i = 1#1 ∧ k0_cond6 i = 1#1)

set_option maxHeartbeats 1200000 in
/-- The body at a point. -/
theorem body (h : Kind i) :
    raw c arg3 arg4 arg5 arg6 arg7 arg8 arg9 arg10 arg11 arg12 arg13 arg14 arg15 arg16 arg17 f0 f1 f2 f3 f4 f5 f6
      ⊢ wp frame (wpE (defs₀ (F := F)) Variants.none (c : Thread nD τ) none) E (cc0_attn_bwd i arg3 harg3 arg4 harg4 arg5 harg5 arg6 harg6 arg7 harg7 arg8 harg8 arg9 harg9 arg10 harg10 arg11 harg11 arg12 harg12 arg13 harg13 arg14 harg14 arg15 harg15 arg16 harg16 arg17 harg17)
        fun _ => raw c arg3 arg4 arg5 arg6 arg7 arg8 arg9 arg10 arg11 arg12 arg13 arg14 arg15 arg16 arg17 f0 f1 f2 f3 f4 f5 f6 := by
  simp only [cc0_attn_bwd_eq_skeleton]; unfold cc0_attn_bwd_skel
  lift_lets
  intro arg0 arg1 arg2 v0 v1 v2 ret flush flush' stage
  have hflush : raw c arg3 arg4 arg5 arg6 arg7 arg8 arg9 arg10 arg11 arg12 arg13 arg14 arg15 arg16 arg17 f0 f1 f2 f3 f4 f5 f6 ⊢ wp frame (wpE (defs₀ (F := F)) Variants.none (c : Thread nD τ) none) E (flush PUnit.unit) fun _ => raw c arg3 arg4 arg5 arg6 arg7 arg8 arg9 arg10 arg11 arg12 arg13 arg14 arg15 arg16 arg17 f0 f1 f2 f3 f4 f5 f6 := by
    simp only [flush, ret]
    unfold raw
    iintro ⟨H0, H1, H2, H3, H4, H5, H6, ⟨%f7, H7⟩, ⟨%f8, H8⟩, ⟨%f9, H9⟩, ⟨%f10, H10⟩, ⟨%f11, H11⟩, ⟨%f12, HS0⟩, ⟨%f13, HS1⟩, ⟨%f14, HS2⟩⟩
    by_cases hc : k0_cond7 i = 1#1 <;>
    ( sl_exec (disch := sl_exact hc)
      sl_step
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [H8]; · iexists _; iexact H8
      isplitl [H9]; · iexists _; iexact H9
      isplitl [H10]; · iexists _; iexact H10
      isplitl [H11]; · iexists _; iexact H11
      isplitl [HS0]; · iexists _; iexact HS0
      isplitl [HS1]; · iexists _; iexact HS1
      iexists _; iexact HS2)
  clear_value flush
  have hstage : raw c arg3 arg4 arg5 arg6 arg7 arg8 arg9 arg10 arg11 arg12 arg13 arg14 arg15 arg16 arg17 f0 f1 f2 f3 f4 f5 f6 ⊢ wp frame (wpE (defs₀ (F := F)) Variants.none (c : Thread nD τ) none) E (stage PUnit.unit) fun _ => raw c arg3 arg4 arg5 arg6 arg7 arg8 arg9 arg10 arg11 arg12 arg13 arg14 arg15 arg16 arg17 f0 f1 f2 f3 f4 f5 f6 := by
    generalize (fun _ : PUnit => raw c arg3 arg4 arg5 arg6 arg7 arg8 arg9 arg10 arg11 arg12 arg13 arg14 arg15 arg16 arg17 f0 f1 f2 f3 f4 f5 f6) = K at hflush ⊢
    simp only [stage, flush', k0_part1_eq_skeleton, k0_part2_eq_skeleton, k0_part3_eq_skeleton, k0_part4_eq_skeleton]
    unfold raw at hflush ⊢
    iintro ⟨H0, H1, H2, H3, H4, H5, H6, ⟨%f7, H7⟩, ⟨%f8, H8⟩, ⟨%f9, H9⟩, ⟨%f10, H10⟩, ⟨%f11, H11⟩, ⟨%f12, HS0⟩, ⟨%f13, HS1⟩, ⟨%f14, HS2⟩⟩
    rcases h with ⟨hc3, hc4, hc5, hc6⟩ | ⟨hc3, hc4, hc5, hc6⟩ <;> by_cases hc : k0_cond2 i = 1#1 <;>
    ( sl_exec (disch := first | sl_exact hc | sl_exact hc3 | sl_exact hc4 | sl_exact hc5 | sl_exact hc6)
      iapply hflush
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [H8]; · iexists _; iexact H8
      isplitl [H9]; · iexists _; iexact H9
      isplitl [H10]; · iexists _; iexact H10
      isplitl [H11]; · iexists _; iexact H11
      isplitl [HS0]; · iexists _; iexact HS0
      isplitl [HS1]; · iexists _; iexact HS1
      iexists _; iexact HS2)
  clear_value stage
  generalize (fun _ : PUnit => raw c arg3 arg4 arg5 arg6 arg7 arg8 arg9 arg10 arg11 arg12 arg13 arg14 arg15 arg16 arg17 f0 f1 f2 f3 f4 f5 f6) = K at hstage ⊢
  unfold raw at hstage ⊢
  iintro ⟨H0, H1, H2, H3, H4, H5, H6, ⟨%f7, H7⟩, ⟨%f8, H8⟩, ⟨%f9, H9⟩, ⟨%f10, H10⟩, ⟨%f11, H11⟩, ⟨%f12, HS0⟩, ⟨%f13, HS1⟩, ⟨%f14, HS2⟩⟩
  by_cases hc : Scalar.cmpi .ne (Scalar.extui (Scalar.cmpi .eq (BitVec.ofNat 32 (i 2).val) (BitVec.ofNat 32 (i 1).val)) : BitVec 32) 0#32 = 1#1 <;>
  ( sl_exec (disch := sl_exact hc)
    iapply hstage
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    isplitl [H9]; · iexists _; iexact H9
    isplitl [H10]; · iexists _; iexact H10
    isplitl [H11]; · iexists _; iexact H11
    isplitl [HS0]; · iexists _; iexact HS0
    isplitl [HS1]; · iexists _; iexact HS1
    iexists _; iexact HS2)

end

variable (m : (ℓ : Loc nD τ sig) → Buf (Elt F) ℓ) (ρ : Dev nD → PrngReg)

instance (i : grid0.Coords) : Decidable (Kind i) := inferInstanceAs (Decidable (_ ∨ _))

theorem kind_point : ∀ t : Fin cfg0.N, Kind (grid0.coords t) := (by decide +kernel : ∀ t : Fin grid0.N, Kind (grid0.coords t))

/-- The scratch the kernel carries. -/
abbrev sc0 : Memref sig .tc .vmem S512x128 .f32 := Memref.whole cc0_scratch0
abbrev sc1 : Memref sig .tc .vmem S512x128 .f32 := Memref.whole cc0_scratch1
abbrev sc2 : Memref sig .tc .vmem S8x512 .f32 := Memref.whole cc0_scratch2

theorem phi_eq (c : Dev nD) : Pipeline.ΦA spec0 c
    = (iprop(((∃ d, owns (c : Thread nD τ) sc0 fullShare d) ∗ (∃ d, owns (c : Thread nD τ) sc1 fullShare d) ∗ (∃ d, owns (c : Thread nD τ) sc2 fullShare d)) ∗ (∃ r, prngReg c r)) : sProp 𝕄) := by
  unfold Pipeline.ΦA; rw [scopedRest0_eq]; simp only [sc0, sc1, sc2, owns_whole]; try rfl

/-- The launch's data: the read windows keep their blocks, the written ones are named by nothing. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨n + 7, h⟩ => Pipeline.Dat.unnamed (cfg := cfg0) ⟨n + 7, h⟩ t
  Φ _ := Pipeline.ΦA spec0 c
  q w := Pipeline.shareOf spec0 w
  owed _ := 0

theorem A_eq (c : Dev nD) (w : Fin cfg0.W) : (dats m 0 c).A w = V m c (Pipeline.arrRef spec0 w) := by dsimp only [dats]
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]

/-- The result windows. -/
def outW : Fin 12 → Bool := fun w => Nat.ble 7 w.val

/-- Nothing is said of what the body leaves in a result window. -/
abbrev Rl (w : Fin cfg0.W) (_ : Fin cfg0.N) : ((cfg0.win w).block.Idx → Elt F (cfg0.win w).elt) → Prop := fun _ => True

abbrev rdat (c : Dev nD) := (dats m 0 c).toRRel outW Rl

def bodyPre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d))
    ∗ (∃ d, owns (c : Thread nD τ) (win0_5.stage (cfg0.slots t 5)) fullShare ((dats m 0 c).before 5 t d))
    ∗ (∃ d, owns (c : Thread nD τ) (win0_6.stage (cfg0.slots t 6)) fullShare ((dats m 0 c).before 6 t d))
    ∗ (∃ Y, ⌜(rdat m c).Finds 7 t Y⌝ ∗ owns (c : Thread nD τ) (win0_7.stage (cfg0.slots t 7)) fullShare Y)
    ∗ (∃ Y, ⌜(rdat m c).Finds 8 t Y⌝ ∗ owns (c : Thread nD τ) (win0_8.stage (cfg0.slots t 8)) fullShare Y)
    ∗ (∃ Y, ⌜(rdat m c).Finds 9 t Y⌝ ∗ owns (c : Thread nD τ) (win0_9.stage (cfg0.slots t 9)) fullShare Y)
    ∗ (∃ Y, ⌜(rdat m c).Finds 10 t Y⌝ ∗ owns (c : Thread nD τ) (win0_10.stage (cfg0.slots t 10)) fullShare Y)
    ∗ (∃ Y, ⌜(rdat m c).Finds 11 t Y⌝ ∗ owns (c : Thread nD τ) (win0_11.stage (cfg0.slots t 11)) fullShare Y))

def bodyPost (c : Dev nD) (t : Fin cfg0.N) : sProp 𝕄 :=
  iprop((dats m 0 c).Φ t.succ ∗ (dats m 0 c).owesAt () t.succ
    ∗ owns (c : Thread nD τ) (win0_0.stage (cfg0.slots t 0)) fullShare ((dats m 0 c).after 0 t)
    ∗ owns (c : Thread nD τ) (win0_1.stage (cfg0.slots t 1)) fullShare ((dats m 0 c).after 1 t)
    ∗ owns (c : Thread nD τ) (win0_2.stage (cfg0.slots t 2)) fullShare ((dats m 0 c).after 2 t)
    ∗ owns (c : Thread nD τ) (win0_3.stage (cfg0.slots t 3)) fullShare ((dats m 0 c).after 3 t)
    ∗ owns (c : Thread nD τ) (win0_4.stage (cfg0.slots t 4)) fullShare ((dats m 0 c).after 4 t)
    ∗ owns (c : Thread nD τ) (win0_5.stage (cfg0.slots t 5)) fullShare ((dats m 0 c).after 5 t)
    ∗ owns (c : Thread nD τ) (win0_6.stage (cfg0.slots t 6)) fullShare ((dats m 0 c).after 6 t)
    ∗ (∃ X, ⌜Rl 7 t X⌝ ∗ owns (c : Thread nD τ) (win0_7.stage (cfg0.slots t 7)) fullShare X)
    ∗ (∃ X, ⌜Rl 8 t X⌝ ∗ owns (c : Thread nD τ) (win0_8.stage (cfg0.slots t 8)) fullShare X)
    ∗ (∃ X, ⌜Rl 9 t X⌝ ∗ owns (c : Thread nD τ) (win0_9.stage (cfg0.slots t 9)) fullShare X)
    ∗ (∃ X, ⌜Rl 10 t X⌝ ∗ owns (c : Thread nD τ) (win0_10.stage (cfg0.slots t 10)) fullShare X)
    ∗ (∃ X, ⌜Rl 11 t X⌝ ∗ owns (c : Thread nD τ) (win0_11.stage (cfg0.slots t 11)) fullShare X))

theorem sound (c : Dev nD) (t : Fin cfg0.N) : bodyPre m c t ⊢ wp frame (wpE (defs₀ (F := F)) Variants.none (c : Thread nD τ) none) Set.univ (bodyAt0 t) fun _ => bodyPost m c t := by
  unfold bodyPre bodyPost
  rw [show (dats m 0 c).Φ t.castSucc = Pipeline.ΦA spec0 c from rfl, show (dats m 0 c).Φ t.succ = Pipeline.ΦA spec0 c from rfl, phi_eq,
    show (dats m 0 c).owesAt () t.succ = (dats m 0 c).owesAt () t.castSucc from rfl, after0, after1, after2, after3, after4, after5, after6]
  simp only [before0_0_of m (dats m 0 c) (A_eq m c 0) (after0 m c), before0_1_of m (dats m 0 c) (A_eq m c 1) (after1 m c), before0_2_of m (dats m 0 c) (A_eq m c 2) (after2 m c), before0_3_of m (dats m 0 c) (A_eq m c 3) (after3 m c), before0_4_of m (dats m 0 c) (A_eq m c 4) (after4 m c), before0_5_of m (dats m 0 c) (A_eq m c 5) (after5 m c), before0_6_of m (dats m 0 c) (A_eq m c 6) (after6 m c)]
  unfold owns
  iintro ⟨⟨⟨⟨%s0, %e0, -, HS0⟩, ⟨%s1, %e1, -, HS1⟩, ⟨%s2, %e2, -, HS2⟩⟩, Hg⟩, Ho, ⟨%d0, %f0, %hf0, H0⟩, ⟨%d1, %f1, %hf1, H1⟩, ⟨%d2, %f2, %hf2, H2⟩, ⟨%d3, %f3, %hf3, H3⟩, ⟨%d4, %f4, %hf4, H4⟩, ⟨%d5, %f5, %hf5, H5⟩, ⟨%d6, %f6, %hf6, H6⟩, ⟨%Y7, -, %f7, %hf7, H7⟩, ⟨%Y8, -, %f8, %hf8, H8⟩, ⟨%Y9, -, %f9, %hf9, H9⟩, ⟨%Y10, -, %f10, %hf10, H10⟩, ⟨%Y11, -, %f11, %hf11, H11⟩⟩
  iapply (wp_wand_r frame (wpE (defs₀ (F := F)) Variants.none (c : Thread nD τ) none) Set.univ)
  isplitl [H0 H1 H2 H3 H4 H5 H6 H7 H8 H9 H10 H11 HS0 HS1 HS2]
  · iapply (body c (grid0.coords t) _ _ _ _ _ _ _ _ _ _ _ _ _ _ _ _ _ _ _ _ _ _ _ _ sc0 (Memref.isWhole_whole _) sc1 (Memref.isWhole_whole _) sc2 (Memref.isWhole_whole _)
      f0 f1 f2 f3 f4 f5 f6 Set.univ (kind_point t))
    unfold raw
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    isplitl [H9]; · iexists _; iexact H9
    isplitl [H10]; · iexists _; iexact H10
    isplitl [H11]; · iexists _; iexact H11
    isplitl [HS0]; · iexists _; iexact HS0
    isplitl [HS1]; · iexists _; iexact HS1
    iexists _; iexact HS2
  iintro %u H
  unfold raw
  icases H with ⟨H0, H1, H2, H3, H4, H5, H6, ⟨%g7, H7⟩, ⟨%g8, H8⟩, ⟨%g9, H9⟩, ⟨%g10, H10⟩, ⟨%g11, H11⟩, ⟨%g12, HS0⟩, ⟨%g13, HS1⟩, ⟨%g14, HS2⟩⟩
  isplitl [HS0 HS1 HS2 Hg]
  · isplitl [HS0 HS1 HS2]
    · isplitl [HS0]
      · iexists _; iexists g12; isplitr; swap; · iexact HS0
        ipureintro; rfl
      isplitl [HS1]
      · iexists _; iexists g13; isplitr; swap; · iexact HS1
        ipureintro; rfl
      iexists _; iexists g14; isplitr; swap; · iexact HS2
      ipureintro; rfl
    iexact Hg
  isplitl [Ho]; · iexact Ho
  isplitl [H0]
  · iexists f0; isplitr; swap; · iexact H0
    ipureintro; exact hf0
  isplitl [H1]
  · iexists f1; isplitr; swap; · iexact H1
    ipureintro; exact hf1
  isplitl [H2]
  · iexists f2; isplitr; swap; · iexact H2
    ipureintro; exact hf2
  isplitl [H3]
  · iexists f3; isplitr; swap; · iexact H3
    ipureintro; exact hf3
  isplitl [H4]
  · iexists f4; isplitr; swap; · iexact H4
    ipureintro; exact hf4
  isplitl [H5]
  · iexists f5; isplitr; swap; · iexact H5
    ipureintro; exact hf5
  isplitl [H6]
  · iexists f6; isplitr; swap; · iexact H6
    ipureintro; exact hf6
  isplitl [H7]
  · iexists _; isplitr; swap
    · iexists g7; isplitr; swap; · iexact H7
      ipureintro; rfl
    ipureintro; trivial
  isplitl [H8]
  · iexists _; isplitr; swap
    · iexists g8; isplitr; swap; · iexact H8
      ipureintro; rfl
    ipureintro; trivial
  isplitl [H9]
  · iexists _; isplitr; swap
    · iexists g9; isplitr; swap; · iexact H9
      ipureintro; rfl
    ipureintro; trivial
  isplitl [H10]
  · iexists _; isplitr; swap
    · iexists g10; isplitr; swap; · iexact H10
      ipureintro; rfl
    ipureintro; trivial
  iexists _; isplitr; swap
  · iexists g11; isplitr; swap; · iexact H11
    ipureintro; rfl
  ipureintro; trivial

theorem defs₀_row (t : Fin cfg0.N) : defs₀ (F := F) .tc cfg0.body (cfg0.bodyArgs t (cfg0.slots t)) = bodyAt0 t := by
  unfold defs₀; rw [Defs.onTc_tc]

theorem obligation (c : Dev nD) : Pipeline.BodyObligationRel (dats m 0 c) (defs₀ (F := F)) Variants.none () Set.univ outW Rl := fun t => by
  rw [bigSep_W0, bigSep_W0, defs₀_row]
  exact triple_restated (sound m c t) rfl .rfl fun _ => .rfl

set_option backward.isDefEq.respectTransparency.types false in
theorem launched : θ_run defs (onTc (τ := τ) (main (F := F))) (s₀ m ρ)
    (fun r => Pipeline.RDat.FramePost (cfgs 0) (fun c => rdat m c) (V m) r ∧ r.2.sem = fun _ => 0) :=
  Pipeline.RDat.θ_run_frame_track_shared (Q' := _) cfgs (0 : Fin 1) launch₀0 defs₀ Variants.none (fun c => rdat m c) m ρ main
    (hbody := fun c => (obligation m c).toRRel) (hq := fun _ _ _ => rfl)
    (howed := fun _ _ => rfl) (V := V m) (hmain := hmain m Variants.none) (hA := A_eq m) (hin := fun _ => .rfl) (hout := fun _ => .rfl)

/-- The frame at the printed floats. -/
theorem frame : Cert.quiescent_KernelAtt := fun m g _ =>
  (θ_run _ _ _).mono (fun r h => ⟨fun c =>
    ⟨((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      (Pipeline.RDat.FramePost.arr_in h.1 c 3 rfl).trans ((A_eq m c 3).trans (V_main_arg3 m c)),
      (Pipeline.RDat.FramePost.arr_in h.1 c 6 rfl).trans ((A_eq m c 6).trans (V_main_arg4 m c))⟩, h.2⟩) (launched m g)

end Cert.KernelAtt.Whole

end
-- ==== Proof.lean ====
/- The certificate's claims, put together: the frames, then every pair's idealisation and value. -/
module

public import proofs.«01_k».proof.Defs
public import proofs.«01_k».proof.Proof.Gen.KernelAttIdeal.Skeleton
public import proofs.«01_k».proof.Proof.Gen.KernelAttIdeal.Launch
public import proofs.«01_k».proof.Proof.Gen.KernelAttIdeal.Points
public import proofs.«01_k».proof.Proof.Gen.KernelAttIdeal.Frame
public import proofs.«01_k».proof.Proof.Gen.ReferenceAttIdeal
public import proofs.«01_k».proof.Proof.Gen.ReferenceAttIdeal.Run
public import proofs.«01_k».proof.Proof.Gen.ReferenceAttIdeal.Read
public import proofs.«01_k».proof.Proof.Gen.KernelIn.Frame
public import proofs.«01_k».proof.Proof.Gen.KernelInIdeal.Frame
public import proofs.«01_k».proof.Proof.Gen.KernelInIdeal.Value
public import proofs.«01_k».proof.Proof.Gen.ReferenceInIdeal
public import proofs.«01_k».proof.Proof.Gen.ReferenceInIdeal.Run
public import proofs.«01_k».proof.Proof.Gen.ReferenceInIdeal.Read
public import proofs.«01_k».proof.Proof.Gen.KernelMix.Frame
public import proofs.«01_k».proof.Proof.Gen.KernelMixIdeal.Frame
public import proofs.«01_k».proof.Proof.Gen.KernelMixIdeal.Value
public import proofs.«01_k».proof.Proof.Gen.ReferenceMixIdeal
public import proofs.«01_k».proof.Proof.Gen.ReferenceMixIdeal.Run
public import proofs.«01_k».proof.Proof.Gen.ReferenceMixIdeal.Read
public import proofs.«01_k».proof.Proof.Gen.KernelLn1.Frame
public import proofs.«01_k».proof.Proof.Gen.KernelLn1Ideal.Frame
public import proofs.«01_k».proof.Proof.Gen.KernelLn1Ideal.Value
public import proofs.«01_k».proof.Proof.Gen.ReferenceLn1Ideal
public import proofs.«01_k».proof.Proof.Gen.ReferenceLn1Ideal.Run
public import proofs.«01_k».proof.Proof.Gen.ReferenceLn1Ideal.Read
public import proofs.«01_k».proof.Proof.Gen.KernelLn2.Frame
public import proofs.«01_k».proof.Proof.Gen.KernelLn2Ideal.Frame
public import proofs.«01_k».proof.Proof.Gen.KernelLn2Ideal.Value
public import proofs.«01_k».proof.Proof.Gen.ReferenceLn2Ideal
public import proofs.«01_k».proof.Proof.Gen.ReferenceLn2Ideal.Run
public import proofs.«01_k».proof.Proof.Gen.ReferenceLn2Ideal.Read
public import proofs.«01_k».proof.Proof.Gen.KernelGate.Frame
public import proofs.«01_k».proof.Proof.Gen.KernelGateIdeal.Frame
public import proofs.«01_k».proof.Proof.Gen.KernelGateIdeal.Value
public import proofs.«01_k».proof.Proof.Gen.ReferenceGateIdeal
public import proofs.«01_k».proof.Proof.Gen.ReferenceGateIdeal.Run
public import proofs.«01_k».proof.Proof.Gen.ReferenceGateIdeal.Read
public import proofs.«01_k».proof.Proof.Gen.KernelCum.Frame
public import proofs.«01_k».proof.Proof.Gen.KernelCumIdeal.Frame
public import proofs.«01_k».proof.Proof.Gen.KernelCumIdeal.Value
public import proofs.«01_k».proof.Proof.Gen.ReferenceCumIdeal
public import proofs.«01_k».proof.Proof.Gen.ReferenceCumIdeal.Run
public import proofs.«01_k».proof.Proof.Gen.ReferenceCumIdeal.Read
public import proofs.«01_k».proof.Proof.Gen.KernelAda.Frame
public import proofs.«01_k».proof.Proof.Gen.KernelAdaIdeal.Frame
public import proofs.«01_k».proof.Proof.Gen.KernelAdaIdeal.Value
public import proofs.«01_k».proof.Proof.Gen.ReferenceAdaIdeal
public import proofs.«01_k».proof.Proof.Gen.ReferenceAdaIdeal.Run
public import proofs.«01_k».proof.Proof.Gen.ReferenceAdaIdeal.Read
public import proofs.«01_k».proof.Proof.Gen.KernelMod.Frame
public import proofs.«01_k».proof.Proof.Gen.KernelModIdeal.Frame
public import proofs.«01_k».proof.Proof.Gen.KernelModIdeal.Value
public import proofs.«01_k».proof.Proof.Gen.ReferenceModIdeal
public import proofs.«01_k».proof.Proof.Gen.ReferenceModIdeal.Run
public import proofs.«01_k».proof.Proof.Gen.ReferenceModIdeal.Read
public import proofs.«01_k».proof.Proof.Gen.KernelRms.Frame
public import proofs.«01_k».proof.Proof.Gen.KernelRmsIdeal.Frame
public import proofs.«01_k».proof.Proof.Gen.KernelRmsIdeal.Value
public import proofs.«01_k».proof.Proof.Gen.ReferenceRmsIdeal
public import proofs.«01_k».proof.Proof.Gen.ReferenceRmsIdeal.Run
public import proofs.«01_k».proof.Proof.Gen.ReferenceRmsIdeal.Read
public import proofs.«01_k».proof.Proof.Gen.KernelNorm.Frame
public import proofs.«01_k».proof.Proof.Gen.KernelNormIdeal.Frame
public import proofs.«01_k».proof.Proof.Gen.KernelNormIdeal.Value
public import proofs.«01_k».proof.Proof.Gen.ReferenceNormIdeal
public import proofs.«01_k».proof.Proof.Gen.ReferenceNormIdeal.Run
public import proofs.«01_k».proof.Proof.Gen.ReferenceNormIdeal.Read
public import proofs.«01_k».proof.Proof.Gen.KernelAct.Frame
public import proofs.«01_k».proof.Proof.Gen.KernelActIdeal.Frame
public import proofs.«01_k».proof.Proof.Gen.KernelActIdeal.Value
public import proofs.«01_k».proof.Proof.Gen.ReferenceActIdeal
public import proofs.«01_k».proof.Proof.Gen.ReferenceActIdeal.Run
public import proofs.«01_k».proof.Proof.Gen.ReferenceActIdeal.Read
public import proofs.«01_k».proof.Proof.Gen.KernelSums.Frame
public import proofs.«01_k».proof.Proof.Gen.KernelSumsIdeal.Frame
public import proofs.«01_k».proof.Proof.Gen.KernelSumsIdeal.Value
public import proofs.«01_k».proof.Proof.Gen.ReferenceSumsIdeal
public import proofs.«01_k».proof.Proof.Gen.ReferenceSumsIdeal.Run
public import proofs.«01_k».proof.Proof.Gen.ReferenceSumsIdeal.Read
public import proofs.«01_k».proof.Proof.Gen.KernelProj.Frame
public import proofs.«01_k».proof.Proof.Gen.KernelProjIdeal.Frame
public import proofs.«01_k».proof.Proof.Gen.KernelProjIdeal.Value
public import proofs.«01_k».proof.Proof.Gen.ReferenceProjIdeal
public import proofs.«01_k».proof.Proof.Gen.ReferenceProjIdeal.Run
public import proofs.«01_k».proof.Proof.Gen.ReferenceProjIdeal.Read
public import proofs.«01_k».proof.Proof.Gen.KernelOut.Frame
public import proofs.«01_k».proof.Proof.Gen.KernelOutIdeal.Frame
public import proofs.«01_k».proof.Proof.Gen.KernelOutIdeal.Value
public import proofs.«01_k».proof.Proof.Gen.ReferenceOutIdeal
public import proofs.«01_k».proof.Proof.Gen.ReferenceOutIdeal.Run
public import proofs.«01_k».proof.Proof.Gen.ReferenceOutIdeal.Read
public import proofs.«01_k».proof.Proof.Gen.KernelDmix.Frame
public import proofs.«01_k».proof.Proof.Gen.KernelDmixIdeal.Frame
public import proofs.«01_k».proof.Proof.Gen.KernelDmixIdeal.Value
public import proofs.«01_k».proof.Proof.Gen.ReferenceDmixIdeal
public import proofs.«01_k».proof.Proof.Gen.ReferenceDmixIdeal.Run
public import proofs.«01_k».proof.Proof.Gen.ReferenceDmixIdeal.Read
public import proofs.«01_k».proof.Proof.Gen.KernelWout.Frame
public import proofs.«01_k».proof.Proof.Gen.KernelWoutIdeal.Frame
public import proofs.«01_k».proof.Proof.Gen.KernelWoutIdeal.Value
public import proofs.«01_k».proof.Proof.Gen.ReferenceWoutIdeal
public import proofs.«01_k».proof.Proof.Gen.ReferenceWoutIdeal.Run
public import proofs.«01_k».proof.Proof.Gen.ReferenceWoutIdeal.Read
public import proofs.«01_k».proof.Proof.Gen.KernelFf.Frame
public import proofs.«01_k».proof.Proof.Gen.KernelFfIdeal.Frame
public import proofs.«01_k».proof.Proof.Gen.KernelFfIdeal.Value
public import proofs.«01_k».proof.Proof.Gen.ReferenceFfIdeal
public import proofs.«01_k».proof.Proof.Gen.ReferenceFfIdeal.Run
public import proofs.«01_k».proof.Proof.Gen.ReferenceFfIdeal.Read
public import proofs.«01_k».proof.Proof.Gen.KernelWff.Frame
public import proofs.«01_k».proof.Proof.Gen.KernelWffIdeal.Frame
public import proofs.«01_k».proof.Proof.Gen.KernelWffIdeal.Value
public import proofs.«01_k».proof.Proof.Gen.ReferenceWffIdeal
public import proofs.«01_k».proof.Proof.Gen.ReferenceWffIdeal.Run
public import proofs.«01_k».proof.Proof.Gen.ReferenceWffIdeal.Read
public import proofs.«01_k».proof.Proof.Gen.KernelWin.Frame
public import proofs.«01_k».proof.Proof.Gen.KernelWinIdeal.Frame
public import proofs.«01_k».proof.Proof.Gen.KernelWinIdeal.Value
public import proofs.«01_k».proof.Proof.Gen.ReferenceWinIdeal
public import proofs.«01_k».proof.Proof.Gen.ReferenceWinIdeal.Run
public import proofs.«01_k».proof.Proof.Gen.ReferenceWinIdeal.Read
public import proofs.«01_k».proof.Proof.Gen.KernelWinb.Frame
public import proofs.«01_k».proof.Proof.Gen.KernelWinbIdeal.Frame
public import proofs.«01_k».proof.Proof.Gen.KernelWinbIdeal.Value
public import proofs.«01_k».proof.Proof.Gen.ReferenceWinbIdeal
public import proofs.«01_k».proof.Proof.Gen.ReferenceWinbIdeal.Run
public import proofs.«01_k».proof.Proof.Gen.ReferenceWinbIdeal.Read
public import proofs.«01_k».proof.Proof.Gen.KernelWind.Frame
public import proofs.«01_k».proof.Proof.Gen.KernelWindIdeal.Frame
public import proofs.«01_k».proof.Proof.Gen.KernelWindIdeal.Value
public import proofs.«01_k».proof.Proof.Gen.ReferenceWindIdeal
public import proofs.«01_k».proof.Proof.Gen.ReferenceWindIdeal.Run
public import proofs.«01_k».proof.Proof.Gen.ReferenceWindIdeal.Read
public import proofs.«01_k».proof.Proof.Gen.KernelFin.Frame
public import proofs.«01_k».proof.Proof.Gen.KernelFinIdeal.Frame
public import proofs.«01_k».proof.Proof.Gen.KernelFinIdeal.Value
public import proofs.«01_k».proof.Proof.Gen.ReferenceFinIdeal
public import proofs.«01_k».proof.Proof.Gen.ReferenceFinIdeal.Run
public import proofs.«01_k».proof.Proof.Gen.ReferenceFinIdeal.Read
public import proofs.«01_k».proof.Proof.Gen.KernelWfin.Frame
public import proofs.«01_k».proof.Proof.Gen.KernelWfinIdeal.Frame
public import proofs.«01_k».proof.Proof.Gen.KernelWfinIdeal.Value
public import proofs.«01_k».proof.Proof.Gen.ReferenceWfinIdeal
public import proofs.«01_k».proof.Proof.Gen.ReferenceWfinIdeal.Run
public import proofs.«01_k».proof.Proof.Gen.ReferenceWfinIdeal.Read
public import proofs.«01_k».proof.Proof.Gen.KernelDfin.Frame
public import proofs.«01_k».proof.Proof.Gen.KernelDfinIdeal.Frame
public import proofs.«01_k».proof.Proof.Gen.KernelDfinIdeal.Value
public import proofs.«01_k».proof.Proof.Gen.ReferenceDfinIdeal
public import proofs.«01_k».proof.Proof.Gen.ReferenceDfinIdeal.Run
public import proofs.«01_k».proof.Proof.Gen.ReferenceDfinIdeal.Read
public import proofs.«01_k».proof.Proof.Gen.KernelDh.Frame
public import proofs.«01_k».proof.Proof.Gen.KernelDhIdeal.Frame
public import proofs.«01_k».proof.Proof.Gen.KernelDhIdeal.Value
public import proofs.«01_k».proof.Proof.Gen.ReferenceDhIdeal
public import proofs.«01_k».proof.Proof.Gen.ReferenceDhIdeal.Run
public import proofs.«01_k».proof.Proof.Gen.ReferenceDhIdeal.Read
public import proofs.«01_k».proof.Proof.In
public import proofs.«01_k».proof.Proof.Mix
public import proofs.«01_k».proof.Proof.Ln1
public import proofs.«01_k».proof.Proof.Ln2
public import proofs.«01_k».proof.Proof.Gate
public import proofs.«01_k».proof.Proof.Cum
public import proofs.«01_k».proof.Proof.Ada
public import proofs.«01_k».proof.Proof.Mod
public import proofs.«01_k».proof.Proof.Rms
public import proofs.«01_k».proof.Proof.Norm
public import proofs.«01_k».proof.Proof.Act
public import proofs.«01_k».proof.Proof.Sums
public import proofs.«01_k».proof.Proof.Proj
public import proofs.«01_k».proof.Proof.Out
public import proofs.«01_k».proof.Proof.Dmix
public import proofs.«01_k».proof.Proof.Wout
public import proofs.«01_k».proof.Proof.Ff
public import proofs.«01_k».proof.Proof.Wff
public import proofs.«01_k».proof.Proof.Win
public import proofs.«01_k».proof.Proof.Winb
public import proofs.«01_k».proof.Proof.Wind
public import proofs.«01_k».proof.Proof.Fin
public import proofs.«01_k».proof.Proof.Wfin
public import proofs.«01_k».proof.Proof.Dfin
public import proofs.«01_k».proof.Proof.Dh
public import proofs.«01_k».proof.Proof.AttEnd
public import proofs.«01_k».proof.Proof.AttBits

@[expose] public section

noncomputable section

open Idealize.ShloMosaic Idealize.ShloMosaic.TcCoe Idealize.SL.Sem

namespace Cert.Proof

/-- The reference of the input gradient ends with its arguments as they were and no semaphore raised. -/
theorem frame_reference_in : Cert.quiescent_ReferenceInIdeal := fun m g _ =>
  (θ_run _ _ _).mono (fun r h => ⟨fun c => (h c).2.2.2, sem_eq_zero_of_no_sems (by decide) r.2⟩)
    (Cert.ReferenceInIdeal.Value.run m g)

/-- The reference of the two norms' gradients ends with its arguments as they were and no semaphore raised. -/
theorem frame_reference_mix : Cert.quiescent_ReferenceMixIdeal := fun m g _ =>
  (θ_run _ _ _).mono (fun r h => ⟨fun c => (h c).2.2.2.2.2, sem_eq_zero_of_no_sems (by decide) r.2⟩)
    (Cert.ReferenceMixIdeal.Value.run m g)

/-- The reference of the first layer norm's gradients ends with its arguments as they were and no semaphore raised. -/
theorem frame_reference_ln1 : Cert.quiescent_ReferenceLn1Ideal := fun m g _ =>
  (θ_run _ _ _).mono (fun r h => ⟨fun c => (h c).2.2.2.2.2.2.2, sem_eq_zero_of_no_sems (by decide) r.2⟩)
    (Cert.ReferenceLn1Ideal.Value.run m g)

/-- The reference of the loss's and second layer norm's gradients ends with its arguments as they were and no semaphore
raised. -/
theorem frame_reference_ln2 : Cert.quiescent_ReferenceLn2Ideal := fun m g _ =>
  (θ_run _ _ _).mono (fun r h => ⟨fun c => (h c).2.2.2.2.2.2, sem_eq_zero_of_no_sems (by decide) r.2⟩)
    (Cert.ReferenceLn2Ideal.Value.run m g)

/-- The reference of the hidden layer's gradient ends with its arguments as they were and no semaphore raised. -/
theorem frame_reference_gate : Cert.quiescent_ReferenceGateIdeal := fun m g _ =>
  (θ_run _ _ _).mono (fun r h => ⟨fun c => (h c).2, sem_eq_zero_of_no_sems (by decide) r.2⟩)
    (Cert.ReferenceGateIdeal.Value.run m g)

/-- The reference of the forget gates' gradients ends with its arguments as they were and no semaphore raised. -/
theorem frame_reference_cum : Cert.quiescent_ReferenceCumIdeal := fun m g _ =>
  (θ_run _ _ _).mono (fun r h => ⟨fun c => (h c).2.2, sem_eq_zero_of_no_sems (by decide) r.2⟩)
    (Cert.ReferenceCumIdeal.Value.run m g)

/-- The reference of the conditioning's gradients ends with its arguments as they were and no semaphore raised. -/
theorem frame_reference_ada : Cert.quiescent_ReferenceAdaIdeal := fun m g _ =>
  (θ_run _ _ _).mono (fun r h => ⟨fun c => (h c).2.2, sem_eq_zero_of_no_sems (by decide) r.2⟩)
    (Cert.ReferenceAdaIdeal.Value.run m g)

/-- The reference of the modulation ends with its arguments as they were and no semaphore raised. -/
theorem frame_reference_mod : Cert.quiescent_ReferenceModIdeal := fun m g _ =>
  (θ_run _ _ _).mono (fun r h => ⟨fun c => (h c).2, sem_eq_zero_of_no_sems (by decide) r.2⟩)
    (Cert.ReferenceModIdeal.Value.run m g)

/-- The reference of the two RMS norms ends with its arguments as they were and no semaphore raised. -/
theorem frame_reference_rms : Cert.quiescent_ReferenceRmsIdeal := fun m g _ =>
  (θ_run _ _ _).mono (fun r h => ⟨fun c => (h c).2, sem_eq_zero_of_no_sems (by decide) r.2⟩)
    (Cert.ReferenceRmsIdeal.Value.run m g)

/-- The reference of the first layer norm ends with its arguments as they were and no semaphore raised. -/
theorem frame_reference_norm : Cert.quiescent_ReferenceNormIdeal := fun m g _ =>
  (θ_run _ _ _).mono (fun r h => ⟨fun c => (h c).2.2, sem_eq_zero_of_no_sems (by decide) r.2⟩)
    (Cert.ReferenceNormIdeal.Value.run m g)

/-- The reference of the convolution ends with its arguments as they were and no semaphore raised. -/
theorem frame_reference_act : Cert.quiescent_ReferenceActIdeal := fun m g _ =>
  (θ_run _ _ _).mono (fun r h => ⟨fun c => (h c).2.2, sem_eq_zero_of_no_sems (by decide) r.2⟩)
    (Cert.ReferenceActIdeal.Value.run m g)

/-- The reference of the running sums ends with its arguments as they were and no semaphore raised. -/
theorem frame_reference_sums : Cert.quiescent_ReferenceSumsIdeal := fun m g _ =>
  (θ_run _ _ _).mono (fun r h => ⟨fun c => (h c).2, sem_eq_zero_of_no_sems (by decide) r.2⟩)
    (Cert.ReferenceSumsIdeal.Value.run m g)

/-- The reference of the input projection ends with its arguments as they were and no semaphore raised. -/
theorem frame_reference_proj : Cert.quiescent_ReferenceProjIdeal := fun m g _ =>
  (θ_run _ _ _).mono (fun r h => ⟨fun c => (h c).2, sem_eq_zero_of_no_sems (by decide) r.2⟩)
    (Cert.ReferenceProjIdeal.Value.run m g)

/-- The reference of the output projection ends with its arguments as they were and no semaphore raised. -/
theorem frame_reference_out : Cert.quiescent_ReferenceOutIdeal := fun m g _ =>
  (θ_run _ _ _).mono (fun r h => ⟨fun c => (h c).2, sem_eq_zero_of_no_sems (by decide) r.2⟩)
    (Cert.ReferenceOutIdeal.Value.run m g)

/-- The reference of the output projection's input gradient ends with its arguments as they were and no semaphore raised. -/
theorem frame_reference_dmix : Cert.quiescent_ReferenceDmixIdeal := fun m g _ =>
  (θ_run _ _ _).mono (fun r h => ⟨fun c => (h c).2, sem_eq_zero_of_no_sems (by decide) r.2⟩)
    (Cert.ReferenceDmixIdeal.Value.run m g)

/-- The reference of the output projection's weight gradient ends with its arguments as they were and no semaphore raised. -/
theorem frame_reference_wout : Cert.quiescent_ReferenceWoutIdeal := fun m g _ =>
  (θ_run _ _ _).mono (fun r h => ⟨fun c => (h c).2, sem_eq_zero_of_no_sems (by decide) r.2⟩)
    (Cert.ReferenceWoutIdeal.Value.run m g)

/-- The reference of the hidden layer's second product ends with its arguments as they were and no semaphore raised. -/
theorem frame_reference_ff : Cert.quiescent_ReferenceFfIdeal := fun m g _ =>
  (θ_run _ _ _).mono (fun r h => ⟨fun c => (h c).2, sem_eq_zero_of_no_sems (by decide) r.2⟩)
    (Cert.ReferenceFfIdeal.Value.run m g)

/-- The reference of its weight's gradient ends with its arguments as they were and no semaphore raised. -/
theorem frame_reference_wff : Cert.quiescent_ReferenceWffIdeal := fun m g _ =>
  (θ_run _ _ _).mono (fun r h => ⟨fun c => (h c).2, sem_eq_zero_of_no_sems (by decide) r.2⟩)
    (Cert.ReferenceWffIdeal.Value.run m g)

/-- The reference of the gradient of a group of 1024 columns of the input projection's weight ends with its arguments as they were and no semaphore raised. -/
theorem frame_reference_win : Cert.quiescent_ReferenceWinIdeal := fun m g _ =>
  (θ_run _ _ _).mono (fun r h => ⟨fun c => (h c).2, sem_eq_zero_of_no_sems (by decide) r.2⟩)
    (Cert.ReferenceWinIdeal.Value.run m g)

/-- The reference of the gradient of a group of 512 columns of the input projection's weight ends with its arguments as they were and no semaphore raised. -/
theorem frame_reference_winb : Cert.quiescent_ReferenceWinbIdeal := fun m g _ =>
  (θ_run _ _ _).mono (fun r h => ⟨fun c => (h c).2, sem_eq_zero_of_no_sems (by decide) r.2⟩)
    (Cert.ReferenceWinbIdeal.Value.run m g)

/-- The reference of the gradient of a group of 128 columns of the input projection's weight ends with its arguments as they were and no semaphore raised. -/
theorem frame_reference_wind : Cert.quiescent_ReferenceWindIdeal := fun m g _ =>
  (θ_run _ _ _).mono (fun r h => ⟨fun c => (h c).2, sem_eq_zero_of_no_sems (by decide) r.2⟩)
    (Cert.ReferenceWindIdeal.Value.run m g)

/-- The reference of the hidden layer's first product ends with its arguments as they were and no semaphore raised. -/
theorem frame_reference_fin : Cert.quiescent_ReferenceFinIdeal := fun m g _ =>
  (θ_run _ _ _).mono (fun r h => ⟨fun c => (h c).2, sem_eq_zero_of_no_sems (by decide) r.2⟩)
    (Cert.ReferenceFinIdeal.Value.run m g)

/-- The reference of the gradient of the hidden layer's first weight ends with its arguments as they were and no semaphore raised. -/
theorem frame_reference_wfin : Cert.quiescent_ReferenceWfinIdeal := fun m g _ =>
  (θ_run _ _ _).mono (fun r h => ⟨fun c => (h c).2, sem_eq_zero_of_no_sems (by decide) r.2⟩)
    (Cert.ReferenceWfinIdeal.Value.run m g)

/-- The reference of the gradient at the hidden layer's input ends with its arguments as they were and no semaphore raised. -/
theorem frame_reference_dfin : Cert.quiescent_ReferenceDfinIdeal := fun m g _ =>
  (θ_run _ _ _).mono (fun r h => ⟨fun c => (h c).2, sem_eq_zero_of_no_sems (by decide) r.2⟩)
    (Cert.ReferenceDfinIdeal.Value.run m g)

/-- The reference of the gradient at the input projection's input ends with its arguments as they were and no semaphore raised. -/
theorem frame_reference_dh : Cert.quiescent_ReferenceDhIdeal := fun m g _ =>
  (θ_run _ _ _).mono (fun r h => ⟨fun c => (h c).2, sem_eq_zero_of_no_sems (by decide) r.2⟩)
    (Cert.ReferenceDhIdeal.Value.run m g)

theorem pre_mix : Cert.Pre_finite_mix.Facts := ⟨by decide, by decide⟩
theorem pre_ln1 : Cert.Pre_finite_ln1.Facts := ⟨by decide, by decide⟩
theorem pre_ln2 : Cert.Pre_finite_ln2.Facts := ⟨by decide, by decide⟩
theorem pre_cum : Cert.Pre_finite_cum.Facts := ⟨by decide, by decide⟩
theorem pre_ada : Cert.Pre_finite_ada.Facts := ⟨by decide, by decide⟩
theorem pre_mod : Cert.Pre_finite_mod.Facts := ⟨by decide, by decide⟩
theorem pre_sums : Cert.Pre_finite_sums.Facts := ⟨by decide, by decide⟩

theorem claim : Cert.Claim :=
  ⟨Cert.KernelAtt.Gen.facts, Cert.KernelAttIdeal.Gen.facts, Cert.ReferenceAttIdeal.Gen.facts,
    Cert.KernelIn.Gen.facts, Cert.KernelInIdeal.Gen.facts, Cert.ReferenceInIdeal.Gen.facts,
    Cert.KernelMix.Gen.facts, Cert.KernelMixIdeal.Gen.facts, Cert.ReferenceMixIdeal.Gen.facts,
    Cert.KernelLn1.Gen.facts, Cert.KernelLn1Ideal.Gen.facts, Cert.ReferenceLn1Ideal.Gen.facts, Cert.KernelLn2.Gen.facts, Cert.KernelLn2Ideal.Gen.facts, Cert.ReferenceLn2Ideal.Gen.facts,
    Cert.KernelGate.Gen.facts, Cert.KernelGateIdeal.Gen.facts, Cert.ReferenceGateIdeal.Gen.facts,
    Cert.KernelCum.Gen.facts, Cert.KernelCumIdeal.Gen.facts, Cert.ReferenceCumIdeal.Gen.facts,
    Cert.KernelAda.Gen.facts, Cert.KernelAdaIdeal.Gen.facts, Cert.ReferenceAdaIdeal.Gen.facts,
    Cert.KernelMod.Gen.facts, Cert.KernelModIdeal.Gen.facts, Cert.ReferenceModIdeal.Gen.facts,
    Cert.KernelRms.Gen.facts, Cert.KernelRmsIdeal.Gen.facts, Cert.ReferenceRmsIdeal.Gen.facts,
    Cert.KernelNorm.Gen.facts, Cert.KernelNormIdeal.Gen.facts, Cert.ReferenceNormIdeal.Gen.facts,
    Cert.KernelAct.Gen.facts, Cert.KernelActIdeal.Gen.facts, Cert.ReferenceActIdeal.Gen.facts,
    Cert.KernelSums.Gen.facts, Cert.KernelSumsIdeal.Gen.facts, Cert.ReferenceSumsIdeal.Gen.facts,
    Cert.KernelProj.Gen.facts, Cert.KernelProjIdeal.Gen.facts, Cert.ReferenceProjIdeal.Gen.facts,
    Cert.KernelOut.Gen.facts, Cert.KernelOutIdeal.Gen.facts, Cert.ReferenceOutIdeal.Gen.facts,
    Cert.KernelDmix.Gen.facts, Cert.KernelDmixIdeal.Gen.facts, Cert.ReferenceDmixIdeal.Gen.facts,
    Cert.KernelWout.Gen.facts, Cert.KernelWoutIdeal.Gen.facts, Cert.ReferenceWoutIdeal.Gen.facts,
    Cert.KernelFf.Gen.facts, Cert.KernelFfIdeal.Gen.facts, Cert.ReferenceFfIdeal.Gen.facts,
    Cert.KernelWff.Gen.facts, Cert.KernelWffIdeal.Gen.facts, Cert.ReferenceWffIdeal.Gen.facts,
    Cert.KernelWin.Gen.facts, Cert.KernelWinIdeal.Gen.facts, Cert.ReferenceWinIdeal.Gen.facts,
    Cert.KernelWinb.Gen.facts, Cert.KernelWinbIdeal.Gen.facts, Cert.ReferenceWinbIdeal.Gen.facts,
    Cert.KernelWind.Gen.facts, Cert.KernelWindIdeal.Gen.facts, Cert.ReferenceWindIdeal.Gen.facts,
    Cert.KernelFin.Gen.facts, Cert.KernelFinIdeal.Gen.facts, Cert.ReferenceFinIdeal.Gen.facts,
    Cert.KernelWfin.Gen.facts, Cert.KernelWfinIdeal.Gen.facts, Cert.ReferenceWfinIdeal.Gen.facts,
    Cert.KernelDfin.Gen.facts, Cert.KernelDfinIdeal.Gen.facts, Cert.ReferenceDfinIdeal.Gen.facts,
    Cert.KernelDh.Gen.facts, Cert.KernelDhIdeal.Gen.facts, Cert.ReferenceDhIdeal.Gen.facts,
    AttClaims.pre, pre_mix, pre_ln1, pre_ln2, pre_cum, pre_ada, pre_mod, pre_sums,
    Cert.KernelAtt.Whole.frame, Cert.KernelAttIdeal.Whole.frame, fun m g _ => Cert.KernelAttIdeal.Whole.frame m g trivial,
    AttClaims.frame_reference, fun m g _ => AttClaims.frame_reference m g trivial,
    fun m g _ => Cert.KernelIn.Gen.frame m g, fun m g _ => Cert.KernelInIdeal.Gen.frame m g, frame_reference_in,
    fun m g _ => Cert.KernelMix.Gen.frame m g, fun m g _ => Cert.KernelMixIdeal.Gen.frame m g, fun m g _ => Cert.KernelMixIdeal.Gen.frame m g,
    frame_reference_mix, fun m g _ => frame_reference_mix m g trivial,
    fun m g _ => Cert.KernelLn1.Gen.frame m g, fun m g _ => Cert.KernelLn1Ideal.Gen.frame m g, fun m g _ => Cert.KernelLn1Ideal.Gen.frame m g,
    frame_reference_ln1, fun m g _ => frame_reference_ln1 m g trivial,
    fun m g _ => Cert.KernelLn2.Gen.frame m g, fun m g _ => Cert.KernelLn2Ideal.Gen.frame m g, fun m g _ => Cert.KernelLn2Ideal.Gen.frame m g,
    frame_reference_ln2, fun m g _ => frame_reference_ln2 m g trivial,
    fun m g _ => Cert.KernelGate.Gen.frame m g, fun m g _ => Cert.KernelGateIdeal.Gen.frame m g, frame_reference_gate,
    fun m g _ => Cert.KernelCum.Gen.frame m g, fun m g _ => Cert.KernelCumIdeal.Gen.frame m g, fun m g _ => Cert.KernelCumIdeal.Gen.frame m g,
    frame_reference_cum, fun m g _ => frame_reference_cum m g trivial,
    fun m g _ => Cert.KernelAda.Gen.frame m g, fun m g _ => Cert.KernelAdaIdeal.Gen.frame m g, fun m g _ => Cert.KernelAdaIdeal.Gen.frame m g,
    frame_reference_ada, fun m g _ => frame_reference_ada m g trivial,
    fun m g _ => Cert.KernelMod.Gen.frame m g, fun m g _ => Cert.KernelModIdeal.Gen.frame m g, fun m g _ => Cert.KernelModIdeal.Gen.frame m g,
    frame_reference_mod, fun m g _ => frame_reference_mod m g trivial,
    fun m g _ => Cert.KernelRms.Gen.frame m g, fun m g _ => Cert.KernelRmsIdeal.Gen.frame m g, frame_reference_rms,
    fun m g _ => Cert.KernelNorm.Gen.frame m g, fun m g _ => Cert.KernelNormIdeal.Gen.frame m g, frame_reference_norm,
    fun m g _ => Cert.KernelAct.Gen.frame m g, fun m g _ => Cert.KernelActIdeal.Gen.frame m g, frame_reference_act,
    fun m g _ => Cert.KernelSums.Gen.frame m g, fun m g _ => Cert.KernelSumsIdeal.Gen.frame m g, fun m g _ => Cert.KernelSumsIdeal.Gen.frame m g,
    frame_reference_sums, fun m g _ => frame_reference_sums m g trivial,
    fun m g _ => Cert.KernelProj.Gen.frame m g, fun m g _ => Cert.KernelProjIdeal.Gen.frame m g, frame_reference_proj,
    fun m g _ => Cert.KernelOut.Gen.frame m g, fun m g _ => Cert.KernelOutIdeal.Gen.frame m g, frame_reference_out,
    fun m g _ => Cert.KernelDmix.Gen.frame m g, fun m g _ => Cert.KernelDmixIdeal.Gen.frame m g, frame_reference_dmix,
    fun m g _ => Cert.KernelWout.Gen.frame m g, fun m g _ => Cert.KernelWoutIdeal.Gen.frame m g, frame_reference_wout,
    fun m g _ => Cert.KernelFf.Gen.frame m g, fun m g _ => Cert.KernelFfIdeal.Gen.frame m g, frame_reference_ff,
    fun m g _ => Cert.KernelWff.Gen.frame m g, fun m g _ => Cert.KernelWffIdeal.Gen.frame m g, frame_reference_wff,
    fun m g _ => Cert.KernelWin.Gen.frame m g, fun m g _ => Cert.KernelWinIdeal.Gen.frame m g, frame_reference_win,
    fun m g _ => Cert.KernelWinb.Gen.frame m g, fun m g _ => Cert.KernelWinbIdeal.Gen.frame m g, frame_reference_winb,
    fun m g _ => Cert.KernelWind.Gen.frame m g, fun m g _ => Cert.KernelWindIdeal.Gen.frame m g, frame_reference_wind,
    fun m g _ => Cert.KernelFin.Gen.frame m g, fun m g _ => Cert.KernelFinIdeal.Gen.frame m g, frame_reference_fin,
    fun m g _ => Cert.KernelWfin.Gen.frame m g, fun m g _ => Cert.KernelWfinIdeal.Gen.frame m g, frame_reference_wfin,
    fun m g _ => Cert.KernelDfin.Gen.frame m g, fun m g _ => Cert.KernelDfinIdeal.Gen.frame m g, frame_reference_dfin,
    fun m g _ => Cert.KernelDh.Gen.frame m g, fun m g _ => Cert.KernelDhIdeal.Gen.frame m g, frame_reference_dh,
    AttClaims.preserves, (letI := AttClaims.pre; AttClaims.algebraic), trivial, InClaims.algebraic, trivial, (letI := pre_mix; MixClaims.algebraic),
    trivial, (letI := pre_ln1; Ln1Claims.algebraic), trivial, (letI := pre_ln2; Ln2Claims.algebraic),
    trivial, GateClaims.algebraic, trivial, (letI := pre_cum; CumClaims.algebraic),
    trivial, (letI := pre_ada; AdaClaims.algebraic),
    trivial, (letI := pre_mod; ModClaims.algebraic),
    trivial, RmsClaims.algebraic,
    trivial, NormClaims.algebraic,
    trivial, ActClaims.algebraic,
    trivial, (letI := pre_sums; SumsClaims.algebraic),
    trivial, ProjClaims.algebraic,
    trivial, OutClaims.algebraic,
    trivial, DmixClaims.algebraic,
    trivial, WoutClaims.algebraic,
    trivial, FfClaims.algebraic,
    trivial, WffClaims.algebraic,
    trivial, WinClaims.algebraic,
    trivial, WinbClaims.algebraic,
    trivial, WindClaims.algebraic,
    trivial, FinClaims.algebraic,
    trivial, WfinClaims.algebraic,
    trivial, DfinClaims.algebraic,
    trivial, DhClaims.algebraic⟩

end Cert.Proof

end
